-- ==== Defs.lean ====
def Pre_PoolBwd (m : (ℓ : Loc Cert.PoolBwd.nD Cert.PoolBwd.τ Cert.PoolBwd.sig) → Buf (Elt Bits) ℓ) : Prop :=
  True

def Pre_PoolBwdIdeal (m : (ℓ : Loc Cert.PoolBwdIdeal.nD Cert.PoolBwdIdeal.τ Cert.PoolBwdIdeal.sig) → Buf (Elt Ideal) ℓ) : Prop :=
  True

def Pre_PoolBwdIdeal_finite_inputs [hPre_finite_inputs : Cert.Pre_finite_inputs.Facts] (m : (ℓ : Loc Cert.PoolBwdIdeal.nD Cert.PoolBwdIdeal.τ Cert.PoolBwdIdeal.sig) → Buf (Elt Ideal) ℓ) : Prop :=
  ∀ c : Dev Cert.PoolBwdIdeal.nD,
    (Cert.Pre_finite_inputs.fn (F := Ideal) (m ((c.tc : Thread Cert.PoolBwdIdeal.nD Cert.PoolBwdIdeal.τ).loc Cert.PoolBwdIdeal.main_arg0)) (m ((c.tc : Thread Cert.PoolBwdIdeal.nD Cert.PoolBwdIdeal.τ).loc Cert.PoolBwdIdeal.main_arg1)) (m ((c.tc : Thread Cert.PoolBwdIdeal.nD Cert.PoolBwdIdeal.τ).loc Cert.PoolBwdIdeal.main_arg2)) (m ((c.tc : Thread Cert.PoolBwdIdeal.nD Cert.PoolBwdIdeal.τ).loc Cert.PoolBwdIdeal.main_arg3))) = (fun _ => 1#1)

def Pre_PoolRefIdeal (m : (ℓ : Loc Cert.PoolRefIdeal.nD Cert.PoolRefIdeal.τ Cert.PoolRefIdeal.sig) → Buf (Elt Ideal) ℓ) : Prop :=
  True

def Pre_PoolRefIdeal_finite_inputs [hPre_finite_inputs : Cert.Pre_finite_inputs.Facts] (m : (ℓ : Loc Cert.PoolRefIdeal.nD Cert.PoolRefIdeal.τ Cert.PoolRefIdeal.sig) → Buf (Elt Ideal) ℓ) : Prop :=
  ∀ c : Dev Cert.PoolRefIdeal.nD,
    (Cert.Pre_finite_inputs.fn (F := Ideal) (m ((c.tc : Thread Cert.PoolRefIdeal.nD Cert.PoolRefIdeal.τ).loc Cert.PoolRefIdeal.main_arg0)) (m ((c.tc : Thread Cert.PoolRefIdeal.nD Cert.PoolRefIdeal.τ).loc Cert.PoolRefIdeal.main_arg1)) (m ((c.tc : Thread Cert.PoolRefIdeal.nD Cert.PoolRefIdeal.τ).loc Cert.PoolRefIdeal.main_arg2)) (m ((c.tc : Thread Cert.PoolRefIdeal.nD Cert.PoolRefIdeal.τ).loc Cert.PoolRefIdeal.main_arg3))) = (fun _ => 1#1)

def Pre_FfnBwd (m : (ℓ : Loc Cert.FfnBwd.nD Cert.FfnBwd.τ Cert.FfnBwd.sig) → Buf (Elt Bits) ℓ) : Prop :=
  True

def Pre_FfnBwdIdeal (m : (ℓ : Loc Cert.FfnBwdIdeal.nD Cert.FfnBwdIdeal.τ Cert.FfnBwdIdeal.sig) → Buf (Elt Ideal) ℓ) : Prop :=
  True

def Pre_FfnBwdIdeal_finite_ffn [hPre_finite_ffn : Cert.Pre_finite_ffn.Facts] (m : (ℓ : Loc Cert.FfnBwdIdeal.nD Cert.FfnBwdIdeal.τ Cert.FfnBwdIdeal.sig) → Buf (Elt Ideal) ℓ) : Prop :=
  ∀ c : Dev Cert.FfnBwdIdeal.nD,
    (Cert.Pre_finite_ffn.fn (F := Ideal) (m ((c.tc : Thread Cert.FfnBwdIdeal.nD Cert.FfnBwdIdeal.τ).loc Cert.FfnBwdIdeal.main_arg0)) (m ((c.tc : Thread Cert.FfnBwdIdeal.nD Cert.FfnBwdIdeal.τ).loc Cert.FfnBwdIdeal.main_arg1)) (m ((c.tc : Thread Cert.FfnBwdIdeal.nD Cert.FfnBwdIdeal.τ).loc Cert.FfnBwdIdeal.main_arg2)) (m ((c.tc : Thread Cert.FfnBwdIdeal.nD Cert.FfnBwdIdeal.τ).loc Cert.FfnBwdIdeal.main_arg3)) (m ((c.tc : Thread Cert.FfnBwdIdeal.nD Cert.FfnBwdIdeal.τ).loc Cert.FfnBwdIdeal.main_arg4)) (m ((c.tc : Thread Cert.FfnBwdIdeal.nD Cert.FfnBwdIdeal.τ).loc Cert.FfnBwdIdeal.main_arg5)) (m ((c.tc : Thread Cert.FfnBwdIdeal.nD Cert.FfnBwdIdeal.τ).loc Cert.FfnBwdIdeal.main_arg6)) (m ((c.tc : Thread Cert.FfnBwdIdeal.nD Cert.FfnBwdIdeal.τ).loc Cert.FfnBwdIdeal.main_arg7)) (m ((c.tc : Thread Cert.FfnBwdIdeal.nD Cert.FfnBwdIdeal.τ).loc Cert.FfnBwdIdeal.main_arg8))) = (fun _ => 1#1)

def Pre_FfnRefIdeal (m : (ℓ : Loc Cert.FfnRefIdeal.nD Cert.FfnRefIdeal.τ Cert.FfnRefIdeal.sig) → Buf (Elt Ideal) ℓ) : Prop :=
  True

def Pre_FfnRefIdeal_finite_ffn [hPre_finite_ffn : Cert.Pre_finite_ffn.Facts] (m : (ℓ : Loc Cert.FfnRefIdeal.nD Cert.FfnRefIdeal.τ Cert.FfnRefIdeal.sig) → Buf (Elt Ideal) ℓ) : Prop :=
  ∀ c : Dev Cert.FfnRefIdeal.nD,
    (Cert.Pre_finite_ffn.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5)) (m ((c.tc : Thread Cert.FfnRefIdeal.nD Cert.FfnRefIdeal.τ).loc Cert.FfnRefIdeal.main_arg6)) (m ((c.tc : Thread Cert.FfnRefIdeal.nD Cert.FfnRefIdeal.τ).loc Cert.FfnRefIdeal.main_arg7)) (m ((c.tc : Thread Cert.FfnRefIdeal.nD Cert.FfnRefIdeal.τ).loc Cert.FfnRefIdeal.main_arg8))) = (fun _ => 1#1)

def Pre_FfnW (m : (ℓ : Loc Cert.FfnW.nD Cert.FfnW.τ Cert.FfnW.sig) → Buf (Elt Bits) ℓ) : Prop :=
  True

def Pre_FfnWIdeal (m : (ℓ : Loc Cert.FfnWIdeal.nD Cert.FfnWIdeal.τ Cert.FfnWIdeal.sig) → Buf (Elt Ideal) ℓ) : Prop :=
  True

def Pre_FfnWRefIdeal (m : (ℓ : Loc Cert.FfnWRefIdeal.nD Cert.FfnWRefIdeal.τ Cert.FfnWRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_OutProjB (m : (ℓ : Loc Cert.OutProjB.nD Cert.OutProjB.τ Cert.OutProjB.sig) → Buf (Elt Bits) ℓ) : Prop :=
  True

def Pre_OutProjBIdeal (m : (ℓ : Loc Cert.OutProjBIdeal.nD Cert.OutProjBIdeal.τ Cert.OutProjBIdeal.sig) → Buf (Elt Ideal) ℓ) : Prop :=
  True

def Pre_OutProjBRefIdeal (m : (ℓ : Loc Cert.OutProjBRefIdeal.nD Cert.OutProjBRefIdeal.τ Cert.OutProjBRefIdeal.sig) → Buf (Elt Ideal) ℓ) : Prop :=
  True

def Pre_Prenorm (m : (ℓ : Loc Cert.Prenorm.nD Cert.Prenorm.τ Cert.Prenorm.sig) → Buf (Elt Bits) ℓ) : Prop :=
  True

def Pre_PrenormIdeal (m : (ℓ : Loc Cert.PrenormIdeal.nD Cert.PrenormIdeal.τ Cert.PrenormIdeal.sig) → Buf (Elt Ideal) ℓ) : Prop :=
  True

def Pre_PrenormRefIdeal (m : (ℓ : Loc Cert.PrenormRefIdeal.nD Cert.PrenormRefIdeal.τ Cert.PrenormRefIdeal.sig) → Buf (Elt Ideal) ℓ) : Prop :=
  True

def quiescent_PoolBwd [hPoolBwd : Cert.PoolBwd.Facts] : Prop :=
  ∀ (m : (ℓ : Loc Cert.PoolBwd.nD Cert.PoolBwd.τ Cert.PoolBwd.sig) → Buf (Elt Bits) ℓ) (g : Dev Cert.PoolBwd.nD → PrngReg), Pre_PoolBwd m →
    θ_run (Cert.PoolBwd.defs (F := Bits)) (onTc (τ := Cert.PoolBwd.τ) (Cert.PoolBwd.main (F := Bits))) ⟨m, fun _ => 0, g⟩ (fun r => (∀ c : Dev Cert.PoolBwd.nD,
      r.2.mem ((c.tc : Thread Cert.PoolBwd.nD Cert.PoolBwd.τ).loc Cert.PoolBwd.main_arg0) = m ((c.tc : Thread Cert.PoolBwd.nD Cert.PoolBwd.τ).loc Cert.PoolBwd.main_arg0)
      ∧ r.2.mem ((c.tc : Thread Cert.PoolBwd.nD Cert.PoolBwd.τ).loc Cert.PoolBwd.main_arg1) = m ((c.tc : Thread Cert.PoolBwd.nD Cert.PoolBwd.τ).loc Cert.PoolBwd.main_arg1)
      ∧ r.2.mem ((c.tc : Thread Cert.PoolBwd.nD Cert.PoolBwd.τ).loc Cert.PoolBwd.main_arg2) = m ((c.tc : Thread Cert.PoolBwd.nD Cert.PoolBwd.τ).loc Cert.PoolBwd.main_arg2)
      ∧ r.2.mem ((c.tc : Thread Cert.PoolBwd.nD Cert.PoolBwd.τ).loc Cert.PoolBwd.main_arg3) = m ((c.tc : Thread Cert.PoolBwd.nD Cert.PoolBwd.τ).loc Cert.PoolBwd.main_arg3))
      ∧ r.2.sem = fun _ => 0)

def quiescent_PoolBwdIdeal [hPoolBwdIdeal : Cert.PoolBwdIdeal.Facts] : Prop :=
  ∀ (m : (ℓ : Loc Cert.PoolBwdIdeal.nD Cert.PoolBwdIdeal.τ Cert.PoolBwdIdeal.sig) → Buf (Elt Ideal) ℓ) (g : Dev Cert.PoolBwdIdeal.nD → PrngReg), Pre_PoolBwdIdeal m →
    θ_run (Cert.PoolBwdIdeal.defs (F := Ideal)) (onTc (τ := Cert.PoolBwdIdeal.τ) (Cert.PoolBwdIdeal.main (F := Ideal))) ⟨m, fun _ => 0, g⟩ (fun r => (∀ c : Dev Cert.PoolBwdIdeal.nD,
      r.2.mem ((c.tc : Thread Cert.PoolBwdIdeal.nD Cert.PoolBwdIdeal.τ).loc Cert.PoolBwdIdeal.main_arg0) = m ((c.tc : Thread Cert.PoolBwdIdeal.nD Cert.PoolBwdIdeal.τ).loc Cert.PoolBwdIdeal.main_arg0)
      ∧ r.2.mem ((c.tc : Thread Cert.PoolBwdIdeal.nD Cert.PoolBwdIdeal.τ).loc Cert.PoolBwdIdeal.main_arg1) = m ((c.tc : Thread Cert.PoolBwdIdeal.nD Cert.PoolBwdIdeal.τ).loc Cert.PoolBwdIdeal.main_arg1)
      ∧ r.2.mem ((c.tc : Thread Cert.PoolBwdIdeal.nD Cert.PoolBwdIdeal.τ).loc Cert.PoolBwdIdeal.main_arg2) = m ((c.tc : Thread Cert.PoolBwdIdeal.nD Cert.PoolBwdIdeal.τ).loc Cert.PoolBwdIdeal.main_arg2)
      ∧ r.2.mem ((c.tc : Thread Cert.PoolBwdIdeal.nD Cert.PoolBwdIdeal.τ).loc Cert.PoolBwdIdeal.main_arg3) = m ((c.tc : Thread Cert.PoolBwdIdeal.nD Cert.PoolBwdIdeal.τ).loc Cert.PoolBwdIdeal.main_arg3))
      ∧ r.2.sem = fun _ => 0)

def quiescent_PoolBwdIdeal_pre_finite_inputs [hPoolBwdIdeal : Cert.PoolBwdIdeal.Facts] [hPre_finite_inputs : Cert.Pre_finite_inputs.Facts] : Prop :=
  ∀ (m : (ℓ : Loc Cert.PoolBwdIdeal.nD Cert.PoolBwdIdeal.τ Cert.PoolBwdIdeal.sig) → Buf (Elt Ideal) ℓ) (g : Dev Cert.PoolBwdIdeal.nD → PrngReg), Pre_PoolBwdIdeal_finite_inputs m →
    θ_run (Cert.PoolBwdIdeal.defs (F := Ideal)) (onTc (τ := Cert.PoolBwdIdeal.τ) (Cert.PoolBwdIdeal.main (F := Ideal))) ⟨m, fun _ => 0, g⟩ (fun r => (∀ c : Dev Cert.PoolBwdIdeal.nD,
      r.2.mem ((c.tc : Thread Cert.PoolBwdIdeal.nD Cert.PoolBwdIdeal.τ).loc Cert.PoolBwdIdeal.main_arg0) = m ((c.tc : Thread Cert.PoolBwdIdeal.nD Cert.PoolBwdIdeal.τ).loc Cert.PoolBwdIdeal.main_arg0)
      ∧ r.2.mem ((c.tc : Thread Cert.PoolBwdIdeal.nD Cert.PoolBwdIdeal.τ).loc Cert.PoolBwdIdeal.main_arg1) = m ((c.tc : Thread Cert.PoolBwdIdeal.nD Cert.PoolBwdIdeal.τ).loc Cert.PoolBwdIdeal.main_arg1)
      ∧ r.2.mem ((c.tc : Thread Cert.PoolBwdIdeal.nD Cert.PoolBwdIdeal.τ).loc Cert.PoolBwdIdeal.main_arg2) = m ((c.tc : Thread Cert.PoolBwdIdeal.nD Cert.PoolBwdIdeal.τ).loc Cert.PoolBwdIdeal.main_arg2)
      ∧ r.2.mem ((c.tc : Thread Cert.PoolBwdIdeal.nD Cert.PoolBwdIdeal.τ).loc Cert.PoolBwdIdeal.main_arg3) = m ((c.tc : Thread Cert.PoolBwdIdeal.nD Cert.PoolBwdIdeal.τ).loc Cert.PoolBwdIdeal.main_arg3))
      ∧ r.2.sem = fun _ => 0)

def quiescent_PoolRefIdeal [hPoolRefIdeal : Cert.PoolRefIdeal.Facts] : Prop :=
  ∀ (m : (ℓ : Loc Cert.PoolRefIdeal.nD Cert.PoolRefIdeal.τ Cert.PoolRefIdeal.sig) → Buf (Elt Ideal) ℓ) (g : Dev Cert.PoolRefIdeal.nD → PrngReg), Pre_PoolRefIdeal m →
    θ_run (Cert.PoolRefIdeal.defs (F := Ideal)) (onTc (τ := Cert.PoolRefIdeal.τ) (Cert.PoolRefIdeal.main (F := Ideal))) ⟨m, fun _ => 0, g⟩ (fun r => (∀ c : Dev Cert.PoolRefIdeal.nD,
      r.2.mem ((c.tc : Thread Cert.PoolRefIdeal.nD Cert.PoolRefIdeal.τ).loc Cert.PoolRefIdeal.main_arg0) = m ((c.tc : Thread Cert.PoolRefIdeal.nD Cert.PoolRefIdeal.τ).loc Cert.PoolRefIdeal.main_arg0)
      ∧ r.2.mem ((c.tc : Thread Cert.PoolRefIdeal.nD Cert.PoolRefIdeal.τ).loc Cert.PoolRefIdeal.main_arg1) = m ((c.tc : Thread Cert.PoolRefIdeal.nD Cert.PoolRefIdeal.τ).loc Cert.PoolRefIdeal.main_arg1)
      ∧ r.2.mem ((c.tc : Thread Cert.PoolRefIdeal.nD Cert.PoolRefIdeal.τ).loc Cert.PoolRefIdeal.main_arg2) = m ((c.tc : Thread Cert.PoolRefIdeal.nD Cert.PoolRefIdeal.τ).loc Cert.PoolRefIdeal.main_arg2)
      ∧ r.2.mem ((c.tc : Thread Cert.PoolRefIdeal.nD Cert.PoolRefIdeal.τ).loc Cert.PoolRefIdeal.main_arg3) = m ((c.tc : Thread Cert.PoolRefIdeal.nD Cert.PoolRefIdeal.τ).loc Cert.PoolRefIdeal.main_arg3))
      ∧ r.2.sem = fun _ => 0)

def quiescent_PoolRefIdeal_pre_finite_inputs [hPoolRefIdeal : Cert.PoolRefIdeal.Facts] [hPre_finite_inputs : Cert.Pre_finite_inputs.Facts] : Prop :=
  ∀ (m : (ℓ : Loc Cert.PoolRefIdeal.nD Cert.PoolRefIdeal.τ Cert.PoolRefIdeal.sig) → Buf (Elt Ideal) ℓ) (g : Dev Cert.PoolRefIdeal.nD → PrngReg), Pre_PoolRefIdeal_finite_inputs m →
    θ_run (Cert.PoolRefIdeal.defs (F := Ideal)) (onTc (τ := Cert.PoolRefIdeal.τ) (Cert.PoolRefIdeal.main (F := Ideal))) ⟨m, fun _ => 0, g⟩ (fun r => (∀ c : Dev Cert.PoolRefIdeal.nD,
      r.2.mem ((c.tc : Thread Cert.PoolRefIdeal.nD Cert.PoolRefIdeal.τ).loc Cert.PoolRefIdeal.main_arg0) = m ((c.tc : Thread Cert.PoolRefIdeal.nD Cert.PoolRefIdeal.τ).loc Cert.PoolRefIdeal.main_arg0)
      ∧ r.2.mem ((c.tc : Thread Cert.PoolRefIdeal.nD Cert.PoolRefIdeal.τ).loc Cert.PoolRefIdeal.main_arg1) = m ((c.tc : Thread Cert.PoolRefIdeal.nD Cert.PoolRefIdeal.τ).loc Cert.PoolRefIdeal.main_arg1)
      ∧ r.2.mem ((c.tc : Thread Cert.PoolRefIdeal.nD Cert.PoolRefIdeal.τ).loc Cert.PoolRefIdeal.main_arg2) = m ((c.tc : Thread Cert.PoolRefIdeal.nD Cert.PoolRefIdeal.τ).loc Cert.PoolRefIdeal.main_arg2)
      ∧ r.2.mem ((c.tc : Thread Cert.PoolRefIdeal.nD Cert.PoolRefIdeal.τ).loc Cert.PoolRefIdeal.main_arg3) = m ((c.tc : Thread Cert.PoolRefIdeal.nD Cert.PoolRefIdeal.τ).loc Cert.PoolRefIdeal.main_arg3))
      ∧ r.2.sem = fun _ => 0)

def quiescent_FfnBwd [hFfnBwd : Cert.FfnBwd.Facts] : Prop :=
  ∀ (m : (ℓ : Loc Cert.FfnBwd.nD Cert.FfnBwd.τ Cert.FfnBwd.sig) → Buf (Elt Bits) ℓ) (g : Dev Cert.FfnBwd.nD → PrngReg), Pre_FfnBwd m →
    θ_run (Cert.FfnBwd.defs (F := Bits)) (onTc (τ := Cert.FfnBwd.τ) (Cert.FfnBwd.main (F := Bits))) ⟨m, fun _ => 0, g⟩ (fun r => (∀ c : Dev Cert.FfnBwd.nD,
      r.2.mem ((c.tc : Thread Cert.FfnBwd.nD Cert.FfnBwd.τ).loc Cert.FfnBwd.main_arg0) = m ((c.tc : Thread Cert.FfnBwd.nD Cert.FfnBwd.τ).loc Cert.FfnBwd.main_arg0)
      ∧ r.2.mem ((c.tc : Thread Cert.FfnBwd.nD Cert.FfnBwd.τ).loc Cert.FfnBwd.main_arg1) = m ((c.tc : Thread Cert.FfnBwd.nD Cert.FfnBwd.τ).loc Cert.FfnBwd.main_arg1)
      ∧ r.2.mem ((c.tc : Thread Cert.FfnBwd.nD Cert.FfnBwd.τ).loc Cert.FfnBwd.main_arg2) = m ((c.tc : Thread Cert.FfnBwd.nD Cert.FfnBwd.τ).loc Cert.FfnBwd.main_arg2)
      ∧ r.2.mem ((c.tc : Thread Cert.FfnBwd.nD Cert.FfnBwd.τ).loc Cert.FfnBwd.main_arg3) = m ((c.tc : Thread Cert.FfnBwd.nD Cert.FfnBwd.τ).loc Cert.FfnBwd.main_arg3)
      ∧ r.2.mem ((c.tc : Thread Cert.FfnBwd.nD Cert.FfnBwd.τ).loc Cert.FfnBwd.main_arg4) = m ((c.tc : Thread Cert.FfnBwd.nD Cert.FfnBwd.τ).loc Cert.FfnBwd.main_arg4)
      ∧ r.2.mem ((c.tc : Thread Cert.FfnBwd.nD Cert.FfnBwd.τ).loc Cert.FfnBwd.main_arg5) = m ((c.tc : Thread Cert.FfnBwd.nD Cert.FfnBwd.τ).loc Cert.FfnBwd.main_arg5)
      ∧ r.2.mem ((c.tc : Thread Cert.FfnBwd.nD Cert.FfnBwd.τ).loc Cert.FfnBwd.main_arg6) = m ((c.tc : Thread Cert.FfnBwd.nD Cert.FfnBwd.τ).loc Cert.FfnBwd.main_arg6)
      ∧ r.2.mem ((c.tc : Thread Cert.FfnBwd.nD Cert.FfnBwd.τ).loc Cert.FfnBwd.main_arg7) = m ((c.tc : Thread Cert.FfnBwd.nD Cert.FfnBwd.τ).loc Cert.FfnBwd.main_arg7)
      ∧ r.2.mem ((c.tc : Thread Cert.FfnBwd.nD Cert.FfnBwd.τ).loc Cert.FfnBwd.main_arg8) = m ((c.tc : Thread Cert.FfnBwd.nD Cert.FfnBwd.τ).loc Cert.FfnBwd.main_arg8))
      ∧ r.2.sem = fun _ => 0)

def quiescent_FfnBwdIdeal [hFfnBwdIdeal : Cert.FfnBwdIdeal.Facts] : Prop :=
  ∀ (m : (ℓ : Loc Cert.FfnBwdIdeal.nD Cert.FfnBwdIdeal.τ Cert.FfnBwdIdeal.sig) → Buf (Elt Ideal) ℓ) (g : Dev Cert.FfnBwdIdeal.nD → PrngReg), Pre_FfnBwdIdeal m →
    θ_run (Cert.FfnBwdIdeal.defs (F := Ideal)) (onTc (τ := Cert.FfnBwdIdeal.τ) (Cert.FfnBwdIdeal.main (F := Ideal))) ⟨m, fun _ => 0, g⟩ (fun r => (∀ c : Dev Cert.FfnBwdIdeal.nD,
      r.2.mem ((c.tc : Thread Cert.FfnBwdIdeal.nD Cert.FfnBwdIdeal.τ).loc Cert.FfnBwdIdeal.main_arg0) = m ((c.tc : Thread Cert.FfnBwdIdeal.nD Cert.FfnBwdIdeal.τ).loc Cert.FfnBwdIdeal.main_arg0)
      ∧ r.2.mem ((c.tc : Thread Cert.FfnBwdIdeal.nD Cert.FfnBwdIdeal.τ).loc Cert.FfnBwdIdeal.main_arg1) = m ((c.tc : Thread Cert.FfnBwdIdeal.nD Cert.FfnBwdIdeal.τ).loc Cert.FfnBwdIdeal.main_arg1)
      ∧ r.2.mem ((c.tc : Thread Cert.FfnBwdIdeal.nD Cert.FfnBwdIdeal.τ).loc Cert.FfnBwdIdeal.main_arg2) = m ((c.tc : Thread Cert.FfnBwdIdeal.nD Cert.FfnBwdIdeal.τ).loc Cert.FfnBwdIdeal.main_arg2)
      ∧ r.2.mem ((c.tc : Thread Cert.FfnBwdIdeal.nD Cert.FfnBwdIdeal.τ).loc Cert.FfnBwdIdeal.main_arg3) = m ((c.tc : Thread Cert.FfnBwdIdeal.nD Cert.FfnBwdIdeal.τ).loc Cert.FfnBwdIdeal.main_arg3)
      ∧ r.2.mem ((c.tc : Thread Cert.FfnBwdIdeal.nD Cert.FfnBwdIdeal.τ).loc Cert.FfnBwdIdeal.main_arg4) = m ((c.tc : Thread Cert.FfnBwdIdeal.nD Cert.FfnBwdIdeal.τ).loc Cert.FfnBwdIdeal.main_arg4)
      ∧ r.2.mem ((c.tc : Thread Cert.FfnBwdIdeal.nD Cert.FfnBwdIdeal.τ).loc Cert.FfnBwdIdeal.main_arg5) = m ((c.tc : Thread Cert.FfnBwdIdeal.nD Cert.FfnBwdIdeal.τ).loc Cert.FfnBwdIdeal.main_arg5)
      ∧ r.2.mem ((c.tc : Thread Cert.FfnBwdIdeal.nD Cert.FfnBwdIdeal.τ).loc Cert.FfnBwdIdeal.main_arg6) = m ((c.tc : Thread Cert.FfnBwdIdeal.nD Cert.FfnBwdIdeal.τ).loc Cert.FfnBwdIdeal.main_arg6)
      ∧ r.2.mem ((c.tc : Thread Cert.FfnBwdIdeal.nD Cert.FfnBwdIdeal.τ).loc Cert.FfnBwdIdeal.main_arg7) = m ((c.tc : Thread Cert.FfnBwdIdeal.nD Cert.FfnBwdIdeal.τ).loc Cert.FfnBwdIdeal.main_arg7)
      ∧ r.2.mem ((c.tc : Thread Cert.FfnBwdIdeal.nD Cert.FfnBwdIdeal.τ).loc Cert.FfnBwdIdeal.main_arg8) = m ((c.tc : Thread Cert.FfnBwdIdeal.nD Cert.FfnBwdIdeal.τ).loc Cert.FfnBwdIdeal.main_arg8))
      ∧ r.2.sem = fun _ => 0)

def quiescent_FfnBwdIdeal_pre_finite_ffn [hFfnBwdIdeal : Cert.FfnBwdIdeal.Facts] [hPre_finite_ffn : Cert.Pre_finite_ffn.Facts] : Prop :=
  ∀ (m : (ℓ : Loc Cert.FfnBwdIdeal.nD Cert.FfnBwdIdeal.τ Cert.FfnBwdIdeal.sig) → Buf (Elt Ideal) ℓ) (g : Dev Cert.FfnBwdIdeal.nD → PrngReg), Pre_FfnBwdIdeal_finite_ffn m →
    θ_run (Cert.FfnBwdIdeal.defs (F := Ideal)) (onTc (τ := Cert.FfnBwdIdeal.τ) (Cert.FfnBwdIdeal.main (F := Ideal))) ⟨m, fun _ => 0, g⟩ (fun r => (∀ c : Dev Cert.FfnBwdIdeal.nD,
      r.2.mem ((c.tc : Thread Cert.FfnBwdIdeal.nD Cert.FfnBwdIdeal.τ).loc Cert.FfnBwdIdeal.main_arg0) = m ((c.tc : Thread Cert.FfnBwdIdeal.nD Cert.FfnBwdIdeal.τ).loc Cert.FfnBwdIdeal.main_arg0)
      ∧ r.2.mem ((c.tc : Thread Cert.FfnBwdIdeal.nD Cert.FfnBwdIdeal.τ).loc Cert.FfnBwdIdeal.main_arg1) = m ((c.tc : Thread Cert.FfnBwdIdeal.nD Cert.FfnBwdIdeal.τ).loc Cert.FfnBwdIdeal.main_arg1)
      ∧ r.2.mem ((c.tc : Thread Cert.FfnBwdIdeal.nD Cert.FfnBwdIdeal.τ).loc Cert.FfnBwdIdeal.main_arg2) = m ((c.tc : Thread Cert.FfnBwdIdeal.nD Cert.FfnBwdIdeal.τ).loc Cert.FfnBwdIdeal.main_arg2)
      ∧ r.2.mem ((c.tc : Thread Cert.FfnBwdIdeal.nD Cert.FfnBwdIdeal.τ).loc Cert.FfnBwdIdeal.main_arg3) = m ((c.tc : Thread Cert.FfnBwdIdeal.nD Cert.FfnBwdIdeal.τ).loc Cert.FfnBwdIdeal.main_arg3)
      ∧ r.2.mem ((c.tc : Thread Cert.FfnBwdIdeal.nD Cert.FfnBwdIdeal.τ).loc Cert.FfnBwdIdeal.main_arg4) = m ((c.tc : Thread Cert.FfnBwdIdeal.nD Cert.FfnBwdIdeal.τ).loc Cert.FfnBwdIdeal.main_arg4)
      ∧ r.2.mem ((c.tc : Thread Cert.FfnBwdIdeal.nD Cert.FfnBwdIdeal.τ).loc Cert.FfnBwdIdeal.main_arg5) = m ((c.tc : Thread Cert.FfnBwdIdeal.nD Cert.FfnBwdIdeal.τ).loc Cert.FfnBwdIdeal.main_arg5)
      ∧ r.2.mem ((c.tc : Thread Cert.FfnBwdIdeal.nD Cert.FfnBwdIdeal.τ).loc Cert.FfnBwdIdeal.main_arg6) = m ((c.tc : Thread Cert.FfnBwdIdeal.nD Cert.FfnBwdIdeal.τ).loc Cert.FfnBwdIdeal.main_arg6)
      ∧ r.2.mem ((c.tc : Thread Cert.FfnBwdIdeal.nD Cert.FfnBwdIdeal.τ).loc Cert.FfnBwdIdeal.main_arg7) = m ((c.tc : Thread Cert.FfnBwdIdeal.nD Cert.FfnBwdIdeal.τ).loc Cert.FfnBwdIdeal.main_arg7)
      ∧ r.2.mem ((c.tc : Thread Cert.FfnBwdIdeal.nD Cert.FfnBwdIdeal.τ).loc Cert.FfnBwdIdeal.main_arg8) = m ((c.tc : Thread Cert.FfnBwdIdeal.nD Cert.FfnBwdIdeal.τ).loc Cert.FfnBwdIdeal.main_arg8))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6)
      ∧ r.2.mem ((c.tc : Thread Cert.FfnRefIdeal.nD Cert.FfnRefIdeal.τ).loc Cert.FfnRefIdeal.main_arg7) = m ((c.tc : Thread Cert.FfnRefIdeal.nD Cert.FfnRefIdeal.τ).loc Cert.FfnRefIdeal.main_arg7)
      ∧ r.2.mem ((c.tc : Thread Cert.FfnRefIdeal.nD Cert.FfnRefIdeal.τ).loc Cert.FfnRefIdeal.main_arg8) = m ((c.tc : Thread Cert.FfnRefIdeal.nD Cert.FfnRefIdeal.τ).loc Cert.FfnRefIdeal.main_arg8))
      ∧ r.2.sem = fun _ => 0)

def quiescent_FfnRefIdeal_pre_finite_ffn [hFfnRefIdeal : Cert.FfnRefIdeal.Facts] [hPre_finite_ffn : Cert.Pre_finite_ffn.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal_finite_ffn m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6)
      ∧ r.2.mem ((c.tc : Thread Cert.FfnRefIdeal.nD Cert.FfnRefIdeal.τ).loc Cert.FfnRefIdeal.main_arg7) = m ((c.tc : Thread Cert.FfnRefIdeal.nD Cert.FfnRefIdeal.τ).loc Cert.FfnRefIdeal.main_arg7)
      ∧ r.2.mem ((c.tc : Thread Cert.FfnRefIdeal.nD Cert.FfnRefIdeal.τ).loc Cert.FfnRefIdeal.main_arg8) = m ((c.tc : Thread Cert.FfnRefIdeal.nD Cert.FfnRefIdeal.τ).loc Cert.FfnRefIdeal.main_arg8))
      ∧ r.2.sem = fun _ => 0)

def quiescent_FfnW [hFfnW : Cert.FfnW.Facts] : Prop :=
  ∀ (m : (ℓ : Loc Cert.FfnW.nD Cert.FfnW.τ Cert.FfnW.sig) → Buf (Elt Bits) ℓ) (g : Dev Cert.FfnW.nD → PrngReg), Pre_FfnW m →
    θ_run (Cert.FfnW.defs (F := Bits)) (onTc (τ := Cert.FfnW.τ) (Cert.FfnW.main (F := Bits))) ⟨m, fun _ => 0, g⟩ (fun r => (∀ c : Dev Cert.FfnW.nD,
      r.2.mem ((c.tc : Thread Cert.FfnW.nD Cert.FfnW.τ).loc Cert.FfnW.main_arg0) = m ((c.tc : Thread Cert.FfnW.nD Cert.FfnW.τ).loc Cert.FfnW.main_arg0)
      ∧ r.2.mem ((c.tc : Thread Cert.FfnW.nD Cert.FfnW.τ).loc Cert.FfnW.main_arg1) = m ((c.tc : Thread Cert.FfnW.nD Cert.FfnW.τ).loc Cert.FfnW.main_arg1)
      ∧ r.2.mem ((c.tc : Thread Cert.FfnW.nD Cert.FfnW.τ).loc Cert.FfnW.main_arg2) = m ((c.tc : Thread Cert.FfnW.nD Cert.FfnW.τ).loc Cert.FfnW.main_arg2)
      ∧ r.2.mem ((c.tc : Thread Cert.FfnW.nD Cert.FfnW.τ).loc Cert.FfnW.main_arg3) = m ((c.tc : Thread Cert.FfnW.nD Cert.FfnW.τ).loc Cert.FfnW.main_arg3)
      ∧ r.2.mem ((c.tc : Thread Cert.FfnW.nD Cert.FfnW.τ).loc Cert.FfnW.main_arg4) = m ((c.tc : Thread Cert.FfnW.nD Cert.FfnW.τ).loc Cert.FfnW.main_arg4)
      ∧ r.2.mem ((c.tc : Thread Cert.FfnW.nD Cert.FfnW.τ).loc Cert.FfnW.main_arg5) = m ((c.tc : Thread Cert.FfnW.nD Cert.FfnW.τ).loc Cert.FfnW.main_arg5))
      ∧ r.2.sem = fun _ => 0)

def quiescent_FfnWIdeal [hFfnWIdeal : Cert.FfnWIdeal.Facts] : Prop :=
  ∀ (m : (ℓ : Loc Cert.FfnWIdeal.nD Cert.FfnWIdeal.τ Cert.FfnWIdeal.sig) → Buf (Elt Ideal) ℓ) (g : Dev Cert.FfnWIdeal.nD → PrngReg), Pre_FfnWIdeal m →
    θ_run (Cert.FfnWIdeal.defs (F := Ideal)) (onTc (τ := Cert.FfnWIdeal.τ) (Cert.FfnWIdeal.main (F := Ideal))) ⟨m, fun _ => 0, g⟩ (fun r => (∀ c : Dev Cert.FfnWIdeal.nD,
      r.2.mem ((c.tc : Thread Cert.FfnWIdeal.nD Cert.FfnWIdeal.τ).loc Cert.FfnWIdeal.main_arg0) = m ((c.tc : Thread Cert.FfnWIdeal.nD Cert.FfnWIdeal.τ).loc Cert.FfnWIdeal.main_arg0)
      ∧ r.2.mem ((c.tc : Thread Cert.FfnWIdeal.nD Cert.FfnWIdeal.τ).loc Cert.FfnWIdeal.main_arg1) = m ((c.tc : Thread Cert.FfnWIdeal.nD Cert.FfnWIdeal.τ).loc Cert.FfnWIdeal.main_arg1)
      ∧ r.2.mem ((c.tc : Thread Cert.FfnWIdeal.nD Cert.FfnWIdeal.τ).loc Cert.FfnWIdeal.main_arg2) = m ((c.tc : Thread Cert.FfnWIdeal.nD Cert.FfnWIdeal.τ).loc Cert.FfnWIdeal.main_arg2)
      ∧ r.2.mem ((c.tc : Thread Cert.FfnWIdeal.nD Cert.FfnWIdeal.τ).loc Cert.FfnWIdeal.main_arg3) = m ((c.tc : Thread Cert.FfnWIdeal.nD Cert.FfnWIdeal.τ).loc Cert.FfnWIdeal.main_arg3)
      ∧ r.2.mem ((c.tc : Thread Cert.FfnWIdeal.nD Cert.FfnWIdeal.τ).loc Cert.FfnWIdeal.main_arg4) = m ((c.tc : Thread Cert.FfnWIdeal.nD Cert.FfnWIdeal.τ).loc Cert.FfnWIdeal.main_arg4)
      ∧ r.2.mem ((c.tc : Thread Cert.FfnWIdeal.nD Cert.FfnWIdeal.τ).loc Cert.FfnWIdeal.main_arg5) = m ((c.tc : Thread Cert.FfnWIdeal.nD Cert.FfnWIdeal.τ).loc Cert.FfnWIdeal.main_arg5))
      ∧ r.2.sem = fun _ => 0)

def quiescent_FfnWRefIdeal [hFfnWRefIdeal : Cert.FfnWRefIdeal.Facts] : Prop :=
  ∀ (m : (ℓ : Loc Cert.FfnWRefIdeal.nD Cert.FfnWRefIdeal.τ Cert.FfnWRefIdeal.sig) → Buf (Elt Ideal) ℓ) (g : Dev Cert.FfnWRefIdeal.nD → PrngReg), Pre_FfnWRefIdeal m →
    θ_run (Cert.FfnWRefIdeal.defs (F := Ideal)) (onTc (τ := Cert.FfnWRefIdeal.τ) (Cert.FfnWRefIdeal.main (F := Ideal))) ⟨m, fun _ => 0, g⟩ (fun r => (∀ c : Dev Cert.FfnWRefIdeal.nD,
      r.2.mem ((c.tc : Thread Cert.FfnWRefIdeal.nD Cert.FfnWRefIdeal.τ).loc Cert.FfnWRefIdeal.main_arg0) = m ((c.tc : Thread Cert.FfnWRefIdeal.nD Cert.FfnWRefIdeal.τ).loc Cert.FfnWRefIdeal.main_arg0)
      ∧ r.2.mem ((c.tc : Thread Cert.FfnWRefIdeal.nD Cert.FfnWRefIdeal.τ).loc Cert.FfnWRefIdeal.main_arg1) = m ((c.tc : Thread Cert.FfnWRefIdeal.nD Cert.FfnWRefIdeal.τ).loc Cert.FfnWRefIdeal.main_arg1)
      ∧ r.2.mem ((c.tc : Thread Cert.FfnWRefIdeal.nD Cert.FfnWRefIdeal.τ).loc Cert.FfnWRefIdeal.main_arg2) = m ((c.tc : Thread Cert.FfnWRefIdeal.nD Cert.FfnWRefIdeal.τ).loc Cert.FfnWRefIdeal.main_arg2)
      ∧ r.2.mem ((c.tc : Thread Cert.FfnWRefIdeal.nD Cert.FfnWRefIdeal.τ).loc Cert.FfnWRefIdeal.main_arg3) = m ((c.tc : Thread Cert.FfnWRefIdeal.nD Cert.FfnWRefIdeal.τ).loc Cert.FfnWRefIdeal.main_arg3)
      ∧ r.2.mem ((c.tc : Thread Cert.FfnWRefIdeal.nD Cert.FfnWRefIdeal.τ).loc Cert.FfnWRefIdeal.main_arg4) = m ((c.tc : Thread Cert.FfnWRefIdeal.nD Cert.FfnWRefIdeal.τ).loc Cert.FfnWRefIdeal.main_arg4)
      ∧ r.2.mem ((c.tc : Thread Cert.FfnWRefIdeal.nD Cert.FfnWRefIdeal.τ).loc Cert.FfnWRefIdeal.main_arg5) = m ((c.tc : Thread Cert.FfnWRefIdeal.nD Cert.FfnWRefIdeal.τ).loc Cert.FfnWRefIdeal.main_arg5))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3)
      ∧ r.2.mem ((c.tc : Thread Cert.OutProj.nD Cert.OutProj.τ).loc Cert.OutProj.main_arg4) = m ((c.tc : Thread Cert.OutProj.nD Cert.OutProj.τ).loc Cert.OutProj.main_arg4)
      ∧ r.2.mem ((c.tc : Thread Cert.OutProj.nD Cert.OutProj.τ).loc Cert.OutProj.main_arg5) = m ((c.tc : Thread Cert.OutProj.nD Cert.OutProj.τ).loc Cert.OutProj.main_arg5))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
      ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
      ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3)
      ∧ r.2.mem ((c.tc : Thread Cert.OutProjRefIdeal.nD Cert.OutProjRefIdeal.τ).loc Cert.OutProjRefIdeal.main_arg4) = m ((c.tc : Thread Cert.OutProjRefIdeal.nD Cert.OutProjRefIdeal.τ).loc Cert.OutProjRefIdeal.main_arg4)
      ∧ r.2.mem ((c.tc : Thread Cert.OutProjRefIdeal.nD Cert.OutProjRefIdeal.τ).loc Cert.OutProjRefIdeal.main_arg5) = m ((c.tc : Thread Cert.OutProjRefIdeal.nD Cert.OutProjRefIdeal.τ).loc Cert.OutProjRefIdeal.main_arg5))
      ∧ r.2.sem = fun _ => 0)

def quiescent_OutProjB [hOutProjB : Cert.OutProjB.Facts] : Prop :=
  ∀ (m : (ℓ : Loc Cert.OutProjB.nD Cert.OutProjB.τ Cert.OutProjB.sig) → Buf (Elt Bits) ℓ) (g : Dev Cert.OutProjB.nD → PrngReg), Pre_OutProjB m →
    θ_run (Cert.OutProjB.defs (F := Bits)) (onTc (τ := Cert.OutProjB.τ) (Cert.OutProjB.main (F := Bits))) ⟨m, fun _ => 0, g⟩ (fun r => (∀ c : Dev Cert.OutProjB.nD,
      r.2.mem ((c.tc : Thread Cert.OutProjB.nD Cert.OutProjB.τ).loc Cert.OutProjB.main_arg0) = m ((c.tc : Thread Cert.OutProjB.nD Cert.OutProjB.τ).loc Cert.OutProjB.main_arg0)
      ∧ r.2.mem ((c.tc : Thread Cert.OutProjB.nD Cert.OutProjB.τ).loc Cert.OutProjB.main_arg1) = m ((c.tc : Thread Cert.OutProjB.nD Cert.OutProjB.τ).loc Cert.OutProjB.main_arg1)
      ∧ r.2.mem ((c.tc : Thread Cert.OutProjB.nD Cert.OutProjB.τ).loc Cert.OutProjB.main_arg2) = m ((c.tc : Thread Cert.OutProjB.nD Cert.OutProjB.τ).loc Cert.OutProjB.main_arg2)
      ∧ r.2.mem ((c.tc : Thread Cert.OutProjB.nD Cert.OutProjB.τ).loc Cert.OutProjB.main_arg3) = m ((c.tc : Thread Cert.OutProjB.nD Cert.OutProjB.τ).loc Cert.OutProjB.main_arg3))
      ∧ r.2.sem = fun _ => 0)

def quiescent_OutProjBIdeal [hOutProjBIdeal : Cert.OutProjBIdeal.Facts] : Prop :=
  ∀ (m : (ℓ : Loc Cert.OutProjBIdeal.nD Cert.OutProjBIdeal.τ Cert.OutProjBIdeal.sig) → Buf (Elt Ideal) ℓ) (g : Dev Cert.OutProjBIdeal.nD → PrngReg), Pre_OutProjBIdeal m →
    θ_run (Cert.OutProjBIdeal.defs (F := Ideal)) (onTc (τ := Cert.OutProjBIdeal.τ) (Cert.OutProjBIdeal.main (F := Ideal))) ⟨m, fun _ => 0, g⟩ (fun r => (∀ c : Dev Cert.OutProjBIdeal.nD,
      r.2.mem ((c.tc : Thread Cert.OutProjBIdeal.nD Cert.OutProjBIdeal.τ).loc Cert.OutProjBIdeal.main_arg0) = m ((c.tc : Thread Cert.OutProjBIdeal.nD Cert.OutProjBIdeal.τ).loc Cert.OutProjBIdeal.main_arg0)
      ∧ r.2.mem ((c.tc : Thread Cert.OutProjBIdeal.nD Cert.OutProjBIdeal.τ).loc Cert.OutProjBIdeal.main_arg1) = m ((c.tc : Thread Cert.OutProjBIdeal.nD Cert.OutProjBIdeal.τ).loc Cert.OutProjBIdeal.main_arg1)
      ∧ r.2.mem ((c.tc : Thread Cert.OutProjBIdeal.nD Cert.OutProjBIdeal.τ).loc Cert.OutProjBIdeal.main_arg2) = m ((c.tc : Thread Cert.OutProjBIdeal.nD Cert.OutProjBIdeal.τ).loc Cert.OutProjBIdeal.main_arg2)
      ∧ r.2.mem ((c.tc : Thread Cert.OutProjBIdeal.nD Cert.OutProjBIdeal.τ).loc Cert.OutProjBIdeal.main_arg3) = m ((c.tc : Thread Cert.OutProjBIdeal.nD Cert.OutProjBIdeal.τ).loc Cert.OutProjBIdeal.main_arg3))
      ∧ r.2.sem = fun _ => 0)

def quiescent_OutProjBRefIdeal [hOutProjBRefIdeal : Cert.OutProjBRefIdeal.Facts] : Prop :=
  ∀ (m : (ℓ : Loc Cert.OutProjBRefIdeal.nD Cert.OutProjBRefIdeal.τ Cert.OutProjBRefIdeal.sig) → Buf (Elt Ideal) ℓ) (g : Dev Cert.OutProjBRefIdeal.nD → PrngReg), Pre_OutProjBRefIdeal m →
    θ_run (Cert.OutProjBRefIdeal.defs (F := Ideal)) (onTc (τ := Cert.OutProjBRefIdeal.τ) (Cert.OutProjBRefIdeal.main (F := Ideal))) ⟨m, fun _ => 0, g⟩ (fun r => (∀ c : Dev Cert.OutProjBRefIdeal.nD,
      r.2.mem ((c.tc : Thread Cert.OutProjBRefIdeal.nD Cert.OutProjBRefIdeal.τ).loc Cert.OutProjBRefIdeal.main_arg0) = m ((c.tc : Thread Cert.OutProjBRefIdeal.nD Cert.OutProjBRefIdeal.τ).loc Cert.OutProjBRefIdeal.main_arg0)
      ∧ r.2.mem ((c.tc : Thread Cert.OutProjBRefIdeal.nD Cert.OutProjBRefIdeal.τ).loc Cert.OutProjBRefIdeal.main_arg1) = m ((c.tc : Thread Cert.OutProjBRefIdeal.nD Cert.OutProjBRefIdeal.τ).loc Cert.OutProjBRefIdeal.main_arg1)
      ∧ r.2.mem ((c.tc : Thread Cert.OutProjBRefIdeal.nD Cert.OutProjBRefIdeal.τ).loc Cert.OutProjBRefIdeal.main_arg2) = m ((c.tc : Thread Cert.OutProjBRefIdeal.nD Cert.OutProjBRefIdeal.τ).loc Cert.OutProjBRefIdeal.main_arg2)
      ∧ r.2.mem ((c.tc : Thread Cert.OutProjBRefIdeal.nD Cert.OutProjBRefIdeal.τ).loc Cert.OutProjBRefIdeal.main_arg3) = m ((c.tc : Thread Cert.OutProjBRefIdeal.nD Cert.OutProjBRefIdeal.τ).loc Cert.OutProjBRefIdeal.main_arg3))
      ∧ r.2.sem = fun _ => 0)

def quiescent_Prenorm [hPrenorm : Cert.Prenorm.Facts] : Prop :=
  ∀ (m : (ℓ : Loc Cert.Prenorm.nD Cert.Prenorm.τ Cert.Prenorm.sig) → Buf (Elt Bits) ℓ) (g : Dev Cert.Prenorm.nD → PrngReg), Pre_Prenorm m →
    θ_run (Cert.Prenorm.defs (F := Bits)) (onTc (τ := Cert.Prenorm.τ) (Cert.Prenorm.main (F := Bits))) ⟨m, fun _ => 0, g⟩ (fun r => (∀ c : Dev Cert.Prenorm.nD,
      r.2.mem ((c.tc : Thread Cert.Prenorm.nD Cert.Prenorm.τ).loc Cert.Prenorm.main_arg0) = m ((c.tc : Thread Cert.Prenorm.nD Cert.Prenorm.τ).loc Cert.Prenorm.main_arg0)
      ∧ r.2.mem ((c.tc : Thread Cert.Prenorm.nD Cert.Prenorm.τ).loc Cert.Prenorm.main_arg1) = m ((c.tc : Thread Cert.Prenorm.nD Cert.Prenorm.τ).loc Cert.Prenorm.main_arg1))
      ∧ r.2.sem = fun _ => 0)

def quiescent_PrenormIdeal [hPrenormIdeal : Cert.PrenormIdeal.Facts] : Prop :=
  ∀ (m : (ℓ : Loc Cert.PrenormIdeal.nD Cert.PrenormIdeal.τ Cert.PrenormIdeal.sig) → Buf (Elt Ideal) ℓ) (g : Dev Cert.PrenormIdeal.nD → PrngReg), Pre_PrenormIdeal m →
    θ_run (Cert.PrenormIdeal.defs (F := Ideal)) (onTc (τ := Cert.PrenormIdeal.τ) (Cert.PrenormIdeal.main (F := Ideal))) ⟨m, fun _ => 0, g⟩ (fun r => (∀ c : Dev Cert.PrenormIdeal.nD,
      r.2.mem ((c.tc : Thread Cert.PrenormIdeal.nD Cert.PrenormIdeal.τ).loc Cert.PrenormIdeal.main_arg0) = m ((c.tc : Thread Cert.PrenormIdeal.nD Cert.PrenormIdeal.τ).loc Cert.PrenormIdeal.main_arg0)
      ∧ r.2.mem ((c.tc : Thread Cert.PrenormIdeal.nD Cert.PrenormIdeal.τ).loc Cert.PrenormIdeal.main_arg1) = m ((c.tc : Thread Cert.PrenormIdeal.nD Cert.PrenormIdeal.τ).loc Cert.PrenormIdeal.main_arg1))
      ∧ r.2.sem = fun _ => 0)

def quiescent_PrenormRefIdeal [hPrenormRefIdeal : Cert.PrenormRefIdeal.Facts] : Prop :=
  ∀ (m : (ℓ : Loc Cert.PrenormRefIdeal.nD Cert.PrenormRefIdeal.τ Cert.PrenormRefIdeal.sig) → Buf (Elt Ideal) ℓ) (g : Dev Cert.PrenormRefIdeal.nD → PrngReg), Pre_PrenormRefIdeal m →
    θ_run (Cert.PrenormRefIdeal.defs (F := Ideal)) (onTc (τ := Cert.PrenormRefIdeal.τ) (Cert.PrenormRefIdeal.main (F := Ideal))) ⟨m, fun _ => 0, g⟩ (fun r => (∀ c : Dev Cert.PrenormRefIdeal.nD,
      r.2.mem ((c.tc : Thread Cert.PrenormRefIdeal.nD Cert.PrenormRefIdeal.τ).loc Cert.PrenormRefIdeal.main_arg0) = m ((c.tc : Thread Cert.PrenormRefIdeal.nD Cert.PrenormRefIdeal.τ).loc Cert.PrenormRefIdeal.main_arg0)
      ∧ r.2.mem ((c.tc : Thread Cert.PrenormRefIdeal.nD Cert.PrenormRefIdeal.τ).loc Cert.PrenormRefIdeal.main_arg1) = m ((c.tc : Thread Cert.PrenormRefIdeal.nD Cert.PrenormRefIdeal.τ).loc Cert.PrenormRefIdeal.main_arg1))
      ∧ r.2.sem = fun _ => 0)

def preserves_PoolBwd_PoolBwdIdeal : Prop :=
  True

def algebraic_PoolBwdIdeal_PoolRefIdeal_pre_finite_inputs [hPoolBwdIdeal : Cert.PoolBwdIdeal.Facts] [hPoolRefIdeal : Cert.PoolRefIdeal.Facts] [hPre_finite_inputs : Cert.Pre_finite_inputs.Facts] : Prop :=
  ∀ (m : (ℓ : Loc Cert.PoolBwdIdeal.nD Cert.PoolBwdIdeal.τ Cert.PoolBwdIdeal.sig) → Buf (Elt Ideal) ℓ) (g : Dev Cert.PoolBwdIdeal.nD → PrngReg)
    (m' : (ℓ : Loc Cert.PoolRefIdeal.nD Cert.PoolRefIdeal.τ Cert.PoolRefIdeal.sig) → Buf (Elt Ideal) ℓ) (g' : Dev Cert.PoolRefIdeal.nD → PrngReg), Pre_PoolBwdIdeal_finite_inputs m →
    (∀ c : Dev Cert.PoolBwdIdeal.nD,
      m' ((c.tc : Thread Cert.PoolRefIdeal.nD Cert.PoolRefIdeal.τ).loc Cert.PoolRefIdeal.main_arg0) = m ((c.tc : Thread Cert.PoolBwdIdeal.nD Cert.PoolBwdIdeal.τ).loc Cert.PoolBwdIdeal.main_arg0)
      ∧ m' ((c.tc : Thread Cert.PoolRefIdeal.nD Cert.PoolRefIdeal.τ).loc Cert.PoolRefIdeal.main_arg1) = m ((c.tc : Thread Cert.PoolBwdIdeal.nD Cert.PoolBwdIdeal.τ).loc Cert.PoolBwdIdeal.main_arg1)
      ∧ m' ((c.tc : Thread Cert.PoolRefIdeal.nD Cert.PoolRefIdeal.τ).loc Cert.PoolRefIdeal.main_arg2) = m ((c.tc : Thread Cert.PoolBwdIdeal.nD Cert.PoolBwdIdeal.τ).loc Cert.PoolBwdIdeal.main_arg2)
      ∧ m' ((c.tc : Thread Cert.PoolRefIdeal.nD Cert.PoolRefIdeal.τ).loc Cert.PoolRefIdeal.main_arg3) = m ((c.tc : Thread Cert.PoolBwdIdeal.nD Cert.PoolBwdIdeal.τ).loc Cert.PoolBwdIdeal.main_arg3)) →
    ∃ (v0 : (c : Dev Cert.PoolBwdIdeal.nD) → Buf (Elt Ideal) ((c.tc : Thread Cert.PoolBwdIdeal.nD Cert.PoolBwdIdeal.τ).loc Cert.PoolBwdIdeal.main_v63_0)) (v1 : (c : Dev Cert.PoolBwdIdeal.nD) → Buf (Elt Ideal) ((c.tc : Thread Cert.PoolBwdIdeal.nD Cert.PoolBwdIdeal.τ).loc Cert.PoolBwdIdeal.main_v63_1)) (v2 : (c : Dev Cert.PoolBwdIdeal.nD) → Buf (Elt Ideal) ((c.tc : Thread Cert.PoolBwdIdeal.nD Cert.PoolBwdIdeal.τ).loc Cert.PoolBwdIdeal.main_v63_2)),
      θ_run (Cert.PoolBwdIdeal.defs (F := Ideal)) (onTc (τ := Cert.PoolBwdIdeal.τ) (Cert.PoolBwdIdeal.main (F := Ideal))) ⟨m, fun _ => 0, g⟩ (fun r => ∀ c : Dev Cert.PoolBwdIdeal.nD,
          r.2.mem ((c.tc : Thread Cert.PoolBwdIdeal.nD Cert.PoolBwdIdeal.τ).loc Cert.PoolBwdIdeal.main_v63_0) = v0 c
          ∧ r.2.mem ((c.tc : Thread Cert.PoolBwdIdeal.nD Cert.PoolBwdIdeal.τ).loc Cert.PoolBwdIdeal.main_v63_1) = v1 c
          ∧ r.2.mem ((c.tc : Thread Cert.PoolBwdIdeal.nD Cert.PoolBwdIdeal.τ).loc Cert.PoolBwdIdeal.main_v63_2) = v2 c
          ∧ r.2.mem ((c.tc : Thread Cert.PoolBwdIdeal.nD Cert.PoolBwdIdeal.τ).loc Cert.PoolBwdIdeal.main_arg0) = m ((c.tc : Thread Cert.PoolBwdIdeal.nD Cert.PoolBwdIdeal.τ).loc Cert.PoolBwdIdeal.main_arg0)
          ∧ r.2.mem ((c.tc : Thread Cert.PoolBwdIdeal.nD Cert.PoolBwdIdeal.τ).loc Cert.PoolBwdIdeal.main_arg1) = m ((c.tc : Thread Cert.PoolBwdIdeal.nD Cert.PoolBwdIdeal.τ).loc Cert.PoolBwdIdeal.main_arg1)
          ∧ r.2.mem ((c.tc : Thread Cert.PoolBwdIdeal.nD Cert.PoolBwdIdeal.τ).loc Cert.PoolBwdIdeal.main_arg2) = m ((c.tc : Thread Cert.PoolBwdIdeal.nD Cert.PoolBwdIdeal.τ).loc Cert.PoolBwdIdeal.main_arg2)
          ∧ r.2.mem ((c.tc : Thread Cert.PoolBwdIdeal.nD Cert.PoolBwdIdeal.τ).loc Cert.PoolBwdIdeal.main_arg3) = m ((c.tc : Thread Cert.PoolBwdIdeal.nD Cert.PoolBwdIdeal.τ).loc Cert.PoolBwdIdeal.main_arg3))
      ∧ θ_run (Cert.PoolRefIdeal.defs (F := Ideal)) (onTc (τ := Cert.PoolRefIdeal.τ) (Cert.PoolRefIdeal.main (F := Ideal))) ⟨m', fun _ => 0, g'⟩ (fun r => ∀ c : Dev Cert.PoolRefIdeal.nD,
          r.2.mem ((c.tc : Thread Cert.PoolRefIdeal.nD Cert.PoolRefIdeal.τ).loc Cert.PoolRefIdeal.main_v135) = v0 c
          ∧ r.2.mem ((c.tc : Thread Cert.PoolRefIdeal.nD Cert.PoolRefIdeal.τ).loc Cert.PoolRefIdeal.main_v81) = v1 c
          ∧ r.2.mem ((c.tc : Thread Cert.PoolRefIdeal.nD Cert.PoolRefIdeal.τ).loc Cert.PoolRefIdeal.main_v133) = v2 c
          ∧ r.2.mem ((c.tc : Thread Cert.PoolRefIdeal.nD Cert.PoolRefIdeal.τ).loc Cert.PoolRefIdeal.main_arg0) = m' ((c.tc : Thread Cert.PoolRefIdeal.nD Cert.PoolRefIdeal.τ).loc Cert.PoolRefIdeal.main_arg0)
          ∧ r.2.mem ((c.tc : Thread Cert.PoolRefIdeal.nD Cert.PoolRefIdeal.τ).loc Cert.PoolRefIdeal.main_arg1) = m' ((c.tc : Thread Cert.PoolRefIdeal.nD Cert.PoolRefIdeal.τ).loc Cert.PoolRefIdeal.main_arg1)
          ∧ r.2.mem ((c.tc : Thread Cert.PoolRefIdeal.nD Cert.PoolRefIdeal.τ).loc Cert.PoolRefIdeal.main_arg2) = m' ((c.tc : Thread Cert.PoolRefIdeal.nD Cert.PoolRefIdeal.τ).loc Cert.PoolRefIdeal.main_arg2)
          ∧ r.2.mem ((c.tc : Thread Cert.PoolRefIdeal.nD Cert.PoolRefIdeal.τ).loc Cert.PoolRefIdeal.main_arg3) = m' ((c.tc : Thread Cert.PoolRefIdeal.nD Cert.PoolRefIdeal.τ).loc Cert.PoolRefIdeal.main_arg3))

def preserves_FfnBwd_FfnBwdIdeal : Prop :=
  True

def algebraic_FfnBwdIdeal_FfnRefIdeal_pre_finite_ffn [hFfnBwdIdeal : Cert.FfnBwdIdeal.Facts] [hFfnRefIdeal : Cert.FfnRefIdeal.Facts] [hPre_finite_ffn : Cert.Pre_finite_ffn.Facts] : Prop :=
  ∀ (m : (ℓ : Loc Cert.FfnBwdIdeal.nD Cert.FfnBwdIdeal.τ Cert.FfnBwdIdeal.sig) → Buf (Elt Ideal) ℓ) (g : Dev Cert.FfnBwdIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnBwdIdeal_finite_ffn m →
    (∀ c : Dev Cert.FfnBwdIdeal.nD,
      m' ((c.tc : Thread Cert.FfnRefIdeal.nD Cert.FfnRefIdeal.τ).loc Cert.FfnRefIdeal.main_arg0) = m ((c.tc : Thread Cert.FfnBwdIdeal.nD Cert.FfnBwdIdeal.τ).loc Cert.FfnBwdIdeal.main_arg0)
      ∧ m' ((c.tc : Thread Cert.FfnRefIdeal.nD Cert.FfnRefIdeal.τ).loc Cert.FfnRefIdeal.main_arg1) = m ((c.tc : Thread Cert.FfnBwdIdeal.nD Cert.FfnBwdIdeal.τ).loc Cert.FfnBwdIdeal.main_arg1)
      ∧ m' ((c.tc : Thread Cert.FfnRefIdeal.nD Cert.FfnRefIdeal.τ).loc Cert.FfnRefIdeal.main_arg2) = m ((c.tc : Thread Cert.FfnBwdIdeal.nD Cert.FfnBwdIdeal.τ).loc Cert.FfnBwdIdeal.main_arg2)
      ∧ m' ((c.tc : Thread Cert.FfnRefIdeal.nD Cert.FfnRefIdeal.τ).loc Cert.FfnRefIdeal.main_arg3) = m ((c.tc : Thread Cert.FfnBwdIdeal.nD Cert.FfnBwdIdeal.τ).loc Cert.FfnBwdIdeal.main_arg3)
      ∧ m' ((c.tc : Thread Cert.FfnRefIdeal.nD Cert.FfnRefIdeal.τ).loc Cert.FfnRefIdeal.main_arg4) = m ((c.tc : Thread Cert.FfnBwdIdeal.nD Cert.FfnBwdIdeal.τ).loc Cert.FfnBwdIdeal.main_arg4)
      ∧ m' ((c.tc : Thread Cert.FfnRefIdeal.nD Cert.FfnRefIdeal.τ).loc Cert.FfnRefIdeal.main_arg5) = m ((c.tc : Thread Cert.FfnBwdIdeal.nD Cert.FfnBwdIdeal.τ).loc Cert.FfnBwdIdeal.main_arg5)
      ∧ m' ((c.tc : Thread Cert.FfnRefIdeal.nD Cert.FfnRefIdeal.τ).loc Cert.FfnRefIdeal.main_arg6) = m ((c.tc : Thread Cert.FfnBwdIdeal.nD Cert.FfnBwdIdeal.τ).loc Cert.FfnBwdIdeal.main_arg6)
      ∧ m' ((c.tc : Thread Cert.FfnRefIdeal.nD Cert.FfnRefIdeal.τ).loc Cert.FfnRefIdeal.main_arg7) = m ((c.tc : Thread Cert.FfnBwdIdeal.nD Cert.FfnBwdIdeal.τ).loc Cert.FfnBwdIdeal.main_arg7)
      ∧ m' ((c.tc : Thread Cert.FfnRefIdeal.nD Cert.FfnRefIdeal.τ).loc Cert.FfnRefIdeal.main_arg8) = m ((c.tc : Thread Cert.FfnBwdIdeal.nD Cert.FfnBwdIdeal.τ).loc Cert.FfnBwdIdeal.main_arg8)) →
    ∃ (v0 : (c : Dev Cert.FfnBwdIdeal.nD) → Buf (Elt Ideal) ((c.tc : Thread Cert.FfnBwdIdeal.nD Cert.FfnBwdIdeal.τ).loc Cert.FfnBwdIdeal.main_v50_0)) (v1 : (c : Dev Cert.FfnBwdIdeal.nD) → Buf (Elt Ideal) ((c.tc : Thread Cert.FfnBwdIdeal.nD Cert.FfnBwdIdeal.τ).loc Cert.FfnBwdIdeal.main_v50_1)) (v2 : (c : Dev Cert.FfnBwdIdeal.nD) → Buf (Elt Ideal) ((c.tc : Thread Cert.FfnBwdIdeal.nD Cert.FfnBwdIdeal.τ).loc Cert.FfnBwdIdeal.main_v50_2)) (v3 : (c : Dev Cert.FfnBwdIdeal.nD) → Buf (Elt Ideal) ((c.tc : Thread Cert.FfnBwdIdeal.nD Cert.FfnBwdIdeal.τ).loc Cert.FfnBwdIdeal.main_v50_3)) (v4 : (c : Dev Cert.FfnBwdIdeal.nD) → Buf (Elt Ideal) ((c.tc : Thread Cert.FfnBwdIdeal.nD Cert.FfnBwdIdeal.τ).loc Cert.FfnBwdIdeal.main_v50_4)) (v5 : (c : Dev Cert.FfnBwdIdeal.nD) → Buf (Elt Ideal) ((c.tc : Thread Cert.FfnBwdIdeal.nD Cert.FfnBwdIdeal.τ).loc Cert.FfnBwdIdeal.main_v50_5)),
      θ_run (Cert.FfnBwdIdeal.defs (F := Ideal)) (onTc (τ := Cert.FfnBwdIdeal.τ) (Cert.FfnBwdIdeal.main (F := Ideal))) ⟨m, fun _ => 0, g⟩ (fun r => ∀ c : Dev Cert.FfnBwdIdeal.nD,
          r.2.mem ((c.tc : Thread Cert.FfnBwdIdeal.nD Cert.FfnBwdIdeal.τ).loc Cert.FfnBwdIdeal.main_v50_0) = v0 c
          ∧ r.2.mem ((c.tc : Thread Cert.FfnBwdIdeal.nD Cert.FfnBwdIdeal.τ).loc Cert.FfnBwdIdeal.main_v50_1) = v1 c
          ∧ r.2.mem ((c.tc : Thread Cert.FfnBwdIdeal.nD Cert.FfnBwdIdeal.τ).loc Cert.FfnBwdIdeal.main_v50_2) = v2 c
          ∧ r.2.mem ((c.tc : Thread Cert.FfnBwdIdeal.nD Cert.FfnBwdIdeal.τ).loc Cert.FfnBwdIdeal.main_v50_3) = v3 c
          ∧ r.2.mem ((c.tc : Thread Cert.FfnBwdIdeal.nD Cert.FfnBwdIdeal.τ).loc Cert.FfnBwdIdeal.main_v50_4) = v4 c
          ∧ r.2.mem ((c.tc : Thread Cert.FfnBwdIdeal.nD Cert.FfnBwdIdeal.τ).loc Cert.FfnBwdIdeal.main_v50_5) = v5 c
          ∧ r.2.mem ((c.tc : Thread Cert.FfnBwdIdeal.nD Cert.FfnBwdIdeal.τ).loc Cert.FfnBwdIdeal.main_arg0) = m ((c.tc : Thread Cert.FfnBwdIdeal.nD Cert.FfnBwdIdeal.τ).loc Cert.FfnBwdIdeal.main_arg0)
          ∧ r.2.mem ((c.tc : Thread Cert.FfnBwdIdeal.nD Cert.FfnBwdIdeal.τ).loc Cert.FfnBwdIdeal.main_arg1) = m ((c.tc : Thread Cert.FfnBwdIdeal.nD Cert.FfnBwdIdeal.τ).loc Cert.FfnBwdIdeal.main_arg1)
          ∧ r.2.mem ((c.tc : Thread Cert.FfnBwdIdeal.nD Cert.FfnBwdIdeal.τ).loc Cert.FfnBwdIdeal.main_arg2) = m ((c.tc : Thread Cert.FfnBwdIdeal.nD Cert.FfnBwdIdeal.τ).loc Cert.FfnBwdIdeal.main_arg2)
          ∧ r.2.mem ((c.tc : Thread Cert.FfnBwdIdeal.nD Cert.FfnBwdIdeal.τ).loc Cert.FfnBwdIdeal.main_arg3) = m ((c.tc : Thread Cert.FfnBwdIdeal.nD Cert.FfnBwdIdeal.τ).loc Cert.FfnBwdIdeal.main_arg3)
          ∧ r.2.mem ((c.tc : Thread Cert.FfnBwdIdeal.nD Cert.FfnBwdIdeal.τ).loc Cert.FfnBwdIdeal.main_arg4) = m ((c.tc : Thread Cert.FfnBwdIdeal.nD Cert.FfnBwdIdeal.τ).loc Cert.FfnBwdIdeal.main_arg4)
          ∧ r.2.mem ((c.tc : Thread Cert.FfnBwdIdeal.nD Cert.FfnBwdIdeal.τ).loc Cert.FfnBwdIdeal.main_arg5) = m ((c.tc : Thread Cert.FfnBwdIdeal.nD Cert.FfnBwdIdeal.τ).loc Cert.FfnBwdIdeal.main_arg5)
          ∧ r.2.mem ((c.tc : Thread Cert.FfnBwdIdeal.nD Cert.FfnBwdIdeal.τ).loc Cert.FfnBwdIdeal.main_arg6) = m ((c.tc : Thread Cert.FfnBwdIdeal.nD Cert.FfnBwdIdeal.τ).loc Cert.FfnBwdIdeal.main_arg6)
          ∧ r.2.mem ((c.tc : Thread Cert.FfnBwdIdeal.nD Cert.FfnBwdIdeal.τ).loc Cert.FfnBwdIdeal.main_arg7) = m ((c.tc : Thread Cert.FfnBwdIdeal.nD Cert.FfnBwdIdeal.τ).loc Cert.FfnBwdIdeal.main_arg7)
          ∧ r.2.mem ((c.tc : Thread Cert.FfnBwdIdeal.nD Cert.FfnBwdIdeal.τ).loc Cert.FfnBwdIdeal.main_arg8) = m ((c.tc : Thread Cert.FfnBwdIdeal.nD Cert.FfnBwdIdeal.τ).loc Cert.FfnBwdIdeal.main_arg8))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v95) = v0 c
          ∧ r.2.mem ((c.tc : Thread Cert.FfnRefIdeal.nD Cert.FfnRefIdeal.τ).loc Cert.FfnRefIdeal.main_v98) = v1 c
          ∧ r.2.mem ((c.tc : Thread Cert.FfnRefIdeal.nD Cert.FfnRefIdeal.τ).loc Cert.FfnRefIdeal.main_v99) = v2 c
          ∧ r.2.mem ((c.tc : Thread Cert.FfnRefIdeal.nD Cert.FfnRefIdeal.τ).loc Cert.FfnRefIdeal.main_v101) = v3 c
          ∧ r.2.mem ((c.tc : Thread Cert.FfnRefIdeal.nD Cert.FfnRefIdeal.τ).loc Cert.FfnRefIdeal.main_v91) = v4 c
          ∧ r.2.mem ((c.tc : Thread Cert.FfnRefIdeal.nD Cert.FfnRefIdeal.τ).loc Cert.FfnRefIdeal.main_v92) = v5 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5)
          ∧ r.2.mem ((c.tc : Thread Cert.FfnRefIdeal.nD Cert.FfnRefIdeal.τ).loc Cert.FfnRefIdeal.main_arg6) = m' ((c.tc : Thread Cert.FfnRefIdeal.nD Cert.FfnRefIdeal.τ).loc Cert.FfnRefIdeal.main_arg6)
          ∧ r.2.mem ((c.tc : Thread Cert.FfnRefIdeal.nD Cert.FfnRefIdeal.τ).loc Cert.FfnRefIdeal.main_arg7) = m' ((c.tc : Thread Cert.FfnRefIdeal.nD Cert.FfnRefIdeal.τ).loc Cert.FfnRefIdeal.main_arg7)
          ∧ r.2.mem ((c.tc : Thread Cert.FfnRefIdeal.nD Cert.FfnRefIdeal.τ).loc Cert.FfnRefIdeal.main_arg8) = m' ((c.tc : Thread Cert.FfnRefIdeal.nD Cert.FfnRefIdeal.τ).loc Cert.FfnRefIdeal.main_arg8))

def preserves_FfnW_FfnWIdeal : Prop :=
  True

def algebraic_FfnWIdeal_FfnWRefIdeal [hFfnWIdeal : Cert.FfnWIdeal.Facts] [hFfnWRefIdeal : Cert.FfnWRefIdeal.Facts] : Prop :=
  ∀ (m : (ℓ : Loc Cert.FfnWIdeal.nD Cert.FfnWIdeal.τ Cert.FfnWIdeal.sig) → Buf (Elt Ideal) ℓ) (g : Dev Cert.FfnWIdeal.nD → PrngReg)
    (m' : (ℓ : Loc Cert.FfnWRefIdeal.nD Cert.FfnWRefIdeal.τ Cert.FfnWRefIdeal.sig) → Buf (Elt Ideal) ℓ) (g' : Dev Cert.FfnWRefIdeal.nD → PrngReg), Pre_FfnWIdeal m →
    (∀ c : Dev Cert.FfnWIdeal.nD,
      m' ((c.tc : Thread Cert.FfnWRefIdeal.nD Cert.FfnWRefIdeal.τ).loc Cert.FfnWRefIdeal.main_arg0) = m ((c.tc : Thread Cert.FfnWIdeal.nD Cert.FfnWIdeal.τ).loc Cert.FfnWIdeal.main_arg0)
      ∧ m' ((c.tc : Thread Cert.FfnWRefIdeal.nD Cert.FfnWRefIdeal.τ).loc Cert.FfnWRefIdeal.main_arg1) = m ((c.tc : Thread Cert.FfnWIdeal.nD Cert.FfnWIdeal.τ).loc Cert.FfnWIdeal.main_arg1)
      ∧ m' ((c.tc : Thread Cert.FfnWRefIdeal.nD Cert.FfnWRefIdeal.τ).loc Cert.FfnWRefIdeal.main_arg2) = m ((c.tc : Thread Cert.FfnWIdeal.nD Cert.FfnWIdeal.τ).loc Cert.FfnWIdeal.main_arg2)
      ∧ m' ((c.tc : Thread Cert.FfnWRefIdeal.nD Cert.FfnWRefIdeal.τ).loc Cert.FfnWRefIdeal.main_arg3) = m ((c.tc : Thread Cert.FfnWIdeal.nD Cert.FfnWIdeal.τ).loc Cert.FfnWIdeal.main_arg3)
      ∧ m' ((c.tc : Thread Cert.FfnWRefIdeal.nD Cert.FfnWRefIdeal.τ).loc Cert.FfnWRefIdeal.main_arg4) = m ((c.tc : Thread Cert.FfnWIdeal.nD Cert.FfnWIdeal.τ).loc Cert.FfnWIdeal.main_arg4)
      ∧ m' ((c.tc : Thread Cert.FfnWRefIdeal.nD Cert.FfnWRefIdeal.τ).loc Cert.FfnWRefIdeal.main_arg5) = m ((c.tc : Thread Cert.FfnWIdeal.nD Cert.FfnWIdeal.τ).loc Cert.FfnWIdeal.main_arg5)) →
    ∃ (v0 : (c : Dev Cert.FfnWIdeal.nD) → Buf (Elt Ideal) ((c.tc : Thread Cert.FfnWIdeal.nD Cert.FfnWIdeal.τ).loc Cert.FfnWIdeal.main_v39_0)) (v1 : (c : Dev Cert.FfnWIdeal.nD) → Buf (Elt Ideal) ((c.tc : Thread Cert.FfnWIdeal.nD Cert.FfnWIdeal.τ).loc Cert.FfnWIdeal.main_v39_1)) (v2 : (c : Dev Cert.FfnWIdeal.nD) → Buf (Elt Ideal) ((c.tc : Thread Cert.FfnWIdeal.nD Cert.FfnWIdeal.τ).loc Cert.FfnWIdeal.main_v39_2)) (v3 : (c : Dev Cert.FfnWIdeal.nD) → Buf (Elt Ideal) ((c.tc : Thread Cert.FfnWIdeal.nD Cert.FfnWIdeal.τ).loc Cert.FfnWIdeal.main_v39_3)) (v4 : (c : Dev Cert.FfnWIdeal.nD) → Buf (Elt Ideal) ((c.tc : Thread Cert.FfnWIdeal.nD Cert.FfnWIdeal.τ).loc Cert.FfnWIdeal.main_v39_4)) (v5 : (c : Dev Cert.FfnWIdeal.nD) → Buf (Elt Ideal) ((c.tc : Thread Cert.FfnWIdeal.nD Cert.FfnWIdeal.τ).loc Cert.FfnWIdeal.main_v39_5)),
      θ_run (Cert.FfnWIdeal.defs (F := Ideal)) (onTc (τ := Cert.FfnWIdeal.τ) (Cert.FfnWIdeal.main (F := Ideal))) ⟨m, fun _ => 0, g⟩ (fun r => ∀ c : Dev Cert.FfnWIdeal.nD,
          r.2.mem ((c.tc : Thread Cert.FfnWIdeal.nD Cert.FfnWIdeal.τ).loc Cert.FfnWIdeal.main_v39_0) = v0 c
          ∧ r.2.mem ((c.tc : Thread Cert.FfnWIdeal.nD Cert.FfnWIdeal.τ).loc Cert.FfnWIdeal.main_v39_1) = v1 c
          ∧ r.2.mem ((c.tc : Thread Cert.FfnWIdeal.nD Cert.FfnWIdeal.τ).loc Cert.FfnWIdeal.main_v39_2) = v2 c
          ∧ r.2.mem ((c.tc : Thread Cert.FfnWIdeal.nD Cert.FfnWIdeal.τ).loc Cert.FfnWIdeal.main_v39_3) = v3 c
          ∧ r.2.mem ((c.tc : Thread Cert.FfnWIdeal.nD Cert.FfnWIdeal.τ).loc Cert.FfnWIdeal.main_v39_4) = v4 c
          ∧ r.2.mem ((c.tc : Thread Cert.FfnWIdeal.nD Cert.FfnWIdeal.τ).loc Cert.FfnWIdeal.main_v39_5) = v5 c
          ∧ r.2.mem ((c.tc : Thread Cert.FfnWIdeal.nD Cert.FfnWIdeal.τ).loc Cert.FfnWIdeal.main_arg0) = m ((c.tc : Thread Cert.FfnWIdeal.nD Cert.FfnWIdeal.τ).loc Cert.FfnWIdeal.main_arg0)
          ∧ r.2.mem ((c.tc : Thread Cert.FfnWIdeal.nD Cert.FfnWIdeal.τ).loc Cert.FfnWIdeal.main_arg1) = m ((c.tc : Thread Cert.FfnWIdeal.nD Cert.FfnWIdeal.τ).loc Cert.FfnWIdeal.main_arg1)
          ∧ r.2.mem ((c.tc : Thread Cert.FfnWIdeal.nD Cert.FfnWIdeal.τ).loc Cert.FfnWIdeal.main_arg2) = m ((c.tc : Thread Cert.FfnWIdeal.nD Cert.FfnWIdeal.τ).loc Cert.FfnWIdeal.main_arg2)
          ∧ r.2.mem ((c.tc : Thread Cert.FfnWIdeal.nD Cert.FfnWIdeal.τ).loc Cert.FfnWIdeal.main_arg3) = m ((c.tc : Thread Cert.FfnWIdeal.nD Cert.FfnWIdeal.τ).loc Cert.FfnWIdeal.main_arg3)
          ∧ r.2.mem ((c.tc : Thread Cert.FfnWIdeal.nD Cert.FfnWIdeal.τ).loc Cert.FfnWIdeal.main_arg4) = m ((c.tc : Thread Cert.FfnWIdeal.nD Cert.FfnWIdeal.τ).loc Cert.FfnWIdeal.main_arg4)
          ∧ r.2.mem ((c.tc : Thread Cert.FfnWIdeal.nD Cert.FfnWIdeal.τ).loc Cert.FfnWIdeal.main_arg5) = m ((c.tc : Thread Cert.FfnWIdeal.nD Cert.FfnWIdeal.τ).loc Cert.FfnWIdeal.main_arg5))
      ∧ θ_run (Cert.FfnWRefIdeal.defs (F := Ideal)) (onTc (τ := Cert.FfnWRefIdeal.τ) (Cert.FfnWRefIdeal.main (F := Ideal))) ⟨m', fun _ => 0, g'⟩ (fun r => ∀ c : Dev Cert.FfnWRefIdeal.nD,
          r.2.mem ((c.tc : Thread Cert.FfnWRefIdeal.nD Cert.FfnWRefIdeal.τ).loc Cert.FfnWRefIdeal.main_v33) = v0 c
          ∧ r.2.mem ((c.tc : Thread Cert.FfnWRefIdeal.nD Cert.FfnWRefIdeal.τ).loc Cert.FfnWRefIdeal.main_v37) = v1 c
          ∧ r.2.mem ((c.tc : Thread Cert.FfnWRefIdeal.nD Cert.FfnWRefIdeal.τ).loc Cert.FfnWRefIdeal.main_v40) = v2 c
          ∧ r.2.mem ((c.tc : Thread Cert.FfnWRefIdeal.nD Cert.FfnWRefIdeal.τ).loc Cert.FfnWRefIdeal.main_v44) = v3 c
          ∧ r.2.mem ((c.tc : Thread Cert.FfnWRefIdeal.nD Cert.FfnWRefIdeal.τ).loc Cert.FfnWRefIdeal.main_v47) = v4 c
          ∧ r.2.mem ((c.tc : Thread Cert.FfnWRefIdeal.nD Cert.FfnWRefIdeal.τ).loc Cert.FfnWRefIdeal.main_v51) = v5 c
          ∧ r.2.mem ((c.tc : Thread Cert.FfnWRefIdeal.nD Cert.FfnWRefIdeal.τ).loc Cert.FfnWRefIdeal.main_arg0) = m' ((c.tc : Thread Cert.FfnWRefIdeal.nD Cert.FfnWRefIdeal.τ).loc Cert.FfnWRefIdeal.main_arg0)
          ∧ r.2.mem ((c.tc : Thread Cert.FfnWRefIdeal.nD Cert.FfnWRefIdeal.τ).loc Cert.FfnWRefIdeal.main_arg1) = m' ((c.tc : Thread Cert.FfnWRefIdeal.nD Cert.FfnWRefIdeal.τ).loc Cert.FfnWRefIdeal.main_arg1)
          ∧ r.2.mem ((c.tc : Thread Cert.FfnWRefIdeal.nD Cert.FfnWRefIdeal.τ).loc Cert.FfnWRefIdeal.main_arg2) = m' ((c.tc : Thread Cert.FfnWRefIdeal.nD Cert.FfnWRefIdeal.τ).loc Cert.FfnWRefIdeal.main_arg2)
          ∧ r.2.mem ((c.tc : Thread Cert.FfnWRefIdeal.nD Cert.FfnWRefIdeal.τ).loc Cert.FfnWRefIdeal.main_arg3) = m' ((c.tc : Thread Cert.FfnWRefIdeal.nD Cert.FfnWRefIdeal.τ).loc Cert.FfnWRefIdeal.main_arg3)
          ∧ r.2.mem ((c.tc : Thread Cert.FfnWRefIdeal.nD Cert.FfnWRefIdeal.τ).loc Cert.FfnWRefIdeal.main_arg4) = m' ((c.tc : Thread Cert.FfnWRefIdeal.nD Cert.FfnWRefIdeal.τ).loc Cert.FfnWRefIdeal.main_arg4)
          ∧ r.2.mem ((c.tc : Thread Cert.FfnWRefIdeal.nD Cert.FfnWRefIdeal.τ).loc Cert.FfnWRefIdeal.main_arg5) = m' ((c.tc : Thread Cert.FfnWRefIdeal.nD Cert.FfnWRefIdeal.τ).loc Cert.FfnWRefIdeal.main_arg5))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)) →
    ∃ (v0 : (c : Dev Cert.InProjIdeal.nD) → Buf (Elt Ideal) ((c.tc : Thread Cert.InProjIdeal.nD Cert.InProjIdeal.τ).loc Cert.InProjIdeal.main_v18_0)) (v1 : (c : Dev Cert.InProjIdeal.nD) → Buf (Elt Ideal) ((c.tc : Thread Cert.InProjIdeal.nD Cert.InProjIdeal.τ).loc Cert.InProjIdeal.main_v18_1)) (v2 : (c : Dev Cert.InProjIdeal.nD) → Buf (Elt Ideal) ((c.tc : Thread Cert.InProjIdeal.nD Cert.InProjIdeal.τ).loc Cert.InProjIdeal.main_v18_2)) (v3 : (c : Dev Cert.InProjIdeal.nD) → Buf (Elt Ideal) ((c.tc : Thread Cert.InProjIdeal.nD Cert.InProjIdeal.τ).loc Cert.InProjIdeal.main_v18_3)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v18_0) = v0 c
          ∧ r.2.mem ((c.tc : Thread Cert.InProjIdeal.nD Cert.InProjIdeal.τ).loc Cert.InProjIdeal.main_v18_1) = v1 c
          ∧ r.2.mem ((c.tc : Thread Cert.InProjIdeal.nD Cert.InProjIdeal.τ).loc Cert.InProjIdeal.main_v18_2) = v2 c
          ∧ r.2.mem ((c.tc : Thread Cert.InProjIdeal.nD Cert.InProjIdeal.τ).loc Cert.InProjIdeal.main_v18_3) = v3 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v19) = v0 c
          ∧ r.2.mem ((c.tc : Thread Cert.InProjRefIdeal.nD Cert.InProjRefIdeal.τ).loc Cert.InProjRefIdeal.main_v21) = v1 c
          ∧ r.2.mem ((c.tc : Thread Cert.InProjRefIdeal.nD Cert.InProjRefIdeal.τ).loc Cert.InProjRefIdeal.main_v23) = v2 c
          ∧ r.2.mem ((c.tc : Thread Cert.InProjRefIdeal.nD Cert.InProjRefIdeal.τ).loc Cert.InProjRefIdeal.main_v25) = v3 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)
      ∧ m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3)
      ∧ m' ((c.tc : Thread Cert.OutProjRefIdeal.nD Cert.OutProjRefIdeal.τ).loc Cert.OutProjRefIdeal.main_arg4) = m ((c.tc : Thread Cert.OutProjIdeal.nD Cert.OutProjIdeal.τ).loc Cert.OutProjIdeal.main_arg4)
      ∧ m' ((c.tc : Thread Cert.OutProjRefIdeal.nD Cert.OutProjRefIdeal.τ).loc Cert.OutProjRefIdeal.main_arg5) = m ((c.tc : Thread Cert.OutProjIdeal.nD Cert.OutProjIdeal.τ).loc Cert.OutProjIdeal.main_arg5)) →
    ∃ (v0 : (c : Dev Cert.OutProjIdeal.nD) → Buf (Elt Ideal) ((c.tc : Thread Cert.OutProjIdeal.nD Cert.OutProjIdeal.τ).loc Cert.OutProjIdeal.main_v6_0)) (v1 : (c : Dev Cert.OutProjIdeal.nD) → Buf (Elt Ideal) ((c.tc : Thread Cert.OutProjIdeal.nD Cert.OutProjIdeal.τ).loc Cert.OutProjIdeal.main_v6_1)) (v2 : (c : Dev Cert.OutProjIdeal.nD) → Buf (Elt Ideal) ((c.tc : Thread Cert.OutProjIdeal.nD Cert.OutProjIdeal.τ).loc Cert.OutProjIdeal.main_v6_2)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v6_0) = v0 c
          ∧ r.2.mem ((c.tc : Thread Cert.OutProjIdeal.nD Cert.OutProjIdeal.τ).loc Cert.OutProjIdeal.main_v6_1) = v1 c
          ∧ r.2.mem ((c.tc : Thread Cert.OutProjIdeal.nD Cert.OutProjIdeal.τ).loc Cert.OutProjIdeal.main_v6_2) = v2 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
          ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
          ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v31) = v0 c
          ∧ r.2.mem ((c.tc : Thread Cert.OutProjRefIdeal.nD Cert.OutProjRefIdeal.τ).loc Cert.OutProjRefIdeal.main_v32) = v1 c
          ∧ r.2.mem ((c.tc : Thread Cert.OutProjRefIdeal.nD Cert.OutProjRefIdeal.τ).loc Cert.OutProjRefIdeal.main_v34) = v2 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2)
          ∧ r.2.mem ((c.tc : Thread Cert.OutProjRefIdeal.nD Cert.OutProjRefIdeal.τ).loc Cert.OutProjRefIdeal.main_arg3) = m' ((c.tc : Thread Cert.OutProjRefIdeal.nD Cert.OutProjRefIdeal.τ).loc Cert.OutProjRefIdeal.main_arg3)
          ∧ r.2.mem ((c.tc : Thread Cert.OutProjRefIdeal.nD Cert.OutProjRefIdeal.τ).loc Cert.OutProjRefIdeal.main_arg4) = m' ((c.tc : Thread Cert.OutProjRefIdeal.nD Cert.OutProjRefIdeal.τ).loc Cert.OutProjRefIdeal.main_arg4)
          ∧ r.2.mem ((c.tc : Thread Cert.OutProjRefIdeal.nD Cert.OutProjRefIdeal.τ).loc Cert.OutProjRefIdeal.main_arg5) = m' ((c.tc : Thread Cert.OutProjRefIdeal.nD Cert.OutProjRefIdeal.τ).loc Cert.OutProjRefIdeal.main_arg5))

def preserves_OutProjB_OutProjBIdeal : Prop :=
  True

def algebraic_OutProjBIdeal_OutProjBRefIdeal [hOutProjBIdeal : Cert.OutProjBIdeal.Facts] [hOutProjBRefIdeal : Cert.OutProjBRefIdeal.Facts] : Prop :=
  ∀ (m : (ℓ : Loc Cert.OutProjBIdeal.nD Cert.OutProjBIdeal.τ Cert.OutProjBIdeal.sig) → Buf (Elt Ideal) ℓ) (g : Dev Cert.OutProjBIdeal.nD → PrngReg)
    (m' : (ℓ : Loc Cert.OutProjBRefIdeal.nD Cert.OutProjBRefIdeal.τ Cert.OutProjBRefIdeal.sig) → Buf (Elt Ideal) ℓ) (g' : Dev Cert.OutProjBRefIdeal.nD → PrngReg), Pre_OutProjBIdeal m →
    (∀ c : Dev Cert.OutProjBIdeal.nD,
      m' ((c.tc : Thread Cert.OutProjBRefIdeal.nD Cert.OutProjBRefIdeal.τ).loc Cert.OutProjBRefIdeal.main_arg0) = m ((c.tc : Thread Cert.OutProjBIdeal.nD Cert.OutProjBIdeal.τ).loc Cert.OutProjBIdeal.main_arg0)
      ∧ m' ((c.tc : Thread Cert.OutProjBRefIdeal.nD Cert.OutProjBRefIdeal.τ).loc Cert.OutProjBRefIdeal.main_arg1) = m ((c.tc : Thread Cert.OutProjBIdeal.nD Cert.OutProjBIdeal.τ).loc Cert.OutProjBIdeal.main_arg1)
      ∧ m' ((c.tc : Thread Cert.OutProjBRefIdeal.nD Cert.OutProjBRefIdeal.τ).loc Cert.OutProjBRefIdeal.main_arg2) = m ((c.tc : Thread Cert.OutProjBIdeal.nD Cert.OutProjBIdeal.τ).loc Cert.OutProjBIdeal.main_arg2)
      ∧ m' ((c.tc : Thread Cert.OutProjBRefIdeal.nD Cert.OutProjBRefIdeal.τ).loc Cert.OutProjBRefIdeal.main_arg3) = m ((c.tc : Thread Cert.OutProjBIdeal.nD Cert.OutProjBIdeal.τ).loc Cert.OutProjBIdeal.main_arg3)) →
    ∃ (v0 : (c : Dev Cert.OutProjBIdeal.nD) → Buf (Elt Ideal) ((c.tc : Thread Cert.OutProjBIdeal.nD Cert.OutProjBIdeal.τ).loc Cert.OutProjBIdeal.main_v8_0)) (v1 : (c : Dev Cert.OutProjBIdeal.nD) → Buf (Elt Ideal) ((c.tc : Thread Cert.OutProjBIdeal.nD Cert.OutProjBIdeal.τ).loc Cert.OutProjBIdeal.main_v8_1)) (v2 : (c : Dev Cert.OutProjBIdeal.nD) → Buf (Elt Ideal) ((c.tc : Thread Cert.OutProjBIdeal.nD Cert.OutProjBIdeal.τ).loc Cert.OutProjBIdeal.main_v8_2)) (v3 : (c : Dev Cert.OutProjBIdeal.nD) → Buf (Elt Ideal) ((c.tc : Thread Cert.OutProjBIdeal.nD Cert.OutProjBIdeal.τ).loc Cert.OutProjBIdeal.main_v8_3)),
      θ_run (Cert.OutProjBIdeal.defs (F := Ideal)) (onTc (τ := Cert.OutProjBIdeal.τ) (Cert.OutProjBIdeal.main (F := Ideal))) ⟨m, fun _ => 0, g⟩ (fun r => ∀ c : Dev Cert.OutProjBIdeal.nD,
          r.2.mem ((c.tc : Thread Cert.OutProjBIdeal.nD Cert.OutProjBIdeal.τ).loc Cert.OutProjBIdeal.main_v8_0) = v0 c
          ∧ r.2.mem ((c.tc : Thread Cert.OutProjBIdeal.nD Cert.OutProjBIdeal.τ).loc Cert.OutProjBIdeal.main_v8_1) = v1 c
          ∧ r.2.mem ((c.tc : Thread Cert.OutProjBIdeal.nD Cert.OutProjBIdeal.τ).loc Cert.OutProjBIdeal.main_v8_2) = v2 c
          ∧ r.2.mem ((c.tc : Thread Cert.OutProjBIdeal.nD Cert.OutProjBIdeal.τ).loc Cert.OutProjBIdeal.main_v8_3) = v3 c
          ∧ r.2.mem ((c.tc : Thread Cert.OutProjBIdeal.nD Cert.OutProjBIdeal.τ).loc Cert.OutProjBIdeal.main_arg0) = m ((c.tc : Thread Cert.OutProjBIdeal.nD Cert.OutProjBIdeal.τ).loc Cert.OutProjBIdeal.main_arg0)
          ∧ r.2.mem ((c.tc : Thread Cert.OutProjBIdeal.nD Cert.OutProjBIdeal.τ).loc Cert.OutProjBIdeal.main_arg1) = m ((c.tc : Thread Cert.OutProjBIdeal.nD Cert.OutProjBIdeal.τ).loc Cert.OutProjBIdeal.main_arg1)
          ∧ r.2.mem ((c.tc : Thread Cert.OutProjBIdeal.nD Cert.OutProjBIdeal.τ).loc Cert.OutProjBIdeal.main_arg2) = m ((c.tc : Thread Cert.OutProjBIdeal.nD Cert.OutProjBIdeal.τ).loc Cert.OutProjBIdeal.main_arg2)
          ∧ r.2.mem ((c.tc : Thread Cert.OutProjBIdeal.nD Cert.OutProjBIdeal.τ).loc Cert.OutProjBIdeal.main_arg3) = m ((c.tc : Thread Cert.OutProjBIdeal.nD Cert.OutProjBIdeal.τ).loc Cert.OutProjBIdeal.main_arg3))
      ∧ θ_run (Cert.OutProjBRefIdeal.defs (F := Ideal)) (onTc (τ := Cert.OutProjBRefIdeal.τ) (Cert.OutProjBRefIdeal.main (F := Ideal))) ⟨m', fun _ => 0, g'⟩ (fun r => ∀ c : Dev Cert.OutProjBRefIdeal.nD,
          r.2.mem ((c.tc : Thread Cert.OutProjBRefIdeal.nD Cert.OutProjBRefIdeal.τ).loc Cert.OutProjBRefIdeal.main_v8) = v0 c
          ∧ r.2.mem ((c.tc : Thread Cert.OutProjBRefIdeal.nD Cert.OutProjBRefIdeal.τ).loc Cert.OutProjBRefIdeal.main_v10) = v1 c
          ∧ r.2.mem ((c.tc : Thread Cert.OutProjBRefIdeal.nD Cert.OutProjBRefIdeal.τ).loc Cert.OutProjBRefIdeal.main_v12) = v2 c
          ∧ r.2.mem ((c.tc : Thread Cert.OutProjBRefIdeal.nD Cert.OutProjBRefIdeal.τ).loc Cert.OutProjBRefIdeal.main_v15) = v3 c
          ∧ r.2.mem ((c.tc : Thread Cert.OutProjBRefIdeal.nD Cert.OutProjBRefIdeal.τ).loc Cert.OutProjBRefIdeal.main_arg0) = m' ((c.tc : Thread Cert.OutProjBRefIdeal.nD Cert.OutProjBRefIdeal.τ).loc Cert.OutProjBRefIdeal.main_arg0)
          ∧ r.2.mem ((c.tc : Thread Cert.OutProjBRefIdeal.nD Cert.OutProjBRefIdeal.τ).loc Cert.OutProjBRefIdeal.main_arg1) = m' ((c.tc : Thread Cert.OutProjBRefIdeal.nD Cert.OutProjBRefIdeal.τ).loc Cert.OutProjBRefIdeal.main_arg1)
          ∧ r.2.mem ((c.tc : Thread Cert.OutProjBRefIdeal.nD Cert.OutProjBRefIdeal.τ).loc Cert.OutProjBRefIdeal.main_arg2) = m' ((c.tc : Thread Cert.OutProjBRefIdeal.nD Cert.OutProjBRefIdeal.τ).loc Cert.OutProjBRefIdeal.main_arg2)
          ∧ r.2.mem ((c.tc : Thread Cert.OutProjBRefIdeal.nD Cert.OutProjBRefIdeal.τ).loc Cert.OutProjBRefIdeal.main_arg3) = m' ((c.tc : Thread Cert.OutProjBRefIdeal.nD Cert.OutProjBRefIdeal.τ).loc Cert.OutProjBRefIdeal.main_arg3))

def preserves_Prenorm_PrenormIdeal : Prop :=
  True

def algebraic_PrenormIdeal_PrenormRefIdeal [hPrenormIdeal : Cert.PrenormIdeal.Facts] [hPrenormRefIdeal : Cert.PrenormRefIdeal.Facts] : Prop :=
  ∀ (m : (ℓ : Loc Cert.PrenormIdeal.nD Cert.PrenormIdeal.τ Cert.PrenormIdeal.sig) → Buf (Elt Ideal) ℓ) (g : Dev Cert.PrenormIdeal.nD → PrngReg)
    (m' : (ℓ : Loc Cert.PrenormRefIdeal.nD Cert.PrenormRefIdeal.τ Cert.PrenormRefIdeal.sig) → Buf (Elt Ideal) ℓ) (g' : Dev Cert.PrenormRefIdeal.nD → PrngReg), Pre_PrenormIdeal m →
    (∀ c : Dev Cert.PrenormIdeal.nD,
      m' ((c.tc : Thread Cert.PrenormRefIdeal.nD Cert.PrenormRefIdeal.τ).loc Cert.PrenormRefIdeal.main_arg0) = m ((c.tc : Thread Cert.PrenormIdeal.nD Cert.PrenormIdeal.τ).loc Cert.PrenormIdeal.main_arg0)
      ∧ m' ((c.tc : Thread Cert.PrenormRefIdeal.nD Cert.PrenormRefIdeal.τ).loc Cert.PrenormRefIdeal.main_arg1) = m ((c.tc : Thread Cert.PrenormIdeal.nD Cert.PrenormIdeal.τ).loc Cert.PrenormIdeal.main_arg1)) →
    ∃ (v0 : (c : Dev Cert.PrenormIdeal.nD) → Buf (Elt Ideal) ((c.tc : Thread Cert.PrenormIdeal.nD Cert.PrenormIdeal.τ).loc Cert.PrenormIdeal.main_v1)),
      θ_run (Cert.PrenormIdeal.defs (F := Ideal)) (onTc (τ := Cert.PrenormIdeal.τ) (Cert.PrenormIdeal.main (F := Ideal))) ⟨m, fun _ => 0, g⟩ (fun r => ∀ c : Dev Cert.PrenormIdeal.nD,
          r.2.mem ((c.tc : Thread Cert.PrenormIdeal.nD Cert.PrenormIdeal.τ).loc Cert.PrenormIdeal.main_v1) = v0 c
          ∧ r.2.mem ((c.tc : Thread Cert.PrenormIdeal.nD Cert.PrenormIdeal.τ).loc Cert.PrenormIdeal.main_arg0) = m ((c.tc : Thread Cert.PrenormIdeal.nD Cert.PrenormIdeal.τ).loc Cert.PrenormIdeal.main_arg0)
          ∧ r.2.mem ((c.tc : Thread Cert.PrenormIdeal.nD Cert.PrenormIdeal.τ).loc Cert.PrenormIdeal.main_arg1) = m ((c.tc : Thread Cert.PrenormIdeal.nD Cert.PrenormIdeal.τ).loc Cert.PrenormIdeal.main_arg1))
      ∧ θ_run (Cert.PrenormRefIdeal.defs (F := Ideal)) (onTc (τ := Cert.PrenormRefIdeal.τ) (Cert.PrenormRefIdeal.main (F := Ideal))) ⟨m', fun _ => 0, g'⟩ (fun r => ∀ c : Dev Cert.PrenormRefIdeal.nD,
          r.2.mem ((c.tc : Thread Cert.PrenormRefIdeal.nD Cert.PrenormRefIdeal.τ).loc Cert.PrenormRefIdeal.main_v15) = v0 c
          ∧ r.2.mem ((c.tc : Thread Cert.PrenormRefIdeal.nD Cert.PrenormRefIdeal.τ).loc Cert.PrenormRefIdeal.main_arg0) = m' ((c.tc : Thread Cert.PrenormRefIdeal.nD Cert.PrenormRefIdeal.τ).loc Cert.PrenormRefIdeal.main_arg0)
          ∧ r.2.mem ((c.tc : Thread Cert.PrenormRefIdeal.nD Cert.PrenormRefIdeal.τ).loc Cert.PrenormRefIdeal.main_arg1) = m' ((c.tc : Thread Cert.PrenormRefIdeal.nD Cert.PrenormRefIdeal.τ).loc Cert.PrenormRefIdeal.main_arg1))

def Claim : Prop :=
  ∃ (hPoolBwd : Cert.PoolBwd.Facts) (hPoolBwdIdeal : Cert.PoolBwdIdeal.Facts) (hPoolRefIdeal : Cert.PoolRefIdeal.Facts) (hFfnBwd : Cert.FfnBwd.Facts) (hFfnBwdIdeal : Cert.FfnBwdIdeal.Facts) (hFfnRefIdeal : Cert.FfnRefIdeal.Facts) (hFfnW : Cert.FfnW.Facts) (hFfnWIdeal : Cert.FfnWIdeal.Facts) (hFfnWRefIdeal : Cert.FfnWRefIdeal.Facts) (hInProj : Cert.InProj.Facts) (hInProjIdeal : Cert.InProjIdeal.Facts) (hInProjRefIdeal : Cert.InProjRefIdeal.Facts) (hOutProj : Cert.OutProj.Facts) (hOutProjIdeal : Cert.OutProjIdeal.Facts) (hOutProjRefIdeal : Cert.OutProjRefIdeal.Facts) (hOutProjB : Cert.OutProjB.Facts) (hOutProjBIdeal : Cert.OutProjBIdeal.Facts) (hOutProjBRefIdeal : Cert.OutProjBRefIdeal.Facts) (hPrenorm : Cert.Prenorm.Facts) (hPrenormIdeal : Cert.PrenormIdeal.Facts) (hPrenormRefIdeal : Cert.PrenormRefIdeal.Facts) (hPre_finite_inputs : Cert.Pre_finite_inputs.Facts) (hPre_finite_ffn : Cert.Pre_finite_ffn.Facts),
    quiescent_PoolBwd (hPoolBwd := hPoolBwd)
    ∧ quiescent_PoolBwdIdeal (hPoolBwdIdeal := hPoolBwdIdeal)
    ∧ quiescent_PoolBwdIdeal_pre_finite_inputs (hPoolBwdIdeal := hPoolBwdIdeal) (hPre_finite_inputs := hPre_finite_inputs)
    ∧ quiescent_PoolRefIdeal (hPoolRefIdeal := hPoolRefIdeal)
    ∧ quiescent_PoolRefIdeal_pre_finite_inputs (hPoolRefIdeal := hPoolRefIdeal) (hPre_finite_inputs := hPre_finite_inputs)
    ∧ quiescent_FfnBwd (hFfnBwd := hFfnBwd)
    ∧ quiescent_FfnBwdIdeal (hFfnBwdIdeal := hFfnBwdIdeal)
    ∧ quiescent_FfnBwdIdeal_pre_finite_ffn (hFfnBwdIdeal := hFfnBwdIdeal) (hPre_finite_ffn := hPre_finite_ffn)
    ∧ quiescent_FfnRefIdeal (hFfnRefIdeal := hFfnRefIdeal)
    ∧ quiescent_FfnRefIdeal_pre_finite_ffn (hFfnRefIdeal := hFfnRefIdeal) (hPre_finite_ffn := hPre_finite_ffn)
    ∧ quiescent_FfnW (hFfnW := hFfnW)
    ∧ quiescent_FfnWIdeal (hFfnWIdeal := hFfnWIdeal)
    ∧ quiescent_FfnWRefIdeal (hFfnWRefIdeal := hFfnWRefIdeal)
    ∧ quiescent_InProj (hInProj := hInProj)
    ∧ quiescent_InProjIdeal (hInProjIdeal := hInProjIdeal)
    ∧ quiescent_InProjRefIdeal (hInProjRefIdeal := hInProjRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_OutProjB (hOutProjB := hOutProjB)
    ∧ quiescent_OutProjBIdeal (hOutProjBIdeal := hOutProjBIdeal)
    ∧ quiescent_OutProjBRefIdeal (hOutProjBRefIdeal := hOutProjBRefIdeal)
    ∧ quiescent_Prenorm (hPrenorm := hPrenorm)
    ∧ quiescent_PrenormIdeal (hPrenormIdeal := hPrenormIdeal)
    ∧ quiescent_PrenormRefIdeal (hPrenormRefIdeal := hPrenormRefIdeal)
    ∧ preserves_PoolBwd_PoolBwdIdeal
    ∧ algebraic_PoolBwdIdeal_PoolRefIdeal_pre_finite_inputs (hPoolBwdIdeal := hPoolBwdIdeal) (hPoolRefIdeal := hPoolRefIdeal) (hPre_finite_inputs := hPre_finite_inputs)
    ∧ preserves_FfnBwd_FfnBwdIdeal
    ∧ algebraic_FfnBwdIdeal_FfnRefIdeal_pre_finite_ffn (hFfnBwdIdeal := hFfnBwdIdeal) (hFfnRefIdeal := hFfnRefIdeal) (hPre_finite_ffn := hPre_finite_ffn)
    ∧ preserves_FfnW_FfnWIdeal
    ∧ algebraic_FfnWIdeal_FfnWRefIdeal (hFfnWIdeal := hFfnWIdeal) (hFfnWRefIdeal := hFfnWRefIdeal)
    ∧ preserves_InProj_InProjIdeal
    ∧ algebraic_InProjIdeal_InProjRefIdeal (hInProjIdeal := hInProjIdeal) (hInProjRefIdeal := hInProjRefIdeal)
    ∧ preserves_OutProj_OutProjIdeal
    ∧ algebraic_OutProjIdeal_OutProjRefIdeal (hOutProjIdeal := hOutProjIdeal) (hOutProjRefIdeal := hOutProjRefIdeal)
    ∧ preserves_OutProjB_OutProjBIdeal
    ∧ algebraic_OutProjBIdeal_OutProjBRefIdeal (hOutProjBIdeal := hOutProjBIdeal) (hOutProjBRefIdeal := hOutProjBRefIdeal)
    ∧ preserves_Prenorm_PrenormIdeal
    ∧ algebraic_PrenormIdeal_PrenormRefIdeal (hPrenormIdeal := hPrenormIdeal) (hPrenormRefIdeal := hPrenormRefIdeal)
-- ==== Pre_finite_ffn.lean ====
abbrev S1x4096x1024 : Shape := ⟨3, ![1, 4096, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩

class Facts : Prop where
  bcast_S_S1x1024 : S_.BroadcastsInDim S1x1024 (![] : Fin 0 → Fin S1x1024.rank)
  reducesTo_S1x1024_S_d0_1 : S1x1024.ReducesTo [0, 1] S_
  h_S_ : 0 < S_.numel
  bcast_S_S1024x2816 : S_.BroadcastsInDim S1024x2816 (![] : Fin 0 → Fin S1024x2816.rank)
  reducesTo_S1024x2816_S_d0_1 : S1024x2816.ReducesTo [0, 1] S_
  bcast_S_S2816x1024 : S_.BroadcastsInDim S2816x1024 (![] : Fin 0 → Fin S2816x1024.rank)
  reducesTo_S2816x1024_S_d0_1 : S2816x1024.ReducesTo [0, 1] S_
  bcast_S_S1x4096x1024 : S_.BroadcastsInDim S1x4096x1024 (![] : Fin 0 → Fin S1x4096x1024.rank)
  reducesTo_S1x4096x1024_S_d0_1_2 : S1x4096x1024.ReducesTo [0, 1, 2] S_

variable [Facts]

def fn_part1 {F : FTy → Type} [FloatOps F] (main_v13 : IVec S_ 1) (main_v16 : IVec S1x4096x1024 1) : IVec S_ 1 :=
  let main_c_5 : IVec S_ 1 := constantI S_ 1 1#1
  let main_v17 : IVec S_ 1 := (fun x v => Host.reduce IntOp.andi x v reducesTo_S1x4096x1024_S_d0_1_2 h_S_) main_v16 main_c_5
  let main_v18 : IVec S_ 1 := andi main_v13 main_v17
  main_v18

def fn {F : FTy → Type} [FloatOps F] (main_arg0 : FVec F S1x4096x1024 .f32) (main_arg1 : FVec F S1x4096x1024 .f32) (main_arg2 : FVec F S1x1024 .f32) (main_arg3 : FVec F S1x1024 .f32) (main_arg4 : FVec F S1024x2816 .f32) (main_arg5 : FVec F S1024x2816 .f32) (main_arg6 : FVec F S2816x1024 .f32) (main_arg7 : FVec F S1x4096x1024 .f32) (main_arg8 : FVec F S1x4096x1024 .f32) : IVec S_ 1 :=
  let main_v0 : FVec F S1x1024 .f32 := Host.absf main_arg3
  let main_cst : FVec F S_ .f32 := constant S_ .f32 0x7F800000#32
  let main_v1 : FVec F S1x1024 .f32 := broadcastInDim S1x1024 ![] bcast_S_S1x1024 main_cst
  let main_v2 : IVec S1x1024 1 := cmpf .olt main_v0 main_v1
  let main_c : IVec S_ 1 := constantI S_ 1 1#1
  let main_v3 : IVec S_ 1 := (fun x v => Host.reduce IntOp.andi x v reducesTo_S1x1024_S_d0_1 h_S_) main_v2 main_c
  let main_v4 : FVec F S1024x2816 .f32 := Host.absf main_arg5
  let main_cst_0 : FVec F S_ .f32 := constant S_ .f32 0x7F800000#32
  let main_v5 : FVec F S1024x2816 .f32 := broadcastInDim S1024x2816 ![] bcast_S_S1024x2816 main_cst_0
  let main_v6 : IVec S1024x2816 1 := cmpf .olt main_v4 main_v5
  let main_c_1 : IVec S_ 1 := constantI S_ 1 1#1
  let main_v7 : IVec S_ 1 := (fun x v => Host.reduce IntOp.andi x v reducesTo_S1024x2816_S_d0_1 h_S_) main_v6 main_c_1
  let main_v8 : IVec S_ 1 := andi main_v3 main_v7
  let main_v9 : FVec F S2816x1024 .f32 := Host.absf main_arg6
  let main_cst_2 : FVec F S_ .f32 := constant S_ .f32 0x7F800000#32
  let main_v10 : FVec F S2816x1024 .f32 := broadcastInDim S2816x1024 ![] bcast_S_S2816x1024 main_cst_2
  let main_v11 : IVec S2816x1024 1 := cmpf .olt main_v9 main_v10
  let main_c_3 : IVec S_ 1 := constantI S_ 1 1#1
  let main_v12 : IVec S_ 1 := (fun x v => Host.reduce IntOp.andi x v reducesTo_S2816x1024_S_d0_1 h_S_) main_v11 main_c_3
  let main_v13 : IVec S_ 1 := andi main_v8 main_v12
  let main_v14 : FVec F S1x4096x1024 .f32 := Host.absf main_arg8
  let main_cst_4 : FVec F S_ .f32 := constant S_ .f32 0x7F800000#32
  let main_v15 : FVec F S1x4096x1024 .f32 := broadcastInDim S1x4096x1024 ![] bcast_S_S1x4096x1024 main_cst_4
  let main_v16 : IVec S1x4096x1024 1 := cmpf .olt main_v14 main_v15
  fn_part1 (F := F) main_v13 main_v16
-- ==== Pre_finite_inputs.lean ====
abbrev S1x4096x512 : Shape := ⟨3, ![1, 4096, 512]⟩
abbrev S4x128x128 : Shape := ⟨3, ![4, 128, 128]⟩
abbrev S1x512 : Shape := ⟨2, ![1, 512]⟩
abbrev S_ : Shape := ⟨0, ![]⟩

class Facts : Prop where
  bcast_S_S4x128x128 : S_.BroadcastsInDim S4x128x128 (![] : Fin 0 → Fin S4x128x128.rank)
  reducesTo_S4x128x128_S_d0_1_2 : S4x128x128.ReducesTo [0, 1, 2] S_
  h_S_ : 0 < S_.numel
  bcast_S_S1x512 : S_.BroadcastsInDim S1x512 (![] : Fin 0 → Fin S1x512.rank)
  reducesTo_S1x512_S_d0_1 : S1x512.ReducesTo [0, 1] S_
  bcast_S_S1x4096x512 : S_.BroadcastsInDim S1x4096x512 (![] : Fin 0 → Fin S1x4096x512.rank)
  reducesTo_S1x4096x512_S_d0_1_2 : S1x4096x512.ReducesTo [0, 1, 2] S_

variable [Facts]

def fn {F : FTy → Type} [FloatOps F] (main_arg0 : FVec F S1x4096x512 .f32) (main_arg1 : FVec F S4x128x128 .f32) (main_arg2 : FVec F S1x512 .f32) (main_arg3 : FVec F S1x4096x512 .f32) : IVec S_ 1 :=
  let main_v0 : FVec F S4x128x128 .f32 := Host.absf main_arg1
  let main_cst : FVec F S_ .f32 := constant S_ .f32 0x7F800000#32
  let main_v1 : FVec F S4x128x128 .f32 := broadcastInDim S4x128x128 ![] bcast_S_S4x128x128 main_cst
  let main_v2 : IVec S4x128x128 1 := cmpf .olt main_v0 main_v1
  let main_c : IVec S_ 1 := constantI S_ 1 1#1
  let main_v3 : IVec S_ 1 := (fun x v => Host.reduce IntOp.andi x v reducesTo_S4x128x128_S_d0_1_2 h_S_) main_v2 main_c
  let main_v4 : FVec F S1x512 .f32 := Host.absf main_arg2
  let main_cst_0 : FVec F S_ .f32 := constant S_ .f32 0x7F800000#32
  let main_v5 : FVec F S1x512 .f32 := broadcastInDim S1x512 ![] bcast_S_S1x512 main_cst_0
  let main_v6 : IVec S1x512 1 := cmpf .olt main_v4 main_v5
  let main_c_1 : IVec S_ 1 := constantI S_ 1 1#1
  let main_v7 : IVec S_ 1 := (fun x v => Host.reduce IntOp.andi x v reducesTo_S1x512_S_d0_1 h_S_) main_v6 main_c_1
  let main_v8 : IVec S_ 1 := andi main_v3 main_v7
  let main_v9 : FVec F S1x4096x512 .f32 := Host.absf main_arg3
  let main_cst_2 : FVec F S_ .f32 := constant S_ .f32 0x7F800000#32
  let main_v10 : FVec F S1x4096x512 .f32 := broadcastInDim S1x4096x512 ![] bcast_S_S1x4096x512 main_cst_2
  let main_v11 : IVec S1x4096x512 1 := cmpf .olt main_v9 main_v10
  let main_c_3 : IVec S_ 1 := constantI S_ 1 1#1
  let main_v12 : IVec S_ 1 := (fun x v => Host.reduce IntOp.andi x v reducesTo_S1x4096x512_S_d0_1_2 h_S_) main_v11 main_c_3
  let main_v13 : IVec S_ 1 := andi main_v8 main_v12
  main_v13
-- ==== PoolBwd.lean ====
abbrev S1x4096x512 : Shape := ⟨3, ![1, 4096, 512]⟩
abbrev S4x128x128 : Shape := ⟨3, ![4, 128, 128]⟩
abbrev S1x512 : Shape := ⟨2, ![1, 512]⟩
abbrev S1x4096x4x128 : Shape := ⟨4, ![1, 4096, 4, 128]⟩
abbrev S_ : Shape := ⟨0, ![]⟩
abbrev S4096 : Shape := ⟨1, ![4096]⟩
abbrev S1x4096x1x128 : Shape := ⟨4, ![1, 4096, 1, 128]⟩
abbrev S1x4096x128 : Shape := ⟨3, ![1, 4096, 128]⟩
abbrev S1x2x128 : Shape := ⟨3, ![1, 2, 128]⟩
abbrev S1x4094x128 : Shape := ⟨3, ![1, 4094, 128]⟩
abbrev S1x4096x1 : Shape := ⟨3, ![1, 4096, 1]⟩
abbrev S1x4x128 : Shape := ⟨3, ![1, 4, 128]⟩
abbrev S1x4092x128 : Shape := ⟨3, ![1, 4092, 128]⟩
abbrev S1x8x128 : Shape := ⟨3, ![1, 8, 128]⟩
abbrev S1x4088x128 : Shape := ⟨3, ![1, 4088, 128]⟩
abbrev S1x16x128 : Shape := ⟨3, ![1, 16, 128]⟩
abbrev S1x4080x128 : Shape := ⟨3, ![1, 4080, 128]⟩
abbrev S4096x512 : Shape := ⟨2, ![4096, 512]⟩
abbrev S1024x512 : Shape := ⟨2, ![1024, 512]⟩
abbrev S128x512 : Shape := ⟨2, ![128, 512]⟩
abbrev S1152x512 : Shape := ⟨2, ![1152, 512]⟩
abbrev S1152x128 : Shape := ⟨2, ![1152, 128]⟩
abbrev S1024x128 : Shape := ⟨2, ![1024, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S128x256 : Shape := ⟨2, ![128, 256]⟩
abbrev S256x128 : Shape := ⟨2, ![256, 128]⟩

abbrev nBuf : Space → Nat
  | .hbm => 81
  | .vmem => 12
  | .smem => 0
  | _ => 0

abbrev bufTy : (tb : Table) → Fin (tcTables nBuf tb) → BufTy
  | .hbm, ⟨0, _⟩ => ⟨S1x4096x512, .f32⟩
  | .hbm, ⟨1, _⟩ => ⟨S4x128x128, .f32⟩
  | .hbm, ⟨2, _⟩ => ⟨S1x512, .f32⟩
  | .hbm, ⟨3, _⟩ => ⟨S1x4096x512, .f32⟩
  | .hbm, ⟨4, _⟩ => ⟨S1x4096x4x128, .f32⟩
  | .hbm, ⟨5, _⟩ => ⟨S_, .f32⟩
  | .hbm, ⟨6, _⟩ => ⟨S_, .f32⟩
  | .hbm, ⟨7, _⟩ => ⟨S1x4096x4x128, .f32⟩
  | .hbm, ⟨8, _⟩ => ⟨S4096, .f32⟩
  | .hbm, ⟨9, _⟩ => ⟨S_, .f32⟩
  | .hbm, ⟨10, _⟩ => ⟨S4096, .f32⟩
  | .hbm, ⟨11, _⟩ => ⟨S4096, .f32⟩
  | .hbm, ⟨12, _⟩ => ⟨S1x4096x1x128, .f32⟩
  | .hbm, ⟨13, _⟩ => ⟨S1x4096x128, .f32⟩
  | .hbm, ⟨14, _⟩ => ⟨S1x2x128, .f32⟩
  | .hbm, ⟨15, _⟩ => ⟨S_, .f32⟩
  | .hbm, ⟨16, _⟩ => ⟨S1x2x128, .f32⟩
  | .hbm, ⟨17, _⟩ => ⟨S1x4094x128, .f32⟩
  | .hbm, ⟨18, _⟩ => ⟨S1x4096x128, .f32⟩
  | .hbm, ⟨19, _⟩ => ⟨S_, .f32⟩
  | .hbm, ⟨20, _⟩ => ⟨S4096, .f32⟩
  | .hbm, ⟨21, _⟩ => ⟨S4096, .f32⟩
  | .hbm, ⟨22, _⟩ => ⟨S1x4096x1, .f32⟩
  | .hbm, ⟨23, _⟩ => ⟨S1x4096x128, .f32⟩
  | .hbm, ⟨24, _⟩ => ⟨S1x4096x128, .f32⟩
  | .hbm, ⟨25, _⟩ => ⟨S1x4096x128, .f32⟩
  | .hbm, ⟨26, _⟩ => ⟨S1x4096x1x128, .f32⟩
  | .hbm, ⟨27, _⟩ => ⟨S1x4096x128, .f32⟩
  | .hbm, ⟨28, _⟩ => ⟨S1x4x128, .f32⟩
  | .hbm, ⟨29, _⟩ => ⟨S_, .f32⟩
  | .hbm, ⟨30, _⟩ => ⟨S1x4x128, .f32⟩
  | .hbm, ⟨31, _⟩ => ⟨S1x4092x128, .f32⟩
  | .hbm, ⟨32, _⟩ => ⟨S1x4096x128, .f32⟩
  | .hbm, ⟨33, _⟩ => ⟨S_, .f32⟩
  | .hbm, ⟨34, _⟩ => ⟨S4096, .f32⟩
  | .hbm, ⟨35, _⟩ => ⟨S4096, .f32⟩
  | .hbm, ⟨36, _⟩ => ⟨S1x4096x1, .f32⟩
  | .hbm, ⟨37, _⟩ => ⟨S1x4096x128, .f32⟩
  | .hbm, ⟨38, _⟩ => ⟨S1x4096x128, .f32⟩
  | .hbm, ⟨39, _⟩ => ⟨S1x4096x128, .f32⟩
  | .hbm, ⟨40, _⟩ => ⟨S1x4096x1x128, .f32⟩
  | .hbm, ⟨41, _⟩ => ⟨S1x4096x128, .f32⟩
  | .hbm, ⟨42, _⟩ => ⟨S1x8x128, .f32⟩
  | .hbm, ⟨43, _⟩ => ⟨S_, .f32⟩
  | .hbm, ⟨44, _⟩ => ⟨S1x8x128, .f32⟩
  | .hbm, ⟨45, _⟩ => ⟨S1x4088x128, .f32⟩
  | .hbm, ⟨46, _⟩ => ⟨S1x4096x128, .f32⟩
  | .hbm, ⟨47, _⟩ => ⟨S_, .f32⟩
  | .hbm, ⟨48, _⟩ => ⟨S4096, .f32⟩
  | .hbm, ⟨49, _⟩ => ⟨S4096, .f32⟩
  | .hbm, ⟨50, _⟩ => ⟨S1x4096x1, .f32⟩
  | .hbm, ⟨51, _⟩ => ⟨S1x4096x128, .f32⟩
  | .hbm, ⟨52, _⟩ => ⟨S1x4096x128, .f32⟩
  | .hbm, ⟨53, _⟩ => ⟨S1x4096x128, .f32⟩
  | .hbm, ⟨54, _⟩ => ⟨S1x4096x1x128, .f32⟩
  | .hbm, ⟨55, _⟩ => ⟨S1x4096x128, .f32⟩
  | .hbm, ⟨56, _⟩ => ⟨S1x16x128, .f32⟩
  | .hbm, ⟨57, _⟩ => ⟨S_, .f32⟩
  | .hbm, ⟨58, _⟩ => ⟨S1x16x128, .f32⟩
  | .hbm, ⟨59, _⟩ => ⟨S1x4080x128, .f32⟩
  | .hbm, ⟨60, _⟩ => ⟨S1x4096x128, .f32⟩
  | .hbm, ⟨61, _⟩ => ⟨S_, .f32⟩
  | .hbm, ⟨62, _⟩ => ⟨S4096, .f32⟩
  | .hbm, ⟨63, _⟩ => ⟨S4096, .f32⟩
  | .hbm, ⟨64, _⟩ => ⟨S1x4096x1, .f32⟩
  | .hbm, ⟨65, _⟩ => ⟨S1x4096x128, .f32⟩
  | .hbm, ⟨66, _⟩ => ⟨S1x4096x128, .f32⟩
  | .hbm, ⟨67, _⟩ => ⟨S1x4096x128, .f32⟩
  | .hbm, ⟨68, _⟩ => ⟨S1x4096x1x128, .f32⟩
  | .hbm, ⟨69, _⟩ => ⟨S1x4096x1x128, .f32⟩
  | .hbm, ⟨70, _⟩ => ⟨S1x4096x1x128, .f32⟩
  | .hbm, ⟨71, _⟩ => ⟨S1x4096x1x128, .f32⟩
  | .hbm, ⟨72, _⟩ => ⟨S1x4096x4x128, .f32⟩
  | .hbm, ⟨73, _⟩ => ⟨S1x4096x4x128, .f32⟩
  | .hbm, ⟨74, _⟩ => ⟨S4096x512, .f32⟩
  | .hbm, ⟨75, _⟩ => ⟨S4096x512, .bf16⟩
  | .hbm, ⟨76, _⟩ => ⟨S4096x512, .f32⟩
  | .hbm, ⟨77, _⟩ => ⟨S4x128x128, .bf16⟩
  | .hbm, ⟨78, _⟩ => ⟨S4096x512, .bf16⟩
  | .hbm, ⟨79, _⟩ => ⟨S4x128x128, .f32⟩
  | .hbm, ⟨80, _⟩ => ⟨S1x512, .f32⟩
  | .local _ .vmem, ⟨0, _⟩ => ⟨S1024x512, .bf16⟩
  | .local _ .vmem, ⟨1, _⟩ => ⟨S1024x512, .bf16⟩
  | .local _ .vmem, ⟨2, _⟩ => ⟨S1024x512, .f32⟩
  | .local _ .vmem, ⟨3, _⟩ => ⟨S1024x512, .f32⟩
  | .local _ .vmem, ⟨4, _⟩ => ⟨S128x512, .f32⟩
  | .local _ .vmem, ⟨5, _⟩ => ⟨S128x512, .f32⟩
  | .local _ .vmem, ⟨6, _⟩ => ⟨S4x128x128, .bf16⟩
  | .local _ .vmem, ⟨7, _⟩ => ⟨S1x512, .f32⟩
  | .local _ .vmem, ⟨8, _⟩ => ⟨S1024x512, .bf16⟩
  | .local _ .vmem, ⟨9, _⟩ => ⟨S1024x512, .bf16⟩
  | .local _ .vmem, ⟨10, _⟩ => ⟨S4x128x128, .f32⟩
  | .local _ .vmem, ⟨11, _⟩ => ⟨S1x512, .f32⟩
  | _, _ => ⟨S1x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_call0_cst : Ref sig .tc := ⟨.hbm, 5, rfl⟩
abbrev main_call0_call0_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_3 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_4 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_5 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_cst_6 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_cst_7 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63_0 : Ref sig .tc := ⟨.hbm, 78, rfl⟩
abbrev main_v63_1 : Ref sig .tc := ⟨.hbm, 79, rfl⟩
abbrev main_v63_2 : Ref sig .tc := ⟨.hbm, 80, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c8_i32 : BitVec 32 := 8#32
  let v1 : BitVec 32 := Scalar.muli v0 c8_i32
  let c31_i32 : BitVec 32 := 31#32
  let v2 : BitVec 32 := Scalar.minsi v1 c31_i32
  let c0_i32 : BitVec 32 := 0#32
  let c0_i32_0 : BitVec 32 := 0#32
  ![v2.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S4x128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== PoolRefIdeal.lean ====
abbrev S1x4096x512 : Shape := ⟨3, ![1, 4096, 512]⟩
abbrev S4x128x128 : Shape := ⟨3, ![4, 128, 128]⟩
abbrev S1x512 : Shape := ⟨2, ![1, 512]⟩
abbrev S512 : Shape := ⟨1, ![512]⟩
abbrev S1x4096x4x128 : Shape := ⟨4, ![1, 4096, 4, 128]⟩
abbrev S_ : Shape := ⟨0, ![]⟩
abbrev S4096 : Shape := ⟨1, ![4096]⟩
abbrev S1x4096x1x128 : Shape := ⟨4, ![1, 4096, 1, 128]⟩
abbrev S1x4096x128 : Shape := ⟨3, ![1, 4096, 128]⟩
abbrev S1x2x128 : Shape := ⟨3, ![1, 2, 128]⟩
abbrev S1x4094x128 : Shape := ⟨3, ![1, 4094, 128]⟩
abbrev S1x4096x1 : Shape := ⟨3, ![1, 4096, 1]⟩
abbrev S1x4x128 : Shape := ⟨3, ![1, 4, 128]⟩
abbrev S1x4092x128 : Shape := ⟨3, ![1, 4092, 128]⟩
abbrev S1x8x128 : Shape := ⟨3, ![1, 8, 128]⟩
abbrev S1x4088x128 : Shape := ⟨3, ![1, 4088, 128]⟩
abbrev S1x16x128 : Shape := ⟨3, ![1, 16, 128]⟩
abbrev S1x4080x128 : Shape := ⟨3, ![1, 4080, 128]⟩
abbrev S4x128x1x4096 : Shape := ⟨4, ![4, 128, 1, 4096]⟩
abbrev S1x1x512 : Shape := ⟨3, ![1, 1, 512]⟩
abbrev S4x1x4096x128 : Shape := ⟨4, ![4, 1, 4096, 128]⟩
abbrev S4096x512 : Shape := ⟨2, ![4096, 512]⟩

abbrev nBuf : Space → Nat
  | .hbm => 167
  | .vmem => 0
  | .smem => 0
  | _ => 0

abbrev hbmTy0_0 (i : Nat) : BufTy := match i % 128 with
  | 0 => ⟨S1x4096x512, .f32⟩
  | 1 => ⟨S4x128x128, .f32⟩
  | 2 => ⟨S1x512, .f32⟩
  | 3 => ⟨S1x4096x512, .f32⟩
  | 4 => ⟨S512, .f32⟩
  | 5 => ⟨S1x4096x4x128, .f32⟩
  | 6 => ⟨S_, .f32⟩
  | 7 => ⟨S_, .f32⟩
  | 8 => ⟨S1x4096x4x128, .f32⟩
  | 9 => ⟨S4096, .f32⟩
  | 10 => ⟨S_, .f32⟩
  | 11 => ⟨S4096, .f32⟩
  | 12 => ⟨S4096, .f32⟩
  | 13 => ⟨S1x4096x1x128, .f32⟩
  | 14 => ⟨S1x4096x128, .f32⟩
  | 15 => ⟨S1x2x128, .f32⟩
  | 16 => ⟨S_, .f32⟩
  | 17 => ⟨S1x2x128, .f32⟩
  | 18 => ⟨S1x4094x128, .f32⟩
  | 19 => ⟨S1x4096x128, .f32⟩
  | 20 => ⟨S_, .f32⟩
  | 21 => ⟨S1x2x128, .f32⟩
  | 22 => ⟨S_, .f32⟩
  | 23 => ⟨S4096, .f32⟩
  | 24 => ⟨S4096, .f32⟩
  | 25 => ⟨S1x4096x1, .f32⟩
  | 26 => ⟨S1x4096x128, .f32⟩
  | 27 => ⟨S1x4096x128, .f32⟩
  | 28 => ⟨S1x4096x128, .f32⟩
  | 29 => ⟨S1x4096x1x128, .f32⟩
  | 30 => ⟨S1x4096x128, .f32⟩
  | 31 => ⟨S1x4x128, .f32⟩
  | 32 => ⟨S_, .f32⟩
  | 33 => ⟨S1x4x128, .f32⟩
  | 34 => ⟨S1x4092x128, .f32⟩
  | 35 => ⟨S1x4096x128, .f32⟩
  | 36 => ⟨S_, .f32⟩
  | 37 => ⟨S1x4x128, .f32⟩
  | 38 => ⟨S_, .f32⟩
  | 39 => ⟨S4096, .f32⟩
  | 40 => ⟨S4096, .f32⟩
  | 41 => ⟨S1x4096x1, .f32⟩
  | 42 => ⟨S1x4096x128, .f32⟩
  | 43 => ⟨S1x4096x128, .f32⟩
  | 44 => ⟨S1x4096x128, .f32⟩
  | 45 => ⟨S1x4096x1x128, .f32⟩
  | 46 => ⟨S1x4096x128, .f32⟩
  | 47 => ⟨S1x8x128, .f32⟩
  | 48 => ⟨S_, .f32⟩
  | 49 => ⟨S1x8x128, .f32⟩
  | 50 => ⟨S1x4088x128, .f32⟩
  | 51 => ⟨S1x4096x128, .f32⟩
  | 52 => ⟨S_, .f32⟩
  | 53 => ⟨S1x8x128, .f32⟩
  | 54 => ⟨S_, .f32⟩
  | 55 => ⟨S4096, .f32⟩
  | 56 => ⟨S4096, .f32⟩
  | 57 => ⟨S1x4096x1, .f32⟩
  | 58 => ⟨S1x4096x128, .f32⟩
  | 59 => ⟨S1x4096x128, .f32⟩
  | 60 => ⟨S1x4096x128, .f32⟩
  | 61 => ⟨S1x4096x1x128, .f32⟩
  | 62 => ⟨S1x4096x128, .f32⟩
  | 63 => ⟨S1x16x128, .f32⟩
  | 64 => ⟨S_, .f32⟩
  | 65 => ⟨S1x16x128, .f32⟩
  | 66 => ⟨S1x4080x128, .f32⟩
  | 67 => ⟨S1x4096x128, .f32⟩
  | 68 => ⟨S_, .f32⟩
  | 69 => ⟨S1x16x128, .f32⟩
  | 70 => ⟨S_, .f32⟩
  | 71 => ⟨S4096, .f32⟩
  | 72 => ⟨S4096, .f32⟩
  | 73 => ⟨S1x4096x1, .f32⟩
  | 74 => ⟨S1x4096x128, .f32⟩
  | 75 => ⟨S1x4096x128, .f32⟩
  | 76 => ⟨S1x4096x128, .f32⟩
  | 77 => ⟨S1x4096x1x128, .f32⟩
  | 78 => ⟨S1x4096x1x128, .f32⟩
  | 79 => ⟨S1x4096x1x128, .f32⟩
  | 80 => ⟨S1x4096x1x128, .f32⟩
  | 81 => ⟨S1x4096x4x128, .f32⟩
  | 82 => ⟨S1x4096x4x128, .f32⟩
  | 83 => ⟨S4x128x1x4096, .f32⟩
  | 84 => ⟨S1x4096x4x128, .f32⟩
  | 85 => ⟨S1x4096x512, .f32⟩
  | 86 => ⟨S1x1x512, .f32⟩
  | 87 => ⟨S1x4096x512, .f32⟩
  | 88 => ⟨S1x4096x512, .f32⟩
  | 89 => ⟨S1x4096x512, .f32⟩
  | 90 => ⟨S_, .f32⟩
  | 91 => ⟨S1x512, .f32⟩
  | 92 => ⟨S1x1x512, .f32⟩
  | 93 => ⟨S1x4096x512, .f32⟩
  | 94 => ⟨S1x4096x512, .f32⟩
  | 95 => ⟨S_, .f32⟩
  | 96 => ⟨S512, .f32⟩
  | 97 => ⟨S1x4096x4x128, .f32⟩
  | 98 => ⟨S4x128x1x4096, .f32⟩
  | 99 => ⟨S4x1x4096x128, .f32⟩
  | 100 => ⟨S1x4096x4x128, .f32⟩
  | 101 => ⟨S4x128x128, .f32⟩
  | 102 => ⟨S4x128x128, .f32⟩
  | 103 => ⟨S1x4096x4x128, .f32⟩
  | 104 => ⟨S1x4096x1x128, .f32⟩
  | 105 => ⟨S1x4096x128, .f32⟩
  | 106 => ⟨S1x4096x1x128, .f32⟩
  | 107 => ⟨S1x4096x128, .f32⟩
  | 108 => ⟨S1x4096x1x128, .f32⟩
  | 109 => ⟨S1x4096x128, .f32⟩
  | 110 => ⟨S1x4096x1x128, .f32⟩
  | 111 => ⟨S1x4096x128, .f32⟩
  | 112 => ⟨S1x4096x128, .f32⟩
  | 113 => ⟨S1x4096x128, .f32⟩
  | 114 => ⟨S1x4096x128, .f32⟩
  | 115 => ⟨S1x16x128, .f32⟩
  | 116 => ⟨S1x4080x128, .f32⟩
  | 117 => ⟨S_, .f32⟩
  | 118 => ⟨S1x4096x128, .f32⟩
  | 119 => ⟨S1x4096x128, .f32⟩
  | 120 => ⟨S1x4096x1x128, .f32⟩
  | 121 => ⟨S_, .f32⟩
  | 122 => ⟨S1x4096x4x128, .f32⟩
  | 123 => ⟨S1x4096x128, .f32⟩
  | 124 => ⟨S1x4096x128, .f32⟩
  | 125 => ⟨S1x4096x128, .f32⟩
  | 126 => ⟨S1x8x128, .f32⟩
  | 127 => ⟨S1x4088x128, .f32⟩
  | _ => ⟨S1x4096x512, .f32⟩

abbrev hbmTy0_1 (i : Nat) : BufTy := match i % 128 with
  | 0 => ⟨S_, .f32⟩
  | 1 => ⟨S1x4096x128, .f32⟩
  | 2 => ⟨S1x4096x128, .f32⟩
  | 3 => ⟨S1x4096x1x128, .f32⟩
  | 4 => ⟨S_, .f32⟩
  | 5 => ⟨S1x4096x4x128, .f32⟩
  | 6 => ⟨S1x4096x4x128, .f32⟩
  | 7 => ⟨S1x4096x128, .f32⟩
  | 8 => ⟨S1x4096x128, .f32⟩
  | 9 => ⟨S1x4096x128, .f32⟩
  | 10 => ⟨S1x4x128, .f32⟩
  | 11 => ⟨S1x4092x128, .f32⟩
  | 12 => ⟨S_, .f32⟩
  | 13 => ⟨S1x4096x128, .f32⟩
  | 14 => ⟨S1x4096x128, .f32⟩
  | 15 => ⟨S1x4096x1x128, .f32⟩
  | 16 => ⟨S_, .f32⟩
  | 17 => ⟨S1x4096x4x128, .f32⟩
  | 18 => ⟨S1x4096x4x128, .f32⟩
  | 19 => ⟨S1x4096x128, .f32⟩
  | 20 => ⟨S1x4096x128, .f32⟩
  | 21 => ⟨S1x4096x128, .f32⟩
  | 22 => ⟨S1x2x128, .f32⟩
  | 23 => ⟨S1x4094x128, .f32⟩
  | 24 => ⟨S_, .f32⟩
  | 25 => ⟨S1x4096x128, .f32⟩
  | 26 => ⟨S1x4096x128, .f32⟩
  | 27 => ⟨S1x4096x1x128, .f32⟩
  | 28 => ⟨S_, .f32⟩
  | 29 => ⟨S1x4096x4x128, .f32⟩
  | 30 => ⟨S1x4096x4x128, .f32⟩
  | 31 => ⟨S_, .f32⟩
  | 32 => ⟨S_, .f32⟩
  | 33 => ⟨S1x4096x4x128, .f32⟩
  | 34 => ⟨S1x4096x4x128, .f32⟩
  | 35 => ⟨S1x4096x512, .f32⟩
  | 36 => ⟨S1x512, .f32⟩
  | 37 => ⟨S4096x512, .f32⟩
  | 38 => ⟨S4096x512, .bf16⟩
  | _ => ⟨S1x4096x512, .f32⟩

abbrev hbmTy (i : Nat) : BufTy := match i / 128 with
  | 0 => hbmTy0_0 i
  | 1 => hbmTy0_1 i
  | _ => ⟨S1x4096x512, .f32⟩

abbrev bufTy : (tb : Table) → Fin (tcTables nBuf tb) → BufTy
  | .hbm, ⟨i, _⟩ => hbmTy i
  | _, _ => ⟨S1x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_call0_cst : Ref sig .tc := ⟨.hbm, 6, rfl⟩
abbrev main_call0_call0_v0 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_4 : Ref sig .tc := ⟨.hbm, 36, rfl⟩
abbrev main_v25 : Ref sig .tc := ⟨.hbm, 37, rfl⟩
abbrev main_cst_5 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_6 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_7 : Ref sig .tc := ⟨.hbm, 52, rfl⟩
abbrev main_v38 : Ref sig .tc := ⟨.hbm, 53, rfl⟩
abbrev main_cst_8 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_cst_9 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_cst_10 : Ref sig .tc := ⟨.hbm, 68, rfl⟩
abbrev main_v51 : Ref sig .tc := ⟨.hbm, 69, rfl⟩
abbrev main_cst_11 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_cst_12 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_cst_13 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_cst_14 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_cst_15 : Ref sig .tc := ⟨.hbm, 121, rfl⟩
abbrev main_v99 : Ref sig .tc := ⟨.hbm, 122, rfl⟩
abbrev main_v100 : Ref sig .tc := ⟨.hbm, 123, rfl⟩
abbrev main_v101 : Ref sig .tc := ⟨.hbm, 124, rfl⟩
abbrev main_v102 : Ref sig .tc := ⟨.hbm, 125, rfl⟩
abbrev main_v103 : Ref sig .tc := ⟨.hbm, 126, rfl⟩
abbrev main_v104 : Ref sig .tc := ⟨.hbm, 127, rfl⟩
abbrev main_cst_16 : Ref sig .tc := ⟨.hbm, 128, rfl⟩
abbrev main_v105 : Ref sig .tc := ⟨.hbm, 129, rfl⟩
abbrev main_v106 : Ref sig .tc := ⟨.hbm, 130, rfl⟩
abbrev main_v107 : Ref sig .tc := ⟨.hbm, 131, rfl⟩
abbrev main_cst_17 : Ref sig .tc := ⟨.hbm, 132, rfl⟩
abbrev main_v108 : Ref sig .tc := ⟨.hbm, 133, rfl⟩
abbrev main_v109 : Ref sig .tc := ⟨.hbm, 134, rfl⟩
abbrev main_v110 : Ref sig .tc := ⟨.hbm, 135, rfl⟩
abbrev main_v111 : Ref sig .tc := ⟨.hbm, 136, rfl⟩
abbrev main_v112 : Ref sig .tc := ⟨.hbm, 137, rfl⟩
abbrev main_v113 : Ref sig .tc := ⟨.hbm, 138, rfl⟩
abbrev main_v114 : Ref sig .tc := ⟨.hbm, 139, rfl⟩
abbrev main_cst_18 : Ref sig .tc := ⟨.hbm, 140, rfl⟩
abbrev main_v115 : Ref sig .tc := ⟨.hbm, 141, rfl⟩
abbrev main_v116 : Ref sig .tc := ⟨.hbm, 142, rfl⟩
abbrev main_v117 : Ref sig .tc := ⟨.hbm, 143, rfl⟩
abbrev main_cst_19 : Ref sig .tc := ⟨.hbm, 144, rfl⟩
abbrev main_v118 : Ref sig .tc := ⟨.hbm, 145, rfl⟩
abbrev main_v119 : Ref sig .tc := ⟨.hbm, 146, rfl⟩
abbrev main_v120 : Ref sig .tc := ⟨.hbm, 147, rfl⟩
abbrev main_v121 : Ref sig .tc := ⟨.hbm, 148, rfl⟩
abbrev main_v122 : Ref sig .tc := ⟨.hbm, 149, rfl⟩
abbrev main_v123 : Ref sig .tc := ⟨.hbm, 150, rfl⟩
abbrev main_v124 : Ref sig .tc := ⟨.hbm, 151, rfl⟩
abbrev main_cst_20 : Ref sig .tc := ⟨.hbm, 152, rfl⟩
abbrev main_v125 : Ref sig .tc := ⟨.hbm, 153, rfl⟩
abbrev main_v126 : Ref sig .tc := ⟨.hbm, 154, rfl⟩
abbrev main_v127 : Ref sig .tc := ⟨.hbm, 155, rfl⟩
abbrev main_cst_21 : Ref sig .tc := ⟨.hbm, 156, rfl⟩
abbrev main_v128 : Ref sig .tc := ⟨.hbm, 157, rfl⟩
abbrev main_v129 : Ref sig .tc := ⟨.hbm, 158, rfl⟩
abbrev main_call1_call0_cst : Ref sig .tc := ⟨.hbm, 159, rfl⟩
abbrev main_call1_call0_v0 : Ref sig .tc := ⟨.hbm, 160, rfl⟩
abbrev main_v130 : Ref sig .tc := ⟨.hbm, 161, rfl⟩
abbrev main_v131 : Ref sig .tc := ⟨.hbm, 162, rfl⟩
abbrev main_v132 : Ref sig .tc := ⟨.hbm, 163, rfl⟩
abbrev main_v133 : Ref sig .tc := ⟨.hbm, 164, rfl⟩
abbrev main_v134 : Ref sig .tc := ⟨.hbm, 165, rfl⟩
abbrev main_v135 : Ref sig .tc := ⟨.hbm, 166, rfl⟩

abbrev nD : Nat := 1
abbrev τ : Topo := Topo.v7x

variable {F : FTy → Type} [FloatOps F]
-- ==== FfnBwd.lean ====
abbrev S1x4096x1024 : Shape := ⟨3, ![1, 4096, 1024]⟩
abbrev S1x1024 : Shape := ⟨2, ![1, 1024]⟩
abbrev S1024x2816 : Shape := ⟨2, ![1024, 2816]⟩
abbrev S2816x1024 : Shape := ⟨2, ![2816, 1024]⟩
abbrev S1024 : Shape := ⟨1, ![1024]⟩
abbrev S_ : Shape := ⟨0, ![]⟩
abbrev S1x4096 : Shape := ⟨2, ![1, 4096]⟩
abbrev S1x4096x1 : Shape := ⟨3, ![1, 4096, 1]⟩
abbrev S1x1x1024 : Shape := ⟨3, ![1, 1, 1024]⟩
abbrev S1x4096x2816 : Shape := ⟨3, ![1, 4096, 2816]⟩
abbrev S4x704x1024 : Shape := ⟨3, ![4, 704, 1024]⟩
abbrev S4096x1024 : Shape := ⟨2, ![4096, 1024]⟩
abbrev S4096x4x704 : Shape := ⟨3, ![4096, 4, 704]⟩
abbrev S4x4096x704 : Shape := ⟨3, ![4, 4096, 704]⟩
abbrev S512x1024 : Shape := ⟨2, ![512, 1024]⟩
abbrev S1x512x704 : Shape := ⟨3, ![1, 512, 704]⟩
abbrev S1x704x1024 : Shape := ⟨3, ![1, 704, 1024]⟩
abbrev S256x1024 : Shape := ⟨2, ![256, 1024]⟩
abbrev S704x1024 : Shape := ⟨2, ![704, 1024]⟩
abbrev S256x704 : Shape := ⟨2, ![256, 704]⟩
abbrev S1x256x704 : Shape := ⟨3, ![1, 256, 704]⟩
abbrev S256 : Shape := ⟨1, ![256]⟩
abbrev S256x1 : Shape := ⟨2, ![256, 1]⟩

abbrev nBuf : Space → Nat
  | .hbm => 71
  | .vmem => 31
  | .smem => 0
  | _ => 0

abbrev bufTy : (tb : Table) → Fin (tcTables nBuf tb) → BufTy
  | .hbm, ⟨0, _⟩ => ⟨S1x4096x1024, .f32⟩
  | .hbm, ⟨1, _⟩ => ⟨S1x4096x1024, .f32⟩
  | .hbm, ⟨2, _⟩ => ⟨S1x1024, .f32⟩
  | .hbm, ⟨3, _⟩ => ⟨S1x1024, .f32⟩
  | .hbm, ⟨4, _⟩ => ⟨S1024x2816, .f32⟩
  | .hbm, ⟨5, _⟩ => ⟨S1024x2816, .f32⟩
  | .hbm, ⟨6, _⟩ => ⟨S2816x1024, .f32⟩
  | .hbm, ⟨7, _⟩ => ⟨S1x4096x1024, .f32⟩
  | .hbm, ⟨8, _⟩ => ⟨S1x4096x1024, .f32⟩
  | .hbm, ⟨9, _⟩ => ⟨S1024, .f32⟩
  | .hbm, ⟨10, _⟩ => ⟨S1024, .f32⟩
  | .hbm, ⟨11, _⟩ => ⟨S1x4096x1024, .f32⟩
  | .hbm, ⟨12, _⟩ => ⟨S_, .f32⟩
  | .hbm, ⟨13, _⟩ => ⟨S1x4096, .f32⟩
  | .hbm, ⟨14, _⟩ => ⟨S1x4096x1, .f32⟩
  | .hbm, ⟨15, _⟩ => ⟨S_, .f32⟩
  | .hbm, ⟨16, _⟩ => ⟨S1x4096x1, .f32⟩
  | .hbm, ⟨17, _⟩ => ⟨S1x4096x1, .f32⟩
  | .hbm, ⟨18, _⟩ => ⟨S_, .f32⟩
  | .hbm, ⟨19, _⟩ => ⟨S1x4096x1, .f32⟩
  | .hbm, ⟨20, _⟩ => ⟨S1x4096x1, .f32⟩
  | .hbm, ⟨21, _⟩ => ⟨S1x4096x1, .f32⟩
  | .hbm, ⟨22, _⟩ => ⟨S1x4096x1024, .f32⟩
  | .hbm, ⟨23, _⟩ => ⟨S1x4096x1024, .f32⟩
  | .hbm, ⟨24, _⟩ => ⟨S1x1x1024, .f32⟩
  | .hbm, ⟨25, _⟩ => ⟨S1x4096x1024, .f32⟩
  | .hbm, ⟨26, _⟩ => ⟨S1x4096x1024, .f32⟩
  | .hbm, ⟨27, _⟩ => ⟨S1x4096x1024, .f32⟩
  | .hbm, ⟨28, _⟩ => ⟨S1x4096x1024, .f32⟩
  | .hbm, ⟨29, _⟩ => ⟨S_, .f32⟩
  | .hbm, ⟨30, _⟩ => ⟨S1x4096, .f32⟩
  | .hbm, ⟨31, _⟩ => ⟨S1x4096x1, .f32⟩
  | .hbm, ⟨32, _⟩ => ⟨S_, .f32⟩
  | .hbm, ⟨33, _⟩ => ⟨S1x4096x1, .f32⟩
  | .hbm, ⟨34, _⟩ => ⟨S1x4096x1, .f32⟩
  | .hbm, ⟨35, _⟩ => ⟨S_, .f32⟩
  | .hbm, ⟨36, _⟩ => ⟨S1x4096x1, .f32⟩
  | .hbm, ⟨37, _⟩ => ⟨S1x4096x1, .f32⟩
  | .hbm, ⟨38, _⟩ => ⟨S1x4096x1, .f32⟩
  | .hbm, ⟨39, _⟩ => ⟨S1x4096x1024, .f32⟩
  | .hbm, ⟨40, _⟩ => ⟨S1x4096x1024, .f32⟩
  | .hbm, ⟨41, _⟩ => ⟨S1x1x1024, .f32⟩
  | .hbm, ⟨42, _⟩ => ⟨S1x4096x1024, .f32⟩
  | .hbm, ⟨43, _⟩ => ⟨S1x4096x1024, .f32⟩
  | .hbm, ⟨44, _⟩ => ⟨S1x4096x2816, .f32⟩
  | .hbm, ⟨45, _⟩ => ⟨S1x4096x2816, .f32⟩
  | .hbm, ⟨46, _⟩ => ⟨S2816x1024, .f32⟩
  | .hbm, ⟨47, _⟩ => ⟨S2816x1024, .f32⟩
  | .hbm, ⟨48, _⟩ => ⟨S2816x1024, .bf16⟩
  | .hbm, ⟨49, _⟩ => ⟨S4x704x1024, .bf16⟩
  | .hbm, ⟨50, _⟩ => ⟨S2816x1024, .bf16⟩
  | .hbm, ⟨51, _⟩ => ⟨S4x704x1024, .bf16⟩
  | .hbm, ⟨52, _⟩ => ⟨S2816x1024, .bf16⟩
  | .hbm, ⟨53, _⟩ => ⟨S4x704x1024, .bf16⟩
  | .hbm, ⟨54, _⟩ => ⟨S4096x1024, .f32⟩
  | .hbm, ⟨55, _⟩ => ⟨S4096x1024, .bf16⟩
  | .hbm, ⟨56, _⟩ => ⟨S4096x4x704, .f32⟩
  | .hbm, ⟨57, _⟩ => ⟨S4x4096x704, .f32⟩
  | .hbm, ⟨58, _⟩ => ⟨S4x4096x704, .bf16⟩
  | .hbm, ⟨59, _⟩ => ⟨S4096x4x704, .f32⟩
  | .hbm, ⟨60, _⟩ => ⟨S4x4096x704, .f32⟩
  | .hbm, ⟨61, _⟩ => ⟨S4x4096x704, .bf16⟩
  | .hbm, ⟨62, _⟩ => ⟨S4096x1024, .f32⟩
  | .hbm, ⟨63, _⟩ => ⟨S4096x1024, .f32⟩
  | .hbm, ⟨64, _⟩ => ⟨S4096x1024, .f32⟩
  | .hbm, ⟨65, _⟩ => ⟨S4x4096x704, .bf16⟩
  | .hbm, ⟨66, _⟩ => ⟨S4x4096x704, .bf16⟩
  | .hbm, ⟨67, _⟩ => ⟨S4096x1024, .f32⟩
  | .hbm, ⟨68, _⟩ => ⟨S4096x1024, .bf16⟩
  | .hbm, ⟨69, _⟩ => ⟨S1x1024, .f32⟩
  | .hbm, ⟨70, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S1x512x704, .bf16⟩
  | .local _ .vmem, ⟨3, _⟩ => ⟨S1x512x704, .bf16⟩
  | .local _ .vmem, ⟨4, _⟩ => ⟨S1x512x704, .bf16⟩
  | .local _ .vmem, ⟨5, _⟩ => ⟨S1x512x704, .bf16⟩
  | .local _ .vmem, ⟨6, _⟩ => ⟨S1x704x1024, .bf16⟩
  | .local _ .vmem, ⟨7, _⟩ => ⟨S1x704x1024, .bf16⟩
  | .local _ .vmem, ⟨8, _⟩ => ⟨S1x704x1024, .bf16⟩
  | .local _ .vmem, ⟨9, _⟩ => ⟨S1x704x1024, .bf16⟩
  | .local _ .vmem, ⟨10, _⟩ => ⟨S1x704x1024, .bf16⟩
  | .local _ .vmem, ⟨11, _⟩ => ⟨S1x704x1024, .bf16⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | .local _ .vmem, ⟨17, _⟩ => ⟨S512x1024, .f32⟩
  | .local _ .vmem, ⟨18, _⟩ => ⟨S1x1024, .f32⟩
  | .local _ .vmem, ⟨19, _⟩ => ⟨S1x1024, .f32⟩
  | .local _ .vmem, ⟨20, _⟩ => ⟨S1x512x704, .bf16⟩
  | .local _ .vmem, ⟨21, _⟩ => ⟨S1x512x704, .bf16⟩
  | .local _ .vmem, ⟨22, _⟩ => ⟨S1x512x704, .bf16⟩
  | .local _ .vmem, ⟨23, _⟩ => ⟨S1x512x704, .bf16⟩
  | .local _ .vmem, ⟨24, _⟩ => ⟨S512x1024, .f32⟩
  | .local _ .vmem, ⟨25, _⟩ => ⟨S512x1024, .f32⟩
  | .local _ .vmem, ⟨26, _⟩ => ⟨S512x1024, .bf16⟩
  | .local _ .vmem, ⟨27, _⟩ => ⟨S512x1024, .bf16⟩
  | .local _ .vmem, ⟨28, _⟩ => ⟨S1x1024, .f32⟩
  | .local _ .vmem, ⟨29, _⟩ => ⟨S1x1024, .f32⟩
  | .local _ .vmem, ⟨30, _⟩ => ⟨S4096x1024, .f32⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_cst_1 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_2 : Ref sig .tc := ⟨.hbm, 29, rfl⟩
abbrev main_v17 : Ref sig .tc := ⟨.hbm, 30, rfl⟩
abbrev main_v18 : Ref sig .tc := ⟨.hbm, 31, rfl⟩
abbrev main_cst_3 : Ref sig .tc := ⟨.hbm, 32, rfl⟩
abbrev main_v19 : Ref sig .tc := ⟨.hbm, 33, rfl⟩
abbrev main_v20 : Ref sig .tc := ⟨.hbm, 34, rfl⟩
abbrev main_cst_4 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50_0 : Ref sig .tc := ⟨.hbm, 65, rfl⟩
abbrev main_v50_1 : Ref sig .tc := ⟨.hbm, 66, rfl⟩
abbrev main_v50_2 : Ref sig .tc := ⟨.hbm, 67, rfl⟩
abbrev main_v50_3 : Ref sig .tc := ⟨.hbm, 68, rfl⟩
abbrev main_v50_4 : Ref sig .tc := ⟨.hbm, 69, rfl⟩
abbrev main_v50_5 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_stg16_0 : Ref sig .tc := ⟨.vmem, 29, rfl⟩
abbrev cc0_scratch0 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27
abbrev cc0_sem15_0 : DmaSem sig := 28
abbrev cc0_sem16_0 : DmaSem sig := 29

abbrev nD : Nat := 1
abbrev τ : Topo := Topo.v7x

variable {F : FTy → Type} [FloatOps F]

abbrev grid0 : Pipeline.Grid := ⟨2, ![4, 8], ![false, false]⟩

def k0_mult1 (i : grid0.Coords) : BitVec 32 :=
  let arg1 : BitVec 32 := BitVec.ofNat 32 (i 1).val
  let c512_i32 : BitVec 32 := 512#32
  let v1 : BitVec 32 := Scalar.muli arg1 c512_i32
  v1
def k0_cond2 (i : grid0.Coords) : BitVec 1 :=
  let arg0 : BitVec 32 := BitVec.ofNat 32 (i 0).val
  let c3_i32 : BitVec 32 := 3#32
  let v8 : BitVec 1 := Scalar.cmpi .slt arg0 c3_i32
  let v9 : BitVec 32 := Scalar.extui v8
  let c0_i32_3 : BitVec 32 := 0#32
  let v10 : BitVec 1 := Scalar.cmpi .ne v9 c0_i32_3
  v10

def k0_off1 (i : grid0.Coords) (c0_i32_37 : BitVec 32) : Fin 2 → Nat :=
  let arg1 : BitVec 32 := BitVec.ofNat 32 (i 1).val
  let c512_i32 : BitVec 32 := 512#32
  let v1 : BitVec 32 := Scalar.muli arg1 c512_i32
  let v2 : BitVec 32 := v1
  let v56 : BitVec 32 := Scalar.addi v2 c0_i32_37
  let v57 : Index := Scalar.indexCast v56
  let c0_38 : Index := 0#32
  ![v57.toNat, 0]
def k0_cond3 (i : grid0.Coords) : BitVec 1 :=
  let arg0 : BitVec 32 := BitVec.ofNat 32 (i 0).val
  let c3_i32_4 : BitVec 32 := 3#32
  let v11 : BitVec 1 := Scalar.cmpi .eq arg0 c3_i32_4
  let v12 : BitVec 32 := Scalar.extui v11
  let c0_i32_5 : BitVec 32 := 0#32
  let v13 : BitVec 1 := Scalar.cmpi .ne v12 c0_i32_5
  v13

def k0_off2 (i : grid0.Coords) (c0_i32_37 : BitVec 32) : Fin 2 → Nat :=
  let arg1 : BitVec 32 := BitVec.ofNat 32 (i 1).val
  let c512_i32 : BitVec 32 := 512#32
  let v1 : BitVec 32 := Scalar.muli arg1 c512_i32
  let v2 : BitVec 32 := v1
  let v56 : BitVec 32 := Scalar.addi v2 c0_i32_37
  let v57 : Index := Scalar.indexCast v56
  let c0_38 : Index := 0#32
  ![v57.toNat, 0]
def k0_cond1 (i : grid0.Coords) : BitVec 1 :=
  let arg1 : BitVec 32 := BitVec.ofNat 32 (i 1).val
  let c0_i32_0 : BitVec 32 := 0#32
  let v3 : BitVec 1 := Scalar.cmpi .eq arg1 c0_i32_0
  let arg0 : BitVec 32 := BitVec.ofNat 32 (i 0).val
  let c0_i32_1 : BitVec 32 := 0#32
  let v4 : BitVec 1 := Scalar.cmpi .eq arg0 c0_i32_1
  let v5 : BitVec 1 := Scalar.andi v3 v4
  let v6 : BitVec 32 := Scalar.extui v5
  let c0_i32_2 : BitVec 32 := 0#32
  let v7 : BitVec 1 := Scalar.cmpi .ne v6 c0_i32_2
  v7

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.divsi arg0 c3_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg0 c3_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let v17 : BitVec 32 := Scalar.muli arg1 v16
  let c0_i32_4 : BitVec 32 := 0#32
  let c0_i32_5 : BitVec 32 := 0#32
  ![v17.toNat, c0_i32_4.toNat]

def cc0_transform_7 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.divsi arg0 c3_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg0 c3_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let v17 : BitVec 32 := Scalar.muli arg1 v16
  let c0_i32_4 : BitVec 32 := 0#32
  let c0_i32_5 : BitVec 32 := 0#32
  ![v17.toNat, c0_i32_4.toNat]

def cc0_transform_8 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.divsi arg0 c3_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg0 c3_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let v17 : BitVec 32 := Scalar.muli arg1 v16
  let c0_i32_4 : BitVec 32 := 0#32
  let c0_i32_5 : BitVec 32 := 0#32
  ![v17.toNat, c0_i32_4.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.divsi arg0 c3_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg0 c3_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let v17 : BitVec 32 := Scalar.muli arg1 v16
  let c0_i32_4 : BitVec 32 := 0#32
  let c0_i32_5 : BitVec 32 := 0#32
  ![v17.toNat, c0_i32_4.toNat]

def cc0_transform_14 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.divsi arg0 c3_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg0 c3_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let v17 : BitVec 32 := Scalar.muli arg1 v16
  let c0_i32_4 : BitVec 32 := 0#32
  let c0_i32_5 : BitVec 32 := 0#32
  ![v17.toNat, c0_i32_4.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x512x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x704x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x704x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x704x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x512x704 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x512x704 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]
-- ==== FfnRefIdeal.lean ====
abbrev S1x4096x1024 : Shape := ⟨3, ![1, 4096, 1024]⟩
abbrev S1x1024 : Shape := ⟨2, ![1, 1024]⟩
abbrev S1024x2816 : Shape := ⟨2, ![1024, 2816]⟩
abbrev S2816x1024 : Shape := ⟨2, ![2816, 1024]⟩
abbrev S1024 : Shape := ⟨1, ![1024]⟩
abbrev S_ : Shape := ⟨0, ![]⟩
abbrev S1x4096 : Shape := ⟨2, ![1, 4096]⟩
abbrev S1x4096x1 : Shape := ⟨3, ![1, 4096, 1]⟩
abbrev S1x1x1024 : Shape := ⟨3, ![1, 1, 1024]⟩
abbrev S1x4096x2816 : Shape := ⟨3, ![1, 4096, 2816]⟩
abbrev S4096 : Shape := ⟨1, ![4096]⟩
abbrev S4096x4x704 : Shape := ⟨3, ![4096, 4, 704]⟩
abbrev S4x4096x704 : Shape := ⟨3, ![4, 4096, 704]⟩
abbrev S4096x1024 : Shape := ⟨2, ![4096, 1024]⟩

abbrev nBuf : Space → Nat
  | .hbm => 144
  | .vmem => 0
  | .smem => 0
  | _ => 0

abbrev hbmTy0_0 (i : Nat) : BufTy := match i % 128 with
  | 0 => ⟨S1x4096x1024, .f32⟩
  | 1 => ⟨S1x4096x1024, .f32⟩
  | 2 => ⟨S1x1024, .f32⟩
  | 3 => ⟨S1x1024, .f32⟩
  | 4 => ⟨S1024x2816, .f32⟩
  | 5 => ⟨S1024x2816, .f32⟩
  | 6 => ⟨S2816x1024, .f32⟩
  | 7 => ⟨S1x4096x1024, .f32⟩
  | 8 => ⟨S1x4096x1024, .f32⟩
  | 9 => ⟨S1024, .f32⟩
  | 10 => ⟨S1024, .f32⟩
  | 11 => ⟨S1x4096x1024, .f32⟩
  | 12 => ⟨S_, .f32⟩
  | 13 => ⟨S1x4096, .f32⟩
  | 14 => ⟨S1x4096x1, .f32⟩
  | 15 => ⟨S_, .f32⟩
  | 16 => ⟨S1x4096x1, .f32⟩
  | 17 => ⟨S1x4096x1, .f32⟩
  | 18 => ⟨S_, .f32⟩
  | 19 => ⟨S1x4096x1, .f32⟩
  | 20 => ⟨S1x4096x1, .f32⟩
  | 21 => ⟨S1x4096x1, .f32⟩
  | 22 => ⟨S1x4096x1, .f32⟩
  | 23 => ⟨S_, .f32⟩
  | 24 => ⟨S1x4096x1, .f32⟩
  | 25 => ⟨S1x4096x1, .f32⟩
  | 26 => ⟨S1x4096x1024, .f32⟩
  | 27 => ⟨S1x4096x1024, .f32⟩
  | 28 => ⟨S1x1x1024, .f32⟩
  | 29 => ⟨S1x4096x1024, .f32⟩
  | 30 => ⟨S1x4096x1024, .f32⟩
  | 31 => ⟨S1x4096x1024, .f32⟩
  | 32 => ⟨S1x4096x1024, .f32⟩
  | 33 => ⟨S_, .f32⟩
  | 34 => ⟨S1x4096, .f32⟩
  | 35 => ⟨S1x4096x1, .f32⟩
  | 36 => ⟨S_, .f32⟩
  | 37 => ⟨S1x4096x1, .f32⟩
  | 38 => ⟨S1x4096x1, .f32⟩
  | 39 => ⟨S_, .f32⟩
  | 40 => ⟨S1x4096x1, .f32⟩
  | 41 => ⟨S1x4096x1, .f32⟩
  | 42 => ⟨S1x4096x1, .f32⟩
  | 43 => ⟨S1x4096x1, .f32⟩
  | 44 => ⟨S_, .f32⟩
  | 45 => ⟨S1x4096x1, .f32⟩
  | 46 => ⟨S1x4096x1, .f32⟩
  | 47 => ⟨S1x4096x1024, .f32⟩
  | 48 => ⟨S1x4096x1024, .f32⟩
  | 49 => ⟨S1x1x1024, .f32⟩
  | 50 => ⟨S1x4096x1024, .f32⟩
  | 51 => ⟨S1x4096x1024, .f32⟩
  | 52 => ⟨S1x4096x2816, .f32⟩
  | 53 => ⟨S1x4096x2816, .f32⟩
  | 54 => ⟨S1x4096x2816, .f32⟩
  | 55 => ⟨S1x4096x2816, .f32⟩
  | 56 => ⟨S_, .f32⟩
  | 57 => ⟨S1x4096x2816, .f32⟩
  | 58 => ⟨S1x4096x2816, .f32⟩
  | 59 => ⟨S_, .f32⟩
  | 60 => ⟨S1x4096x2816, .f32⟩
  | 61 => ⟨S1x4096x2816, .f32⟩
  | 62 => ⟨S_, .f32⟩
  | 63 => ⟨S1x4096x2816, .f32⟩
  | 64 => ⟨S1x4096x2816, .f32⟩
  | 65 => ⟨S1x4096x2816, .f32⟩
  | 66 => ⟨S1x4096x2816, .f32⟩
  | 67 => ⟨S1x4096x2816, .f32⟩
  | 68 => ⟨S1x4096x1024, .f32⟩
  | 69 => ⟨S1x4096x2816, .f32⟩
  | 70 => ⟨S1x4096x2816, .f32⟩
  | 71 => ⟨S1x4096x2816, .f32⟩
  | 72 => ⟨S1x4096x2816, .f32⟩
  | 73 => ⟨S1x4096x2816, .f32⟩
  | 74 => ⟨S1x4096x2816, .f32⟩
  | 75 => ⟨S1x4096x2816, .f32⟩
  | 76 => ⟨S1x4096x1024, .f32⟩
  | 77 => ⟨S1x4096x1024, .f32⟩
  | 78 => ⟨S1x4096x1024, .f32⟩
  | 79 => ⟨S1x4096x1024, .f32⟩
  | 80 => ⟨S_, .f32⟩
  | 81 => ⟨S1x1024, .f32⟩
  | 82 => ⟨S1x1x1024, .f32⟩
  | 83 => ⟨S1x4096x1024, .f32⟩
  | 84 => ⟨S1x4096x1024, .f32⟩
  | 85 => ⟨S_, .f32⟩
  | 86 => ⟨S1024, .f32⟩
  | 87 => ⟨S1x4096x1024, .f32⟩
  | 88 => ⟨S_, .f32⟩
  | 89 => ⟨S1x4096, .f32⟩
  | 90 => ⟨S1x4096x1, .f32⟩
  | 91 => ⟨S1x4096x1024, .f32⟩
  | 92 => ⟨S1x4096x1024, .f32⟩
  | 93 => ⟨S1x4096x1024, .f32⟩
  | 94 => ⟨S1x4096x1, .f32⟩
  | 95 => ⟨S_, .f32⟩
  | 96 => ⟨S1x4096x1, .f32⟩
  | 97 => ⟨S1x4096x1, .f32⟩
  | 98 => ⟨S_, .f32⟩
  | 99 => ⟨S4096, .f32⟩
  | 100 => ⟨S1x4096, .f32⟩
  | 101 => ⟨S1x4096x1024, .f32⟩
  | 102 => ⟨S1x4096x1024, .f32⟩
  | 103 => ⟨S1x4096x1024, .f32⟩
  | 104 => ⟨S1x4096x1024, .f32⟩
  | 105 => ⟨S1x4096x1024, .f32⟩
  | 106 => ⟨S1x4096x1024, .f32⟩
  | 107 => ⟨S1x4096x1024, .f32⟩
  | 108 => ⟨S_, .f32⟩
  | 109 => ⟨S1x1024, .f32⟩
  | 110 => ⟨S1x1x1024, .f32⟩
  | 111 => ⟨S1x4096x1024, .f32⟩
  | 112 => ⟨S1x4096x1024, .f32⟩
  | 113 => ⟨S_, .f32⟩
  | 114 => ⟨S1024, .f32⟩
  | 115 => ⟨S1x4096x1024, .f32⟩
  | 116 => ⟨S_, .f32⟩
  | 117 => ⟨S1x4096, .f32⟩
  | 118 => ⟨S1x4096x1, .f32⟩
  | 119 => ⟨S1x4096x1024, .f32⟩
  | 120 => ⟨S1x4096x1024, .f32⟩
  | 121 => ⟨S1x4096x1, .f32⟩
  | 122 => ⟨S_, .f32⟩
  | 123 => ⟨S1x4096x1, .f32⟩
  | 124 => ⟨S1x4096x1, .f32⟩
  | 125 => ⟨S_, .f32⟩
  | 126 => ⟨S4096, .f32⟩
  | 127 => ⟨S1x4096, .f32⟩
  | _ => ⟨S1x4096x1024, .f32⟩

abbrev hbmTy0_1 (i : Nat) : BufTy := match i % 128 with
  | 0 => ⟨S1x4096x1024, .f32⟩
  | 1 => ⟨S1x4096x1024, .f32⟩
  | 2 => ⟨S1x4096x1024, .f32⟩
  | 3 => ⟨S1x4096x1024, .f32⟩
  | 4 => ⟨S1x4096x1024, .f32⟩
  | 5 => ⟨S1x1024, .f32⟩
  | 6 => ⟨S1x1024, .f32⟩
  | 7 => ⟨S4096x4x704, .f32⟩
  | 8 => ⟨S4x4096x704, .f32⟩
  | 9 => ⟨S4x4096x704, .bf16⟩
  | 10 => ⟨S4096x4x704, .f32⟩
  | 11 => ⟨S4x4096x704, .f32⟩
  | 12 => ⟨S4x4096x704, .bf16⟩
  | 13 => ⟨S4096x1024, .f32⟩
  | 14 => ⟨S4096x1024, .f32⟩
  | 15 => ⟨S4096x1024, .bf16⟩
  | _ => ⟨S1x4096x1024, .f32⟩

abbrev hbmTy (i : Nat) : BufTy := match i / 128 with
  | 0 => hbmTy0_0 i
  | 1 => hbmTy0_1 i
  | _ => ⟨S1x4096x1024, .f32⟩

abbrev bufTy : (tb : Table) → Fin (tcTables nBuf tb) → BufTy
  | .hbm, ⟨i, _⟩ => hbmTy i
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_cst_1 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_2 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_3 : Ref sig .tc := ⟨.hbm, 33, rfl⟩
abbrev main_v20 : Ref sig .tc := ⟨.hbm, 34, rfl⟩
abbrev main_v21 : Ref sig .tc := ⟨.hbm, 35, rfl⟩
abbrev main_cst_4 : Ref sig .tc := ⟨.hbm, 36, rfl⟩
abbrev main_v22 : Ref sig .tc := ⟨.hbm, 37, rfl⟩
abbrev main_v23 : Ref sig .tc := ⟨.hbm, 38, rfl⟩
abbrev main_cst_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_6 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_call0_v0 : Ref sig .tc := ⟨.hbm, 54, rfl⟩
abbrev main_call0_v1 : Ref sig .tc := ⟨.hbm, 55, rfl⟩
abbrev main_call0_cst : Ref sig .tc := ⟨.hbm, 56, rfl⟩
abbrev main_call0_v2 : Ref sig .tc := ⟨.hbm, 57, rfl⟩
abbrev main_call0_v3 : Ref sig .tc := ⟨.hbm, 58, rfl⟩
abbrev main_call0_cst_0 : Ref sig .tc := ⟨.hbm, 59, rfl⟩
abbrev main_call0_v4 : Ref sig .tc := ⟨.hbm, 60, rfl⟩
abbrev main_v37_2 : Ref sig .tc := ⟨.hbm, 61, rfl⟩
abbrev main_call0_cst_1 : Ref sig .tc := ⟨.hbm, 62, rfl⟩
abbrev main_call0_v6 : Ref sig .tc := ⟨.hbm, 63, rfl⟩
abbrev main_call0_v7 : Ref sig .tc := ⟨.hbm, 64, rfl⟩
abbrev main_v37_1 : Ref sig .tc := ⟨.hbm, 65, rfl⟩
abbrev main_v37_0 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_call1_v0 : Ref sig .tc := ⟨.hbm, 72, rfl⟩
abbrev main_call1_v1 : Ref sig .tc := ⟨.hbm, 73, rfl⟩
abbrev main_call1_v2 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_cst_7 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_cst_8 : Ref sig .tc := ⟨.hbm, 85, rfl⟩
abbrev main_v52 : Ref sig .tc := ⟨.hbm, 86, rfl⟩
abbrev main_v53 : Ref sig .tc := ⟨.hbm, 87, rfl⟩
abbrev main_cst_9 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_cst_10 : Ref sig .tc := ⟨.hbm, 95, rfl⟩
abbrev main_v60 : Ref sig .tc := ⟨.hbm, 96, rfl⟩
abbrev main_v61 : Ref sig .tc := ⟨.hbm, 97, rfl⟩
abbrev main_cst_11 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_cst_12 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_cst_13 : Ref sig .tc := ⟨.hbm, 113, rfl⟩
abbrev main_v75 : Ref sig .tc := ⟨.hbm, 114, rfl⟩
abbrev main_v76 : Ref sig .tc := ⟨.hbm, 115, rfl⟩
abbrev main_cst_14 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_cst_15 : Ref sig .tc := ⟨.hbm, 122, rfl⟩
abbrev main_v82 : Ref sig .tc := ⟨.hbm, 123, rfl⟩
abbrev main_v83 : Ref sig .tc := ⟨.hbm, 124, rfl⟩
abbrev main_cst_16 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩

abbrev nD : Nat := 1
abbrev τ : Topo := Topo.v7x

variable {F : FTy → Type} [FloatOps F]
-- ==== FfnW.lean ====
abbrev S1x4096x1024 : Shape := ⟨3, ![1, 4096, 1024]⟩
abbrev S1x1024 : Shape := ⟨2, ![1, 1024]⟩
abbrev S1024x2816 : Shape := ⟨2, ![1024, 2816]⟩
abbrev S2816x1024 : Shape := ⟨2, ![2816, 1024]⟩
abbrev S1024 : Shape := ⟨1, ![1024]⟩
abbrev S_ : Shape := ⟨0, ![]⟩
abbrev S1x4096 : Shape := ⟨2, ![1, 4096]⟩
abbrev S1x4096x1 : Shape := ⟨3, ![1, 4096, 1]⟩
abbrev S1x1x1024 : Shape := ⟨3, ![1, 1, 1024]⟩
abbrev S1x4096x2816 : Shape := ⟨3, ![1, 4096, 2816]⟩
abbrev S4096x1024 : Shape := ⟨2, ![4096, 1024]⟩
abbrev S4096x4x704 : Shape := ⟨3, ![4096, 4, 704]⟩
abbrev S4x4096x704 : Shape := ⟨3, ![4, 4096, 704]⟩
abbrev S1 : Shape := ⟨1, ![1]⟩
abbrev S4x352x1024 : Shape := ⟨3, ![4, 352, 1024]⟩
abbrev S2048x1024 : Shape := ⟨2, ![2048, 1024]⟩
abbrev S1x2048x704 : Shape := ⟨3, ![1, 2048, 704]⟩
abbrev S1x352x1024 : Shape := ⟨3, ![1, 352, 1024]⟩
abbrev S704x1024 : Shape := ⟨2, ![704, 1024]⟩
abbrev S2048x704 : Shape := ⟨2, ![2048, 704]⟩
abbrev S352x1024 : Shape := ⟨2, ![352, 1024]⟩

abbrev nBuf : Space → Nat
  | .hbm => 78
  | .vmem => 25
  | .smem => 1
  | _ => 0

abbrev bufTy : (tb : Table) → Fin (tcTables nBuf tb) → BufTy
  | .hbm, ⟨0, _⟩ => ⟨S1x4096x1024, .f32⟩
  | .hbm, ⟨1, _⟩ => ⟨S1x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1x4096x1024, .f32⟩
  | .hbm, ⟨6, _⟩ => ⟨S1024, .f32⟩
  | .hbm, ⟨7, _⟩ => ⟨S1x4096x1024, .f32⟩
  | .hbm, ⟨8, _⟩ => ⟨S_, .f32⟩
  | .hbm, ⟨9, _⟩ => ⟨S1x4096, .f32⟩
  | .hbm, ⟨10, _⟩ => ⟨S1x4096x1, .f32⟩
  | .hbm, ⟨11, _⟩ => ⟨S_, .f32⟩
  | .hbm, ⟨12, _⟩ => ⟨S1x4096x1, .f32⟩
  | .hbm, ⟨13, _⟩ => ⟨S1x4096x1, .f32⟩
  | .hbm, ⟨14, _⟩ => ⟨S_, .f32⟩
  | .hbm, ⟨15, _⟩ => ⟨S1x4096x1, .f32⟩
  | .hbm, ⟨16, _⟩ => ⟨S1x4096x1, .f32⟩
  | .hbm, ⟨17, _⟩ => ⟨S1x4096x1, .f32⟩
  | .hbm, ⟨18, _⟩ => ⟨S1x4096x1024, .f32⟩
  | .hbm, ⟨19, _⟩ => ⟨S1x4096x1024, .f32⟩
  | .hbm, ⟨20, _⟩ => ⟨S1x1x1024, .f32⟩
  | .hbm, ⟨21, _⟩ => ⟨S1x4096x1024, .f32⟩
  | .hbm, ⟨22, _⟩ => ⟨S1x4096x1024, .f32⟩
  | .hbm, ⟨23, _⟩ => ⟨S1x4096x2816, .f32⟩
  | .hbm, ⟨24, _⟩ => ⟨S1x4096x2816, .f32⟩
  | .hbm, ⟨25, _⟩ => ⟨S1x4096x2816, .f32⟩
  | .hbm, ⟨26, _⟩ => ⟨S1x4096x2816, .f32⟩
  | .hbm, ⟨27, _⟩ => ⟨S_, .f32⟩
  | .hbm, ⟨28, _⟩ => ⟨S1x4096x2816, .f32⟩
  | .hbm, ⟨29, _⟩ => ⟨S1x4096x2816, .f32⟩
  | .hbm, ⟨30, _⟩ => ⟨S_, .f32⟩
  | .hbm, ⟨31, _⟩ => ⟨S1x4096x2816, .f32⟩
  | .hbm, ⟨32, _⟩ => ⟨S1x4096x2816, .f32⟩
  | .hbm, ⟨33, _⟩ => ⟨S_, .f32⟩
  | .hbm, ⟨34, _⟩ => ⟨S1x4096x2816, .f32⟩
  | .hbm, ⟨35, _⟩ => ⟨S1x4096x2816, .f32⟩
  | .hbm, ⟨36, _⟩ => ⟨S1x4096x2816, .f32⟩
  | .hbm, ⟨37, _⟩ => ⟨S1x4096x2816, .f32⟩
  | .hbm, ⟨38, _⟩ => ⟨S1x4096x2816, .f32⟩
  | .hbm, ⟨39, _⟩ => ⟨S1x4096x1024, .f32⟩
  | .hbm, ⟨40, _⟩ => ⟨S1x4096x2816, .f32⟩
  | .hbm, ⟨41, _⟩ => ⟨S1x4096x2816, .f32⟩
  | .hbm, ⟨42, _⟩ => ⟨S1x4096x2816, .f32⟩
  | .hbm, ⟨43, _⟩ => ⟨S1x4096x2816, .f32⟩
  | .hbm, ⟨44, _⟩ => ⟨S1x4096x2816, .f32⟩
  | .hbm, ⟨45, _⟩ => ⟨S1x4096x2816, .f32⟩
  | .hbm, ⟨46, _⟩ => ⟨S1x4096x2816, .f32⟩
  | .hbm, ⟨47, _⟩ => ⟨S4096x1024, .f32⟩
  | .hbm, ⟨48, _⟩ => ⟨S4096x1024, .bf16⟩
  | .hbm, ⟨49, _⟩ => ⟨S1x4096x2816, .f32⟩
  | .hbm, ⟨50, _⟩ => ⟨S1x4096x2816, .f32⟩
  | .hbm, ⟨51, _⟩ => ⟨S_, .f32⟩
  | .hbm, ⟨52, _⟩ => ⟨S1x4096x2816, .f32⟩
  | .hbm, ⟨53, _⟩ => ⟨S1x4096x2816, .f32⟩
  | .hbm, ⟨54, _⟩ => ⟨S_, .f32⟩
  | .hbm, ⟨55, _⟩ => ⟨S1x4096x2816, .f32⟩
  | .hbm, ⟨56, _⟩ => ⟨S1x4096x2816, .f32⟩
  | .hbm, ⟨57, _⟩ => ⟨S1x4096x2816, .f32⟩
  | .hbm, ⟨58, _⟩ => ⟨S1x4096x2816, .f32⟩
  | .hbm, ⟨59, _⟩ => ⟨S4096x4x704, .f32⟩
  | .hbm, ⟨60, _⟩ => ⟨S4x4096x704, .f32⟩
  | .hbm, ⟨61, _⟩ => ⟨S4x4096x704, .bf16⟩
  | .hbm, ⟨62, _⟩ => ⟨S4096x4x704, .f32⟩
  | .hbm, ⟨63, _⟩ => ⟨S4x4096x704, .f32⟩
  | .hbm, ⟨64, _⟩ => ⟨S4x4096x704, .bf16⟩
  | .hbm, ⟨65, _⟩ => ⟨S4096x4x704, .f32⟩
  | .hbm, ⟨66, _⟩ => ⟨S4x4096x704, .f32⟩
  | .hbm, ⟨67, _⟩ => ⟨S4x4096x704, .bf16⟩
  | .hbm, ⟨68, _⟩ => ⟨S4096x1024, .f32⟩
  | .hbm, ⟨69, _⟩ => ⟨S4096x1024, .bf16⟩
  | .hbm, ⟨70, _⟩ => ⟨S_, .i32⟩
  | .hbm, ⟨71, _⟩ => ⟨S1, .i32⟩
  | .hbm, ⟨72, _⟩ => ⟨S4x352x1024, .f32⟩
  | .hbm, ⟨73, _⟩ => ⟨S4x352x1024, .bf16⟩
  | .hbm, ⟨74, _⟩ => ⟨S4x352x1024, .f32⟩
  | .hbm, ⟨75, _⟩ => ⟨S4x352x1024, .bf16⟩
  | .hbm, ⟨76, _⟩ => ⟨S4x352x1024, .f32⟩
  | .hbm, ⟨77, _⟩ => ⟨S4x352x1024, .bf16⟩
  | .local _ .vmem, ⟨0, _⟩ => ⟨S2048x1024, .bf16⟩
  | .local _ .vmem, ⟨1, _⟩ => ⟨S2048x1024, .bf16⟩
  | .local _ .vmem, ⟨2, _⟩ => ⟨S1x2048x704, .bf16⟩
  | .local _ .vmem, ⟨3, _⟩ => ⟨S1x2048x704, .bf16⟩
  | .local _ .vmem, ⟨4, _⟩ => ⟨S1x2048x704, .bf16⟩
  | .local _ .vmem, ⟨5, _⟩ => ⟨S1x2048x704, .bf16⟩
  | .local _ .vmem, ⟨6, _⟩ => ⟨S1x2048x704, .bf16⟩
  | .local _ .vmem, ⟨7, _⟩ => ⟨S1x2048x704, .bf16⟩
  | .local _ .vmem, ⟨8, _⟩ => ⟨S2048x1024, .bf16⟩
  | .local _ .vmem, ⟨9, _⟩ => ⟨S2048x1024, .bf16⟩
  | .local _ .vmem, ⟨10, _⟩ => ⟨S1x352x1024, .f32⟩
  | .local _ .vmem, ⟨11, _⟩ => ⟨S1x352x1024, .f32⟩
  | .local _ .vmem, ⟨12, _⟩ => ⟨S1x352x1024, .bf16⟩
  | .local _ .vmem, ⟨13, _⟩ => ⟨S1x352x1024, .bf16⟩
  | .local _ .vmem, ⟨14, _⟩ => ⟨S1x352x1024, .f32⟩
  | .local _ .vmem, ⟨15, _⟩ => ⟨S1x352x1024, .f32⟩
  | .local _ .vmem, ⟨16, _⟩ => ⟨S1x352x1024, .bf16⟩
  | .local _ .vmem, ⟨17, _⟩ => ⟨S1x352x1024, .bf16⟩
  | .local _ .vmem, ⟨18, _⟩ => ⟨S1x352x1024, .f32⟩
  | .local _ .vmem, ⟨19, _⟩ => ⟨S1x352x1024, .f32⟩
  | .local _ .vmem, ⟨20, _⟩ => ⟨S1x352x1024, .bf16⟩
  | .local _ .vmem, ⟨21, _⟩ => ⟨S1x352x1024, .bf16⟩
  | .local _ .vmem, ⟨22, _⟩ => ⟨S704x1024, .f32⟩
  | .local _ .vmem, ⟨23, _⟩ => ⟨S704x1024, .f32⟩
  | .local _ .vmem, ⟨24, _⟩ => ⟨S704x1024, .f32⟩
  | .local _ .smem, ⟨0, _⟩ => ⟨S1, .i32⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .smem, ⟨0, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_call0_v0 : Ref sig .tc := ⟨.hbm, 25, rfl⟩
abbrev main_call0_v1 : Ref sig .tc := ⟨.hbm, 26, rfl⟩
abbrev main_call0_cst : Ref sig .tc := ⟨.hbm, 27, rfl⟩
abbrev main_call0_v2 : Ref sig .tc := ⟨.hbm, 28, rfl⟩
abbrev main_call0_v3 : Ref sig .tc := ⟨.hbm, 29, rfl⟩
abbrev main_call0_cst_0 : Ref sig .tc := ⟨.hbm, 30, rfl⟩
abbrev main_call0_v4 : Ref sig .tc := ⟨.hbm, 31, rfl⟩
abbrev main_v16_2 : Ref sig .tc := ⟨.hbm, 32, rfl⟩
abbrev main_call0_cst_1 : Ref sig .tc := ⟨.hbm, 33, rfl⟩
abbrev main_call0_v6 : Ref sig .tc := ⟨.hbm, 34, rfl⟩
abbrev main_call0_v7 : Ref sig .tc := ⟨.hbm, 35, rfl⟩
abbrev main_v16_1 : Ref sig .tc := ⟨.hbm, 36, rfl⟩
abbrev main_v16_0 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_call1_v0 : Ref sig .tc := ⟨.hbm, 43, rfl⟩
abbrev main_call1_v1 : Ref sig .tc := ⟨.hbm, 44, rfl⟩
abbrev main_call1_v2 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_call2_v0 : Ref sig .tc := ⟨.hbm, 49, rfl⟩
abbrev main_call2_v1 : Ref sig .tc := ⟨.hbm, 50, rfl⟩
abbrev main_call2_cst : Ref sig .tc := ⟨.hbm, 51, rfl⟩
abbrev main_call2_v2 : Ref sig .tc := ⟨.hbm, 52, rfl⟩
abbrev main_call2_v3 : Ref sig .tc := ⟨.hbm, 53, rfl⟩
abbrev main_call2_cst_0 : Ref sig .tc := ⟨.hbm, 54, rfl⟩
abbrev main_call2_v4 : Ref sig .tc := ⟨.hbm, 55, rfl⟩
abbrev main_call2_v5 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_c : Ref sig .tc := ⟨.hbm, 70, rfl⟩
abbrev main_v38 : Ref sig .tc := ⟨.hbm, 71, rfl⟩
abbrev main_v39_0 : Ref sig .tc := ⟨.hbm, 72, rfl⟩
abbrev main_v39_1 : Ref sig .tc := ⟨.hbm, 73, rfl⟩
abbrev main_v39_2 : Ref sig .tc := ⟨.hbm, 74, rfl⟩
abbrev main_v39_3 : Ref sig .tc := ⟨.hbm, 75, rfl⟩
abbrev main_v39_4 : Ref sig .tc := ⟨.hbm, 76, rfl⟩
abbrev main_v39_5 : Ref sig .tc := ⟨.hbm, 77, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22

abbrev nD : Nat := 1
abbrev τ : Topo := Topo.v7x

variable {F : FTy → Type} [FloatOps F]

abbrev grid0 : Pipeline.Grid := ⟨2, ![4, 2], ![false, false]⟩

def k0_cond2 (i : grid0.Coords) : BitVec 1 :=
  let arg1 : BitVec 32 := BitVec.ofNat 32 (i 1).val
  let c1_i32 : BitVec 32 := 1#32
  let v31 : BitVec 1 := Scalar.cmpi .eq arg1 c1_i32
  let v32 : BitVec 32 := Scalar.extui v31
  let c0_i32_27 : BitVec 32 := 0#32
  let v33 : BitVec 1 := Scalar.cmpi .ne v32 c0_i32_27
  v33

def k0_mult1 (v34 : BitVec 32) : BitVec 32 :=
  let c352_i32 : BitVec 32 := 352#32
  let v35 : BitVec 32 := Scalar.muli v34 c352_i32
  v35

def k0_off1 (v34 : BitVec 32) : Fin 2 → Nat :=
  let c0_i32_29 : BitVec 32 := 0#32
  let c352_i32 : BitVec 32 := 352#32
  let v35 : BitVec 32 := Scalar.muli v34 c352_i32
  let v36 : BitVec 32 := v35
  let v37 : BitVec 32 := Scalar.addi c0_i32_29 v36
  let v38 : Index := Scalar.indexCast v37
  let c0_30 : Index := 0#32
  ![v38.toNat, 0]
def k0_mult2 (v34 : BitVec 32) : BitVec 32 :=
  let c1_i32_34 : BitVec 32 := 1#32
  let v43 : BitVec 32 := Scalar.subi c1_i32_34 v34
  let c352_i32_35 : BitVec 32 := 352#32
  let v44 : BitVec 32 := Scalar.muli v43 c352_i32_35
  v44
def k0_off2 (v34 : BitVec 32) : Fin 2 → Nat :=
  let c0_i32_36 : BitVec 32 := 0#32
  let c1_i32_34 : BitVec 32 := 1#32
  let v43 : BitVec 32 := Scalar.subi c1_i32_34 v34
  let c352_i32_35 : BitVec 32 := 352#32
  let v44 : BitVec 32 := Scalar.muli v43 c352_i32_35
  let v45 : BitVec 32 := v44
  let v46 : BitVec 32 := Scalar.addi c0_i32_36 v45
  let v47 : Index := Scalar.indexCast v46
  let c0_37 : Index := 0#32
  ![v47.toNat, 0]

def k0_chk1 (i : grid0.Coords) (v34 : BitVec 32) : Prop :=
  (∀ (k0_h2 : k0_cond2 i = 1#1), 8 ∣ (k0_mult1 v34).toNat) ∧
  (∀ (k0_h2 : k0_cond2 i = 1#1), ∀ a, (k0_off1 v34) a + S352x1024.size a ≤ S704x1024.size a) ∧
  (∀ (k0_h2 : k0_cond2 i = 1#1), 8 ∣ (k0_mult2 v34).toNat) ∧
  (∀ (k0_h2 : k0_cond2 i = 1#1), ∀ a, (k0_off2 v34) a + S352x1024.size a ≤ S704x1024.size a)
theorem k0_mult1_dvd : ∀ (i : grid0.Coords) (v34 : BitVec 32) (k0_hw1 : k0_chk1 i v34), ∀ (k0_h2 : k0_cond2 i = 1#1), 8 ∣ (k0_mult1 v34).toNat := fun i v34 k0_hw1 k0_h2 => k0_hw1.1 k0_h2
theorem k0_off1_inb : ∀ (i : grid0.Coords) (v34 : BitVec 32) (k0_hw1 : k0_chk1 i v34), ∀ (k0_h2 : k0_cond2 i = 1#1), ∀ a, (k0_off1 v34) a + S352x1024.size a ≤ S704x1024.size a := fun i v34 k0_hw1 k0_h2 => k0_hw1.2.1 k0_h2
theorem k0_mult2_dvd : ∀ (i : grid0.Coords) (v34 : BitVec 32) (k0_hw1 : k0_chk1 i v34), ∀ (k0_h2 : k0_cond2 i = 1#1), 8 ∣ (k0_mult2 v34).toNat := fun i v34 k0_hw1 k0_h2 => k0_hw1.2.2.1 k0_h2
theorem k0_off2_inb : ∀ (i : grid0.Coords) (v34 : BitVec 32) (k0_hw1 : k0_chk1 i v34), ∀ (k0_h2 : k0_cond2 i = 1#1), ∀ a, (k0_off2 v34) a + S352x1024.size a ≤ S704x1024.size a := fun i v34 k0_hw1 k0_h2 => k0_hw1.2.2.2 k0_h2

def k0_mult3 (v53 : BitVec 32) : BitVec 32 :=
  let c352_i32_42 : BitVec 32 := 352#32
  let v54 : BitVec 32 := Scalar.muli v53 c352_i32_42
  v54

def k0_off3 (v53 : BitVec 32) : Fin 2 → Nat :=
  let c0_i32_43 : BitVec 32 := 0#32
  let c352_i32_42 : BitVec 32 := 352#32
  let v54 : BitVec 32 := Scalar.muli v53 c352_i32_42
  let v55 : BitVec 32 := v54
  let v56 : BitVec 32 := Scalar.addi c0_i32_43 v55
  let v57 : Index := Scalar.indexCast v56
  let c0_44 : Index := 0#32
  ![v57.toNat, 0]
def k0_mult4 (v53 : BitVec 32) : BitVec 32 :=
  let c1_i32_48 : BitVec 32 := 1#32
  let v62 : BitVec 32 := Scalar.subi c1_i32_48 v53
  let c352_i32_49 : BitVec 32 := 352#32
  let v63 : BitVec 32 := Scalar.muli v62 c352_i32_49
  v63
def k0_off4 (v53 : BitVec 32) : Fin 2 → Nat :=
  let c0_i32_50 : BitVec 32 := 0#32
  let c1_i32_48 : BitVec 32 := 1#32
  let v62 : BitVec 32 := Scalar.subi c1_i32_48 v53
  let c352_i32_49 : BitVec 32 := 352#32
  let v63 : BitVec 32 := Scalar.muli v62 c352_i32_49
  let v64 : BitVec 32 := v63
  let v65 : BitVec 32 := Scalar.addi c0_i32_50 v64
  let v66 : Index := Scalar.indexCast v65
  let c0_51 : Index := 0#32
  ![v66.toNat, 0]

def k0_chk2 (i : grid0.Coords) (v53 : BitVec 32) : Prop :=
  (∀ (k0_h2 : k0_cond2 i = 1#1), 8 ∣ (k0_mult3 v53).toNat) ∧
  (∀ (k0_h2 : k0_cond2 i = 1#1), ∀ a, (k0_off3 v53) a + S352x1024.size a ≤ S704x1024.size a) ∧
  (∀ (k0_h2 : k0_cond2 i = 1#1), 8 ∣ (k0_mult4 v53).toNat) ∧
  (∀ (k0_h2 : k0_cond2 i = 1#1), ∀ a, (k0_off4 v53) a + S352x1024.size a ≤ S704x1024.size a)
theorem k0_mult3_dvd : ∀ (i : grid0.Coords) (v53 : BitVec 32) (k0_hw2 : k0_chk2 i v53), ∀ (k0_h2 : k0_cond2 i = 1#1), 8 ∣ (k0_mult3 v53).toNat := fun i v53 k0_hw2 k0_h2 => k0_hw2.1 k0_h2
theorem k0_off3_inb : ∀ (i : grid0.Coords) (v53 : BitVec 32) (k0_hw2 : k0_chk2 i v53), ∀ (k0_h2 : k0_cond2 i = 1#1), ∀ a, (k0_off3 v53) a + S352x1024.size a ≤ S704x1024.size a := fun i v53 k0_hw2 k0_h2 => k0_hw2.2.1 k0_h2
theorem k0_mult4_dvd : ∀ (i : grid0.Coords) (v53 : BitVec 32) (k0_hw2 : k0_chk2 i v53), ∀ (k0_h2 : k0_cond2 i = 1#1), 8 ∣ (k0_mult4 v53).toNat := fun i v53 k0_hw2 k0_h2 => k0_hw2.2.2.1 k0_h2
theorem k0_off4_inb : ∀ (i : grid0.Coords) (v53 : BitVec 32) (k0_hw2 : k0_chk2 i v53), ∀ (k0_h2 : k0_cond2 i = 1#1), ∀ a, (k0_off4 v53) a + S352x1024.size a ≤ S704x1024.size a := fun i v53 k0_hw2 k0_h2 => k0_hw2.2.2.2 k0_h2

def k0_mult5 (v72 : BitVec 32) : BitVec 32 :=
  let c352_i32_56 : BitVec 32 := 352#32
  let v73 : BitVec 32 := Scalar.muli v72 c352_i32_56
  v73

def k0_off5 (v72 : BitVec 32) : Fin 2 → Nat :=
  let c0_i32_57 : BitVec 32 := 0#32
  let c352_i32_56 : BitVec 32 := 352#32
  let v73 : BitVec 32 := Scalar.muli v72 c352_i32_56
  let v74 : BitVec 32 := v73
  let v75 : BitVec 32 := Scalar.addi c0_i32_57 v74
  let v76 : Index := Scalar.indexCast v75
  let c0_58 : Index := 0#32
  ![v76.toNat, 0]
def k0_mult6 (v72 : BitVec 32) : BitVec 32 :=
  let c1_i32_62 : BitVec 32 := 1#32
  let v81 : BitVec 32 := Scalar.subi c1_i32_62 v72
  let c352_i32_63 : BitVec 32 := 352#32
  let v82 : BitVec 32 := Scalar.muli v81 c352_i32_63
  v82
def k0_off6 (v72 : BitVec 32) : Fin 2 → Nat :=
  let c0_i32_64 : BitVec 32 := 0#32
  let c1_i32_62 : BitVec 32 := 1#32
  let v81 : BitVec 32 := Scalar.subi c1_i32_62 v72
  let c352_i32_63 : BitVec 32 := 352#32
  let v82 : BitVec 32 := Scalar.muli v81 c352_i32_63
  let v83 : BitVec 32 := v82
  let v84 : BitVec 32 := Scalar.addi c0_i32_64 v83
  let v85 : Index := Scalar.indexCast v84
  let c0_65 : Index := 0#32
  ![v85.toNat, 0]

def k0_chk3 (i : grid0.Coords) (v72 : BitVec 32) : Prop :=
  (∀ (k0_h2 : k0_cond2 i = 1#1), 8 ∣ (k0_mult5 v72).toNat) ∧
  (∀ (k0_h2 : k0_cond2 i = 1#1), ∀ a, (k0_off5 v72) a + S352x1024.size a ≤ S704x1024.size a) ∧
  (∀ (k0_h2 : k0_cond2 i = 1#1), 8 ∣ (k0_mult6 v72).toNat) ∧
  (∀ (k0_h2 : k0_cond2 i = 1#1), ∀ a, (k0_off6 v72) a + S352x1024.size a ≤ S704x1024.size a)
theorem k0_mult5_dvd : ∀ (i : grid0.Coords) (v72 : BitVec 32) (k0_hw3 : k0_chk3 i v72), ∀ (k0_h2 : k0_cond2 i = 1#1), 8 ∣ (k0_mult5 v72).toNat := fun i v72 k0_hw3 k0_h2 => k0_hw3.1 k0_h2
theorem k0_off5_inb : ∀ (i : grid0.Coords) (v72 : BitVec 32) (k0_hw3 : k0_chk3 i v72), ∀ (k0_h2 : k0_cond2 i = 1#1), ∀ a, (k0_off5 v72) a + S352x1024.size a ≤ S704x1024.size a := fun i v72 k0_hw3 k0_h2 => k0_hw3.2.1 k0_h2
theorem k0_mult6_dvd : ∀ (i : grid0.Coords) (v72 : BitVec 32) (k0_hw3 : k0_chk3 i v72), ∀ (k0_h2 : k0_cond2 i = 1#1), 8 ∣ (k0_mult6 v72).toNat := fun i v72 k0_hw3 k0_h2 => k0_hw3.2.2.1 k0_h2
theorem k0_off6_inb : ∀ (i : grid0.Coords) (v72 : BitVec 32) (k0_hw3 : k0_chk3 i v72), ∀ (k0_h2 : k0_cond2 i = 1#1), ∀ a, (k0_off6 v72) a + S352x1024.size a ≤ S704x1024.size a := fun i v72 k0_hw3 k0_h2 => k0_hw3.2.2.2 k0_h2

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .smem S1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x2048x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2048x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2048x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x352x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x352x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x352x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x352x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x352x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== FfnWRefIdeal.lean ====
abbrev S1x4096x1024 : Shape := ⟨3, ![1, 4096, 1024]⟩
abbrev S1x1024 : Shape := ⟨2, ![1, 1024]⟩
abbrev S1024x2816 : Shape := ⟨2, ![1024, 2816]⟩
abbrev S2816x1024 : Shape := ⟨2, ![2816, 1024]⟩
abbrev S1024 : Shape := ⟨1, ![1024]⟩
abbrev S_ : Shape := ⟨0, ![]⟩
abbrev S1x4096 : Shape := ⟨2, ![1, 4096]⟩
abbrev S1x4096x1 : Shape := ⟨3, ![1, 4096, 1]⟩
abbrev S1x1x1024 : Shape := ⟨3, ![1, 1, 1024]⟩
abbrev S1x4096x2816 : Shape := ⟨3, ![1, 4096, 2816]⟩
abbrev S4x2x352x1024 : Shape := ⟨4, ![4, 2, 352, 1024]⟩
abbrev S4x1x352x1024 : Shape := ⟨4, ![4, 1, 352, 1024]⟩
abbrev S4x352x1024 : Shape := ⟨3, ![4, 352, 1024]⟩

abbrev nBuf : Space → Nat
  | .hbm => 76
  | .vmem => 0
  | .smem => 0
  | _ => 0

abbrev bufTy : (tb : Table) → Fin (tcTables nBuf tb) → BufTy
  | .hbm, ⟨0, _⟩ => ⟨S1x4096x1024, .f32⟩
  | .hbm, ⟨1, _⟩ => ⟨S1x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1x4096x1024, .f32⟩
  | .hbm, ⟨6, _⟩ => ⟨S1024, .f32⟩
  | .hbm, ⟨7, _⟩ => ⟨S1x4096x1024, .f32⟩
  | .hbm, ⟨8, _⟩ => ⟨S_, .f32⟩
  | .hbm, ⟨9, _⟩ => ⟨S1x4096, .f32⟩
  | .hbm, ⟨10, _⟩ => ⟨S1x4096x1, .f32⟩
  | .hbm, ⟨11, _⟩ => ⟨S_, .f32⟩
  | .hbm, ⟨12, _⟩ => ⟨S1x4096x1, .f32⟩
  | .hbm, ⟨13, _⟩ => ⟨S1x4096x1, .f32⟩
  | .hbm, ⟨14, _⟩ => ⟨S_, .f32⟩
  | .hbm, ⟨15, _⟩ => ⟨S1x4096x1, .f32⟩
  | .hbm, ⟨16, _⟩ => ⟨S1x4096x1, .f32⟩
  | .hbm, ⟨17, _⟩ => ⟨S1x4096x1, .f32⟩
  | .hbm, ⟨18, _⟩ => ⟨S1x4096x1024, .f32⟩
  | .hbm, ⟨19, _⟩ => ⟨S1x4096x1024, .f32⟩
  | .hbm, ⟨20, _⟩ => ⟨S1x1x1024, .f32⟩
  | .hbm, ⟨21, _⟩ => ⟨S1x4096x1024, .f32⟩
  | .hbm, ⟨22, _⟩ => ⟨S1x4096x1024, .f32⟩
  | .hbm, ⟨23, _⟩ => ⟨S1x4096x2816, .f32⟩
  | .hbm, ⟨24, _⟩ => ⟨S1x4096x2816, .f32⟩
  | .hbm, ⟨25, _⟩ => ⟨S1x4096x2816, .f32⟩
  | .hbm, ⟨26, _⟩ => ⟨S1x4096x2816, .f32⟩
  | .hbm, ⟨27, _⟩ => ⟨S_, .f32⟩
  | .hbm, ⟨28, _⟩ => ⟨S1x4096x2816, .f32⟩
  | .hbm, ⟨29, _⟩ => ⟨S1x4096x2816, .f32⟩
  | .hbm, ⟨30, _⟩ => ⟨S_, .f32⟩
  | .hbm, ⟨31, _⟩ => ⟨S1x4096x2816, .f32⟩
  | .hbm, ⟨32, _⟩ => ⟨S1x4096x2816, .f32⟩
  | .hbm, ⟨33, _⟩ => ⟨S_, .f32⟩
  | .hbm, ⟨34, _⟩ => ⟨S1x4096x2816, .f32⟩
  | .hbm, ⟨35, _⟩ => ⟨S1x4096x2816, .f32⟩
  | .hbm, ⟨36, _⟩ => ⟨S1x4096x2816, .f32⟩
  | .hbm, ⟨37, _⟩ => ⟨S1x4096x2816, .f32⟩
  | .hbm, ⟨38, _⟩ => ⟨S1x4096x2816, .f32⟩
  | .hbm, ⟨39, _⟩ => ⟨S1x4096x1024, .f32⟩
  | .hbm, ⟨40, _⟩ => ⟨S1024x2816, .f32⟩
  | .hbm, ⟨41, _⟩ => ⟨S2816x1024, .f32⟩
  | .hbm, ⟨42, _⟩ => ⟨S1x4096x2816, .f32⟩
  | .hbm, ⟨43, _⟩ => ⟨S1x4096x2816, .f32⟩
  | .hbm, ⟨44, _⟩ => ⟨S1x4096x2816, .f32⟩
  | .hbm, ⟨45, _⟩ => ⟨S1x4096x2816, .f32⟩
  | .hbm, ⟨46, _⟩ => ⟨S1x4096x2816, .f32⟩
  | .hbm, ⟨47, _⟩ => ⟨S1x4096x2816, .f32⟩
  | .hbm, ⟨48, _⟩ => ⟨S1x4096x2816, .f32⟩
  | .hbm, ⟨49, _⟩ => ⟨S2816x1024, .f32⟩
  | .hbm, ⟨50, _⟩ => ⟨S1024x2816, .f32⟩
  | .hbm, ⟨51, _⟩ => ⟨S2816x1024, .f32⟩
  | .hbm, ⟨52, _⟩ => ⟨S1024x2816, .f32⟩
  | .hbm, ⟨53, _⟩ => ⟨S2816x1024, .f32⟩
  | .hbm, ⟨54, _⟩ => ⟨S2816x1024, .f32⟩
  | .hbm, ⟨55, _⟩ => ⟨S4x2x352x1024, .f32⟩
  | .hbm, ⟨56, _⟩ => ⟨S4x1x352x1024, .f32⟩
  | .hbm, ⟨57, _⟩ => ⟨S4x352x1024, .f32⟩
  | .hbm, ⟨58, _⟩ => ⟨S4x2x352x1024, .f32⟩
  | .hbm, ⟨59, _⟩ => ⟨S4x1x352x1024, .f32⟩
  | .hbm, ⟨60, _⟩ => ⟨S4x352x1024, .f32⟩
  | .hbm, ⟨61, _⟩ => ⟨S4x352x1024, .bf16⟩
  | .hbm, ⟨62, _⟩ => ⟨S4x2x352x1024, .f32⟩
  | .hbm, ⟨63, _⟩ => ⟨S4x1x352x1024, .f32⟩
  | .hbm, ⟨64, _⟩ => ⟨S4x352x1024, .f32⟩
  | .hbm, ⟨65, _⟩ => ⟨S4x2x352x1024, .f32⟩
  | .hbm, ⟨66, _⟩ => ⟨S4x1x352x1024, .f32⟩
  | .hbm, ⟨67, _⟩ => ⟨S4x352x1024, .f32⟩
  | .hbm, ⟨68, _⟩ => ⟨S4x352x1024, .bf16⟩
  | .hbm, ⟨69, _⟩ => ⟨S4x2x352x1024, .f32⟩
  | .hbm, ⟨70, _⟩ => ⟨S4x1x352x1024, .f32⟩
  | .hbm, ⟨71, _⟩ => ⟨S4x352x1024, .f32⟩
  | .hbm, ⟨72, _⟩ => ⟨S4x2x352x1024, .f32⟩
  | .hbm, ⟨73, _⟩ => ⟨S4x1x352x1024, .f32⟩
  | .hbm, ⟨74, _⟩ => ⟨S4x352x1024, .f32⟩
  | .hbm, ⟨75, _⟩ => ⟨S4x352x1024, .bf16⟩
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_call0_v0 : Ref sig .tc := ⟨.hbm, 25, rfl⟩
abbrev main_call0_v1 : Ref sig .tc := ⟨.hbm, 26, rfl⟩
abbrev main_call0_cst : Ref sig .tc := ⟨.hbm, 27, rfl⟩
abbrev main_call0_v2 : Ref sig .tc := ⟨.hbm, 28, rfl⟩
abbrev main_call0_v3 : Ref sig .tc := ⟨.hbm, 29, rfl⟩
abbrev main_call0_cst_0 : Ref sig .tc := ⟨.hbm, 30, rfl⟩
abbrev main_call0_v4 : Ref sig .tc := ⟨.hbm, 31, rfl⟩
abbrev main_v16_2 : Ref sig .tc := ⟨.hbm, 32, rfl⟩
abbrev main_call0_cst_1 : Ref sig .tc := ⟨.hbm, 33, rfl⟩
abbrev main_call0_v6 : Ref sig .tc := ⟨.hbm, 34, rfl⟩
abbrev main_call0_v7 : Ref sig .tc := ⟨.hbm, 35, rfl⟩
abbrev main_v16_1 : Ref sig .tc := ⟨.hbm, 36, rfl⟩
abbrev main_v16_0 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_call1_v0 : Ref sig .tc := ⟨.hbm, 45, rfl⟩
abbrev main_call1_v1 : Ref sig .tc := ⟨.hbm, 46, rfl⟩
abbrev main_call1_v2 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩

abbrev nD : Nat := 1
abbrev τ : Topo := Topo.v7x

variable {F : FTy → Type} [FloatOps F]
-- ==== InProj.lean ====
abbrev S1x4096x1024 : Shape := ⟨3, ![1, 4096, 1024]⟩
abbrev S1x1024 : Shape := ⟨2, ![1, 1024]⟩
abbrev S1024x1280 : Shape := ⟨2, ![1024, 1280]⟩
abbrev S1024 : Shape := ⟨1, ![1024]⟩
abbrev S_ : Shape := ⟨0, ![]⟩
abbrev S1x4096 : Shape := ⟨2, ![1, 4096]⟩
abbrev S1x4096x1 : Shape := ⟨3, ![1, 4096, 1]⟩
abbrev S1x1x1024 : Shape := ⟨3, ![1, 1, 1024]⟩
abbrev S4096x1024 : Shape := ⟨2, ![4096, 1024]⟩
abbrev S1280x1024 : Shape := ⟨2, ![1280, 1024]⟩
abbrev S4096x512 : Shape := ⟨2, ![4096, 512]⟩
abbrev S4096x128 : Shape := ⟨2, ![4096, 128]⟩
abbrev S1024x1024 : Shape := ⟨2, ![1024, 1024]⟩
abbrev S1024x512 : Shape := ⟨2, ![1024, 512]⟩
abbrev S1024x128 : Shape := ⟨2, ![1024, 128]⟩

abbrev nBuf : Space → Nat
  | .hbm => 28
  | .vmem => 11
  | .smem => 0
  | _ => 0

abbrev bufTy : (tb : Table) → Fin (tcTables nBuf tb) → BufTy
  | .hbm, ⟨0, _⟩ => ⟨S1x4096x1024, .f32⟩
  | .hbm, ⟨1, _⟩ => ⟨S1x1024, .f32⟩
  | .hbm, ⟨2, _⟩ => ⟨S1024x1280, .f32⟩
  | .hbm, ⟨3, _⟩ => ⟨S1024, .f32⟩
  | .hbm, ⟨4, _⟩ => ⟨S1x4096x1024, .f32⟩
  | .hbm, ⟨5, _⟩ => ⟨S_, .f32⟩
  | .hbm, ⟨6, _⟩ => ⟨S1x4096, .f32⟩
  | .hbm, ⟨7, _⟩ => ⟨S1x4096x1, .f32⟩
  | .hbm, ⟨8, _⟩ => ⟨S_, .f32⟩
  | .hbm, ⟨9, _⟩ => ⟨S1x4096x1, .f32⟩
  | .hbm, ⟨10, _⟩ => ⟨S1x4096x1, .f32⟩
  | .hbm, ⟨11, _⟩ => ⟨S_, .f32⟩
  | .hbm, ⟨12, _⟩ => ⟨S1x4096x1, .f32⟩
  | .hbm, ⟨13, _⟩ => ⟨S1x4096x1, .f32⟩
  | .hbm, ⟨14, _⟩ => ⟨S1x4096x1, .f32⟩
  | .hbm, ⟨15, _⟩ => ⟨S1x4096x1024, .f32⟩
  | .hbm, ⟨16, _⟩ => ⟨S1x4096x1024, .f32⟩
  | .hbm, ⟨17, _⟩ => ⟨S1x1x1024, .f32⟩
  | .hbm, ⟨18, _⟩ => ⟨S1x4096x1024, .f32⟩
  | .hbm, ⟨19, _⟩ => ⟨S1x4096x1024, .f32⟩
  | .hbm, ⟨20, _⟩ => ⟨S4096x1024, .f32⟩
  | .hbm, ⟨21, _⟩ => ⟨S4096x1024, .bf16⟩
  | .hbm, ⟨22, _⟩ => ⟨S1280x1024, .f32⟩
  | .hbm, ⟨23, _⟩ => ⟨S1280x1024, .bf16⟩
  | .hbm, ⟨24, _⟩ => ⟨S4096x512, .f32⟩
  | .hbm, ⟨25, _⟩ => ⟨S4096x512, .bf16⟩
  | .hbm, ⟨26, _⟩ => ⟨S4096x128, .bf16⟩
  | .hbm, ⟨27, _⟩ => ⟨S4096x128, .bf16⟩
  | .local _ .vmem, ⟨0, _⟩ => ⟨S1024x1024, .bf16⟩
  | .local _ .vmem, ⟨1, _⟩ => ⟨S1024x1024, .bf16⟩
  | .local _ .vmem, ⟨2, _⟩ => ⟨S1280x1024, .bf16⟩
  | .local _ .vmem, ⟨3, _⟩ => ⟨S1024x512, .f32⟩
  | .local _ .vmem, ⟨4, _⟩ => ⟨S1024x512, .f32⟩
  | .local _ .vmem, ⟨5, _⟩ => ⟨S1024x512, .bf16⟩
  | .local _ .vmem, ⟨6, _⟩ => ⟨S1024x512, .bf16⟩
  | .local _ .vmem, ⟨7, _⟩ => ⟨S1024x128, .bf16⟩
  | .local _ .vmem, ⟨8, _⟩ => ⟨S1024x128, .bf16⟩
  | .local _ .vmem, ⟨9, _⟩ => ⟨S1024x128, .bf16⟩
  | .local _ .vmem, ⟨10, _⟩ => ⟨S1024x128, .bf16⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18_0 : Ref sig .tc := ⟨.hbm, 24, rfl⟩
abbrev main_v18_1 : Ref sig .tc := ⟨.hbm, 25, rfl⟩
abbrev main_v18_2 : Ref sig .tc := ⟨.hbm, 26, rfl⟩
abbrev main_v18_3 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1280x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== InProjRefIdeal.lean ====
abbrev S1x4096x1024 : Shape := ⟨3, ![1, 4096, 1024]⟩
abbrev S1x1024 : Shape := ⟨2, ![1, 1024]⟩
abbrev S1024x1280 : Shape := ⟨2, ![1024, 1280]⟩
abbrev S1024 : Shape := ⟨1, ![1024]⟩
abbrev S_ : Shape := ⟨0, ![]⟩
abbrev S1x4096 : Shape := ⟨2, ![1, 4096]⟩
abbrev S1x4096x1 : Shape := ⟨3, ![1, 4096, 1]⟩
abbrev S1x1x1024 : Shape := ⟨3, ![1, 1, 1024]⟩
abbrev S1x4096x1280 : Shape := ⟨3, ![1, 4096, 1280]⟩
abbrev S1x4096x512 : Shape := ⟨3, ![1, 4096, 512]⟩
abbrev S1x4096x128 : Shape := ⟨3, ![1, 4096, 128]⟩
abbrev S4096x512 : Shape := ⟨2, ![4096, 512]⟩
abbrev S4096x128 : Shape := ⟨2, ![4096, 128]⟩

abbrev nBuf : Space → Nat
  | .hbm => 32
  | .vmem => 0
  | .smem => 0
  | _ => 0

abbrev bufTy : (tb : Table) → Fin (tcTables nBuf tb) → BufTy
  | .hbm, ⟨0, _⟩ => ⟨S1x4096x1024, .f32⟩
  | .hbm, ⟨1, _⟩ => ⟨S1x1024, .f32⟩
  | .hbm, ⟨2, _⟩ => ⟨S1024x1280, .f32⟩
  | .hbm, ⟨3, _⟩ => ⟨S1024, .f32⟩
  | .hbm, ⟨4, _⟩ => ⟨S1x4096x1024, .f32⟩
  | .hbm, ⟨5, _⟩ => ⟨S_, .f32⟩
  | .hbm, ⟨6, _⟩ => ⟨S1x4096, .f32⟩
  | .hbm, ⟨7, _⟩ => ⟨S1x4096x1, .f32⟩
  | .hbm, ⟨8, _⟩ => ⟨S_, .f32⟩
  | .hbm, ⟨9, _⟩ => ⟨S1x4096x1, .f32⟩
  | .hbm, ⟨10, _⟩ => ⟨S1x4096x1, .f32⟩
  | .hbm, ⟨11, _⟩ => ⟨S_, .f32⟩
  | .hbm, ⟨12, _⟩ => ⟨S1x4096x1, .f32⟩
  | .hbm, ⟨13, _⟩ => ⟨S1x4096x1, .f32⟩
  | .hbm, ⟨14, _⟩ => ⟨S1x4096x1, .f32⟩
  | .hbm, ⟨15, _⟩ => ⟨S1x4096x1024, .f32⟩
  | .hbm, ⟨16, _⟩ => ⟨S1x4096x1024, .f32⟩
  | .hbm, ⟨17, _⟩ => ⟨S1x1x1024, .f32⟩
  | .hbm, ⟨18, _⟩ => ⟨S1x4096x1024, .f32⟩
  | .hbm, ⟨19, _⟩ => ⟨S1x4096x1024, .f32⟩
  | .hbm, ⟨20, _⟩ => ⟨S1x4096x1280, .f32⟩
  | .hbm, ⟨21, _⟩ => ⟨S1x4096x512, .f32⟩
  | .hbm, ⟨22, _⟩ => ⟨S1x4096x512, .f32⟩
  | .hbm, ⟨23, _⟩ => ⟨S1x4096x128, .f32⟩
  | .hbm, ⟨24, _⟩ => ⟨S1x4096x128, .f32⟩
  | .hbm, ⟨25, _⟩ => ⟨S4096x512, .f32⟩
  | .hbm, ⟨26, _⟩ => ⟨S4096x512, .f32⟩
  | .hbm, ⟨27, _⟩ => ⟨S4096x512, .bf16⟩
  | .hbm, ⟨28, _⟩ => ⟨S4096x128, .f32⟩
  | .hbm, ⟨29, _⟩ => ⟨S4096x128, .bf16⟩
  | .hbm, ⟨30, _⟩ => ⟨S4096x128, .f32⟩
  | .hbm, ⟨31, _⟩ => ⟨S4096x128, .bf16⟩
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩

abbrev nD : Nat := 1
abbrev τ : Topo := Topo.v7x

variable {F : FTy → Type} [FloatOps F]
-- ==== OutProj.lean ====
abbrev S1x4096x512 : Shape := ⟨3, ![1, 4096, 512]⟩
abbrev S1024x1024 : Shape := ⟨2, ![1024, 1024]⟩
abbrev S1x4096x1024 : Shape := ⟨3, ![1, 4096, 1024]⟩
abbrev S1x1024 : Shape := ⟨2, ![1, 1024]⟩
abbrev S4096x512 : Shape := ⟨2, ![4096, 512]⟩
abbrev S4096x1024 : Shape := ⟨2, ![4096, 1024]⟩
abbrev S512x512 : Shape := ⟨2, ![512, 512]⟩
abbrev S512x1024 : Shape := ⟨2, ![512, 1024]⟩
abbrev S512 : Shape := ⟨1, ![512]⟩
abbrev S512x1 : Shape := ⟨2, ![512, 1]⟩

abbrev nBuf : Space → Nat
  | .hbm => 15
  | .vmem => 15
  | .smem => 0
  | _ => 0

abbrev bufTy : (tb : Table) → Fin (tcTables nBuf tb) → BufTy
  | .hbm, ⟨0, _⟩ => ⟨S1x4096x512, .f32⟩
  | .hbm, ⟨1, _⟩ => ⟨S1x4096x512, .f32⟩
  | .hbm, ⟨2, _⟩ => ⟨S1024x1024, .f32⟩
  | .hbm, ⟨3, _⟩ => ⟨S1x4096x1024, .f32⟩
  | .hbm, ⟨4, _⟩ => ⟨S1x1024, .f32⟩
  | .hbm, ⟨5, _⟩ => ⟨S1x1024, .f32⟩
  | .hbm, ⟨6, _⟩ => ⟨S4096x512, .f32⟩
  | .hbm, ⟨7, _⟩ => ⟨S4096x512, .bf16⟩
  | .hbm, ⟨8, _⟩ => ⟨S4096x512, .f32⟩
  | .hbm, ⟨9, _⟩ => ⟨S4096x512, .bf16⟩
  | .hbm, ⟨10, _⟩ => ⟨S1024x1024, .bf16⟩
  | .hbm, ⟨11, _⟩ => ⟨S4096x1024, .f32⟩
  | .hbm, ⟨12, _⟩ => ⟨S4096x1024, .f32⟩
  | .hbm, ⟨13, _⟩ => ⟨S4096x1024, .f32⟩
  | .hbm, ⟨14, _⟩ => ⟨S4096x1024, .bf16⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S1024x1024, .bf16⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .bf16⟩
  | .local _ .vmem, ⟨14, _⟩ => ⟨S512x1024, .bf16⟩
  | _, _ => ⟨S1x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev main_v6_2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_7 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_8 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== OutProjRefIdeal.lean ====
abbrev S1x4096x512 : Shape := ⟨3, ![1, 4096, 512]⟩
abbrev S1024x1024 : Shape := ⟨2, ![1024, 1024]⟩
abbrev S1x4096x1024 : Shape := ⟨3, ![1, 4096, 1024]⟩
abbrev S1x1024 : Shape := ⟨2, ![1, 1024]⟩
abbrev S1024 : Shape := ⟨1, ![1024]⟩
abbrev S_ : Shape := ⟨0, ![]⟩
abbrev S1x4096 : Shape := ⟨2, ![1, 4096]⟩
abbrev S1x4096x1 : Shape := ⟨3, ![1, 4096, 1]⟩
abbrev S1x1x1024 : Shape := ⟨3, ![1, 1, 1024]⟩
abbrev S4096x1024 : Shape := ⟨2, ![4096, 1024]⟩

abbrev nBuf : Space → Nat
  | .hbm => 47
  | .vmem => 0
  | .smem => 0
  | _ => 0

abbrev bufTy : (tb : Table) → Fin (tcTables nBuf tb) → BufTy
  | .hbm, ⟨0, _⟩ => ⟨S1x4096x512, .f32⟩
  | .hbm, ⟨1, _⟩ => ⟨S1x4096x512, .f32⟩
  | .hbm, ⟨2, _⟩ => ⟨S1024x1024, .f32⟩
  | .hbm, ⟨3, _⟩ => ⟨S1x4096x1024, .f32⟩
  | .hbm, ⟨4, _⟩ => ⟨S1x1024, .f32⟩
  | .hbm, ⟨5, _⟩ => ⟨S1x1024, .f32⟩
  | .hbm, ⟨6, _⟩ => ⟨S1x4096x1024, .f32⟩
  | .hbm, ⟨7, _⟩ => ⟨S1x4096x1024, .f32⟩
  | .hbm, ⟨8, _⟩ => ⟨S1024, .f32⟩
  | .hbm, ⟨9, _⟩ => ⟨S1x4096x1024, .f32⟩
  | .hbm, ⟨10, _⟩ => ⟨S_, .f32⟩
  | .hbm, ⟨11, _⟩ => ⟨S1x4096, .f32⟩
  | .hbm, ⟨12, _⟩ => ⟨S1x4096x1, .f32⟩
  | .hbm, ⟨13, _⟩ => ⟨S_, .f32⟩
  | .hbm, ⟨14, _⟩ => ⟨S1x4096x1, .f32⟩
  | .hbm, ⟨15, _⟩ => ⟨S1x4096x1, .f32⟩
  | .hbm, ⟨16, _⟩ => ⟨S_, .f32⟩
  | .hbm, ⟨17, _⟩ => ⟨S1x4096x1, .f32⟩
  | .hbm, ⟨18, _⟩ => ⟨S1x4096x1, .f32⟩
  | .hbm, ⟨19, _⟩ => ⟨S1x4096x1, .f32⟩
  | .hbm, ⟨20, _⟩ => ⟨S1x4096x1024, .f32⟩
  | .hbm, ⟨21, _⟩ => ⟨S1x4096x1024, .f32⟩
  | .hbm, ⟨22, _⟩ => ⟨S1x1x1024, .f32⟩
  | .hbm, ⟨23, _⟩ => ⟨S1x4096x1024, .f32⟩
  | .hbm, ⟨24, _⟩ => ⟨S1x4096x1024, .f32⟩
  | .hbm, ⟨25, _⟩ => ⟨S1x4096x1024, .f32⟩
  | .hbm, ⟨26, _⟩ => ⟨S1024, .f32⟩
  | .hbm, ⟨27, _⟩ => ⟨S1x4096x1024, .f32⟩
  | .hbm, ⟨28, _⟩ => ⟨S_, .f32⟩
  | .hbm, ⟨29, _⟩ => ⟨S1x4096, .f32⟩
  | .hbm, ⟨30, _⟩ => ⟨S1x4096x1, .f32⟩
  | .hbm, ⟨31, _⟩ => ⟨S_, .f32⟩
  | .hbm, ⟨32, _⟩ => ⟨S1x4096x1, .f32⟩
  | .hbm, ⟨33, _⟩ => ⟨S1x4096x1, .f32⟩
  | .hbm, ⟨34, _⟩ => ⟨S_, .f32⟩
  | .hbm, ⟨35, _⟩ => ⟨S1x4096x1, .f32⟩
  | .hbm, ⟨36, _⟩ => ⟨S1x4096x1, .f32⟩
  | .hbm, ⟨37, _⟩ => ⟨S1x4096x1, .f32⟩
  | .hbm, ⟨38, _⟩ => ⟨S1x4096x1024, .f32⟩
  | .hbm, ⟨39, _⟩ => ⟨S1x4096x1024, .f32⟩
  | .hbm, ⟨40, _⟩ => ⟨S1x1x1024, .f32⟩
  | .hbm, ⟨41, _⟩ => ⟨S1x4096x1024, .f32⟩
  | .hbm, ⟨42, _⟩ => ⟨S1x4096x1024, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S4096x1024, .bf16⟩
  | _, _ => ⟨S1x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_v22 : Ref sig .tc := ⟨.hbm, 33, rfl⟩
abbrev main_cst_4 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩

abbrev nD : Nat := 1
abbrev τ : Topo := Topo.v7x

variable {F : FTy → Type} [FloatOps F]
-- ==== OutProjB.lean ====
abbrev S1x4096x512 : Shape := ⟨3, ![1, 4096, 512]⟩
abbrev S1024x1024 : Shape := ⟨2, ![1024, 1024]⟩
abbrev S1x4096x1024 : Shape := ⟨3, ![1, 4096, 1024]⟩
abbrev S4096x1024 : Shape := ⟨2, ![4096, 1024]⟩
abbrev S4096x512 : Shape := ⟨2, ![4096, 512]⟩
abbrev S_ : Shape := ⟨0, ![]⟩
abbrev S1 : Shape := ⟨1, ![1]⟩
abbrev S4x128x1024 : Shape := ⟨3, ![4, 128, 1024]⟩
abbrev S512x1024 : Shape := ⟨2, ![512, 1024]⟩
abbrev S512x512 : Shape := ⟨2, ![512, 512]⟩
abbrev S128x1024 : Shape := ⟨2, ![128, 1024]⟩
abbrev S1x128x1024 : Shape := ⟨3, ![1, 128, 1024]⟩

abbrev nBuf : Space → Nat
  | .hbm => 17
  | .vmem => 14
  | .smem => 1
  | _ => 0

abbrev bufTy : (tb : Table) → Fin (tcTables nBuf tb) → BufTy
  | .hbm, ⟨0, _⟩ => ⟨S1x4096x512, .f32⟩
  | .hbm, ⟨1, _⟩ => ⟨S1x4096x512, .f32⟩
  | .hbm, ⟨2, _⟩ => ⟨S1024x1024, .f32⟩
  | .hbm, ⟨3, _⟩ => ⟨S1x4096x1024, .f32⟩
  | .hbm, ⟨4, _⟩ => ⟨S4096x1024, .f32⟩
  | .hbm, ⟨5, _⟩ => ⟨S4096x1024, .bf16⟩
  | .hbm, ⟨6, _⟩ => ⟨S1024x1024, .bf16⟩
  | .hbm, ⟨7, _⟩ => ⟨S4096x512, .f32⟩
  | .hbm, ⟨8, _⟩ => ⟨S4096x512, .bf16⟩
  | .hbm, ⟨9, _⟩ => ⟨S4096x512, .f32⟩
  | .hbm, ⟨10, _⟩ => ⟨S4096x512, .bf16⟩
  | .hbm, ⟨11, _⟩ => ⟨S_, .i32⟩
  | .hbm, ⟨12, _⟩ => ⟨S1, .i32⟩
  | .hbm, ⟨13, _⟩ => ⟨S4096x512, .f32⟩
  | .hbm, ⟨14, _⟩ => ⟨S4096x512, .bf16⟩
  | .hbm, ⟨15, _⟩ => ⟨S4x128x1024, .f32⟩
  | .hbm, ⟨16, _⟩ => ⟨S4x128x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .f32⟩
  | .local _ .vmem, ⟨8, _⟩ => ⟨S512x512, .f32⟩
  | .local _ .vmem, ⟨9, _⟩ => ⟨S512x512, .bf16⟩
  | .local _ .vmem, ⟨10, _⟩ => ⟨S512x512, .bf16⟩
  | .local _ .vmem, ⟨11, _⟩ => ⟨S4x128x1024, .f32⟩
  | .local _ .vmem, ⟨12, _⟩ => ⟨S4x128x1024, .bf16⟩
  | .local _ .vmem, ⟨13, _⟩ => ⟨S1024x1024, .f32⟩
  | .local _ .smem, ⟨0, _⟩ => ⟨S1, .i32⟩
  | _, _ => ⟨S1x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨0, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_v7 : Ref sig .tc := ⟨.hbm, 12, rfl⟩
abbrev main_v8_0 : Ref sig .tc := ⟨.hbm, 13, rfl⟩
abbrev main_v8_1 : Ref sig .tc := ⟨.hbm, 14, rfl⟩
abbrev main_v8_2 : Ref sig .tc := ⟨.hbm, 15, rfl⟩
abbrev main_v8_3 : Ref sig .tc := ⟨.hbm, 16, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_scratch0 : Ref sig .tc := ⟨.vmem, 13, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v30 : BitVec 1 := Scalar.cmpi .eq arg0 c7_i32
  let v31 : BitVec 32 := Scalar.extui v30
  let c0_i32_24 : BitVec 32 := 0#32
  let v32 : BitVec 1 := Scalar.cmpi .ne v31 c0_i32_24
  v32

def k0_mult1 (v33 : BitVec 32) : BitVec 32 :=
  let c128_i32 : BitVec 32 := 128#32
  let v34 : BitVec 32 := Scalar.muli v33 c128_i32
  v34

def k0_off1 (v33 : BitVec 32) : Fin 2 → Nat :=
  let c0_i32_26 : BitVec 32 := 0#32
  let c128_i32 : BitVec 32 := 128#32
  let v34 : BitVec 32 := Scalar.muli v33 c128_i32
  let v35 : BitVec 32 := v34
  let v36 : BitVec 32 := Scalar.addi c0_i32_26 v35
  let v37 : Index := Scalar.indexCast v36
  let c0_27 : Index := 0#32
  ![v37.toNat, 0]
def k0_mult2 (v33 : BitVec 32) : BitVec 32 :=
  let c1_i32 : BitVec 32 := 1#32
  let v42 : BitVec 32 := Scalar.subi c1_i32 v33
  let c128_i32_31 : BitVec 32 := 128#32
  let v43 : BitVec 32 := Scalar.muli v42 c128_i32_31
  v43
def k0_off2 (v33 : BitVec 32) : Fin 2 → Nat :=
  let c0_i32_32 : BitVec 32 := 0#32
  let c1_i32 : BitVec 32 := 1#32
  let v42 : BitVec 32 := Scalar.subi c1_i32 v33
  let c128_i32_31 : BitVec 32 := 128#32
  let v43 : BitVec 32 := Scalar.muli v42 c128_i32_31
  let v44 : BitVec 32 := v43
  let v45 : BitVec 32 := Scalar.addi c0_i32_32 v44
  let v46 : Index := Scalar.indexCast v45
  let c0_33 : Index := 0#32
  ![v46.toNat, 0]

def k0_chk1 (i : grid0.Coords) (v33 : BitVec 32) : Prop :=
  (∀ (k0_h2 : k0_cond2 i = 1#1), 8 ∣ (k0_mult1 v33).toNat) ∧
  (∀ (k0_h2 : k0_cond2 i = 1#1), ∀ a, (k0_off1 v33) a + S128x1024.size a ≤ S1024x1024.size a) ∧
  (∀ (k0_h2 : k0_cond2 i = 1#1), 8 ∣ (k0_mult2 v33).toNat) ∧
  (∀ (k0_h2 : k0_cond2 i = 1#1), ∀ a, (k0_off2 v33) a + S128x1024.size a ≤ S1024x1024.size a)
theorem k0_mult1_dvd : ∀ (i : grid0.Coords) (v33 : BitVec 32) (k0_hw1 : k0_chk1 i v33), ∀ (k0_h2 : k0_cond2 i = 1#1), 8 ∣ (k0_mult1 v33).toNat := fun i v33 k0_hw1 k0_h2 => k0_hw1.1 k0_h2
theorem k0_off1_inb : ∀ (i : grid0.Coords) (v33 : BitVec 32) (k0_hw1 : k0_chk1 i v33), ∀ (k0_h2 : k0_cond2 i = 1#1), ∀ a, (k0_off1 v33) a + S128x1024.size a ≤ S1024x1024.size a := fun i v33 k0_hw1 k0_h2 => k0_hw1.2.1 k0_h2
theorem k0_mult2_dvd : ∀ (i : grid0.Coords) (v33 : BitVec 32) (k0_hw1 : k0_chk1 i v33), ∀ (k0_h2 : k0_cond2 i = 1#1), 8 ∣ (k0_mult2 v33).toNat := fun i v33 k0_hw1 k0_h2 => k0_hw1.2.2.1 k0_h2
theorem k0_off2_inb : ∀ (i : grid0.Coords) (v33 : BitVec 32) (k0_hw1 : k0_chk1 i v33), ∀ (k0_h2 : k0_cond2 i = 1#1), ∀ a, (k0_off2 v33) a + S128x1024.size a ≤ S1024x1024.size a := fun i v33 k0_hw1 k0_h2 => k0_hw1.2.2.2 k0_h2

def k0_mult3 (v52 : BitVec 32) : BitVec 32 :=
  let c128_i32_38 : BitVec 32 := 128#32
  let v53 : BitVec 32 := Scalar.muli v52 c128_i32_38
  v53

def k0_off3 (v52 : BitVec 32) : Fin 2 → Nat :=
  let c256_i32 : BitVec 32 := 256#32
  let c128_i32_38 : BitVec 32 := 128#32
  let v53 : BitVec 32 := Scalar.muli v52 c128_i32_38
  let v54 : BitVec 32 := v53
  let v55 : BitVec 32 := Scalar.addi c256_i32 v54
  let v56 : Index := Scalar.indexCast v55
  let c0_39 : Index := 0#32
  ![v56.toNat, 0]
def k0_mult4 (v52 : BitVec 32) : BitVec 32 :=
  let c1_i32_42 : BitVec 32 := 1#32
  let v61 : BitVec 32 := Scalar.subi c1_i32_42 v52
  let c128_i32_43 : BitVec 32 := 128#32
  let v62 : BitVec 32 := Scalar.muli v61 c128_i32_43
  v62
def k0_off4 (v52 : BitVec 32) : Fin 2 → Nat :=
  let c256_i32_44 : BitVec 32 := 256#32
  let c1_i32_42 : BitVec 32 := 1#32
  let v61 : BitVec 32 := Scalar.subi c1_i32_42 v52
  let c128_i32_43 : BitVec 32 := 128#32
  let v62 : BitVec 32 := Scalar.muli v61 c128_i32_43
  let v63 : BitVec 32 := v62
  let v64 : BitVec 32 := Scalar.addi c256_i32_44 v63
  let v65 : Index := Scalar.indexCast v64
  let c0_45 : Index := 0#32
  ![v65.toNat, 0]

def k0_chk2 (i : grid0.Coords) (v52 : BitVec 32) : Prop :=
  (∀ (k0_h2 : k0_cond2 i = 1#1), 8 ∣ (k0_mult3 v52).toNat) ∧
  (∀ (k0_h2 : k0_cond2 i = 1#1), ∀ a, (k0_off3 v52) a + S128x1024.size a ≤ S1024x1024.size a) ∧
  (∀ (k0_h2 : k0_cond2 i = 1#1), 8 ∣ (k0_mult4 v52).toNat) ∧
  (∀ (k0_h2 : k0_cond2 i = 1#1), ∀ a, (k0_off4 v52) a + S128x1024.size a ≤ S1024x1024.size a)
theorem k0_mult3_dvd : ∀ (i : grid0.Coords) (v52 : BitVec 32) (k0_hw2 : k0_chk2 i v52), ∀ (k0_h2 : k0_cond2 i = 1#1), 8 ∣ (k0_mult3 v52).toNat := fun i v52 k0_hw2 k0_h2 => k0_hw2.1 k0_h2
theorem k0_off3_inb : ∀ (i : grid0.Coords) (v52 : BitVec 32) (k0_hw2 : k0_chk2 i v52), ∀ (k0_h2 : k0_cond2 i = 1#1), ∀ a, (k0_off3 v52) a + S128x1024.size a ≤ S1024x1024.size a := fun i v52 k0_hw2 k0_h2 => k0_hw2.2.1 k0_h2
theorem k0_mult4_dvd : ∀ (i : grid0.Coords) (v52 : BitVec 32) (k0_hw2 : k0_chk2 i v52), ∀ (k0_h2 : k0_cond2 i = 1#1), 8 ∣ (k0_mult4 v52).toNat := fun i v52 k0_hw2 k0_h2 => k0_hw2.2.2.1 k0_h2
theorem k0_off4_inb : ∀ (i : grid0.Coords) (v52 : BitVec 32) (k0_hw2 : k0_chk2 i v52), ∀ (k0_h2 : k0_cond2 i = 1#1), ∀ a, (k0_off4 v52) a + S128x1024.size a ≤ S1024x1024.size a := fun i v52 k0_hw2 k0_h2 => k0_hw2.2.2.2 k0_h2

def k0_mult5 (v71 : BitVec 32) : BitVec 32 :=
  let c128_i32_50 : BitVec 32 := 128#32
  let v72 : BitVec 32 := Scalar.muli v71 c128_i32_50
  v72

def k0_off5 (v71 : BitVec 32) : Fin 2 → Nat :=
  let c512_i32 : BitVec 32 := 512#32
  let c128_i32_50 : BitVec 32 := 128#32
  let v72 : BitVec 32 := Scalar.muli v71 c128_i32_50
  let v73 : BitVec 32 := v72
  let v74 : BitVec 32 := Scalar.addi c512_i32 v73
  let v75 : Index := Scalar.indexCast v74
  let c0_51 : Index := 0#32
  ![v75.toNat, 0]
def k0_mult6 (v71 : BitVec 32) : BitVec 32 :=
  let c1_i32_54 : BitVec 32 := 1#32
  let v80 : BitVec 32 := Scalar.subi c1_i32_54 v71
  let c128_i32_55 : BitVec 32 := 128#32
  let v81 : BitVec 32 := Scalar.muli v80 c128_i32_55
  v81
def k0_off6 (v71 : BitVec 32) : Fin 2 → Nat :=
  let c512_i32_56 : BitVec 32 := 512#32
  let c1_i32_54 : BitVec 32 := 1#32
  let v80 : BitVec 32 := Scalar.subi c1_i32_54 v71
  let c128_i32_55 : BitVec 32 := 128#32
  let v81 : BitVec 32 := Scalar.muli v80 c128_i32_55
  let v82 : BitVec 32 := v81
  let v83 : BitVec 32 := Scalar.addi c512_i32_56 v82
  let v84 : Index := Scalar.indexCast v83
  let c0_57 : Index := 0#32
  ![v84.toNat, 0]

def k0_chk3 (i : grid0.Coords) (v71 : BitVec 32) : Prop :=
  (∀ (k0_h2 : k0_cond2 i = 1#1), 8 ∣ (k0_mult5 v71).toNat) ∧
  (∀ (k0_h2 : k0_cond2 i = 1#1), ∀ a, (k0_off5 v71) a + S128x1024.size a ≤ S1024x1024.size a) ∧
  (∀ (k0_h2 : k0_cond2 i = 1#1), 8 ∣ (k0_mult6 v71).toNat) ∧
  (∀ (k0_h2 : k0_cond2 i = 1#1), ∀ a, (k0_off6 v71) a + S128x1024.size a ≤ S1024x1024.size a)
theorem k0_mult5_dvd : ∀ (i : grid0.Coords) (v71 : BitVec 32) (k0_hw3 : k0_chk3 i v71), ∀ (k0_h2 : k0_cond2 i = 1#1), 8 ∣ (k0_mult5 v71).toNat := fun i v71 k0_hw3 k0_h2 => k0_hw3.1 k0_h2
theorem k0_off5_inb : ∀ (i : grid0.Coords) (v71 : BitVec 32) (k0_hw3 : k0_chk3 i v71), ∀ (k0_h2 : k0_cond2 i = 1#1), ∀ a, (k0_off5 v71) a + S128x1024.size a ≤ S1024x1024.size a := fun i v71 k0_hw3 k0_h2 => k0_hw3.2.1 k0_h2
theorem k0_mult6_dvd : ∀ (i : grid0.Coords) (v71 : BitVec 32) (k0_hw3 : k0_chk3 i v71), ∀ (k0_h2 : k0_cond2 i = 1#1), 8 ∣ (k0_mult6 v71).toNat := fun i v71 k0_hw3 k0_h2 => k0_hw3.2.2.1 k0_h2
theorem k0_off6_inb : ∀ (i : grid0.Coords) (v71 : BitVec 32) (k0_hw3 : k0_chk3 i v71), ∀ (k0_h2 : k0_cond2 i = 1#1), ∀ a, (k0_off6 v71) a + S128x1024.size a ≤ S1024x1024.size a := fun i v71 k0_hw3 k0_h2 => k0_hw3.2.2.2 k0_h2

def k0_mult7 (v90 : BitVec 32) : BitVec 32 :=
  let c128_i32_62 : BitVec 32 := 128#32
  let v91 : BitVec 32 := Scalar.muli v90 c128_i32_62
  v91

def k0_off7 (v90 : BitVec 32) : Fin 2 → Nat :=
  let c768_i32 : BitVec 32 := 768#32
  let c128_i32_62 : BitVec 32 := 128#32
  let v91 : BitVec 32 := Scalar.muli v90 c128_i32_62
  let v92 : BitVec 32 := v91
  let v93 : BitVec 32 := Scalar.addi c768_i32 v92
  let v94 : Index := Scalar.indexCast v93
  let c0_63 : Index := 0#32
  ![v94.toNat, 0]
def k0_mult8 (v90 : BitVec 32) : BitVec 32 :=
  let c1_i32_66 : BitVec 32 := 1#32
  let v99 : BitVec 32 := Scalar.subi c1_i32_66 v90
  let c128_i32_67 : BitVec 32 := 128#32
  let v100 : BitVec 32 := Scalar.muli v99 c128_i32_67
  v100
def k0_off8 (v90 : BitVec 32) : Fin 2 → Nat :=
  let c768_i32_68 : BitVec 32 := 768#32
  let c1_i32_66 : BitVec 32 := 1#32
  let v99 : BitVec 32 := Scalar.subi c1_i32_66 v90
  let c128_i32_67 : BitVec 32 := 128#32
  let v100 : BitVec 32 := Scalar.muli v99 c128_i32_67
  let v101 : BitVec 32 := v100
  let v102 : BitVec 32 := Scalar.addi c768_i32_68 v101
  let v103 : Index := Scalar.indexCast v102
  let c0_69 : Index := 0#32
  ![v103.toNat, 0]

def k0_chk4 (i : grid0.Coords) (v90 : BitVec 32) : Prop :=
  (∀ (k0_h2 : k0_cond2 i = 1#1), 8 ∣ (k0_mult7 v90).toNat) ∧
  (∀ (k0_h2 : k0_cond2 i = 1#1), ∀ a, (k0_off7 v90) a + S128x1024.size a ≤ S1024x1024.size a) ∧
  (∀ (k0_h2 : k0_cond2 i = 1#1), 8 ∣ (k0_mult8 v90).toNat) ∧
  (∀ (k0_h2 : k0_cond2 i = 1#1), ∀ a, (k0_off8 v90) a + S128x1024.size a ≤ S1024x1024.size a)
theorem k0_mult7_dvd : ∀ (i : grid0.Coords) (v90 : BitVec 32) (k0_hw4 : k0_chk4 i v90), ∀ (k0_h2 : k0_cond2 i = 1#1), 8 ∣ (k0_mult7 v90).toNat := fun i v90 k0_hw4 k0_h2 => k0_hw4.1 k0_h2
theorem k0_off7_inb : ∀ (i : grid0.Coords) (v90 : BitVec 32) (k0_hw4 : k0_chk4 i v90), ∀ (k0_h2 : k0_cond2 i = 1#1), ∀ a, (k0_off7 v90) a + S128x1024.size a ≤ S1024x1024.size a := fun i v90 k0_hw4 k0_h2 => k0_hw4.2.1 k0_h2
theorem k0_mult8_dvd : ∀ (i : grid0.Coords) (v90 : BitVec 32) (k0_hw4 : k0_chk4 i v90), ∀ (k0_h2 : k0_cond2 i = 1#1), 8 ∣ (k0_mult8 v90).toNat := fun i v90 k0_hw4 k0_h2 => k0_hw4.2.2.1 k0_h2
theorem k0_off8_inb : ∀ (i : grid0.Coords) (v90 : BitVec 32) (k0_hw4 : k0_chk4 i v90), ∀ (k0_h2 : k0_cond2 i = 1#1), ∀ a, (k0_off8 v90) a + S128x1024.size a ≤ S1024x1024.size a := fun i v90 k0_hw4 k0_h2 => k0_hw4.2.2.2 k0_h2

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 1 → Memref sig .tc .smem S1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S4x128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4x128x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== OutProjBRefIdeal.lean ====
abbrev S1x4096x512 : Shape := ⟨3, ![1, 4096, 512]⟩
abbrev S1024x1024 : Shape := ⟨2, ![1024, 1024]⟩
abbrev S1x4096x1024 : Shape := ⟨3, ![1, 4096, 1024]⟩
abbrev S4x2x128x1024 : Shape := ⟨4, ![4, 2, 128, 1024]⟩
abbrev S4096x512 : Shape := ⟨2, ![4096, 512]⟩
abbrev S4x1x128x1024 : Shape := ⟨4, ![4, 1, 128, 1024]⟩
abbrev S4x128x1024 : Shape := ⟨3, ![4, 128, 1024]⟩

abbrev nBuf : Space → Nat
  | .hbm => 20
  | .vmem => 0
  | .smem => 0
  | _ => 0

abbrev bufTy : (tb : Table) → Fin (tcTables nBuf tb) → BufTy
  | .hbm, ⟨0, _⟩ => ⟨S1x4096x512, .f32⟩
  | .hbm, ⟨1, _⟩ => ⟨S1x4096x512, .f32⟩
  | .hbm, ⟨2, _⟩ => ⟨S1024x1024, .f32⟩
  | .hbm, ⟨3, _⟩ => ⟨S1x4096x1024, .f32⟩
  | .hbm, ⟨4, _⟩ => ⟨S1x4096x1024, .f32⟩
  | .hbm, ⟨5, _⟩ => ⟨S1x4096x1024, .f32⟩
  | .hbm, ⟨6, _⟩ => ⟨S1024x1024, .f32⟩
  | .hbm, ⟨7, _⟩ => ⟨S1024x1024, .f32⟩
  | .hbm, ⟨8, _⟩ => ⟨S1x4096x1024, .f32⟩
  | .hbm, ⟨9, _⟩ => ⟨S1x4096x512, .f32⟩
  | .hbm, ⟨10, _⟩ => ⟨S1x4096x512, .f32⟩
  | .hbm, ⟨11, _⟩ => ⟨S4x2x128x1024, .f32⟩
  | .hbm, ⟨12, _⟩ => ⟨S4096x512, .f32⟩
  | .hbm, ⟨13, _⟩ => ⟨S4096x512, .f32⟩
  | .hbm, ⟨14, _⟩ => ⟨S4096x512, .bf16⟩
  | .hbm, ⟨15, _⟩ => ⟨S4x1x128x1024, .f32⟩
  | .hbm, ⟨16, _⟩ => ⟨S4x128x1024, .f32⟩
  | .hbm, ⟨17, _⟩ => ⟨S4x1x128x1024, .f32⟩
  | .hbm, ⟨18, _⟩ => ⟨S4x128x1024, .f32⟩
  | .hbm, ⟨19, _⟩ => ⟨S4x128x1024, .bf16⟩
  | _, _ => ⟨S1x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩

abbrev nD : Nat := 1
abbrev τ : Topo := Topo.v7x

variable {F : FTy → Type} [FloatOps F]
-- ==== Prenorm.lean ====
abbrev S1x4096x1024 : Shape := ⟨3, ![1, 4096, 1024]⟩
abbrev S1x1024 : Shape := ⟨2, ![1, 1024]⟩
abbrev S4096x1024 : Shape := ⟨2, ![4096, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 4
  | .vmem => 5
  | .smem => 0
  | _ => 0

abbrev bufTy : (tb : Table) → Fin (tcTables nBuf tb) → BufTy
  | .hbm, ⟨0, _⟩ => ⟨S1x4096x1024, .f32⟩
  | .hbm, ⟨1, _⟩ => ⟨S1x1024, .f32⟩
  | .hbm, ⟨2, _⟩ => ⟨S4096x1024, .f32⟩
  | .hbm, ⟨3, _⟩ => ⟨S4096x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== PrenormRefIdeal.lean ====
abbrev S1x4096x1024 : Shape := ⟨3, ![1, 4096, 1024]⟩
abbrev S1x1024 : Shape := ⟨2, ![1, 1024]⟩
abbrev S1024 : Shape := ⟨1, ![1024]⟩
abbrev S_ : Shape := ⟨0, ![]⟩
abbrev S1x4096 : Shape := ⟨2, ![1, 4096]⟩
abbrev S1x4096x1 : Shape := ⟨3, ![1, 4096, 1]⟩
abbrev S1x1x1024 : Shape := ⟨3, ![1, 1, 1024]⟩
abbrev S4096x1024 : Shape := ⟨2, ![4096, 1024]⟩

abbrev nBuf : Space → Nat
  | .hbm => 21
  | .vmem => 0
  | .smem => 0
  | _ => 0

abbrev bufTy : (tb : Table) → Fin (tcTables nBuf tb) → BufTy
  | .hbm, ⟨0, _⟩ => ⟨S1x4096x1024, .f32⟩
  | .hbm, ⟨1, _⟩ => ⟨S1x1024, .f32⟩
  | .hbm, ⟨2, _⟩ => ⟨S1024, .f32⟩
  | .hbm, ⟨3, _⟩ => ⟨S1x4096x1024, .f32⟩
  | .hbm, ⟨4, _⟩ => ⟨S_, .f32⟩
  | .hbm, ⟨5, _⟩ => ⟨S1x4096, .f32⟩
  | .hbm, ⟨6, _⟩ => ⟨S1x4096x1, .f32⟩
  | .hbm, ⟨7, _⟩ => ⟨S_, .f32⟩
  | .hbm, ⟨8, _⟩ => ⟨S1x4096x1, .f32⟩
  | .hbm, ⟨9, _⟩ => ⟨S1x4096x1, .f32⟩
  | .hbm, ⟨10, _⟩ => ⟨S_, .f32⟩
  | .hbm, ⟨11, _⟩ => ⟨S1x4096x1, .f32⟩
  | .hbm, ⟨12, _⟩ => ⟨S1x4096x1, .f32⟩
  | .hbm, ⟨13, _⟩ => ⟨S1x4096x1, .f32⟩
  | .hbm, ⟨14, _⟩ => ⟨S1x4096x1024, .f32⟩
  | .hbm, ⟨15, _⟩ => ⟨S1x4096x1024, .f32⟩
  | .hbm, ⟨16, _⟩ => ⟨S1x1x1024, .f32⟩
  | .hbm, ⟨17, _⟩ => ⟨S1x4096x1024, .f32⟩
  | .hbm, ⟨18, _⟩ => ⟨S1x4096x1024, .f32⟩
  | .hbm, ⟨19, _⟩ => ⟨S4096x1024, .f32⟩
  | .hbm, ⟨20, _⟩ => ⟨S4096x1024, .bf16⟩
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩

abbrev nD : Nat := 1
abbrev τ : Topo := Topo.v7x

variable {F : FTy → Type} [FloatOps F]
-- ==== Proof.PoolBody.lean ====
module

public import proofs.«01_k».proof.Proof.Gen.PoolBwdIdeal.Value
public import Idealize.ShloMosaic.Lib.Pointwise
public import Idealize.ShloMosaic.PureOps.Ideal

/- What one grid point of the pooling gradient computes, operation by operation, written once for a
   column group of 128 columns with its window length, and read at an index. -/

set_option maxRecDepth 16384

@[expose] public section

noncomputable section

namespace Cert.PoolBody

open Idealize.ShloMosaic Idealize.SL.Sem Cert.PoolBwdIdeal Cert.PoolBwdIdeal.Gen

/-- The scale's gradient of one column group: the row already held, plus the column sums of the
    cotangent times the mixed rows. -/
def gscV (off : ℕ) (h : S1024x512.Slices ![0, off] S1024x128) (dc : FVec Ideal S1024x512 .f32)
    (pb : FVec Ideal S1024x128 .bf16) (wp : FVec Ideal S1x128x128 .bf16) (acc : FVec Ideal S1x128 .f32) :
    FVec Ideal S1x128 .f32 :=
  let mixed : FVec Ideal S1024x128 .f32 := matmul dot_S1024x128_S128x128_S1024x128_1_0_0_1_n_n none
    (shapeCast S1024x128 pb shapeCasts_S1024x128_S1024x128) (shapeCast S128x128 wp shapeCasts_S1x128x128_S128x128)
    (constant S1024x128 .f32 0x00000000#32)
  addf (shapeCast S1x128 acc shapeCasts_S1x128_S1x128)
    (shapeCast S1x128 (multiReduction .add [0] S128
      (mulf (extractStridedSlice S1024x128 ![0, off] (shapeCast S1024x512 dc shapeCasts_S1024x512_S1024x512) h) mixed)
      0x00000000#32 reduces_S1024x128_S128 (.inl rfl) rfl) shapeCasts_S128_S1x128)

theorem gscV_apply (off h dc pb wp acc) (a : Fin 1) (k : Fin 128) :
    gscV off h dc pb wp acc (ix2 a k)
      = acc (ix2 a k) + ∑ x : Fin 1024, dc (ix2 x ⟨off + k.val, by have := h.2 1; simp at this; omega⟩)
          * ∑ y : Fin 128, pb (ix2 x y) * wp (ix3 0 y k) := by
  unfold gscV
  pointwise

/-- The 128 by 256 matrix with a one where the column is 0 to `w − 1` right of the row. -/
def bandV (w : BitVec 32) : FVec Ideal S128x256 .bf16 :=
  let d := subi (iota .tc S128x256 32 [1] iota_S128x256_d1_w32) (iota .tc S128x256 32 [0] iota_S128x256_d0_w32)
  truncf .bf16 (select (andi (cmpi .sge d (broadcast S128x256 0#32)) (cmpi .slt d (broadcast S128x256 w)))
    (broadcast S128x256 (Scalar.ofBits (F := Ideal) .f32 0x3F800000#32))
    (broadcast S128x256 (Scalar.ofBits .f32 0x00000000#32))) bitsLt_bf16_f32

theorem bandV_apply (w) (a : Fin 128) (k : Fin 256) :
    bandV w (ix2 a k) = Scalar.select
      (IntOp.andi (IntOp.cmpi CmpIPredicate.sge (IntOp.subi (BitVec.ofNat 32 k) (BitVec.ofNat 32 a)) 0#32)
        (IntOp.cmpi CmpIPredicate.slt (IntOp.subi (BitVec.ofNat 32 k) (BitVec.ofNat 32 a)) w)) 1 0 := by
  unfold bandV
  pointwise

/-- The cotangent rows of the block followed by the next 128 rows, or by zeros at the end. -/
def dextV (b : BitVec 1) (dc : FVec Ideal S1024x512 .f32) (dn : FVec Ideal S128x512 .f32) :
    FVec Ideal S1152x512 .f32 :=
  concatenate S1152x512 0 [⟨S1024x512, shapeCast S1024x512 dc shapeCasts_S1024x512_S1024x512⟩,
    ⟨S128x512, Scalar.select b (shapeCast S128x512 dn shapeCasts_S128x512_S128x512)
      (broadcast S128x512 (Scalar.ofBits (F := Ideal) .f32 0x00000000#32))⟩] concatenates_S1024x512_S128x512_S1152x512_d0

theorem dextV_apply (b dc dn) (a : Fin 1152) (k : Fin 512) :
    dextV b dc dn (ix2 a k) = if h : a.val < 1024 then dc (ix2 ⟨a.val, h⟩ k)
      else Scalar.select b (dn (ix2 ⟨a.val - 1024, by omega⟩ k)) 0 := by
  unfold dextV
  pointwise

/-- The gradient at the mixed rows of one column group: the cotangent times the scale. -/
def dmV (off : ℕ) (h : S1152x512.Slices ![0, off] S1152x128) (de : FVec Ideal S1152x512 .f32)
    (sc : FVec Ideal S1x128 .f32) : FVec Ideal S1152x128 .bf16 :=
  truncf .bf16 (mulf (extractStridedSlice S1152x128 ![0, off] de h)
    (broadcastTo S1152x128 sc broadcasts_S1x128_S1152x128)) bitsLt_bf16_f32

theorem dmV_apply (off h de sc) (a : Fin 1152) (k : Fin 128) :
    dmV off h de sc (ix2 a k)
      = de (ix2 a ⟨off + k.val, by have := h.2 1; simp at this; omega⟩) * sc (ix2 0 k) := by
  unfold dmV
  pointwise

/-- The weight's gradient of one column group, on what is already held. -/
def gwpV (pb : FVec Ideal S1024x128 .bf16) (dm : FVec Ideal S1152x128 .bf16) (acc : FVec Ideal S1x128x128 .f32) :
    FVec Ideal S1x128x128 .f32 :=
  shapeCast S1x128x128 (addf (shapeCast S128x128 acc shapeCasts_S1x128x128_S128x128)
    (matmul dot_S1024x128_S1024x128_S128x128_0_0_1_1_n_n none (shapeCast S1024x128 pb shapeCasts_S1024x128_S1024x128)
      (extractStridedSlice S1024x128 ![0, 0] dm slices_S1152x128_o0_0_S1024x128)
      (constant S128x128 .f32 0x00000000#32))) shapeCasts_S128x128_S1x128x128

theorem gwpV_apply (pb dm acc) (a : Fin 1) (c k : Fin 128) :
    gwpV pb dm acc (ix3 a c k)
      = acc (ix3 0 c k) + ∑ x : Fin 1024, pb (ix2 x c) * dm (ix2 ⟨x.val, by omega⟩ k) := by
  unfold gwpV
  pointwise

/-- The gradient at the pooled rows of one column group. -/
def dpV (wp : FVec Ideal S1x128x128 .bf16) (dm : FVec Ideal S1152x128 .bf16) : FVec Ideal S1152x128 .f32 :=
  matmul dot_S1152x128_S128x128_S1152x128_1_1_0_0_n_n none dm
    (shapeCast S128x128 wp shapeCasts_S1x128x128_S128x128) (constant S1152x128 .f32 0x00000000#32)

theorem dpV_apply (wp dm) (a : Fin 1152) (k : Fin 128) :
    dpV wp dm (ix2 a k) = ∑ x : Fin 128, dm (ix2 a x) * wp (ix3 0 k x) := by
  unfold dpV
  pointwise

/-- The gradient at the pooled rows divided by the number of rows in each row's window. -/
def zV (w : BitVec 32) (t : IVec S1152x128 32) (dp : FVec Ideal S1152x128 .f32) : FVec Ideal S1152x128 .f32 :=
  divf dp (sitofp .f32 (minsi (addi t (broadcast S1152x128 1#32)) (broadcast S1152x128 w)))

theorem zV_apply (w t dp) (a : Fin 1152) (k : Fin 128) :
    zV w t dp (ix2 a k) = Ideal.div (dp (ix2 a k))
      (FloatOps.sitofp (F := Ideal) .f32 (IntOp.minsi (IntOp.addi (t (ix2 a k)) 1#32) w)) := by
  unfold zV
  pointwise

theorem pay6_apply (i) (a : Fin 1152) (k : Fin 128) :
    k0_pay6 i (ix2 a k) = IntOp.addi (Scalar.muli (BitVec.ofNat 32 (i 0).val) 1024#32) (BitVec.ofNat 32 a.val) := by
  unfold k0_pay6
  pointwise

/-- One 128-row chunk of the windowed sums: the band matrix times 256 rows, and times what the
    rounding of these rows left over. -/
def chunkV (o : ℕ) (h : S1152x128.Slices ![o, 0] S256x128) (band : FVec Ideal S128x256 .bf16)
    (z : FVec Ideal S1152x128 .f32) : FVec Ideal S128x128 .f32 :=
  let s : FVec Ideal S256x128 .f32 := extractStridedSlice S256x128 ![o, 0] z h
  let hi : FVec Ideal S256x128 .bf16 := truncf .bf16 s bitsLt_bf16_f32
  let lo : FVec Ideal S256x128 .bf16 := truncf .bf16 (subf s (extf .f32 hi bitsLt_bf16_f32)) bitsLt_bf16_f32
  addf (matmul dot_S128x256_S256x128_S128x128_1_0_0_1_n_n none band hi (constant S128x128 .f32 0x00000000#32))
    (matmul dot_S128x256_S256x128_S128x128_1_0_0_1_n_n none band lo (constant S128x128 .f32 0x00000000#32))

theorem chunkV_apply (o h band z) (a k : Fin 128) :
    chunkV o h band z (ix2 a k)
      = (∑ j : Fin 256, band (ix2 a j) * z (ix2 ⟨o + j.val, by have := h.2 0; simp at this; omega⟩ k))
        + ∑ j : Fin 256, band (ix2 a j) * (z (ix2 ⟨o + j.val, by have := h.2 0; simp at this; omega⟩ k)
            - z (ix2 ⟨o + j.val, by have := h.2 0; simp at this; omega⟩ k)) := by
  unfold chunkV
  pointwise

/-- The eight 256-row slices lie inside the 1152 rows. -/
theorem slice8 (n : Fin 8) : S1152x128.Slices ![128 * n.val, 0] S256x128 :=
  match n with
  | 0 => slices_S1152x128_o0_0_S256x128
  | 1 => slices_S1152x128_o128_0_S256x128
  | 2 => slices_S1152x128_o256_0_S256x128
  | 3 => slices_S1152x128_o384_0_S256x128
  | 4 => slices_S1152x128_o512_0_S256x128
  | 5 => slices_S1152x128_o640_0_S256x128
  | 6 => slices_S1152x128_o768_0_S256x128
  | 7 => slices_S1152x128_o896_0_S256x128

/-- The gradient at the input rows of one column group. -/
def duV (band : FVec Ideal S128x256 .bf16) (z dp : FVec Ideal S1152x128 .f32) : FVec Ideal S1024x128 .bf16 :=
  truncf .bf16 (subf (concatenate S1024x128 0
      [⟨S128x128, chunkV 0 slices_S1152x128_o0_0_S256x128 band z⟩,
       ⟨S128x128, chunkV 128 slices_S1152x128_o128_0_S256x128 band z⟩,
       ⟨S128x128, chunkV 256 slices_S1152x128_o256_0_S256x128 band z⟩,
       ⟨S128x128, chunkV 384 slices_S1152x128_o384_0_S256x128 band z⟩,
       ⟨S128x128, chunkV 512 slices_S1152x128_o512_0_S256x128 band z⟩,
       ⟨S128x128, chunkV 640 slices_S1152x128_o640_0_S256x128 band z⟩,
       ⟨S128x128, chunkV 768 slices_S1152x128_o768_0_S256x128 band z⟩,
       ⟨S128x128, chunkV 896 slices_S1152x128_o896_0_S256x128 band z⟩]
      concatenates_S128x128_S128x128_S128x128_S128x128_S128x128_S128x128_S128x128_S128x128_S1024x128_d0)
    (extractStridedSlice S1024x128 ![0, 0] dp slices_S1152x128_o0_0_S1024x128)) bitsLt_bf16_f32

/-- The eight chunks on top of each other, read at a row: chunk `r / 128` at row `r % 128`. -/
theorem chunks_apply (band z) (r : Fin 1024) (k : Fin 128) :
    concatenate S1024x128 0
      [⟨S128x128, chunkV 0 slices_S1152x128_o0_0_S256x128 band z⟩,
       ⟨S128x128, chunkV 128 slices_S1152x128_o128_0_S256x128 band z⟩,
       ⟨S128x128, chunkV 256 slices_S1152x128_o256_0_S256x128 band z⟩,
       ⟨S128x128, chunkV 384 slices_S1152x128_o384_0_S256x128 band z⟩,
       ⟨S128x128, chunkV 512 slices_S1152x128_o512_0_S256x128 band z⟩,
       ⟨S128x128, chunkV 640 slices_S1152x128_o640_0_S256x128 band z⟩,
       ⟨S128x128, chunkV 768 slices_S1152x128_o768_0_S256x128 band z⟩,
       ⟨S128x128, chunkV 896 slices_S1152x128_o896_0_S256x128 band z⟩]
      concatenates_S128x128_S128x128_S128x128_S128x128_S128x128_S128x128_S128x128_S128x128_S1024x128_d0 (ix2 r k)
      = chunkV (128 * (⟨r.val / 128, by omega⟩ : Fin 8).val) (slice8 ⟨r.val / 128, by omega⟩) band z
          (ix2 ⟨r.val % 128, by omega⟩ k) := by
  refine concatenate_ofFn_apply (s₁ := S128x128) (t := S1024x128) 0
    (fun n : Fin 8 => chunkV (128 * n.val) (slice8 n) band z) _ rfl 128 rfl (ix2 r k) ⟨r.val / 128, by omega⟩ rfl
    (ix2 ⟨r.val % 128, by omega⟩ k) rfl ?_
  intro b hb
  fin_cases b
  · exact absurd rfl hb
  · rfl

theorem duV_apply (band z dp) (r : Fin 1024) (k : Fin 128) :
    duV band z dp (ix2 r k)
      = ((∑ j : Fin 256, band (ix2 ⟨r.val % 128, by omega⟩ j) * z (ix2 ⟨128 * (r.val / 128) + j.val, by omega⟩ k))
        + ∑ j : Fin 256, band (ix2 ⟨r.val % 128, by omega⟩ j) * (z (ix2 ⟨128 * (r.val / 128) + j.val, by omega⟩ k)
            - z (ix2 ⟨128 * (r.val / 128) + j.val, by omega⟩ k)))
        - dp (ix2 ⟨r.val, by omega⟩ k) := by
  have h := chunks_apply band z r k
  rw [chunkV_apply] at h
  unfold duV
  generalize hc : concatenate S1024x128 0 _ _ = C at h ⊢
  pointwise
  rw [h]

end Cert.PoolBody
-- ==== Proof.PoolBlock.lean ====
module

public import proofs.«01_k».proof.Proof.PoolBody
public import Idealize.ShloMosaic.Lib.WholeRead

/- What the body of the pooling gradient leaves in its three output blocks at one grid point, read at
   an index, from the five blocks it loads and the two it adds to. -/

set_option maxRecDepth 16384

@[expose] public section

noncomputable section

namespace Cert.PoolBody

open Idealize.ShloMosaic Idealize.SL.Sem Cert.PoolBwdIdeal Cert.PoolBwdIdeal.Gen

/-- A piece that is one slot of the four, laid over earlier pieces, read at an index. -/
theorem canon_slot (o : ℕ) (inb : ∀ a, (![o, 0, 0] : Fin 3 → ℕ) a + S1x128x128.size a ≤ S4x128x128.size a)
    (w : S1x128x128.Idx → Elt Ideal .f32) (L : List (View.Piece (Elt Ideal) S4x128x128 .f32)) (g : Fin 4) (c d : Fin 128) :
    View.canon ((⟨Rect.unit (s := S4x128x128) ![o, 0, 0] S1x128x128.size inb, w⟩ : View.Piece (Elt Ideal) S4x128x128 .f32) :: L) (ix3 g c d)
      = if g.val = o then w (ix3 0 c d) else View.canon L (ix3 g c d) := by
  split_ifs with h
  · have e : (ix3 g c d : S4x128x128.Idx) = (Rect.unit (s := S4x128x128) ![o, 0, 0] S1x128x128.size inb).emb
        (ix3 (0 : Fin 1) c d : S1x128x128.Idx) := by
      funext a
      apply Fin.ext
      fin_cases a
      · change g.val = o + 1 * 0; omega
      · change c.val = 0 + 1 * c.val; omega
      · change d.val = 0 + 1 * d.val; omega
    rw [e]
    exact View.canon_cons_emb _ _ _ _
  · apply View.canon_cons_of_not_mem
    rw [Rect.mem_set_unit]
    intro hm
    have := hm 0
    change o ≤ g.val ∧ g.val < o + 1 at this
    omega

/-- A piece that is 128 columns of a row of 512, laid over earlier pieces, read at an index. -/
theorem canon_row (o : ℕ) (inb : ∀ a, (![0, o] : Fin 2 → ℕ) a + S1x128.size a ≤ S1x512.size a)
    (w : S1x128.Idx → Elt Ideal .f32) (L : List (View.Piece (Elt Ideal) S1x512 .f32)) (a : Fin 1) (q : Fin 512) :
    View.canon ((⟨Rect.unit (s := S1x512) ![0, o] S1x128.size inb, w⟩ : View.Piece (Elt Ideal) S1x512 .f32) :: L) (ix2 a q)
      = if h : o ≤ q.val ∧ q.val < o + 128 then w (ix2 a ⟨q.val - o, by omega⟩) else View.canon L (ix2 a q) := by
  split_ifs with h
  · have e : (ix2 a q : S1x512.Idx) = (Rect.unit (s := S1x512) ![0, o] S1x128.size inb).emb
        (ix2 a (⟨q.val - o, by omega⟩ : Fin 128) : S1x128.Idx) := by
      funext b
      apply Fin.ext
      fin_cases b
      · change a.val = 0 + 1 * a.val; omega
      · change q.val = o + 1 * (q.val - o); omega
    rw [e]
    exact View.canon_cons_emb _ _ _ _
  · apply View.canon_cons_of_not_mem
    rw [Rect.mem_set_unit]
    intro hm
    exact h (hm 1)

/-- A piece that is 128 columns of a block of 512, laid over earlier pieces, read at an index. -/
theorem canon_cols (o : ℕ) (inb : ∀ a, (![0, o] : Fin 2 → ℕ) a + S1024x128.size a ≤ S1024x512.size a)
    (w : S1024x128.Idx → Elt Ideal .bf16) (L : List (View.Piece (Elt Ideal) S1024x512 .bf16)) (a : Fin 1024) (q : Fin 512) :
    View.canon ((⟨Rect.unit (s := S1024x512) ![0, o] S1024x128.size inb, w⟩ : View.Piece (Elt Ideal) S1024x512 .bf16) :: L) (ix2 a q)
      = if h : o ≤ q.val ∧ q.val < o + 128 then w (ix2 a ⟨q.val - o, by omega⟩) else View.canon L (ix2 a q) := by
  split_ifs with h
  · have e : (ix2 a q : S1024x512.Idx) = (Rect.unit (s := S1024x512) ![0, o] S1024x128.size inb).emb
        (ix2 a (⟨q.val - o, by omega⟩ : Fin 128) : S1024x128.Idx) := by
      funext b
      apply Fin.ext
      fin_cases b
      · change a.val = 0 + 1 * a.val; omega
      · change q.val = o + 1 * (q.val - o); omega
    rw [e]
    exact View.canon_cons_emb _ _ _ _
  · apply View.canon_cons_of_not_mem
    rw [Rect.mem_set_unit]
    intro hm
    exact h (hm 1)

/-- A load of the whole block. -/
theorem load_dc (m : Memref sig .tc .vmem S1024x512 .f32) (h : m.IsWhole) (X : Vec Ideal S1024x512 .f32) (inb) :
    View.readAt (Elt Ideal) m.view (Rect.unit (s := S1024x512) ![0, 0] S1024x512.size inb).toLoadRect (h.unread X) = X := by
  funext j
  rw [h.readAt_unread]
  congr 1
  funext a
  apply Fin.ext
  fin_cases a
  · change 0 + 1 * (j 0).val = _; simp
  · change 0 + 1 * (j 1).val = _; simp

/-- A load of the whole block of following rows. -/
theorem load_dn (m : Memref sig .tc .vmem S128x512 .f32) (h : m.IsWhole) (X : Vec Ideal S128x512 .f32) (inb) :
    View.readAt (Elt Ideal) m.view (Rect.unit (s := S128x512) ![0, 0] S128x512.size inb).toLoadRect (h.unread X) = X := by
  funext j
  rw [h.readAt_unread]
  congr 1
  funext a
  apply Fin.ext
  fin_cases a
  · change 0 + 1 * (j 0).val = _; simp
  · change 0 + 1 * (j 1).val = _; simp

/-- A load of 128 columns of the pooled block. -/
theorem load_pb (m : Memref sig .tc .vmem S1024x512 .bf16) (h : m.IsWhole) (X : Vec Ideal S1024x512 .bf16) (o inb)
    (a : Fin 1024) (k : Fin 128) :
    View.readAt (Elt Ideal) m.view (Rect.unit (s := S1024x512) ![0, o] S1024x128.size inb).toLoadRect (h.unread X)
        (ix2 a k : S1024x128.Idx)
      = X (ix2 a ⟨o + k.val, by have := inb 1; change o + 128 ≤ 512 at this; omega⟩) := by
  rw [h.readAt_unread]
  congr 1
  funext b
  apply Fin.ext
  fin_cases b
  · change 0 + 1 * a.val = _; simp
  · change o + 1 * k.val = _; simp

/-- A load of 128 columns of a row. -/
theorem load_row (m : Memref sig .tc .vmem S1x512 .f32) (h : m.IsWhole) (X : Vec Ideal S1x512 .f32) (o inb)
    (a : Fin 1) (k : Fin 128) :
    View.readAt (Elt Ideal) m.view (Rect.unit (s := S1x512) ![0, o] S1x128.size inb).toLoadRect (h.unread X)
        (ix2 a k : S1x128.Idx)
      = X (ix2 a ⟨o + k.val, by have := inb 1; change o + 128 ≤ 512 at this; omega⟩) := by
  rw [h.readAt_unread]
  congr 1
  funext b
  apply Fin.ext
  fin_cases b
  · change 0 + 1 * a.val = _; simp
  · change o + 1 * k.val = _; simp

/-- A load of one slot of the four, of either element type. -/
theorem load_slot {e : EltTy} (m : Memref sig .tc .vmem S4x128x128 e) (h : m.IsWhole) (X : Vec Ideal S4x128x128 e) (o inb)
    (a : Fin 1) (c d : Fin 128) :
    View.readAt (Elt Ideal) m.view (Rect.unit (s := S4x128x128) ![o, 0, 0] S1x128x128.size inb).toLoadRect (h.unread X)
        (ix3 a c d : S1x128x128.Idx)
      = X (ix3 ⟨o, by have := inb 0; change o + 1 ≤ 4 at this; omega⟩ c d) := by
  rw [h.readAt_unread]
  congr 1
  funext b
  apply Fin.ext
  fin_cases b
  · change o + 1 * a.val = _; simp
  · change 0 + 1 * c.val = _; simp
  · change 0 + 1 * d.val = _; simp

/-- The four window lengths. -/
def win : Fin 4 → BitVec 32 := ![2#32, 4#32, 8#32, 16#32]

/-- Column `k` of group `g` among the 512. -/
def col (g : Fin 4) (k : Fin 128) : Fin 512 := ⟨128 * g.val + k.val, by omega⟩

/-- Whether a next block of rows exists at the grid point. -/
def more (i : grid0.Coords) : BitVec 1 := Scalar.cmpi .slt (BitVec.ofNat 32 (i 0).val) 3#32

/-- The gradient at the mixed rows at a row of the 1152. -/
def dmS (i : grid0.Coords) (x1 : Vec Ideal S1024x512 .f32) (x2 : Vec Ideal S128x512 .f32) (x4 : Vec Ideal S1x512 .f32)
    (g : Fin 4) (a : Fin 1152) (d : Fin 128) : EReal :=
  (if h : a.val < 1024 then x1 (ix2 ⟨a.val, h⟩ (col g d)) else Scalar.select (more i) (x2 (ix2 ⟨a.val - 1024, by omega⟩ (col g d))) 0)
    * x4 (ix2 0 (col g d))

/-- The gradient at the pooled rows at a row of the 1152. -/
def dpS (i : grid0.Coords) (x1 : Vec Ideal S1024x512 .f32) (x2 : Vec Ideal S128x512 .f32) (x3 : Vec Ideal S4x128x128 .bf16)
    (x4 : Vec Ideal S1x512 .f32) (g : Fin 4) (a : Fin 1152) (k : Fin 128) : EReal :=
  ∑ d : Fin 128, dmS i x1 x2 x4 g a d * x3 (ix3 g k d)

/-- The same divided by the number of rows in the row's window. -/
def zS (i : grid0.Coords) (x1 : Vec Ideal S1024x512 .f32) (x2 : Vec Ideal S128x512 .f32) (x3 : Vec Ideal S4x128x128 .bf16)
    (x4 : Vec Ideal S1x512 .f32) (g : Fin 4) (a : Fin 1152) (k : Fin 128) : EReal :=
  Ideal.div (dpS i x1 x2 x3 x4 g a k) (FloatOps.sitofp (F := Ideal) .f32
    (IntOp.minsi (IntOp.addi (IntOp.addi (Scalar.muli (BitVec.ofNat 32 (i 0).val) 1024#32) (BitVec.ofNat 32 a.val)) 1#32) (win g)))

/-- The band matrix entry. -/
def bandS (g : Fin 4) (a : Fin 128) (j : Fin 256) : EReal := bandV (win g) (ix2 a j)

/-- The gradient at the input rows of the block. -/
def duS (i : grid0.Coords) (x1 : Vec Ideal S1024x512 .f32) (x2 : Vec Ideal S128x512 .f32) (x3 : Vec Ideal S4x128x128 .bf16)
    (x4 : Vec Ideal S1x512 .f32) (g : Fin 4) (r : Fin 1024) (k : Fin 128) : EReal :=
  ((∑ j : Fin 256, bandS g ⟨r.val % 128, by omega⟩ j * zS i x1 x2 x3 x4 g ⟨128 * (r.val / 128) + j.val, by omega⟩ k)
    + ∑ j : Fin 256, bandS g ⟨r.val % 128, by omega⟩ j
        * (zS i x1 x2 x3 x4 g ⟨128 * (r.val / 128) + j.val, by omega⟩ k - zS i x1 x2 x3 x4 g ⟨128 * (r.val / 128) + j.val, by omega⟩ k))
    - dpS i x1 x2 x3 x4 g ⟨r.val, by omega⟩ k

/-- The block's part of the weight's gradient. -/
def gwpS (i : grid0.Coords) (x0 : Vec Ideal S1024x512 .bf16) (x1 : Vec Ideal S1024x512 .f32) (x2 : Vec Ideal S128x512 .f32)
    (x4 : Vec Ideal S1x512 .f32) (g : Fin 4) (c d : Fin 128) : EReal :=
  ∑ r : Fin 1024, x0 (ix2 r (col g c)) * dmS i x1 x2 x4 g ⟨r.val, by omega⟩ d

/-- The block's part of the scale's gradient. -/
def gscS (x0 : Vec Ideal S1024x512 .bf16) (x1 : Vec Ideal S1024x512 .f32) (x3 : Vec Ideal S4x128x128 .bf16)
    (g : Fin 4) (k : Fin 128) : EReal :=
  ∑ r : Fin 1024, x1 (ix2 r (col g k)) * ∑ y : Fin 128, x0 (ix2 r (col g y)) * x3 (ix3 g y k)

/-- The pieces of the input rows' gradient, in case A. -/
theorem pieces5_A
    (c : Dev nD) (i : grid0.Coords) (arg1 : Memref sig .tc .vmem S1024x512 .bf16) (harg1 : arg1.IsWhole)
    (arg2 : Memref sig .tc .vmem S1024x512 .f32) (harg2 : arg2.IsWhole) (arg3 : Memref sig .tc .vmem S128x512 .f32)
    (harg3 : arg3.IsWhole) (arg4 : Memref sig .tc .vmem S4x128x128 .bf16) (harg4 : arg4.IsWhole)
    (arg5 : Memref sig .tc .vmem S1x512 .f32) (harg5 : arg5.IsWhole) (arg6 : Memref sig .tc .vmem S1024x512 .bf16)
    (harg6 : arg6.IsWhole) (arg7 : Memref sig .tc .vmem S4x128x128 .f32) (harg7 : arg7.IsWhole)
    (arg8 : Memref sig .tc .vmem S1x512 .f32) (harg8 : arg8.IsWhole)
    (hc0 : cond0_0 i) (x0 : Vec Ideal S1024x512 .bf16)
    (x1 : Vec Ideal S1024x512 .f32) (x2 : Vec Ideal S128x512 .f32) (x3 : Vec Ideal S4x128x128 .bf16)
    (x4 : Vec Ideal S1x512 .f32) :
    (kernelRun0_A c i arg1 harg1 arg2 harg2 arg3 harg3 arg4 harg4 arg5 harg5 arg6 harg6 arg7 harg7 arg8 harg8 hc0 x0 x1 x2 x3 x4).1 =
      [⟨Rect.unit (s := S1024x512) ![0, 384] S1024x128.size inb_S1024x512_S1024x128_0_384, duV (bandV 16#32) (zV 16#32 (k0_pay6 i) (dpV (View.readAt (Elt Ideal) arg4.view (Rect.unit (s := S4x128x128) ![3, 0, 0] S1x128x128.size inb_S4x128x128_S1x128x128_3_0_0).toLoadRect (harg4.unread x3)) (dmV 384 slices_S1152x512_o0_384_S1152x128 (dextV (more i) (View.readAt (Elt Ideal) arg2.view (Rect.unit (s := S1024x512) ![0, 0] S1024x512.size inb_S1024x512_S1024x512_0_0).toLoadRect (harg2.unread x1)) (View.readAt (Elt Ideal) arg3.view (Rect.unit (s := S128x512) ![0, 0] S128x512.size inb_S128x512_S128x512_0_0).toLoadRect (harg3.unread x2))) (View.readAt (Elt Ideal) arg5.view (Rect.unit (s := S1x512) ![0, 384] S1x128.size inb_S1x512_S1x128_0_384).toLoadRect (harg5.unread x4))))) (dpV (View.readAt (Elt Ideal) arg4.view (Rect.unit (s := S4x128x128) ![3, 0, 0] S1x128x128.size inb_S4x128x128_S1x128x128_3_0_0).toLoadRect (harg4.unread x3)) (dmV 384 slices_S1152x512_o0_384_S1152x128 (dextV (more i) (View.readAt (Elt Ideal) arg2.view (Rect.unit (s := S1024x512) ![0, 0] S1024x512.size inb_S1024x512_S1024x512_0_0).toLoadRect (harg2.unread x1)) (View.readAt (Elt Ideal) arg3.view (Rect.unit (s := S128x512) ![0, 0] S128x512.size inb_S128x512_S128x512_0_0).toLoadRect (harg3.unread x2))) (View.readAt (Elt Ideal) arg5.view (Rect.unit (s := S1x512) ![0, 384] S1x128.size inb_S1x512_S1x128_0_384).toLoadRect (harg5.unread x4))))⟩,
       ⟨Rect.unit (s := S1024x512) ![0, 256] S1024x128.size inb_S1024x512_S1024x128_0_256, duV (bandV 8#32) (zV 8#32 (k0_pay6 i) (dpV (View.readAt (Elt Ideal) arg4.view (Rect.unit (s := S4x128x128) ![2, 0, 0] S1x128x128.size inb_S4x128x128_S1x128x128_2_0_0).toLoadRect (harg4.unread x3)) (dmV 256 slices_S1152x512_o0_256_S1152x128 (dextV (more i) (View.readAt (Elt Ideal) arg2.view (Rect.unit (s := S1024x512) ![0, 0] S1024x512.size inb_S1024x512_S1024x512_0_0).toLoadRect (harg2.unread x1)) (View.readAt (Elt Ideal) arg3.view (Rect.unit (s := S128x512) ![0, 0] S128x512.size inb_S128x512_S128x512_0_0).toLoadRect (harg3.unread x2))) (View.readAt (Elt Ideal) arg5.view (Rect.unit (s := S1x512) ![0, 256] S1x128.size inb_S1x512_S1x128_0_256).toLoadRect (harg5.unread x4))))) (dpV (View.readAt (Elt Ideal) arg4.view (Rect.unit (s := S4x128x128) ![2, 0, 0] S1x128x128.size inb_S4x128x128_S1x128x128_2_0_0).toLoadRect (harg4.unread x3)) (dmV 256 slices_S1152x512_o0_256_S1152x128 (dextV (more i) (View.readAt (Elt Ideal) arg2.view (Rect.unit (s := S1024x512) ![0, 0] S1024x512.size inb_S1024x512_S1024x512_0_0).toLoadRect (harg2.unread x1)) (View.readAt (Elt Ideal) arg3.view (Rect.unit (s := S128x512) ![0, 0] S128x512.size inb_S128x512_S128x512_0_0).toLoadRect (harg3.unread x2))) (View.readAt (Elt Ideal) arg5.view (Rect.unit (s := S1x512) ![0, 256] S1x128.size inb_S1x512_S1x128_0_256).toLoadRect (harg5.unread x4))))⟩,
       ⟨Rect.unit (s := S1024x512) ![0, 128] S1024x128.size inb_S1024x512_S1024x128_0_128, duV (bandV 4#32) (zV 4#32 (k0_pay6 i) (dpV (View.readAt (Elt Ideal) arg4.view (Rect.unit (s := S4x128x128) ![1, 0, 0] S1x128x128.size inb_S4x128x128_S1x128x128_1_0_0).toLoadRect (harg4.unread x3)) (dmV 128 slices_S1152x512_o0_128_S1152x128 (dextV (more i) (View.readAt (Elt Ideal) arg2.view (Rect.unit (s := S1024x512) ![0, 0] S1024x512.size inb_S1024x512_S1024x512_0_0).toLoadRect (harg2.unread x1)) (View.readAt (Elt Ideal) arg3.view (Rect.unit (s := S128x512) ![0, 0] S128x512.size inb_S128x512_S128x512_0_0).toLoadRect (harg3.unread x2))) (View.readAt (Elt Ideal) arg5.view (Rect.unit (s := S1x512) ![0, 128] S1x128.size inb_S1x512_S1x128_0_128).toLoadRect (harg5.unread x4))))) (dpV (View.readAt (Elt Ideal) arg4.view (Rect.unit (s := S4x128x128) ![1, 0, 0] S1x128x128.size inb_S4x128x128_S1x128x128_1_0_0).toLoadRect (harg4.unread x3)) (dmV 128 slices_S1152x512_o0_128_S1152x128 (dextV (more i) (View.readAt (Elt Ideal) arg2.view (Rect.unit (s := S1024x512) ![0, 0] S1024x512.size inb_S1024x512_S1024x512_0_0).toLoadRect (harg2.unread x1)) (View.readAt (Elt Ideal) arg3.view (Rect.unit (s := S128x512) ![0, 0] S128x512.size inb_S128x512_S128x512_0_0).toLoadRect (harg3.unread x2))) (View.readAt (Elt Ideal) arg5.view (Rect.unit (s := S1x512) ![0, 128] S1x128.size inb_S1x512_S1x128_0_128).toLoadRect (harg5.unread x4))))⟩,
       ⟨Rect.unit (s := S1024x512) ![0, 0] S1024x128.size inb_S1024x512_S1024x128_0_0, duV (bandV 2#32) (zV 2#32 (k0_pay6 i) (dpV (View.readAt (Elt Ideal) arg4.view (Rect.unit (s := S4x128x128) ![0, 0, 0] S1x128x128.size inb_S4x128x128_S1x128x128_0_0_0).toLoadRect (harg4.unread x3)) (dmV 0 slices_S1152x512_o0_0_S1152x128 (dextV (more i) (View.readAt (Elt Ideal) arg2.view (Rect.unit (s := S1024x512) ![0, 0] S1024x512.size inb_S1024x512_S1024x512_0_0).toLoadRect (harg2.unread x1)) (View.readAt (Elt Ideal) arg3.view (Rect.unit (s := S128x512) ![0, 0] S128x512.size inb_S128x512_S128x512_0_0).toLoadRect (harg3.unread x2))) (View.readAt (Elt Ideal) arg5.view (Rect.unit (s := S1x512) ![0, 0] S1x128.size inb_S1x512_S1x128_0_0).toLoadRect (harg5.unread x4))))) (dpV (View.readAt (Elt Ideal) arg4.view (Rect.unit (s := S4x128x128) ![0, 0, 0] S1x128x128.size inb_S4x128x128_S1x128x128_0_0_0).toLoadRect (harg4.unread x3)) (dmV 0 slices_S1152x512_o0_0_S1152x128 (dextV (more i) (View.readAt (Elt Ideal) arg2.view (Rect.unit (s := S1024x512) ![0, 0] S1024x512.size inb_S1024x512_S1024x512_0_0).toLoadRect (harg2.unread x1)) (View.readAt (Elt Ideal) arg3.view (Rect.unit (s := S128x512) ![0, 0] S128x512.size inb_S128x512_S128x512_0_0).toLoadRect (harg3.unread x2))) (View.readAt (Elt Ideal) arg5.view (Rect.unit (s := S1x512) ![0, 0] S1x128.size inb_S1x512_S1x128_0_0).toLoadRect (harg5.unread x4))))⟩] := rfl

/-- The pieces of the input rows' gradient, in case B. -/
theorem pieces5_B
    (c : Dev nD) (i : grid0.Coords) (arg1 : Memref sig .tc .vmem S1024x512 .bf16) (harg1 : arg1.IsWhole)
    (arg2 : Memref sig .tc .vmem S1024x512 .f32) (harg2 : arg2.IsWhole) (arg3 : Memref sig .tc .vmem S128x512 .f32)
    (harg3 : arg3.IsWhole) (arg4 : Memref sig .tc .vmem S4x128x128 .bf16) (harg4 : arg4.IsWhole)
    (arg5 : Memref sig .tc .vmem S1x512 .f32) (harg5 : arg5.IsWhole) (arg6 : Memref sig .tc .vmem S1024x512 .bf16)
    (harg6 : arg6.IsWhole) (arg7 : Memref sig .tc .vmem S4x128x128 .f32) (harg7 : arg7.IsWhole)
    (arg8 : Memref sig .tc .vmem S1x512 .f32) (harg8 : arg8.IsWhole)
    (hc0 : ¬cond0_0 i) (x0 : Vec Ideal S1024x512 .bf16)
    (x1 : Vec Ideal S1024x512 .f32) (x2 : Vec Ideal S128x512 .f32) (x3 : Vec Ideal S4x128x128 .bf16)
    (x4 : Vec Ideal S1x512 .f32) (xo6 : Vec Ideal S4x128x128 .f32) (xo7 : Vec Ideal S1x512 .f32) :
    (kernelRun0_B c i arg1 harg1 arg2 harg2 arg3 harg3 arg4 harg4 arg5 harg5 arg6 harg6 arg7 harg7 arg8 harg8 hc0 x0 x1 x2 x3 x4 xo6 xo7).1 =
      [⟨Rect.unit (s := S1024x512) ![0, 384] S1024x128.size inb_S1024x512_S1024x128_0_384, duV (bandV 16#32) (zV 16#32 (k0_pay6 i) (dpV (View.readAt (Elt Ideal) arg4.view (Rect.unit (s := S4x128x128) ![3, 0, 0] S1x128x128.size inb_S4x128x128_S1x128x128_3_0_0).toLoadRect (harg4.unread x3)) (dmV 384 slices_S1152x512_o0_384_S1152x128 (dextV (more i) (View.readAt (Elt Ideal) arg2.view (Rect.unit (s := S1024x512) ![0, 0] S1024x512.size inb_S1024x512_S1024x512_0_0).toLoadRect (harg2.unread x1)) (View.readAt (Elt Ideal) arg3.view (Rect.unit (s := S128x512) ![0, 0] S128x512.size inb_S128x512_S128x512_0_0).toLoadRect (harg3.unread x2))) (View.readAt (Elt Ideal) arg5.view (Rect.unit (s := S1x512) ![0, 384] S1x128.size inb_S1x512_S1x128_0_384).toLoadRect (harg5.unread x4))))) (dpV (View.readAt (Elt Ideal) arg4.view (Rect.unit (s := S4x128x128) ![3, 0, 0] S1x128x128.size inb_S4x128x128_S1x128x128_3_0_0).toLoadRect (harg4.unread x3)) (dmV 384 slices_S1152x512_o0_384_S1152x128 (dextV (more i) (View.readAt (Elt Ideal) arg2.view (Rect.unit (s := S1024x512) ![0, 0] S1024x512.size inb_S1024x512_S1024x512_0_0).toLoadRect (harg2.unread x1)) (View.readAt (Elt Ideal) arg3.view (Rect.unit (s := S128x512) ![0, 0] S128x512.size inb_S128x512_S128x512_0_0).toLoadRect (harg3.unread x2))) (View.readAt (Elt Ideal) arg5.view (Rect.unit (s := S1x512) ![0, 384] S1x128.size inb_S1x512_S1x128_0_384).toLoadRect (harg5.unread x4))))⟩,
       ⟨Rect.unit (s := S1024x512) ![0, 256] S1024x128.size inb_S1024x512_S1024x128_0_256, duV (bandV 8#32) (zV 8#32 (k0_pay6 i) (dpV (View.readAt (Elt Ideal) arg4.view (Rect.unit (s := S4x128x128) ![2, 0, 0] S1x128x128.size inb_S4x128x128_S1x128x128_2_0_0).toLoadRect (harg4.unread x3)) (dmV 256 slices_S1152x512_o0_256_S1152x128 (dextV (more i) (View.readAt (Elt Ideal) arg2.view (Rect.unit (s := S1024x512) ![0, 0] S1024x512.size inb_S1024x512_S1024x512_0_0).toLoadRect (harg2.unread x1)) (View.readAt (Elt Ideal) arg3.view (Rect.unit (s := S128x512) ![0, 0] S128x512.size inb_S128x512_S128x512_0_0).toLoadRect (harg3.unread x2))) (View.readAt (Elt Ideal) arg5.view (Rect.unit (s := S1x512) ![0, 256] S1x128.size inb_S1x512_S1x128_0_256).toLoadRect (harg5.unread x4))))) (dpV (View.readAt (Elt Ideal) arg4.view (Rect.unit (s := S4x128x128) ![2, 0, 0] S1x128x128.size inb_S4x128x128_S1x128x128_2_0_0).toLoadRect (harg4.unread x3)) (dmV 256 slices_S1152x512_o0_256_S1152x128 (dextV (more i) (View.readAt (Elt Ideal) arg2.view (Rect.unit (s := S1024x512) ![0, 0] S1024x512.size inb_S1024x512_S1024x512_0_0).toLoadRect (harg2.unread x1)) (View.readAt (Elt Ideal) arg3.view (Rect.unit (s := S128x512) ![0, 0] S128x512.size inb_S128x512_S128x512_0_0).toLoadRect (harg3.unread x2))) (View.readAt (Elt Ideal) arg5.view (Rect.unit (s := S1x512) ![0, 256] S1x128.size inb_S1x512_S1x128_0_256).toLoadRect (harg5.unread x4))))⟩,
       ⟨Rect.unit (s := S1024x512) ![0, 128] S1024x128.size inb_S1024x512_S1024x128_0_128, duV (bandV 4#32) (zV 4#32 (k0_pay6 i) (dpV (View.readAt (Elt Ideal) arg4.view (Rect.unit (s := S4x128x128) ![1, 0, 0] S1x128x128.size inb_S4x128x128_S1x128x128_1_0_0).toLoadRect (harg4.unread x3)) (dmV 128 slices_S1152x512_o0_128_S1152x128 (dextV (more i) (View.readAt (Elt Ideal) arg2.view (Rect.unit (s := S1024x512) ![0, 0] S1024x512.size inb_S1024x512_S1024x512_0_0).toLoadRect (harg2.unread x1)) (View.readAt (Elt Ideal) arg3.view (Rect.unit (s := S128x512) ![0, 0] S128x512.size inb_S128x512_S128x512_0_0).toLoadRect (harg3.unread x2))) (View.readAt (Elt Ideal) arg5.view (Rect.unit (s := S1x512) ![0, 128] S1x128.size inb_S1x512_S1x128_0_128).toLoadRect (harg5.unread x4))))) (dpV (View.readAt (Elt Ideal) arg4.view (Rect.unit (s := S4x128x128) ![1, 0, 0] S1x128x128.size inb_S4x128x128_S1x128x128_1_0_0).toLoadRect (harg4.unread x3)) (dmV 128 slices_S1152x512_o0_128_S1152x128 (dextV (more i) (View.readAt (Elt Ideal) arg2.view (Rect.unit (s := S1024x512) ![0, 0] S1024x512.size inb_S1024x512_S1024x512_0_0).toLoadRect (harg2.unread x1)) (View.readAt (Elt Ideal) arg3.view (Rect.unit (s := S128x512) ![0, 0] S128x512.size inb_S128x512_S128x512_0_0).toLoadRect (harg3.unread x2))) (View.readAt (Elt Ideal) arg5.view (Rect.unit (s := S1x512) ![0, 128] S1x128.size inb_S1x512_S1x128_0_128).toLoadRect (harg5.unread x4))))⟩,
       ⟨Rect.unit (s := S1024x512) ![0, 0] S1024x128.size inb_S1024x512_S1024x128_0_0, duV (bandV 2#32) (zV 2#32 (k0_pay6 i) (dpV (View.readAt (Elt Ideal) arg4.view (Rect.unit (s := S4x128x128) ![0, 0, 0] S1x128x128.size inb_S4x128x128_S1x128x128_0_0_0).toLoadRect (harg4.unread x3)) (dmV 0 slices_S1152x512_o0_0_S1152x128 (dextV (more i) (View.readAt (Elt Ideal) arg2.view (Rect.unit (s := S1024x512) ![0, 0] S1024x512.size inb_S1024x512_S1024x512_0_0).toLoadRect (harg2.unread x1)) (View.readAt (Elt Ideal) arg3.view (Rect.unit (s := S128x512) ![0, 0] S128x512.size inb_S128x512_S128x512_0_0).toLoadRect (harg3.unread x2))) (View.readAt (Elt Ideal) arg5.view (Rect.unit (s := S1x512) ![0, 0] S1x128.size inb_S1x512_S1x128_0_0).toLoadRect (harg5.unread x4))))) (dpV (View.readAt (Elt Ideal) arg4.view (Rect.unit (s := S4x128x128) ![0, 0, 0] S1x128x128.size inb_S4x128x128_S1x128x128_0_0_0).toLoadRect (harg4.unread x3)) (dmV 0 slices_S1152x512_o0_0_S1152x128 (dextV (more i) (View.readAt (Elt Ideal) arg2.view (Rect.unit (s := S1024x512) ![0, 0] S1024x512.size inb_S1024x512_S1024x512_0_0).toLoadRect (harg2.unread x1)) (View.readAt (Elt Ideal) arg3.view (Rect.unit (s := S128x512) ![0, 0] S128x512.size inb_S128x512_S128x512_0_0).toLoadRect (harg3.unread x2))) (View.readAt (Elt Ideal) arg5.view (Rect.unit (s := S1x512) ![0, 0] S1x128.size inb_S1x512_S1x128_0_0).toLoadRect (harg5.unread x4))))⟩] := rfl

/-- The pieces of the weight's gradient, where the block is added to. -/
theorem pieces6_B
    (c : Dev nD) (i : grid0.Coords) (arg1 : Memref sig .tc .vmem S1024x512 .bf16) (harg1 : arg1.IsWhole)
    (arg2 : Memref sig .tc .vmem S1024x512 .f32) (harg2 : arg2.IsWhole) (arg3 : Memref sig .tc .vmem S128x512 .f32)
    (harg3 : arg3.IsWhole) (arg4 : Memref sig .tc .vmem S4x128x128 .bf16) (harg4 : arg4.IsWhole)
    (arg5 : Memref sig .tc .vmem S1x512 .f32) (harg5 : arg5.IsWhole) (arg6 : Memref sig .tc .vmem S1024x512 .bf16)
    (harg6 : arg6.IsWhole) (arg7 : Memref sig .tc .vmem S4x128x128 .f32) (harg7 : arg7.IsWhole)
    (arg8 : Memref sig .tc .vmem S1x512 .f32) (harg8 : arg8.IsWhole)
    (hc0 : ¬cond0_0 i) (x0 : Vec Ideal S1024x512 .bf16)
    (x1 : Vec Ideal S1024x512 .f32) (x2 : Vec Ideal S128x512 .f32) (x3 : Vec Ideal S4x128x128 .bf16)
    (x4 : Vec Ideal S1x512 .f32) (xo6 : Vec Ideal S4x128x128 .f32) (xo7 : Vec Ideal S1x512 .f32) :
    (kernelRun0_B c i arg1 harg1 arg2 harg2 arg3 harg3 arg4 harg4 arg5 harg5 arg6 harg6 arg7 harg7 arg8 harg8 hc0 x0 x1 x2 x3 x4 xo6 xo7).2.1 =
      [⟨Rect.unit (s := S4x128x128) ![3, 0, 0] S1x128x128.size inb_S4x128x128_S1x128x128_3_0_0, gwpV (View.readAt (Elt Ideal) arg1.view (Rect.unit (s := S1024x512) ![0, 384] S1024x128.size inb_S1024x512_S1024x128_0_384).toLoadRect (harg1.unread x0)) (dmV 384 slices_S1152x512_o0_384_S1152x128 (dextV (more i) (View.readAt (Elt Ideal) arg2.view (Rect.unit (s := S1024x512) ![0, 0] S1024x512.size inb_S1024x512_S1024x512_0_0).toLoadRect (harg2.unread x1)) (View.readAt (Elt Ideal) arg3.view (Rect.unit (s := S128x512) ![0, 0] S128x512.size inb_S128x512_S128x512_0_0).toLoadRect (harg3.unread x2))) (View.readAt (Elt Ideal) arg5.view (Rect.unit (s := S1x512) ![0, 384] S1x128.size inb_S1x512_S1x128_0_384).toLoadRect (harg5.unread x4))) (View.readAt (Elt Ideal) arg7.view (Rect.unit (s := S4x128x128) ![3, 0, 0] S1x128x128.size inb_S4x128x128_S1x128x128_3_0_0).toLoadRect (harg7.unread xo6))⟩,
       ⟨Rect.unit (s := S4x128x128) ![2, 0, 0] S1x128x128.size inb_S4x128x128_S1x128x128_2_0_0, gwpV (View.readAt (Elt Ideal) arg1.view (Rect.unit (s := S1024x512) ![0, 256] S1024x128.size inb_S1024x512_S1024x128_0_256).toLoadRect (harg1.unread x0)) (dmV 256 slices_S1152x512_o0_256_S1152x128 (dextV (more i) (View.readAt (Elt Ideal) arg2.view (Rect.unit (s := S1024x512) ![0, 0] S1024x512.size inb_S1024x512_S1024x512_0_0).toLoadRect (harg2.unread x1)) (View.readAt (Elt Ideal) arg3.view (Rect.unit (s := S128x512) ![0, 0] S128x512.size inb_S128x512_S128x512_0_0).toLoadRect (harg3.unread x2))) (View.readAt (Elt Ideal) arg5.view (Rect.unit (s := S1x512) ![0, 256] S1x128.size inb_S1x512_S1x128_0_256).toLoadRect (harg5.unread x4))) (View.readAt (Elt Ideal) arg7.view (Rect.unit (s := S4x128x128) ![2, 0, 0] S1x128x128.size inb_S4x128x128_S1x128x128_2_0_0).toLoadRect (harg7.unread xo6))⟩,
       ⟨Rect.unit (s := S4x128x128) ![1, 0, 0] S1x128x128.size inb_S4x128x128_S1x128x128_1_0_0, gwpV (View.readAt (Elt Ideal) arg1.view (Rect.unit (s := S1024x512) ![0, 128] S1024x128.size inb_S1024x512_S1024x128_0_128).toLoadRect (harg1.unread x0)) (dmV 128 slices_S1152x512_o0_128_S1152x128 (dextV (more i) (View.readAt (Elt Ideal) arg2.view (Rect.unit (s := S1024x512) ![0, 0] S1024x512.size inb_S1024x512_S1024x512_0_0).toLoadRect (harg2.unread x1)) (View.readAt (Elt Ideal) arg3.view (Rect.unit (s := S128x512) ![0, 0] S128x512.size inb_S128x512_S128x512_0_0).toLoadRect (harg3.unread x2))) (View.readAt (Elt Ideal) arg5.view (Rect.unit (s := S1x512) ![0, 128] S1x128.size inb_S1x512_S1x128_0_128).toLoadRect (harg5.unread x4))) (View.readAt (Elt Ideal) arg7.view (Rect.unit (s := S4x128x128) ![1, 0, 0] S1x128x128.size inb_S4x128x128_S1x128x128_1_0_0).toLoadRect (harg7.unread xo6))⟩,
       ⟨Rect.unit (s := S4x128x128) ![0, 0, 0] S1x128x128.size inb_S4x128x128_S1x128x128_0_0_0, gwpV (View.readAt (Elt Ideal) arg1.view (Rect.unit (s := S1024x512) ![0, 0] S1024x128.size inb_S1024x512_S1024x128_0_0).toLoadRect (harg1.unread x0)) (dmV 0 slices_S1152x512_o0_0_S1152x128 (dextV (more i) (View.readAt (Elt Ideal) arg2.view (Rect.unit (s := S1024x512) ![0, 0] S1024x512.size inb_S1024x512_S1024x512_0_0).toLoadRect (harg2.unread x1)) (View.readAt (Elt Ideal) arg3.view (Rect.unit (s := S128x512) ![0, 0] S128x512.size inb_S128x512_S128x512_0_0).toLoadRect (harg3.unread x2))) (View.readAt (Elt Ideal) arg5.view (Rect.unit (s := S1x512) ![0, 0] S1x128.size inb_S1x512_S1x128_0_0).toLoadRect (harg5.unread x4))) (View.readAt (Elt Ideal) arg7.view (Rect.unit (s := S4x128x128) ![0, 0, 0] S1x128x128.size inb_S4x128x128_S1x128x128_0_0_0).toLoadRect (harg7.unread xo6))⟩] := rfl

/-- The pieces of the scale's gradient, where the block is added to. -/
theorem pieces7_B
    (c : Dev nD) (i : grid0.Coords) (arg1 : Memref sig .tc .vmem S1024x512 .bf16) (harg1 : arg1.IsWhole)
    (arg2 : Memref sig .tc .vmem S1024x512 .f32) (harg2 : arg2.IsWhole) (arg3 : Memref sig .tc .vmem S128x512 .f32)
    (harg3 : arg3.IsWhole) (arg4 : Memref sig .tc .vmem S4x128x128 .bf16) (harg4 : arg4.IsWhole)
    (arg5 : Memref sig .tc .vmem S1x512 .f32) (harg5 : arg5.IsWhole) (arg6 : Memref sig .tc .vmem S1024x512 .bf16)
    (harg6 : arg6.IsWhole) (arg7 : Memref sig .tc .vmem S4x128x128 .f32) (harg7 : arg7.IsWhole)
    (arg8 : Memref sig .tc .vmem S1x512 .f32) (harg8 : arg8.IsWhole)
    (hc0 : ¬cond0_0 i) (x0 : Vec Ideal S1024x512 .bf16)
    (x1 : Vec Ideal S1024x512 .f32) (x2 : Vec Ideal S128x512 .f32) (x3 : Vec Ideal S4x128x128 .bf16)
    (x4 : Vec Ideal S1x512 .f32) (xo6 : Vec Ideal S4x128x128 .f32) (xo7 : Vec Ideal S1x512 .f32) :
    (kernelRun0_B c i arg1 harg1 arg2 harg2 arg3 harg3 arg4 harg4 arg5 harg5 arg6 harg6 arg7 harg7 arg8 harg8 hc0 x0 x1 x2 x3 x4 xo6 xo7).2.2.1 =
      [⟨Rect.unit (s := S1x512) ![0, 384] S1x128.size inb_S1x512_S1x128_0_384, gscV 384 slices_S1024x512_o0_384_S1024x128 (View.readAt (Elt Ideal) arg2.view (Rect.unit (s := S1024x512) ![0, 0] S1024x512.size inb_S1024x512_S1024x512_0_0).toLoadRect (harg2.unread x1)) (View.readAt (Elt Ideal) arg1.view (Rect.unit (s := S1024x512) ![0, 384] S1024x128.size inb_S1024x512_S1024x128_0_384).toLoadRect (harg1.unread x0)) (View.readAt (Elt Ideal) arg4.view (Rect.unit (s := S4x128x128) ![3, 0, 0] S1x128x128.size inb_S4x128x128_S1x128x128_3_0_0).toLoadRect (harg4.unread x3)) (View.readAt (Elt Ideal) arg8.view (Rect.unit (s := S1x512) ![0, 384] S1x128.size inb_S1x512_S1x128_0_384).toLoadRect (harg8.unread xo7))⟩,
       ⟨Rect.unit (s := S1x512) ![0, 256] S1x128.size inb_S1x512_S1x128_0_256, gscV 256 slices_S1024x512_o0_256_S1024x128 (View.readAt (Elt Ideal) arg2.view (Rect.unit (s := S1024x512) ![0, 0] S1024x512.size inb_S1024x512_S1024x512_0_0).toLoadRect (harg2.unread x1)) (View.readAt (Elt Ideal) arg1.view (Rect.unit (s := S1024x512) ![0, 256] S1024x128.size inb_S1024x512_S1024x128_0_256).toLoadRect (harg1.unread x0)) (View.readAt (Elt Ideal) arg4.view (Rect.unit (s := S4x128x128) ![2, 0, 0] S1x128x128.size inb_S4x128x128_S1x128x128_2_0_0).toLoadRect (harg4.unread x3)) (View.readAt (Elt Ideal) arg8.view (Rect.unit (s := S1x512) ![0, 256] S1x128.size inb_S1x512_S1x128_0_256).toLoadRect (harg8.unread xo7))⟩,
       ⟨Rect.unit (s := S1x512) ![0, 128] S1x128.size inb_S1x512_S1x128_0_128, gscV 128 slices_S1024x512_o0_128_S1024x128 (View.readAt (Elt Ideal) arg2.view (Rect.unit (s := S1024x512) ![0, 0] S1024x512.size inb_S1024x512_S1024x512_0_0).toLoadRect (harg2.unread x1)) (View.readAt (Elt Ideal) arg1.view (Rect.unit (s := S1024x512) ![0, 128] S1024x128.size inb_S1024x512_S1024x128_0_128).toLoadRect (harg1.unread x0)) (View.readAt (Elt Ideal) arg4.view (Rect.unit (s := S4x128x128) ![1, 0, 0] S1x128x128.size inb_S4x128x128_S1x128x128_1_0_0).toLoadRect (harg4.unread x3)) (View.readAt (Elt Ideal) arg8.view (Rect.unit (s := S1x512) ![0, 128] S1x128.size inb_S1x512_S1x128_0_128).toLoadRect (harg8.unread xo7))⟩,
       ⟨Rect.unit (s := S1x512) ![0, 0] S1x128.size inb_S1x512_S1x128_0_0, gscV 0 slices_S1024x512_o0_0_S1024x128 (View.readAt (Elt Ideal) arg2.view (Rect.unit (s := S1024x512) ![0, 0] S1024x512.size inb_S1024x512_S1024x512_0_0).toLoadRect (harg2.unread x1)) (View.readAt (Elt Ideal) arg1.view (Rect.unit (s := S1024x512) ![0, 0] S1024x128.size inb_S1024x512_S1024x128_0_0).toLoadRect (harg1.unread x0)) (View.readAt (Elt Ideal) arg4.view (Rect.unit (s := S4x128x128) ![0, 0, 0] S1x128x128.size inb_S4x128x128_S1x128x128_0_0_0).toLoadRect (harg4.unread x3)) (View.readAt (Elt Ideal) arg8.view (Rect.unit (s := S1x512) ![0, 0] S1x128.size inb_S1x512_S1x128_0_0).toLoadRect (harg8.unread xo7))⟩] := rfl

/-- The pieces of the weight's gradient after 0 column groups, where the block is zeroed first. -/
def L6_0
    (i : grid0.Coords) (arg1 : Memref sig .tc .vmem S1024x512 .bf16) (harg1 : arg1.IsWhole)
    (arg2 : Memref sig .tc .vmem S1024x512 .f32) (harg2 : arg2.IsWhole) (arg3 : Memref sig .tc .vmem S128x512 .f32)
    (harg3 : arg3.IsWhole) (arg4 : Memref sig .tc .vmem S4x128x128 .bf16) (harg4 : arg4.IsWhole)
    (arg5 : Memref sig .tc .vmem S1x512 .f32) (harg5 : arg5.IsWhole) (arg7 : Memref sig .tc .vmem S4x128x128 .f32)
    (arg8 : Memref sig .tc .vmem S1x512 .f32) (x0 : Vec Ideal S1024x512 .bf16)
    (x1 : Vec Ideal S1024x512 .f32) (x2 : Vec Ideal S128x512 .f32) (x3 : Vec Ideal S4x128x128 .bf16)
    (x4 : Vec Ideal S1x512 .f32) : List (View.Piece (Elt Ideal) S4x128x128 .f32) :=
  [⟨Rect.unit (s := S4x128x128) ![0, 0, 0] S4x128x128.size inb_S4x128x128_S4x128x128_0_0_0, k0_pay2 (F := Ideal)⟩]

/-- The pieces of the weight's gradient after 1 column groups, where the block is zeroed first. -/
def L6_1
    (i : grid0.Coords) (arg1 : Memref sig .tc .vmem S1024x512 .bf16) (harg1 : arg1.IsWhole)
    (arg2 : Memref sig .tc .vmem S1024x512 .f32) (harg2 : arg2.IsWhole) (arg3 : Memref sig .tc .vmem S128x512 .f32)
    (harg3 : arg3.IsWhole) (arg4 : Memref sig .tc .vmem S4x128x128 .bf16) (harg4 : arg4.IsWhole)
    (arg5 : Memref sig .tc .vmem S1x512 .f32) (harg5 : arg5.IsWhole) (arg7 : Memref sig .tc .vmem S4x128x128 .f32)
    (arg8 : Memref sig .tc .vmem S1x512 .f32) (x0 : Vec Ideal S1024x512 .bf16)
    (x1 : Vec Ideal S1024x512 .f32) (x2 : Vec Ideal S128x512 .f32) (x3 : Vec Ideal S4x128x128 .bf16)
    (x4 : Vec Ideal S1x512 .f32) : List (View.Piece (Elt Ideal) S4x128x128 .f32) :=
  ⟨Rect.unit (s := S4x128x128) ![0, 0, 0] S1x128x128.size inb_S4x128x128_S1x128x128_0_0_0, gwpV (View.readAt (Elt Ideal) arg1.view (Rect.unit (s := S1024x512) ![0, 0] S1024x128.size inb_S1024x512_S1024x128_0_0).toLoadRect (harg1.unread x0)) (dmV 0 slices_S1152x512_o0_0_S1152x128 (dextV (more i) (View.readAt (Elt Ideal) arg2.view (Rect.unit (s := S1024x512) ![0, 0] S1024x512.size inb_S1024x512_S1024x512_0_0).toLoadRect (harg2.unread x1)) (View.readAt (Elt Ideal) arg3.view (Rect.unit (s := S128x512) ![0, 0] S128x512.size inb_S128x512_S128x512_0_0).toLoadRect (harg3.unread x2))) (View.readAt (Elt Ideal) arg5.view (Rect.unit (s := S1x512) ![0, 0] S1x128.size inb_S1x512_S1x128_0_0).toLoadRect (harg5.unread x4))) (View.readCov arg7.view (L6_0 i arg1 harg1 arg2 harg2 arg3 harg3 arg4 harg4 arg5 harg5 arg7 arg8 x0 x1 x2 x3 x4) (Rect.unit (s := S4x128x128) ![0, 0, 0] S1x128x128.size inb_S4x128x128_S1x128x128_0_0_0).toLoadRect)⟩ ::
      L6_0 i arg1 harg1 arg2 harg2 arg3 harg3 arg4 harg4 arg5 harg5 arg7 arg8 x0 x1 x2 x3 x4

/-- The pieces of the weight's gradient after 2 column groups, where the block is zeroed first. -/
def L6_2
    (i : grid0.Coords) (arg1 : Memref sig .tc .vmem S1024x512 .bf16) (harg1 : arg1.IsWhole)
    (arg2 : Memref sig .tc .vmem S1024x512 .f32) (harg2 : arg2.IsWhole) (arg3 : Memref sig .tc .vmem S128x512 .f32)
    (harg3 : arg3.IsWhole) (arg4 : Memref sig .tc .vmem S4x128x128 .bf16) (harg4 : arg4.IsWhole)
    (arg5 : Memref sig .tc .vmem S1x512 .f32) (harg5 : arg5.IsWhole) (arg7 : Memref sig .tc .vmem S4x128x128 .f32)
    (arg8 : Memref sig .tc .vmem S1x512 .f32) (x0 : Vec Ideal S1024x512 .bf16)
    (x1 : Vec Ideal S1024x512 .f32) (x2 : Vec Ideal S128x512 .f32) (x3 : Vec Ideal S4x128x128 .bf16)
    (x4 : Vec Ideal S1x512 .f32) : List (View.Piece (Elt Ideal) S4x128x128 .f32) :=
  ⟨Rect.unit (s := S4x128x128) ![1, 0, 0] S1x128x128.size inb_S4x128x128_S1x128x128_1_0_0, gwpV (View.readAt (Elt Ideal) arg1.view (Rect.unit (s := S1024x512) ![0, 128] S1024x128.size inb_S1024x512_S1024x128_0_128).toLoadRect (harg1.unread x0)) (dmV 128 slices_S1152x512_o0_128_S1152x128 (dextV (more i) (View.readAt (Elt Ideal) arg2.view (Rect.unit (s := S1024x512) ![0, 0] S1024x512.size inb_S1024x512_S1024x512_0_0).toLoadRect (harg2.unread x1)) (View.readAt (Elt Ideal) arg3.view (Rect.unit (s := S128x512) ![0, 0] S128x512.size inb_S128x512_S128x512_0_0).toLoadRect (harg3.unread x2))) (View.readAt (Elt Ideal) arg5.view (Rect.unit (s := S1x512) ![0, 128] S1x128.size inb_S1x512_S1x128_0_128).toLoadRect (harg5.unread x4))) (View.readCov arg7.view (L6_1 i arg1 harg1 arg2 harg2 arg3 harg3 arg4 harg4 arg5 harg5 arg7 arg8 x0 x1 x2 x3 x4) (Rect.unit (s := S4x128x128) ![1, 0, 0] S1x128x128.size inb_S4x128x128_S1x128x128_1_0_0).toLoadRect)⟩ ::
      L6_1 i arg1 harg1 arg2 harg2 arg3 harg3 arg4 harg4 arg5 harg5 arg7 arg8 x0 x1 x2 x3 x4

/-- The pieces of the weight's gradient after 3 column groups, where the block is zeroed first. -/
def L6_3
    (i : grid0.Coords) (arg1 : Memref sig .tc .vmem S1024x512 .bf16) (harg1 : arg1.IsWhole)
    (arg2 : Memref sig .tc .vmem S1024x512 .f32) (harg2 : arg2.IsWhole) (arg3 : Memref sig .tc .vmem S128x512 .f32)
    (harg3 : arg3.IsWhole) (arg4 : Memref sig .tc .vmem S4x128x128 .bf16) (harg4 : arg4.IsWhole)
    (arg5 : Memref sig .tc .vmem S1x512 .f32) (harg5 : arg5.IsWhole) (arg7 : Memref sig .tc .vmem S4x128x128 .f32)
    (arg8 : Memref sig .tc .vmem S1x512 .f32) (x0 : Vec Ideal S1024x512 .bf16)
    (x1 : Vec Ideal S1024x512 .f32) (x2 : Vec Ideal S128x512 .f32) (x3 : Vec Ideal S4x128x128 .bf16)
    (x4 : Vec Ideal S1x512 .f32) : List (View.Piece (Elt Ideal) S4x128x128 .f32) :=
  ⟨Rect.unit (s := S4x128x128) ![2, 0, 0] S1x128x128.size inb_S4x128x128_S1x128x128_2_0_0, gwpV (View.readAt (Elt Ideal) arg1.view (Rect.unit (s := S1024x512) ![0, 256] S1024x128.size inb_S1024x512_S1024x128_0_256).toLoadRect (harg1.unread x0)) (dmV 256 slices_S1152x512_o0_256_S1152x128 (dextV (more i) (View.readAt (Elt Ideal) arg2.view (Rect.unit (s := S1024x512) ![0, 0] S1024x512.size inb_S1024x512_S1024x512_0_0).toLoadRect (harg2.unread x1)) (View.readAt (Elt Ideal) arg3.view (Rect.unit (s := S128x512) ![0, 0] S128x512.size inb_S128x512_S128x512_0_0).toLoadRect (harg3.unread x2))) (View.readAt (Elt Ideal) arg5.view (Rect.unit (s := S1x512) ![0, 256] S1x128.size inb_S1x512_S1x128_0_256).toLoadRect (harg5.unread x4))) (View.readCov arg7.view (L6_2 i arg1 harg1 arg2 harg2 arg3 harg3 arg4 harg4 arg5 harg5 arg7 arg8 x0 x1 x2 x3 x4) (Rect.unit (s := S4x128x128) ![2, 0, 0] S1x128x128.size inb_S4x128x128_S1x128x128_2_0_0).toLoadRect)⟩ ::
      L6_2 i arg1 harg1 arg2 harg2 arg3 harg3 arg4 harg4 arg5 harg5 arg7 arg8 x0 x1 x2 x3 x4

/-- The pieces of the weight's gradient after 4 column groups, where the block is zeroed first. -/
def L6_4
    (i : grid0.Coords) (arg1 : Memref sig .tc .vmem S1024x512 .bf16) (harg1 : arg1.IsWhole)
    (arg2 : Memref sig .tc .vmem S1024x512 .f32) (harg2 : arg2.IsWhole) (arg3 : Memref sig .tc .vmem S128x512 .f32)
    (harg3 : arg3.IsWhole) (arg4 : Memref sig .tc .vmem S4x128x128 .bf16) (harg4 : arg4.IsWhole)
    (arg5 : Memref sig .tc .vmem S1x512 .f32) (harg5 : arg5.IsWhole) (arg7 : Memref sig .tc .vmem S4x128x128 .f32)
    (arg8 : Memref sig .tc .vmem S1x512 .f32) (x0 : Vec Ideal S1024x512 .bf16)
    (x1 : Vec Ideal S1024x512 .f32) (x2 : Vec Ideal S128x512 .f32) (x3 : Vec Ideal S4x128x128 .bf16)
    (x4 : Vec Ideal S1x512 .f32) : List (View.Piece (Elt Ideal) S4x128x128 .f32) :=
  ⟨Rect.unit (s := S4x128x128) ![3, 0, 0] S1x128x128.size inb_S4x128x128_S1x128x128_3_0_0, gwpV (View.readAt (Elt Ideal) arg1.view (Rect.unit (s := S1024x512) ![0, 384] S1024x128.size inb_S1024x512_S1024x128_0_384).toLoadRect (harg1.unread x0)) (dmV 384 slices_S1152x512_o0_384_S1152x128 (dextV (more i) (View.readAt (Elt Ideal) arg2.view (Rect.unit (s := S1024x512) ![0, 0] S1024x512.size inb_S1024x512_S1024x512_0_0).toLoadRect (harg2.unread x1)) (View.readAt (Elt Ideal) arg3.view (Rect.unit (s := S128x512) ![0, 0] S128x512.size inb_S128x512_S128x512_0_0).toLoadRect (harg3.unread x2))) (View.readAt (Elt Ideal) arg5.view (Rect.unit (s := S1x512) ![0, 384] S1x128.size inb_S1x512_S1x128_0_384).toLoadRect (harg5.unread x4))) (View.readCov arg7.view (L6_3 i arg1 harg1 arg2 harg2 arg3 harg3 arg4 harg4 arg5 harg5 arg7 arg8 x0 x1 x2 x3 x4) (Rect.unit (s := S4x128x128) ![3, 0, 0] S1x128x128.size inb_S4x128x128_S1x128x128_3_0_0).toLoadRect)⟩ ::
      L6_3 i arg1 harg1 arg2 harg2 arg3 harg3 arg4 harg4 arg5 harg5 arg7 arg8 x0 x1 x2 x3 x4

theorem pieces6_A
    (c : Dev nD) (i : grid0.Coords) (arg1 : Memref sig .tc .vmem S1024x512 .bf16) (harg1 : arg1.IsWhole)
    (arg2 : Memref sig .tc .vmem S1024x512 .f32) (harg2 : arg2.IsWhole) (arg3 : Memref sig .tc .vmem S128x512 .f32)
    (harg3 : arg3.IsWhole) (arg4 : Memref sig .tc .vmem S4x128x128 .bf16) (harg4 : arg4.IsWhole)
    (arg5 : Memref sig .tc .vmem S1x512 .f32) (harg5 : arg5.IsWhole) (arg6 : Memref sig .tc .vmem S1024x512 .bf16)
    (harg6 : arg6.IsWhole) (arg7 : Memref sig .tc .vmem S4x128x128 .f32) (harg7 : arg7.IsWhole)
    (arg8 : Memref sig .tc .vmem S1x512 .f32) (harg8 : arg8.IsWhole)
    (hc0 : cond0_0 i) (x0 : Vec Ideal S1024x512 .bf16)
    (x1 : Vec Ideal S1024x512 .f32) (x2 : Vec Ideal S128x512 .f32) (x3 : Vec Ideal S4x128x128 .bf16)
    (x4 : Vec Ideal S1x512 .f32) :
    (kernelRun0_A c i arg1 harg1 arg2 harg2 arg3 harg3 arg4 harg4 arg5 harg5 arg6 harg6 arg7 harg7 arg8 harg8 hc0 x0 x1 x2 x3 x4).2.1 = L6_4 i arg1 harg1 arg2 harg2 arg3 harg3 arg4 harg4 arg5 harg5 arg7 arg8 x0 x1 x2 x3 x4 := rfl

/-- The pieces of the scale's gradient after 0 column groups, where the block is zeroed first. -/
def L7_0
    (i : grid0.Coords) (arg1 : Memref sig .tc .vmem S1024x512 .bf16) (harg1 : arg1.IsWhole)
    (arg2 : Memref sig .tc .vmem S1024x512 .f32) (harg2 : arg2.IsWhole) (arg3 : Memref sig .tc .vmem S128x512 .f32)
    (harg3 : arg3.IsWhole) (arg4 : Memref sig .tc .vmem S4x128x128 .bf16) (harg4 : arg4.IsWhole)
    (arg5 : Memref sig .tc .vmem S1x512 .f32) (harg5 : arg5.IsWhole) (arg7 : Memref sig .tc .vmem S4x128x128 .f32)
    (arg8 : Memref sig .tc .vmem S1x512 .f32) (x0 : Vec Ideal S1024x512 .bf16)
    (x1 : Vec Ideal S1024x512 .f32) (x2 : Vec Ideal S128x512 .f32) (x3 : Vec Ideal S4x128x128 .bf16)
    (x4 : Vec Ideal S1x512 .f32) : List (View.Piece (Elt Ideal) S1x512 .f32) :=
  [⟨Rect.unit (s := S1x512) ![0, 0] S1x512.size inb_S1x512_S1x512_0_0, k0_pay3 (F := Ideal)⟩]

/-- The pieces of the scale's gradient after 1 column groups, where the block is zeroed first. -/
def L7_1
    (i : grid0.Coords) (arg1 : Memref sig .tc .vmem S1024x512 .bf16) (harg1 : arg1.IsWhole)
    (arg2 : Memref sig .tc .vmem S1024x512 .f32) (harg2 : arg2.IsWhole) (arg3 : Memref sig .tc .vmem S128x512 .f32)
    (harg3 : arg3.IsWhole) (arg4 : Memref sig .tc .vmem S4x128x128 .bf16) (harg4 : arg4.IsWhole)
    (arg5 : Memref sig .tc .vmem S1x512 .f32) (harg5 : arg5.IsWhole) (arg7 : Memref sig .tc .vmem S4x128x128 .f32)
    (arg8 : Memref sig .tc .vmem S1x512 .f32) (x0 : Vec Ideal S1024x512 .bf16)
    (x1 : Vec Ideal S1024x512 .f32) (x2 : Vec Ideal S128x512 .f32) (x3 : Vec Ideal S4x128x128 .bf16)
    (x4 : Vec Ideal S1x512 .f32) : List (View.Piece (Elt Ideal) S1x512 .f32) :=
  ⟨Rect.unit (s := S1x512) ![0, 0] S1x128.size inb_S1x512_S1x128_0_0, gscV 0 slices_S1024x512_o0_0_S1024x128 (View.readAt (Elt Ideal) arg2.view (Rect.unit (s := S1024x512) ![0, 0] S1024x512.size inb_S1024x512_S1024x512_0_0).toLoadRect (harg2.unread x1)) (View.readAt (Elt Ideal) arg1.view (Rect.unit (s := S1024x512) ![0, 0] S1024x128.size inb_S1024x512_S1024x128_0_0).toLoadRect (harg1.unread x0)) (View.readAt (Elt Ideal) arg4.view (Rect.unit (s := S4x128x128) ![0, 0, 0] S1x128x128.size inb_S4x128x128_S1x128x128_0_0_0).toLoadRect (harg4.unread x3)) (View.readCov arg8.view (L7_0 i arg1 harg1 arg2 harg2 arg3 harg3 arg4 harg4 arg5 harg5 arg7 arg8 x0 x1 x2 x3 x4) (Rect.unit (s := S1x512) ![0, 0] S1x128.size inb_S1x512_S1x128_0_0).toLoadRect)⟩ ::
      L7_0 i arg1 harg1 arg2 harg2 arg3 harg3 arg4 harg4 arg5 harg5 arg7 arg8 x0 x1 x2 x3 x4

/-- The pieces of the scale's gradient after 2 column groups, where the block is zeroed first. -/
def L7_2
    (i : grid0.Coords) (arg1 : Memref sig .tc .vmem S1024x512 .bf16) (harg1 : arg1.IsWhole)
    (arg2 : Memref sig .tc .vmem S1024x512 .f32) (harg2 : arg2.IsWhole) (arg3 : Memref sig .tc .vmem S128x512 .f32)
    (harg3 : arg3.IsWhole) (arg4 : Memref sig .tc .vmem S4x128x128 .bf16) (harg4 : arg4.IsWhole)
    (arg5 : Memref sig .tc .vmem S1x512 .f32) (harg5 : arg5.IsWhole) (arg7 : Memref sig .tc .vmem S4x128x128 .f32)
    (arg8 : Memref sig .tc .vmem S1x512 .f32) (x0 : Vec Ideal S1024x512 .bf16)
    (x1 : Vec Ideal S1024x512 .f32) (x2 : Vec Ideal S128x512 .f32) (x3 : Vec Ideal S4x128x128 .bf16)
    (x4 : Vec Ideal S1x512 .f32) : List (View.Piece (Elt Ideal) S1x512 .f32) :=
  ⟨Rect.unit (s := S1x512) ![0, 128] S1x128.size inb_S1x512_S1x128_0_128, gscV 128 slices_S1024x512_o0_128_S1024x128 (View.readAt (Elt Ideal) arg2.view (Rect.unit (s := S1024x512) ![0, 0] S1024x512.size inb_S1024x512_S1024x512_0_0).toLoadRect (harg2.unread x1)) (View.readAt (Elt Ideal) arg1.view (Rect.unit (s := S1024x512) ![0, 128] S1024x128.size inb_S1024x512_S1024x128_0_128).toLoadRect (harg1.unread x0)) (View.readAt (Elt Ideal) arg4.view (Rect.unit (s := S4x128x128) ![1, 0, 0] S1x128x128.size inb_S4x128x128_S1x128x128_1_0_0).toLoadRect (harg4.unread x3)) (View.readCov arg8.view (L7_1 i arg1 harg1 arg2 harg2 arg3 harg3 arg4 harg4 arg5 harg5 arg7 arg8 x0 x1 x2 x3 x4) (Rect.unit (s := S1x512) ![0, 128] S1x128.size inb_S1x512_S1x128_0_128).toLoadRect)⟩ ::
      L7_1 i arg1 harg1 arg2 harg2 arg3 harg3 arg4 harg4 arg5 harg5 arg7 arg8 x0 x1 x2 x3 x4

/-- The pieces of the scale's gradient after 3 column groups, where the block is zeroed first. -/
def L7_3
    (i : grid0.Coords) (arg1 : Memref sig .tc .vmem S1024x512 .bf16) (harg1 : arg1.IsWhole)
    (arg2 : Memref sig .tc .vmem S1024x512 .f32) (harg2 : arg2.IsWhole) (arg3 : Memref sig .tc .vmem S128x512 .f32)
    (harg3 : arg3.IsWhole) (arg4 : Memref sig .tc .vmem S4x128x128 .bf16) (harg4 : arg4.IsWhole)
    (arg5 : Memref sig .tc .vmem S1x512 .f32) (harg5 : arg5.IsWhole) (arg7 : Memref sig .tc .vmem S4x128x128 .f32)
    (arg8 : Memref sig .tc .vmem S1x512 .f32) (x0 : Vec Ideal S1024x512 .bf16)
    (x1 : Vec Ideal S1024x512 .f32) (x2 : Vec Ideal S128x512 .f32) (x3 : Vec Ideal S4x128x128 .bf16)
    (x4 : Vec Ideal S1x512 .f32) : List (View.Piece (Elt Ideal) S1x512 .f32) :=
  ⟨Rect.unit (s := S1x512) ![0, 256] S1x128.size inb_S1x512_S1x128_0_256, gscV 256 slices_S1024x512_o0_256_S1024x128 (View.readAt (Elt Ideal) arg2.view (Rect.unit (s := S1024x512) ![0, 0] S1024x512.size inb_S1024x512_S1024x512_0_0).toLoadRect (harg2.unread x1)) (View.readAt (Elt Ideal) arg1.view (Rect.unit (s := S1024x512) ![0, 256] S1024x128.size inb_S1024x512_S1024x128_0_256).toLoadRect (harg1.unread x0)) (View.readAt (Elt Ideal) arg4.view (Rect.unit (s := S4x128x128) ![2, 0, 0] S1x128x128.size inb_S4x128x128_S1x128x128_2_0_0).toLoadRect (harg4.unread x3)) (View.readCov arg8.view (L7_2 i arg1 harg1 arg2 harg2 arg3 harg3 arg4 harg4 arg5 harg5 arg7 arg8 x0 x1 x2 x3 x4) (Rect.unit (s := S1x512) ![0, 256] S1x128.size inb_S1x512_S1x128_0_256).toLoadRect)⟩ ::
      L7_2 i arg1 harg1 arg2 harg2 arg3 harg3 arg4 harg4 arg5 harg5 arg7 arg8 x0 x1 x2 x3 x4

/-- The pieces of the scale's gradient after 4 column groups, where the block is zeroed first. -/
def L7_4
    (i : grid0.Coords) (arg1 : Memref sig .tc .vmem S1024x512 .bf16) (harg1 : arg1.IsWhole)
    (arg2 : Memref sig .tc .vmem S1024x512 .f32) (harg2 : arg2.IsWhole) (arg3 : Memref sig .tc .vmem S128x512 .f32)
    (harg3 : arg3.IsWhole) (arg4 : Memref sig .tc .vmem S4x128x128 .bf16) (harg4 : arg4.IsWhole)
    (arg5 : Memref sig .tc .vmem S1x512 .f32) (harg5 : arg5.IsWhole) (arg7 : Memref sig .tc .vmem S4x128x128 .f32)
    (arg8 : Memref sig .tc .vmem S1x512 .f32) (x0 : Vec Ideal S1024x512 .bf16)
    (x1 : Vec Ideal S1024x512 .f32) (x2 : Vec Ideal S128x512 .f32) (x3 : Vec Ideal S4x128x128 .bf16)
    (x4 : Vec Ideal S1x512 .f32) : List (View.Piece (Elt Ideal) S1x512 .f32) :=
  ⟨Rect.unit (s := S1x512) ![0, 384] S1x128.size inb_S1x512_S1x128_0_384, gscV 384 slices_S1024x512_o0_384_S1024x128 (View.readAt (Elt Ideal) arg2.view (Rect.unit (s := S1024x512) ![0, 0] S1024x512.size inb_S1024x512_S1024x512_0_0).toLoadRect (harg2.unread x1)) (View.readAt (Elt Ideal) arg1.view (Rect.unit (s := S1024x512) ![0, 384] S1024x128.size inb_S1024x512_S1024x128_0_384).toLoadRect (harg1.unread x0)) (View.readAt (Elt Ideal) arg4.view (Rect.unit (s := S4x128x128) ![3, 0, 0] S1x128x128.size inb_S4x128x128_S1x128x128_3_0_0).toLoadRect (harg4.unread x3)) (View.readCov arg8.view (L7_3 i arg1 harg1 arg2 harg2 arg3 harg3 arg4 harg4 arg5 harg5 arg7 arg8 x0 x1 x2 x3 x4) (Rect.unit (s := S1x512) ![0, 384] S1x128.size inb_S1x512_S1x128_0_384).toLoadRect)⟩ ::
      L7_3 i arg1 harg1 arg2 harg2 arg3 harg3 arg4 harg4 arg5 harg5 arg7 arg8 x0 x1 x2 x3 x4

theorem pieces7_A
    (c : Dev nD) (i : grid0.Coords) (arg1 : Memref sig .tc .vmem S1024x512 .bf16) (harg1 : arg1.IsWhole)
    (arg2 : Memref sig .tc .vmem S1024x512 .f32) (harg2 : arg2.IsWhole) (arg3 : Memref sig .tc .vmem S128x512 .f32)
    (harg3 : arg3.IsWhole) (arg4 : Memref sig .tc .vmem S4x128x128 .bf16) (harg4 : arg4.IsWhole)
    (arg5 : Memref sig .tc .vmem S1x512 .f32) (harg5 : arg5.IsWhole) (arg6 : Memref sig .tc .vmem S1024x512 .bf16)
    (harg6 : arg6.IsWhole) (arg7 : Memref sig .tc .vmem S4x128x128 .f32) (harg7 : arg7.IsWhole)
    (arg8 : Memref sig .tc .vmem S1x512 .f32) (harg8 : arg8.IsWhole)
    (hc0 : cond0_0 i) (x0 : Vec Ideal S1024x512 .bf16)
    (x1 : Vec Ideal S1024x512 .f32) (x2 : Vec Ideal S128x512 .f32) (x3 : Vec Ideal S4x128x128 .bf16)
    (x4 : Vec Ideal S1x512 .f32) :
    (kernelRun0_A c i arg1 harg1 arg2 harg2 arg3 harg3 arg4 harg4 arg5 harg5 arg6 harg6 arg7 harg7 arg8 harg8 hc0 x0 x1 x2 x3 x4).2.2.1 = L7_4 i arg1 harg1 arg2 harg2 arg3 harg3 arg4 harg4 arg5 harg5 arg7 arg8 x0 x1 x2 x3 x4 := rfl

end Cert.PoolBody
-- ==== Proof.PoolOut.lean ====
module

public import proofs.«01_k».proof.Proof.PoolBlock

/- The three output blocks of one grid point of the pooling gradient, read at an index. -/

set_option maxRecDepth 16384

@[expose] public section

noncomputable section

namespace Cert.PoolBody

open Idealize.ShloMosaic Idealize.SL.Sem Cert.PoolBwdIdeal Cert.PoolBwdIdeal.Gen

variable (i : grid0.Coords) (x0 : Vec Ideal S1024x512 .bf16) (x1 : Vec Ideal S1024x512 .f32) (x2 : Vec Ideal S128x512 .f32)
  (x3 : Vec Ideal S4x128x128 .bf16) (x4 : Vec Ideal S1x512 .f32)

theorem dm_group (g : Fin 4) (o : ℕ) (ho : o = 128 * g.val) (h) (l5 : FVec Ideal S1x128 .f32)
    (h5 : ∀ k : Fin 128, l5 (ix2 0 k) = x4 (ix2 0 (col g k))) (a : Fin 1152) (d : Fin 128) :
    dmV o h (dextV (more i) x1 x2) l5 (ix2 a d) = dmS i x1 x2 x4 g a d := by
  subst ho
  rw [dmV_apply, dextV_apply, h5]
  rfl

theorem dp_group (g : Fin 4) (o : ℕ) (ho : o = 128 * g.val) (h) (l4 : FVec Ideal S1x128x128 .bf16) (l5 : FVec Ideal S1x128 .f32)
    (h4 : ∀ c d : Fin 128, l4 (ix3 0 c d) = x3 (ix3 g c d))
    (h5 : ∀ k : Fin 128, l5 (ix2 0 k) = x4 (ix2 0 (col g k))) (a : Fin 1152) (k : Fin 128) :
    dpV l4 (dmV o h (dextV (more i) x1 x2) l5) (ix2 a k) = dpS i x1 x2 x3 x4 g a k := by
  rw [dpV_apply]
  exact Finset.sum_congr rfl fun d _ => by rw [dm_group i x1 x2 x4 g o ho h l5 h5, h4]

theorem z_group (g : Fin 4) (o : ℕ) (ho : o = 128 * g.val) (w) (hw : w = win g) (h) (l4 : FVec Ideal S1x128x128 .bf16) (l5 : FVec Ideal S1x128 .f32)
    (h4 : ∀ c d : Fin 128, l4 (ix3 0 c d) = x3 (ix3 g c d))
    (h5 : ∀ k : Fin 128, l5 (ix2 0 k) = x4 (ix2 0 (col g k))) (a : Fin 1152) (k : Fin 128) :
    zV w (k0_pay6 i) (dpV l4 (dmV o h (dextV (more i) x1 x2) l5)) (ix2 a k) = zS i x1 x2 x3 x4 g a k := by
  rw [zV_apply, dp_group i x1 x2 x3 x4 g o ho h l4 l5 h4 h5, pay6_apply, hw]
  rfl

theorem du_group (g : Fin 4) (o : ℕ) (ho : o = 128 * g.val) (w) (hw : w = win g) (h) (l4 : FVec Ideal S1x128x128 .bf16) (l5 : FVec Ideal S1x128 .f32)
    (h4 : ∀ c d : Fin 128, l4 (ix3 0 c d) = x3 (ix3 g c d))
    (h5 : ∀ k : Fin 128, l5 (ix2 0 k) = x4 (ix2 0 (col g k))) (r : Fin 1024) (k : Fin 128) :
    duV (bandV w) (zV w (k0_pay6 i) (dpV l4 (dmV o h (dextV (more i) x1 x2) l5))) (dpV l4 (dmV o h (dextV (more i) x1 x2) l5)) (ix2 r k)
      = duS i x1 x2 x3 x4 g r k := by
  rw [duV_apply, dp_group i x1 x2 x3 x4 g o ho h l4 l5 h4 h5]
  simp only [z_group i x1 x2 x3 x4 g o ho w hw h l4 l5 h4 h5]
  subst hw
  simp only [duS, bandS]

theorem gwp_group (g : Fin 4) (o : ℕ) (ho : o = 128 * g.val) (h) (l1 : FVec Ideal S1024x128 .bf16) (l5 : FVec Ideal S1x128 .f32)
    (acc : FVec Ideal S1x128x128 .f32)
    (h1 : ∀ (r : Fin 1024) (k : Fin 128), l1 (ix2 r k) = x0 (ix2 r (col g k)))
    (h5 : ∀ k : Fin 128, l5 (ix2 0 k) = x4 (ix2 0 (col g k))) (c d : Fin 128) :
    gwpV l1 (dmV o h (dextV (more i) x1 x2) l5) acc (ix3 0 c d) = acc (ix3 0 c d) + gwpS i x0 x1 x2 x4 g c d := by
  rw [gwpV_apply]
  congr 1
  exact Finset.sum_congr rfl fun r _ => by rw [dm_group i x1 x2 x4 g o ho h l5 h5, h1]

theorem gsc_group (g : Fin 4) (o : ℕ) (ho : o = 128 * g.val) (h) (l1 : FVec Ideal S1024x128 .bf16) (l4 : FVec Ideal S1x128x128 .bf16)
    (acc : FVec Ideal S1x128 .f32)
    (h1 : ∀ (r : Fin 1024) (k : Fin 128), l1 (ix2 r k) = x0 (ix2 r (col g k)))
    (h4 : ∀ c d : Fin 128, l4 (ix3 0 c d) = x3 (ix3 g c d)) (k : Fin 128) :
    gscV o h x1 l1 l4 acc (ix2 0 k) = acc (ix2 0 k) + gscS x0 x1 x3 g k := by
  subst ho
  rw [gscV_apply]
  congr 1
  refine Finset.sum_congr rfl fun r _ => ?_
  rw [Finset.sum_congr rfl fun y _ => by rw [h1, h4]]
  rfl

/-- The input rows' gradient a grid point leaves, case A. -/
theorem out5_A
    (c : Dev nD) (arg1 : Memref sig .tc .vmem S1024x512 .bf16) (harg1 : arg1.IsWhole)
    (arg2 : Memref sig .tc .vmem S1024x512 .f32) (harg2 : arg2.IsWhole) (arg3 : Memref sig .tc .vmem S128x512 .f32)
    (harg3 : arg3.IsWhole) (arg4 : Memref sig .tc .vmem S4x128x128 .bf16) (harg4 : arg4.IsWhole)
    (arg5 : Memref sig .tc .vmem S1x512 .f32) (harg5 : arg5.IsWhole) (arg6 : Memref sig .tc .vmem S1024x512 .bf16)
    (harg6 : arg6.IsWhole) (arg7 : Memref sig .tc .vmem S4x128x128 .f32) (harg7 : arg7.IsWhole)
    (arg8 : Memref sig .tc .vmem S1x512 .f32) (harg8 : arg8.IsWhole)
    (hc0 : cond0_0 i) (g : Fin 4) (r : Fin 1024) (k : Fin 128) :
    out0_A_5 c i arg1 harg1 arg2 harg2 arg3 harg3 arg4 harg4 arg5 harg5 arg6 harg6 arg7 harg7 arg8 harg8 hc0 x0 x1 x2 x3 x4 (ix2 r (col g k)) = duS i x1 x2 x3 x4 g r k := by
  unfold out0_A_5
  rw [View.read_writes_junk_apply_eq_canon, pieces5_A, load_dc, load_dn]
  fin_cases g
  · have hk := k.isLt
    rw [canon_cols, dif_neg (by change ¬(384 ≤ 128 * 0 + k.val ∧ 128 * 0 + k.val < 384 + 128); omega)]
    rw [canon_cols, dif_neg (by change ¬(256 ≤ 128 * 0 + k.val ∧ 128 * 0 + k.val < 256 + 128); omega)]
    rw [canon_cols, dif_neg (by change ¬(128 ≤ 128 * 0 + k.val ∧ 128 * 0 + k.val < 128 + 128); omega)]
    rw [canon_cols, dif_pos (by change 0 ≤ 128 * 0 + k.val ∧ 128 * 0 + k.val < 0 + 128; omega)]
    have e : (⟨(col 0 k).val - 0, by change 128 * 0 + k.val - 0 < 128; omega⟩ : Fin 128) = k :=
      Fin.ext (by change 128 * 0 + k.val - 0 = k.val; omega)
    refine (congrArg (fun k' => duV _ _ _ (ix2 r k')) e).trans ?_
    exact du_group i x1 x2 x3 x4 0 0 rfl _ rfl _ _ _ (fun _ _ => load_slot _ _ _ _ _ _ _ _) (fun _ => load_row _ _ _ _ _ _ _) r k
  · have hk := k.isLt
    rw [canon_cols, dif_neg (by change ¬(384 ≤ 128 * 1 + k.val ∧ 128 * 1 + k.val < 384 + 128); omega)]
    rw [canon_cols, dif_neg (by change ¬(256 ≤ 128 * 1 + k.val ∧ 128 * 1 + k.val < 256 + 128); omega)]
    rw [canon_cols, dif_pos (by change 128 ≤ 128 * 1 + k.val ∧ 128 * 1 + k.val < 128 + 128; omega)]
    have e : (⟨(col 1 k).val - 128, by change 128 * 1 + k.val - 128 < 128; omega⟩ : Fin 128) = k :=
      Fin.ext (by change 128 * 1 + k.val - 128 = k.val; omega)
    refine (congrArg (fun k' => duV _ _ _ (ix2 r k')) e).trans ?_
    exact du_group i x1 x2 x3 x4 1 128 rfl _ rfl _ _ _ (fun _ _ => load_slot _ _ _ _ _ _ _ _) (fun _ => load_row _ _ _ _ _ _ _) r k
  · have hk := k.isLt
    rw [canon_cols, dif_neg (by change ¬(384 ≤ 128 * 2 + k.val ∧ 128 * 2 + k.val < 384 + 128); omega)]
    rw [canon_cols, dif_pos (by change 256 ≤ 128 * 2 + k.val ∧ 128 * 2 + k.val < 256 + 128; omega)]
    have e : (⟨(col 2 k).val - 256, by change 128 * 2 + k.val - 256 < 128; omega⟩ : Fin 128) = k :=
      Fin.ext (by change 128 * 2 + k.val - 256 = k.val; omega)
    refine (congrArg (fun k' => duV _ _ _ (ix2 r k')) e).trans ?_
    exact du_group i x1 x2 x3 x4 2 256 rfl _ rfl _ _ _ (fun _ _ => load_slot _ _ _ _ _ _ _ _) (fun _ => load_row _ _ _ _ _ _ _) r k
  · have hk := k.isLt
    rw [canon_cols, dif_pos (by change 384 ≤ 128 * 3 + k.val ∧ 128 * 3 + k.val < 384 + 128; omega)]
    have e : (⟨(col 3 k).val - 384, by change 128 * 3 + k.val - 384 < 128; omega⟩ : Fin 128) = k :=
      Fin.ext (by change 128 * 3 + k.val - 384 = k.val; omega)
    refine (congrArg (fun k' => duV _ _ _ (ix2 r k')) e).trans ?_
    exact du_group i x1 x2 x3 x4 3 384 rfl _ rfl _ _ _ (fun _ _ => load_slot _ _ _ _ _ _ _ _) (fun _ => load_row _ _ _ _ _ _ _) r k

/-- The input rows' gradient a grid point leaves, case B. -/
theorem out5_B
    (c : Dev nD) (arg1 : Memref sig .tc .vmem S1024x512 .bf16) (harg1 : arg1.IsWhole)
    (arg2 : Memref sig .tc .vmem S1024x512 .f32) (harg2 : arg2.IsWhole) (arg3 : Memref sig .tc .vmem S128x512 .f32)
    (harg3 : arg3.IsWhole) (arg4 : Memref sig .tc .vmem S4x128x128 .bf16) (harg4 : arg4.IsWhole)
    (arg5 : Memref sig .tc .vmem S1x512 .f32) (harg5 : arg5.IsWhole) (arg6 : Memref sig .tc .vmem S1024x512 .bf16)
    (harg6 : arg6.IsWhole) (arg7 : Memref sig .tc .vmem S4x128x128 .f32) (harg7 : arg7.IsWhole)
    (arg8 : Memref sig .tc .vmem S1x512 .f32) (harg8 : arg8.IsWhole)
    (hc0 : ¬cond0_0 i) (xo6 : Vec Ideal S4x128x128 .f32) (xo7 : Vec Ideal S1x512 .f32) (g : Fin 4) (r : Fin 1024) (k : Fin 128) :
    out0_B_5 c i arg1 harg1 arg2 harg2 arg3 harg3 arg4 harg4 arg5 harg5 arg6 harg6 arg7 harg7 arg8 harg8 hc0 x0 x1 x2 x3 x4 xo6 xo7 (ix2 r (col g k)) = duS i x1 x2 x3 x4 g r k := by
  unfold out0_B_5
  rw [View.read_writes_junk_apply_eq_canon, pieces5_B, load_dc, load_dn]
  fin_cases g
  · have hk := k.isLt
    rw [canon_cols, dif_neg (by change ¬(384 ≤ 128 * 0 + k.val ∧ 128 * 0 + k.val < 384 + 128); omega)]
    rw [canon_cols, dif_neg (by change ¬(256 ≤ 128 * 0 + k.val ∧ 128 * 0 + k.val < 256 + 128); omega)]
    rw [canon_cols, dif_neg (by change ¬(128 ≤ 128 * 0 + k.val ∧ 128 * 0 + k.val < 128 + 128); omega)]
    rw [canon_cols, dif_pos (by change 0 ≤ 128 * 0 + k.val ∧ 128 * 0 + k.val < 0 + 128; omega)]
    have e : (⟨(col 0 k).val - 0, by change 128 * 0 + k.val - 0 < 128; omega⟩ : Fin 128) = k :=
      Fin.ext (by change 128 * 0 + k.val - 0 = k.val; omega)
    refine (congrArg (fun k' => duV _ _ _ (ix2 r k')) e).trans ?_
    exact du_group i x1 x2 x3 x4 0 0 rfl _ rfl _ _ _ (fun _ _ => load_slot _ _ _ _ _ _ _ _) (fun _ => load_row _ _ _ _ _ _ _) r k
  · have hk := k.isLt
    rw [canon_cols, dif_neg (by change ¬(384 ≤ 128 * 1 + k.val ∧ 128 * 1 + k.val < 384 + 128); omega)]
    rw [canon_cols, dif_neg (by change ¬(256 ≤ 128 * 1 + k.val ∧ 128 * 1 + k.val < 256 + 128); omega)]
    rw [canon_cols, dif_pos (by change 128 ≤ 128 * 1 + k.val ∧ 128 * 1 + k.val < 128 + 128; omega)]
    have e : (⟨(col 1 k).val - 128, by change 128 * 1 + k.val - 128 < 128; omega⟩ : Fin 128) = k :=
      Fin.ext (by change 128 * 1 + k.val - 128 = k.val; omega)
    refine (congrArg (fun k' => duV _ _ _ (ix2 r k')) e).trans ?_
    exact du_group i x1 x2 x3 x4 1 128 rfl _ rfl _ _ _ (fun _ _ => load_slot _ _ _ _ _ _ _ _) (fun _ => load_row _ _ _ _ _ _ _) r k
  · have hk := k.isLt
    rw [canon_cols, dif_neg (by change ¬(384 ≤ 128 * 2 + k.val ∧ 128 * 2 + k.val < 384 + 128); omega)]
    rw [canon_cols, dif_pos (by change 256 ≤ 128 * 2 + k.val ∧ 128 * 2 + k.val < 256 + 128; omega)]
    have e : (⟨(col 2 k).val - 256, by change 128 * 2 + k.val - 256 < 128; omega⟩ : Fin 128) = k :=
      Fin.ext (by change 128 * 2 + k.val - 256 = k.val; omega)
    refine (congrArg (fun k' => duV _ _ _ (ix2 r k')) e).trans ?_
    exact du_group i x1 x2 x3 x4 2 256 rfl _ rfl _ _ _ (fun _ _ => load_slot _ _ _ _ _ _ _ _) (fun _ => load_row _ _ _ _ _ _ _) r k
  · have hk := k.isLt
    rw [canon_cols, dif_pos (by change 384 ≤ 128 * 3 + k.val ∧ 128 * 3 + k.val < 384 + 128; omega)]
    have e : (⟨(col 3 k).val - 384, by change 128 * 3 + k.val - 384 < 128; omega⟩ : Fin 128) = k :=
      Fin.ext (by change 128 * 3 + k.val - 384 = k.val; omega)
    refine (congrArg (fun k' => duV _ _ _ (ix2 r k')) e).trans ?_
    exact du_group i x1 x2 x3 x4 3 384 rfl _ rfl _ _ _ (fun _ _ => load_slot _ _ _ _ _ _ _ _) (fun _ => load_row _ _ _ _ _ _ _) r k

/-- The weight's gradient a grid point leaves, where the block is added to. -/
theorem out6_B
    (c : Dev nD) (arg1 : Memref sig .tc .vmem S1024x512 .bf16) (harg1 : arg1.IsWhole)
    (arg2 : Memref sig .tc .vmem S1024x512 .f32) (harg2 : arg2.IsWhole) (arg3 : Memref sig .tc .vmem S128x512 .f32)
    (harg3 : arg3.IsWhole) (arg4 : Memref sig .tc .vmem S4x128x128 .bf16) (harg4 : arg4.IsWhole)
    (arg5 : Memref sig .tc .vmem S1x512 .f32) (harg5 : arg5.IsWhole) (arg6 : Memref sig .tc .vmem S1024x512 .bf16)
    (harg6 : arg6.IsWhole) (arg7 : Memref sig .tc .vmem S4x128x128 .f32) (harg7 : arg7.IsWhole)
    (arg8 : Memref sig .tc .vmem S1x512 .f32) (harg8 : arg8.IsWhole)
    (hc0 : ¬cond0_0 i) (xo6 : Vec Ideal S4x128x128 .f32) (xo7 : Vec Ideal S1x512 .f32) (g : Fin 4) (k d : Fin 128) :
    out0_B_6 c i arg1 harg1 arg2 harg2 arg3 harg3 arg4 harg4 arg5 harg5 arg6 harg6 arg7 harg7 arg8 harg8 hc0 x0 x1 x2 x3 x4 xo6 xo7 (ix3 g k d) = xo6 (ix3 g k d) + gwpS i x0 x1 x2 x4 g k d := by
  unfold out0_B_6
  rw [View.read_writes_junk_apply_eq_canon, pieces6_B, load_dc, load_dn]
  fin_cases g
  · rw [canon_slot, if_neg (by decide)]
    rw [canon_slot, if_neg (by decide)]
    rw [canon_slot, if_neg (by decide)]
    rw [canon_slot, if_pos rfl]
    refine (gwp_group i x0 x1 x2 x4 0 0 rfl _ _ _ _ (fun _ _ => load_pb _ _ _ _ _ _ _) (fun _ => load_row _ _ _ _ _ _ _) k d).trans ?_
    exact congrArg (· + _) (load_slot _ _ _ _ _ _ _ _)
  · rw [canon_slot, if_neg (by decide)]
    rw [canon_slot, if_neg (by decide)]
    rw [canon_slot, if_pos rfl]
    refine (gwp_group i x0 x1 x2 x4 1 128 rfl _ _ _ _ (fun _ _ => load_pb _ _ _ _ _ _ _) (fun _ => load_row _ _ _ _ _ _ _) k d).trans ?_
    exact congrArg (· + _) (load_slot _ _ _ _ _ _ _ _)
  · rw [canon_slot, if_neg (by decide)]
    rw [canon_slot, if_pos rfl]
    refine (gwp_group i x0 x1 x2 x4 2 256 rfl _ _ _ _ (fun _ _ => load_pb _ _ _ _ _ _ _) (fun _ => load_row _ _ _ _ _ _ _) k d).trans ?_
    exact congrArg (· + _) (load_slot _ _ _ _ _ _ _ _)
  · rw [canon_slot, if_pos rfl]
    refine (gwp_group i x0 x1 x2 x4 3 384 rfl _ _ _ _ (fun _ _ => load_pb _ _ _ _ _ _ _) (fun _ => load_row _ _ _ _ _ _ _) k d).trans ?_
    exact congrArg (· + _) (load_slot _ _ _ _ _ _ _ _)

/-- The scale's gradient a grid point leaves, where the block is added to. -/
theorem out7_B
    (c : Dev nD) (arg1 : Memref sig .tc .vmem S1024x512 .bf16) (harg1 : arg1.IsWhole)
    (arg2 : Memref sig .tc .vmem S1024x512 .f32) (harg2 : arg2.IsWhole) (arg3 : Memref sig .tc .vmem S128x512 .f32)
    (harg3 : arg3.IsWhole) (arg4 : Memref sig .tc .vmem S4x128x128 .bf16) (harg4 : arg4.IsWhole)
    (arg5 : Memref sig .tc .vmem S1x512 .f32) (harg5 : arg5.IsWhole) (arg6 : Memref sig .tc .vmem S1024x512 .bf16)
    (harg6 : arg6.IsWhole) (arg7 : Memref sig .tc .vmem S4x128x128 .f32) (harg7 : arg7.IsWhole)
    (arg8 : Memref sig .tc .vmem S1x512 .f32) (harg8 : arg8.IsWhole)
    (hc0 : ¬cond0_0 i) (xo6 : Vec Ideal S4x128x128 .f32) (xo7 : Vec Ideal S1x512 .f32) (g : Fin 4) (k : Fin 128) :
    out0_B_7 c i arg1 harg1 arg2 harg2 arg3 harg3 arg4 harg4 arg5 harg5 arg6 harg6 arg7 harg7 arg8 harg8 hc0 x0 x1 x2 x3 x4 xo6 xo7 (ix2 0 (col g k)) = xo7 (ix2 0 (col g k)) + gscS x0 x1 x3 g k := by
  unfold out0_B_7
  rw [View.read_writes_junk_apply_eq_canon, pieces7_B, load_dc]
  fin_cases g
  · have hk := k.isLt
    rw [canon_row, dif_neg (by change ¬(384 ≤ 128 * 0 + k.val ∧ 128 * 0 + k.val < 384 + 128); omega)]
    rw [canon_row, dif_neg (by change ¬(256 ≤ 128 * 0 + k.val ∧ 128 * 0 + k.val < 256 + 128); omega)]
    rw [canon_row, dif_neg (by change ¬(128 ≤ 128 * 0 + k.val ∧ 128 * 0 + k.val < 128 + 128); omega)]
    rw [canon_row, dif_pos (by change 0 ≤ 128 * 0 + k.val ∧ 128 * 0 + k.val < 0 + 128; omega)]
    have e : (⟨(col 0 k).val - 0, by change 128 * 0 + k.val - 0 < 128; omega⟩ : Fin 128) = k :=
      Fin.ext (by change 128 * 0 + k.val - 0 = k.val; omega)
    refine (congrArg (fun k' => gscV _ _ _ _ _ _ (ix2 0 k')) e).trans ?_
    refine (gsc_group x0 x1 x3 0 0 rfl _ _ _ _ (fun _ _ => load_pb _ _ _ _ _ _ _) (fun _ _ => load_slot _ _ _ _ _ _ _ _) k).trans ?_
    exact congrArg (· + _) (load_row _ _ _ _ _ _ _)
  · have hk := k.isLt
    rw [canon_row, dif_neg (by change ¬(384 ≤ 128 * 1 + k.val ∧ 128 * 1 + k.val < 384 + 128); omega)]
    rw [canon_row, dif_neg (by change ¬(256 ≤ 128 * 1 + k.val ∧ 128 * 1 + k.val < 256 + 128); omega)]
    rw [canon_row, dif_pos (by change 128 ≤ 128 * 1 + k.val ∧ 128 * 1 + k.val < 128 + 128; omega)]
    have e : (⟨(col 1 k).val - 128, by change 128 * 1 + k.val - 128 < 128; omega⟩ : Fin 128) = k :=
      Fin.ext (by change 128 * 1 + k.val - 128 = k.val; omega)
    refine (congrArg (fun k' => gscV _ _ _ _ _ _ (ix2 0 k')) e).trans ?_
    refine (gsc_group x0 x1 x3 1 128 rfl _ _ _ _ (fun _ _ => load_pb _ _ _ _ _ _ _) (fun _ _ => load_slot _ _ _ _ _ _ _ _) k).trans ?_
    exact congrArg (· + _) (load_row _ _ _ _ _ _ _)
  · have hk := k.isLt
    rw [canon_row, dif_neg (by change ¬(384 ≤ 128 * 2 + k.val ∧ 128 * 2 + k.val < 384 + 128); omega)]
    rw [canon_row, dif_pos (by change 256 ≤ 128 * 2 + k.val ∧ 128 * 2 + k.val < 256 + 128; omega)]
    have e : (⟨(col 2 k).val - 256, by change 128 * 2 + k.val - 256 < 128; omega⟩ : Fin 128) = k :=
      Fin.ext (by change 128 * 2 + k.val - 256 = k.val; omega)
    refine (congrArg (fun k' => gscV _ _ _ _ _ _ (ix2 0 k')) e).trans ?_
    refine (gsc_group x0 x1 x3 2 256 rfl _ _ _ _ (fun _ _ => load_pb _ _ _ _ _ _ _) (fun _ _ => load_slot _ _ _ _ _ _ _ _) k).trans ?_
    exact congrArg (· + _) (load_row _ _ _ _ _ _ _)
  · have hk := k.isLt
    rw [canon_row, dif_pos (by change 384 ≤ 128 * 3 + k.val ∧ 128 * 3 + k.val < 384 + 128; omega)]
    have e : (⟨(col 3 k).val - 384, by change 128 * 3 + k.val - 384 < 128; omega⟩ : Fin 128) = k :=
      Fin.ext (by change 128 * 3 + k.val - 384 = k.val; omega)
    refine (congrArg (fun k' => gscV _ _ _ _ _ _ (ix2 0 k')) e).trans ?_
    refine (gsc_group x0 x1 x3 3 384 rfl _ _ _ _ (fun _ _ => load_pb _ _ _ _ _ _ _) (fun _ _ => load_slot _ _ _ _ _ _ _ _) k).trans ?_
    exact congrArg (· + _) (load_row _ _ _ _ _ _ _)

/-- The zeros written first, read at an index. -/
theorem canon6_zero
    (arg1 : Memref sig .tc .vmem S1024x512 .bf16) (harg1 : arg1.IsWhole)
    (arg2 : Memref sig .tc .vmem S1024x512 .f32) (harg2 : arg2.IsWhole) (arg3 : Memref sig .tc .vmem S128x512 .f32)
    (harg3 : arg3.IsWhole) (arg4 : Memref sig .tc .vmem S4x128x128 .bf16) (harg4 : arg4.IsWhole)
    (arg5 : Memref sig .tc .vmem S1x512 .f32) (harg5 : arg5.IsWhole) (arg7 : Memref sig .tc .vmem S4x128x128 .f32)
    (arg8 : Memref sig .tc .vmem S1x512 .f32) (g : Fin 4) (k d : Fin 128) :
    View.canon (L6_0 i arg1 harg1 arg2 harg2 arg3 harg3 arg4 harg4 arg5 harg5 arg7 arg8 x0 x1 x2 x3 x4) (ix3 g k d) = 0 := by
  unfold L6_0
  rw [View.canon_unit_zero (by funext a; fin_cases a <;> rfl)]
  unfold k0_pay2
  pointwise

/-- The zeros written first, read at an index. -/
theorem canon7_zero
    (arg1 : Memref sig .tc .vmem S1024x512 .bf16) (harg1 : arg1.IsWhole)
    (arg2 : Memref sig .tc .vmem S1024x512 .f32) (harg2 : arg2.IsWhole) (arg3 : Memref sig .tc .vmem S128x512 .f32)
    (harg3 : arg3.IsWhole) (arg4 : Memref sig .tc .vmem S4x128x128 .bf16) (harg4 : arg4.IsWhole)
    (arg5 : Memref sig .tc .vmem S1x512 .f32) (harg5 : arg5.IsWhole) (arg7 : Memref sig .tc .vmem S4x128x128 .f32)
    (arg8 : Memref sig .tc .vmem S1x512 .f32) (q : Fin 512) :
    View.canon (L7_0 i arg1 harg1 arg2 harg2 arg3 harg3 arg4 harg4 arg5 harg5 arg7 arg8 x0 x1 x2 x3 x4) (ix2 0 q) = 0 := by
  unfold L7_0
  rw [View.canon_unit_zero (by funext a; fin_cases a <;> rfl)]
  unfold k0_pay3
  pointwise

/-- Slot 0 is still zero before its group's piece is written. -/
theorem acc6_0
    (arg1 : Memref sig .tc .vmem S1024x512 .bf16) (harg1 : arg1.IsWhole)
    (arg2 : Memref sig .tc .vmem S1024x512 .f32) (harg2 : arg2.IsWhole) (arg3 : Memref sig .tc .vmem S128x512 .f32)
    (harg3 : arg3.IsWhole) (arg4 : Memref sig .tc .vmem S4x128x128 .bf16) (harg4 : arg4.IsWhole)
    (arg5 : Memref sig .tc .vmem S1x512 .f32) (harg5 : arg5.IsWhole) (arg7 : Memref sig .tc .vmem S4x128x128 .f32)
    (arg8 : Memref sig .tc .vmem S1x512 .f32) (k d : Fin 128) :
    View.readCov arg7.view (L6_0 i arg1 harg1 arg2 harg2 arg3 harg3 arg4 harg4 arg5 harg5 arg7 arg8 x0 x1 x2 x3 x4)
      (Rect.unit (s := S4x128x128) ![0, 0, 0] S1x128x128.size inb_S4x128x128_S1x128x128_0_0_0).toLoadRect (ix3 0 k d : S1x128x128.Idx) = 0 := by
  rw [View.readCov_eq_canon']
  have e : (Rect.unit (s := S4x128x128) ![0, 0, 0] S1x128x128.size inb_S4x128x128_S1x128x128_0_0_0).toLoadRect.idx
      (ix3 (0 : Fin 1) k d : S1x128x128.Idx) = (ix3 (⟨0, by omega⟩ : Fin 4) k d : S4x128x128.Idx) := by
    funext b
    apply Fin.ext
    fin_cases b
    · rfl
    · change 0 + 1 * k.val = _; simp
    · change 0 + 1 * d.val = _; simp
  refine (congrArg (View.canon _) e).trans ?_
  exact canon6_zero i x0 x1 x2 x3 x4 arg1 harg1 arg2 harg2 arg3 harg3 arg4 harg4 arg5 harg5 arg7 arg8 _ k d

/-- The columns of group 0 are still zero before its piece is written. -/
theorem acc7_0
    (arg1 : Memref sig .tc .vmem S1024x512 .bf16) (harg1 : arg1.IsWhole)
    (arg2 : Memref sig .tc .vmem S1024x512 .f32) (harg2 : arg2.IsWhole) (arg3 : Memref sig .tc .vmem S128x512 .f32)
    (harg3 : arg3.IsWhole) (arg4 : Memref sig .tc .vmem S4x128x128 .bf16) (harg4 : arg4.IsWhole)
    (arg5 : Memref sig .tc .vmem S1x512 .f32) (harg5 : arg5.IsWhole) (arg7 : Memref sig .tc .vmem S4x128x128 .f32)
    (arg8 : Memref sig .tc .vmem S1x512 .f32) (k : Fin 128) :
    View.readCov arg8.view (L7_0 i arg1 harg1 arg2 harg2 arg3 harg3 arg4 harg4 arg5 harg5 arg7 arg8 x0 x1 x2 x3 x4)
      (Rect.unit (s := S1x512) ![0, 0] S1x128.size inb_S1x512_S1x128_0_0).toLoadRect (ix2 0 k : S1x128.Idx) = 0 := by
  have hk := k.isLt
  rw [View.readCov_eq_canon']
  have e : (Rect.unit (s := S1x512) ![0, 0] S1x128.size inb_S1x512_S1x128_0_0).toLoadRect.idx
      (ix2 (0 : Fin 1) k : S1x128.Idx) = (ix2 (0 : Fin 1) (⟨0 + k.val, by omega⟩ : Fin 512) : S1x512.Idx) := by
    funext b
    apply Fin.ext
    fin_cases b
    · rfl
    · change 0 + 1 * k.val = _; simp
  refine (congrArg (View.canon _) e).trans ?_
  exact canon7_zero i x0 x1 x2 x3 x4 arg1 harg1 arg2 harg2 arg3 harg3 arg4 harg4 arg5 harg5 arg7 arg8 _

/-- Slot 1 is still zero before its group's piece is written. -/
theorem acc6_1
    (arg1 : Memref sig .tc .vmem S1024x512 .bf16) (harg1 : arg1.IsWhole)
    (arg2 : Memref sig .tc .vmem S1024x512 .f32) (harg2 : arg2.IsWhole) (arg3 : Memref sig .tc .vmem S128x512 .f32)
    (harg3 : arg3.IsWhole) (arg4 : Memref sig .tc .vmem S4x128x128 .bf16) (harg4 : arg4.IsWhole)
    (arg5 : Memref sig .tc .vmem S1x512 .f32) (harg5 : arg5.IsWhole) (arg7 : Memref sig .tc .vmem S4x128x128 .f32)
    (arg8 : Memref sig .tc .vmem S1x512 .f32) (k d : Fin 128) :
    View.readCov arg7.view (L6_1 i arg1 harg1 arg2 harg2 arg3 harg3 arg4 harg4 arg5 harg5 arg7 arg8 x0 x1 x2 x3 x4)
      (Rect.unit (s := S4x128x128) ![1, 0, 0] S1x128x128.size inb_S4x128x128_S1x128x128_1_0_0).toLoadRect (ix3 0 k d : S1x128x128.Idx) = 0 := by
  rw [View.readCov_eq_canon']
  have e : (Rect.unit (s := S4x128x128) ![1, 0, 0] S1x128x128.size inb_S4x128x128_S1x128x128_1_0_0).toLoadRect.idx
      (ix3 (0 : Fin 1) k d : S1x128x128.Idx) = (ix3 (⟨1, by omega⟩ : Fin 4) k d : S4x128x128.Idx) := by
    funext b
    apply Fin.ext
    fin_cases b
    · rfl
    · change 0 + 1 * k.val = _; simp
    · change 0 + 1 * d.val = _; simp
  refine (congrArg (View.canon _) e).trans ?_
  unfold L6_1
  rw [canon_slot, if_neg (by decide)]
  exact canon6_zero i x0 x1 x2 x3 x4 arg1 harg1 arg2 harg2 arg3 harg3 arg4 harg4 arg5 harg5 arg7 arg8 _ k d

/-- The columns of group 1 are still zero before its piece is written. -/
theorem acc7_1
    (arg1 : Memref sig .tc .vmem S1024x512 .bf16) (harg1 : arg1.IsWhole)
    (arg2 : Memref sig .tc .vmem S1024x512 .f32) (harg2 : arg2.IsWhole) (arg3 : Memref sig .tc .vmem S128x512 .f32)
    (harg3 : arg3.IsWhole) (arg4 : Memref sig .tc .vmem S4x128x128 .bf16) (harg4 : arg4.IsWhole)
    (arg5 : Memref sig .tc .vmem S1x512 .f32) (harg5 : arg5.IsWhole) (arg7 : Memref sig .tc .vmem S4x128x128 .f32)
    (arg8 : Memref sig .tc .vmem S1x512 .f32) (k : Fin 128) :
    View.readCov arg8.view (L7_1 i arg1 harg1 arg2 harg2 arg3 harg3 arg4 harg4 arg5 harg5 arg7 arg8 x0 x1 x2 x3 x4)
      (Rect.unit (s := S1x512) ![0, 128] S1x128.size inb_S1x512_S1x128_0_128).toLoadRect (ix2 0 k : S1x128.Idx) = 0 := by
  have hk := k.isLt
  rw [View.readCov_eq_canon']
  have e : (Rect.unit (s := S1x512) ![0, 128] S1x128.size inb_S1x512_S1x128_0_128).toLoadRect.idx
      (ix2 (0 : Fin 1) k : S1x128.Idx) = (ix2 (0 : Fin 1) (⟨128 + k.val, by omega⟩ : Fin 512) : S1x512.Idx) := by
    funext b
    apply Fin.ext
    fin_cases b
    · rfl
    · change 128 + 1 * k.val = _; simp
  refine (congrArg (View.canon _) e).trans ?_
  unfold L7_1
  rw [canon_row, dif_neg (by change ¬(0 ≤ 128 + k.val ∧ 128 + k.val < 0 + 128); omega)]
  exact canon7_zero i x0 x1 x2 x3 x4 arg1 harg1 arg2 harg2 arg3 harg3 arg4 harg4 arg5 harg5 arg7 arg8 _

/-- Slot 2 is still zero before its group's piece is written. -/
theorem acc6_2
    (arg1 : Memref sig .tc .vmem S1024x512 .bf16) (harg1 : arg1.IsWhole)
    (arg2 : Memref sig .tc .vmem S1024x512 .f32) (harg2 : arg2.IsWhole) (arg3 : Memref sig .tc .vmem S128x512 .f32)
    (harg3 : arg3.IsWhole) (arg4 : Memref sig .tc .vmem S4x128x128 .bf16) (harg4 : arg4.IsWhole)
    (arg5 : Memref sig .tc .vmem S1x512 .f32) (harg5 : arg5.IsWhole) (arg7 : Memref sig .tc .vmem S4x128x128 .f32)
    (arg8 : Memref sig .tc .vmem S1x512 .f32) (k d : Fin 128) :
    View.readCov arg7.view (L6_2 i arg1 harg1 arg2 harg2 arg3 harg3 arg4 harg4 arg5 harg5 arg7 arg8 x0 x1 x2 x3 x4)
      (Rect.unit (s := S4x128x128) ![2, 0, 0] S1x128x128.size inb_S4x128x128_S1x128x128_2_0_0).toLoadRect (ix3 0 k d : S1x128x128.Idx) = 0 := by
  rw [View.readCov_eq_canon']
  have e : (Rect.unit (s := S4x128x128) ![2, 0, 0] S1x128x128.size inb_S4x128x128_S1x128x128_2_0_0).toLoadRect.idx
      (ix3 (0 : Fin 1) k d : S1x128x128.Idx) = (ix3 (⟨2, by omega⟩ : Fin 4) k d : S4x128x128.Idx) := by
    funext b
    apply Fin.ext
    fin_cases b
    · rfl
    · change 0 + 1 * k.val = _; simp
    · change 0 + 1 * d.val = _; simp
  refine (congrArg (View.canon _) e).trans ?_
  unfold L6_2
  rw [canon_slot, if_neg (by decide)]
  unfold L6_1
  rw [canon_slot, if_neg (by decide)]
  exact canon6_zero i x0 x1 x2 x3 x4 arg1 harg1 arg2 harg2 arg3 harg3 arg4 harg4 arg5 harg5 arg7 arg8 _ k d

/-- The columns of group 2 are still zero before its piece is written. -/
theorem acc7_2
    (arg1 : Memref sig .tc .vmem S1024x512 .bf16) (harg1 : arg1.IsWhole)
    (arg2 : Memref sig .tc .vmem S1024x512 .f32) (harg2 : arg2.IsWhole) (arg3 : Memref sig .tc .vmem S128x512 .f32)
    (harg3 : arg3.IsWhole) (arg4 : Memref sig .tc .vmem S4x128x128 .bf16) (harg4 : arg4.IsWhole)
    (arg5 : Memref sig .tc .vmem S1x512 .f32) (harg5 : arg5.IsWhole) (arg7 : Memref sig .tc .vmem S4x128x128 .f32)
    (arg8 : Memref sig .tc .vmem S1x512 .f32) (k : Fin 128) :
    View.readCov arg8.view (L7_2 i arg1 harg1 arg2 harg2 arg3 harg3 arg4 harg4 arg5 harg5 arg7 arg8 x0 x1 x2 x3 x4)
      (Rect.unit (s := S1x512) ![0, 256] S1x128.size inb_S1x512_S1x128_0_256).toLoadRect (ix2 0 k : S1x128.Idx) = 0 := by
  have hk := k.isLt
  rw [View.readCov_eq_canon']
  have e : (Rect.unit (s := S1x512) ![0, 256] S1x128.size inb_S1x512_S1x128_0_256).toLoadRect.idx
      (ix2 (0 : Fin 1) k : S1x128.Idx) = (ix2 (0 : Fin 1) (⟨256 + k.val, by omega⟩ : Fin 512) : S1x512.Idx) := by
    funext b
    apply Fin.ext
    fin_cases b
    · rfl
    · change 256 + 1 * k.val = _; simp
  refine (congrArg (View.canon _) e).trans ?_
  unfold L7_2
  rw [canon_row, dif_neg (by change ¬(128 ≤ 256 + k.val ∧ 256 + k.val < 128 + 128); omega)]
  unfold L7_1
  rw [canon_row, dif_neg (by change ¬(0 ≤ 256 + k.val ∧ 256 + k.val < 0 + 128); omega)]
  exact canon7_zero i x0 x1 x2 x3 x4 arg1 harg1 arg2 harg2 arg3 harg3 arg4 harg4 arg5 harg5 arg7 arg8 _

/-- Slot 3 is still zero before its group's piece is written. -/
theorem acc6_3
    (arg1 : Memref sig .tc .vmem S1024x512 .bf16) (harg1 : arg1.IsWhole)
    (arg2 : Memref sig .tc .vmem S1024x512 .f32) (harg2 : arg2.IsWhole) (arg3 : Memref sig .tc .vmem S128x512 .f32)
    (harg3 : arg3.IsWhole) (arg4 : Memref sig .tc .vmem S4x128x128 .bf16) (harg4 : arg4.IsWhole)
    (arg5 : Memref sig .tc .vmem S1x512 .f32) (harg5 : arg5.IsWhole) (arg7 : Memref sig .tc .vmem S4x128x128 .f32)
    (arg8 : Memref sig .tc .vmem S1x512 .f32) (k d : Fin 128) :
    View.readCov arg7.view (L6_3 i arg1 harg1 arg2 harg2 arg3 harg3 arg4 harg4 arg5 harg5 arg7 arg8 x0 x1 x2 x3 x4)
      (Rect.unit (s := S4x128x128) ![3, 0, 0] S1x128x128.size inb_S4x128x128_S1x128x128_3_0_0).toLoadRect (ix3 0 k d : S1x128x128.Idx) = 0 := by
  rw [View.readCov_eq_canon']
  have e : (Rect.unit (s := S4x128x128) ![3, 0, 0] S1x128x128.size inb_S4x128x128_S1x128x128_3_0_0).toLoadRect.idx
      (ix3 (0 : Fin 1) k d : S1x128x128.Idx) = (ix3 (⟨3, by omega⟩ : Fin 4) k d : S4x128x128.Idx) := by
    funext b
    apply Fin.ext
    fin_cases b
    · rfl
    · change 0 + 1 * k.val = _; simp
    · change 0 + 1 * d.val = _; simp
  refine (congrArg (View.canon _) e).trans ?_
  unfold L6_3
  rw [canon_slot, if_neg (by decide)]
  unfold L6_2
  rw [canon_slot, if_neg (by decide)]
  unfold L6_1
  rw [canon_slot, if_neg (by decide)]
  exact canon6_zero i x0 x1 x2 x3 x4 arg1 harg1 arg2 harg2 arg3 harg3 arg4 harg4 arg5 harg5 arg7 arg8 _ k d

/-- The columns of group 3 are still zero before its piece is written. -/
theorem acc7_3
    (arg1 : Memref sig .tc .vmem S1024x512 .bf16) (harg1 : arg1.IsWhole)
    (arg2 : Memref sig .tc .vmem S1024x512 .f32) (harg2 : arg2.IsWhole) (arg3 : Memref sig .tc .vmem S128x512 .f32)
    (harg3 : arg3.IsWhole) (arg4 : Memref sig .tc .vmem S4x128x128 .bf16) (harg4 : arg4.IsWhole)
    (arg5 : Memref sig .tc .vmem S1x512 .f32) (harg5 : arg5.IsWhole) (arg7 : Memref sig .tc .vmem S4x128x128 .f32)
    (arg8 : Memref sig .tc .vmem S1x512 .f32) (k : Fin 128) :
    View.readCov arg8.view (L7_3 i arg1 harg1 arg2 harg2 arg3 harg3 arg4 harg4 arg5 harg5 arg7 arg8 x0 x1 x2 x3 x4)
      (Rect.unit (s := S1x512) ![0, 384] S1x128.size inb_S1x512_S1x128_0_384).toLoadRect (ix2 0 k : S1x128.Idx) = 0 := by
  have hk := k.isLt
  rw [View.readCov_eq_canon']
  have e : (Rect.unit (s := S1x512) ![0, 384] S1x128.size inb_S1x512_S1x128_0_384).toLoadRect.idx
      (ix2 (0 : Fin 1) k : S1x128.Idx) = (ix2 (0 : Fin 1) (⟨384 + k.val, by omega⟩ : Fin 512) : S1x512.Idx) := by
    funext b
    apply Fin.ext
    fin_cases b
    · rfl
    · change 384 + 1 * k.val = _; simp
  refine (congrArg (View.canon _) e).trans ?_
  unfold L7_3
  rw [canon_row, dif_neg (by change ¬(256 ≤ 384 + k.val ∧ 384 + k.val < 256 + 128); omega)]
  unfold L7_2
  rw [canon_row, dif_neg (by change ¬(128 ≤ 384 + k.val ∧ 384 + k.val < 128 + 128); omega)]
  unfold L7_1
  rw [canon_row, dif_neg (by change ¬(0 ≤ 384 + k.val ∧ 384 + k.val < 0 + 128); omega)]
  exact canon7_zero i x0 x1 x2 x3 x4 arg1 harg1 arg2 harg2 arg3 harg3 arg4 harg4 arg5 harg5 arg7 arg8 _

/-- The weight's gradient a grid point leaves, where the block is zeroed first. -/
theorem out6_A
    (c : Dev nD) (arg1 : Memref sig .tc .vmem S1024x512 .bf16) (harg1 : arg1.IsWhole)
    (arg2 : Memref sig .tc .vmem S1024x512 .f32) (harg2 : arg2.IsWhole) (arg3 : Memref sig .tc .vmem S128x512 .f32)
    (harg3 : arg3.IsWhole) (arg4 : Memref sig .tc .vmem S4x128x128 .bf16) (harg4 : arg4.IsWhole)
    (arg5 : Memref sig .tc .vmem S1x512 .f32) (harg5 : arg5.IsWhole) (arg6 : Memref sig .tc .vmem S1024x512 .bf16)
    (harg6 : arg6.IsWhole) (arg7 : Memref sig .tc .vmem S4x128x128 .f32) (harg7 : arg7.IsWhole)
    (arg8 : Memref sig .tc .vmem S1x512 .f32) (harg8 : arg8.IsWhole)
    (hc0 : cond0_0 i) (g : Fin 4) (k d : Fin 128) :
    out0_A_6 c i arg1 harg1 arg2 harg2 arg3 harg3 arg4 harg4 arg5 harg5 arg6 harg6 arg7 harg7 arg8 harg8 hc0 x0 x1 x2 x3 x4 (ix3 g k d) = gwpS i x0 x1 x2 x4 g k d := by
  unfold out0_A_6
  rw [View.read_writes_junk_apply_eq_canon, pieces6_A]
  fin_cases g
  · unfold L6_4
    rw [canon_slot, if_neg (by decide)]
    unfold L6_3
    rw [canon_slot, if_neg (by decide)]
    unfold L6_2
    rw [canon_slot, if_neg (by decide)]
    unfold L6_1
    rw [canon_slot, if_pos rfl, load_dc, load_dn]
    refine (gwp_group i x0 x1 x2 x4 0 0 rfl _ _ _ _ (fun _ _ => load_pb _ _ _ _ _ _ _) (fun _ => load_row _ _ _ _ _ _ _) k d).trans ?_
    rw [acc6_0, zero_add]
    rfl
  · unfold L6_4
    rw [canon_slot, if_neg (by decide)]
    unfold L6_3
    rw [canon_slot, if_neg (by decide)]
    unfold L6_2
    rw [canon_slot, if_pos rfl, load_dc, load_dn]
    refine (gwp_group i x0 x1 x2 x4 1 128 rfl _ _ _ _ (fun _ _ => load_pb _ _ _ _ _ _ _) (fun _ => load_row _ _ _ _ _ _ _) k d).trans ?_
    rw [acc6_1, zero_add]
    rfl
  · unfold L6_4
    rw [canon_slot, if_neg (by decide)]
    unfold L6_3
    rw [canon_slot, if_pos rfl, load_dc, load_dn]
    refine (gwp_group i x0 x1 x2 x4 2 256 rfl _ _ _ _ (fun _ _ => load_pb _ _ _ _ _ _ _) (fun _ => load_row _ _ _ _ _ _ _) k d).trans ?_
    rw [acc6_2, zero_add]
    rfl
  · unfold L6_4
    rw [canon_slot, if_pos rfl, load_dc, load_dn]
    refine (gwp_group i x0 x1 x2 x4 3 384 rfl _ _ _ _ (fun _ _ => load_pb _ _ _ _ _ _ _) (fun _ => load_row _ _ _ _ _ _ _) k d).trans ?_
    rw [acc6_3, zero_add]
    rfl

/-- The scale's gradient a grid point leaves, where the block is zeroed first. -/
theorem out7_A
    (c : Dev nD) (arg1 : Memref sig .tc .vmem S1024x512 .bf16) (harg1 : arg1.IsWhole)
    (arg2 : Memref sig .tc .vmem S1024x512 .f32) (harg2 : arg2.IsWhole) (arg3 : Memref sig .tc .vmem S128x512 .f32)
    (harg3 : arg3.IsWhole) (arg4 : Memref sig .tc .vmem S4x128x128 .bf16) (harg4 : arg4.IsWhole)
    (arg5 : Memref sig .tc .vmem S1x512 .f32) (harg5 : arg5.IsWhole) (arg6 : Memref sig .tc .vmem S1024x512 .bf16)
    (harg6 : arg6.IsWhole) (arg7 : Memref sig .tc .vmem S4x128x128 .f32) (harg7 : arg7.IsWhole)
    (arg8 : Memref sig .tc .vmem S1x512 .f32) (harg8 : arg8.IsWhole)
    (hc0 : cond0_0 i) (g : Fin 4) (k : Fin 128) :
    out0_A_7 c i arg1 harg1 arg2 harg2 arg3 harg3 arg4 harg4 arg5 harg5 arg6 harg6 arg7 harg7 arg8 harg8 hc0 x0 x1 x2 x3 x4 (ix2 0 (col g k)) = gscS x0 x1 x3 g k := by
  unfold out0_A_7
  rw [View.read_writes_junk_apply_eq_canon, pieces7_A]
  fin_cases g
  · have hk := k.isLt
    unfold L7_4
    rw [canon_row, dif_neg (by change ¬(384 ≤ 128 * 0 + k.val ∧ 128 * 0 + k.val < 384 + 128); omega)]
    unfold L7_3
    rw [canon_row, dif_neg (by change ¬(256 ≤ 128 * 0 + k.val ∧ 128 * 0 + k.val < 256 + 128); omega)]
    unfold L7_2
    rw [canon_row, dif_neg (by change ¬(128 ≤ 128 * 0 + k.val ∧ 128 * 0 + k.val < 128 + 128); omega)]
    unfold L7_1
    rw [canon_row, dif_pos (by change 0 ≤ 128 * 0 + k.val ∧ 128 * 0 + k.val < 0 + 128; omega), load_dc]
    have e : (⟨(col 0 k).val - 0, by change 128 * 0 + k.val - 0 < 128; omega⟩ : Fin 128) = k :=
      Fin.ext (by change 128 * 0 + k.val - 0 = k.val; omega)
    refine (congrArg (fun k' => gscV _ _ _ _ _ _ (ix2 0 k')) e).trans ?_
    refine (gsc_group x0 x1 x3 0 0 rfl _ _ _ _ (fun _ _ => load_pb _ _ _ _ _ _ _) (fun _ _ => load_slot _ _ _ _ _ _ _ _) k).trans ?_
    rw [acc7_0, zero_add]
    rfl
  · have hk := k.isLt
    unfold L7_4
    rw [canon_row, dif_neg (by change ¬(384 ≤ 128 * 1 + k.val ∧ 128 * 1 + k.val < 384 + 128); omega)]
    unfold L7_3
    rw [canon_row, dif_neg (by change ¬(256 ≤ 128 * 1 + k.val ∧ 128 * 1 + k.val < 256 + 128); omega)]
    unfold L7_2
    rw [canon_row, dif_pos (by change 128 ≤ 128 * 1 + k.val ∧ 128 * 1 + k.val < 128 + 128; omega), load_dc]
    have e : (⟨(col 1 k).val - 128, by change 128 * 1 + k.val - 128 < 128; omega⟩ : Fin 128) = k :=
      Fin.ext (by change 128 * 1 + k.val - 128 = k.val; omega)
    refine (congrArg (fun k' => gscV _ _ _ _ _ _ (ix2 0 k')) e).trans ?_
    refine (gsc_group x0 x1 x3 1 128 rfl _ _ _ _ (fun _ _ => load_pb _ _ _ _ _ _ _) (fun _ _ => load_slot _ _ _ _ _ _ _ _) k).trans ?_
    rw [acc7_1, zero_add]
    rfl
  · have hk := k.isLt
    unfold L7_4
    rw [canon_row, dif_neg (by change ¬(384 ≤ 128 * 2 + k.val ∧ 128 * 2 + k.val < 384 + 128); omega)]
    unfold L7_3
    rw [canon_row, dif_pos (by change 256 ≤ 128 * 2 + k.val ∧ 128 * 2 + k.val < 256 + 128; omega), load_dc]
    have e : (⟨(col 2 k).val - 256, by change 128 * 2 + k.val - 256 < 128; omega⟩ : Fin 128) = k :=
      Fin.ext (by change 128 * 2 + k.val - 256 = k.val; omega)
    refine (congrArg (fun k' => gscV _ _ _ _ _ _ (ix2 0 k')) e).trans ?_
    refine (gsc_group x0 x1 x3 2 256 rfl _ _ _ _ (fun _ _ => load_pb _ _ _ _ _ _ _) (fun _ _ => load_slot _ _ _ _ _ _ _ _) k).trans ?_
    rw [acc7_2, zero_add]
    rfl
  · have hk := k.isLt
    unfold L7_4
    rw [canon_row, dif_pos (by change 384 ≤ 128 * 3 + k.val ∧ 128 * 3 + k.val < 384 + 128; omega), load_dc]
    have e : (⟨(col 3 k).val - 384, by change 128 * 3 + k.val - 384 < 128; omega⟩ : Fin 128) = k :=
      Fin.ext (by change 128 * 3 + k.val - 384 = k.val; omega)
    refine (congrArg (fun k' => gscV _ _ _ _ _ _ (ix2 0 k')) e).trans ?_
    refine (gsc_group x0 x1 x3 3 384 rfl _ _ _ _ (fun _ _ => load_pb _ _ _ _ _ _ _) (fun _ _ => load_slot _ _ _ _ _ _ _ _) k).trans ?_
    rw [acc7_3, zero_add]
    rfl

end Cert.PoolBody
-- ==== Proof.PoolArray.lean ====
module

public import proofs.«01_k».proof.Proof.PoolOut
public import Idealize.ShloMosaic.Lib.Pipeline.ValueKit
public import Idealize.ShloMosaic.Lib.PlanTiles.Rows

/- The three arrays the pooling gradient's pipeline leaves, as sums over the rows of its operands. -/

set_option maxRecDepth 16384

@[expose] public section

noncomputable section

namespace Cert.PoolBody

open Idealize.ShloMosaic Idealize.ShloMosaic.TcCoe Idealize.SL.Sem Cert.PoolBwdIdeal Cert.PoolBwdIdeal.Gen
open Idealize.ShloMosaic.Pipeline (Dat)

/-- The four window lengths as numbers. -/
def wn : Fin 4 → ℕ := ![2, 4, 8, 16]

theorem win_eq (g : Fin 4) : win g = BitVec.ofNat 32 (wn g) := by fin_cases g <;> rfl
theorem wn_pos (g : Fin 4) : 0 < wn g := by fin_cases g <;> decide
theorem wn_le (g : Fin 4) : wn g ≤ 16 := by fin_cases g <;> decide

section Rows

variable (ct : S4096x512.Idx → EReal) (wp : S4x128x128.Idx → EReal) (sc : S1x512.Idx → EReal)

/-- The cotangent at a row, zero past the last one. -/
def ct0 (n : ℕ) (q : Fin 512) : EReal := if h : n < 4096 then ct (ix2 ⟨n, h⟩ q) else 0

/-- The gradient at the mixed rows. -/
def dmR (n : ℕ) (g : Fin 4) (d : Fin 128) : EReal := ct0 ct n (col g d) * sc (ix2 0 (col g d))

/-- The gradient at the pooled rows. -/
def dpR (n : ℕ) (g : Fin 4) (k : Fin 128) : EReal := ∑ d : Fin 128, dmR ct sc n g d * wp (ix3 g k d)

/-- The same divided by the number of rows in the row's window. -/
def zR (n : ℕ) (g : Fin 4) (k : Fin 128) : EReal := Ideal.div (dpR ct wp sc n g k) (((min (n + 1) (wn g) : ℕ) : ℝ) : EReal)

/-- The gradient at the input rows, as the pipeline sums it. -/
def duR (n : ℕ) (g : Fin 4) (k : Fin 128) : EReal :=
  ((∑ j : Fin 256, bandS g ⟨n % 128, by omega⟩ j * zR ct wp sc (128 * (n / 128) + j.val) g k)
    + ∑ j : Fin 256, bandS g ⟨n % 128, by omega⟩ j
        * (zR ct wp sc (128 * (n / 128) + j.val) g k - zR ct wp sc (128 * (n / 128) + j.val) g k))
    - dpR ct wp sc n g k

/-- One row's part of the weight's gradient. -/
def gwpR (pb : S4096x512.Idx → EReal) (n : ℕ) (g : Fin 4) (k d : Fin 128) : EReal :=
  ct0 pb n (col g k) * dmR ct sc n g d

/-- One row's part of the scale's gradient. -/
def gscR (pb : S4096x512.Idx → EReal) (n : ℕ) (g : Fin 4) (k : Fin 128) : EReal :=
  ct0 ct n (col g k) * ∑ y : Fin 128, ct0 pb n (col g y) * wp (ix3 g y k)

end Rows

theorem idx : ∀ t : Fin cfg0.N, win0_0.index t = ![t.val, 0] ∧ win0_1.index t = ![t.val, 0]
    ∧ win0_2.index t = ![min (8 * (t.val + 1)) 31, 0] ∧ win0_3.index t = ![0, 0, 0] ∧ win0_4.index t = ![0, 0]
    ∧ win0_5.index t = ![t.val, 0] ∧ win0_6.index t = ![0, 0, 0] ∧ win0_7.index t = ![0, 0]
    ∧ (grid0.coords t 0).val = t.val ∧ t.val < 4 :=
  (by decide +kernel : ∀ t : Fin grid0.N, _)

theorem more_eq (i : grid0.Coords) (t : ℕ) (h : (i 0).val = t) (ht : t < 4) : more i = if t < 3 then 1 else 0 := by
  unfold more
  rw [h]
  interval_cases t <;> rfl

variable (m : (ℓ : Loc nD τ sig) → Buf (Elt Ideal) ℓ)

theorem blk0 (c : Dev nD) (t : Fin cfg0.N) (r : Fin 1024) (q : Fin 512) (h : 1024 * t.val + r.val < 4096) :
    iblk m c 0 t (ix2 r q : S1024x512.Idx) = V m c main_v60 (ix2 (⟨1024 * t.val + r.val, h⟩ : Fin 4096) q : S4096x512.Idx) := by
  blk_ext [iblk, idx t]

theorem blk1 (c : Dev nD) (t : Fin cfg0.N) (r : Fin 1024) (q : Fin 512) (h : 1024 * t.val + r.val < 4096) :
    iblk m c 1 t (ix2 r q : S1024x512.Idx) = V m c main_v61 (ix2 (⟨1024 * t.val + r.val, h⟩ : Fin 4096) q : S4096x512.Idx) := by
  blk_ext [iblk, idx t]

theorem blk2 (c : Dev nD) (t : Fin cfg0.N) (r : Fin 128) (q : Fin 512) (ht : t.val < 3) (h : 1024 * t.val + (1024 + r.val) < 4096) :
    iblk m c 2 t (ix2 r q : S128x512.Idx) = V m c main_v61 (ix2 (⟨1024 * t.val + (1024 + r.val), h⟩ : Fin 4096) q : S4096x512.Idx) := by
  blk_ext [iblk, idx t]

theorem blk3 (c : Dev nD) (t : Fin cfg0.N) (g : Fin 4) (k d : Fin 128) :
    iblk m c 3 t (ix3 g k d : S4x128x128.Idx) = V m c main_v62 (ix3 g k d : S4x128x128.Idx) := by
  blk_ext [iblk, idx t]

theorem blk4 (c : Dev nD) (t : Fin cfg0.N) (q : Fin 512) :
    iblk m c 4 t (ix2 0 q : S1x512.Idx) = V m c main_arg2 (ix2 0 q : S1x512.Idx) := by
  blk_ext [iblk, idx t]

/-- The count of rows in a row's window, as the body computes it in words. -/
theorem count_eq (t a : ℕ) (g : Fin 4) (ht : t < 4) (ha : a < 1152) :
    (FloatOps.sitofp (F := Ideal) .f32 (IntOp.minsi (IntOp.addi (IntOp.addi (Scalar.muli (BitVec.ofNat 32 t) 1024#32)
      (BitVec.ofNat 32 a)) 1#32) (win g)) : EReal) = (((min (1024 * t + a + 1) (wn g) : ℕ) : ℝ) : EReal) := by
  have hw := wn_le g
  have e : IntOp.addi (IntOp.addi (Scalar.muli (BitVec.ofNat 32 t) 1024#32) (BitVec.ofNat 32 a)) 1#32
      = BitVec.ofNat 32 (1024 * t + a + 1) := by
    apply BitVec.eq_of_toNat_eq
    simp only [IntOp.addi, Scalar.muli, IntOp.muli, BitVec.toNat_add, BitVec.toNat_mul, BitVec.toNat_ofNat]
    omega
  rw [e, win_eq, PlanTiles.minsi_word (by omega) (by omega)]
  change (((BitVec.ofNat 32 (min (wn g) (1024 * t + a + 1))).toInt : ℝ) : EReal) = _
  rw [BitVec.toInt_ofNat', min_comm]
  rw [Int.bmod_eq_of_le_mul_two (by omega) (by omega)]
  norm_cast

theorem gsc_of (x0 : Vec Ideal S1024x512 .bf16) (x1 : Vec Ideal S1024x512 .f32) (x3 : Vec Ideal S4x128x128 .bf16)
    (ct pb : S4096x512.Idx → EReal) (wp : S4x128x128.Idx → EReal) (t : ℕ)
    (h0 : ∀ (r : Fin 1024) (q : Fin 512), x0 (ix2 r q) = ct0 pb (1024 * t + r.val) q)
    (h1 : ∀ (r : Fin 1024) (q : Fin 512), x1 (ix2 r q) = ct0 ct (1024 * t + r.val) q)
    (h3 : ∀ (g : Fin 4) (y d : Fin 128), x3 (ix3 g y d) = wp (ix3 g y d)) (g : Fin 4) (k : Fin 128) :
    gscS x0 x1 x3 g k = ∑ r : Fin 1024, gscR ct wp pb (1024 * t + r.val) g k := by
  unfold gscS gscR
  refine Finset.sum_congr rfl fun r _ => ?_
  rw [h1]
  congr 1
  exact Finset.sum_congr rfl fun y _ => by rw [h0, h3]

section Blocks

variable (c : Dev nD) (t : Fin cfg0.N)

theorem dm_blk (g : Fin 4) (a : Fin 1152) (d : Fin 128) :
    dmS (grid0.coords t) (iblk m c 1 t) (iblk m c 2 t) (iblk m c 4 t) g a d
      = dmR (V m c main_v61) (V m c main_arg2) (1024 * t.val + a.val) g d := by
  obtain ⟨-, -, -, -, -, -, -, -, hc, ht⟩ := idx t
  unfold dmS dmR ct0
  rw [blk4, more_eq _ t.val hc ht]
  congr 1
  by_cases h : a.val < 1024
  · rw [dif_pos h, dif_pos (by omega)]
    exact blk1 m c t _ _ _
  · rw [dif_neg h]
    by_cases h3 : t.val < 3
    · rw [dif_pos (by omega), if_pos h3]
      refine (blk2 m c t _ _ h3 (by have := a.isLt; change 1024 * t.val + (1024 + (a.val - 1024)) < 4096; omega)).trans ?_
      congr 2
      apply Fin.ext
      change 1024 * t.val + (1024 + (a.val - 1024)) = 1024 * t.val + a.val
      omega
    · rw [dif_neg (by omega), if_neg h3]
      rfl

theorem dp_blk (g : Fin 4) (a : Fin 1152) (k : Fin 128) :
    dpS (grid0.coords t) (iblk m c 1 t) (iblk m c 2 t) (iblk m c 3 t) (iblk m c 4 t) g a k
      = dpR (V m c main_v61) (V m c main_v62) (V m c main_arg2) (1024 * t.val + a.val) g k := by
  unfold dpS dpR
  exact Finset.sum_congr rfl fun d _ => by rw [dm_blk, blk3]

theorem z_blk (g : Fin 4) (a : Fin 1152) (k : Fin 128) :
    zS (grid0.coords t) (iblk m c 1 t) (iblk m c 2 t) (iblk m c 3 t) (iblk m c 4 t) g a k
      = zR (V m c main_v61) (V m c main_v62) (V m c main_arg2) (1024 * t.val + a.val) g k := by
  obtain ⟨-, -, -, -, -, -, -, -, hc, ht⟩ := idx t
  unfold zS zR
  rw [dp_blk, hc, count_eq _ _ _ ht a.isLt]

theorem du_blk (g : Fin 4) (r : Fin 1024) (k : Fin 128) :
    duS (grid0.coords t) (iblk m c 1 t) (iblk m c 2 t) (iblk m c 3 t) (iblk m c 4 t) g r k
      = duR (V m c main_v61) (V m c main_v62) (V m c main_arg2) (1024 * t.val + r.val) g k := by
  unfold duS duR
  simp only [z_blk, dp_blk]
  have e1 : ∀ j : Fin 256, 1024 * t.val + (128 * (r.val / 128) + j.val) = 128 * ((1024 * t.val + r.val) / 128) + j.val := by
    intro j; omega
  have e2 : (⟨r.val % 128, by omega⟩ : Fin 128) = ⟨(1024 * t.val + r.val) % 128, by omega⟩ := Fin.ext (by simp only; omega)
  simp only [e1, e2]

/-- A block row of the pooled array. -/
theorem row0 (r : Fin 1024) (q : Fin 512) :
    iblk m c 0 t (ix2 r q : S1024x512.Idx) = ct0 (V m c main_v60) (1024 * t.val + r.val) q := by
  obtain ⟨-, -, -, -, -, -, -, -, -, ht⟩ := idx t
  unfold ct0
  rw [dif_pos (by omega)]
  exact blk0 m c t r q _

/-- A block row of the cotangent. -/
theorem row1 (r : Fin 1024) (q : Fin 512) :
    iblk m c 1 t (ix2 r q : S1024x512.Idx) = ct0 (V m c main_v61) (1024 * t.val + r.val) q := by
  obtain ⟨-, -, -, -, -, -, -, -, -, ht⟩ := idx t
  unfold ct0
  rw [dif_pos (by omega)]
  exact blk1 m c t r q _

/-- The part of the weight's gradient from the rows of block `t`. -/
theorem gwp_blk (g : Fin 4) (k d : Fin 128) :
    gwpS (grid0.coords t) (iblk m c 0 t) (iblk m c 1 t) (iblk m c 2 t) (iblk m c 4 t) g k d
      = ∑ r : Fin 1024, gwpR (V m c main_v61) (V m c main_arg2) (V m c main_v60) (1024 * t.val + r.val) g k d := by
  unfold gwpS gwpR
  exact Finset.sum_congr rfl fun r _ => by rw [dm_blk, row0]

/-- The part of the scale's gradient from the rows of block `t`. -/
theorem gsc_blk (g : Fin 4) (k : Fin 128) :
    gscS (iblk m c 0 t) (iblk m c 1 t) (iblk m c 3 t) g k
      = ∑ r : Fin 1024, gscR (V m c main_v61) (V m c main_v62) (V m c main_v60) (1024 * t.val + r.val) g k := by
  exact gsc_of _ _ _ _ _ _ _ (fun r q => row0 m c t r q) (fun r q => row1 m c t r q) (fun g' y d => blk3 m c t g' y d) g k

end Blocks

end Cert.PoolBody
-- ==== Proof.PoolFinal.lean ====
module

public import proofs.«01_k».proof.Proof.PoolArray

/- What the pooling gradient's pipeline leaves in its three arrays. -/

set_option maxRecDepth 16384

@[expose] public section

noncomputable section

namespace Cert.PoolBody

open Idealize.ShloMosaic Idealize.ShloMosaic.TcCoe Idealize.SL.Sem Cert.PoolBwdIdeal Cert.PoolBwdIdeal.Gen
open Idealize.ShloMosaic.Pipeline (Dat)

/-- The group a column lies in. -/
def grp (q : Fin 512) : Fin 4 := ⟨q.val / 128, by omega⟩
/-- A column's place inside its group. -/
def lane (q : Fin 512) : Fin 128 := ⟨q.val % 128, by omega⟩

theorem col_grp_lane (q : Fin 512) : col (grp q) (lane q) = q := Fin.ext (by change 128 * (q.val / 128) + q.val % 128 = q.val; omega)

theorem split2 (y : S1024x512.Idx) : y = ix2 (y 0) (col (grp (y 1)) (lane (y 1))) := by
  exact (eq_ix2 y).trans (congrArg (fun q : Fin 512 => ix2 (y 0) q) (col_grp_lane (y 1)).symm)

theorem split1 (j : S1x512.Idx) : j = ix2 0 (col (grp (j 1)) (lane (j 1))) := by
  refine (eq_ix2 j).trans ((congrArg (fun q : Fin 512 => ix2 (j 0) q) (col_grp_lane (j 1)).symm).trans ?_)
  exact congrArg (fun p : Fin 1 => ix2 p (col (grp (j 1)) (lane (j 1)))) (Subsingleton.elim (α := Fin 1) _ _)

section Arrays

variable (ct pb : S4096x512.Idx → EReal) (wp : S4x128x128.Idx → EReal) (sc : S1x512.Idx → EReal)

/-- The gradient of the input. -/
def DU : S4096x512.Idx → EReal := fun j => duR ct wp sc (j 0).val (grp (j 1)) (lane (j 1))
/-- The gradient of the mixing weight. -/
def GWP : S4x128x128.Idx → EReal := fun j => ∑ n : Fin 4096, gwpR ct sc pb n.val (j 0) (j 1) (j 2)
/-- The gradient of the scale. -/
def GSC : S1x512.Idx → EReal := fun j => ∑ n : Fin 4096, gscR ct wp pb n.val (grp (j 1)) (lane (j 1))

end Arrays

variable (m : (ℓ : Loc nD τ sig) → Buf (Elt Ideal) ℓ) (c : Dev nD)

/-- The gradient of the input a grid point leaves. -/
theorem outs5 (t : Fin cfg0.N) (r : Fin 1024) (g : Fin 4) (k : Fin 128) :
    (outsAt0 m c t.val t.isLt).1 (ix2 r (col g k))
      = duR (V m c main_v61) (V m c main_v62) (V m c main_arg2) (1024 * t.val + r.val) g k := by
  by_cases h : t.val % 4 = 0
  · rw [outsAt0_A m c t h]
    dsimp only
    rw [out5_A, du_blk m c t]
  · rw [outsAt0_B m c t h]
    dsimp only
    rw [out5_B, du_blk m c t]

/-- A sum over the grid's points and the rows of their blocks is a sum over all rows. -/
theorem sum_rows (f : ℕ → EReal) : ∑ p : Fin cfg0.N, ∑ r : Fin 1024, f (1024 * p.val + r.val) = ∑ n : Fin 4096, f n.val := by
  refine Fin.sum_mul_add_congr (f := fun n : Fin 4096 => f n.val) (fun s k _ => ?_) (by decide)
  simp only [Nat.mul_comm 1024]

theorem final5 : (dats m 0 c).arrAt 5 cfg0.N = DU (V m c main_v61) (V m c main_v62) (V m c main_arg2) := by
  refine (dats m 0 c).arrAt_eq_of_covers 5 _ (by decide +kernel) fun t hf y => ?_
  blk_simp [idx t]
  rw [after0_5]
  refine (congrArg _ (split2 y)).trans ((outs5 m c t (y 0) (grp (y 1)) (lane (y 1))).trans ?_)
  have hi : (win0_5.blk t).view.emb y = ix2 (⟨1024 * t.val + (y 0).val, by have := (idx t).2.2.2.2.2.2.2.2.2; have : (y 0).val < 1024 := (y 0).isLt; omega⟩ : Fin 4096) (y 1) := by
    blk_ext [idx t]
  exact (congrArg (DU (V m c main_v61) (V m c main_v62) (V m c main_arg2)) hi).symm

/-- The mixing weight's gradient after the first point. -/
theorem first6 (t : Fin cfg0.N) (h : t.val % 4 = 0) (g : Fin 4) (k d : Fin 128) :
    (outsAt0 m c t.val t.isLt).2.1 (ix3 g k d)
      = ∑ r : Fin 1024, gwpR (V m c main_v61) (V m c main_arg2) (V m c main_v60) (1024 * t.val + r.val) g k d := by
  rw [outsAt0_A m c t h]
  dsimp only
  rw [out6_A, gwp_blk m c t]

/-- The mixing weight's gradient after a later point. -/
theorem step6 (t : Fin cfg0.N) (h : ¬t.val % 4 = 0) (g : Fin 4) (k d : Fin 128) :
    ((outsAt0 m c t.val t.isLt).2.1 (ix3 g k d) : EReal)
      = (outsAt0 m c (t.val - 1) (Nat.lt_of_le_of_lt (Nat.sub_le _ _) t.isLt)).2.1 (ix3 g k d)
        + ∑ r : Fin 1024, gwpR (V m c main_v61) (V m c main_arg2) (V m c main_v60) (1024 * t.val + r.val) g k d := by
  rw [outsAt0_B m c t h]
  dsimp only
  rw [out6_B, gwp_blk m c t]

/-- The scale's gradient after the first point. -/
theorem first7 (t : Fin cfg0.N) (h : t.val % 4 = 0) (g : Fin 4) (k : Fin 128) :
    (outsAt0 m c t.val t.isLt).2.2 (ix2 0 (col g k))
      = ∑ r : Fin 1024, gscR (V m c main_v61) (V m c main_v62) (V m c main_v60) (1024 * t.val + r.val) g k := by
  rw [outsAt0_A m c t h]
  dsimp only
  rw [out7_A, gsc_blk m c t]

/-- The scale's gradient after a later point. -/
theorem step7 (t : Fin cfg0.N) (h : ¬t.val % 4 = 0) (g : Fin 4) (k : Fin 128) :
    ((outsAt0 m c t.val t.isLt).2.2 (ix2 0 (col g k)) : EReal)
      = (outsAt0 m c (t.val - 1) (Nat.lt_of_le_of_lt (Nat.sub_le _ _) t.isLt)).2.2 (ix2 0 (col g k))
        + ∑ r : Fin 1024, gscR (V m c main_v61) (V m c main_v62) (V m c main_v60) (1024 * t.val + r.val) g k := by
  rw [outsAt0_B m c t h]
  dsimp only
  rw [out7_B, gsc_blk m c t]

/-- The mixing weight's gradient after the last point. -/
theorem outs6 (g : Fin 4) (k d : Fin 128) :
    (outsAt0 m c t0_3.val t0_3.isLt).2.1 (ix3 g k d)
      = ∑ n : Fin 4096, gwpR (V m c main_v61) (V m c main_arg2) (V m c main_v60) n.val g k d := by
  have := Pipeline.eq_sum_fin_of_reset_step_apply_last (M := EReal) (N := cfg0.N)
    (fun n h (j : Fin 4 × Fin 128 × Fin 128) => ((outsAt0 m c n h).2.1 (ix3 j.1 j.2.1 j.2.2) : EReal)) 4 (fun _ => 0)
    (fun p j => ∑ r : Fin 1024, gwpR (V m c main_v61) (V m c main_arg2) (V m c main_v60) (1024 * p.val + r.val) j.1 j.2.1 j.2.2)
    (fun t h j => (first6 m c t h _ _ _).trans (zero_add _).symm) (fun t h j => step6 m c t h _ _ _)
    (le_of_eq N_0) t0_3 rfl (g, k, d)
  rw [zero_add] at this
  exact this.trans (sum_rows (fun n => gwpR (V m c main_v61) (V m c main_arg2) (V m c main_v60) n g k d))

/-- The scale's gradient after the last point. -/
theorem outs7 (g : Fin 4) (k : Fin 128) :
    (outsAt0 m c t0_3.val t0_3.isLt).2.2 (ix2 0 (col g k))
      = ∑ n : Fin 4096, gscR (V m c main_v61) (V m c main_v62) (V m c main_v60) n.val g k := by
  have := Pipeline.eq_sum_fin_of_reset_step_apply_last (M := EReal) (N := cfg0.N)
    (fun n h (j : Fin 4 × Fin 128) => ((outsAt0 m c n h).2.2 (ix2 0 (col j.1 j.2)) : EReal)) 4 (fun _ => 0)
    (fun p j => ∑ r : Fin 1024, gscR (V m c main_v61) (V m c main_v62) (V m c main_v60) (1024 * p.val + r.val) j.1 j.2)
    (fun t h j => (first7 m c t h _ _).trans (zero_add _).symm) (fun t h j => step7 m c t h _ _)
    (le_of_eq N_0) t0_3 rfl (g, k)
  rw [zero_add] at this
  exact this.trans (sum_rows (fun n => gscR (V m c main_v61) (V m c main_v62) (V m c main_v60) n g k))

/-- The array of the mixing weight's gradient after the run. -/
theorem final6 : (dats m 0 c).arrAt 6 cfg0.N = GWP (V m c main_v61) (V m c main_v60) (V m c main_arg2) := by
  refine (dats m 0 c).arrAt_eq_of_after_last 6 t0_3 (by decide +kernel) _ fun j => ?_
  blk_simp
  rw [after0_6]
  exact (congrArg _ (eq_ix3 j)).trans (outs6 m c (j 0) (j 1) (j 2))

/-- The array of the scale's gradient after the run. -/
theorem final7 : (dats m 0 c).arrAt 7 cfg0.N = GSC (V m c main_v61) (V m c main_v60) (V m c main_v62) := by
  refine (dats m 0 c).arrAt_eq_of_after_last 7 t0_3 (by decide +kernel) _ fun j => ?_
  blk_simp
  rw [after0_7]
  exact (congrArg _ (split1 j)).trans (outs7 m c (grp (j 1)) (lane (j 1)))

end Cert.PoolBody
-- ==== Proof.PoolRefRead.lean ====
module

public import proofs.«01_k».proof.Proof.Gen.PoolRefIdeal.Read
public import proofs.«01_k».proof.Proof.PoolFinal

/- The reference's gradient, read row by row. -/

set_option maxRecDepth 16384

@[expose] public section

noncomputable section

namespace Cert.PoolBody

open Idealize.ShloMosaic Idealize.ShloMosaic.TcCoe Idealize.SL.Sem
open Cert.PoolRefIdeal Cert.PoolRefIdeal.Read

/-- A left fold of additions is a sum. -/
theorem foldl_sum {n : ℕ} (f : Fin n → EReal) (z : EReal) :
    (List.finRange n).foldl (fun r i => r + f i) z = z + ∑ i, f i := by
  rw [Fin.sum_univ_def, ← List.foldl_map (f := f) (g := fun r x : EReal => r + x)]
  generalize (List.finRange n).map f = l
  induction l generalizing z with
  | nil => simp
  | cons a l ih => rw [List.foldl_cons, ih, List.sum_cons, add_assoc]

/-- The positions of a window along the second axis are its offsets. -/
def winEquiv : (⟨4, ![1, 4096, 1, 1]⟩ : Shape).Idx ≃ Fin 4096 where
  toFun q := q 1
  invFun y := ix4 0 y 0 0
  left_inv q := by
    funext a
    match a with
    | ⟨0, _⟩ => exact Subsingleton.elim (α := Fin 1) _ _
    | ⟨1, _⟩ => rfl
    | ⟨2, _⟩ => exact Subsingleton.elim (α := Fin 1) _ _
    | ⟨3, _⟩ => exact Subsingleton.elim (α := Fin 1) _ _
  right_inv y := rfl

/-- The window sum padded at the high end is the sum over the rows from the index on. -/
theorem suffix (x : S1x4096x4x128.Idx → EReal) (h) (n : Fin 4096) (g : Fin 4) (k : Fin 128) :
    Ideal.hostReduceWindowAdd (s := S1x4096x4x128) (t := S1x4096x4x128) ![1, 4096, 1, 1] ![1, 1, 1, 1] ![0, 0, 0, 0] ![0, 4095, 0, 0] h x 0 (ix4 0 n g k)
      = ∑ y : Fin 4096, if hy : n.val + y.val < 4096 then x (ix4 0 ⟨n.val + y.val, hy⟩ g k) else 0 := by
  unfold Ideal.hostReduceWindowAdd Host.reduceWindow
  dsimp only
  rw [foldl_sum, zero_add, ← Equiv.sum_comp winEquiv, ← Equiv.sum_comp (Shape.rowMajor _)]
  refine Finset.sum_congr rfl fun q _ => ?_
  simp only [Equiv.symm_apply_apply]
  have q0 : (q 0).val = 0 := by have : (q 0).val < 1 := (q 0).isLt; omega
  have q2 : (q 2).val = 0 := by have : (q 2).val < 1 := (q 2).isLt; omega
  have q3 : (q 3).val = 0 := by have : (q 3).val < 1 := (q 3).isLt; omega
  by_cases hy : n.val + (q 1).val < 4096
  · rw [dif_pos, dif_pos (show n.val + (winEquiv q).val < 4096 from hy)]
    · congr 1
      funext a
      apply Fin.ext
      match a with
      | ⟨0, _⟩ => change 0 * 1 + (q 0).val - 0 = 0; omega
      | ⟨1, _⟩ => change n.val * 1 + (q 1).val - 0 = n.val + (q 1).val; omega
      | ⟨2, _⟩ => change g.val * 1 + (q 2).val - 0 = g.val; omega
      | ⟨3, _⟩ => change k.val * 1 + (q 3).val - 0 = k.val; omega
    · intro a
      match a with
      | ⟨0, _⟩ => change 0 ≤ 0 * 1 + (q 0).val ∧ 0 * 1 + (q 0).val - 0 < 1; omega
      | ⟨1, _⟩ => change 0 ≤ n.val * 1 + (q 1).val ∧ n.val * 1 + (q 1).val - 0 < 4096; omega
      | ⟨2, _⟩ => change 0 ≤ g.val * 1 + (q 2).val ∧ g.val * 1 + (q 2).val - 0 < 4; omega
      | ⟨3, _⟩ => change 0 ≤ k.val * 1 + (q 3).val ∧ k.val * 1 + (q 3).val - 0 < 128; omega
  · rw [dif_neg, dif_neg (show ¬n.val + (winEquiv q).val < 4096 from hy)]
    intro hc
    have := hc 1
    change 0 ≤ n.val * 1 + (q 1).val ∧ n.val * 1 + (q 1).val - 0 < 4096 at this
    omega

variable (x0 x3 : FVec Ideal S1x4096x512 .f32) (x1 : FVec Ideal S4x128x128 .f32) (x2 : FVec Ideal S1x512 .f32)

/-- An array of rows without its leading axis of length one. -/
def flat (x : S1x4096x512.Idx → EReal) : (⟨2, ![4096, 512]⟩ : Shape).Idx → EReal := fun j => x (ix3 0 (j 0) (j 1))

/-- The gradient at the pooled rows. -/
theorem v79_read (n : Fin 4096) (g : Fin 4) (k : Fin 128) :
    val_main_v79 (F := Ideal) x1 x2 x3 (ix4 0 n g k) = dpR (flat x3) x1 x2 n.val g k := by
  have e : ∀ d : Fin 128, (⟨g.val * 128 + d.val, by omega⟩ : Fin 512) = col g d := fun d => Fin.ext (by change g.val * 128 + d.val = 128 * g.val + d.val; omega)
  unfold val_main_v79 val_main_v78 val_main_v77 val_main_v76 val_main_v74 val_main_v73 val_main_v67 val_main_v0
  unfold dpR dmR ct0 flat
  simp only [n.isLt, dif_pos]
  pointwise
  simp only [e]

/-- The number of rows in a row's window. -/
theorem count_read (n : ℕ) (w : ℕ) (hn : n < 4096) :
    min (1 + FloatOps.sitofp (F := Ideal) .f32 (BitVec.ofNat 32 n) : EReal) ((w : ℝ) : EReal)
      = (((min (n + 1) w : ℕ) : ℝ) : EReal) := by
  change min (((1 : ℝ) : EReal) + (((BitVec.ofNat 32 n).toInt : ℝ) : EReal)) _ = _
  rw [BitVec.toInt_ofNat', Int.bmod_eq_of_le_mul_two (by omega) (by omega), ← EReal.coe_add]
  rw [← EReal.coe_strictMono.monotone.map_min, add_comm]
  norm_cast

/-- Rows past the last carry no gradient. -/
theorem dpR_past (ct : (⟨2, ![4096, 512]⟩ : Shape).Idx → EReal) (n : ℕ) (g : Fin 4) (k : Fin 128) (h : ¬n < 4096) : dpR ct x1 x2 n g k = 0 := by
  unfold dpR dmR ct0
  simp only [dif_neg h, zero_mul, Finset.sum_const_zero]

/-- Nor do their means. -/
theorem zR_past (ct : (⟨2, ![4096, 512]⟩ : Shape).Idx → EReal) (n : ℕ) (g : Fin 4) (k : Fin 128) (h : ¬n < 4096) : zR ct x1 x2 n g k = 0 := by
  unfold zR
  rw [dpR_past x1 x2 ct n g k h]
  refine Ideal.zero_div ?_
  have := wn_pos g
  have h2 : min (n + 1) (wn g) ≠ 0 := by omega
  exact_mod_cast h2

/-- One entry of a group's part of the reference's gradient through the window sum. -/
theorem v92_read (n : Fin 4096) (k : Fin 128) :
    val_main_v92 (F := Ideal) x1 x2 x3 (ix3 0 n k) = zR (flat x3) x1 x2 n.val 3 k := by
  have hb : (Ideal.ofBits .f32 0x41800000#32 : EReal) = ((16 : ℕ) : ℝ) := by
    simp [Ideal.ofBits, Ideal.ieee, -EReal.coe_mul]
    norm_num
  unfold val_main_v92 val_main_v90 val_main_v89 val_main_v91 val_main_v54 val_main_v53 val_main_v52 val_main_v5 val_main_v4 val_main_v3 val_main_cst_11 val_main_cst
  pointwise
  rw [hb, count_read n.val 16 n.isLt, v79_read]
  rfl

/-- One entry of a group's part of the reference's gradient through the window sum. -/
theorem v97_read (n : Fin 4096) (k : Fin 128) :
    val_main_v97 (F := Ideal) x1 x2 x3 (ix3 0 n k) = zR (flat x3) x1 x2 n.val 3 k + -zR (flat x3) x1 x2 (n.val + 16) 3 k := by
  unfold val_main_v97 val_main_v96 val_main_v95 val_main_v93 val_main_cst_14
  pointwise
  rw [v92_read]
  congr 1
  by_cases h : n.val < 4080
  · rw [dif_pos h, v92_read]
    exact congrArg (fun t => -zR (flat x3) x1 x2 t 3 k) (Nat.add_comm 16 n.val)
  · rw [dif_neg h, zR_past x1 x2 _ _ _ _ (by omega)]
    simp

/-- One entry of a group's part of the reference's gradient through the window sum. -/
theorem v101_read (n : Fin 4096) (k : Fin 128) :
    val_main_v101 (F := Ideal) x1 x2 x3 (ix3 0 n k) = zR (flat x3) x1 x2 n.val 2 k := by
  have hb : (Ideal.ofBits .f32 0x41000000#32 : EReal) = ((8 : ℕ) : ℝ) := by
    simp [Ideal.ofBits, Ideal.ieee, -EReal.coe_mul]
    norm_num
  unfold val_main_v101 val_main_v88 val_main_v87 val_main_v100 val_main_v41 val_main_v40 val_main_v39 val_main_v5 val_main_v4 val_main_v3 val_main_cst_8 val_main_cst
  pointwise
  rw [hb, count_read n.val 8 n.isLt, v79_read]
  rfl

/-- One entry of a group's part of the reference's gradient through the window sum. -/
theorem v106_read (n : Fin 4096) (k : Fin 128) :
    val_main_v106 (F := Ideal) x1 x2 x3 (ix3 0 n k) = zR (flat x3) x1 x2 n.val 2 k + -zR (flat x3) x1 x2 (n.val + 8) 2 k := by
  unfold val_main_v106 val_main_v105 val_main_v104 val_main_v102 val_main_cst_16
  pointwise
  rw [v101_read]
  congr 1
  by_cases h : n.val < 4088
  · rw [dif_pos h, v101_read]
    exact congrArg (fun t => -zR (flat x3) x1 x2 t 2 k) (Nat.add_comm 8 n.val)
  · rw [dif_neg h, zR_past x1 x2 _ _ _ _ (by omega)]
    simp

/-- One entry of a group's part of the reference's gradient through the window sum. -/
theorem v111_read (n : Fin 4096) (k : Fin 128) :
    val_main_v111 (F := Ideal) x1 x2 x3 (ix3 0 n k) = zR (flat x3) x1 x2 n.val 1 k := by
  have hb : (Ideal.ofBits .f32 0x40800000#32 : EReal) = ((4 : ℕ) : ℝ) := by
    simp [Ideal.ofBits, Ideal.ieee, -EReal.coe_mul]
    norm_num
  unfold val_main_v111 val_main_v86 val_main_v85 val_main_v110 val_main_v28 val_main_v27 val_main_v26 val_main_v5 val_main_v4 val_main_v3 val_main_cst_5 val_main_cst
  pointwise
  rw [hb, count_read n.val 4 n.isLt, v79_read]
  rfl

/-- One entry of a group's part of the reference's gradient through the window sum. -/
theorem v116_read (n : Fin 4096) (k : Fin 128) :
    val_main_v116 (F := Ideal) x1 x2 x3 (ix3 0 n k) = zR (flat x3) x1 x2 n.val 1 k + -zR (flat x3) x1 x2 (n.val + 4) 1 k := by
  unfold val_main_v116 val_main_v115 val_main_v114 val_main_v112 val_main_cst_18
  pointwise
  rw [v111_read]
  congr 1
  by_cases h : n.val < 4092
  · rw [dif_pos h, v111_read]
    exact congrArg (fun t => -zR (flat x3) x1 x2 t 1 k) (Nat.add_comm 4 n.val)
  · rw [dif_neg h, zR_past x1 x2 _ _ _ _ (by omega)]
    simp

/-- One entry of a group's part of the reference's gradient through the window sum. -/
theorem v121_read (n : Fin 4096) (k : Fin 128) :
    val_main_v121 (F := Ideal) x1 x2 x3 (ix3 0 n k) = zR (flat x3) x1 x2 n.val 0 k := by
  have hb : (Ideal.ofBits .f32 0x40000000#32 : EReal) = ((2 : ℕ) : ℝ) := by
    simp [Ideal.ofBits, Ideal.ieee, -EReal.coe_mul]
    norm_num
  unfold val_main_v121 val_main_v84 val_main_v83 val_main_v120 val_main_v15 val_main_v14 val_main_v13 val_main_v5 val_main_v4 val_main_v3 val_main_cst_2 val_main_cst
  pointwise
  rw [hb, count_read n.val 2 n.isLt, v79_read]
  rfl

/-- One entry of a group's part of the reference's gradient through the window sum. -/
theorem v126_read (n : Fin 4096) (k : Fin 128) :
    val_main_v126 (F := Ideal) x1 x2 x3 (ix3 0 n k) = zR (flat x3) x1 x2 n.val 0 k + -zR (flat x3) x1 x2 (n.val + 2) 0 k := by
  unfold val_main_v126 val_main_v125 val_main_v124 val_main_v122 val_main_cst_20
  pointwise
  rw [v121_read]
  congr 1
  by_cases h : n.val < 4094
  · rw [dif_pos h, v121_read]
    exact congrArg (fun t => -zR (flat x3) x1 x2 t 0 k) (Nat.add_comm 2 n.val)
  · rw [dif_neg h, zR_past x1 x2 _ _ _ _ (by omega)]
    simp

/-- What the running sums add up, row by row: a mean's gradient less the one a window on. -/
theorem v129_read (n : Fin 4096) (g : Fin 4) (k : Fin 128) :
    val_main_v129 (F := Ideal) x1 x2 x3 (ix4 0 n g k) = zR (flat x3) x1 x2 n.val g k + -zR (flat x3) x1 x2 (n.val + wn g) g k := by
  unfold val_main_v129 val_main_v119 val_main_v109 val_main_v128 val_main_v118 val_main_v108 val_main_v99 val_main_v127 val_main_v117 val_main_v107 val_main_v98 val_main_cst_15 val_main_cst_17 val_main_cst_19 val_main_cst_21
  pointwise
  rw [v97_read, v106_read, v116_read, v126_read]
  match g with
  | 0 => simp [wn]
  | 1 => simp [wn]
  | 2 => simp [wn]
  | 3 => simp [wn]

/-- The same, started from an array holding zero. -/
theorem suffix' (x : FVec Ideal S1x4096x4x128 .f32) (v : FVec Ideal S_ .f32) (h) (hn) (hv : (v (Shape.Idx.first hn) : EReal) = 0) (n : Fin 4096) (g : Fin 4) (k : Fin 128) :
    Host.reduceWindowAdd (t := S1x4096x4x128) ![1, 4096, 1, 1] ![1, 1, 1, 1] ![0, 0, 0, 0] ![0, 4095, 0, 0] x v h hn (ix4 0 n g k)
      = ∑ y : Fin 4096, if hy : n.val + y.val < 4096 then x (ix4 0 ⟨n.val + y.val, hy⟩ g k) else 0 := by
  unfold Host.reduceWindowAdd
  rw [hv]
  exact suffix x h n g k

/-- The running sums from a row to the last. -/
theorem v130_read (n : Fin 4096) (g : Fin 4) (k : Fin 128) :
    val_main_v130 (F := Ideal) x1 x2 x3 (ix4 0 n g k)
      = ∑ y : Fin 4096, if n.val + y.val < 4096 then zR (flat x3) x1 x2 (n.val + y.val) g k + -zR (flat x3) x1 x2 (n.val + y.val + wn g) g k else 0 := by
  have h0 : (val_main_call1_call0_v0 (F := Ideal) (Shape.Idx.first Gen.h_S_) : EReal) = 0 := by
    unfold val_main_call1_call0_v0 val_main_call1_call0_cst
    pointwise
  unfold val_main_v130
  rw [suffix' _ _ _ _ h0]
  refine Finset.sum_congr rfl fun y _ => ?_
  by_cases h : n.val + y.val < 4096
  · rw [dif_pos h, if_pos h, v129_read]
  · rw [dif_neg h, if_neg h]

/-- The gradient at the input rows. -/
theorem v135_read (n : Fin 4096) (q : Fin 512) :
    val_main_v135 (F := Ideal) x1 x2 x3 (ix2 n q) = -dpR (flat x3) x1 x2 n.val (grp q) (lane q)
      + ∑ y : Fin 4096, if n.val + y.val < 4096 then zR (flat x3) x1 x2 (n.val + y.val) (grp q) (lane q)
          + -zR (flat x3) x1 x2 (n.val + y.val + wn (grp q)) (grp q) (lane q) else 0 := by
  unfold val_main_v135 val_main_v134 val_main_v132 val_main_v131 val_main_v82
  pointwise
  rw [v79_read, v130_read]
  rfl

/-- Summing the first two axes away keeps the last coordinate. -/
theorem drop_last (i : S1x1x512.Idx) : (Gen.reducesTo_S1x1x512_S512_d0_1).drop i = ix1 (i 2) := by
  funext a
  match a with
  | ⟨0, _⟩ => exact Fin.ext rfl

/-- A sum over two axes of length one is the array. -/
theorem reduce_ones (y : S1x1x512.Idx → EReal) (q : Fin 512) :
    Ideal.hostReduceAdd Gen.reducesTo_S1x1x512_S512_d0_1 y 0 (ix1 q) = y (ix3 0 0 q) := by
  unfold Ideal.hostReduceAdd
  rw [zero_add, Finset.sum_eq_single_of_mem (ix3 0 0 q)]
  · rw [Finset.mem_filter]
    exact ⟨Finset.mem_univ _, drop_last _⟩
  · intro i hi hne
    rw [Finset.mem_filter, drop_last] at hi
    exact absurd (by
      have hq : i 2 = q := congrFun hi.2 0
      refine (eq_ix3 i).trans ?_
      rw [← hq]
      exact congrArg₂ (fun a b : Fin 1 => ix3 a b (i 2)) (Subsingleton.elim (α := Fin 1) _ _) (Subsingleton.elim (α := Fin 1) _ _)) hne

/-- The scale's gradient. -/
theorem v133_read (q : Fin 512) :
    val_main_v133 (F := Ideal) x0 x1 x3 (ix2 0 q) = ∑ n : Fin 4096, val_main_v66 (F := Ideal) x0 x1 (ix3 0 n q) * x3 (ix3 0 n q) := by
  have h0 : (val_main_cst_13 (F := Ideal) (Shape.Idx.first Gen.h_S_) : EReal) = 0 := by
    unfold val_main_cst_13
    pointwise
  unfold val_main_v133 val_main_v75
  pointwise
  rw [h0, reduce_ones]
  unfold val_main_v72 val_main_v71 val_main_v70 val_main_cst_12
  pointwise

/-- The reference's product of pooled values and weights, one entry. -/
theorem v66_read (n : Fin 4096) (q : Fin 512) :
    val_main_v66 (F := Ideal) x0 x1 (ix3 0 n q) = ∑ y : Fin 128, x1 (ix3 (grp q) y (lane q)) * val_main_v63 (F := Ideal) x0 (ix4 0 n (grp q) y) := by
  unfold val_main_v66 val_main_v65 val_main_v64
  pointwise
  rfl

/-- The reference's weight gradient, one entry. -/
theorem v81_read (g : Fin 4) (k d : Fin 128) :
    val_main_v81 (F := Ideal) x0 x2 x3 (ix3 g k d) = ∑ n : Fin 4096, x3 (ix3 0 n (col g d)) * x2 (ix2 0 (col g d)) * val_main_v63 (F := Ideal) x0 (ix4 0 n g k) := by
  have e : ∀ d : Fin 128, (⟨g.val * 128 + d.val, by omega⟩ : Fin 512) = col g d := fun d => Fin.ext (by change g.val * 128 + d.val = 128 * g.val + d.val; omega)
  unfold val_main_v81 val_main_v80 val_main_v77 val_main_v76 val_main_v74 val_main_v73 val_main_v67 val_main_v0
  pointwise
  rw [Fin.sum_univ_one]
  simp only [e]

end Cert.PoolBody
-- ==== Proof.PoolEq.lean ====
module

public import proofs.«01_k».proof.Proof.PoolRefRead

/- The pipeline's gradients and the reference's are the same numbers. -/

set_option maxRecDepth 16384

@[expose] public section

noncomputable section

namespace Cert.PoolBody

open Idealize.ShloMosaic Idealize.ShloMosaic.TcCoe Idealize.SL.Sem
open Cert.PoolRefIdeal Cert.PoolRefIdeal.Read

/-- A sum of the differences a window apart, over all rows from one on, is the sum over the window, when the terms past the last row are zero. -/
theorem telescope (Z : ℕ → ℝ) (N : ℕ) (hZ : ∀ t, N ≤ t → Z t = 0) (n w : ℕ) :
    ∑ y ∈ Finset.range N, (if n + y < N then Z (n + y) - Z (n + y + w) else 0) = ∑ y ∈ Finset.range w, Z (n + y) := by
  have h1 : ∑ y ∈ Finset.range N, (if n + y < N then Z (n + y) - Z (n + y + w) else 0) = ∑ y ∈ Finset.range N, (Z (n + y) - Z (n + y + w)) := by
    refine Finset.sum_congr rfl fun y _ => ?_
    split
    · rfl
    · rw [hZ _ (by omega), hZ _ (by omega), sub_zero]
  rw [h1]
  have h2 : ∑ y ∈ Finset.range (N + w), Z (n + y) = ∑ y ∈ Finset.range N, Z (n + y) := by
    rw [Finset.sum_range_add]
    simp only [add_eq_left]
    exact Finset.sum_eq_zero fun y _ => hZ _ (by omega)
  have h3 : ∑ y ∈ Finset.range (w + N), Z (n + y) = ∑ y ∈ Finset.range w, Z (n + y) + ∑ y ∈ Finset.range N, Z (n + y + w) := by
    rw [Finset.sum_range_add]
    congr 1
    exact Finset.sum_congr rfl fun y _ => by congr 1; omega
  rw [Finset.sum_sub_distrib, ← h2, Nat.add_comm N w, h3]
  ring

/-- The coercion of a sum. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A band's row holds one in the window's places and zero elsewhere. -/
theorem bandS_eq (g : Fin 4) (a : Fin 128) (j : Fin 256) :
    bandS g a j = ((if a.val ≤ j.val ∧ j.val < a.val + wn g then 1 else 0 : ℝ) : EReal) := by
  unfold bandS
  rw [bandV_apply, win_eq]
  have hw := wn_le g
  rw [WordCmp.andi_sge_zero_slt_ofNat (by omega)]
  have e : (IntOp.subi (BitVec.ofNat 32 j.val) (BitVec.ofNat 32 a.val)).toNat < wn g ↔ a.val ≤ j.val ∧ j.val < a.val + wn g := by
    simp only [IntOp.subi, BitVec.toNat_sub, BitVec.toNat_ofNat]
    omega
  by_cases h : a.val ≤ j.val ∧ j.val < a.val + wn g
  · rw [if_pos h, decide_eq_true (e.mpr h)]
    simp [Scalar.select]
  · rw [if_neg h, decide_eq_false (fun h' => h (e.mp h'))]
    simp [Scalar.select]

/-- A band's row sums a window of finite numbers. -/
theorem band_sum (Z : ℕ → ℝ) (g : Fin 4) (n : ℕ) :
    ∑ j : Fin 256, bandS g ⟨n % 128, by omega⟩ j * ((Z (128 * (n / 128) + j.val) : ℝ) : EReal)
      = ((∑ y ∈ Finset.range (wn g), Z (n + y) : ℝ) : EReal) := by
  have hw := wn_le g
  simp only [bandS_eq, ← EReal.coe_mul]
  rw [← coe_sum, Fin.sum_univ_eq_sum_range (fun j => (if n % 128 ≤ j ∧ j < n % 128 + wn g then 1 else 0 : ℝ) * Z (128 * (n / 128) + j)) 256]
  congr 1
  simp only [ite_mul, one_mul, zero_mul]
  rw [← Finset.sum_filter]
  refine Finset.sum_nbij' (fun j => j - n % 128) (fun y => n % 128 + y) ?_ ?_ ?_ ?_ ?_
  · intro j hj
    simp only [Finset.mem_filter, Finset.mem_range] at hj ⊢
    omega
  · intro j hj
    simp only [Finset.mem_filter, Finset.mem_range] at hj ⊢
    omega
  · intro j hj
    simp only [Finset.mem_filter, Finset.mem_range] at hj ⊢
    omega
  · intro j hj
    omega
  · intro j hj
    simp only [Finset.mem_filter, Finset.mem_range] at hj
    congr 1
    omega

section Real

variable (ct : (⟨2, ![4096, 512]⟩ : Shape).Idx → EReal) (wp : S4x128x128.Idx → EReal) (sc : S1x512.Idx → EReal)
  (hct : ∀ i, ∃ r : ℝ, ct i = r) (hwp : ∀ i, ∃ r : ℝ, wp i = r) (hsc : ∀ i, ∃ r : ℝ, sc i = r)

include hct hwp hsc in
/-- With finite inputs the gradient at the pooled rows is finite. -/
theorem dpR_real (n : ℕ) (g : Fin 4) (k : Fin 128) : ∃ r : ℝ, dpR ct wp sc n g k = r := by
  have h : ∀ d : Fin 128, ∃ r : ℝ, dmR ct sc n g d * wp (ix3 g k d) = r := by
    intro d
    obtain ⟨b, hb⟩ := hsc (ix2 0 (col g d))
    obtain ⟨c, hc⟩ := hwp (ix3 g k d)
    unfold dmR ct0
    rw [hb, hc]
    split
    · obtain ⟨a, ha⟩ := hct (ix2 ⟨n, ‹_›⟩ (col g d))
      exact ⟨a * b * c, by rw [ha]; push_cast; rfl⟩
    · exact ⟨0, by simp⟩
  choose f hf using h
  exact ⟨∑ d, f d, by unfold dpR; simp only [hf]; rw [coe_sum]⟩

include hct hwp hsc in
/-- And so is the gradient of the means. -/
theorem zR_real (n : ℕ) (g : Fin 4) (k : Fin 128) : ∃ r : ℝ, zR ct wp sc n g k = r := by
  obtain ⟨r, hr⟩ := dpR_real ct wp sc hct hwp hsc n g k
  have := wn_pos g
  have h2 : ((min (n + 1) (wn g) : ℕ) : ℝ) ≠ 0 := by
    have : min (n + 1) (wn g) ≠ 0 := by omega
    exact_mod_cast this
  unfold zR
  rw [hr, Ideal.div_coe h2]
  exact ⟨r * (1 / ((min (n + 1) (wn g) : ℕ) : ℝ)), by rw [EReal.coe_mul]⟩

end Real

/-- The input rows' gradient: the band's window sum is the difference of the two running sums. -/
theorem du_eq (x3 : FVec Ideal S1x4096x512 .f32) (x1 : FVec Ideal S4x128x128 .f32) (x2 : FVec Ideal S1x512 .f32)
    (h3 : ∀ i, ∃ r : ℝ, x3 i = (r : EReal)) (h1 : ∀ i, ∃ r : ℝ, x1 i = (r : EReal)) (h2 : ∀ i, ∃ r : ℝ, x2 i = (r : EReal)) (n : Fin 4096) (q : Fin 512) :
    val_main_v135 (F := Ideal) x1 x2 x3 (ix2 n q) = duR (flat x3) x1 x2 n.val (grp q) (lane q) := by
  rw [v135_read]
  have hf : ∀ i, ∃ r : ℝ, flat x3 i = r := fun i => h3 _
  choose Z hZ using fun t => zR_real (flat x3) x1 x2 hf h1 h2 t (grp q) (lane q)
  obtain ⟨D, hD⟩ := dpR_real (flat x3) x1 x2 hf h1 h2 n.val (grp q) (lane q)
  have hZ0 : ∀ t, 4096 ≤ t → Z t = 0 := by
    intro t ht
    have := zR_past x1 x2 (flat x3) t (grp q) (lane q) (by omega)
    rw [hZ t] at this
    exact_mod_cast this
  unfold duR
  simp only [hZ, hD]
  rw [band_sum]
  have e0 : ∀ t : ℕ, ((Z t : ℝ) : EReal) - (Z t : ℝ) = 0 := fun t => by rw [← EReal.coe_sub, sub_self]; rfl
  simp only [e0, mul_zero, Finset.sum_const_zero, add_zero]
  rw [← telescope Z 4096 hZ0 n.val (wn (grp q))]
  rw [← Fin.sum_univ_eq_sum_range (fun y => if n.val + y < 4096 then Z (n.val + y) - Z (n.val + y + wn (grp q)) else 0) 4096]
  have e1 : ∀ y : Fin 4096, (if n.val + y.val < 4096 then ((Z (n.val + y.val) : ℝ) : EReal) + -((Z (n.val + y.val + wn (grp q)) : ℝ) : EReal) else 0)
      = ((if n.val + y.val < 4096 then Z (n.val + y.val) - Z (n.val + y.val + wn (grp q)) else 0 : ℝ) : EReal) := by
    intro y
    split
    · rw [← EReal.coe_neg, ← EReal.coe_add, sub_eq_add_neg]
    · rfl
  simp only [e1]
  rw [← coe_sum, ← EReal.coe_neg, ← EReal.coe_add, ← EReal.coe_sub]
  congr 1
  ring

/-- The pooled rows with the groups' columns side by side. -/
def pooled (x0 : FVec Ideal S1x4096x512 .f32) : (⟨2, ![4096, 512]⟩ : Shape).Idx → EReal :=
  fun j => val_main_v63 (F := Ideal) x0 (ix4 0 (j 0) (grp (j 1)) (lane (j 1)))

/-- The pooled value of a group's channel is the reference's pooled value at that group. -/
theorem pooled_col (x0 : FVec Ideal S1x4096x512 .f32) (n : Fin 4096) (g : Fin 4) (k : Fin 128) :
    ct0 (pooled x0) n.val (col g k) = val_main_v63 (F := Ideal) x0 (ix4 0 n g k) := by
  unfold ct0 pooled
  rw [dif_pos n.isLt]
  change val_main_v63 (F := Ideal) x0 (ix4 0 n (grp (col g k)) (lane (col g k))) = _
  have hg : grp (col g k) = g := Fin.ext (by change (128 * g.val + k.val) / 128 = g.val; omega)
  have hl : lane (col g k) = k := Fin.ext (by change (128 * g.val + k.val) % 128 = k.val; omega)
  rw [hg, hl]

/-- The mixing matrices' gradient. -/
theorem gwp_eq (x0 x3 : FVec Ideal S1x4096x512 .f32) (x2 : FVec Ideal S1x512 .f32) (g : Fin 4) (k d : Fin 128) :
    val_main_v81 (F := Ideal) x0 x2 x3 (ix3 g k d) = ∑ n : Fin 4096, gwpR (flat x3) x2 (pooled x0) n.val g k d := by
  rw [v81_read]
  refine Finset.sum_congr rfl fun n _ => ?_
  unfold gwpR dmR
  rw [pooled_col, mul_comm]
  unfold ct0 flat
  rw [dif_pos n.isLt]
  rfl

/-- The scale's gradient. -/
theorem gsc_eq (x0 x3 : FVec Ideal S1x4096x512 .f32) (x1 : FVec Ideal S4x128x128 .f32) (q : Fin 512) :
    val_main_v133 (F := Ideal) x0 x1 x3 (ix2 0 q) = ∑ n : Fin 4096, gscR (flat x3) x1 (pooled x0) n.val (grp q) (lane q) := by
  rw [v133_read]
  refine Finset.sum_congr rfl fun n _ => ?_
  unfold gscR
  simp only [pooled_col]
  rw [v66_read, mul_comm, col_grp_lane]
  unfold ct0 flat
  rw [dif_pos n.isLt]
  refine congrArg₂ _ rfl (Finset.sum_congr rfl fun y _ => mul_comm _ _)

end Cert.PoolBody
-- ==== Proof.PoolEntry.lean ====
module

public import proofs.«01_k».proof.Proof.PoolEq

/- What the pipeline's input arrays hold at its entry. -/

set_option maxRecDepth 16384

@[expose] public section

noncomputable section

namespace Cert.PoolBody

open Idealize.ShloMosaic Idealize.ShloMosaic.TcCoe Idealize.SL.Sem
open Cert.PoolBwdIdeal Cert.PoolBwdIdeal.Gen

/-- Two arrays side by side: equal parts make equal wholes. -/
theorem cat2 {t s₁ s₂ : Shape} (d : Fin t.rank) (a a' : s₁.Idx → EReal) (b b' : s₂.Idx → EReal) (h) (ha : a = a') (hb : b = b') :
    concatenate t d [⟨s₁, a⟩, ⟨s₂, b⟩] h = concatenate t d [⟨s₁, a'⟩, ⟨s₂, b'⟩] h := by
  subst ha hb
  rfl

/-- Four arrays side by side: equal parts make equal wholes. -/
theorem cat4 {t s₁ s₂ s₃ s₄ : Shape} (d : Fin t.rank) (a a' : s₁.Idx → EReal) (b b' : s₂.Idx → EReal) (e e' : s₃.Idx → EReal) (f f' : s₄.Idx → EReal)
    (h) (ha : a = a') (hb : b = b') (he : e = e') (hf : f = f') :
    concatenate t d [⟨s₁, a⟩, ⟨s₂, b⟩, ⟨s₃, e⟩, ⟨s₄, f⟩] h = concatenate t d [⟨s₁, a'⟩, ⟨s₂, b'⟩, ⟨s₃, e'⟩, ⟨s₄, f'⟩] h := by
  subst ha hb he hf
  rfl

/-- Dropping the leading axis of length one. -/
theorem flat_eq (x : S1x4096x512.Idx → EReal) (h) : shapeCast (⟨2, ![4096, 512]⟩ : Shape) x h = flat x := by
  funext j
  obtain ⟨a, b, rfl⟩ : ∃ (a : Fin 4096) (b : Fin 512), j = ix2 a b := ⟨j 0, j 1, eq_ix2 j⟩
  pointwise
  rfl

/-- Laying the groups' columns side by side. -/
theorem side_eq (y : S1x4096x4x128.Idx → EReal) (h) (a : Fin 4096) (b : Fin 512) : shapeCast (⟨2, ![4096, 512]⟩ : Shape) y h (ix2 a b) = y (ix4 0 a (grp b) (lane b)) := by
  pointwise
  rfl

attribute [local congr] cat2 cat4

variable (m : (ℓ : Loc nD τ sig) → Buf (Elt Ideal) ℓ) (c : Dev nD)

/-- The gradient coming in. -/
theorem V61 : V m c main_v61 = flat (m ((c : Thread nD τ).loc main_arg3)) := by
  entry_read
  simp only [hostOps0, hostOps0_1, hostOps0_2, List.flatten_cons, List.flatten_nil, List.append_nil, List.cons_append, List.nil_append, StableHlo.TRef.binary, StableHlo.TRef.nullary, StableHlo.TRef.unary, StableHlo.TRef.toBuf, StableHlo.TRef.ofBuf, cast_eq]
  after_results_simp
  exact flat_eq _ _

/-- The mixing matrices. -/
theorem V62 : V m c main_v62 = m ((c : Thread nD τ).loc main_arg1) := by
  entry_read
  simp only [hostOps0, hostOps0_1, hostOps0_2, List.flatten_cons, List.flatten_nil, List.append_nil, List.cons_append, List.nil_append, StableHlo.TRef.binary, StableHlo.TRef.nullary, StableHlo.TRef.unary, StableHlo.TRef.toBuf, StableHlo.TRef.ofBuf, cast_eq]
  after_results_simp
  rfl

/-- The pooled rows. -/
theorem V60 : V m c main_v60 = pooled (m ((c : Thread nD τ).loc main_arg0)) := by
  have h : V m c main_v60 = shapeCast S4096x512 (Cert.PoolRefIdeal.Read.val_main_v63 (F := Ideal) (m ((c : Thread nD τ).loc main_arg0))) shapeCasts_S1x4096x4x128_S4096x512 := by
    entry_read
    simp only [hostOps0, hostOps0_1, hostOps0_2, List.flatten_cons, List.flatten_nil, List.append_nil, List.cons_append, List.nil_append, StableHlo.TRef.binary, StableHlo.TRef.nullary, StableHlo.TRef.unary, StableHlo.TRef.toBuf, StableHlo.TRef.ofBuf, cast_eq]
    after_results_simp
    dsimp only [Matrix.cons_val]
    after_results_simp
    rfl
  rw [h]
  funext j
  obtain ⟨a, b, rfl⟩ : ∃ (a : Fin 4096) (b : Fin 512), j = ix2 a b := ⟨j 0, j 1, eq_ix2 j⟩
  exact side_eq _ _ a b

end Cert.PoolBody
-- ==== Proof.PoolMeet.lean ====
module

public import proofs.«01_k».proof.Proof.PoolEntry

/- The three arrays the pipeline leaves are the reference's gradients of the same arguments. -/

set_option maxRecDepth 16384

@[expose] public section

noncomputable section

namespace Cert.PoolBody

open Idealize.ShloMosaic Idealize.ShloMosaic.TcCoe Idealize.SL.Sem
open Cert.PoolBwdIdeal Cert.PoolBwdIdeal.Gen

/-- The input rows' gradient, whole. -/
theorem du_all (x3 : FVec Ideal S1x4096x512 .f32) (x1 : FVec Ideal S4x128x128 .f32) (x2 : FVec Ideal S1x512 .f32)
    (h1 : ∀ i, ∃ r : ℝ, x1 i = (r : EReal)) (h2 : ∀ i, ∃ r : ℝ, x2 i = (r : EReal)) (h3 : ∀ i, ∃ r : ℝ, x3 i = (r : EReal)) :
    Cert.PoolRefIdeal.Read.val_main_v135 (F := Ideal) x1 x2 x3 = DU (flat x3) x1 x2 := by
  funext j
  obtain ⟨a, b, rfl⟩ : ∃ (a : Fin 4096) (b : Fin 512), j = ix2 a b := ⟨j 0, j 1, eq_ix2 j⟩
  exact du_eq x3 x1 x2 h3 h1 h2 a b

/-- The mixing matrices' gradient, whole. -/
theorem gwp_all (x0 x3 : FVec Ideal S1x4096x512 .f32) (x2 : FVec Ideal S1x512 .f32) :
    Cert.PoolRefIdeal.Read.val_main_v81 (F := Ideal) x0 x2 x3 = GWP (flat x3) (pooled x0) x2 := by
  funext j
  obtain ⟨a, b, d, rfl⟩ : ∃ (a : Fin 4) (b d : Fin 128), j = ix3 a b d := ⟨j 0, j 1, j 2, eq_ix3 j⟩
  exact gwp_eq x0 x3 x2 a b d

/-- The scale's gradient, whole. -/
theorem gsc_all (x0 x3 : FVec Ideal S1x4096x512 .f32) (x1 : FVec Ideal S4x128x128 .f32) :
    Cert.PoolRefIdeal.Read.val_main_v133 (F := Ideal) x0 x1 x3 = GSC (flat x3) (pooled x0) x1 := by
  funext j
  obtain ⟨a, b, rfl⟩ : ∃ (a : Fin 1) (b : Fin 512), j = ix2 a b := ⟨j 0, j 1, eq_ix2 j⟩
  obtain rfl : a = 0 := Subsingleton.elim _ _
  exact gsc_eq x0 x3 x1 b

variable (m : (ℓ : Loc nD τ sig) → Buf (Elt Ideal) ℓ) (c : Dev nD)

/-- After all grid points, the first output is the `du` formula at the step's arguments. -/
theorem arr5 : (dats m 0 c).arrAt 5 cfg0.N = DU (flat (m ((c : Thread nD τ).loc main_arg3))) (m ((c : Thread nD τ).loc main_arg1)) (m ((c : Thread nD τ).loc main_arg2)) := by
  rw [final5, V61, V62, V_main_arg2]

/-- After all grid points, the second output is the weight-gradient formula at the step's arguments. -/
theorem arr6 : (dats m 0 c).arrAt 6 cfg0.N = GWP (flat (m ((c : Thread nD τ).loc main_arg3))) (pooled (m ((c : Thread nD τ).loc main_arg0))) (m ((c : Thread nD τ).loc main_arg2)) := by
  rw [final6, V61, V60, V_main_arg2]

/-- After all grid points, the third output is the scale-gradient formula at the step's arguments. -/
theorem arr7 : (dats m 0 c).arrAt 7 cfg0.N = GSC (flat (m ((c : Thread nD τ).loc main_arg3))) (pooled (m ((c : Thread nD τ).loc main_arg0))) (m ((c : Thread nD τ).loc main_arg1)) := by
  rw [final7, V61, V60, V62]

end Cert.PoolBody
-- ==== Proof.PoolPre.lean ====
module

public import proofs.«01_k».proof.Pre_finite_inputs
public import Idealize.ShloMosaic.Lib.ReduceAll
public import Idealize.ShloMosaic.Lib.Pointwise
public import Idealize.ShloMosaic.PureOps.Ideal

/- What the precondition says of the arguments: no entry is infinite. -/

set_option maxRecDepth 16384

@[expose] public section

noncomputable section

namespace Cert.PoolBody

open Idealize.ShloMosaic
open Cert.Pre_finite_inputs

/-- The shape relations the predicate takes. -/
theorem preFacts : Cert.Pre_finite_inputs.Facts where
  bcast_S_S4x128x128 := by decide
  reducesTo_S4x128x128_S_d0_1_2 := by decide
  h_S_ := by decide
  bcast_S_S1x512 := by decide
  reducesTo_S1x512_S_d0_1 := by decide
  bcast_S_S1x4096x512 := by decide
  reducesTo_S1x4096x512_S_d0_1_2 := by decide

/-- A number whose magnitude is below infinity is a real number. -/
theorem real_of_abs {s : Shape} (x : FVec Ideal s .f32) (hb) (i : s.Idx)
    (h : cmpf .olt (Host.absf x) (broadcastInDim s ![] hb (constant S_ .f32 0x7F800000#32)) i = 1#1) : ∃ r : ℝ, x i = (r : EReal) := by
  have hi : (Ideal.ofBits .f32 0x7F800000#32 : EReal) = ⊤ := by
    simp [Ideal.ofBits, Ideal.ieee, -EReal.coe_mul]
  change FloatOps.cmpf (F := Ideal) .olt (FloatOps.hostAbsf (x i)) (Ideal.ofBits .f32 0x7F800000#32) = 1#1 at h
  rw [hi] at h
  change Ideal.cmp .olt (max (x i) (-(x i))) ⊤ = 1#1 at h
  have hlt : max (x i) (-(x i)) < (⊤ : EReal) := by
    by_contra hn
    simp [Ideal.cmp, hn] at h
  generalize x i = y at hlt
  induction y using EReal.rec with
  | bot => exact absurd hlt (by simp)
  | coe r => exact ⟨r, rfl⟩
  | top => exact absurd hlt (by simp)

attribute [local instance] preFacts in
/-- Under the precondition the mixing matrices, the scales and the gradient coming in are real numbers. -/
theorem pre_real (x0 x3 : FVec Ideal S1x4096x512 .f32) (x1 : FVec Ideal S4x128x128 .f32) (x2 : FVec Ideal S1x512 .f32)
    (h : fn (F := Ideal) x0 x1 x2 x3 = fun _ => 1#1) :
    (∀ i, ∃ r : ℝ, x1 i = (r : EReal)) ∧ (∀ i, ∃ r : ℝ, x2 i = (r : EReal)) ∧ ∀ i, ∃ r : ℝ, x3 i = (r : EReal) := by
  have e : ∀ j : S_.Idx, IntOp.andi (IntOp.andi _ _) _ = 1#1 := fun j => congrFun h j
  obtain ⟨e', e3⟩ := IntOp.andi_eq_one.1 (e (Shape.Idx.first (by decide)))
  obtain ⟨e1, e2⟩ := IntOp.andi_eq_one.1 e'
  haveI : Subsingleton S_.Idx := ⟨fun a b => funext fun i => i.elim0⟩
  exact ⟨fun i => real_of_abs x1 _ i (Host.reduce_andi_all _ _ _ _ _ e1 i), fun i => real_of_abs x2 _ i (Host.reduce_andi_all _ _ _ _ _ e2 i),
    fun i => real_of_abs x3 _ i (Host.reduce_andi_all _ _ _ _ _ e3 i)⟩

end Cert.PoolBody
-- ==== Proof.FfnStep.lean ====
/- What the feed-forward backward body leaves at a grid point, in closed form over the point's input blocks. -/
module

public import proofs.«01_k».proof.Proof.Gen.FfnBwdIdeal.Frame
public import proofs.«01_k».proof.Proof.Gen.FfnBwdIdeal.Skeleton
public import Idealize.ShloMosaic.Lib.WritesUnit
public import Idealize.ShloMosaic.Lib.VecWindow
public import Idealize.ShloMosaic.Lib.WholeRead

@[expose] public section

set_option maxRecDepth 16384

noncomputable section

namespace Cert.FfnBody

open Cert.FfnBwdIdeal Cert.FfnBwdIdeal.Gen
open Idealize.ShloMosaic Idealize.ShloMosaic.TcCoe Idealize.ShloMosaic.Tactic
open Idealize.SL Idealize.SL.RA Idealize.SL.Sem

variable {F : FTy → Type} [FloatOps F]

/-- The lower 256 rows of a tile. -/
def lo {e : EltTy} (X : Vec F S512x1024 e) : Vec F S256x1024 e :=
  View.ld (Val := Elt F) X (Rect.unit (s := S512x1024) ![0, 0] S256x1024.size inb_S512x1024_S256x1024_0_0)
/-- The upper 256 rows of a tile. -/
def hi {e : EltTy} (X : Vec F S512x1024 e) : Vec F S256x1024 e :=
  View.ld (Val := Elt F) X (Rect.unit (s := S512x1024) ![256, 0] S256x1024.size inb_S512x1024_S256x1024_256_0)
/-- The lower 256 rows of a factor's tile. -/
def lo3 {e : EltTy} (X : Vec F S1x512x704 e) : Vec F S1x256x704 e :=
  View.ld (Val := Elt F) X (Rect.unit (s := S1x512x704) ![0, 0, 0] S1x256x704.size inb_S1x512x704_S1x256x704_0_0_0)
/-- The upper 256 rows of a factor's tile. -/
def hi3 {e : EltTy} (X : Vec F S1x512x704 e) : Vec F S1x256x704 e :=
  View.ld (Val := Elt F) X (Rect.unit (s := S1x512x704) ![0, 256, 0] S1x256x704.size inb_S1x512x704_S1x256x704_0_256_0)
/-- The 256 rows of the accumulator from row `o`. -/
def rows (S : Vec F S4096x1024 .f32) (o : ℕ) (ho : o + 256 ≤ 4096) : Vec F S256x1024 .f32 :=
  View.ld (Val := Elt F) S (Rect.unit (s := S4096x1024) ![o, 0] S256x1024.size (by
    intro a; match a with
    | ⟨0, _⟩ => exact ho
    | ⟨1, _⟩ => exact (by decide : 0 + 1024 ≤ 1024)))

/-- A tile from its two halves. -/
def join2 {e : EltTy} [∀ e, Nonempty (Elt F e)] (a b : Vec F S256x1024 e) : Vec F S512x1024 e :=
  View.canon (Val := Elt F) [⟨Rect.unit (s := S512x1024) ![256, 0] S256x1024.size inb_S512x1024_S256x1024_256_0, b⟩,
    ⟨Rect.unit (s := S512x1024) ![0, 0] S256x1024.size inb_S512x1024_S256x1024_0_0, a⟩]
/-- A factor's tile from its two halves. -/
def join3 {e : EltTy} [∀ e, Nonempty (Elt F e)] (a b : Vec F S1x256x704 e) : Vec F S1x512x704 e :=
  View.canon (Val := Elt F) [⟨Rect.unit (s := S1x512x704) ![0, 256, 0] S1x256x704.size inb_S1x512x704_S1x256x704_0_256_0, b⟩,
    ⟨Rect.unit (s := S1x512x704) ![0, 0, 0] S1x256x704.size inb_S1x512x704_S1x256x704_0_0_0, a⟩]

section chunk
variable (df : Vec F S512x1024 .bf16) (g u : Vec F S1x512x704 .bf16) (wg wu wd : Vec F S1x704x1024 .bf16)

/-- The gate gradient of the tile's lower half, -/
def dg0 : FVec F S256x704 .bf16 := k0_pay10 (lo df) wd (lo3 g) (lo3 u)
/-- and of its upper half. -/
def dg1 : FVec F S256x704 .bf16 := k0_pay10 (hi df) wd (hi3 g) (hi3 u)
/-- The up gradient of the tile's lower half, -/
def du0 : FVec F S256x704 .bf16 := k0_pay11 (lo df) wd (lo3 g)
/-- and of its upper half. -/
def du1 : FVec F S256x704 .bf16 := k0_pay11 (hi df) wd (hi3 g)

/-- The gate gradient's block. -/
def outDg [∀ e, Nonempty (Elt F e)] : Vec F S1x512x704 .bf16 := join3 (k0_pay13 (dg0 df g u wd)) (k0_pay13 (dg1 df g u wd))
/-- The up gradient's block. -/
def outDu [∀ e, Nonempty (Elt F e)] : Vec F S1x512x704 .bf16 := join3 (k0_pay13 (du0 df g wd)) (k0_pay13 (du1 df g wd))

/-- What the accumulator's lower chunk becomes from `o`: this shard's products alone where `v` is set, else added to `o`. -/
def acc0 (v : BitVec 1) (o : Vec F S256x1024 .f32) : FVec F S256x1024 .f32 := k0_pay14 v (dg0 df g u wd) (du0 df g wd) wg wu o
/-- What the accumulator's upper chunk becomes from `o`. -/
def acc1 (v : BitVec 1) (o : Vec F S256x1024 .f32) : FVec F S256x1024 .f32 := k0_pay14 v (dg1 df g u wd) (du1 df g wd) wg wu o

end chunk

section last
variable (dg du : FVec F S256x704 .bf16) (wg wu : Vec F S1x704x1024 .bf16) (o dy x mix : Vec F S256x1024 .f32) (g3 g2 : Vec F S1x1024 .f32)

/-- The chunk's input gradient. -/
def dxC : FVec F S256x1024 .f32 := k0_pay33 (k0_pay31 dg du wg wu o x g3) dy
/-- The chunk's gradient of the mixer's output. -/
def dmC : FVec F S256x1024 .bf16 := k0_pay41 (k0_pay38 (k0_pay31 dg du wg wu o x g3) dy mix g2)
/-- The feed-forward scale's gradient with the chunk's part added to `y`. -/
def g3C (y : Vec F S1x1024 .f32) : FVec F S1x1024 .f32 := k0_pay34 (k0_pay32 dg du wg wu o x) y
/-- The mixer scale's gradient with the chunk's part added to `y`. -/
def g2C (y : Vec F S1x1024 .f32) : FVec F S1x1024 .f32 := k0_pay40 (k0_pay39 (k0_pay31 dg du wg wu o x g3) dy mix) y

end last

/-! ## Loads -/

variable {κ : Kind} {sp : Space} {e : EltTy}

/-- A load of rectangle `r` of contents that read `X`. -/
theorem load_ld {s : Shape} {m : Memref sig κ sp s e} (h : m.IsWhole) (X : s.Idx → Elt F e) (r : Rect s) :
    View.readAt (Elt F) m.view r.toLoadRect (h.unread X) = View.ld X r :=
  congrArg (fun Y => View.ld (Val := Elt F) Y r) (h.read_unread X)

/-- A load of the whole of a weight shard. -/
theorem load_w {m : Memref sig κ sp S1x704x1024 e} (h : m.IsWhole) (X : S1x704x1024.Idx → Elt F e) :
    View.readAt (Elt F) m.view (Rect.unit (s := S1x704x1024) ![0, 0, 0] S1x704x1024.size inb_S1x704x1024_S1x704x1024_0_0_0).toLoadRect (h.unread X) = X := by
  rw [load_ld]; funext j; exact congrArg X (funext fun a => Fin.ext (by
    match a with
    | ⟨0, _⟩ => exact (Nat.zero_add _).trans (Nat.one_mul _)
    | ⟨1, _⟩ => exact (Nat.zero_add _).trans (Nat.one_mul _)
    | ⟨2, _⟩ => exact (Nat.zero_add _).trans (Nat.one_mul _)))

/-- A load of the whole of a scale row. -/
theorem ld_g (X : S1x1024.Idx → Elt F e) :
    View.ld (Val := Elt F) X (Rect.unit (s := S1x1024) ![0, 0] S1x1024.size inb_S1x1024_S1x1024_0_0) = X := by
  funext j; exact congrArg X (funext fun a => Fin.ext (by
    match a with
    | ⟨0, _⟩ => exact (Nat.zero_add _).trans (Nat.one_mul _)
    | ⟨1, _⟩ => exact (Nat.zero_add _).trans (Nat.one_mul _)))

/-- A load of the whole of a scale row from contents that read `X`. -/
theorem load_g {m : Memref sig κ sp S1x1024 e} (h : m.IsWhole) (X : S1x1024.Idx → Elt F e) :
    View.readAt (Elt F) m.view (Rect.unit (s := S1x1024) ![0, 0] S1x1024.size inb_S1x1024_S1x1024_0_0).toLoadRect (h.unread X) = X := by
  rw [load_ld, ld_g]

/-- What a store of a whole scale row leaves. -/
theorem read_put_g {m : Memref sig κ sp S1x1024 e} (f : m.view.ty.Contents (Elt F)) (w : S1x1024.Idx → Elt F e)
    (L : List (View.Piece (Elt F) S1x1024 e)) :
    m.view.read (Elt F) (m.view.writes (Elt F) f (⟨Rect.unit (s := S1x1024) ![0, 0] S1x1024.size inb_S1x1024_S1x1024_0_0, w⟩ :: L)) = w := by
  funext j
  exact View.read_writes_cons_unit_of_mem m.view f _ w L j j rfl fun a => by
    match a with
    | ⟨0, _⟩ => exact (Nat.zero_add _).symm
    | ⟨1, _⟩ => exact (Nat.zero_add _).symm

/-- The two halves cover a tile. -/
theorem cover2 (a b : Vec F S256x1024 e) (y : S512x1024.Idx) :
    ∃ p ∈ ([⟨Rect.unit (s := S512x1024) ![256, 0] S256x1024.size inb_S512x1024_S256x1024_256_0, b⟩,
      ⟨Rect.unit (s := S512x1024) ![0, 0] S256x1024.size inb_S512x1024_S256x1024_0_0, a⟩] : List (View.Piece (Elt F) S512x1024 e)), y ∈ p.1.set :=
  View.cover_of_tiledL (s := S512x1024) (Val := Elt F) (e := e) _ S256x1024.size (by sl_kernel_rfl) y
/-- The two halves cover a factor's tile. -/
theorem cover3 (a b : Vec F S1x256x704 e) (y : S1x512x704.Idx) :
    ∃ p ∈ ([⟨Rect.unit (s := S1x512x704) ![0, 256, 0] S1x256x704.size inb_S1x512x704_S1x256x704_0_256_0, b⟩,
      ⟨Rect.unit (s := S1x512x704) ![0, 0, 0] S1x256x704.size inb_S1x512x704_S1x256x704_0_0_0, a⟩] : List (View.Piece (Elt F) S1x512x704 e)), y ∈ p.1.set :=
  View.cover_of_tiledL (s := S1x512x704) (Val := Elt F) (e := e) _ S1x256x704.size (by sl_kernel_rfl) y

/-- What the stores of two halves leave. -/
theorem read_join2 [∀ e, Nonempty (Elt F e)] {m : Memref sig κ sp S512x1024 e} (f : m.view.ty.Contents (Elt F)) (a b : Vec F S256x1024 e) :
    m.view.read (Elt F) (m.view.writes (Elt F) f [⟨Rect.unit (s := S512x1024) ![256, 0] S256x1024.size inb_S512x1024_S256x1024_256_0, b⟩,
      ⟨Rect.unit (s := S512x1024) ![0, 0] S256x1024.size inb_S512x1024_S256x1024_0_0, a⟩]) = join2 a b :=
  View.read_writes_eq_canon _ _ _ (cover2 a b)
/-- What the stores of two halves of a factor's tile leave. -/
theorem read_join3 [∀ e, Nonempty (Elt F e)] {m : Memref sig κ sp S1x512x704 e} (f : m.view.ty.Contents (Elt F)) (a b : Vec F S1x256x704 e) :
    m.view.read (Elt F) (m.view.writes (Elt F) f [⟨Rect.unit (s := S1x512x704) ![0, 256, 0] S1x256x704.size inb_S1x512x704_S1x256x704_0_256_0, b⟩,
      ⟨Rect.unit (s := S1x512x704) ![0, 0, 0] S1x256x704.size inb_S1x512x704_S1x256x704_0_0_0, a⟩]) = join3 a b :=
  View.read_writes_eq_canon _ _ _ (cover3 a b)

/-- The 256 rows from `o` lie in the accumulator. -/
theorem inbR {off : Fin 2 → ℕ} (o : ℕ) (ho : o + 256 ≤ 4096) (hoff : off = ![o, 0]) (a : Fin S4096x1024.rank) :
    off a + S256x1024.size a ≤ S4096x1024.size a := by
  subst hoff
  match a with
  | ⟨0, _⟩ => exact ho
  | ⟨1, _⟩ => exact (by decide : 0 + 1024 ≤ 1024)

/-- A load of 256 rows of the accumulator at the offset the point computes. -/
theorem load_rows {m : Memref sig κ sp S4096x1024 .f32} (h : m.IsWhole) (S : Vec F S4096x1024 .f32) {off : Fin 2 → ℕ} (o : ℕ)
    (ho : o + 256 ≤ 4096) (hoff : off = ![o, 0]) (inb : ∀ a, off a + S256x1024.size a ≤ S4096x1024.size a) :
    View.readAt (Elt F) m.view (Rect.unit (s := S4096x1024) off S256x1024.size inb).toLoadRect (h.unread S) = rows S o ho := by
  subst hoff; exact load_ld h S _

/-- The accumulator after the two chunk stores: the lower chunk, -/
theorem rows_put0 {m : Memref sig κ sp S4096x1024 .f32} (f : m.view.ty.Contents (Elt F)) {off0 off1 : Fin 2 → ℕ} (o : ℕ)
    (ho : o + 256 ≤ 4096) (h0 : off0 = ![o, 0]) (h1 : off1 = ![o + 256, 0]) (inb0 : ∀ a, off0 a + S256x1024.size a ≤ S4096x1024.size a)
    (inb1 : ∀ a, off1 a + S256x1024.size a ≤ S4096x1024.size a) (w0 w1 : Vec F S256x1024 .f32) :
    rows (m.view.read (Elt F) (m.view.writes (Elt F) f [⟨Rect.unit (s := S4096x1024) off1 S256x1024.size inb1, w1⟩,
      ⟨Rect.unit (s := S4096x1024) off0 S256x1024.size inb0, w0⟩])) o ho = w0 := by
  funext x
  have hx : (x 0).val < 256 := (x 0).isLt
  refine (View.read_writes_cons_rows_of_not_mem m.view f (o := o + 256) (W := 256) inb1 w1 _ _ h1 rfl (.inl ?_)).trans
    (View.read_writes_cons_rows_of_mem m.view f (o := o) inb0 w0 [] _ x h0 ?_ ?_)
  · show o + 1 * (x 0).val < o + 256; omega
  · show o + 1 * (x 0).val = o + (x 0).val; omega
  · show 0 + 1 * (x 1).val = (x 1).val; omega

/-- the upper chunk, -/
theorem rows_put1 {m : Memref sig κ sp S4096x1024 .f32} (f : m.view.ty.Contents (Elt F)) {off1 : Fin 2 → ℕ} (o : ℕ)
    (ho : o + 256 + 256 ≤ 4096) (h1 : off1 = ![o + 256, 0])
    (inb1 : ∀ a, off1 a + S256x1024.size a ≤ S4096x1024.size a) (w1 : Vec F S256x1024 .f32) (L : List (View.Piece (Elt F) S4096x1024 .f32)) :
    rows (m.view.read (Elt F) (m.view.writes (Elt F) f (⟨Rect.unit (s := S4096x1024) off1 S256x1024.size inb1, w1⟩ :: L))) (o + 256) ho = w1 := by
  funext x
  refine View.read_writes_cons_rows_of_mem m.view f (o := o + 256) inb1 w1 L _ x h1 ?_ ?_
  · show o + 256 + 1 * (x 0).val = o + 256 + (x 0).val; omega
  · show 0 + 1 * (x 1).val = (x 1).val; omega

/-- and any other rows, as they were. -/
theorem rows_put_off {m : Memref sig κ sp S4096x1024 .f32} (h : m.IsWhole) (S : Vec F S4096x1024 .f32) {off0 off1 : Fin 2 → ℕ} (o p : ℕ)
    (hp : p + 256 ≤ 4096) (h0 : off0 = ![o, 0]) (h1 : off1 = ![o + 256, 0]) (inb0 : ∀ a, off0 a + S256x1024.size a ≤ S4096x1024.size a)
    (inb1 : ∀ a, off1 a + S256x1024.size a ≤ S4096x1024.size a) (w0 w1 : Vec F S256x1024 .f32) (hop : p + 256 ≤ o ∨ o + 512 ≤ p) :
    rows (m.view.read (Elt F) (m.view.writes (Elt F) (h.unread S) [⟨Rect.unit (s := S4096x1024) off1 S256x1024.size inb1, w1⟩,
      ⟨Rect.unit (s := S4096x1024) off0 S256x1024.size inb0, w0⟩])) p hp = rows S p hp := by
  funext x
  have hx : (x 0).val < 256 := (x 0).isLt
  refine (View.read_writes_cons_rows_of_not_mem m.view _ (o := o + 256) (W := 256) inb1 w1 _ _ h1 rfl ?_).trans
    ((View.read_writes_cons_rows_of_not_mem m.view _ (o := o) (W := 256) inb0 w0 [] _ h0 rfl ?_).trans (congrFun (h.read_unread S) _))
  · show p + 1 * (x 0).val < o + 256 ∨ o + 256 + 256 ≤ p + 1 * (x 0).val; omega
  · show p + 1 * (x 0).val < o ∨ o + 256 ≤ p + 1 * (x 0).val; omega

/-- A load of the upper chunk's rows after the lower chunk's store reads what they were. -/
theorem load_rows_after {m : Memref sig κ sp S4096x1024 .f32} (h : m.IsWhole) (S : Vec F S4096x1024 .f32) {off0 off1 : Fin 2 → ℕ} (o : ℕ)
    (ho : o + 256 + 256 ≤ 4096) (h0 : off0 = ![o, 0]) (h1 : off1 = ![o + 256, 0]) (inb0 : ∀ a, off0 a + S256x1024.size a ≤ S4096x1024.size a)
    (inb1 : ∀ a, off1 a + S256x1024.size a ≤ S4096x1024.size a) (w0 : Vec F S256x1024 .f32) :
    View.readAt (Elt F) m.view (Rect.unit (s := S4096x1024) off1 S256x1024.size inb1).toLoadRect
      (m.view.writes (Elt F) (h.unread S) [⟨Rect.unit (s := S4096x1024) off0 S256x1024.size inb0, w0⟩]) = rows S (o + 256) ho := by
  subst h1
  funext x
  refine (View.read_writes_cons_rows_of_not_mem m.view _ (o := o) (W := 256) inb0 w0 [] _ h0 rfl ?_).trans (congrFun (h.read_unread S) _)
  show o + 256 + 1 * (x 0).val < o ∨ o + 256 ≤ o + 256 + 1 * (x 0).val; omega

end Cert.FfnBody

end
-- ==== Proof.FfnChunk.lean ====
module

public import proofs.«01_k».proof.Proof.FfnStep
public import Idealize.ShloMosaic.Lib.Pointwise
public import Idealize.ShloMosaic.PureOps.Ideal

/- What one chunk of the feed-forward gradient computes, read at an index. -/

set_option maxRecDepth 16384

@[expose] public section

noncomputable section

namespace Cert.FfnBody

open Idealize.ShloMosaic Idealize.ShloMosaic.TcCoe Idealize.SL.Sem
open Cert.FfnBwdIdeal Cert.FfnBwdIdeal.Gen

theorem lo_apply {e : EltTy} (X : Vec Ideal S512x1024 e) (r : Fin 256) (q : Fin 1024) : lo X (ix2 r q) = X (ix2 ⟨r.val, by omega⟩ q) :=
  congrArg X (funext fun a => Fin.ext (by
    match a with
    | ⟨0, _⟩ => exact (Nat.zero_add _).trans (Nat.one_mul _)
    | ⟨1, _⟩ => exact (Nat.zero_add _).trans (Nat.one_mul _)))
theorem hi_apply {e : EltTy} (X : Vec Ideal S512x1024 e) (r : Fin 256) (q : Fin 1024) : hi X (ix2 r q) = X (ix2 ⟨256 + r.val, by omega⟩ q) :=
  congrArg X (funext fun a => Fin.ext (by
    match a with
    | ⟨0, _⟩ => exact congrArg (256 + ·) (Nat.one_mul _)
    | ⟨1, _⟩ => exact (Nat.zero_add _).trans (Nat.one_mul _)))
theorem lo3_apply {e : EltTy} (X : Vec Ideal S1x512x704 e) (r : Fin 256) (q : Fin 704) : lo3 X (ix3 0 r q) = X (ix3 0 ⟨r.val, by omega⟩ q) :=
  congrArg X (funext fun a => Fin.ext (by
    match a with
    | ⟨0, _⟩ => exact (Nat.zero_add _).trans (Nat.one_mul _)
    | ⟨1, _⟩ => exact (Nat.zero_add _).trans (Nat.one_mul _)
    | ⟨2, _⟩ => exact (Nat.zero_add _).trans (Nat.one_mul _)))
theorem hi3_apply {e : EltTy} (X : Vec Ideal S1x512x704 e) (r : Fin 256) (q : Fin 704) : hi3 X (ix3 0 r q) = X (ix3 0 ⟨256 + r.val, by omega⟩ q) :=
  congrArg X (funext fun a => Fin.ext (by
    match a with
    | ⟨0, _⟩ => exact (Nat.zero_add _).trans (Nat.one_mul _)
    | ⟨1, _⟩ => exact congrArg (256 + ·) (Nat.one_mul _)
    | ⟨2, _⟩ => exact (Nat.zero_add _).trans (Nat.one_mul _)))

/-! ## One row's formulas -/

/-- The constants of the row mean and of the root. -/
def cD : EReal := Ideal.ofBits FTy.f32 1149239296#32
def cE : EReal := Ideal.ofBits FTy.f32 897988541#32

/-- The gradient of the inner product's gate factor at one entry. -/
def dgE (df wd : Fin 1024 → EReal) (g u : EReal) : EReal :=
  (∑ x, df x * wd x) * u * (Ideal.logistic g * (1 + g * (1 - Ideal.logistic g)))
/-- The gradient of the inner product's up factor at one entry. -/
def duE (df wd : Fin 1024 → EReal) (g : EReal) : EReal := (∑ x, df x * wd x) * (g * Ideal.logistic g)
/-- A shard's part of the gradient at one entry of the normed rows. -/
def conE (dg du wg wu : Fin 704 → EReal) : EReal := ∑ x, dg x * wg x + ∑ x, du x * wu x
/-- A row's root of the mean square, inverted. -/
def rE (x : Fin 1024 → EReal) : EReal := Ideal.rsqrt (Ideal.div (∑ q, x q * x q) cD + cE)
/-- A row normed. -/
def nE (x : Fin 1024 → EReal) (k : Fin 1024) : EReal := x k * rE x
/-- The gradient at a row from the gradient at the row normed and scaled. -/
def bwdE (dh g x : Fin 1024 → EReal) (k : Fin 1024) : EReal :=
  rE x * (dh k * g k - nE x k * Ideal.div (∑ q, dh q * g q * nE x q) cD)

/-! ## The chunk's operations at an index -/

theorem pay10_apply (df : Vec Ideal S256x1024 .bf16) (wd : Vec Ideal S1x704x1024 .bf16) (g u : Vec Ideal S1x256x704 .bf16) (r : Fin 256) (f : Fin 704) :
    k0_pay10 df wd g u (ix2 r f) = dgE (fun q => df (ix2 r q)) (fun q => wd (ix3 0 f q)) (g (ix3 0 r f)) (u (ix3 0 r f)) := by
  unfold k0_pay10 k0_pay9 k0_pay8 k0_pay6 dgE
  pointwise

theorem pay11_apply (df : Vec Ideal S256x1024 .bf16) (wd : Vec Ideal S1x704x1024 .bf16) (g : Vec Ideal S1x256x704 .bf16) (r : Fin 256) (f : Fin 704) :
    k0_pay11 df wd g (ix2 r f) = duE (fun q => df (ix2 r q)) (fun q => wd (ix3 0 f q)) (g (ix3 0 r f)) := by
  unfold k0_pay11 k0_pay9 k0_pay8 k0_pay6 duE
  pointwise

theorem pay13_apply (d : FVec Ideal S256x704 .bf16) (r : Fin 256) (f : Fin 704) : k0_pay13 d (ix3 0 r f) = d (ix2 r f) := by
  unfold k0_pay13
  pointwise

theorem pay14_apply (v : BitVec 1) (dg du : FVec Ideal S256x704 .bf16) (wg wu : Vec Ideal S1x704x1024 .bf16) (o : Vec Ideal S256x1024 .f32) (r : Fin 256) (k : Fin 1024) :
    k0_pay14 v dg du wg wu o (ix2 r k) = Scalar.select v
      (conE (fun f => dg (ix2 r f)) (fun f => du (ix2 r f)) (fun f => wg (ix3 0 f k)) (fun f => wu (ix3 0 f k)))
      (o (ix2 r k) + conE (fun f => dg (ix2 r f)) (fun f => du (ix2 r f)) (fun f => wg (ix3 0 f k)) (fun f => wu (ix3 0 f k))) := by
  unfold k0_pay14 conE
  pointwise

/-- The gradient at the normed rows, complete. -/
def dhC (dg du : FVec Ideal S256x704 .bf16) (wg wu : Vec Ideal S1x704x1024 .bf16) (o : Vec Ideal S256x1024 .f32) (r : Fin 256) (k : Fin 1024) : EReal :=
  o (ix2 r k) + conE (fun f => dg (ix2 r f)) (fun f => du (ix2 r f)) (fun f => wg (ix3 0 f k)) (fun f => wu (ix3 0 f k))

theorem pay27_apply (dg du : FVec Ideal S256x704 .bf16) (wg wu : Vec Ideal S1x704x1024 .bf16) (o : Vec Ideal S256x1024 .f32) (r : Fin 256) (k : Fin 1024) :
    k0_pay27 dg du wg wu o (ix2 r k) = dhC dg du wg wu o r k := by
  unfold k0_pay27 dhC conE
  pointwise

theorem pay29_apply (x : Vec Ideal S256x1024 .f32) (r : Fin 256) : k0_pay29 x (ix2 r 0) = rE fun q => x (ix2 r q) := by
  unfold k0_pay29 k0_pay28 rE cD cE
  pointwise
theorem pay30_apply (x : Vec Ideal S256x1024 .f32) (r : Fin 256) (k : Fin 1024) : k0_pay30 x (ix2 r k) = nE (fun q => x (ix2 r q)) k := by
  unfold k0_pay30 k0_pay29 k0_pay28 nE rE cD cE
  pointwise
theorem pay36_apply (x : Vec Ideal S256x1024 .f32) (r : Fin 256) : k0_pay36 x (ix2 r 0) = rE fun q => x (ix2 r q) := by
  unfold k0_pay36 k0_pay35 rE cD cE
  pointwise
theorem pay37_apply (x : Vec Ideal S256x1024 .f32) (r : Fin 256) (k : Fin 1024) : k0_pay37 x (ix2 r k) = nE (fun q => x (ix2 r q)) k := by
  unfold k0_pay37 k0_pay36 k0_pay35 nE rE cD cE
  pointwise

theorem pay31_apply (dg du : FVec Ideal S256x704 .bf16) (wg wu : Vec Ideal S1x704x1024 .bf16) (o x : Vec Ideal S256x1024 .f32) (g3 : Vec Ideal S1x1024 .f32) (r : Fin 256) (k : Fin 1024) :
    k0_pay31 dg du wg wu o x g3 (ix2 r k) = bwdE (dhC dg du wg wu o r) (fun q => g3 (ix2 0 q)) (fun q => x (ix2 r q)) k := by
  unfold k0_pay31 bwdE
  pointwise
  simp only [pay27_apply, pay29_apply, pay30_apply]
  rfl

theorem pay33_apply (a : FVec Ideal S256x1024 .f32) (dy : Vec Ideal S256x1024 .f32) (r : Fin 256) (k : Fin 1024) :
    k0_pay33 a dy (ix2 r k) = dy (ix2 r k) + a (ix2 r k) := by
  unfold k0_pay33
  pointwise

theorem pay38_apply (a : FVec Ideal S256x1024 .f32) (dy mix : Vec Ideal S256x1024 .f32) (g2 : Vec Ideal S1x1024 .f32) (r : Fin 256) (k : Fin 1024) :
    k0_pay38 a dy mix g2 (ix2 r k) = bwdE (fun q => dy (ix2 r q) + a (ix2 r q)) (fun q => g2 (ix2 0 q)) (fun q => mix (ix2 r q)) k := by
  unfold k0_pay38 bwdE
  pointwise
  simp only [pay33_apply, pay36_apply, pay37_apply]
  rfl

/-! ## The chunk's results at an index -/

section last
variable (dg du : FVec Ideal S256x704 .bf16) (wg wu : Vec Ideal S1x704x1024 .bf16) (o dy x mix : Vec Ideal S256x1024 .f32) (g3 g2 y : Vec Ideal S1x1024 .f32)
  (r : Fin 256) (k : Fin 1024)

theorem dxC_apply : dxC dg du wg wu o dy x g3 (ix2 r k)
    = dy (ix2 r k) + bwdE (dhC dg du wg wu o r) (fun q => g3 (ix2 0 q)) (fun q => x (ix2 r q)) k := by
  unfold dxC
  rw [pay33_apply, pay31_apply]

theorem dmC_apply : dmC dg du wg wu o dy x mix g3 g2 (ix2 r k)
    = bwdE (fun q => dy (ix2 r q) + bwdE (dhC dg du wg wu o r) (fun q => g3 (ix2 0 q)) (fun q => x (ix2 r q)) q)
        (fun q => g2 (ix2 0 q)) (fun q => mix (ix2 r q)) k := by
  unfold dmC
  have h : ∀ a : FVec Ideal S256x1024 .f32, k0_pay41 a (ix2 r k) = a (ix2 r k) := fun a => by unfold k0_pay41; pointwise
  rw [h, pay38_apply]
  simp only [pay31_apply]

theorem g3C_apply : g3C dg du wg wu o x y (ix2 0 k) = y (ix2 0 k) + ∑ r : Fin 256, dhC dg du wg wu o r k * nE (fun q => x (ix2 r q)) k := by
  unfold g3C k0_pay34 k0_pay32
  pointwise
  simp only [pay27_apply, pay30_apply]

theorem g2C_apply : g2C dg du wg wu o dy x mix g3 y (ix2 0 k) = y (ix2 0 k)
    + ∑ r : Fin 256, (dy (ix2 r k) + bwdE (dhC dg du wg wu o r) (fun q => g3 (ix2 0 q)) (fun q => x (ix2 r q)) k) * nE (fun q => mix (ix2 r q)) k := by
  unfold g2C k0_pay40 k0_pay39
  pointwise
  simp only [pay33_apply, pay31_apply, pay37_apply]

end last

/-! ## The tile's halves together -/

theorem join2_apply {e : EltTy} (a b : Vec Ideal S256x1024 e) (r : Fin 512) (q : Fin 1024) :
    join2 a b (ix2 r q) = if h : r.val < 256 then a (ix2 ⟨r.val, h⟩ q) else b (ix2 ⟨r.val - 256, by omega⟩ q) := by
  unfold join2
  by_cases h : r.val < 256
  · have e0 : (ix2 r q : S512x1024.Idx) = (Rect.unit (s := S512x1024) ![0, 0] S256x1024.size inb_S512x1024_S256x1024_0_0).emb (ix2 ⟨r.val, h⟩ q : S256x1024.Idx) := by
      funext x
      apply Fin.ext
      match x with
      | ⟨0, _⟩ => exact ((Nat.zero_add _).trans (Nat.one_mul _)).symm
      | ⟨1, _⟩ => exact ((Nat.zero_add _).trans (Nat.one_mul _)).symm
    have hm : (ix2 r q : S512x1024.Idx) ∉ (Rect.unit (s := S512x1024) ![256, 0] S256x1024.size inb_S512x1024_S256x1024_256_0).set := by
      intro hm
      have h1 := (Rect.mem_set_unit.1 hm 0).1
      change 256 ≤ r.val at h1
      omega
    rw [dif_pos h]
    refine (View.canon_cons_of_not_mem (Val := Elt Ideal) ⟨Rect.unit (s := S512x1024) ![256, 0] S256x1024.size inb_S512x1024_S256x1024_256_0, b⟩ [⟨Rect.unit (s := S512x1024) ![0, 0] S256x1024.size inb_S512x1024_S256x1024_0_0, a⟩] hm).trans ?_
    rw [e0]
    exact View.canon_cons_emb (Val := Elt Ideal) (Rect.unit (s := S512x1024) ![0, 0] S256x1024.size inb_S512x1024_S256x1024_0_0) a [] (ix2 ⟨r.val, h⟩ q : S256x1024.Idx)
  · have e1 : (ix2 r q : S512x1024.Idx) = (Rect.unit (s := S512x1024) ![256, 0] S256x1024.size inb_S512x1024_S256x1024_256_0).emb (ix2 ⟨r.val - 256, by omega⟩ q : S256x1024.Idx) := by
      funext x
      apply Fin.ext
      match x with
      | ⟨0, _⟩ => change r.val = 256 + 1 * (r.val - 256); omega
      | ⟨1, _⟩ => exact ((Nat.zero_add _).trans (Nat.one_mul _)).symm
    rw [dif_neg h, e1]
    exact View.canon_cons_emb (Val := Elt Ideal) (Rect.unit (s := S512x1024) ![256, 0] S256x1024.size inb_S512x1024_S256x1024_256_0) b _ (ix2 ⟨r.val - 256, by omega⟩ q : S256x1024.Idx)

theorem join3_apply {e : EltTy} (a b : Vec Ideal S1x256x704 e) (r : Fin 512) (q : Fin 704) :
    join3 a b (ix3 0 r q) = if h : r.val < 256 then a (ix3 0 ⟨r.val, h⟩ q) else b (ix3 0 ⟨r.val - 256, by omega⟩ q) := by
  unfold join3
  by_cases h : r.val < 256
  · have e0 : (ix3 0 r q : S1x512x704.Idx) = (Rect.unit (s := S1x512x704) ![0, 0, 0] S1x256x704.size inb_S1x512x704_S1x256x704_0_0_0).emb (ix3 0 ⟨r.val, h⟩ q : S1x256x704.Idx) := by
      funext x
      apply Fin.ext
      match x with
      | ⟨0, _⟩ => exact ((Nat.zero_add _).trans (Nat.one_mul _)).symm
      | ⟨1, _⟩ => exact ((Nat.zero_add _).trans (Nat.one_mul _)).symm
      | ⟨2, _⟩ => exact ((Nat.zero_add _).trans (Nat.one_mul _)).symm
    have hm : (ix3 0 r q : S1x512x704.Idx) ∉ (Rect.unit (s := S1x512x704) ![0, 256, 0] S1x256x704.size inb_S1x512x704_S1x256x704_0_256_0).set := by
      intro hm
      have h1 := (Rect.mem_set_unit.1 hm 1).1
      change 256 ≤ r.val at h1
      omega
    rw [dif_pos h]
    refine (View.canon_cons_of_not_mem (Val := Elt Ideal) ⟨Rect.unit (s := S1x512x704) ![0, 256, 0] S1x256x704.size inb_S1x512x704_S1x256x704_0_256_0, b⟩ [⟨Rect.unit (s := S1x512x704) ![0, 0, 0] S1x256x704.size inb_S1x512x704_S1x256x704_0_0_0, a⟩] hm).trans ?_
    rw [e0]
    exact View.canon_cons_emb (Val := Elt Ideal) (Rect.unit (s := S1x512x704) ![0, 0, 0] S1x256x704.size inb_S1x512x704_S1x256x704_0_0_0) a [] (ix3 0 ⟨r.val, h⟩ q : S1x256x704.Idx)
  · have e1 : (ix3 0 r q : S1x512x704.Idx) = (Rect.unit (s := S1x512x704) ![0, 256, 0] S1x256x704.size inb_S1x512x704_S1x256x704_0_256_0).emb (ix3 0 ⟨r.val - 256, by omega⟩ q : S1x256x704.Idx) := by
      funext x
      apply Fin.ext
      match x with
      | ⟨0, _⟩ => exact ((Nat.zero_add _).trans (Nat.one_mul _)).symm
      | ⟨1, _⟩ => change r.val = 256 + 1 * (r.val - 256); omega
      | ⟨2, _⟩ => exact ((Nat.zero_add _).trans (Nat.one_mul _)).symm
    rw [dif_neg h, e1]
    exact View.canon_cons_emb (Val := Elt Ideal) (Rect.unit (s := S1x512x704) ![0, 256, 0] S1x256x704.size inb_S1x512x704_S1x256x704_0_256_0) b _ (ix3 0 ⟨r.val - 256, by omega⟩ q : S1x256x704.Idx)

end Cert.FfnBody

end
-- ==== Proof.FfnRunA.lean ====
/- One run of the feed-forward backward body at the first grid point. -/
module

public import proofs.«01_k».proof.Proof.Gen.FfnBwdIdeal.Frame
public import proofs.«01_k».proof.Proof.Gen.FfnBwdIdeal.Skeleton

@[expose] public section

set_option maxRecDepth 16384

noncomputable section

namespace Cert.FfnBody

open Cert.FfnBwdIdeal Cert.FfnBwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- At the first point the body also zeroes the two scale gradients; it writes its tile of the two factor gradients and adds
    its products to the accumulator's two row chunks; the pieces are what the run finds. -/
def runA (c : Dev nD) (i : grid0.Coords) (arg2 : Memref sig .tc .vmem S512x1024 .bf16) (harg2 : arg2.IsWhole) (arg3 : Memref sig .tc .vmem S1x512x704 .bf16) (harg3 : arg3.IsWhole) (arg4 : Memref sig .tc .vmem S1x512x704 .bf16) (harg4 : arg4.IsWhole) (arg5 : Memref sig .tc .vmem S1x704x1024 .bf16) (harg5 : arg5.IsWhole) (arg6 : Memref sig .tc .vmem S1x704x1024 .bf16) (harg6 : arg6.IsWhole) (arg7 : Memref sig .tc .vmem S1x704x1024 .bf16) (harg7 : arg7.IsWhole) (arg8 : Memref sig .tc .vmem S512x1024 .f32) (harg8 : arg8.IsWhole) (arg9 : Memref sig .tc .vmem S512x1024 .f32) (harg9 : arg9.IsWhole) (arg10 : Memref sig .tc .vmem S512x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x512x704 .bf16) (harg13 : arg13.IsWhole) (arg14 : Memref sig .tc .vmem S1x512x704 .bf16) (harg14 : arg14.IsWhole) (arg15 : Memref sig .tc .vmem S512x1024 .f32) (harg15 : arg15.IsWhole) (arg16 : Memref sig .tc .vmem S512x1024 .bf16) (harg16 : arg16.IsWhole) (arg17 : Memref sig .tc .vmem S1x1024 .f32) (harg17 : arg17.IsWhole) (arg18 : Memref sig .tc .vmem S1x1024 .f32) (harg18 : arg18.IsWhole) (arg19 : Memref sig .tc .vmem S4096x1024 .f32) (harg19 : arg19.IsWhole)
    (hc1 : k0_cond1 i = 1#1) (hc2 : k0_cond2 i = 1#1) (hc3 : ¬k0_cond3 i = 1#1)
    (x0 : Vec F S512x1024 .bf16) (x1 x2 : Vec F S1x512x704 .bf16) (x3 x4 x5 : Vec F S1x704x1024 .bf16) (S : Vec F S4096x1024 .f32) :
    Σ' (L11 : List (View.Piece (Elt F) S1x512x704 .bf16)) (L12 : List (View.Piece (Elt F) S1x512x704 .bf16)) (L15 L16 : List (View.Piece (Elt F) S1x1024 .f32)), { L : List (View.Piece (Elt F) S4096x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
            ∗ (∃ d, owns (c : Thread nD τ) arg13 fullShare d) ∗ (∃ d, owns (c : Thread nD τ) arg14 fullShare d) ∗ (∃ d, owns (c : Thread nD τ) arg17 fullShare d) ∗ (∃ d, owns (c : Thread nD τ) arg18 fullShare d) ∗ owns (c : Thread nD τ) arg19 fullShare S
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
              ∗ (∃ f, arg13.view.loc (c : Thread nD τ) ↦[arg13.view.set]{fullShare} arg13.view.writes (Elt F) f L11) ∗ (∃ f, arg14.view.loc (c : Thread nD τ) ↦[arg14.view.set]{fullShare} arg14.view.writes (Elt F) f L12)
              ∗ (∃ f, arg17.view.loc (c : Thread nD τ) ↦[arg17.view.set]{fullShare} arg17.view.writes (Elt F) f L15) ∗ (∃ f, arg18.view.loc (c : Thread nD τ) ↦[arg18.view.set]{fullShare} arg18.view.writes (Elt F) f L16)
              ∗ arg19.view.loc (c : Thread nD τ) ↦[arg19.view.set]{fullShare} arg19.view.writes (Elt F) (harg19.unread S) L) -∗ K ⟨⟩))
          ⊢ wp frame (wpE (defs₀ (F := F)) Variants.none c none) E (cc0_ffn_bwd_act i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨?_, ?_, ?_, ?_, ?_, fun E K => ?run⟩
  case run =>
    simp only [cc0_ffn_bwd_act_eq_skeleton]; unfold cc0_ffn_bwd_act_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d11, %f11, -, H11⟩, ⟨%d12, %f12, -, H12⟩, ⟨%d15, %f15, -, H15⟩, ⟨%d16, %f16, -, H16⟩, ⟨%f19, %hf19, H19⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg19.eq_unread hf19
    sl_exec (disch := first | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H11]; · iexists _; iexact H11
    isplitl [H12]; · iexists _; iexact H12
    isplitl [H15]; · iexists _; iexact H15
    isplitl [H16]; · iexists _; iexact H16
    iexact H19

end Cert.FfnBody

end
-- ==== Proof.FfnEqA.lean ====
/- What the pieces of the run leave, in closed form. -/
module

public import proofs.«01_k».proof.Proof.FfnStep
public import proofs.«01_k».proof.Proof.FfnRunA

@[expose] public section

set_option maxRecDepth 16384

noncomputable section

namespace Cert.FfnBody

open Cert.FfnBwdIdeal Cert.FfnBwdIdeal.Gen
open Idealize.ShloMosaic Idealize.ShloMosaic.TcCoe Idealize.ShloMosaic.Tactic
open Idealize.SL Idealize.SL.RA Idealize.SL.Sem

variable {F : FTy → Type} [FloatOps F]

/-- The gate gradient's block after the run. -/
theorem A11 (c : Dev nD) (i : grid0.Coords) (arg2 : Memref sig .tc .vmem S512x1024 .bf16) (harg2 : arg2.IsWhole) (arg3 : Memref sig .tc .vmem S1x512x704 .bf16) (harg3 : arg3.IsWhole) (arg4 : Memref sig .tc .vmem S1x512x704 .bf16) (harg4 : arg4.IsWhole) (arg5 : Memref sig .tc .vmem S1x704x1024 .bf16) (harg5 : arg5.IsWhole) (arg6 : Memref sig .tc .vmem S1x704x1024 .bf16) (harg6 : arg6.IsWhole) (arg7 : Memref sig .tc .vmem S1x704x1024 .bf16) (harg7 : arg7.IsWhole) (arg8 : Memref sig .tc .vmem S512x1024 .f32) (harg8 : arg8.IsWhole) (arg9 : Memref sig .tc .vmem S512x1024 .f32) (harg9 : arg9.IsWhole) (arg10 : Memref sig .tc .vmem S512x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x512x704 .bf16) (harg13 : arg13.IsWhole) (arg14 : Memref sig .tc .vmem S1x512x704 .bf16) (harg14 : arg14.IsWhole) (arg15 : Memref sig .tc .vmem S512x1024 .f32) (harg15 : arg15.IsWhole) (arg16 : Memref sig .tc .vmem S512x1024 .bf16) (harg16 : arg16.IsWhole) (arg17 : Memref sig .tc .vmem S1x1024 .f32) (harg17 : arg17.IsWhole) (arg18 : Memref sig .tc .vmem S1x1024 .f32) (harg18 : arg18.IsWhole) (arg19 : Memref sig .tc .vmem S4096x1024 .f32) (harg19 : arg19.IsWhole)
    (hc1 : k0_cond1 i = 1#1) (hc2 : k0_cond2 i = 1#1) (hc3 : ¬k0_cond3 i = 1#1)
    (x0 : Vec F S512x1024 .bf16) (x1 x2 : Vec F S1x512x704 .bf16) (x3 x4 x5 : Vec F S1x704x1024 .bf16) (S : Vec F S4096x1024 .f32) (f : arg13.view.ty.Contents (Elt F)) :
    arg13.view.read (Elt F) (arg13.view.writes (Elt F) f (runA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc1 hc2 hc3 x0 x1 x2 x3 x4 x5 S).1) = outDg x0 x1 x2 x5 :=
  (read_join3 f _ _).trans ((show _ = outDg (arg2.view.read (Elt F) (harg2.unread x0)) (arg3.view.read (Elt F) (harg3.unread x1)) (arg4.view.read (Elt F) (harg4.unread x2)) (View.readAt (Elt F) arg7.view (Rect.unit (s := S1x704x1024) ![0, 0, 0] S1x704x1024.size inb_S1x704x1024_S1x704x1024_0_0_0).toLoadRect (harg7.unread x5)) from rfl).trans
    (by rw [harg2.read_unread, harg3.read_unread, harg4.read_unread, load_w]))

/-- The up gradient's block after the run. -/
theorem A12 (c : Dev nD) (i : grid0.Coords) (arg2 : Memref sig .tc .vmem S512x1024 .bf16) (harg2 : arg2.IsWhole) (arg3 : Memref sig .tc .vmem S1x512x704 .bf16) (harg3 : arg3.IsWhole) (arg4 : Memref sig .tc .vmem S1x512x704 .bf16) (harg4 : arg4.IsWhole) (arg5 : Memref sig .tc .vmem S1x704x1024 .bf16) (harg5 : arg5.IsWhole) (arg6 : Memref sig .tc .vmem S1x704x1024 .bf16) (harg6 : arg6.IsWhole) (arg7 : Memref sig .tc .vmem S1x704x1024 .bf16) (harg7 : arg7.IsWhole) (arg8 : Memref sig .tc .vmem S512x1024 .f32) (harg8 : arg8.IsWhole) (arg9 : Memref sig .tc .vmem S512x1024 .f32) (harg9 : arg9.IsWhole) (arg10 : Memref sig .tc .vmem S512x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x512x704 .bf16) (harg13 : arg13.IsWhole) (arg14 : Memref sig .tc .vmem S1x512x704 .bf16) (harg14 : arg14.IsWhole) (arg15 : Memref sig .tc .vmem S512x1024 .f32) (harg15 : arg15.IsWhole) (arg16 : Memref sig .tc .vmem S512x1024 .bf16) (harg16 : arg16.IsWhole) (arg17 : Memref sig .tc .vmem S1x1024 .f32) (harg17 : arg17.IsWhole) (arg18 : Memref sig .tc .vmem S1x1024 .f32) (harg18 : arg18.IsWhole) (arg19 : Memref sig .tc .vmem S4096x1024 .f32) (harg19 : arg19.IsWhole)
    (hc1 : k0_cond1 i = 1#1) (hc2 : k0_cond2 i = 1#1) (hc3 : ¬k0_cond3 i = 1#1)
    (x0 : Vec F S512x1024 .bf16) (x1 x2 : Vec F S1x512x704 .bf16) (x3 x4 x5 : Vec F S1x704x1024 .bf16) (S : Vec F S4096x1024 .f32) (f : arg14.view.ty.Contents (Elt F)) :
    arg14.view.read (Elt F) (arg14.view.writes (Elt F) f (runA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc1 hc2 hc3 x0 x1 x2 x3 x4 x5 S).2.1) = outDu x0 x1 x5 :=
  (read_join3 f _ _).trans ((show _ = outDu (arg2.view.read (Elt F) (harg2.unread x0)) (arg3.view.read (Elt F) (harg3.unread x1)) (View.readAt (Elt F) arg7.view (Rect.unit (s := S1x704x1024) ![0, 0, 0] S1x704x1024.size inb_S1x704x1024_S1x704x1024_0_0_0).toLoadRect (harg7.unread x5)) from rfl).trans
    (by rw [harg2.read_unread, harg3.read_unread, load_w]))

/-- The scales' gradients after the first point: zero. -/
theorem A15 (c : Dev nD) (i : grid0.Coords) (arg2 : Memref sig .tc .vmem S512x1024 .bf16) (harg2 : arg2.IsWhole) (arg3 : Memref sig .tc .vmem S1x512x704 .bf16) (harg3 : arg3.IsWhole) (arg4 : Memref sig .tc .vmem S1x512x704 .bf16) (harg4 : arg4.IsWhole) (arg5 : Memref sig .tc .vmem S1x704x1024 .bf16) (harg5 : arg5.IsWhole) (arg6 : Memref sig .tc .vmem S1x704x1024 .bf16) (harg6 : arg6.IsWhole) (arg7 : Memref sig .tc .vmem S1x704x1024 .bf16) (harg7 : arg7.IsWhole) (arg8 : Memref sig .tc .vmem S512x1024 .f32) (harg8 : arg8.IsWhole) (arg9 : Memref sig .tc .vmem S512x1024 .f32) (harg9 : arg9.IsWhole) (arg10 : Memref sig .tc .vmem S512x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x512x704 .bf16) (harg13 : arg13.IsWhole) (arg14 : Memref sig .tc .vmem S1x512x704 .bf16) (harg14 : arg14.IsWhole) (arg15 : Memref sig .tc .vmem S512x1024 .f32) (harg15 : arg15.IsWhole) (arg16 : Memref sig .tc .vmem S512x1024 .bf16) (harg16 : arg16.IsWhole) (arg17 : Memref sig .tc .vmem S1x1024 .f32) (harg17 : arg17.IsWhole) (arg18 : Memref sig .tc .vmem S1x1024 .f32) (harg18 : arg18.IsWhole) (arg19 : Memref sig .tc .vmem S4096x1024 .f32) (harg19 : arg19.IsWhole)
    (hc1 : k0_cond1 i = 1#1) (hc2 : k0_cond2 i = 1#1) (hc3 : ¬k0_cond3 i = 1#1)
    (x0 : Vec F S512x1024 .bf16) (x1 x2 : Vec F S1x512x704 .bf16) (x3 x4 x5 : Vec F S1x704x1024 .bf16) (S : Vec F S4096x1024 .f32) (f : arg17.view.ty.Contents (Elt F)) :
    arg17.view.read (Elt F) (arg17.view.writes (Elt F) f (runA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc1 hc2 hc3 x0 x1 x2 x3 x4 x5 S).2.2.1) = k0_pay1 (F := F) := read_put_g f _ _
theorem A16 (c : Dev nD) (i : grid0.Coords) (arg2 : Memref sig .tc .vmem S512x1024 .bf16) (harg2 : arg2.IsWhole) (arg3 : Memref sig .tc .vmem S1x512x704 .bf16) (harg3 : arg3.IsWhole) (arg4 : Memref sig .tc .vmem S1x512x704 .bf16) (harg4 : arg4.IsWhole) (arg5 : Memref sig .tc .vmem S1x704x1024 .bf16) (harg5 : arg5.IsWhole) (arg6 : Memref sig .tc .vmem S1x704x1024 .bf16) (harg6 : arg6.IsWhole) (arg7 : Memref sig .tc .vmem S1x704x1024 .bf16) (harg7 : arg7.IsWhole) (arg8 : Memref sig .tc .vmem S512x1024 .f32) (harg8 : arg8.IsWhole) (arg9 : Memref sig .tc .vmem S512x1024 .f32) (harg9 : arg9.IsWhole) (arg10 : Memref sig .tc .vmem S512x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x512x704 .bf16) (harg13 : arg13.IsWhole) (arg14 : Memref sig .tc .vmem S1x512x704 .bf16) (harg14 : arg14.IsWhole) (arg15 : Memref sig .tc .vmem S512x1024 .f32) (harg15 : arg15.IsWhole) (arg16 : Memref sig .tc .vmem S512x1024 .bf16) (harg16 : arg16.IsWhole) (arg17 : Memref sig .tc .vmem S1x1024 .f32) (harg17 : arg17.IsWhole) (arg18 : Memref sig .tc .vmem S1x1024 .f32) (harg18 : arg18.IsWhole) (arg19 : Memref sig .tc .vmem S4096x1024 .f32) (harg19 : arg19.IsWhole)
    (hc1 : k0_cond1 i = 1#1) (hc2 : k0_cond2 i = 1#1) (hc3 : ¬k0_cond3 i = 1#1)
    (x0 : Vec F S512x1024 .bf16) (x1 x2 : Vec F S1x512x704 .bf16) (x3 x4 x5 : Vec F S1x704x1024 .bf16) (S : Vec F S4096x1024 .f32) (f : arg18.view.ty.Contents (Elt F)) :
    arg18.view.read (Elt F) (arg18.view.writes (Elt F) f (runA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc1 hc2 hc3 x0 x1 x2 x3 x4 x5 S).2.2.2.1) = k0_pay2 (F := F) := read_put_g f _ _

/-- The accumulator's lower chunk after the run, -/
theorem Aacc0 (c : Dev nD) (i : grid0.Coords) (arg2 : Memref sig .tc .vmem S512x1024 .bf16) (harg2 : arg2.IsWhole) (arg3 : Memref sig .tc .vmem S1x512x704 .bf16) (harg3 : arg3.IsWhole) (arg4 : Memref sig .tc .vmem S1x512x704 .bf16) (harg4 : arg4.IsWhole) (arg5 : Memref sig .tc .vmem S1x704x1024 .bf16) (harg5 : arg5.IsWhole) (arg6 : Memref sig .tc .vmem S1x704x1024 .bf16) (harg6 : arg6.IsWhole) (arg7 : Memref sig .tc .vmem S1x704x1024 .bf16) (harg7 : arg7.IsWhole) (arg8 : Memref sig .tc .vmem S512x1024 .f32) (harg8 : arg8.IsWhole) (arg9 : Memref sig .tc .vmem S512x1024 .f32) (harg9 : arg9.IsWhole) (arg10 : Memref sig .tc .vmem S512x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x512x704 .bf16) (harg13 : arg13.IsWhole) (arg14 : Memref sig .tc .vmem S1x512x704 .bf16) (harg14 : arg14.IsWhole) (arg15 : Memref sig .tc .vmem S512x1024 .f32) (harg15 : arg15.IsWhole) (arg16 : Memref sig .tc .vmem S512x1024 .bf16) (harg16 : arg16.IsWhole) (arg17 : Memref sig .tc .vmem S1x1024 .f32) (harg17 : arg17.IsWhole) (arg18 : Memref sig .tc .vmem S1x1024 .f32) (harg18 : arg18.IsWhole) (arg19 : Memref sig .tc .vmem S4096x1024 .f32) (harg19 : arg19.IsWhole)
    (hc1 : k0_cond1 i = 1#1) (hc2 : k0_cond2 i = 1#1) (hc3 : ¬k0_cond3 i = 1#1)
    (x0 : Vec F S512x1024 .bf16) (x1 x2 : Vec F S1x512x704 .bf16) (x3 x4 x5 : Vec F S1x704x1024 .bf16) (S : Vec F S4096x1024 .f32) (o : ℕ) (h0 : k0_off1 i 0#32 = ![o, 0]) (h1 : k0_off1 i 256#32 = ![o + 256, 0]) (ho : o + 256 ≤ 4096) :
    rows (arg19.view.read (Elt F) (arg19.view.writes (Elt F) (harg19.unread S) (runA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc1 hc2 hc3 x0 x1 x2 x3 x4 x5 S).2.2.2.2.1)) o ho
      = acc0 x0 x1 x2 x3 x4 x5 (Scalar.cmpi .eq (BitVec.ofNat 32 (i 0).val) 0#32) (rows S o ho) := by
  refine (rows_put0 (harg19.unread S) o ho h0 h1 _ _ _ _).trans ?_
  refine (show _ = acc0 (arg2.view.read (Elt F) (harg2.unread x0)) (arg3.view.read (Elt F) (harg3.unread x1)) (arg4.view.read (Elt F) (harg4.unread x2)) (View.readAt (Elt F) arg5.view (Rect.unit (s := S1x704x1024) ![0, 0, 0] S1x704x1024.size inb_S1x704x1024_S1x704x1024_0_0_0).toLoadRect (harg5.unread x3)) (View.readAt (Elt F) arg6.view (Rect.unit (s := S1x704x1024) ![0, 0, 0] S1x704x1024.size inb_S1x704x1024_S1x704x1024_0_0_0).toLoadRect (harg6.unread x4)) (View.readAt (Elt F) arg7.view (Rect.unit (s := S1x704x1024) ![0, 0, 0] S1x704x1024.size inb_S1x704x1024_S1x704x1024_0_0_0).toLoadRect (harg7.unread x5)) (Scalar.cmpi .eq (BitVec.ofNat 32 (i 0).val) 0#32) (View.readAt (Elt F) arg19.view (Rect.unit (s := S4096x1024) (k0_off1 i 0#32) S256x1024.size _).toLoadRect (harg19.unread S)) from rfl).trans ?_
  rw [load_rows harg19 S o ho h0, load_w, load_w, load_w, harg2.read_unread, harg3.read_unread, harg4.read_unread]

/-- its upper chunk, -/
theorem Aacc1 (c : Dev nD) (i : grid0.Coords) (arg2 : Memref sig .tc .vmem S512x1024 .bf16) (harg2 : arg2.IsWhole) (arg3 : Memref sig .tc .vmem S1x512x704 .bf16) (harg3 : arg3.IsWhole) (arg4 : Memref sig .tc .vmem S1x512x704 .bf16) (harg4 : arg4.IsWhole) (arg5 : Memref sig .tc .vmem S1x704x1024 .bf16) (harg5 : arg5.IsWhole) (arg6 : Memref sig .tc .vmem S1x704x1024 .bf16) (harg6 : arg6.IsWhole) (arg7 : Memref sig .tc .vmem S1x704x1024 .bf16) (harg7 : arg7.IsWhole) (arg8 : Memref sig .tc .vmem S512x1024 .f32) (harg8 : arg8.IsWhole) (arg9 : Memref sig .tc .vmem S512x1024 .f32) (harg9 : arg9.IsWhole) (arg10 : Memref sig .tc .vmem S512x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x512x704 .bf16) (harg13 : arg13.IsWhole) (arg14 : Memref sig .tc .vmem S1x512x704 .bf16) (harg14 : arg14.IsWhole) (arg15 : Memref sig .tc .vmem S512x1024 .f32) (harg15 : arg15.IsWhole) (arg16 : Memref sig .tc .vmem S512x1024 .bf16) (harg16 : arg16.IsWhole) (arg17 : Memref sig .tc .vmem S1x1024 .f32) (harg17 : arg17.IsWhole) (arg18 : Memref sig .tc .vmem S1x1024 .f32) (harg18 : arg18.IsWhole) (arg19 : Memref sig .tc .vmem S4096x1024 .f32) (harg19 : arg19.IsWhole)
    (hc1 : k0_cond1 i = 1#1) (hc2 : k0_cond2 i = 1#1) (hc3 : ¬k0_cond3 i = 1#1)
    (x0 : Vec F S512x1024 .bf16) (x1 x2 : Vec F S1x512x704 .bf16) (x3 x4 x5 : Vec F S1x704x1024 .bf16) (S : Vec F S4096x1024 .f32) (o : ℕ) (h0 : k0_off1 i 0#32 = ![o, 0]) (h1 : k0_off1 i 256#32 = ![o + 256, 0]) (ho : o + 256 + 256 ≤ 4096) :
    rows (arg19.view.read (Elt F) (arg19.view.writes (Elt F) (harg19.unread S) (runA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc1 hc2 hc3 x0 x1 x2 x3 x4 x5 S).2.2.2.2.1)) (o + 256) ho
      = acc1 x0 x1 x2 x3 x4 x5 (Scalar.cmpi .eq (BitVec.ofNat 32 (i 0).val) 0#32) (rows S (o + 256) ho) := by
  refine (rows_put1 (harg19.unread S) o ho h1 _ _ _).trans ?_
  refine (show _ = acc1 (arg2.view.read (Elt F) (harg2.unread x0)) (arg3.view.read (Elt F) (harg3.unread x1)) (arg4.view.read (Elt F) (harg4.unread x2)) (View.readAt (Elt F) arg5.view (Rect.unit (s := S1x704x1024) ![0, 0, 0] S1x704x1024.size inb_S1x704x1024_S1x704x1024_0_0_0).toLoadRect (harg5.unread x3)) (View.readAt (Elt F) arg6.view (Rect.unit (s := S1x704x1024) ![0, 0, 0] S1x704x1024.size inb_S1x704x1024_S1x704x1024_0_0_0).toLoadRect (harg6.unread x4)) (View.readAt (Elt F) arg7.view (Rect.unit (s := S1x704x1024) ![0, 0, 0] S1x704x1024.size inb_S1x704x1024_S1x704x1024_0_0_0).toLoadRect (harg7.unread x5)) (Scalar.cmpi .eq (BitVec.ofNat 32 (i 0).val) 0#32) (View.readAt (Elt F) arg19.view (Rect.unit (s := S4096x1024) (k0_off1 i 256#32) S256x1024.size _).toLoadRect (harg19.unread S)) from rfl).trans ?_
  rw [load_rows harg19 S (o + 256) ho h1, load_w, load_w, load_w, harg2.read_unread, harg3.read_unread, harg4.read_unread]

/-- and the rows the point does not touch. -/
theorem Aoff (c : Dev nD) (i : grid0.Coords) (arg2 : Memref sig .tc .vmem S512x1024 .bf16) (harg2 : arg2.IsWhole) (arg3 : Memref sig .tc .vmem S1x512x704 .bf16) (harg3 : arg3.IsWhole) (arg4 : Memref sig .tc .vmem S1x512x704 .bf16) (harg4 : arg4.IsWhole) (arg5 : Memref sig .tc .vmem S1x704x1024 .bf16) (harg5 : arg5.IsWhole) (arg6 : Memref sig .tc .vmem S1x704x1024 .bf16) (harg6 : arg6.IsWhole) (arg7 : Memref sig .tc .vmem S1x704x1024 .bf16) (harg7 : arg7.IsWhole) (arg8 : Memref sig .tc .vmem S512x1024 .f32) (harg8 : arg8.IsWhole) (arg9 : Memref sig .tc .vmem S512x1024 .f32) (harg9 : arg9.IsWhole) (arg10 : Memref sig .tc .vmem S512x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x512x704 .bf16) (harg13 : arg13.IsWhole) (arg14 : Memref sig .tc .vmem S1x512x704 .bf16) (harg14 : arg14.IsWhole) (arg15 : Memref sig .tc .vmem S512x1024 .f32) (harg15 : arg15.IsWhole) (arg16 : Memref sig .tc .vmem S512x1024 .bf16) (harg16 : arg16.IsWhole) (arg17 : Memref sig .tc .vmem S1x1024 .f32) (harg17 : arg17.IsWhole) (arg18 : Memref sig .tc .vmem S1x1024 .f32) (harg18 : arg18.IsWhole) (arg19 : Memref sig .tc .vmem S4096x1024 .f32) (harg19 : arg19.IsWhole)
    (hc1 : k0_cond1 i = 1#1) (hc2 : k0_cond2 i = 1#1) (hc3 : ¬k0_cond3 i = 1#1)
    (x0 : Vec F S512x1024 .bf16) (x1 x2 : Vec F S1x512x704 .bf16) (x3 x4 x5 : Vec F S1x704x1024 .bf16) (S : Vec F S4096x1024 .f32) (o : ℕ) (h0 : k0_off1 i 0#32 = ![o, 0]) (h1 : k0_off1 i 256#32 = ![o + 256, 0]) (p : ℕ) (hp : p + 256 ≤ 4096) (hop : p + 256 ≤ o ∨ o + 512 ≤ p) :
    rows (arg19.view.read (Elt F) (arg19.view.writes (Elt F) (harg19.unread S) (runA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc1 hc2 hc3 x0 x1 x2 x3 x4 x5 S).2.2.2.2.1)) p hp = rows S p hp :=
  rows_put_off harg19 S o p hp h0 h1 _ _ _ _ hop

end Cert.FfnBody

end
-- ==== Proof.FfnRunB.lean ====
/- One run of the feed-forward backward body at a point of the first three weight shards. -/
module

public import proofs.«01_k».proof.Proof.Gen.FfnBwdIdeal.Frame
public import proofs.«01_k».proof.Proof.Gen.FfnBwdIdeal.Skeleton

@[expose] public section

set_option maxRecDepth 16384

noncomputable section

namespace Cert.FfnBody

open Cert.FfnBwdIdeal Cert.FfnBwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- At a point of the first three shards, not the first, the body writes its tile of the two factor gradients and adds
    its products to the accumulator's two row chunks; the pieces are what the run finds. -/
def runB (c : Dev nD) (i : grid0.Coords) (arg2 : Memref sig .tc .vmem S512x1024 .bf16) (harg2 : arg2.IsWhole) (arg3 : Memref sig .tc .vmem S1x512x704 .bf16) (harg3 : arg3.IsWhole) (arg4 : Memref sig .tc .vmem S1x512x704 .bf16) (harg4 : arg4.IsWhole) (arg5 : Memref sig .tc .vmem S1x704x1024 .bf16) (harg5 : arg5.IsWhole) (arg6 : Memref sig .tc .vmem S1x704x1024 .bf16) (harg6 : arg6.IsWhole) (arg7 : Memref sig .tc .vmem S1x704x1024 .bf16) (harg7 : arg7.IsWhole) (arg8 : Memref sig .tc .vmem S512x1024 .f32) (harg8 : arg8.IsWhole) (arg9 : Memref sig .tc .vmem S512x1024 .f32) (harg9 : arg9.IsWhole) (arg10 : Memref sig .tc .vmem S512x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x512x704 .bf16) (harg13 : arg13.IsWhole) (arg14 : Memref sig .tc .vmem S1x512x704 .bf16) (harg14 : arg14.IsWhole) (arg15 : Memref sig .tc .vmem S512x1024 .f32) (harg15 : arg15.IsWhole) (arg16 : Memref sig .tc .vmem S512x1024 .bf16) (harg16 : arg16.IsWhole) (arg17 : Memref sig .tc .vmem S1x1024 .f32) (harg17 : arg17.IsWhole) (arg18 : Memref sig .tc .vmem S1x1024 .f32) (harg18 : arg18.IsWhole) (arg19 : Memref sig .tc .vmem S4096x1024 .f32) (harg19 : arg19.IsWhole)
    (hc1 : ¬k0_cond1 i = 1#1) (hc2 : k0_cond2 i = 1#1) (hc3 : ¬k0_cond3 i = 1#1)
    (x0 : Vec F S512x1024 .bf16) (x1 x2 : Vec F S1x512x704 .bf16) (x3 x4 x5 : Vec F S1x704x1024 .bf16) (S : Vec F S4096x1024 .f32) :
    Σ' (L11 : List (View.Piece (Elt F) S1x512x704 .bf16)) (L12 : List (View.Piece (Elt F) S1x512x704 .bf16)), { L : List (View.Piece (Elt F) S4096x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
            ∗ (∃ d, owns (c : Thread nD τ) arg13 fullShare d) ∗ (∃ d, owns (c : Thread nD τ) arg14 fullShare d) ∗ owns (c : Thread nD τ) arg19 fullShare S
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
              ∗ (∃ f, arg13.view.loc (c : Thread nD τ) ↦[arg13.view.set]{fullShare} arg13.view.writes (Elt F) f L11) ∗ (∃ f, arg14.view.loc (c : Thread nD τ) ↦[arg14.view.set]{fullShare} arg14.view.writes (Elt F) f L12)
              ∗ arg19.view.loc (c : Thread nD τ) ↦[arg19.view.set]{fullShare} arg19.view.writes (Elt F) (harg19.unread S) L) -∗ K ⟨⟩))
          ⊢ wp frame (wpE (defs₀ (F := F)) Variants.none c none) E (cc0_ffn_bwd_act i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨?_, ?_, ?_, fun E K => ?run⟩
  case run =>
    simp only [cc0_ffn_bwd_act_eq_skeleton]; unfold cc0_ffn_bwd_act_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d11, %f11, -, H11⟩, ⟨%d12, %f12, -, H12⟩, ⟨%f19, %hf19, H19⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg19.eq_unread hf19
    sl_exec (disch := first | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H11]; · iexists _; iexact H11
    isplitl [H12]; · iexists _; iexact H12
    iexact H19

end Cert.FfnBody

end
-- ==== Proof.FfnEqB.lean ====
/- What the pieces of the run leave, in closed form. -/
module

public import proofs.«01_k».proof.Proof.FfnStep
public import proofs.«01_k».proof.Proof.FfnRunB

@[expose] public section

set_option maxRecDepth 16384

noncomputable section

namespace Cert.FfnBody

open Cert.FfnBwdIdeal Cert.FfnBwdIdeal.Gen
open Idealize.ShloMosaic Idealize.ShloMosaic.TcCoe Idealize.ShloMosaic.Tactic
open Idealize.SL Idealize.SL.RA Idealize.SL.Sem

variable {F : FTy → Type} [FloatOps F]

/-- The gate gradient's block after the run. -/
theorem B11 (c : Dev nD) (i : grid0.Coords) (arg2 : Memref sig .tc .vmem S512x1024 .bf16) (harg2 : arg2.IsWhole) (arg3 : Memref sig .tc .vmem S1x512x704 .bf16) (harg3 : arg3.IsWhole) (arg4 : Memref sig .tc .vmem S1x512x704 .bf16) (harg4 : arg4.IsWhole) (arg5 : Memref sig .tc .vmem S1x704x1024 .bf16) (harg5 : arg5.IsWhole) (arg6 : Memref sig .tc .vmem S1x704x1024 .bf16) (harg6 : arg6.IsWhole) (arg7 : Memref sig .tc .vmem S1x704x1024 .bf16) (harg7 : arg7.IsWhole) (arg8 : Memref sig .tc .vmem S512x1024 .f32) (harg8 : arg8.IsWhole) (arg9 : Memref sig .tc .vmem S512x1024 .f32) (harg9 : arg9.IsWhole) (arg10 : Memref sig .tc .vmem S512x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x512x704 .bf16) (harg13 : arg13.IsWhole) (arg14 : Memref sig .tc .vmem S1x512x704 .bf16) (harg14 : arg14.IsWhole) (arg15 : Memref sig .tc .vmem S512x1024 .f32) (harg15 : arg15.IsWhole) (arg16 : Memref sig .tc .vmem S512x1024 .bf16) (harg16 : arg16.IsWhole) (arg17 : Memref sig .tc .vmem S1x1024 .f32) (harg17 : arg17.IsWhole) (arg18 : Memref sig .tc .vmem S1x1024 .f32) (harg18 : arg18.IsWhole) (arg19 : Memref sig .tc .vmem S4096x1024 .f32) (harg19 : arg19.IsWhole)
    (hc1 : ¬k0_cond1 i = 1#1) (hc2 : k0_cond2 i = 1#1) (hc3 : ¬k0_cond3 i = 1#1)
    (x0 : Vec F S512x1024 .bf16) (x1 x2 : Vec F S1x512x704 .bf16) (x3 x4 x5 : Vec F S1x704x1024 .bf16) (S : Vec F S4096x1024 .f32) (f : arg13.view.ty.Contents (Elt F)) :
    arg13.view.read (Elt F) (arg13.view.writes (Elt F) f (runB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc1 hc2 hc3 x0 x1 x2 x3 x4 x5 S).1) = outDg x0 x1 x2 x5 :=
  (read_join3 f _ _).trans ((show _ = outDg (arg2.view.read (Elt F) (harg2.unread x0)) (arg3.view.read (Elt F) (harg3.unread x1)) (arg4.view.read (Elt F) (harg4.unread x2)) (View.readAt (Elt F) arg7.view (Rect.unit (s := S1x704x1024) ![0, 0, 0] S1x704x1024.size inb_S1x704x1024_S1x704x1024_0_0_0).toLoadRect (harg7.unread x5)) from rfl).trans
    (by rw [harg2.read_unread, harg3.read_unread, harg4.read_unread, load_w]))

/-- The up gradient's block after the run. -/
theorem B12 (c : Dev nD) (i : grid0.Coords) (arg2 : Memref sig .tc .vmem S512x1024 .bf16) (harg2 : arg2.IsWhole) (arg3 : Memref sig .tc .vmem S1x512x704 .bf16) (harg3 : arg3.IsWhole) (arg4 : Memref sig .tc .vmem S1x512x704 .bf16) (harg4 : arg4.IsWhole) (arg5 : Memref sig .tc .vmem S1x704x1024 .bf16) (harg5 : arg5.IsWhole) (arg6 : Memref sig .tc .vmem S1x704x1024 .bf16) (harg6 : arg6.IsWhole) (arg7 : Memref sig .tc .vmem S1x704x1024 .bf16) (harg7 : arg7.IsWhole) (arg8 : Memref sig .tc .vmem S512x1024 .f32) (harg8 : arg8.IsWhole) (arg9 : Memref sig .tc .vmem S512x1024 .f32) (harg9 : arg9.IsWhole) (arg10 : Memref sig .tc .vmem S512x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x512x704 .bf16) (harg13 : arg13.IsWhole) (arg14 : Memref sig .tc .vmem S1x512x704 .bf16) (harg14 : arg14.IsWhole) (arg15 : Memref sig .tc .vmem S512x1024 .f32) (harg15 : arg15.IsWhole) (arg16 : Memref sig .tc .vmem S512x1024 .bf16) (harg16 : arg16.IsWhole) (arg17 : Memref sig .tc .vmem S1x1024 .f32) (harg17 : arg17.IsWhole) (arg18 : Memref sig .tc .vmem S1x1024 .f32) (harg18 : arg18.IsWhole) (arg19 : Memref sig .tc .vmem S4096x1024 .f32) (harg19 : arg19.IsWhole)
    (hc1 : ¬k0_cond1 i = 1#1) (hc2 : k0_cond2 i = 1#1) (hc3 : ¬k0_cond3 i = 1#1)
    (x0 : Vec F S512x1024 .bf16) (x1 x2 : Vec F S1x512x704 .bf16) (x3 x4 x5 : Vec F S1x704x1024 .bf16) (S : Vec F S4096x1024 .f32) (f : arg14.view.ty.Contents (Elt F)) :
    arg14.view.read (Elt F) (arg14.view.writes (Elt F) f (runB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc1 hc2 hc3 x0 x1 x2 x3 x4 x5 S).2.1) = outDu x0 x1 x5 :=
  (read_join3 f _ _).trans ((show _ = outDu (arg2.view.read (Elt F) (harg2.unread x0)) (arg3.view.read (Elt F) (harg3.unread x1)) (View.readAt (Elt F) arg7.view (Rect.unit (s := S1x704x1024) ![0, 0, 0] S1x704x1024.size inb_S1x704x1024_S1x704x1024_0_0_0).toLoadRect (harg7.unread x5)) from rfl).trans
    (by rw [harg2.read_unread, harg3.read_unread, load_w]))

/-- The accumulator's lower chunk after the run, -/
theorem Bacc0 (c : Dev nD) (i : grid0.Coords) (arg2 : Memref sig .tc .vmem S512x1024 .bf16) (harg2 : arg2.IsWhole) (arg3 : Memref sig .tc .vmem S1x512x704 .bf16) (harg3 : arg3.IsWhole) (arg4 : Memref sig .tc .vmem S1x512x704 .bf16) (harg4 : arg4.IsWhole) (arg5 : Memref sig .tc .vmem S1x704x1024 .bf16) (harg5 : arg5.IsWhole) (arg6 : Memref sig .tc .vmem S1x704x1024 .bf16) (harg6 : arg6.IsWhole) (arg7 : Memref sig .tc .vmem S1x704x1024 .bf16) (harg7 : arg7.IsWhole) (arg8 : Memref sig .tc .vmem S512x1024 .f32) (harg8 : arg8.IsWhole) (arg9 : Memref sig .tc .vmem S512x1024 .f32) (harg9 : arg9.IsWhole) (arg10 : Memref sig .tc .vmem S512x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x512x704 .bf16) (harg13 : arg13.IsWhole) (arg14 : Memref sig .tc .vmem S1x512x704 .bf16) (harg14 : arg14.IsWhole) (arg15 : Memref sig .tc .vmem S512x1024 .f32) (harg15 : arg15.IsWhole) (arg16 : Memref sig .tc .vmem S512x1024 .bf16) (harg16 : arg16.IsWhole) (arg17 : Memref sig .tc .vmem S1x1024 .f32) (harg17 : arg17.IsWhole) (arg18 : Memref sig .tc .vmem S1x1024 .f32) (harg18 : arg18.IsWhole) (arg19 : Memref sig .tc .vmem S4096x1024 .f32) (harg19 : arg19.IsWhole)
    (hc1 : ¬k0_cond1 i = 1#1) (hc2 : k0_cond2 i = 1#1) (hc3 : ¬k0_cond3 i = 1#1)
    (x0 : Vec F S512x1024 .bf16) (x1 x2 : Vec F S1x512x704 .bf16) (x3 x4 x5 : Vec F S1x704x1024 .bf16) (S : Vec F S4096x1024 .f32) (o : ℕ) (h0 : k0_off1 i 0#32 = ![o, 0]) (h1 : k0_off1 i 256#32 = ![o + 256, 0]) (ho : o + 256 ≤ 4096) :
    rows (arg19.view.read (Elt F) (arg19.view.writes (Elt F) (harg19.unread S) (runB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc1 hc2 hc3 x0 x1 x2 x3 x4 x5 S).2.2.1)) o ho
      = acc0 x0 x1 x2 x3 x4 x5 (Scalar.cmpi .eq (BitVec.ofNat 32 (i 0).val) 0#32) (rows S o ho) := by
  refine (rows_put0 (harg19.unread S) o ho h0 h1 _ _ _ _).trans ?_
  refine (show _ = acc0 (arg2.view.read (Elt F) (harg2.unread x0)) (arg3.view.read (Elt F) (harg3.unread x1)) (arg4.view.read (Elt F) (harg4.unread x2)) (View.readAt (Elt F) arg5.view (Rect.unit (s := S1x704x1024) ![0, 0, 0] S1x704x1024.size inb_S1x704x1024_S1x704x1024_0_0_0).toLoadRect (harg5.unread x3)) (View.readAt (Elt F) arg6.view (Rect.unit (s := S1x704x1024) ![0, 0, 0] S1x704x1024.size inb_S1x704x1024_S1x704x1024_0_0_0).toLoadRect (harg6.unread x4)) (View.readAt (Elt F) arg7.view (Rect.unit (s := S1x704x1024) ![0, 0, 0] S1x704x1024.size inb_S1x704x1024_S1x704x1024_0_0_0).toLoadRect (harg7.unread x5)) (Scalar.cmpi .eq (BitVec.ofNat 32 (i 0).val) 0#32) (View.readAt (Elt F) arg19.view (Rect.unit (s := S4096x1024) (k0_off1 i 0#32) S256x1024.size _).toLoadRect (harg19.unread S)) from rfl).trans ?_
  rw [load_rows harg19 S o ho h0, load_w, load_w, load_w, harg2.read_unread, harg3.read_unread, harg4.read_unread]

/-- its upper chunk, -/
theorem Bacc1 (c : Dev nD) (i : grid0.Coords) (arg2 : Memref sig .tc .vmem S512x1024 .bf16) (harg2 : arg2.IsWhole) (arg3 : Memref sig .tc .vmem S1x512x704 .bf16) (harg3 : arg3.IsWhole) (arg4 : Memref sig .tc .vmem S1x512x704 .bf16) (harg4 : arg4.IsWhole) (arg5 : Memref sig .tc .vmem S1x704x1024 .bf16) (harg5 : arg5.IsWhole) (arg6 : Memref sig .tc .vmem S1x704x1024 .bf16) (harg6 : arg6.IsWhole) (arg7 : Memref sig .tc .vmem S1x704x1024 .bf16) (harg7 : arg7.IsWhole) (arg8 : Memref sig .tc .vmem S512x1024 .f32) (harg8 : arg8.IsWhole) (arg9 : Memref sig .tc .vmem S512x1024 .f32) (harg9 : arg9.IsWhole) (arg10 : Memref sig .tc .vmem S512x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x512x704 .bf16) (harg13 : arg13.IsWhole) (arg14 : Memref sig .tc .vmem S1x512x704 .bf16) (harg14 : arg14.IsWhole) (arg15 : Memref sig .tc .vmem S512x1024 .f32) (harg15 : arg15.IsWhole) (arg16 : Memref sig .tc .vmem S512x1024 .bf16) (harg16 : arg16.IsWhole) (arg17 : Memref sig .tc .vmem S1x1024 .f32) (harg17 : arg17.IsWhole) (arg18 : Memref sig .tc .vmem S1x1024 .f32) (harg18 : arg18.IsWhole) (arg19 : Memref sig .tc .vmem S4096x1024 .f32) (harg19 : arg19.IsWhole)
    (hc1 : ¬k0_cond1 i = 1#1) (hc2 : k0_cond2 i = 1#1) (hc3 : ¬k0_cond3 i = 1#1)
    (x0 : Vec F S512x1024 .bf16) (x1 x2 : Vec F S1x512x704 .bf16) (x3 x4 x5 : Vec F S1x704x1024 .bf16) (S : Vec F S4096x1024 .f32) (o : ℕ) (h0 : k0_off1 i 0#32 = ![o, 0]) (h1 : k0_off1 i 256#32 = ![o + 256, 0]) (ho : o + 256 + 256 ≤ 4096) :
    rows (arg19.view.read (Elt F) (arg19.view.writes (Elt F) (harg19.unread S) (runB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc1 hc2 hc3 x0 x1 x2 x3 x4 x5 S).2.2.1)) (o + 256) ho
      = acc1 x0 x1 x2 x3 x4 x5 (Scalar.cmpi .eq (BitVec.ofNat 32 (i 0).val) 0#32) (rows S (o + 256) ho) := by
  refine (rows_put1 (harg19.unread S) o ho h1 _ _ _).trans ?_
  refine (show _ = acc1 (arg2.view.read (Elt F) (harg2.unread x0)) (arg3.view.read (Elt F) (harg3.unread x1)) (arg4.view.read (Elt F) (harg4.unread x2)) (View.readAt (Elt F) arg5.view (Rect.unit (s := S1x704x1024) ![0, 0, 0] S1x704x1024.size inb_S1x704x1024_S1x704x1024_0_0_0).toLoadRect (harg5.unread x3)) (View.readAt (Elt F) arg6.view (Rect.unit (s := S1x704x1024) ![0, 0, 0] S1x704x1024.size inb_S1x704x1024_S1x704x1024_0_0_0).toLoadRect (harg6.unread x4)) (View.readAt (Elt F) arg7.view (Rect.unit (s := S1x704x1024) ![0, 0, 0] S1x704x1024.size inb_S1x704x1024_S1x704x1024_0_0_0).toLoadRect (harg7.unread x5)) (Scalar.cmpi .eq (BitVec.ofNat 32 (i 0).val) 0#32) (View.readAt (Elt F) arg19.view (Rect.unit (s := S4096x1024) (k0_off1 i 256#32) S256x1024.size _).toLoadRect (harg19.unread S)) from rfl).trans ?_
  rw [load_rows harg19 S (o + 256) ho h1, load_w, load_w, load_w, harg2.read_unread, harg3.read_unread, harg4.read_unread]

/-- and the rows the point does not touch. -/
theorem Boff (c : Dev nD) (i : grid0.Coords) (arg2 : Memref sig .tc .vmem S512x1024 .bf16) (harg2 : arg2.IsWhole) (arg3 : Memref sig .tc .vmem S1x512x704 .bf16) (harg3 : arg3.IsWhole) (arg4 : Memref sig .tc .vmem S1x512x704 .bf16) (harg4 : arg4.IsWhole) (arg5 : Memref sig .tc .vmem S1x704x1024 .bf16) (harg5 : arg5.IsWhole) (arg6 : Memref sig .tc .vmem S1x704x1024 .bf16) (harg6 : arg6.IsWhole) (arg7 : Memref sig .tc .vmem S1x704x1024 .bf16) (harg7 : arg7.IsWhole) (arg8 : Memref sig .tc .vmem S512x1024 .f32) (harg8 : arg8.IsWhole) (arg9 : Memref sig .tc .vmem S512x1024 .f32) (harg9 : arg9.IsWhole) (arg10 : Memref sig .tc .vmem S512x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x512x704 .bf16) (harg13 : arg13.IsWhole) (arg14 : Memref sig .tc .vmem S1x512x704 .bf16) (harg14 : arg14.IsWhole) (arg15 : Memref sig .tc .vmem S512x1024 .f32) (harg15 : arg15.IsWhole) (arg16 : Memref sig .tc .vmem S512x1024 .bf16) (harg16 : arg16.IsWhole) (arg17 : Memref sig .tc .vmem S1x1024 .f32) (harg17 : arg17.IsWhole) (arg18 : Memref sig .tc .vmem S1x1024 .f32) (harg18 : arg18.IsWhole) (arg19 : Memref sig .tc .vmem S4096x1024 .f32) (harg19 : arg19.IsWhole)
    (hc1 : ¬k0_cond1 i = 1#1) (hc2 : k0_cond2 i = 1#1) (hc3 : ¬k0_cond3 i = 1#1)
    (x0 : Vec F S512x1024 .bf16) (x1 x2 : Vec F S1x512x704 .bf16) (x3 x4 x5 : Vec F S1x704x1024 .bf16) (S : Vec F S4096x1024 .f32) (o : ℕ) (h0 : k0_off1 i 0#32 = ![o, 0]) (h1 : k0_off1 i 256#32 = ![o + 256, 0]) (p : ℕ) (hp : p + 256 ≤ 4096) (hop : p + 256 ≤ o ∨ o + 512 ≤ p) :
    rows (arg19.view.read (Elt F) (arg19.view.writes (Elt F) (harg19.unread S) (runB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc1 hc2 hc3 x0 x1 x2 x3 x4 x5 S).2.2.1)) p hp = rows S p hp :=
  rows_put_off harg19 S o p hp h0 h1 _ _ _ _ hop

end Cert.FfnBody

end
-- ==== Proof.FfnRunC.lean ====
/- One run of the feed-forward backward body at a point of the first three weight shards. -/
module

public import proofs.«01_k».proof.Proof.Gen.FfnBwdIdeal.Frame
public import proofs.«01_k».proof.Proof.Gen.FfnBwdIdeal.Skeleton

@[expose] public section

set_option maxRecDepth 16384

noncomputable section

namespace Cert.FfnBody

open Cert.FfnBwdIdeal Cert.FfnBwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 16000000 in
/-- At a point of the last shard. -/
def runC (c : Dev nD) (i : grid0.Coords) (arg2 : Memref sig .tc .vmem S512x1024 .bf16) (harg2 : arg2.IsWhole) (arg3 : Memref sig .tc .vmem S1x512x704 .bf16) (harg3 : arg3.IsWhole) (arg4 : Memref sig .tc .vmem S1x512x704 .bf16) (harg4 : arg4.IsWhole) (arg5 : Memref sig .tc .vmem S1x704x1024 .bf16) (harg5 : arg5.IsWhole) (arg6 : Memref sig .tc .vmem S1x704x1024 .bf16) (harg6 : arg6.IsWhole) (arg7 : Memref sig .tc .vmem S1x704x1024 .bf16) (harg7 : arg7.IsWhole) (arg8 : Memref sig .tc .vmem S512x1024 .f32) (harg8 : arg8.IsWhole) (arg9 : Memref sig .tc .vmem S512x1024 .f32) (harg9 : arg9.IsWhole) (arg10 : Memref sig .tc .vmem S512x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x512x704 .bf16) (harg13 : arg13.IsWhole) (arg14 : Memref sig .tc .vmem S1x512x704 .bf16) (harg14 : arg14.IsWhole) (arg15 : Memref sig .tc .vmem S512x1024 .f32) (harg15 : arg15.IsWhole) (arg16 : Memref sig .tc .vmem S512x1024 .bf16) (harg16 : arg16.IsWhole) (arg17 : Memref sig .tc .vmem S1x1024 .f32) (harg17 : arg17.IsWhole) (arg18 : Memref sig .tc .vmem S1x1024 .f32) (harg18 : arg18.IsWhole) (arg19 : Memref sig .tc .vmem S4096x1024 .f32) (harg19 : arg19.IsWhole)
    (hc1 : ¬k0_cond1 i = 1#1) (hc2 : ¬k0_cond2 i = 1#1) (hc3 : k0_cond3 i = 1#1)
    (x0 : Vec F S512x1024 .bf16) (x1 x2 : Vec F S1x512x704 .bf16) (x3 x4 x5 : Vec F S1x704x1024 .bf16) (x6 x7 x8 : Vec F S512x1024 .f32) (x9 x10 y15 y16 : Vec F S1x1024 .f32) (S : Vec F S4096x1024 .f32) :
    Σ' (L11 : List (View.Piece (Elt F) S1x512x704 .bf16)) (L12 : List (View.Piece (Elt F) S1x512x704 .bf16)) (L13 : List (View.Piece (Elt F) S512x1024 .f32)) (L14 : List (View.Piece (Elt F) S512x1024 .bf16)) (L15 : List (View.Piece (Elt F) S1x1024 .f32)), { L16 : List (View.Piece (Elt F) S1x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ owns (c : Thread nD τ) arg17 fullShare y15 ∗ owns (c : Thread nD τ) arg18 fullShare y16 ∗ owns (c : Thread nD τ) arg19 fullShare S
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ f, arg13.view.loc (c : Thread nD τ) ↦[arg13.view.set]{fullShare} arg13.view.writes (Elt F) f L11) ∗ (∃ f, arg14.view.loc (c : Thread nD τ) ↦[arg14.view.set]{fullShare} arg14.view.writes (Elt F) f L12) ∗ (∃ f, arg15.view.loc (c : Thread nD τ) ↦[arg15.view.set]{fullShare} arg15.view.writes (Elt F) f L13) ∗ (∃ f, arg16.view.loc (c : Thread nD τ) ↦[arg16.view.set]{fullShare} arg16.view.writes (Elt F) f L14) ∗ (∃ f, arg17.view.loc (c : Thread nD τ) ↦[arg17.view.set]{fullShare} arg17.view.writes (Elt F) f L15) ∗ (∃ f, arg18.view.loc (c : Thread nD τ) ↦[arg18.view.set]{fullShare} arg18.view.writes (Elt F) f L16) ∗ owns (c : Thread nD τ) arg19 fullShare S) -∗ K ⟨⟩))
          ⊢ wp frame (wpE (defs₀ (F := F)) Variants.none c none) E (cc0_ffn_bwd_act i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨?_, ?_, ?_, ?_, ?_, ?_, fun E K => ?run⟩
  case run =>
    simp only [cc0_ffn_bwd_act_eq_skeleton]; unfold cc0_ffn_bwd_act_skel
    simp only [k0_part3_eq_skeleton, k0_part4_eq_skeleton, k0_part5_eq_skeleton, k0_part6_eq_skeleton, k0_part7_eq_skeleton, k0_part8_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%d14, %f14, -, H14⟩, ⟨%f15, %hf15, H15⟩, ⟨%f16, %hf16, H16⟩, ⟨%f17, %hf17, H17⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg17.eq_unread hf15; obtain rfl := harg18.eq_unread hf16; obtain rfl := harg19.eq_unread hf17
    sl_exec (disch := first | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    iexists _; isplitr; · ipureintro; exact harg19.read_unread _
    iexact H17

end Cert.FfnBody

end
-- ==== Proof.FfnEqC.lean ====
/- What the pieces of the run at the last shard leave, in closed form. -/
module

public import proofs.«01_k».proof.Proof.FfnStep
public import proofs.«01_k».proof.Proof.FfnRunC

@[expose] public section

set_option maxRecDepth 16384

noncomputable section

namespace Cert.FfnBody

open Cert.FfnBwdIdeal Cert.FfnBwdIdeal.Gen
open Idealize.ShloMosaic Idealize.ShloMosaic.TcCoe Idealize.ShloMosaic.Tactic
open Idealize.SL Idealize.SL.RA Idealize.SL.Sem

variable {F : FTy → Type} [FloatOps F]

/-- The gate gradient's block after the run. -/
theorem C11 (c : Dev nD) (i : grid0.Coords) (arg2 : Memref sig .tc .vmem S512x1024 .bf16) (harg2 : arg2.IsWhole) (arg3 : Memref sig .tc .vmem S1x512x704 .bf16) (harg3 : arg3.IsWhole) (arg4 : Memref sig .tc .vmem S1x512x704 .bf16) (harg4 : arg4.IsWhole) (arg5 : Memref sig .tc .vmem S1x704x1024 .bf16) (harg5 : arg5.IsWhole) (arg6 : Memref sig .tc .vmem S1x704x1024 .bf16) (harg6 : arg6.IsWhole) (arg7 : Memref sig .tc .vmem S1x704x1024 .bf16) (harg7 : arg7.IsWhole) (arg8 : Memref sig .tc .vmem S512x1024 .f32) (harg8 : arg8.IsWhole) (arg9 : Memref sig .tc .vmem S512x1024 .f32) (harg9 : arg9.IsWhole) (arg10 : Memref sig .tc .vmem S512x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x512x704 .bf16) (harg13 : arg13.IsWhole) (arg14 : Memref sig .tc .vmem S1x512x704 .bf16) (harg14 : arg14.IsWhole) (arg15 : Memref sig .tc .vmem S512x1024 .f32) (harg15 : arg15.IsWhole) (arg16 : Memref sig .tc .vmem S512x1024 .bf16) (harg16 : arg16.IsWhole) (arg17 : Memref sig .tc .vmem S1x1024 .f32) (harg17 : arg17.IsWhole) (arg18 : Memref sig .tc .vmem S1x1024 .f32) (harg18 : arg18.IsWhole) (arg19 : Memref sig .tc .vmem S4096x1024 .f32) (harg19 : arg19.IsWhole)
    (hc1 : ¬k0_cond1 i = 1#1) (hc2 : ¬k0_cond2 i = 1#1) (hc3 : k0_cond3 i = 1#1)
    (x0 : Vec F S512x1024 .bf16) (x1 x2 : Vec F S1x512x704 .bf16) (x3 x4 x5 : Vec F S1x704x1024 .bf16) (x6 x7 x8 : Vec F S512x1024 .f32) (x9 x10 y15 y16 : Vec F S1x1024 .f32) (S : Vec F S4096x1024 .f32) (f : arg13.view.ty.Contents (Elt F)) :
    arg13.view.read (Elt F) (arg13.view.writes (Elt F) f (runC c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc1 hc2 hc3 x0 x1 x2 x3 x4 x5 x6 x7 x8 x9 x10 y15 y16 S).1) = outDg x0 x1 x2 x5 :=
  (read_join3 f _ _).trans ((show _ = outDg (arg2.view.read (Elt F) (harg2.unread x0)) (arg3.view.read (Elt F) (harg3.unread x1)) (arg4.view.read (Elt F) (harg4.unread x2)) (View.readAt (Elt F) arg7.view (Rect.unit (s := S1x704x1024) ![0, 0, 0] S1x704x1024.size inb_S1x704x1024_S1x704x1024_0_0_0).toLoadRect (harg7.unread x5)) from rfl).trans
    (by rw [harg2.read_unread, harg3.read_unread, harg4.read_unread, load_w]))

/-- The up gradient's block after the run. -/
theorem C12 (c : Dev nD) (i : grid0.Coords) (arg2 : Memref sig .tc .vmem S512x1024 .bf16) (harg2 : arg2.IsWhole) (arg3 : Memref sig .tc .vmem S1x512x704 .bf16) (harg3 : arg3.IsWhole) (arg4 : Memref sig .tc .vmem S1x512x704 .bf16) (harg4 : arg4.IsWhole) (arg5 : Memref sig .tc .vmem S1x704x1024 .bf16) (harg5 : arg5.IsWhole) (arg6 : Memref sig .tc .vmem S1x704x1024 .bf16) (harg6 : arg6.IsWhole) (arg7 : Memref sig .tc .vmem S1x704x1024 .bf16) (harg7 : arg7.IsWhole) (arg8 : Memref sig .tc .vmem S512x1024 .f32) (harg8 : arg8.IsWhole) (arg9 : Memref sig .tc .vmem S512x1024 .f32) (harg9 : arg9.IsWhole) (arg10 : Memref sig .tc .vmem S512x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x512x704 .bf16) (harg13 : arg13.IsWhole) (arg14 : Memref sig .tc .vmem S1x512x704 .bf16) (harg14 : arg14.IsWhole) (arg15 : Memref sig .tc .vmem S512x1024 .f32) (harg15 : arg15.IsWhole) (arg16 : Memref sig .tc .vmem S512x1024 .bf16) (harg16 : arg16.IsWhole) (arg17 : Memref sig .tc .vmem S1x1024 .f32) (harg17 : arg17.IsWhole) (arg18 : Memref sig .tc .vmem S1x1024 .f32) (harg18 : arg18.IsWhole) (arg19 : Memref sig .tc .vmem S4096x1024 .f32) (harg19 : arg19.IsWhole)
    (hc1 : ¬k0_cond1 i = 1#1) (hc2 : ¬k0_cond2 i = 1#1) (hc3 : k0_cond3 i = 1#1)
    (x0 : Vec F S512x1024 .bf16) (x1 x2 : Vec F S1x512x704 .bf16) (x3 x4 x5 : Vec F S1x704x1024 .bf16) (x6 x7 x8 : Vec F S512x1024 .f32) (x9 x10 y15 y16 : Vec F S1x1024 .f32) (S : Vec F S4096x1024 .f32) (f : arg14.view.ty.Contents (Elt F)) :
    arg14.view.read (Elt F) (arg14.view.writes (Elt F) f (runC c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc1 hc2 hc3 x0 x1 x2 x3 x4 x5 x6 x7 x8 x9 x10 y15 y16 S).2.1) = outDu x0 x1 x5 :=
  (read_join3 f _ _).trans ((show _ = outDu (arg2.view.read (Elt F) (harg2.unread x0)) (arg3.view.read (Elt F) (harg3.unread x1)) (View.readAt (Elt F) arg7.view (Rect.unit (s := S1x704x1024) ![0, 0, 0] S1x704x1024.size inb_S1x704x1024_S1x704x1024_0_0_0).toLoadRect (harg7.unread x5)) from rfl).trans
    (by rw [harg2.read_unread, harg3.read_unread, load_w]))

set_option maxHeartbeats 2000000 in
/-- The input gradient's block after the run. -/
theorem C13 (c : Dev nD) (i : grid0.Coords) (arg2 : Memref sig .tc .vmem S512x1024 .bf16) (harg2 : arg2.IsWhole) (arg3 : Memref sig .tc .vmem S1x512x704 .bf16) (harg3 : arg3.IsWhole) (arg4 : Memref sig .tc .vmem S1x512x704 .bf16) (harg4 : arg4.IsWhole) (arg5 : Memref sig .tc .vmem S1x704x1024 .bf16) (harg5 : arg5.IsWhole) (arg6 : Memref sig .tc .vmem S1x704x1024 .bf16) (harg6 : arg6.IsWhole) (arg7 : Memref sig .tc .vmem S1x704x1024 .bf16) (harg7 : arg7.IsWhole) (arg8 : Memref sig .tc .vmem S512x1024 .f32) (harg8 : arg8.IsWhole) (arg9 : Memref sig .tc .vmem S512x1024 .f32) (harg9 : arg9.IsWhole) (arg10 : Memref sig .tc .vmem S512x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x512x704 .bf16) (harg13 : arg13.IsWhole) (arg14 : Memref sig .tc .vmem S1x512x704 .bf16) (harg14 : arg14.IsWhole) (arg15 : Memref sig .tc .vmem S512x1024 .f32) (harg15 : arg15.IsWhole) (arg16 : Memref sig .tc .vmem S512x1024 .bf16) (harg16 : arg16.IsWhole) (arg17 : Memref sig .tc .vmem S1x1024 .f32) (harg17 : arg17.IsWhole) (arg18 : Memref sig .tc .vmem S1x1024 .f32) (harg18 : arg18.IsWhole) (arg19 : Memref sig .tc .vmem S4096x1024 .f32) (harg19 : arg19.IsWhole)
    (hc1 : ¬k0_cond1 i = 1#1) (hc2 : ¬k0_cond2 i = 1#1) (hc3 : k0_cond3 i = 1#1)
    (x0 : Vec F S512x1024 .bf16) (x1 x2 : Vec F S1x512x704 .bf16) (x3 x4 x5 : Vec F S1x704x1024 .bf16) (x6 x7 x8 : Vec F S512x1024 .f32) (x9 x10 y15 y16 : Vec F S1x1024 .f32) (S : Vec F S4096x1024 .f32) (o : ℕ) (ho : o + 256 + 256 ≤ 4096) (h0 : k0_off2 i 0#32 = ![o, 0]) (h1 : k0_off2 i 256#32 = ![o + 256, 0]) (f : arg15.view.ty.Contents (Elt F)) :
    arg15.view.read (Elt F) (arg15.view.writes (Elt F) f (runC c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc1 hc2 hc3 x0 x1 x2 x3 x4 x5 x6 x7 x8 x9 x10 y15 y16 S).2.2.1) = join2 (dxC (dg0 x0 x1 x2 x5) (du0 x0 x1 x5) x3 x4 (rows S o (Nat.le_of_add_right_le ho)) (lo x6) (lo x7) x9) (dxC (dg1 x0 x1 x2 x5) (du1 x0 x1 x5) x3 x4 (rows S (o + 256) ho) (hi x6) (hi x7) x9) := by
  refine (read_join2 f _ _).trans ?_
  refine (congrArg₂ join2 (?_ : _ = (dxC (dg0 (arg2.view.read (Elt F) (harg2.unread x0)) (arg3.view.read (Elt F) (harg3.unread x1)) (arg4.view.read (Elt F) (harg4.unread x2)) (View.readAt (Elt F) arg7.view (Rect.unit (s := S1x704x1024) ![0, 0, 0] S1x704x1024.size inb_S1x704x1024_S1x704x1024_0_0_0).toLoadRect (harg7.unread x5))) (du0 (arg2.view.read (Elt F) (harg2.unread x0)) (arg3.view.read (Elt F) (harg3.unread x1)) (View.readAt (Elt F) arg7.view (Rect.unit (s := S1x704x1024) ![0, 0, 0] S1x704x1024.size inb_S1x704x1024_S1x704x1024_0_0_0).toLoadRect (harg7.unread x5))) (View.readAt (Elt F) arg5.view (Rect.unit (s := S1x704x1024) ![0, 0, 0] S1x704x1024.size inb_S1x704x1024_S1x704x1024_0_0_0).toLoadRect (harg5.unread x3)) (View.readAt (Elt F) arg6.view (Rect.unit (s := S1x704x1024) ![0, 0, 0] S1x704x1024.size inb_S1x704x1024_S1x704x1024_0_0_0).toLoadRect (harg6.unread x4)) (View.readAt (Elt F) arg19.view (Rect.unit (s := S4096x1024) (k0_off2 i 0#32) S256x1024.size (inbR o (Nat.le_of_add_right_le ho) h0)).toLoadRect (harg19.unread S)) (lo (arg8.view.read (Elt F) (harg8.unread x6))) (lo (arg9.view.read (Elt F) (harg9.unread x7))) (View.readAt (Elt F) arg11.view (Rect.unit (s := S1x1024) ![0, 0] S1x1024.size inb_S1x1024_S1x1024_0_0).toLoadRect (harg11.unread x9)))) (?_ : _ = (dxC (dg1 (arg2.view.read (Elt F) (harg2.unread x0)) (arg3.view.read (Elt F) (harg3.unread x1)) (arg4.view.read (Elt F) (harg4.unread x2)) (View.readAt (Elt F) arg7.view (Rect.unit (s := S1x704x1024) ![0, 0, 0] S1x704x1024.size inb_S1x704x1024_S1x704x1024_0_0_0).toLoadRect (harg7.unread x5))) (du1 (arg2.view.read (Elt F) (harg2.unread x0)) (arg3.view.read (Elt F) (harg3.unread x1)) (View.readAt (Elt F) arg7.view (Rect.unit (s := S1x704x1024) ![0, 0, 0] S1x704x1024.size inb_S1x704x1024_S1x704x1024_0_0_0).toLoadRect (harg7.unread x5))) (View.readAt (Elt F) arg5.view (Rect.unit (s := S1x704x1024) ![0, 0, 0] S1x704x1024.size inb_S1x704x1024_S1x704x1024_0_0_0).toLoadRect (harg5.unread x3)) (View.readAt (Elt F) arg6.view (Rect.unit (s := S1x704x1024) ![0, 0, 0] S1x704x1024.size inb_S1x704x1024_S1x704x1024_0_0_0).toLoadRect (harg6.unread x4)) (View.readAt (Elt F) arg19.view (Rect.unit (s := S4096x1024) (k0_off2 i 256#32) S256x1024.size (inbR (o + 256) ho h1)).toLoadRect (harg19.unread S)) (hi (arg8.view.read (Elt F) (harg8.unread x6))) (hi (arg9.view.read (Elt F) (harg9.unread x7))) (View.readAt (Elt F) arg11.view (Rect.unit (s := S1x1024) ![0, 0] S1x1024.size inb_S1x1024_S1x1024_0_0).toLoadRect (harg11.unread x9))))).trans ?_
  · rfl
  · rfl
  rw [load_rows harg19 S o (Nat.le_of_add_right_le ho) h0, load_rows harg19 S (o + 256) ho h1, load_w, load_w, load_w, load_g harg11, harg2.read_unread, harg3.read_unread, harg4.read_unread, harg8.read_unread, harg9.read_unread]

set_option maxHeartbeats 2000000 in
/-- The mixer gradient's block after the run. -/
theorem C14 (c : Dev nD) (i : grid0.Coords) (arg2 : Memref sig .tc .vmem S512x1024 .bf16) (harg2 : arg2.IsWhole) (arg3 : Memref sig .tc .vmem S1x512x704 .bf16) (harg3 : arg3.IsWhole) (arg4 : Memref sig .tc .vmem S1x512x704 .bf16) (harg4 : arg4.IsWhole) (arg5 : Memref sig .tc .vmem S1x704x1024 .bf16) (harg5 : arg5.IsWhole) (arg6 : Memref sig .tc .vmem S1x704x1024 .bf16) (harg6 : arg6.IsWhole) (arg7 : Memref sig .tc .vmem S1x704x1024 .bf16) (harg7 : arg7.IsWhole) (arg8 : Memref sig .tc .vmem S512x1024 .f32) (harg8 : arg8.IsWhole) (arg9 : Memref sig .tc .vmem S512x1024 .f32) (harg9 : arg9.IsWhole) (arg10 : Memref sig .tc .vmem S512x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x512x704 .bf16) (harg13 : arg13.IsWhole) (arg14 : Memref sig .tc .vmem S1x512x704 .bf16) (harg14 : arg14.IsWhole) (arg15 : Memref sig .tc .vmem S512x1024 .f32) (harg15 : arg15.IsWhole) (arg16 : Memref sig .tc .vmem S512x1024 .bf16) (harg16 : arg16.IsWhole) (arg17 : Memref sig .tc .vmem S1x1024 .f32) (harg17 : arg17.IsWhole) (arg18 : Memref sig .tc .vmem S1x1024 .f32) (harg18 : arg18.IsWhole) (arg19 : Memref sig .tc .vmem S4096x1024 .f32) (harg19 : arg19.IsWhole)
    (hc1 : ¬k0_cond1 i = 1#1) (hc2 : ¬k0_cond2 i = 1#1) (hc3 : k0_cond3 i = 1#1)
    (x0 : Vec F S512x1024 .bf16) (x1 x2 : Vec F S1x512x704 .bf16) (x3 x4 x5 : Vec F S1x704x1024 .bf16) (x6 x7 x8 : Vec F S512x1024 .f32) (x9 x10 y15 y16 : Vec F S1x1024 .f32) (S : Vec F S4096x1024 .f32) (o : ℕ) (ho : o + 256 + 256 ≤ 4096) (h0 : k0_off2 i 0#32 = ![o, 0]) (h1 : k0_off2 i 256#32 = ![o + 256, 0]) (f : arg16.view.ty.Contents (Elt F)) :
    arg16.view.read (Elt F) (arg16.view.writes (Elt F) f (runC c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc1 hc2 hc3 x0 x1 x2 x3 x4 x5 x6 x7 x8 x9 x10 y15 y16 S).2.2.2.1) = join2 (dmC (dg0 x0 x1 x2 x5) (du0 x0 x1 x5) x3 x4 (rows S o (Nat.le_of_add_right_le ho)) (lo x6) (lo x7) (lo x8) x9 x10) (dmC (dg1 x0 x1 x2 x5) (du1 x0 x1 x5) x3 x4 (rows S (o + 256) ho) (hi x6) (hi x7) (hi x8) x9 x10) := by
  refine (read_join2 f _ _).trans ?_
  refine (congrArg₂ join2 (?_ : _ = (dmC (dg0 (arg2.view.read (Elt F) (harg2.unread x0)) (arg3.view.read (Elt F) (harg3.unread x1)) (arg4.view.read (Elt F) (harg4.unread x2)) (View.readAt (Elt F) arg7.view (Rect.unit (s := S1x704x1024) ![0, 0, 0] S1x704x1024.size inb_S1x704x1024_S1x704x1024_0_0_0).toLoadRect (harg7.unread x5))) (du0 (arg2.view.read (Elt F) (harg2.unread x0)) (arg3.view.read (Elt F) (harg3.unread x1)) (View.readAt (Elt F) arg7.view (Rect.unit (s := S1x704x1024) ![0, 0, 0] S1x704x1024.size inb_S1x704x1024_S1x704x1024_0_0_0).toLoadRect (harg7.unread x5))) (View.readAt (Elt F) arg5.view (Rect.unit (s := S1x704x1024) ![0, 0, 0] S1x704x1024.size inb_S1x704x1024_S1x704x1024_0_0_0).toLoadRect (harg5.unread x3)) (View.readAt (Elt F) arg6.view (Rect.unit (s := S1x704x1024) ![0, 0, 0] S1x704x1024.size inb_S1x704x1024_S1x704x1024_0_0_0).toLoadRect (harg6.unread x4)) (View.readAt (Elt F) arg19.view (Rect.unit (s := S4096x1024) (k0_off2 i 0#32) S256x1024.size (inbR o (Nat.le_of_add_right_le ho) h0)).toLoadRect (harg19.unread S)) (lo (arg8.view.read (Elt F) (harg8.unread x6))) (lo (arg9.view.read (Elt F) (harg9.unread x7))) (lo (arg10.view.read (Elt F) (harg10.unread x8))) (View.readAt (Elt F) arg11.view (Rect.unit (s := S1x1024) ![0, 0] S1x1024.size inb_S1x1024_S1x1024_0_0).toLoadRect (harg11.unread x9)) (View.readAt (Elt F) arg12.view (Rect.unit (s := S1x1024) ![0, 0] S1x1024.size inb_S1x1024_S1x1024_0_0).toLoadRect (harg12.unread x10)))) (?_ : _ = (dmC (dg1 (arg2.view.read (Elt F) (harg2.unread x0)) (arg3.view.read (Elt F) (harg3.unread x1)) (arg4.view.read (Elt F) (harg4.unread x2)) (View.readAt (Elt F) arg7.view (Rect.unit (s := S1x704x1024) ![0, 0, 0] S1x704x1024.size inb_S1x704x1024_S1x704x1024_0_0_0).toLoadRect (harg7.unread x5))) (du1 (arg2.view.read (Elt F) (harg2.unread x0)) (arg3.view.read (Elt F) (harg3.unread x1)) (View.readAt (Elt F) arg7.view (Rect.unit (s := S1x704x1024) ![0, 0, 0] S1x704x1024.size inb_S1x704x1024_S1x704x1024_0_0_0).toLoadRect (harg7.unread x5))) (View.readAt (Elt F) arg5.view (Rect.unit (s := S1x704x1024) ![0, 0, 0] S1x704x1024.size inb_S1x704x1024_S1x704x1024_0_0_0).toLoadRect (harg5.unread x3)) (View.readAt (Elt F) arg6.view (Rect.unit (s := S1x704x1024) ![0, 0, 0] S1x704x1024.size inb_S1x704x1024_S1x704x1024_0_0_0).toLoadRect (harg6.unread x4)) (View.readAt (Elt F) arg19.view (Rect.unit (s := S4096x1024) (k0_off2 i 256#32) S256x1024.size (inbR (o + 256) ho h1)).toLoadRect (harg19.unread S)) (hi (arg8.view.read (Elt F) (harg8.unread x6))) (hi (arg9.view.read (Elt F) (harg9.unread x7))) (hi (arg10.view.read (Elt F) (harg10.unread x8))) (View.readAt (Elt F) arg11.view (Rect.unit (s := S1x1024) ![0, 0] S1x1024.size inb_S1x1024_S1x1024_0_0).toLoadRect (harg11.unread x9)) (View.readAt (Elt F) arg12.view (Rect.unit (s := S1x1024) ![0, 0] S1x1024.size inb_S1x1024_S1x1024_0_0).toLoadRect (harg12.unread x10))))).trans ?_
  · rfl
  · rfl
  rw [load_rows harg19 S o (Nat.le_of_add_right_le ho) h0, load_rows harg19 S (o + 256) ho h1, load_w, load_w, load_w, load_g harg11, load_g harg12, harg2.read_unread, harg3.read_unread, harg4.read_unread, harg8.read_unread, harg9.read_unread, harg10.read_unread]

/-- The feed-forward scale's gradient after the run. -/
theorem C15 (c : Dev nD) (i : grid0.Coords) (arg2 : Memref sig .tc .vmem S512x1024 .bf16) (harg2 : arg2.IsWhole) (arg3 : Memref sig .tc .vmem S1x512x704 .bf16) (harg3 : arg3.IsWhole) (arg4 : Memref sig .tc .vmem S1x512x704 .bf16) (harg4 : arg4.IsWhole) (arg5 : Memref sig .tc .vmem S1x704x1024 .bf16) (harg5 : arg5.IsWhole) (arg6 : Memref sig .tc .vmem S1x704x1024 .bf16) (harg6 : arg6.IsWhole) (arg7 : Memref sig .tc .vmem S1x704x1024 .bf16) (harg7 : arg7.IsWhole) (arg8 : Memref sig .tc .vmem S512x1024 .f32) (harg8 : arg8.IsWhole) (arg9 : Memref sig .tc .vmem S512x1024 .f32) (harg9 : arg9.IsWhole) (arg10 : Memref sig .tc .vmem S512x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x512x704 .bf16) (harg13 : arg13.IsWhole) (arg14 : Memref sig .tc .vmem S1x512x704 .bf16) (harg14 : arg14.IsWhole) (arg15 : Memref sig .tc .vmem S512x1024 .f32) (harg15 : arg15.IsWhole) (arg16 : Memref sig .tc .vmem S512x1024 .bf16) (harg16 : arg16.IsWhole) (arg17 : Memref sig .tc .vmem S1x1024 .f32) (harg17 : arg17.IsWhole) (arg18 : Memref sig .tc .vmem S1x1024 .f32) (harg18 : arg18.IsWhole) (arg19 : Memref sig .tc .vmem S4096x1024 .f32) (harg19 : arg19.IsWhole)
    (hc1 : ¬k0_cond1 i = 1#1) (hc2 : ¬k0_cond2 i = 1#1) (hc3 : k0_cond3 i = 1#1)
    (x0 : Vec F S512x1024 .bf16) (x1 x2 : Vec F S1x512x704 .bf16) (x3 x4 x5 : Vec F S1x704x1024 .bf16) (x6 x7 x8 : Vec F S512x1024 .f32) (x9 x10 y15 y16 : Vec F S1x1024 .f32) (S : Vec F S4096x1024 .f32) (o : ℕ) (ho : o + 256 + 256 ≤ 4096) (h0 : k0_off2 i 0#32 = ![o, 0]) (h1 : k0_off2 i 256#32 = ![o + 256, 0]) (f : arg17.view.ty.Contents (Elt F)) :
    arg17.view.read (Elt F) (arg17.view.writes (Elt F) f (runC c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc1 hc2 hc3 x0 x1 x2 x3 x4 x5 x6 x7 x8 x9 x10 y15 y16 S).2.2.2.2.1) = (g3C (dg1 x0 x1 x2 x5) (du1 x0 x1 x5) x3 x4 (rows S (o + 256) ho) (hi x7) (g3C (dg0 x0 x1 x2 x5) (du0 x0 x1 x5) x3 x4 (rows S o (Nat.le_of_add_right_le ho)) (lo x7) y15)) := by
  refine (read_put_g f _ _).trans ?_
  have e : runC.sl.v198 c i arg2 harg2 arg3 harg3 arg4 harg4 arg5 harg5 arg6 harg6 arg7 harg7 arg9 harg9 arg17 harg17 arg19 harg19 hc3 x0 x1 x2 x3 x4 x5 x7 y15 S = (g3C (dg0 (arg2.view.read (Elt F) (harg2.unread x0)) (arg3.view.read (Elt F) (harg3.unread x1)) (arg4.view.read (Elt F) (harg4.unread x2)) (View.readAt (Elt F) arg7.view (Rect.unit (s := S1x704x1024) ![0, 0, 0] S1x704x1024.size inb_S1x704x1024_S1x704x1024_0_0_0).toLoadRect (harg7.unread x5))) (du0 (arg2.view.read (Elt F) (harg2.unread x0)) (arg3.view.read (Elt F) (harg3.unread x1)) (View.readAt (Elt F) arg7.view (Rect.unit (s := S1x704x1024) ![0, 0, 0] S1x704x1024.size inb_S1x704x1024_S1x704x1024_0_0_0).toLoadRect (harg7.unread x5))) (View.readAt (Elt F) arg5.view (Rect.unit (s := S1x704x1024) ![0, 0, 0] S1x704x1024.size inb_S1x704x1024_S1x704x1024_0_0_0).toLoadRect (harg5.unread x3)) (View.readAt (Elt F) arg6.view (Rect.unit (s := S1x704x1024) ![0, 0, 0] S1x704x1024.size inb_S1x704x1024_S1x704x1024_0_0_0).toLoadRect (harg6.unread x4)) (View.readAt (Elt F) arg19.view (Rect.unit (s := S4096x1024) (k0_off2 i 0#32) S256x1024.size (inbR o (Nat.le_of_add_right_le ho) h0)).toLoadRect (harg19.unread S)) (lo (arg9.view.read (Elt F) (harg9.unread x7))) (View.readAt (Elt F) arg17.view (Rect.unit (s := S1x1024) ![0, 0] S1x1024.size inb_S1x1024_S1x1024_0_0).toLoadRect (harg17.unread y15))) := by
    unfold runC.sl.v198
    refine (View.readCov_cons_toLoadRect _ _ _ _).trans ?_
    rfl
  refine (congrArg (fun y => (g3C (dg1 (arg2.view.read (Elt F) (harg2.unread x0)) (arg3.view.read (Elt F) (harg3.unread x1)) (arg4.view.read (Elt F) (harg4.unread x2)) (View.readAt (Elt F) arg7.view (Rect.unit (s := S1x704x1024) ![0, 0, 0] S1x704x1024.size inb_S1x704x1024_S1x704x1024_0_0_0).toLoadRect (harg7.unread x5))) (du1 (arg2.view.read (Elt F) (harg2.unread x0)) (arg3.view.read (Elt F) (harg3.unread x1)) (View.readAt (Elt F) arg7.view (Rect.unit (s := S1x704x1024) ![0, 0, 0] S1x704x1024.size inb_S1x704x1024_S1x704x1024_0_0_0).toLoadRect (harg7.unread x5))) (View.readAt (Elt F) arg5.view (Rect.unit (s := S1x704x1024) ![0, 0, 0] S1x704x1024.size inb_S1x704x1024_S1x704x1024_0_0_0).toLoadRect (harg5.unread x3)) (View.readAt (Elt F) arg6.view (Rect.unit (s := S1x704x1024) ![0, 0, 0] S1x704x1024.size inb_S1x704x1024_S1x704x1024_0_0_0).toLoadRect (harg6.unread x4)) (View.readAt (Elt F) arg19.view (Rect.unit (s := S4096x1024) (k0_off2 i 256#32) S256x1024.size (inbR (o + 256) ho h1)).toLoadRect (harg19.unread S)) (hi (arg9.view.read (Elt F) (harg9.unread x7))) y)) e).trans ?_
  rw [load_rows harg19 S o (Nat.le_of_add_right_le ho) h0, load_rows harg19 S (o + 256) ho h1, load_w, load_w, load_w, load_g harg17, harg2.read_unread, harg3.read_unread, harg4.read_unread, harg9.read_unread]

/-- The mixer scale's gradient after the run. -/
theorem C16 (c : Dev nD) (i : grid0.Coords) (arg2 : Memref sig .tc .vmem S512x1024 .bf16) (harg2 : arg2.IsWhole) (arg3 : Memref sig .tc .vmem S1x512x704 .bf16) (harg3 : arg3.IsWhole) (arg4 : Memref sig .tc .vmem S1x512x704 .bf16) (harg4 : arg4.IsWhole) (arg5 : Memref sig .tc .vmem S1x704x1024 .bf16) (harg5 : arg5.IsWhole) (arg6 : Memref sig .tc .vmem S1x704x1024 .bf16) (harg6 : arg6.IsWhole) (arg7 : Memref sig .tc .vmem S1x704x1024 .bf16) (harg7 : arg7.IsWhole) (arg8 : Memref sig .tc .vmem S512x1024 .f32) (harg8 : arg8.IsWhole) (arg9 : Memref sig .tc .vmem S512x1024 .f32) (harg9 : arg9.IsWhole) (arg10 : Memref sig .tc .vmem S512x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x512x704 .bf16) (harg13 : arg13.IsWhole) (arg14 : Memref sig .tc .vmem S1x512x704 .bf16) (harg14 : arg14.IsWhole) (arg15 : Memref sig .tc .vmem S512x1024 .f32) (harg15 : arg15.IsWhole) (arg16 : Memref sig .tc .vmem S512x1024 .bf16) (harg16 : arg16.IsWhole) (arg17 : Memref sig .tc .vmem S1x1024 .f32) (harg17 : arg17.IsWhole) (arg18 : Memref sig .tc .vmem S1x1024 .f32) (harg18 : arg18.IsWhole) (arg19 : Memref sig .tc .vmem S4096x1024 .f32) (harg19 : arg19.IsWhole)
    (hc1 : ¬k0_cond1 i = 1#1) (hc2 : ¬k0_cond2 i = 1#1) (hc3 : k0_cond3 i = 1#1)
    (x0 : Vec F S512x1024 .bf16) (x1 x2 : Vec F S1x512x704 .bf16) (x3 x4 x5 : Vec F S1x704x1024 .bf16) (x6 x7 x8 : Vec F S512x1024 .f32) (x9 x10 y15 y16 : Vec F S1x1024 .f32) (S : Vec F S4096x1024 .f32) (o : ℕ) (ho : o + 256 + 256 ≤ 4096) (h0 : k0_off2 i 0#32 = ![o, 0]) (h1 : k0_off2 i 256#32 = ![o + 256, 0]) (f : arg18.view.ty.Contents (Elt F)) :
    arg18.view.read (Elt F) (arg18.view.writes (Elt F) f (runC c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc1 hc2 hc3 x0 x1 x2 x3 x4 x5 x6 x7 x8 x9 x10 y15 y16 S).2.2.2.2.2.1) = (g2C (dg1 x0 x1 x2 x5) (du1 x0 x1 x5) x3 x4 (rows S (o + 256) ho) (hi x6) (hi x7) (hi x8) x9 (g2C (dg0 x0 x1 x2 x5) (du0 x0 x1 x5) x3 x4 (rows S o (Nat.le_of_add_right_le ho)) (lo x6) (lo x7) (lo x8) x9 y16)) := by
  refine (read_put_g f _ _).trans ?_
  have e : runC.sl.v230 c i arg2 harg2 arg3 harg3 arg4 harg4 arg5 harg5 arg6 harg6 arg7 harg7 arg8 harg8 arg9 harg9 arg10 harg10 arg11 harg11 arg18 harg18 arg19 harg19 hc3 x0 x1 x2 x3 x4 x5 x6 x7 x8 x9 y16 S = (g2C (dg0 (arg2.view.read (Elt F) (harg2.unread x0)) (arg3.view.read (Elt F) (harg3.unread x1)) (arg4.view.read (Elt F) (harg4.unread x2)) (View.readAt (Elt F) arg7.view (Rect.unit (s := S1x704x1024) ![0, 0, 0] S1x704x1024.size inb_S1x704x1024_S1x704x1024_0_0_0).toLoadRect (harg7.unread x5))) (du0 (arg2.view.read (Elt F) (harg2.unread x0)) (arg3.view.read (Elt F) (harg3.unread x1)) (View.readAt (Elt F) arg7.view (Rect.unit (s := S1x704x1024) ![0, 0, 0] S1x704x1024.size inb_S1x704x1024_S1x704x1024_0_0_0).toLoadRect (harg7.unread x5))) (View.readAt (Elt F) arg5.view (Rect.unit (s := S1x704x1024) ![0, 0, 0] S1x704x1024.size inb_S1x704x1024_S1x704x1024_0_0_0).toLoadRect (harg5.unread x3)) (View.readAt (Elt F) arg6.view (Rect.unit (s := S1x704x1024) ![0, 0, 0] S1x704x1024.size inb_S1x704x1024_S1x704x1024_0_0_0).toLoadRect (harg6.unread x4)) (View.readAt (Elt F) arg19.view (Rect.unit (s := S4096x1024) (k0_off2 i 0#32) S256x1024.size (inbR o (Nat.le_of_add_right_le ho) h0)).toLoadRect (harg19.unread S)) (lo (arg8.view.read (Elt F) (harg8.unread x6))) (lo (arg9.view.read (Elt F) (harg9.unread x7))) (lo (arg10.view.read (Elt F) (harg10.unread x8))) (View.readAt (Elt F) arg11.view (Rect.unit (s := S1x1024) ![0, 0] S1x1024.size inb_S1x1024_S1x1024_0_0).toLoadRect (harg11.unread x9)) (View.readAt (Elt F) arg18.view (Rect.unit (s := S1x1024) ![0, 0] S1x1024.size inb_S1x1024_S1x1024_0_0).toLoadRect (harg18.unread y16))) := by
    unfold runC.sl.v230
    refine (View.readCov_cons_toLoadRect _ _ _ _).trans ?_
    rfl
  refine (congrArg (fun y => (g2C (dg1 (arg2.view.read (Elt F) (harg2.unread x0)) (arg3.view.read (Elt F) (harg3.unread x1)) (arg4.view.read (Elt F) (harg4.unread x2)) (View.readAt (Elt F) arg7.view (Rect.unit (s := S1x704x1024) ![0, 0, 0] S1x704x1024.size inb_S1x704x1024_S1x704x1024_0_0_0).toLoadRect (harg7.unread x5))) (du1 (arg2.view.read (Elt F) (harg2.unread x0)) (arg3.view.read (Elt F) (harg3.unread x1)) (View.readAt (Elt F) arg7.view (Rect.unit (s := S1x704x1024) ![0, 0, 0] S1x704x1024.size inb_S1x704x1024_S1x704x1024_0_0_0).toLoadRect (harg7.unread x5))) (View.readAt (Elt F) arg5.view (Rect.unit (s := S1x704x1024) ![0, 0, 0] S1x704x1024.size inb_S1x704x1024_S1x704x1024_0_0_0).toLoadRect (harg5.unread x3)) (View.readAt (Elt F) arg6.view (Rect.unit (s := S1x704x1024) ![0, 0, 0] S1x704x1024.size inb_S1x704x1024_S1x704x1024_0_0_0).toLoadRect (harg6.unread x4)) (View.readAt (Elt F) arg19.view (Rect.unit (s := S4096x1024) (k0_off2 i 256#32) S256x1024.size (inbR (o + 256) ho h1)).toLoadRect (harg19.unread S)) (hi (arg8.view.read (Elt F) (harg8.unread x6))) (hi (arg9.view.read (Elt F) (harg9.unread x7))) (hi (arg10.view.read (Elt F) (harg10.unread x8))) (View.readAt (Elt F) arg11.view (Rect.unit (s := S1x1024) ![0, 0] S1x1024.size inb_S1x1024_S1x1024_0_0).toLoadRect (harg11.unread x9)) y)) e).trans ?_
  rw [load_rows harg19 S o (Nat.le_of_add_right_le ho) h0, load_rows harg19 S (o + 256) ho h1, load_w, load_w, load_w, load_g harg11, load_g harg18, harg2.read_unread, harg3.read_unread, harg4.read_unread, harg8.read_unread, harg9.read_unread, harg10.read_unread]

end Cert.FfnBody

end
-- ==== Proof.FfnDats.lean ====
/- The feed-forward backward pipeline: what it leaves point by point, its body obligation, its run and its frame. -/
module

public import proofs.«01_k».proof.Proof.FfnEqA
public import proofs.«01_k».proof.Proof.FfnEqB
public import proofs.«01_k».proof.Proof.FfnEqC

@[expose] public section

set_option maxRecDepth 16384

noncomputable section

namespace Cert.FfnBody

open Cert.FfnBwdIdeal Cert.FfnBwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the points leave -/

/-- Grid point `n`. -/
def pt (n : ℕ) : Fin cfg0.N := ⟨n % 32, lt_of_lt_of_eq (Nat.mod_lt n (by decide)) (show 32 = cfg0.N from N_0.symm)⟩

theorem lt32 (t : Fin cfg0.N) : t.val < 32 := lt_of_lt_of_eq t.isLt (show cfg0.N = 32 from N_0)
theorem pt_val (t : Fin cfg0.N) : pt t.val = t := Fin.ext (Nat.mod_eq_of_lt (lt32 t))

/-- The accumulator's lower chunk for row tile `i` after shard `j`. -/
def accLo (c : Dev nD) (i : ℕ) : ℕ → Vec F S256x1024 .f32
  | 0 => acc0 (iblk m c 0 (pt i)) (iblk m c 1 (pt i)) (iblk m c 2 (pt i)) (iblk m c 3 (pt i)) (iblk m c 4 (pt i)) (iblk m c 5 (pt i)) 1#1 (fun _ => k0_pay1 (F := F) fun _ => ⟨0, by decide +revert⟩)
  | j + 1 => acc0 (iblk m c 0 (pt (8 * (j + 1) + i))) (iblk m c 1 (pt (8 * (j + 1) + i))) (iblk m c 2 (pt (8 * (j + 1) + i))) (iblk m c 3 (pt (8 * (j + 1) + i))) (iblk m c 4 (pt (8 * (j + 1) + i))) (iblk m c 5 (pt (8 * (j + 1) + i))) 0#1 (accLo c i j)
/-- The accumulator's upper chunk for row tile `i` after shard `j`. -/
def accHi (c : Dev nD) (i : ℕ) : ℕ → Vec F S256x1024 .f32
  | 0 => acc1 (iblk m c 0 (pt i)) (iblk m c 1 (pt i)) (iblk m c 2 (pt i)) (iblk m c 3 (pt i)) (iblk m c 4 (pt i)) (iblk m c 5 (pt i)) 1#1 (fun _ => k0_pay1 (F := F) fun _ => ⟨0, by decide +revert⟩)
  | j + 1 => acc1 (iblk m c 0 (pt (8 * (j + 1) + i))) (iblk m c 1 (pt (8 * (j + 1) + i))) (iblk m c 2 (pt (8 * (j + 1) + i))) (iblk m c 3 (pt (8 * (j + 1) + i))) (iblk m c 4 (pt (8 * (j + 1) + i))) (iblk m c 5 (pt (8 * (j + 1) + i))) 0#1 (accHi c i j)

/-- The two factor gradients' blocks point `t` leaves. -/
def atDg (c : Dev nD) (t : Fin cfg0.N) : Vec F S1x512x704 .bf16 := outDg (iblk m c 0 t) (iblk m c 1 t) (iblk m c 2 t) (iblk m c 5 t)
def atDu (c : Dev nD) (t : Fin cfg0.N) : Vec F S1x512x704 .bf16 := outDu (iblk m c 0 t) (iblk m c 1 t) (iblk m c 5 t)
/-- The input gradient's block point `t` of the last shard leaves. -/
def atDx (c : Dev nD) (t : Fin cfg0.N) : Vec F S512x1024 .f32 :=
  join2 (dxC (dg0 (iblk m c 0 t) (iblk m c 1 t) (iblk m c 2 t) (iblk m c 5 t)) (du0 (iblk m c 0 t) (iblk m c 1 t) (iblk m c 5 t)) (iblk m c 3 t) (iblk m c 4 t) (accLo m c (t.val % 8) 2) (lo (iblk m c 6 t)) (lo (iblk m c 7 t)) (iblk m c 9 t)) (dxC (dg1 (iblk m c 0 t) (iblk m c 1 t) (iblk m c 2 t) (iblk m c 5 t)) (du1 (iblk m c 0 t) (iblk m c 1 t) (iblk m c 5 t)) (iblk m c 3 t) (iblk m c 4 t) (accHi m c (t.val % 8) 2) (hi (iblk m c 6 t)) (hi (iblk m c 7 t)) (iblk m c 9 t))
/-- The mixer gradient's block point `t` of the last shard leaves. -/
def atDm (c : Dev nD) (t : Fin cfg0.N) : Vec F S512x1024 .bf16 :=
  join2 (dmC (dg0 (iblk m c 0 t) (iblk m c 1 t) (iblk m c 2 t) (iblk m c 5 t)) (du0 (iblk m c 0 t) (iblk m c 1 t) (iblk m c 5 t)) (iblk m c 3 t) (iblk m c 4 t) (accLo m c (t.val % 8) 2) (lo (iblk m c 6 t)) (lo (iblk m c 7 t)) (lo (iblk m c 8 t)) (iblk m c 9 t) (iblk m c 10 t)) (dmC (dg1 (iblk m c 0 t) (iblk m c 1 t) (iblk m c 2 t) (iblk m c 5 t)) (du1 (iblk m c 0 t) (iblk m c 1 t) (iblk m c 5 t)) (iblk m c 3 t) (iblk m c 4 t) (accHi m c (t.val % 8) 2) (hi (iblk m c 6 t)) (hi (iblk m c 7 t)) (hi (iblk m c 8 t)) (iblk m c 9 t) (iblk m c 10 t))
/-- The feed-forward scale's gradient with point `t`'s parts added to `y`. -/
def stepG3 (c : Dev nD) (t : Fin cfg0.N) (y : Vec F S1x1024 .f32) : Vec F S1x1024 .f32 :=
  (g3C (dg1 (iblk m c 0 t) (iblk m c 1 t) (iblk m c 2 t) (iblk m c 5 t)) (du1 (iblk m c 0 t) (iblk m c 1 t) (iblk m c 5 t)) (iblk m c 3 t) (iblk m c 4 t) (accHi m c (t.val % 8) 2) (hi (iblk m c 7 t)) (g3C (dg0 (iblk m c 0 t) (iblk m c 1 t) (iblk m c 2 t) (iblk m c 5 t)) (du0 (iblk m c 0 t) (iblk m c 1 t) (iblk m c 5 t)) (iblk m c 3 t) (iblk m c 4 t) (accLo m c (t.val % 8) 2) (lo (iblk m c 7 t)) y))
/-- The mixer scale's gradient with point `t`'s parts added to `y`. -/
def stepG2 (c : Dev nD) (t : Fin cfg0.N) (y : Vec F S1x1024 .f32) : Vec F S1x1024 .f32 :=
  (g2C (dg1 (iblk m c 0 t) (iblk m c 1 t) (iblk m c 2 t) (iblk m c 5 t)) (du1 (iblk m c 0 t) (iblk m c 1 t) (iblk m c 5 t)) (iblk m c 3 t) (iblk m c 4 t) (accHi m c (t.val % 8) 2) (hi (iblk m c 6 t)) (hi (iblk m c 7 t)) (hi (iblk m c 8 t)) (iblk m c 9 t) (g2C (dg0 (iblk m c 0 t) (iblk m c 1 t) (iblk m c 2 t) (iblk m c 5 t)) (du0 (iblk m c 0 t) (iblk m c 1 t) (iblk m c 5 t)) (iblk m c 3 t) (iblk m c 4 t) (accLo m c (t.val % 8) 2) (lo (iblk m c 6 t)) (lo (iblk m c 7 t)) (lo (iblk m c 8 t)) (iblk m c 9 t) y))
/-- The scales' gradients after point `n`: zero through the first three shards, then the running sums. -/
def atG3 (c : Dev nD) : ℕ → Vec F S1x1024 .f32
  | 0 => k0_pay1
  | n + 1 => if n + 1 < 24 then k0_pay1 else stepG3 m c (pt (n + 1)) (atG3 c n)
def atG2 (c : Dev nD) : ℕ → Vec F S1x1024 .f32
  | 0 => k0_pay2
  | n + 1 => if n + 1 < 24 then k0_pay2 else stepG2 m c (pt (n + 1)) (atG2 c n)

theorem atG3_lt (c : Dev nD) {n : ℕ} (h : n < 24) : atG3 m c n = k0_pay1 := by
  cases n with
  | zero => rfl
  | succ n => rw [atG3, if_pos h]
theorem atG2_lt (c : Dev nD) {n : ℕ} (h : n < 24) : atG2 m c n = k0_pay2 := by
  cases n with
  | zero => rfl
  | succ n => rw [atG2, if_pos h]
theorem atG3_ge (c : Dev nD) (t : Fin cfg0.N) (h : 24 ≤ t.val) : atG3 m c t.val = stepG3 m c t (atG3 m c (t.val - 1)) := by
  obtain ⟨n, hn⟩ := t
  cases n with
  | zero => exact absurd h (Nat.not_le.mpr (show 0 < 24 by decide))
  | succ n => exact ((by rw [atG3, if_neg (Nat.not_lt.mpr h)] :
      atG3 m c (n + 1) = stepG3 m c (pt (n + 1)) (atG3 m c n))).trans (by rw [pt_val ⟨n + 1, hn⟩]; rfl)
theorem atG2_ge (c : Dev nD) (t : Fin cfg0.N) (h : 24 ≤ t.val) : atG2 m c t.val = stepG2 m c t (atG2 m c (t.val - 1)) := by
  obtain ⟨n, hn⟩ := t
  cases n with
  | zero => exact absurd h (Nat.not_le.mpr (show 0 < 24 by decide))
  | succ n => exact ((by rw [atG2, if_neg (Nat.not_lt.mpr h)] :
      atG2 m c (n + 1) = stepG2 m c (pt (n + 1)) (atG2 m c n))).trans (by rw [pt_val ⟨n + 1, hn⟩]; rfl)

/-- A first-shard store takes nothing of what the chunk held. -/
theorem acc0_one (df : Vec F S512x1024 .bf16) (g u : Vec F S1x512x704 .bf16) (wg wu wd : Vec F S1x704x1024 .bf16) (o o' : Vec F S256x1024 .f32) :
    acc0 df g u wg wu wd 1#1 o = acc0 df g u wg wu wd 1#1 o' := rfl
theorem acc1_one (df : Vec F S512x1024 .bf16) (g u : Vec F S1x512x704 .bf16) (wg wu wd : Vec F S1x704x1024 .bf16) (o o' : Vec F S256x1024 .f32) :
    acc1 df g u wg wu wd 1#1 o = acc1 df g u wg wu wd 1#1 o' := rfl

/-! ## The accumulator between points -/

/-- Before point `n`, the accumulator holds each row tile's running sums: of the last eight points before `n` among the first 24. -/
def Inv (c : Dev nD) (n : ℕ) (S : Vec F S4096x1024 .f32) : Prop :=
  ∀ s : ℕ, s < n → (n ≤ s + 8 ∨ 16 ≤ s) → s < 24 → ∀ (h0 : 512 * (s % 8) + 256 ≤ 4096) (h1 : 512 * (s % 8) + 256 + 256 ≤ 4096),
    rows S (512 * (s % 8)) h0 = accLo m c (s % 8) (s / 8) ∧ rows S (512 * (s % 8) + 256) h1 = accHi m c (s % 8) (s / 8)

theorem cond1_iff : ∀ t : Fin grid0.N, k0_cond1 (grid0.coords t) = 1#1 ↔ t.val = 0 := by decide +kernel
theorem cond2_iff : ∀ t : Fin grid0.N, k0_cond2 (grid0.coords t) = 1#1 ↔ t.val < 24 := by decide +kernel
theorem cond3_iff : ∀ t : Fin grid0.N, k0_cond3 (grid0.coords t) = 1#1 ↔ 24 ≤ t.val := by decide +kernel
theorem first_iff : ∀ t : Fin grid0.N, Scalar.cmpi .eq (BitVec.ofNat 32 (grid0.coords t 0).val) 0#32 = if t.val < 8 then 1#1 else 0#1 := by decide +kernel
theorem off1_0 : ∀ t : Fin grid0.N, k0_off1 (grid0.coords t) 0#32 = ![512 * (t.val % 8), 0] := by decide +kernel
theorem off1_1 : ∀ t : Fin grid0.N, k0_off1 (grid0.coords t) 256#32 = ![512 * (t.val % 8) + 256, 0] := by decide +kernel
theorem off2_0 : ∀ t : Fin grid0.N, k0_off2 (grid0.coords t) 0#32 = ![512 * (t.val % 8), 0] := by decide +kernel
theorem off2_1 : ∀ t : Fin grid0.N, k0_off2 (grid0.coords t) 256#32 = ![512 * (t.val % 8) + 256, 0] := by decide +kernel

theorem ho0 (n : ℕ) : 512 * (n % 8) + 256 ≤ 4096 := by omega
theorem ho1 (n : ℕ) : 512 * (n % 8) + 256 + 256 ≤ 4096 := by omega

/-- One point of the first three shards keeps the invariant. -/
theorem Inv.step {c : Dev nD} {t : Fin cfg0.N} (ht : t.val < 24) {S S' : Vec F S4096x1024 .f32} (hS : Inv m c t.val S)
    (h0 : rows S' (512 * (t.val % 8)) (ho0 _) = acc0 (iblk m c 0 t) (iblk m c 1 t) (iblk m c 2 t) (iblk m c 3 t) (iblk m c 4 t) (iblk m c 5 t) (Scalar.cmpi .eq (BitVec.ofNat 32 (grid0.coords t 0).val) 0#32) (rows S (512 * (t.val % 8)) (ho0 _)))
    (h1 : rows S' (512 * (t.val % 8) + 256) (ho1 _) = acc1 (iblk m c 0 t) (iblk m c 1 t) (iblk m c 2 t) (iblk m c 3 t) (iblk m c 4 t) (iblk m c 5 t) (Scalar.cmpi .eq (BitVec.ofNat 32 (grid0.coords t 0).val) 0#32) (rows S (512 * (t.val % 8) + 256) (ho1 _)))
    (hoff : ∀ (p : ℕ) (hp : p + 256 ≤ 4096), p + 256 ≤ 512 * (t.val % 8) ∨ 512 * (t.val % 8) + 512 ≤ p → rows S' p hp = rows S p hp) :
    Inv m c (t.val + 1) S' := by
  intro s hs hs' hs24 e0 e1
  by_cases hst : s = t.val
  · subst hst
    rw [h0, h1, first_iff]
    by_cases h8 : t.val < 8
    · rw [if_pos h8, Nat.div_eq_of_lt h8]
      have hm : t.val % 8 = t.val := Nat.mod_eq_of_lt h8
      exact ⟨(acc0_one _ _ _ _ _ _ _ _).trans (by rw [accLo, hm, pt_val]),
        (acc1_one _ _ _ _ _ _ _ _).trans (by rw [accHi, hm, pt_val])⟩
    · rw [if_neg h8]
      have hd : t.val / 8 = (t.val - 8) / 8 + 1 := by omega
      have hm : (t.val - 8) % 8 = t.val % 8 := by omega
      have hp : 8 * ((t.val - 8) / 8 + 1) + t.val % 8 = t.val := by omega
      have := hS (t.val - 8) (by omega) (by omega) (by omega)
      rw [hm] at this
      obtain ⟨a, b⟩ := this e0 e1
      rw [hd, accLo, accHi, hp, pt_val, a, b]
      exact ⟨rfl, rfl⟩
  · have hd : s % 8 ≠ t.val % 8 := by omega
    obtain ⟨a, b⟩ := hS s (by omega) (by omega) hs24 e0 e1
    exact ⟨(hoff _ _ (by omega)).trans a, (hoff _ _ (by omega)).trans b⟩

/-- The points of the last shard leave the accumulator alone. -/
theorem Inv.keep {c : Dev nD} {n : ℕ} (hn : 24 ≤ n) {S : Vec F S4096x1024 .f32} (hS : Inv m c n S) : Inv m c (n + 1) S :=
  fun s hs hs' hs24 => hS s (by omega) (by omega) hs24

/-- What a point of the last shard reads of the accumulator. -/
theorem Inv.last {c : Dev nD} {t : Fin cfg0.N} (ht : 24 ≤ t.val) {S : Vec F S4096x1024 .f32} (hS : Inv m c t.val S) :
    rows S (512 * (t.val % 8)) (ho0 _) = accLo m c (t.val % 8) 2 ∧ rows S (512 * (t.val % 8) + 256) (ho1 _) = accHi m c (t.val % 8) 2 := by
  have := hS (16 + t.val % 8) (by omega) (by omega) (by omega)
  rw [show (16 + t.val % 8) % 8 = t.val % 8 by omega, show (16 + t.val % 8) / 8 = 2 by omega] at this
  exact this _ _

/-- The region's invariant before position `n`: the accumulator as `Inv` says, and the generator register at some state. -/
def Phi (c : Dev nD) (n : ℕ) : sProp 𝕄 :=
  iprop((∃ S : Vec F S4096x1024 .f32, ⌜Inv m c n S⌝ ∗ owns (c : Thread nD τ) (Memref.whole cc0_scratch0) fullShare S) ∗ ∃ r, prngReg c r)

/-! ## The pipeline's proof data -/

/-- The arrays as the region finds them; after the body at point `t` each input's buffer at its block and the outputs' at the closed forms. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => atDg m c t
    | ⟨12, _⟩ => atDu m c t
    | ⟨13, _⟩ => atDx m c t
    | ⟨14, _⟩ => atDm m c t
    | ⟨15, _⟩ => atG3 m c t.val
    | ⟨16, _⟩ => atG2 m c t.val
    | ⟨_ + 17, h⟩ => absurd h (Nat.not_lt.2 (Nat.le_add_left _ _))
  Φ t := Phi m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = atDg m c t := by dsimp only [dats]
theorem after0_12 (c : Dev nD) (t : Fin cfg0.N) : (dats m 0 c).after 12 t = atDu m c t := by dsimp only [dats]
theorem after0_13 (c : Dev nD) (t : Fin cfg0.N) : (dats m 0 c).after 13 t = atDx m c t := by dsimp only [dats]
theorem after0_14 (c : Dev nD) (t : Fin cfg0.N) : (dats m 0 c).after 14 t = atDm m c t := by dsimp only [dats]
theorem after0_15 (c : Dev nD) (t : Fin cfg0.N) : (dats m 0 c).after 15 t = atG3 m c t.val := by dsimp only [dats]
theorem after0_16 (c : Dev nD) (t : Fin cfg0.N) : (dats m 0 c).after 16 t = atG2 m c t.val := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d

/-- At which points the body stores nothing into an output's buffer. -/
theorem idle_13 : ∀ t : Fin grid0.N, idle0 13 (grid0.coords t) = true ↔ t.val < 24 := by decide +kernel
theorem idle_15 : ∀ t : Fin grid0.N, idle0 15 (grid0.coords t) = true ↔ 0 < t.val ∧ t.val < 24 := by decide +kernel
theorem flush_13 : ∀ t : Fin grid0.N, win0_13.flush t = true ↔ 24 ≤ t.val := by decide +kernel
theorem flush_14 : ∀ t : Fin grid0.N, win0_14.flush t = true ↔ 24 ≤ t.val := by decide +kernel

/-- After the first point output 15's buffer holds what the point before left. -/
theorem before0_15 (c : Dev nD) (d) : ∀ n (hn : n < cfg0.N), n ≠ 0 → (dats m 0 c).before 15 ⟨n, hn⟩ d = atG3 m c (n - 1)
  | 0, _, h => absurd rfl h
  | n + 1, hn, _ => by
    have h32 : n + 1 < 32 := lt32 ⟨n + 1, hn⟩
    rw [Dat.before_of_pos _ 15 ⟨n + 1, hn⟩ (Nat.succ_ne_zero n) ((cfg0.win 15).fetch_out rfl _),
      if_neg (fun h => by have := (flush0_15 _).mp h; dsimp only at this; omega)]
    show (dats m 0 c).left 15 ⟨n, Nat.lt_of_succ_lt hn⟩ d = atG3 m c n
    unfold Dat.left
    have hi : cfg0.idle 15 (cfg0.grid.coords ⟨n, Nat.lt_of_succ_lt hn⟩) = decide (0 < n ∧ n < 24) := by
      rw [Bool.eq_iff_iff, decide_eq_true_eq]; exact idle_15 ⟨n, Nat.lt_of_succ_lt hn⟩
    rw [hi]
    by_cases h : 0 < n ∧ n < 24
    · rw [decide_eq_true h]
      refine (before0_15 c d n (Nat.lt_of_succ_lt hn) (by omega)).trans ?_
      rw [atG3_lt m c h.2, atG3_lt m c (by omega)]
    · rw [decide_eq_false h]
      show (dats m 0 c).kept 15 ⟨n, _⟩ d = _
      unfold Dat.kept
      rw [Pipeline.fill_of_clip_none (cfg := cfg0) 15 _ (fun _ => rfl) d ((dats m 0 c).after 15 ⟨n, Nat.lt_of_succ_lt hn⟩), Pipeline.Window.fill_cut, after0_15]

/-- After the first point output 16's buffer holds what the point before left. -/
theorem before0_16 (c : Dev nD) (d) : ∀ n (hn : n < cfg0.N), n ≠ 0 → (dats m 0 c).before 16 ⟨n, hn⟩ d = atG2 m c (n - 1)
  | 0, _, h => absurd rfl h
  | n + 1, hn, _ => by
    have h32 : n + 1 < 32 := lt32 ⟨n + 1, hn⟩
    rw [Dat.before_of_pos _ 16 ⟨n + 1, hn⟩ (Nat.succ_ne_zero n) ((cfg0.win 16).fetch_out rfl _),
      if_neg (fun h => by have := (flush0_16 _).mp h; dsimp only at this; omega)]
    show (dats m 0 c).left 16 ⟨n, Nat.lt_of_succ_lt hn⟩ d = atG2 m c n
    unfold Dat.left
    have hi : cfg0.idle 16 (cfg0.grid.coords ⟨n, Nat.lt_of_succ_lt hn⟩) = decide (0 < n ∧ n < 24) := by
      rw [Bool.eq_iff_iff, decide_eq_true_eq]; exact idle_15 ⟨n, Nat.lt_of_succ_lt hn⟩
    rw [hi]
    by_cases h : 0 < n ∧ n < 24
    · rw [decide_eq_true h]
      refine (before0_16 c d n (Nat.lt_of_succ_lt hn) (by omega)).trans ?_
      rw [atG2_lt m c h.2, atG2_lt m c (by omega)]
    · rw [decide_eq_false h]
      show (dats m 0 c).kept 16 ⟨n, _⟩ d = _
      unfold Dat.kept
      rw [Pipeline.fill_of_clip_none (cfg := cfg0) 16 _ (fun _ => rfl) d ((dats m 0 c).after 16 ⟨n, Nat.lt_of_succ_lt hn⟩), Pipeline.Window.fill_cut, after0_16]

end Cert.FfnBody

end
-- ==== Proof.FfnFrame.lean ====
/- The feed-forward backward pipeline: its body obligation, its run and its frame. -/
module

public import proofs.«01_k».proof.Proof.FfnDats
public import Idealize.ShloMosaic.Lib.Claim

@[expose] public section

set_option maxRecDepth 16384

noncomputable section

namespace Cert.FfnBody

open Cert.FfnBwdIdeal Cert.FfnBwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What becomes of output 13's buffer: as found where the body stores nothing into it. -/
def kept13 (c : Dev nD) (t : Fin cfg0.N) : sProp 𝕄 :=
  if t.val < 24 then iprop(∃ d, owns (c : Thread nD τ) (st0_13 t) fullShare ((dats m 0 c).before 13 t d))
  else owns (c : Thread nD τ) (st0_13 t) fullShare ((dats m 0 c).after 13 t)

theorem kept13_eq (c : Dev nD) (t : Fin cfg0.N) : kept13 m c t =
    (match cfg0.idle 13 (cfg0.grid.coords t) with
      | true => match (cfg0.win 13).flush t with
        | false => iprop(∃ d, owns (c : Thread nD τ) (st0_13 t) fullShare ((dats m 0 c).before 13 t d))
        | true => owns (c : Thread nD τ) (st0_13 t) fullShare ((dats m 0 c).after 13 t)
      | false => owns (c : Thread nD τ) (st0_13 t) fullShare ((dats m 0 c).after 13 t)) := by
  have hi : cfg0.idle 13 (cfg0.grid.coords t) = decide (t.val < 24) := by rw [Bool.eq_iff_iff, decide_eq_true_eq]; exact idle_13 t
  have hf : (cfg0.win 13).flush t = decide (24 ≤ t.val) := by rw [Bool.eq_iff_iff, decide_eq_true_eq]; exact flush_13 t
  rw [hi, hf]
  unfold kept13
  by_cases h : t.val < 24
  · rw [if_pos h, decide_eq_true h, decide_eq_false (show ¬(24 ≤ t.val) by omega)]
  · rw [if_neg h, decide_eq_false h]

/-- What becomes of output 14's buffer: as found where the body stores nothing into it. -/
def kept14 (c : Dev nD) (t : Fin cfg0.N) : sProp 𝕄 :=
  if t.val < 24 then iprop(∃ d, owns (c : Thread nD τ) (st0_14 t) fullShare ((dats m 0 c).before 14 t d))
  else owns (c : Thread nD τ) (st0_14 t) fullShare ((dats m 0 c).after 14 t)

theorem kept14_eq (c : Dev nD) (t : Fin cfg0.N) : kept14 m c t =
    (match cfg0.idle 14 (cfg0.grid.coords t) with
      | true => match (cfg0.win 14).flush t with
        | false => iprop(∃ d, owns (c : Thread nD τ) (st0_14 t) fullShare ((dats m 0 c).before 14 t d))
        | true => owns (c : Thread nD τ) (st0_14 t) fullShare ((dats m 0 c).after 14 t)
      | false => owns (c : Thread nD τ) (st0_14 t) fullShare ((dats m 0 c).after 14 t)) := by
  have hi : cfg0.idle 14 (cfg0.grid.coords t) = decide (t.val < 24) := by rw [Bool.eq_iff_iff, decide_eq_true_eq]; exact idle_13 t
  have hf : (cfg0.win 14).flush t = decide (24 ≤ t.val) := by rw [Bool.eq_iff_iff, decide_eq_true_eq]; exact flush_14 t
  rw [hi, hf]
  unfold kept14
  by_cases h : t.val < 24
  · rw [if_pos h, decide_eq_true h, decide_eq_false (show ¬(24 ≤ t.val) by omega)]
  · rw [if_neg h, decide_eq_false h]

/-- What becomes of output 15's buffer: as found where the body stores nothing into it. -/
def kept15 (c : Dev nD) (t : Fin cfg0.N) : sProp 𝕄 :=
  if 0 < t.val ∧ t.val < 24 then iprop(∃ d, owns (c : Thread nD τ) (st0_15 t) fullShare ((dats m 0 c).before 15 t d))
  else owns (c : Thread nD τ) (st0_15 t) fullShare ((dats m 0 c).after 15 t)

theorem kept15_eq (c : Dev nD) (t : Fin cfg0.N) : kept15 m c t =
    (match cfg0.idle 15 (cfg0.grid.coords t) with
      | true => match (cfg0.win 15).flush t with
        | false => iprop(∃ d, owns (c : Thread nD τ) (st0_15 t) fullShare ((dats m 0 c).before 15 t d))
        | true => owns (c : Thread nD τ) (st0_15 t) fullShare ((dats m 0 c).after 15 t)
      | false => owns (c : Thread nD τ) (st0_15 t) fullShare ((dats m 0 c).after 15 t)) := by
  have hi : cfg0.idle 15 (cfg0.grid.coords t) = decide (0 < t.val ∧ t.val < 24) := by rw [Bool.eq_iff_iff, decide_eq_true_eq]; exact idle_15 t
  have hf : (cfg0.win 15).flush t = decide (t.val % 32 = 31) := by rw [Bool.eq_iff_iff, decide_eq_true_eq]; exact flush0_15 t
  rw [hi, hf]
  unfold kept15
  by_cases h : 0 < t.val ∧ t.val < 24
  · rw [if_pos h, decide_eq_true h, decide_eq_false (show ¬(t.val % 32 = 31) by omega)]
  · rw [if_neg h, decide_eq_false h]

/-- What becomes of output 16's buffer: as found where the body stores nothing into it. -/
def kept16 (c : Dev nD) (t : Fin cfg0.N) : sProp 𝕄 :=
  if 0 < t.val ∧ t.val < 24 then iprop(∃ d, owns (c : Thread nD τ) (st0_16 t) fullShare ((dats m 0 c).before 16 t d))
  else owns (c : Thread nD τ) (st0_16 t) fullShare ((dats m 0 c).after 16 t)

theorem kept16_eq (c : Dev nD) (t : Fin cfg0.N) : kept16 m c t =
    (match cfg0.idle 16 (cfg0.grid.coords t) with
      | true => match (cfg0.win 16).flush t with
        | false => iprop(∃ d, owns (c : Thread nD τ) (st0_16 t) fullShare ((dats m 0 c).before 16 t d))
        | true => owns (c : Thread nD τ) (st0_16 t) fullShare ((dats m 0 c).after 16 t)
      | false => owns (c : Thread nD τ) (st0_16 t) fullShare ((dats m 0 c).after 16 t)) := by
  have hi : cfg0.idle 16 (cfg0.grid.coords t) = decide (0 < t.val ∧ t.val < 24) := by rw [Bool.eq_iff_iff, decide_eq_true_eq]; exact idle_15 t
  have hf : (cfg0.win 16).flush t = decide (t.val % 32 = 31) := by rw [Bool.eq_iff_iff, decide_eq_true_eq]; exact flush0_16 t
  rw [hi, hf]
  unfold kept16
  by_cases h : 0 < t.val ∧ t.val < 24
  · rw [if_pos h, decide_eq_true h, decide_eq_false (show ¬(t.val % 32 = 31) by omega)]
  · rw [if_neg h, decide_eq_false h]

/-- Output 11's buffer is stored into at every point. -/
theorem idle_11 : ∀ t : Fin grid0.N, idle0 11 (grid0.coords t) = false := by decide +kernel

theorem stored11_eq (c : Dev nD) (t : Fin cfg0.N) : (owns (c : Thread nD τ) (st0_11 t) fullShare ((dats m 0 c).after 11 t) : sProp 𝕄) =
    (match cfg0.idle 11 (cfg0.grid.coords t) with
      | true => match (cfg0.win 11).flush t with
        | false => iprop(∃ d, owns (c : Thread nD τ) (st0_11 t) fullShare ((dats m 0 c).before 11 t d))
        | true => owns (c : Thread nD τ) (st0_11 t) fullShare ((dats m 0 c).after 11 t)
      | false => owns (c : Thread nD τ) (st0_11 t) fullShare ((dats m 0 c).after 11 t)) := by
  rw [show cfg0.idle 11 (cfg0.grid.coords t) = false from idle_11 t]

/-- Output 12's buffer is stored into at every point. -/
theorem idle_12 : ∀ t : Fin grid0.N, idle0 12 (grid0.coords t) = false := by decide +kernel

theorem stored12_eq (c : Dev nD) (t : Fin cfg0.N) : (owns (c : Thread nD τ) (st0_12 t) fullShare ((dats m 0 c).after 12 t) : sProp 𝕄) =
    (match cfg0.idle 12 (cfg0.grid.coords t) with
      | true => match (cfg0.win 12).flush t with
        | false => iprop(∃ d, owns (c : Thread nD τ) (st0_12 t) fullShare ((dats m 0 c).before 12 t d))
        | true => owns (c : Thread nD τ) (st0_12 t) fullShare ((dats m 0 c).after 12 t)
      | false => owns (c : Thread nD τ) (st0_12 t) fullShare ((dats m 0 c).after 12 t)) := by
  rw [show cfg0.idle 12 (cfg0.grid.coords t) = false from idle_12 t]

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ kept13 m c t ∗ kept14 m c t ∗ kept15 m c t ∗ kept16 m c t)

set_option maxHeartbeats 4000000 in
/-- The body at any point: the runs' cases by the point, the pieces read in closed form, the accumulator's rows carried. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10]
  rw [show (dats m 0 c).Φ t.succ = Phi m c (t.val + 1) from rfl, show (dats m 0 c).Φ t.castSucc = Phi m c t.val from rfl,
    show (dats m 0 c).owesAt () t.succ = (dats m 0 c).owesAt () t.castSucc from rfl,
    after0_0, after0_1, after0_2, after0_3, after0_4, after0_5, after0_6, after0_7, after0_8, after0_9, after0_10, after0_11, after0_12]
  have hN : t.val < 32 := lt32 t
  unfold Phi
  by_cases h24 : t.val < 24
  · have hc2 := (cond2_iff t).mpr h24
    have hc3 : ¬k0_cond3 (grid0.coords t) = 1#1 := fun h => by have := (cond3_iff t).mp h; omega
    unfold kept13 kept14 kept15 kept16
    rw [if_pos h24, if_pos h24]
    by_cases h0 : t.val = 0
    · have hc1 := (cond1_iff t).mpr h0
      have hn : ¬(0 < t.val ∧ t.val < 24) := fun h => absurd h0 (Nat.pos_iff_ne_zero.mp h.1)
      rw [if_neg hn, if_neg hn, after0_15, after0_16]
      iintro ⟨⟨⟨%S, %hS, HS⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
      iapply ((runA c (grid0.coords t) _ _ _ _ _ _ _ _ _ _ _ _ _ _ _ _ _ _ _ _ _ _ _ _ _ _ _ _ _ _ _ _ _ _ _ _ hc1 hc2 hc3 (iblk m c 0 t) (iblk m c 1 t) (iblk m c 2 t) (iblk m c 3 t) (iblk m c 4 t) (iblk m c 5 t) S).2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H11]; · iexists _; iexact H11
      isplitl [H12]; · iexists _; iexact H12
      isplitl [H15]; · iexists _; iexact H15
      isplitl [H16]; · iexists _; iexact H16
      isplitl [HS]; · iexact HS
      iintro ⟨H0, H1, H2, H3, H4, H5, ⟨%e11, H11⟩, ⟨%e12, H12⟩, ⟨%e15, H15⟩, ⟨%e16, H16⟩, HS⟩
      isplitl [HS Hr]
      · isplitl [HS]
        · iexists _; isplitr
          swap
          · unfold owns; iexists _; isplitr
            swap; · iexact HS
            ipureintro; rfl
          ipureintro
          exact Inv.step m h24 hS (Aacc0 (h0 := off1_0 t) (h1 := off1_1 t) ..) (Aacc1 (h0 := off1_0 t) (h1 := off1_1 t) ..)
            (fun p hp hop => Aoff (h0 := off1_0 t) (h1 := off1_1 t) (hop := hop) ..)
        iexact Hr
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]
      · unfold owns; iexists _; isplitr
        swap; · iexact H11
        ipureintro; exact A11 (f := e11) ..
      isplitl [H12]
      · unfold owns; iexists _; isplitr
        swap; · iexact H12
        ipureintro; exact A12 (f := e12) ..
      isplitl [H13]; · iexists _; iexact H13
      isplitl [H14]; · iexists _; iexact H14
      isplitl [H15]
      · unfold owns; iexists _; isplitr
        swap; · iexact H15
        ipureintro; exact (A15 (f := e15) ..).trans (by rw [atG3_lt m c h24])
      unfold owns; iexists _; isplitr
      swap; · iexact H16
      ipureintro; exact (A16 (f := e16) ..).trans (by rw [atG2_lt m c h24])
    · have hc1 : ¬k0_cond1 (grid0.coords t) = 1#1 := fun h => h0 ((cond1_iff t).mp h)
      have hp : 0 < t.val ∧ t.val < 24 := ⟨Nat.pos_of_ne_zero h0, h24⟩
      rw [if_pos hp, if_pos hp]
      iintro ⟨⟨⟨%S, %hS, HS⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
      iapply ((runB c (grid0.coords t) _ _ _ _ _ _ _ _ _ _ _ _ _ _ _ _ _ _ _ _ _ _ _ _ _ _ _ _ _ _ _ _ _ _ _ _ hc1 hc2 hc3 (iblk m c 0 t) (iblk m c 1 t) (iblk m c 2 t) (iblk m c 3 t) (iblk m c 4 t) (iblk m c 5 t) S).2.2.2 Set.univ _)
      isplitl [H0]; · iexact H0
      isplitl [H1]; · iexact H1
      isplitl [H2]; · iexact H2
      isplitl [H3]; · iexact H3
      isplitl [H4]; · iexact H4
      isplitl [H5]; · iexact H5
      isplitl [H11]; · iexists _; iexact H11
      isplitl [H12]; · iexists _; iexact H12
      isplitl [HS]; · iexact HS
      iintro ⟨H0, H1, H2, H3, H4, H5, ⟨%e11, H11⟩, ⟨%e12, H12⟩, HS⟩
      isplitl [HS Hr]
      · isplitl [HS]
        · iexists _; isplitr
          swap
          · unfold owns; iexists _; isplitr
            swap; · iexact HS
            ipureintro; rfl
          ipureintro
          exact Inv.step m h24 hS (Bacc0 (h0 := off1_0 t) (h1 := off1_1 t) ..) (Bacc1 (h0 := off1_0 t) (h1 := off1_1 t) ..)
            (fun p hp hop => Boff (h0 := off1_0 t) (h1 := off1_1 t) (hop := hop) ..)
        iexact Hr
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]
      · unfold owns; iexists _; isplitr
        swap; · iexact H11
        ipureintro; exact B11 (f := e11) ..
      isplitl [H12]
      · unfold owns; iexists _; isplitr
        swap; · iexact H12
        ipureintro; exact B12 (f := e12) ..
      isplitl [H13]; · iexists _; iexact H13
      isplitl [H14]; · iexists _; iexact H14
      isplitl [H15]; · iexists _; iexact H15
      iexists _; iexact H16
  · have h24' : 24 ≤ t.val := Nat.not_lt.mp h24
    have hc1 : ¬k0_cond1 (grid0.coords t) = 1#1 := fun h => by have := (cond1_iff t).mp h; omega
    have hc2 : ¬k0_cond2 (grid0.coords t) = 1#1 := fun h => h24 ((cond2_iff t).mp h)
    have hc3 := (cond3_iff t).mpr h24'
    have hn : ¬(0 < t.val ∧ t.val < 24) := fun h => h24 h.2
    unfold kept13 kept14 kept15 kept16
    rw [if_neg h24, if_neg h24, if_neg hn, if_neg hn, after0_13, after0_14, after0_15, after0_16]
    have b15 : ∀ d, (dats m 0 c).before 15 t d = atG3 m c (t.val - 1) := fun d => before0_15 m c d t.val t.isLt (by omega)
    have b16 : ∀ d, (dats m 0 c).before 16 t d = atG2 m c (t.val - 1) := fun d => before0_16 m c d t.val t.isLt (by omega)
    simp only [b15, b16]
    iintro ⟨⟨⟨%S, %hS, HS⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
    obtain ⟨r0, r1⟩ := Inv.last m h24' hS
    iapply ((runC c (grid0.coords t) _ _ _ _ _ _ _ _ _ _ _ _ _ _ _ _ _ _ _ _ _ _ _ _ _ _ _ _ _ _ _ _ _ _ _ _ hc1 hc2 hc3 (iblk m c 0 t) (iblk m c 1 t) (iblk m c 2 t) (iblk m c 3 t) (iblk m c 4 t) (iblk m c 5 t) (iblk m c 6 t) (iblk m c 7 t) (iblk m c 8 t) (iblk m c 9 t) (iblk m c 10 t) (atG3 m c (t.val - 1)) (atG2 m c (t.val - 1)) S).2.2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexists _; iexact H11
    isplitl [H12]; · iexists _; iexact H12
    isplitl [H13]; · iexists _; iexact H13
    isplitl [H14]; · iexists _; iexact H14
    isplitl [H15]; · iexact H15
    isplitl [H16]; · iexact H16
    isplitl [HS]; · iexact HS
    iintro ⟨H0, H1, H2, H3, H4, H5, H6, H7, H8, H9, H10, ⟨%e11, H11⟩, ⟨%e12, H12⟩, ⟨%e13, H13⟩, ⟨%e14, H14⟩, ⟨%e15, H15⟩, ⟨%e16, H16⟩, HS⟩
    isplitl [HS Hr]
    · isplitl [HS]
      · iexists S; isplitr
        · ipureintro; exact Inv.keep m h24' hS
        iexact HS
      iexact Hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]
    · unfold owns; iexists _; isplitr
      swap; · iexact H11
      ipureintro; exact C11 (f := e11) ..
    isplitl [H12]
    · unfold owns; iexists _; isplitr
      swap; · iexact H12
      ipureintro; exact C12 (f := e12) ..
    isplitl [H13]
    · unfold owns; iexists _; isplitr
      swap; · iexact H13
      ipureintro; exact (C13 (ho := ho1 t.val) (h0 := off2_0 t) (h1 := off2_1 t) (f := e13) ..).trans (by rw [r0, r1]; rfl)
    isplitl [H14]
    · unfold owns; iexists _; isplitr
      swap; · iexact H14
      ipureintro; exact (C14 (ho := ho1 t.val) (h0 := off2_0 t) (h1 := off2_1 t) (f := e14) ..).trans (by rw [r0, r1]; rfl)
    isplitl [H15]
    · unfold owns; iexists _; isplitr
      swap; · iexact H15
      ipureintro; exact (C15 (ho := ho1 t.val) (h0 := off2_0 t) (h1 := off2_1 t) (f := e15) ..).trans (by rw [r0, r1, atG3_ge m c t h24']; rfl)
    unfold owns; iexists _; isplitr
    swap; · iexact H16
    ipureintro; exact (C16 (ho := ho1 t.val) (h0 := off2_0 t) (h1 := off2_1 t) (f := e16) ..).trans (by rw [r0, r1, atG2_ge m c t h24']; rfl)

/-- The body table's row at point `t`'s slots is the body. -/
theorem defs₀_row (t : Fin cfg0.N) :
    defs₀ (F := F) .tc cfg0.body (cfg0.bodyArgs t (cfg0.slots t)) = bodyAt0 t := by
  unfold defs₀; rw [Defs.onTc_tc]

/-- The body obligation, at every point. -/
theorem body_obligation (c : Dev nD) : BodyObligation (dats (F := F) m 0 c) (defs₀ (F := F)) Variants.none () Set.univ := fun t => by
  rw [bigSep_W0, bigSep_W0, defs₀_row]
  refine triple_restated (sound_body m c t) rfl .rfl fun _ => ?_
  unfold bodyPost
  refine Idealize.SL.BI.Laws.sep_mono BIBase.Entails.rfl ?_
  refine Idealize.SL.BI.Laws.sep_mono BIBase.Entails.rfl ?_
  refine Idealize.SL.BI.Laws.sep_mono BIBase.Entails.rfl ?_
  refine Idealize.SL.BI.Laws.sep_mono BIBase.Entails.rfl ?_
  refine Idealize.SL.BI.Laws.sep_mono BIBase.Entails.rfl ?_
  refine Idealize.SL.BI.Laws.sep_mono BIBase.Entails.rfl ?_
  refine Idealize.SL.BI.Laws.sep_mono BIBase.Entails.rfl ?_
  refine Idealize.SL.BI.Laws.sep_mono BIBase.Entails.rfl ?_
  refine Idealize.SL.BI.Laws.sep_mono BIBase.Entails.rfl ?_
  refine Idealize.SL.BI.Laws.sep_mono BIBase.Entails.rfl ?_
  refine Idealize.SL.BI.Laws.sep_mono BIBase.Entails.rfl ?_
  refine Idealize.SL.BI.Laws.sep_mono BIBase.Entails.rfl ?_
  refine Idealize.SL.BI.Laws.sep_mono BIBase.Entails.rfl ?_
  refine Idealize.SL.BI.Laws.sep_mono (BIBase.Entails.of_eq (stored11_eq m c t)) ?_
  refine Idealize.SL.BI.Laws.sep_mono (BIBase.Entails.of_eq (stored12_eq m c t)) ?_
  refine Idealize.SL.BI.Laws.sep_mono (BIBase.Entails.of_eq (kept13_eq m c t)) ?_
  refine Idealize.SL.BI.Laws.sep_mono (BIBase.Entails.of_eq (kept14_eq m c t)) ?_
  refine Idealize.SL.BI.Laws.sep_mono (BIBase.Entails.of_eq (kept15_eq m c t)) ?_
  exact BIBase.Entails.of_eq (kept16_eq m c t)

/-! ## The run and the frame -/

/-- What the launch hands the region yields the invariant before the first point, -/
theorem phi_start (c : Dev nD) (n : ℕ) (hn : n = 0) : Pipeline.ΦA (Val := Elt F) (U := UR sig nD τ) spec0 c ⊢ Phi m c n := by
  subst hn
  unfold Pipeline.ΦA Phi
  rw [scopedRest0_eq]
  simp only [owns_whole]
  iintro ⟨⟨%f, Hf⟩, Hr⟩
  isplitl [Hf]
  · iexists f; isplitr
    · ipureintro; exact fun s hs => absurd hs (Nat.not_lt_zero s)
    iexact Hf
  iexact Hr

/-- and the invariant after the last point is forgotten. -/
theorem phi_end (c : Dev nD) (n : ℕ) : Phi m c n ⊢ Pipeline.ΦA spec0 c := by
  unfold Pipeline.ΦA Phi
  rw [scopedRest0_eq]
  simp only [owns_whole]
  iintro ⟨⟨%S, -, HS⟩, Hr⟩
  isplitl [HS]
  · iexists S; iexact HS
  iexact Hr

theorem phi_in (c : Dev nD) : Pipeline.ΦA spec0 c ⊢ (dats m 0 c).Φ 0 := phi_start m c _ (Fin.val_zero _)
theorem phi_out (c : Dev nD) : (dats m 0 c).Φ (Fin.last cfg0.N) ⊢ Pipeline.ΦA spec0 c := phi_end m c _

set_option backward.isDefEq.respectTransparency.types false in
/-- The launch: every run ends, every array of the pipeline at what the proof data says, every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun _ w => by fin_cases w <;> rfl)
    (howed := fun _ _ => rfl) (V := V m) (hmain := hmain m Variants.none) (hA := A_eq m) (hin := phi_in m) (hout := phi_out m)

theorem run_main : θ_run defs (onTc (τ := τ) (main (F := F))) (s₀ m ρ) (Pipeline.FramePost cfgs (dats m) 0 (V m)) :=
  (θ_run defs _ _).mono (fun _ h => h.1) (run_main_quiescent m ρ)

/-- The frame at any float instance: the arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (frame_of m ρ (dats m) (A_eq m) (run_main m ρ)) ((θ_run defs _ _).mono (fun _ h => h.2) (run_main_quiescent m ρ))

end Cert.FfnBody

end
-- ==== Proof.FfnArray.lean ====
module

public import proofs.«01_k».proof.Proof.FfnChunk
public import proofs.«01_k».proof.Proof.FfnFrame
public import Idealize.ShloMosaic.Lib.Pipeline.ValueKit

/- The feed-forward gradient's formulas over whole arrays, and what each grid point computes of them. -/

set_option maxRecDepth 16384

@[expose] public section

noncomputable section

namespace Cert.FfnBody

open Idealize.ShloMosaic Idealize.ShloMosaic.TcCoe Idealize.SL.Sem
open Cert.FfnBwdIdeal Cert.FfnBwdIdeal.Gen

/-! ## The formulas -/

/-- The pipeline's eleven input arrays. -/
structure Arrs where
  df : S4096x1024.Idx → EReal
  g : S4x4096x704.Idx → EReal
  u : S4x4096x704.Idx → EReal
  wg : S4x704x1024.Idx → EReal
  wu : S4x704x1024.Idx → EReal
  wd : S4x704x1024.Idx → EReal
  dy : S4096x1024.Idx → EReal
  x : S4096x1024.Idx → EReal
  mix : S4096x1024.Idx → EReal
  g3 : S1x1024.Idx → EReal
  g2 : S1x1024.Idx → EReal

namespace Arrs

variable (A : Arrs)

/-- The gate factor's gradient. -/
def DG (j : Fin 4) (a : Fin 4096) (f : Fin 704) : EReal :=
  dgE (fun q => A.df (ix2 a q)) (fun q => A.wd (ix3 j f q)) (A.g (ix3 j a f)) (A.u (ix3 j a f))
/-- The up factor's gradient. -/
def DU (j : Fin 4) (a : Fin 4096) (f : Fin 704) : EReal :=
  duE (fun q => A.df (ix2 a q)) (fun q => A.wd (ix3 j f q)) (A.g (ix3 j a f))
/-- A shard's part of the gradient at the normed rows. -/
def CON (j : Fin 4) (a : Fin 4096) (k : Fin 1024) : EReal :=
  conE (A.DG j a) (A.DU j a) (fun f => A.wg (ix3 j f k)) (fun f => A.wu (ix3 j f k))
/-- The gradient at the normed rows. -/
def DH (a : Fin 4096) (k : Fin 1024) : EReal := A.CON 0 a k + A.CON 1 a k + A.CON 2 a k + A.CON 3 a k
/-- The gradient at the rows before the norm. -/
def DX (a : Fin 4096) (k : Fin 1024) : EReal :=
  A.dy (ix2 a k) + bwdE (A.DH a) (fun q => A.g3 (ix2 0 q)) (fun q => A.x (ix2 a q)) k
/-- The gradient at the mixer's rows. -/
def DM (a : Fin 4096) (k : Fin 1024) : EReal := bwdE (A.DX a) (fun q => A.g2 (ix2 0 q)) (fun q => A.mix (ix2 a q)) k
/-- A row's part of the feed-forward scale's gradient. -/
def R3 (a : Fin 4096) (k : Fin 1024) : EReal := A.DH a k * nE (fun q => A.x (ix2 a q)) k
/-- A row's part of the mixer scale's gradient. -/
def R2 (a : Fin 4096) (k : Fin 1024) : EReal := A.DX a k * nE (fun q => A.mix (ix2 a q)) k

end Arrs

/-! ## The blocks -/

theorem idx : ∀ t : Fin cfg0.N, win0_0.index t = ![t.val % 8, 0] ∧ win0_1.index t = ![t.val / 8, t.val % 8, 0]
    ∧ win0_2.index t = ![t.val / 8, t.val % 8, 0] ∧ win0_3.index t = ![t.val / 8, 0, 0] ∧ win0_4.index t = ![t.val / 8, 0, 0]
    ∧ win0_5.index t = ![t.val / 8, 0, 0] ∧ win0_6.index t = ![t.val % 8 * (t.val / 24), 0] ∧ win0_7.index t = ![t.val % 8 * (t.val / 24), 0]
    ∧ win0_8.index t = ![t.val % 8 * (t.val / 24), 0] ∧ win0_9.index t = ![0, 0] ∧ win0_10.index t = ![0, 0]
    ∧ win0_11.index t = ![t.val / 8, t.val % 8, 0] ∧ win0_12.index t = ![t.val / 8, t.val % 8, 0]
    ∧ win0_13.index t = ![t.val % 8 * (t.val / 24), 0] ∧ win0_14.index t = ![t.val % 8 * (t.val / 24), 0]
    ∧ win0_15.index t = ![0, 0] ∧ win0_16.index t = ![0, 0] ∧ t.val < 32 :=
  (by decide +kernel : ∀ t : Fin grid0.N, _)

/-- Row `r` of point `t`'s tile. -/
def row (t : Fin cfg0.N) (r : Fin 512) : Fin 4096 := ⟨512 * (t.val % 8) + r.val, by omega⟩
/-- Point `t`'s shard. -/
def shard (t : Fin cfg0.N) : Fin 4 := ⟨t.val / 8, by have := lt32 t; omega⟩

variable (m : (ℓ : Loc nD τ sig) → Buf (Elt Ideal) ℓ) (c : Dev nD)

/-- The input arrays as the region finds them. -/
def arrs : Arrs where
  df := V m c main_v40
  g := V m c main_v43
  u := V m c main_v46
  wg := V m c main_v34
  wu := V m c main_v36
  wd := V m c main_v38
  dy := V m c main_v47
  x := V m c main_v48
  mix := V m c main_v49
  g3 := V m c main_arg3
  g2 := V m c main_arg2

section blocks
variable (t : Fin cfg0.N)

theorem blk0 (r : Fin 512) (q : Fin 1024) : iblk m c 0 t (ix2 r q : S512x1024.Idx) = (arrs m c).df (ix2 (row t r) q) := by
  change _ = V m c main_v40 (ix2 (⟨512 * (t.val % 8) + r.val, by omega⟩ : Fin 4096) q : S4096x1024.Idx)
  blk_ext [iblk, idx t]
theorem blk1 (r : Fin 512) (f : Fin 704) : iblk m c 1 t (ix3 0 r f : S1x512x704.Idx) = (arrs m c).g (ix3 (shard t) (row t r) f) := by
  have ht := lt32 t
  change _ = V m c main_v43 (ix3 (⟨t.val / 8, by omega⟩ : Fin 4) (⟨512 * (t.val % 8) + r.val, by omega⟩ : Fin 4096) f : S4x4096x704.Idx)
  blk_ext [iblk, idx t]
theorem blk2 (r : Fin 512) (f : Fin 704) : iblk m c 2 t (ix3 0 r f : S1x512x704.Idx) = (arrs m c).u (ix3 (shard t) (row t r) f) := by
  have ht := lt32 t
  change _ = V m c main_v46 (ix3 (⟨t.val / 8, by omega⟩ : Fin 4) (⟨512 * (t.val % 8) + r.val, by omega⟩ : Fin 4096) f : S4x4096x704.Idx)
  blk_ext [iblk, idx t]
theorem blk3 (f : Fin 704) (k : Fin 1024) : iblk m c 3 t (ix3 0 f k : S1x704x1024.Idx) = (arrs m c).wg (ix3 (shard t) f k) := by
  have ht := lt32 t
  change _ = V m c main_v34 (ix3 (⟨t.val / 8, by omega⟩ : Fin 4) f k : S4x704x1024.Idx)
  blk_ext [iblk, idx t]
theorem blk4 (f : Fin 704) (k : Fin 1024) : iblk m c 4 t (ix3 0 f k : S1x704x1024.Idx) = (arrs m c).wu (ix3 (shard t) f k) := by
  have ht := lt32 t
  change _ = V m c main_v36 (ix3 (⟨t.val / 8, by omega⟩ : Fin 4) f k : S4x704x1024.Idx)
  blk_ext [iblk, idx t]
theorem blk5 (f : Fin 704) (k : Fin 1024) : iblk m c 5 t (ix3 0 f k : S1x704x1024.Idx) = (arrs m c).wd (ix3 (shard t) f k) := by
  have ht := lt32 t
  change _ = V m c main_v38 (ix3 (⟨t.val / 8, by omega⟩ : Fin 4) f k : S4x704x1024.Idx)
  blk_ext [iblk, idx t]
theorem blk6 (h : 24 ≤ t.val) (r : Fin 512) (q : Fin 1024) : iblk m c 6 t (ix2 r q : S512x1024.Idx) = (arrs m c).dy (ix2 (row t r) q) := by
  have ht := lt32 t
  have e : t.val / 24 = 1 := by omega
  change _ = V m c main_v47 (ix2 (⟨512 * (t.val % 8) + r.val, by omega⟩ : Fin 4096) q : S4096x1024.Idx)
  blk_ext [iblk, idx t, e]
theorem blk7 (h : 24 ≤ t.val) (r : Fin 512) (q : Fin 1024) : iblk m c 7 t (ix2 r q : S512x1024.Idx) = (arrs m c).x (ix2 (row t r) q) := by
  have ht := lt32 t
  have e : t.val / 24 = 1 := by omega
  change _ = V m c main_v48 (ix2 (⟨512 * (t.val % 8) + r.val, by omega⟩ : Fin 4096) q : S4096x1024.Idx)
  blk_ext [iblk, idx t, e]
theorem blk8 (h : 24 ≤ t.val) (r : Fin 512) (q : Fin 1024) : iblk m c 8 t (ix2 r q : S512x1024.Idx) = (arrs m c).mix (ix2 (row t r) q) := by
  have ht := lt32 t
  have e : t.val / 24 = 1 := by omega
  change _ = V m c main_v49 (ix2 (⟨512 * (t.val % 8) + r.val, by omega⟩ : Fin 4096) q : S4096x1024.Idx)
  blk_ext [iblk, idx t, e]
theorem blk9 (q : Fin 1024) : iblk m c 9 t (ix2 0 q : S1x1024.Idx) = (arrs m c).g3 (ix2 0 q) := by
  change _ = V m c main_arg3 (ix2 0 q : S1x1024.Idx)
  blk_ext [iblk, idx t]
theorem blk10 (q : Fin 1024) : iblk m c 10 t (ix2 0 q : S1x1024.Idx) = (arrs m c).g2 (ix2 0 q) := by
  change _ = V m c main_arg2 (ix2 0 q : S1x1024.Idx)
  blk_ext [iblk, idx t]

end blocks

end Cert.FfnBody

end
-- ==== Proof.FfnPoint.lean ====
module

public import proofs.«01_k».proof.Proof.FfnArray

/- What each grid point leaves, in the whole arrays' formulas. -/

set_option maxRecDepth 16384

@[expose] public section

noncomputable section

namespace Cert.FfnBody

open Idealize.ShloMosaic Idealize.ShloMosaic.TcCoe Idealize.SL.Sem
open Cert.FfnBwdIdeal Cert.FfnBwdIdeal.Gen

variable (m : (ℓ : Loc nD τ sig) → Buf (Elt Ideal) ℓ) (c : Dev nD)

/-- A row of a tile's lower half. -/
def rl (r : Fin 256) : Fin 512 := ⟨r.val, by omega⟩
/-- A row of a tile's upper half. -/
def rh (r : Fin 256) : Fin 512 := ⟨256 + r.val, by omega⟩

section point
variable (t : Fin cfg0.N) (r : Fin 256)

theorem dg0_blk (f : Fin 704) : dg0 (iblk m c 0 t) (iblk m c 1 t) (iblk m c 2 t) (iblk m c 5 t) (ix2 r f) = (arrs m c).DG (shard t) (row t (rl r)) f := by
  unfold dg0
  rw [pay10_apply]
  simp only [lo_apply, lo3_apply, blk0, blk1, blk2, blk5]
  rfl
theorem dg1_blk (f : Fin 704) : dg1 (iblk m c 0 t) (iblk m c 1 t) (iblk m c 2 t) (iblk m c 5 t) (ix2 r f) = (arrs m c).DG (shard t) (row t (rh r)) f := by
  unfold dg1
  rw [pay10_apply]
  simp only [hi_apply, hi3_apply, blk0, blk1, blk2, blk5]
  rfl
theorem du0_blk (f : Fin 704) : du0 (iblk m c 0 t) (iblk m c 1 t) (iblk m c 5 t) (ix2 r f) = (arrs m c).DU (shard t) (row t (rl r)) f := by
  unfold du0
  rw [pay11_apply]
  simp only [lo_apply, lo3_apply, blk0, blk1, blk5]
  rfl
theorem du1_blk (f : Fin 704) : du1 (iblk m c 0 t) (iblk m c 1 t) (iblk m c 5 t) (ix2 r f) = (arrs m c).DU (shard t) (row t (rh r)) f := by
  unfold du1
  rw [pay11_apply]
  simp only [hi_apply, hi3_apply, blk0, blk1, blk5]
  rfl

theorem con0_blk (k : Fin 1024) : conE (fun f => dg0 (iblk m c 0 t) (iblk m c 1 t) (iblk m c 2 t) (iblk m c 5 t) (ix2 r f)) (fun f => du0 (iblk m c 0 t) (iblk m c 1 t) (iblk m c 5 t) (ix2 r f))
      (fun f => iblk m c 3 t (ix3 0 f k : S1x704x1024.Idx)) (fun f => iblk m c 4 t (ix3 0 f k : S1x704x1024.Idx))
    = (arrs m c).CON (shard t) (row t (rl r)) k := by
  simp only [dg0_blk, du0_blk, blk3, blk4]
  rfl
theorem con1_blk (k : Fin 1024) : conE (fun f => dg1 (iblk m c 0 t) (iblk m c 1 t) (iblk m c 2 t) (iblk m c 5 t) (ix2 r f)) (fun f => du1 (iblk m c 0 t) (iblk m c 1 t) (iblk m c 5 t) (ix2 r f))
      (fun f => iblk m c 3 t (ix3 0 f k : S1x704x1024.Idx)) (fun f => iblk m c 4 t (ix3 0 f k : S1x704x1024.Idx))
    = (arrs m c).CON (shard t) (row t (rh r)) k := by
  simp only [dg1_blk, du1_blk, blk3, blk4]
  rfl

theorem acc0_first (o : Vec Ideal S256x1024 .f32) (k : Fin 1024) :
    acc0 (iblk m c 0 t) (iblk m c 1 t) (iblk m c 2 t) (iblk m c 3 t) (iblk m c 4 t) (iblk m c 5 t) 1#1 o (ix2 r k) = (arrs m c).CON (shard t) (row t (rl r)) k :=
  (pay14_apply 1#1 _ _ _ _ o r k).trans ((if_pos rfl).trans (con0_blk m c t r k))
theorem acc1_first (o : Vec Ideal S256x1024 .f32) (k : Fin 1024) :
    acc1 (iblk m c 0 t) (iblk m c 1 t) (iblk m c 2 t) (iblk m c 3 t) (iblk m c 4 t) (iblk m c 5 t) 1#1 o (ix2 r k) = (arrs m c).CON (shard t) (row t (rh r)) k :=
  (pay14_apply 1#1 _ _ _ _ o r k).trans ((if_pos rfl).trans (con1_blk m c t r k))
theorem acc0_later (o : Vec Ideal S256x1024 .f32) (k : Fin 1024) :
    acc0 (iblk m c 0 t) (iblk m c 1 t) (iblk m c 2 t) (iblk m c 3 t) (iblk m c 4 t) (iblk m c 5 t) 0#1 o (ix2 r k) = (o (ix2 r k) + (arrs m c).CON (shard t) (row t (rl r)) k : EReal) :=
  (pay14_apply 0#1 _ _ _ _ o r k).trans ((if_neg (by decide)).trans (congrArg (fun z : EReal => o (ix2 r k) + z) (con0_blk m c t r k)))
theorem acc1_later (o : Vec Ideal S256x1024 .f32) (k : Fin 1024) :
    acc1 (iblk m c 0 t) (iblk m c 1 t) (iblk m c 2 t) (iblk m c 3 t) (iblk m c 4 t) (iblk m c 5 t) 0#1 o (ix2 r k) = (o (ix2 r k) + (arrs m c).CON (shard t) (row t (rh r)) k : EReal) :=
  (pay14_apply 0#1 _ _ _ _ o r k).trans ((if_neg (by decide)).trans (congrArg (fun z : EReal => o (ix2 r k) + z) (con1_blk m c t r k)))

end point

theorem pt_num (n : ℕ) (h : n < 32) : (pt n).val = n := Nat.mod_eq_of_lt h

theorem at_pt (t : Fin cfg0.N) (r : Fin 512) (k : Fin 1024) (j : Fin 4) :
    (arrs m c).CON (shard (pt (8 * j.val + t.val % 8))) (row (pt (8 * j.val + t.val % 8)) r) k = (arrs m c).CON j (row t r) k := by
  have e : (pt (8 * j.val + t.val % 8)).val = 8 * j.val + t.val % 8 := pt_num _ (by omega)
  have e1 : shard (pt (8 * j.val + t.val % 8)) = j := Fin.ext (by change (pt (8 * j.val + t.val % 8)).val / 8 = j.val; rw [e]; omega)
  have e2 : row (pt (8 * j.val + t.val % 8)) r = row t r := Fin.ext (by
    change 512 * ((pt (8 * j.val + t.val % 8)).val % 8) + r.val = 512 * (t.val % 8) + r.val; rw [e]; omega)
  rw [e1, e2]

/-- The accumulator's chunks before the last shard. -/
theorem accLo_two (t : Fin cfg0.N) (r : Fin 256) (k : Fin 1024) : accLo m c (t.val % 8) 2 (ix2 r k)
    = (arrs m c).CON 0 (row t (rl r)) k + (arrs m c).CON 1 (row t (rl r)) k + (arrs m c).CON 2 (row t (rl r)) k := by
  rw [accLo, acc0_later, accLo, acc0_later, accLo, acc0_first]
  have e0 := at_pt m c t (rl r) k 0
  have e1 := at_pt m c t (rl r) k 1
  have e2 := at_pt m c t (rl r) k 2
  rw [show 8 * (0 : Fin 4).val + t.val % 8 = t.val % 8 from Nat.zero_add _] at e0
  rw [← e0, ← e1, ← e2]
  rfl
theorem accHi_two (t : Fin cfg0.N) (r : Fin 256) (k : Fin 1024) : accHi m c (t.val % 8) 2 (ix2 r k)
    = (arrs m c).CON 0 (row t (rh r)) k + (arrs m c).CON 1 (row t (rh r)) k + (arrs m c).CON 2 (row t (rh r)) k := by
  rw [accHi, acc1_later, accHi, acc1_later, accHi, acc1_first]
  have e0 := at_pt m c t (rh r) k 0
  have e1 := at_pt m c t (rh r) k 1
  have e2 := at_pt m c t (rh r) k 2
  rw [show 8 * (0 : Fin 4).val + t.val % 8 = t.val % 8 from Nat.zero_add _] at e0
  rw [← e0, ← e1, ← e2]
  rfl

section last
variable (t : Fin cfg0.N) (h : 24 ≤ t.val)
include h

theorem shard_last : shard t = 3 := Fin.ext (by change t.val / 8 = 3; have := lt32 t; omega)

theorem dh0_blk (r : Fin 256) : dhC (dg0 (iblk m c 0 t) (iblk m c 1 t) (iblk m c 2 t) (iblk m c 5 t)) (du0 (iblk m c 0 t) (iblk m c 1 t) (iblk m c 5 t)) (iblk m c 3 t) (iblk m c 4 t)
    (accLo m c (t.val % 8) 2) r = (arrs m c).DH (row t (rl r)) := by
  funext k
  unfold dhC
  rw [con0_blk, accLo_two, shard_last t h]
  rfl
theorem dh1_blk (r : Fin 256) : dhC (dg1 (iblk m c 0 t) (iblk m c 1 t) (iblk m c 2 t) (iblk m c 5 t)) (du1 (iblk m c 0 t) (iblk m c 1 t) (iblk m c 5 t)) (iblk m c 3 t) (iblk m c 4 t)
    (accHi m c (t.val % 8) 2) r = (arrs m c).DH (row t (rh r)) := by
  funext k
  unfold dhC
  rw [con1_blk, accHi_two, shard_last t h]
  rfl

/-- The scales' gradients' step. -/
theorem stepG3_apply (y : Vec Ideal S1x1024 .f32) (k : Fin 1024) : stepG3 m c t y (ix2 0 k)
    = (y (ix2 0 k) + ∑ r : Fin 256, (arrs m c).R3 (row t (rl r)) k + ∑ r : Fin 256, (arrs m c).R3 (row t (rh r)) k : EReal) := by
  unfold stepG3
  rw [g3C_apply, g3C_apply]
  simp only [dh0_blk m c t h, dh1_blk m c t h, lo_apply, hi_apply, blk7 m c t h]
  rfl
theorem stepG2_apply (y : Vec Ideal S1x1024 .f32) (k : Fin 1024) : stepG2 m c t y (ix2 0 k)
    = (y (ix2 0 k) + ∑ r : Fin 256, (arrs m c).R2 (row t (rl r)) k + ∑ r : Fin 256, (arrs m c).R2 (row t (rh r)) k : EReal) := by
  unfold stepG2
  rw [g2C_apply, g2C_apply]
  simp only [dh0_blk m c t h, dh1_blk m c t h, lo_apply, hi_apply, blk6 m c t h, blk7 m c t h, blk8 m c t h, blk9]
  rfl

/-- The input gradient's block. -/
theorem atDx_apply (r : Fin 512) (k : Fin 1024) : atDx m c t (ix2 r k) = (arrs m c).DX (row t r) k := by
  unfold atDx
  rw [join2_apply]
  by_cases hr : r.val < 256
  · rw [dif_pos hr, dxC_apply, dh0_blk m c t h]
    simp only [lo_apply, blk6 m c t h, blk7 m c t h, blk9]
    rfl
  · rw [dif_neg hr, dxC_apply, dh1_blk m c t h]
    simp only [hi_apply, blk6 m c t h, blk7 m c t h, blk9]
    have e : rh ⟨r.val - 256, by omega⟩ = r := Fin.ext (by change 256 + (r.val - 256) = r.val; omega)
    refine Eq.trans ?_ (congrArg (fun r => (arrs m c).DX (row t r) k) e)
    rfl
/-- The mixer gradient's block. -/
theorem atDm_apply (r : Fin 512) (k : Fin 1024) : atDm m c t (ix2 r k) = (arrs m c).DM (row t r) k := by
  unfold atDm
  rw [join2_apply]
  by_cases hr : r.val < 256
  · rw [dif_pos hr, dmC_apply, dh0_blk m c t h]
    simp only [lo_apply, blk6 m c t h, blk7 m c t h, blk8 m c t h, blk9, blk10]
    rfl
  · rw [dif_neg hr, dmC_apply, dh1_blk m c t h]
    simp only [hi_apply, blk6 m c t h, blk7 m c t h, blk8 m c t h, blk9, blk10]
    have e : rh ⟨r.val - 256, by omega⟩ = r := Fin.ext (by change 256 + (r.val - 256) = r.val; omega)
    refine Eq.trans ?_ (congrArg (fun r => (arrs m c).DM (row t r) k) e)
    rfl

end last

/-- The gate gradient's block. -/
theorem atDg_apply (t : Fin cfg0.N) (r : Fin 512) (f : Fin 704) : atDg m c t (ix3 0 r f) = (arrs m c).DG (shard t) (row t r) f := by
  unfold atDg outDg
  rw [join3_apply]
  by_cases hr : r.val < 256
  · rw [dif_pos hr, pay13_apply, dg0_blk]
    rfl
  · rw [dif_neg hr, pay13_apply, dg1_blk]
    exact congrArg (fun r => (arrs m c).DG (shard t) (row t r) f) (Fin.ext (by change 256 + (r.val - 256) = r.val; omega))
/-- The up gradient's block. -/
theorem atDu_apply (t : Fin cfg0.N) (r : Fin 512) (f : Fin 704) : atDu m c t (ix3 0 r f) = (arrs m c).DU (shard t) (row t r) f := by
  unfold atDu outDu
  rw [join3_apply]
  by_cases hr : r.val < 256
  · rw [dif_pos hr, pay13_apply, du0_blk]
    rfl
  · rw [dif_neg hr, pay13_apply, du1_blk]
    exact congrArg (fun r => (arrs m c).DU (shard t) (row t r) f) (Fin.ext (by change 256 + (r.val - 256) = r.val; omega))

/-! ## The scales' gradients after the last point -/

/-- Sums over the two halves of a tile and over the eight tiles are a sum over all rows. -/
theorem sum_half (f : Fin 512 → EReal) : ∑ r : Fin 256, f (rl r) + ∑ r : Fin 256, f (rh r) = ∑ r : Fin 512, f r :=
  (Fin.sum_univ_add (a := 256) (b := 256) f).symm

/-- Row `n`, for any number. -/
def rowN (n : ℕ) : Fin 4096 := ⟨n % 4096, Nat.mod_lt _ (by decide)⟩

theorem row_pt (t : Fin cfg0.N) (r : Fin 512) : row t r = rowN (512 * (t.val % 8) + r.val) :=
  Fin.ext (by change 512 * (t.val % 8) + r.val = (512 * (t.val % 8) + r.val) % 4096; omega)

theorem sum_tiles (f : Fin 4096 → EReal) : ∑ p ∈ Finset.range 8, ∑ r : Fin 512, f (rowN (512 * p + r.val)) = ∑ a : Fin 4096, f a := by
  rw [Finset.sum_range]
  refine Fin.sum_mul_add_congr (f := f) (fun s k h => ?_) (by decide)
  exact congrArg f (Fin.ext (by change (512 * s.val + k.val) % 4096 = s.val * 512 + k.val; omega))

theorem zero1 (k : Fin 1024) : (k0_pay1 (F := Ideal)) (ix2 0 k) = (0 : EReal) := by
  unfold k0_pay1
  pointwise
theorem zero2 (k : Fin 1024) : (k0_pay2 (F := Ideal)) (ix2 0 k) = (0 : EReal) := by
  unfold k0_pay2
  pointwise

theorem atG3_apply (k : Fin 1024) (n : ℕ) (hn : n ≤ 8) : (atG3 m c (23 + n) (ix2 0 k) : EReal)
    = ∑ p ∈ Finset.range n, ∑ r : Fin 512, (arrs m c).R3 (rowN (512 * p + r.val)) k := by
  induction n with
  | zero => rw [atG3_lt m c (by decide), zero1]; rfl
  | succ n ih =>
    have e : (pt (24 + n)).val = 24 + n := pt_num _ (by omega)
    have hs := atG3_ge m c (pt (24 + n)) (by rw [e]; omega)
    rw [e, show 24 + n - 1 = 23 + n by omega] at hs
    rw [show 23 + (n + 1) = 24 + n by omega, hs, stepG3_apply m c _ (by rw [e]; omega), ih (by omega), Finset.sum_range_succ, add_assoc,
      sum_half (fun r => (arrs m c).R3 (row (pt (24 + n)) r) k)]
    simp only [row_pt, e, show (24 + n) % 8 = n by omega]
theorem atG2_apply (k : Fin 1024) (n : ℕ) (hn : n ≤ 8) : (atG2 m c (23 + n) (ix2 0 k) : EReal)
    = ∑ p ∈ Finset.range n, ∑ r : Fin 512, (arrs m c).R2 (rowN (512 * p + r.val)) k := by
  induction n with
  | zero => rw [atG2_lt m c (by decide), zero2]; rfl
  | succ n ih =>
    have e : (pt (24 + n)).val = 24 + n := pt_num _ (by omega)
    have hs := atG2_ge m c (pt (24 + n)) (by rw [e]; omega)
    rw [e, show 24 + n - 1 = 23 + n by omega] at hs
    rw [show 23 + (n + 1) = 24 + n by omega, hs, stepG2_apply m c _ (by rw [e]; omega), ih (by omega), Finset.sum_range_succ, add_assoc,
      sum_half (fun r => (arrs m c).R2 (row (pt (24 + n)) r) k)]
    simp only [row_pt, e, show (24 + n) % 8 = n by omega]

end Cert.FfnBody

end
-- ==== Proof.FfnFinal.lean ====
module

public import proofs.«01_k».proof.Proof.FfnPoint
public import Idealize.ShloMosaic.Lib.PlanTiles.Rows

/- What the feed-forward gradient's pipeline leaves in its six arrays. -/

set_option maxRecDepth 16384

@[expose] public section

noncomputable section

namespace Cert.FfnBody

open Idealize.ShloMosaic Idealize.ShloMosaic.TcCoe Idealize.SL.Sem
open Cert.FfnBwdIdeal Cert.FfnBwdIdeal.Gen

variable (m : (ℓ : Loc nD τ sig) → Buf (Elt Ideal) ℓ) (c : Dev nD)

/-- The arrays the formulas name. -/
def fDG (A : Arrs) : S4x4096x704.Idx → EReal := fun i => A.DG (i 0) (i 1) (i 2)
def fDU (A : Arrs) : S4x4096x704.Idx → EReal := fun i => A.DU (i 0) (i 1) (i 2)
def fDX (A : Arrs) : S4096x1024.Idx → EReal := fun i => A.DX (i 0) (i 1)
def fDM (A : Arrs) : S4096x1024.Idx → EReal := fun i => A.DM (i 0) (i 1)
def fG3 (A : Arrs) : S1x1024.Idx → EReal := fun i => ∑ a : Fin 4096, A.R3 a (i 1)
def fG2 (A : Arrs) : S1x1024.Idx → EReal := fun i => ∑ a : Fin 4096, A.R2 a (i 1)

theorem split3 (y : S1x512x704.Idx) : y = ix3 0 (y 1) (y 2) :=
  (eq_ix3 y).trans (congrArg (fun p : Fin 1 => ix3 p (y 1) (y 2)) (Subsingleton.elim (α := Fin 1) _ _))
theorem split1 (y : S1x1024.Idx) : y = ix2 0 (y 1) :=
  (eq_ix2 y).trans (congrArg (fun p : Fin 1 => ix2 p (y 1)) (Subsingleton.elim (α := Fin 1) _ _))

theorem final11 : (dats m 0 c).arrAt 11 cfg0.N = fDG (arrs m c) := by
  refine (dats m 0 c).arrAt_eq_of_covers 11 _ (by decide +kernel) fun t hf y => ?_
  blk_simp [idx t]
  rw [after0_11]
  have ht := lt32 t
  refine (congrArg _ (split3 y)).trans ((atDg_apply m c t (y 1) (y 2)).trans ?_)
  have hi : (win0_11.blk t).view.emb y = ix3 (⟨t.val / 8, by omega⟩ : Fin 4) (⟨512 * (t.val % 8) + (y 1).val, by have : (y 1).val < 512 := (y 1).isLt; omega⟩ : Fin 4096) (y 2) := by
    blk_ext [idx t]
  exact (congrArg (fDG (arrs m c)) hi).symm

theorem final12 : (dats m 0 c).arrAt 12 cfg0.N = fDU (arrs m c) := by
  refine (dats m 0 c).arrAt_eq_of_covers 12 _ (by decide +kernel) fun t hf y => ?_
  blk_simp [idx t]
  rw [after0_12]
  have ht := lt32 t
  refine (congrArg _ (split3 y)).trans ((atDu_apply m c t (y 1) (y 2)).trans ?_)
  have hi : (win0_12.blk t).view.emb y = ix3 (⟨t.val / 8, by omega⟩ : Fin 4) (⟨512 * (t.val % 8) + (y 1).val, by have : (y 1).val < 512 := (y 1).isLt; omega⟩ : Fin 4096) (y 2) := by
    blk_ext [idx t]
  exact (congrArg (fDU (arrs m c)) hi).symm

theorem final13 : (dats m 0 c).arrAt 13 cfg0.N = fDX (arrs m c) := by
  refine (dats m 0 c).arrAt_eq_of_covers 13 _ (by decide +kernel) fun t hf y => ?_
  have h24 : 24 ≤ t.val := (flush_13 t).1 hf
  have ht := lt32 t
  have e : t.val / 24 = 1 := by omega
  blk_simp [idx t]
  rw [after0_13]
  refine (congrArg _ (eq_ix2 y)).trans ((atDx_apply m c t h24 (y 0) (y 1)).trans ?_)
  have hi : (win0_13.blk t).view.emb y = ix2 (⟨512 * (t.val % 8) + (y 0).val, by have : (y 0).val < 512 := (y 0).isLt; omega⟩ : Fin 4096) (y 1) := by
    blk_ext [idx t, e]
  exact (congrArg (fDX (arrs m c)) hi).symm

theorem final14 : (dats m 0 c).arrAt 14 cfg0.N = fDM (arrs m c) := by
  refine (dats m 0 c).arrAt_eq_of_covers 14 _ (by decide +kernel) fun t hf y => ?_
  have h24 : 24 ≤ t.val := (flush_14 t).1 hf
  have ht := lt32 t
  have e : t.val / 24 = 1 := by omega
  blk_simp [idx t]
  rw [after0_14]
  refine (congrArg _ (eq_ix2 y)).trans ((atDm_apply m c t h24 (y 0) (y 1)).trans ?_)
  have hi : (win0_14.blk t).view.emb y = ix2 (⟨512 * (t.val % 8) + (y 0).val, by have : (y 0).val < 512 := (y 0).isLt; omega⟩ : Fin 4096) (y 1) := by
    blk_ext [idx t, e]
  exact (congrArg (fDM (arrs m c)) hi).symm

theorem final15 : (dats m 0 c).arrAt 15 cfg0.N = fG3 (arrs m c) := by
  refine (dats m 0 c).arrAt_eq_of_after_last 15 (pt 31) (by decide +kernel) _ fun j => ?_
  blk_simp
  rw [after0_15]
  refine (congrArg _ (split1 j)).trans ((atG3_apply m c (j 1) 8 (le_refl 8)).trans ?_)
  exact sum_tiles fun a => (arrs m c).R3 a (j 1)

theorem final16 : (dats m 0 c).arrAt 16 cfg0.N = fG2 (arrs m c) := by
  refine (dats m 0 c).arrAt_eq_of_after_last 16 (pt 31) (by decide +kernel) _ fun j => ?_
  blk_simp
  rw [after0_16]
  refine (congrArg _ (split1 j)).trans ((atG2_apply m c (j 1) 8 (le_refl 8)).trans ?_)
  exact sum_tiles fun a => (arrs m c).R2 a (j 1)

end Cert.FfnBody

end
-- ==== Proof.FfnRun.lean ====
module

public import proofs.«01_k».proof.Proof.FfnFinal

/- The feed-forward gradient's run: its six results by the formulas, its arguments unchanged. -/

set_option maxRecDepth 16384

@[expose] public section

noncomputable section

namespace Cert.FfnBody

open Idealize.ShloMosaic Idealize.ShloMosaic.TcCoe Idealize.SL.Sem
open Cert.FfnBwdIdeal Cert.FfnBwdIdeal.Gen

variable (m : (ℓ : Loc nD τ sig) → Buf (Elt Ideal) ℓ) (ρ : Dev nD → PrngReg)

theorem post11 (r : PUnit × MemSt nD τ sig (Elt Ideal)) (h : Pipeline.FramePost cfgs (dats m) 0 (V m) r) (c : Dev nD) :
    r.2.mem ((c : Thread nD τ).loc main_v50_0) = (dats m 0 c).arrAt 11 cfg0.N :=
  (h c).1 11
theorem post12 (r : PUnit × MemSt nD τ sig (Elt Ideal)) (h : Pipeline.FramePost cfgs (dats m) 0 (V m) r) (c : Dev nD) :
    r.2.mem ((c : Thread nD τ).loc main_v50_1) = (dats m 0 c).arrAt 12 cfg0.N :=
  (h c).1 12
theorem post13 (r : PUnit × MemSt nD τ sig (Elt Ideal)) (h : Pipeline.FramePost cfgs (dats m) 0 (V m) r) (c : Dev nD) :
    r.2.mem ((c : Thread nD τ).loc main_v50_2) = (dats m 0 c).arrAt 13 cfg0.N :=
  (h c).1 13
theorem post14 (r : PUnit × MemSt nD τ sig (Elt Ideal)) (h : Pipeline.FramePost cfgs (dats m) 0 (V m) r) (c : Dev nD) :
    r.2.mem ((c : Thread nD τ).loc main_v50_3) = (dats m 0 c).arrAt 14 cfg0.N :=
  (h c).1 14
theorem post15 (r : PUnit × MemSt nD τ sig (Elt Ideal)) (h : Pipeline.FramePost cfgs (dats m) 0 (V m) r) (c : Dev nD) :
    r.2.mem ((c : Thread nD τ).loc main_v50_4) = (dats m 0 c).arrAt 15 cfg0.N :=
  (h c).1 15
theorem post16 (r : PUnit × MemSt nD τ sig (Elt Ideal)) (h : Pipeline.FramePost cfgs (dats m) 0 (V m) r) (c : Dev nD) :
    r.2.mem ((c : Thread nD τ).loc main_v50_5) = (dats m 0 c).arrAt 16 cfg0.N :=
  (h c).1 16
theorem kept0' (r : PUnit × MemSt nD τ sig (Elt Ideal)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)
theorem kept1' (r : PUnit × MemSt nD τ sig (Elt Ideal)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)
theorem kept2' (r : PUnit × MemSt nD τ sig (Elt Ideal)) (h : Pipeline.FramePost cfgs (dats m) 0 (V m) r) (c : Dev nD) :
    r.2.mem ((c : Thread nD τ).loc main_arg2) = m ((c : Thread nD τ).loc main_arg2) :=
  ((h c).1 10).trans (((dats m 0 c).arrAt_in 10 rfl _).trans ((A_eq m c 10).trans (V_main_arg2 m c)))
theorem kept3' (r : PUnit × MemSt nD τ sig (Elt Ideal)) (h : Pipeline.FramePost cfgs (dats m) 0 (V m) r) (c : Dev nD) :
    r.2.mem ((c : Thread nD τ).loc main_arg3) = m ((c : Thread nD τ).loc main_arg3) :=
  ((h c).1 9).trans (((dats m 0 c).arrAt_in 9 rfl _).trans ((A_eq m c 9).trans (V_main_arg3 m c)))
theorem kept4' (r : PUnit × MemSt nD τ sig (Elt Ideal)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)
theorem kept5' (r : PUnit × MemSt nD τ sig (Elt Ideal)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)
theorem kept6' (r : PUnit × MemSt nD τ sig (Elt Ideal)) (h : Pipeline.FramePost cfgs (dats m) 0 (V m) r) (c : Dev nD) :
    r.2.mem ((c : Thread nD τ).loc main_arg6) = m ((c : Thread nD τ).loc main_arg6) :=
  ((h c).2 main_arg6 (Pipeline.mem_restRefs_of main_arg6 (by decide) (by decide))).trans (V_main_arg6 m c)
theorem kept7' (r : PUnit × MemSt nD τ sig (Elt Ideal)) (h : Pipeline.FramePost cfgs (dats m) 0 (V m) r) (c : Dev nD) :
    r.2.mem ((c : Thread nD τ).loc main_arg7) = m ((c : Thread nD τ).loc main_arg7) :=
  ((h c).2 main_arg7 (Pipeline.mem_restRefs_of main_arg7 (by decide) (by decide))).trans (V_main_arg7 m c)
theorem kept8' (r : PUnit × MemSt nD τ sig (Elt Ideal)) (h : Pipeline.FramePost cfgs (dats m) 0 (V m) r) (c : Dev nD) :
    r.2.mem ((c : Thread nD τ).loc main_arg8) = m ((c : Thread nD τ).loc main_arg8) :=
  ((h c).2 main_arg8 (Pipeline.mem_restRefs_of main_arg8 (by decide) (by decide))).trans (V_main_arg8 m c)

/-- Every run ends with the six results as the formulas say and the arguments as launched. -/
theorem run_values : θ_run defs (onTc (τ := τ) (main (F := Ideal))) ⟨m, fun _ => 0, ρ⟩ fun r => ∀ c : Dev nD,
      r.2.mem ((c : Thread nD τ).loc main_v50_0) = fDG (arrs m c)
      ∧ r.2.mem ((c : Thread nD τ).loc main_v50_1) = fDU (arrs m c)
      ∧ r.2.mem ((c : Thread nD τ).loc main_v50_2) = fDX (arrs m c)
      ∧ r.2.mem ((c : Thread nD τ).loc main_v50_3) = fDM (arrs m c)
      ∧ r.2.mem ((c : Thread nD τ).loc main_v50_4) = fG3 (arrs m c)
      ∧ r.2.mem ((c : Thread nD τ).loc main_v50_5) = fG2 (arrs m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(post11 m r h c).trans (final11 m c),
      (post12 m r h c).trans (final12 m c),
      (post13 m r h c).trans (final13 m c),
      (post14 m r h c).trans (final14 m c),
      (post15 m r h c).trans (final15 m c),
      (post16 m r h c).trans (final16 m c),
      kept0' m r h c,
      kept1' m r h c,
      kept2' m r h c,
      kept3' m r h c,
      kept4' m r h c,
      kept5' m r h c,
      kept6' m r h c,
      kept7' m r h c,
      kept8' m r h c⟩)
    (run_main m ρ)

end Cert.FfnBody

end
-- ==== Proof.FfnSame.lean ====
module

public import proofs.«01_k».proof.Proof.FfnFrame
public import proofs.«01_k».proof.Proof.Gen.FfnBwd

/- The feed-forward pipeline and its idealized program have the same text. -/

set_option maxRecDepth 16384
set_option maxHeartbeats 20000000

@[expose] public section

noncomputable section

namespace Cert.FfnBody

open Idealize.ShloMosaic Idealize.ShloMosaic.TcCoe Idealize.SL.Sem

variable {F : FTy → Type} [FloatOps F]

attribute [local instance] Cert.FfnBwd.Gen.facts Cert.FfnBwdIdeal.Gen.facts

/-- The two kernels' body tables agree. -/
theorem same_body : Cert.FfnBwd.defs₀ (F := F) = Cert.FfnBwdIdeal.defs₀ (F := F) := by
  unfold Cert.FfnBwd.defs₀ Cert.FfnBwdIdeal.defs₀
  refine congrArg Defs.onTc (funext fun l => ?_)
  match l with
  | ⟨0, _⟩ =>
    funext y
    obtain ⟨t, s⟩ := y
    rfl

/-- So do the tables of the programs. -/
theorem same_defs : Cert.FfnBwd.defs (F := F) = Cert.FfnBwdIdeal.defs (F := F) :=
  congrArg (Pipeline.defs Cert.FfnBwdIdeal.pcfgs) same_body

/-- The main functions agree. -/
theorem same_main : Cert.FfnBwd.main (F := F) = Cert.FfnBwdIdeal.main (F := F) := rfl

end Cert.FfnBody

end
-- ==== Proof.FfnMath.lean ====
module

public import proofs.«01_k».proof.Proof.FfnChunk

/- The feed-forward gradient's formulas over real numbers. -/

set_option maxRecDepth 16384

@[expose] public section

noncomputable section

namespace Cert.FfnBody

open Idealize.ShloMosaic

/-- A row's mean square with the small constant. -/
def vE (x : Fin 1024 → EReal) : EReal := Ideal.div (∑ q, x q * x q) cD + cE
/-- The constant of the root's derivative. -/
def cH : EReal := Ideal.ofBits FTy.f32 3204448256#32
/-- The reference's correction of a normed row's gradient. -/
def wE (dh g x : Fin 1024 → EReal) : EReal := Ideal.div ((∑ q, x q * (dh q * g q)) * (cH * Ideal.div (rE x) (vE x))) cD

theorem cD_eq : cD = ((1024 : ℝ) : EReal) := by
  unfold cD
  simp [Ideal.ofBits, Ideal.ieee, -EReal.coe_mul]
  norm_num
theorem cH_eq : cH = ((-1 / 2 : ℝ) : EReal) := by
  unfold cH
  simp [Ideal.ofBits, Ideal.ieee, -EReal.coe_mul]
  norm_num
theorem cE_pos : ∃ e : ℝ, 0 < e ∧ cE = (e : EReal) := by
  unfold cE
  refine ⟨_, ?_, by simp [Ideal.ofBits, Ideal.ieee, -EReal.coe_mul]; rfl⟩
  norm_num

/-- A number that is neither infinity. -/
def Rl (y : EReal) : Prop := ∃ r : ℝ, y = (r : EReal)

theorem coe_sum {ι : Type} (s : Finset ι) (f : ι → ℝ) : ((∑ i ∈ s, f i : ℝ) : EReal) = ∑ i ∈ s, (f i : EReal) :=
  map_sum (⟨⟨Real.toEReal, EReal.coe_zero⟩, EReal.coe_add⟩ : ℝ →+ EReal) f s

namespace Rl

theorem mul {a b : EReal} (ha : Rl a) (hb : Rl b) : Rl (a * b) := by
  obtain ⟨x, rfl⟩ := ha
  obtain ⟨y, rfl⟩ := hb
  exact ⟨x * y, (EReal.coe_mul x y).symm⟩
theorem sum {ι : Type} (s : Finset ι) {f : ι → EReal} (h : ∀ i, Rl (f i)) : Rl (∑ i ∈ s, f i) := by
  choose g hg using h
  exact ⟨∑ i ∈ s, g i, by rw [coe_sum]; exact Finset.sum_congr rfl fun i _ => hg i⟩

end Rl

theorem sq_nonneg' (y : EReal) : 0 ≤ y * y := by
  induction y using EReal.rec with
  | bot => simp
  | coe r =>
    rw [← EReal.coe_mul, ← EReal.coe_zero, EReal.coe_le_coe_iff]
    exact mul_self_nonneg r
  | top => simp

/-- A row's mean square is a positive real and the inverted root its inverted square root, and the row is real; or the
mean square is infinite and the inverted root zero. -/
theorem root (x : Fin 1024 → EReal) :
    (∃ v : ℝ, 0 < v ∧ vE x = (v : EReal) ∧ rE x = ((Real.sqrt v)⁻¹ : ℝ) ∧ ∀ q, Rl (x q)) ∨ (vE x = ⊤ ∧ rE x = 0) := by
  obtain ⟨e, he, hE⟩ := cE_pos
  have hr : rE x = Ideal.rsqrt (vE x) := rfl
  have hv : vE x = (∑ q, x q * x q) * ((1 / 1024 : ℝ) : EReal) + (e : EReal) := by
    unfold vE
    rw [hE, cD_eq, Ideal.div_coe (by norm_num)]
  have hs : 0 ≤ ∑ q, x q * x q := Finset.sum_nonneg fun q _ => sq_nonneg' (x q)
  have hle : ∀ q, x q * x q ≤ ∑ q, x q * x q := fun q =>
    Finset.single_le_sum (f := fun q => x q * x q) (fun q _ => sq_nonneg' (x q)) (Finset.mem_univ q)
  generalize (∑ q, x q * x q) = s at hv hs hle
  induction s using EReal.rec with
  | bot => exact absurd hs (by simp)
  | top =>
    right
    have h : vE x = ⊤ := by
      rw [hv, EReal.top_mul_coe_of_pos (by norm_num), EReal.top_add_coe]
    exact ⟨h, by rw [hr, h, Ideal.rsqrt_top]⟩
  | coe t =>
    left
    have ht : 0 ≤ t := by exact_mod_cast hs
    have hp : 0 < t * (1 / 1024) + e := by positivity
    have h : vE x = ((t * (1 / 1024) + e : ℝ) : EReal) := by
      rw [hv, EReal.coe_add, EReal.coe_mul]
    refine ⟨_, hp, h, by rw [hr, h, Ideal.rsqrt_coe, if_neg (not_lt.2 hp.le), if_neg hp.ne'], fun q => ?_⟩
    have hq := hle q
    generalize x q = y at hq
    induction y using EReal.rec with
    | bot => exact absurd hq (by simp)
    | coe r => exact ⟨r, rfl⟩
    | top => exact absurd hq (by simp)

/-- A normed row is real, whatever the row. -/
theorem rl_nE (x : Fin 1024 → EReal) (k : Fin 1024) : Rl (nE x k) := by
  unfold nE
  rcases root x with ⟨v, _, _, h, hx⟩ | ⟨_, h⟩
  · rw [h]
    exact (hx k).mul ⟨_, rfl⟩
  · rw [h, mul_zero]
    exact ⟨0, EReal.coe_zero.symm⟩

/-- A nonnegative real factor goes through a sum. -/
theorem sum_scale {ι : Type} (s : Finset ι) (f : ι → EReal) {r : ℝ} (hr : 0 ≤ r) : (∑ i ∈ s, f i) * (r : EReal) = ∑ i ∈ s, f i * (r : EReal) := by
  classical
  induction s using Finset.induction_on with
  | empty => rw [Finset.sum_empty, Finset.sum_empty, zero_mul]
  | insert i s hi ih =>
    rw [Finset.sum_insert hi, Finset.sum_insert hi, ← ih]
    exact EReal.right_distrib_of_nonneg_of_ne_top (by exact_mod_cast hr) (EReal.coe_ne_top r) _ _

/-- Twice a negative half. -/
theorem halves (z : EReal) {t : ℝ} (ht : 0 < t) : -(z * (t : EReal)) = z * ((-(t / 2) : ℝ) : EReal) + z * ((-(t / 2) : ℝ) : EReal) := by
  have hn : -(t / 2) < 0 := by linarith
  induction z using EReal.rec with
  | bot => rw [EReal.bot_mul_coe_of_pos ht, EReal.bot_mul_coe_of_neg hn]; simp
  | coe r =>
    simp only [← EReal.coe_mul, ← EReal.coe_neg, ← EReal.coe_add]
    exact congrArg Real.toEReal (by ring)
  | top => rw [EReal.top_mul_coe_of_pos ht, EReal.top_mul_coe_of_neg hn]; simp

/-- The gradient at a row from the gradient at the row normed and scaled, as the reference computes it. -/
theorem bwd_eq (dh g x : Fin 1024 → EReal) (k : Fin 1024) :
    bwdE dh g x k = dh k * g k * rE x + x k * wE dh g x + wE dh g x * x k := by
  unfold bwdE wE nE
  generalize ha : (fun q => dh q * g q) = a
  have ha' : ∀ q, dh q * g q = a q := fun q => congrFun ha q
  simp only [ha']
  rcases root x with ⟨v, hv, h1, h2, _⟩ | ⟨h1, h2⟩
  · have hp : 0 < (Real.sqrt v)⁻¹ := inv_pos.2 (Real.sqrt_pos.2 hv)
    have hs : (Real.sqrt v)⁻¹ * (Real.sqrt v)⁻¹ = 1 / v := by
      rw [← mul_inv, Real.mul_self_sqrt hv.le, one_div]
    rw [h1, h2, cD_eq, cH_eq, Ideal.div_coe (by norm_num), Ideal.div_coe hv.ne', Ideal.div_coe (by norm_num)]
    generalize (Real.sqrt v)⁻¹ = p at hp hs
    have hq : ∑ q, a q * (x q * (p : EReal)) = (∑ q, x q * a q) * (p : EReal) := by
      rw [sum_scale _ _ hp.le]
      exact Finset.sum_congr rfl fun q _ => by rw [← mul_assoc, mul_comm (a q)]
    rw [hq]
    generalize (∑ q, x q * a q) = S
    have e1 : (p : EReal) * (x k * p * (S * p * ((1 / 1024 : ℝ) : EReal))) = x k * S * ((p * p * p * (1 / 1024) : ℝ) : EReal) := by
      simp only [EReal.coe_mul]
      ac_rfl
    have e2 : S * (((-1 / 2 : ℝ) : EReal) * (p * ((1 / v : ℝ) : EReal))) * ((1 / 1024 : ℝ) : EReal) = S * ((-(p * p * p * (1 / 1024) / 2) : ℝ) : EReal) := by
      rw [← hs, mul_assoc]
      simp only [← EReal.coe_mul]
      exact congrArg (fun t : ℝ => S * (t : EReal)) (by ring)
    rw [sub_eq_add_neg, EReal.left_distrib_of_nonneg_of_ne_top (by exact_mod_cast hp.le) (EReal.coe_ne_top p), mul_neg, e1, e2,
      halves _ (by positivity), mul_comm (S * _) (x k), ← mul_assoc, mul_comm (p : EReal), add_assoc]
  · rw [h1, h2, zero_mul, cD_eq, Ideal.div_coe (by norm_num)]
    have hz : Ideal.div 0 ⊤ = 0 := by
      rw [Ideal.div, if_neg (by simp), zero_mul]
    rw [hz]
    simp only [mul_zero, zero_mul, add_zero]

/-- The gate factor's gradient, as the reference computes it: the gate factor itself may be infinite. -/
theorem dg_eq {df wd : Fin 1024 → EReal} (g : EReal) {u : EReal} (hd : ∀ q, Rl (df q)) (hw : ∀ q, Rl (wd q)) (hu : Rl u) :
    dgE df wd g u = (∑ q, df q * wd q) * u * Ideal.logistic g + g * ((∑ q, df q * wd q) * u) * (Ideal.logistic g * (1 - Ideal.logistic g)) := by
  unfold dgE
  obtain ⟨t, ht⟩ := (Rl.sum Finset.univ fun q => (hd q).mul (hw q)).mul hu
  rw [ht]
  induction g using EReal.rec with
  | bot => simp
  | coe r =>
    obtain ⟨l, hl⟩ : Rl (Ideal.logistic r) := ⟨_, Ideal.logistic_coe r⟩
    rw [hl]
    simp only [← EReal.coe_one, ← EReal.coe_mul, ← EReal.coe_sub, ← EReal.coe_add]
    exact congrArg Real.toEReal (by ring)
  | top =>
    have h1 : (1 : EReal) - 1 = 0 := by
      rw [← EReal.coe_one, ← EReal.coe_sub, sub_self, EReal.coe_zero]
    rw [Ideal.logistic_top, h1]
    simp

/-- The up factor's gradient, as the reference computes it. -/
theorem du_eq (df wd : Fin 1024 → EReal) (g : EReal) : duE df wd g = g * Ideal.logistic g * ∑ q, df q * wd q := mul_comm _ _

end Cert.FfnBody

end
-- ==== Proof.FfnArgs.lean ====
module

public import proofs.«01_k».proof.Proof.FfnArray
public import proofs.«01_k».proof.Proof.Gen.FfnRefIdeal.Read

/- What the feed-forward pipeline's input arrays hold at its entry, of the arguments. -/

set_option maxRecDepth 16384

@[expose] public section

noncomputable section

namespace Cert.FfnBody

open Idealize.ShloMosaic Idealize.ShloMosaic.TcCoe Idealize.SL.Sem
open Cert.FfnBwdIdeal Cert.FfnBwdIdeal.Gen

/-- Column `f` of shard `j` among all columns. -/
def fcol (j : Fin 4) (f : Fin 704) : Fin 2816 := ⟨j.val * 704 + f.val, by omega⟩

/-- The factors by shard. -/
def shards (x : S1x4096x2816.Idx → EReal) : S4x4096x704.Idx → EReal := fun i => x (ix3 0 (i 1) (fcol (i 0) (i 2)))
/-- Rows without their leading axis. -/
def rowsOf (x : S1x4096x1024.Idx → EReal) : S4096x1024.Idx → EReal := fun i => x (ix3 0 (i 0) (i 1))
/-- A first weight by shard, transposed. -/
def wShard (x : S1024x2816.Idx → EReal) : S4x704x1024.Idx → EReal := fun i => x (ix2 (i 2) (fcol (i 0) (i 1)))
/-- The second weight by shard. -/
def dShard (x : S2816x1024.Idx → EReal) : S4x704x1024.Idx → EReal := fun i => x (ix2 (fcol (i 0) (i 1)) (i 2))

/-- The input arrays of the arguments. -/
def argA (x0 x1 : S1x4096x1024.Idx → EReal) (x2 x3 : S1x1024.Idx → EReal) (x4 x5 : S1024x2816.Idx → EReal) (x6 : S2816x1024.Idx → EReal)
    (x7 x8 : S1x4096x1024.Idx → EReal) : Arrs where
  df := rowsOf x8
  g := shards (Cert.FfnRefIdeal.Read.val_main_v35 (F := Ideal) x0 x1 x2 x3 x4)
  u := shards (Cert.FfnRefIdeal.Read.val_main_v36 (F := Ideal) x0 x1 x2 x3 x5)
  wg := wShard x4
  wu := wShard x5
  wd := dShard x6
  dy := rowsOf x7
  x := rowsOf (Cert.FfnRefIdeal.Read.val_main_v18 (F := Ideal) x0 x1 x2)
  mix := rowsOf x1
  g3 := x3
  g2 := x2

theorem shards_eq (x : S1x4096x2816.Idx → EReal) (h h') : transpose S4x4096x704 [1, 0, 2] (shapeCast S4096x4x704 x h) h' = shards x := by
  funext j
  obtain ⟨a, b, d, rfl⟩ : ∃ (a : Fin 4) (b : Fin 4096) (d : Fin 704), j = ix3 a b d := ⟨j 0, j 1, j 2, eq_ix3 j⟩
  pointwise
  rfl
theorem rowsOf_eq (x : S1x4096x1024.Idx → EReal) (h) : shapeCast S4096x1024 x h = rowsOf x := by
  funext j
  obtain ⟨a, b, rfl⟩ : ∃ (a : Fin 4096) (b : Fin 1024), j = ix2 a b := ⟨j 0, j 1, eq_ix2 j⟩
  pointwise
  rfl
theorem wShard_eq (x : S1024x2816.Idx → EReal) (h h') : shapeCast S4x704x1024 (transpose S2816x1024 [1, 0] x h') h = wShard x := by
  funext j
  obtain ⟨a, b, d, rfl⟩ : ∃ (a : Fin 4) (b : Fin 704) (d : Fin 1024), j = ix3 a b d := ⟨j 0, j 1, j 2, eq_ix3 j⟩
  pointwise
  rfl
theorem dShard_eq (x : S2816x1024.Idx → EReal) (h) : shapeCast S4x704x1024 x h = dShard x := by
  funext j
  obtain ⟨a, b, d, rfl⟩ : ∃ (a : Fin 4) (b : Fin 704) (d : Fin 1024), j = ix3 a b d := ⟨j 0, j 1, j 2, eq_ix3 j⟩
  pointwise
  rfl

variable (m : (ℓ : Loc nD τ sig) → Buf (Elt Ideal) ℓ) (c : Dev nD)

theorem V40 : V m c main_v40 = rowsOf (m ((c : Thread nD τ).loc main_arg8)) := by
  have h : V m c main_v40 = shapeCast S4096x1024 (m ((c : Thread nD τ).loc main_arg8)) shapeCasts_S1x4096x1024_S4096x1024 := by
    entry_read
    rfl
  exact h.trans (rowsOf_eq _ _)

theorem V43 : V m c main_v43 = shards (Cert.FfnRefIdeal.Read.val_main_v35 (F := Ideal) (m ((c : Thread nD τ).loc main_arg0)) (m ((c : Thread nD τ).loc main_arg1)) (m ((c : Thread nD τ).loc main_arg2)) (m ((c : Thread nD τ).loc main_arg3)) (m ((c : Thread nD τ).loc main_arg4))) := by
  have h : V m c main_v43 = transpose S4x4096x704 [1, 0, 2] (shapeCast S4096x4x704 (Cert.FfnRefIdeal.Read.val_main_v35 (F := Ideal) (m ((c : Thread nD τ).loc main_arg0)) (m ((c : Thread nD τ).loc main_arg1)) (m ((c : Thread nD τ).loc main_arg2)) (m ((c : Thread nD τ).loc main_arg3)) (m ((c : Thread nD τ).loc main_arg4))) shapeCasts_S1x4096x2816_S4096x4x704) transposes_S4096x4x704_S4x4096x704_1_0_2 := by
    entry_read
    rfl
  exact h.trans (shards_eq _ _ _)

theorem V46 : V m c main_v46 = shards (Cert.FfnRefIdeal.Read.val_main_v36 (F := Ideal) (m ((c : Thread nD τ).loc main_arg0)) (m ((c : Thread nD τ).loc main_arg1)) (m ((c : Thread nD τ).loc main_arg2)) (m ((c : Thread nD τ).loc main_arg3)) (m ((c : Thread nD τ).loc main_arg5))) := by
  have h : V m c main_v46 = transpose S4x4096x704 [1, 0, 2] (shapeCast S4096x4x704 (Cert.FfnRefIdeal.Read.val_main_v36 (F := Ideal) (m ((c : Thread nD τ).loc main_arg0)) (m ((c : Thread nD τ).loc main_arg1)) (m ((c : Thread nD τ).loc main_arg2)) (m ((c : Thread nD τ).loc main_arg3)) (m ((c : Thread nD τ).loc main_arg5))) shapeCasts_S1x4096x2816_S4096x4x704) transposes_S4096x4x704_S4x4096x704_1_0_2 := by
    entry_read
    rfl
  exact h.trans (shards_eq _ _ _)

theorem V34 : V m c main_v34 = wShard (m ((c : Thread nD τ).loc main_arg4)) := by
  have h : V m c main_v34 = shapeCast S4x704x1024 (transpose S2816x1024 [1, 0] (m ((c : Thread nD τ).loc main_arg4)) transposes_S1024x2816_S2816x1024_1_0) shapeCasts_S2816x1024_S4x704x1024 := by
    entry_read
    rfl
  exact h.trans (wShard_eq _ _ _)

theorem V36 : V m c main_v36 = wShard (m ((c : Thread nD τ).loc main_arg5)) := by
  have h : V m c main_v36 = shapeCast S4x704x1024 (transpose S2816x1024 [1, 0] (m ((c : Thread nD τ).loc main_arg5)) transposes_S1024x2816_S2816x1024_1_0) shapeCasts_S2816x1024_S4x704x1024 := by
    entry_read
    rfl
  exact h.trans (wShard_eq _ _ _)

theorem V38 : V m c main_v38 = dShard (m ((c : Thread nD τ).loc main_arg6)) := by
  have h : V m c main_v38 = shapeCast S4x704x1024 (m ((c : Thread nD τ).loc main_arg6)) shapeCasts_S2816x1024_S4x704x1024 := by
    entry_read
    rfl
  exact h.trans (dShard_eq _ _)

theorem V47 : V m c main_v47 = rowsOf (m ((c : Thread nD τ).loc main_arg7)) := by
  entry_read
  exact rowsOf_eq _ _

theorem V48 : V m c main_v48 = rowsOf (Cert.FfnRefIdeal.Read.val_main_v18 (F := Ideal) (m ((c : Thread nD τ).loc main_arg0)) (m ((c : Thread nD τ).loc main_arg1)) (m ((c : Thread nD τ).loc main_arg2))) := by
  have h : V m c main_v48 = shapeCast S4096x1024 (Cert.FfnRefIdeal.Read.val_main_v18 (F := Ideal) (m ((c : Thread nD τ).loc main_arg0)) (m ((c : Thread nD τ).loc main_arg1)) (m ((c : Thread nD τ).loc main_arg2))) shapeCasts_S1x4096x1024_S4096x1024 := by
    entry_read
    rfl
  exact h.trans (rowsOf_eq _ _)

theorem V49 : V m c main_v49 = rowsOf (m ((c : Thread nD τ).loc main_arg1)) := by
  entry_read
  exact rowsOf_eq _ _

/-- The input arrays at the region's entry. -/
theorem arrs_eq : arrs m c = argA (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  unfold arrs argA
  rw [V40, V43, V46, V34, V36, V38, V47, V48, V49, V_main_arg3, V_main_arg2]

end Cert.FfnBody

end
-- ==== Proof.FfnRefRead.lean ====
module

public import proofs.«01_k».proof.Proof.FfnMath
public import proofs.«01_k».proof.Proof.FfnArgs

/- The feed-forward reference's arrays read at an index. -/

set_option maxRecDepth 16384

@[expose] public section

noncomputable section

namespace Cert.FfnBody

open Idealize.ShloMosaic Idealize.ShloMosaic.TcCoe Idealize.SL.Sem
open Cert.FfnRefIdeal Cert.FfnRefIdeal.Read

/-- Summing the outer and the inner axis, both of length one, away. -/
theorem reduce_one (y : S1x4096x1.Idx → EReal) (a : Fin 4096) :
    Ideal.hostReduceAdd Gen.reducesTo_S1x4096x1_S4096_d0_2 y 0 (ix1 a) = y (ix3 0 a 0) := by
  have hd : ∀ i : S1x4096x1.Idx, (Gen.reducesTo_S1x4096x1_S4096_d0_2).drop i = ix1 (i 1) := fun i => by
    funext b
    match b with
    | ⟨0, _⟩ => exact Fin.ext rfl
  unfold Ideal.hostReduceAdd
  rw [zero_add, Finset.sum_eq_single_of_mem (ix3 0 a 0)]
  · rw [Finset.mem_filter]
    exact ⟨Finset.mem_univ _, hd _⟩
  · intro i hi hne
    rw [Finset.mem_filter, hd] at hi
    exact absurd (by
      have hq : i 1 = a := congrFun hi.2 0
      refine (eq_ix3 i).trans ?_
      rw [← hq]
      exact congrArg₂ (fun p q : Fin 1 => ix3 p (i 1) q) (Subsingleton.elim (α := Fin 1) _ _) (Subsingleton.elim (α := Fin 1) _ _)) hne

/-- Summing the two leading axes, both of length one, away. -/
theorem reduce_two (y : S1x1x1024.Idx → EReal) (k : Fin 1024) :
    Ideal.hostReduceAdd Gen.reducesTo_S1x1x1024_S1024_d0_1 y 0 (ix1 k) = y (ix3 0 0 k) := by
  have hd : ∀ i : S1x1x1024.Idx, (Gen.reducesTo_S1x1x1024_S1024_d0_1).drop i = ix1 (i 2) := fun i => by
    funext b
    match b with
    | ⟨0, _⟩ => exact Fin.ext rfl
  unfold Ideal.hostReduceAdd
  rw [zero_add, Finset.sum_eq_single_of_mem (ix3 0 0 k)]
  · rw [Finset.mem_filter]
    exact ⟨Finset.mem_univ _, hd _⟩
  · intro i hi hne
    rw [Finset.mem_filter, hd] at hi
    exact absurd (by
      have hq : i 2 = k := congrFun hi.2 0
      refine (eq_ix3 i).trans ?_
      rw [← hq]
      exact congrArg₂ (fun p q : Fin 1 => ix3 p q (i 2)) (Subsingleton.elim (α := Fin 1) _ _) (Subsingleton.elim (α := Fin 1) _ _)) hne

variable (x0 x1 x7 x8 : S1x4096x1024.Idx → EReal) (x2 x3 : S1x1024.Idx → EReal) (x4 x5 : S1024x2816.Idx → EReal) (x6 : S2816x1024.Idx → EReal)

/-- The mixer rows' inverted root. -/
theorem r8 (a : Fin 4096) : val_main_v9 (F := Ideal) x1 (ix3 0 a 0) = (rE (fun q => x1 (ix3 0 a q)) : EReal) := by
  unfold val_main_v9 val_main_v8 val_main_v7 val_main_cst_1 val_main_v6 val_main_v5 val_main_cst_0 val_main_v4 val_main_v3 val_main_cst val_main_v2 rE cD cE
  pointwise

/-- Its derivative's factor. -/
theorem r10 (a : Fin 4096) : val_main_v12 (F := Ideal) x1 (ix3 0 a 0) = (cH * Ideal.div (rE (fun q => x1 (ix3 0 a q))) (vE (fun q => x1 (ix3 0 a q))) : EReal) := by
  unfold val_main_v12 val_main_v11 val_main_cst_2 val_main_v10 val_main_v8 val_main_v7 val_main_cst_1 val_main_v6 val_main_v5 val_main_cst_0 val_main_v4 val_main_v3 val_main_cst val_main_v2
  pointwise
  rw [r8]
  unfold vE cD cE cH
  rfl

theorem r14 (a : Fin 4096) (k : Fin 1024) : val_main_v14 (F := Ideal) x1 (ix3 0 a k) = (nE (fun q => x1 (ix3 0 a q)) k : EReal) := by
  unfold val_main_v14 val_main_v13
  pointwise
  rw [r8]
  rfl

/-- The rows before the feed-forward norm. -/
theorem r18 (a : Fin 4096) (k : Fin 1024) : val_main_v18 (F := Ideal) x0 x1 x2 (ix3 0 a k) = (x0 (ix3 0 a k) + nE (fun q => x1 (ix3 0 a q)) k * x2 (ix2 0 k) : EReal) := by
  unfold val_main_v18 val_main_v17 val_main_v16 val_main_v15 val_main_v0
  pointwise
  rw [r14]

/-- The feed-forward rows' inverted root. -/
theorem r26 (a : Fin 4096) : val_main_v26 (F := Ideal) x0 x1 x2 (ix3 0 a 0) = (rE (fun q => val_main_v18 (F := Ideal) x0 x1 x2 (ix3 0 a q)) : EReal) := by
  unfold val_main_v26 val_main_v25 val_main_v24 val_main_cst_5 val_main_v23 val_main_v22 val_main_cst_4 val_main_v21 val_main_v20 val_main_cst_3 val_main_v19 rE cD cE
  pointwise

theorem r29 (a : Fin 4096) : val_main_v29 (F := Ideal) x0 x1 x2 (ix3 0 a 0) = (cH * Ideal.div (rE (fun q => val_main_v18 (F := Ideal) x0 x1 x2 (ix3 0 a q))) (vE (fun q => val_main_v18 (F := Ideal) x0 x1 x2 (ix3 0 a q))) : EReal) := by
  unfold val_main_v29 val_main_v28 val_main_cst_6 val_main_v27 val_main_v25 val_main_v24 val_main_cst_5 val_main_v23 val_main_v22 val_main_cst_4 val_main_v21 val_main_v20 val_main_cst_3 val_main_v19
  pointwise
  rw [r26]
  unfold vE cD cE cH
  rfl

theorem r31 (a : Fin 4096) (k : Fin 1024) : val_main_v31 (F := Ideal) x0 x1 x2 (ix3 0 a k) = (nE (fun q => val_main_v18 (F := Ideal) x0 x1 x2 (ix3 0 a q)) k : EReal) := by
  unfold val_main_v31 val_main_v30
  pointwise
  rw [r26]
  rfl

theorem r34 (a : Fin 4096) (k : Fin 1024) : val_main_v34 (F := Ideal) x0 x1 x2 x3 (ix3 0 a k) = (nE (fun q => val_main_v18 (F := Ideal) x0 x1 x2 (ix3 0 a q)) k * x3 (ix2 0 k) : EReal) := by
  unfold val_main_v34 val_main_v33 val_main_v32 val_main_v1
  pointwise
  rw [r31]

theorem r35 (a : Fin 4096) (f : Fin 2816) : val_main_v35 (F := Ideal) x0 x1 x2 x3 x4 (ix3 0 a f) = (∑ q, nE (fun q => val_main_v18 (F := Ideal) x0 x1 x2 (ix3 0 a q)) q * x3 (ix2 0 q) * x4 (ix2 q f) : EReal) := by
  unfold val_main_v35
  pointwise
  simp only [r34]

theorem r36 (a : Fin 4096) (f : Fin 2816) : val_main_v36 (F := Ideal) x0 x1 x2 x3 x5 (ix3 0 a f) = (∑ q, nE (fun q => val_main_v18 (F := Ideal) x0 x1 x2 (ix3 0 a q)) q * x3 (ix2 0 q) * x5 (ix2 q f) : EReal) := by
  unfold val_main_v36
  pointwise
  simp only [r34]

/-- The gate factor's sigmoid. -/
theorem r37 (a : Fin 4096) (f : Fin 2816) : val_main_v37_2 (F := Ideal) x0 x1 x2 x3 x4 (ix3 0 a f) = (Ideal.logistic (val_main_v35 (F := Ideal) x0 x1 x2 x3 x4 (ix3 0 a f)) : EReal) := by
  unfold val_main_v37_2 val_main_call0_v4 val_main_call0_cst_0 val_main_call0_v3 val_main_call0_v2 val_main_call0_cst val_main_call0_v1 val_main_call0_v0
  pointwise
  rfl

/-- The up factor's gradient. -/
theorem r41 (a : Fin 4096) (f : Fin 2816) : val_main_v41 (F := Ideal) x0 x1 x2 x3 x4 x6 x8 (ix3 0 a f) = (val_main_v35 (F := Ideal) x0 x1 x2 x3 x4 (ix3 0 a f) * Ideal.logistic (val_main_v35 (F := Ideal) x0 x1 x2 x3 x4 (ix3 0 a f)) * (∑ q, x8 (ix3 0 a q) * x6 (ix2 f q)) : EReal) := by
  unfold val_main_v41 val_main_v40 val_main_v37_0
  pointwise
  rw [r37]

/-- The gate factor's gradient. -/
theorem r43 (a : Fin 4096) (f : Fin 2816) : val_main_v43 (F := Ideal) x0 x1 x2 x3 x4 x5 x6 x8 (ix3 0 a f) = ((∑ q, x8 (ix3 0 a q) * x6 (ix2 f q)) * val_main_v36 (F := Ideal) x0 x1 x2 x3 x5 (ix3 0 a f) * Ideal.logistic (val_main_v35 (F := Ideal) x0 x1 x2 x3 x4 (ix3 0 a f)) + val_main_v35 (F := Ideal) x0 x1 x2 x3 x4 (ix3 0 a f) * ((∑ q, x8 (ix3 0 a q) * x6 (ix2 f q)) * val_main_v36 (F := Ideal) x0 x1 x2 x3 x5 (ix3 0 a f)) * (Ideal.logistic (val_main_v35 (F := Ideal) x0 x1 x2 x3 x4 (ix3 0 a f)) * (1 - Ideal.logistic (val_main_v35 (F := Ideal) x0 x1 x2 x3 x4 (ix3 0 a f)))) : EReal) := by
  unfold val_main_v43 val_main_call1_v2 val_main_call1_v1 val_main_call1_v0 val_main_v42 val_main_v40 val_main_v37_1 val_main_call0_v7 val_main_call0_v6 val_main_call0_cst_1
  pointwise
  rw [r37]

/-- The gradient at the normed rows. -/
theorem r46 (a : Fin 4096) (k : Fin 1024) : val_main_v46 (F := Ideal) x0 x1 x2 x3 x4 x5 x6 x8 (ix3 0 a k) = (∑ f, val_main_v41 (F := Ideal) x0 x1 x2 x3 x4 x6 x8 (ix3 0 a f) * x5 (ix2 k f) + ∑ f, val_main_v43 (F := Ideal) x0 x1 x2 x3 x4 x5 x6 x8 (ix3 0 a f) * x4 (ix2 k f) : EReal) := by
  unfold val_main_v46 val_main_v44 val_main_v45
  pointwise

/-- The feed-forward norm's correction. -/
theorem r64 (a : Fin 4096) (k : Fin 1024) : val_main_v64 (F := Ideal) x0 x1 x2 x3 x4 x5 x6 x8 (ix3 0 a k) = (wE (fun q => val_main_v46 (F := Ideal) x0 x1 x2 x3 x4 x5 x6 x8 (ix3 0 a q)) (fun q => x3 (ix2 0 q)) (fun q => val_main_v18 (F := Ideal) x0 x1 x2 (ix3 0 a q)) : EReal) := by
  unfold val_main_v64 val_main_v63 val_main_v62 val_main_v61 val_main_v60
  pointwise
  have h0 : (val_main_cst_11 (F := Ideal) (Shape.Idx.first Gen.h_S_) : EReal) = 0 := by
    unfold val_main_cst_11
    pointwise
  rw [h0, reduce_one]
  unfold val_main_v59
  unfold val_main_cst_10 val_main_v55 val_main_v54 val_main_cst_9 val_main_v53 val_main_v51 val_main_v50 val_main_v32 val_main_v1
  pointwise
  rw [r29]
  rfl

/-- The gradient at the rows before the feed-forward norm. -/
theorem r68 (a : Fin 4096) (k : Fin 1024) : val_main_v68 (F := Ideal) x0 x1 x2 x3 x4 x5 x6 x7 x8 (ix3 0 a k) = (x7 (ix3 0 a k) + val_main_v46 (F := Ideal) x0 x1 x2 x3 x4 x5 x6 x8 (ix3 0 a k) * x3 (ix2 0 k) * rE (fun q => val_main_v18 (F := Ideal) x0 x1 x2 (ix3 0 a q)) + val_main_v18 (F := Ideal) x0 x1 x2 (ix3 0 a k) * wE (fun q => val_main_v46 (F := Ideal) x0 x1 x2 x3 x4 x5 x6 x8 (ix3 0 a q)) (fun q => x3 (ix2 0 q)) (fun q => val_main_v18 (F := Ideal) x0 x1 x2 (ix3 0 a q)) + wE (fun q => val_main_v46 (F := Ideal) x0 x1 x2 x3 x4 x5 x6 x8 (ix3 0 a q)) (fun q => x3 (ix2 0 q)) (fun q => val_main_v18 (F := Ideal) x0 x1 x2 (ix3 0 a q)) * val_main_v18 (F := Ideal) x0 x1 x2 (ix3 0 a k) : EReal) := by
  unfold val_main_v68 val_main_v67 val_main_v66 val_main_v65 val_main_v58 val_main_v57 val_main_v56 val_main_v51 val_main_v50 val_main_v32 val_main_v1
  pointwise
  rw [r26, r64]

/-- The mixer norm's correction. -/
theorem r86 (a : Fin 4096) (k : Fin 1024) : val_main_v86 (F := Ideal) x0 x1 x2 x3 x4 x5 x6 x7 x8 (ix3 0 a k) = (wE (fun q => val_main_v68 (F := Ideal) x0 x1 x2 x3 x4 x5 x6 x7 x8 (ix3 0 a q)) (fun q => x2 (ix2 0 q)) (fun q => x1 (ix3 0 a q)) : EReal) := by
  unfold val_main_v86 val_main_v85 val_main_v84 val_main_v83 val_main_v82
  pointwise
  have h0 : (val_main_cst_16 (F := Ideal) (Shape.Idx.first Gen.h_S_) : EReal) = 0 := by
    unfold val_main_cst_16
    pointwise
  rw [h0, reduce_one]
  unfold val_main_v81
  unfold val_main_cst_15 val_main_v78 val_main_v77 val_main_cst_14 val_main_v76 val_main_v74 val_main_v73 val_main_v69 val_main_v15 val_main_v0
  pointwise
  rw [r10]
  rfl

/-- The gradient at the mixer's rows. -/
theorem r90 (a : Fin 4096) (k : Fin 1024) : val_main_v90 (F := Ideal) x0 x1 x2 x3 x4 x5 x6 x7 x8 (ix3 0 a k) = (val_main_v68 (F := Ideal) x0 x1 x2 x3 x4 x5 x6 x7 x8 (ix3 0 a k) * x2 (ix2 0 k) * rE (fun q => x1 (ix3 0 a q)) + x1 (ix3 0 a k) * wE (fun q => val_main_v68 (F := Ideal) x0 x1 x2 x3 x4 x5 x6 x7 x8 (ix3 0 a q)) (fun q => x2 (ix2 0 q)) (fun q => x1 (ix3 0 a q)) + wE (fun q => val_main_v68 (F := Ideal) x0 x1 x2 x3 x4 x5 x6 x7 x8 (ix3 0 a q)) (fun q => x2 (ix2 0 q)) (fun q => x1 (ix3 0 a q)) * x1 (ix3 0 a k) : EReal) := by
  unfold val_main_v90 val_main_v89 val_main_v88 val_main_v87 val_main_v80 val_main_v79 val_main_v74 val_main_v69 val_main_v73 val_main_v15 val_main_v0
  pointwise
  rw [r8, r86]

/-- The feed-forward scale's gradient. -/
theorem r52 (k : Fin 1024) : val_main_v52 (F := Ideal) x0 x1 x2 x3 x4 x5 x6 x8 (ix1 k) = (∑ a, nE (fun q => val_main_v18 (F := Ideal) x0 x1 x2 (ix3 0 a q)) k * val_main_v46 (F := Ideal) x0 x1 x2 x3 x4 x5 x6 x8 (ix3 0 a k) : EReal) := by
  unfold val_main_v52 val_main_v49 val_main_v48 val_main_v47
  pointwise
  have h0 : (val_main_cst_8 (F := Ideal) (Shape.Idx.first Gen.h_S_) : EReal) = 0 := by
    unfold val_main_cst_8
    pointwise
  rw [h0, reduce_two]
  unfold val_main_cst_7
  pointwise
  simp only [r31]

/-- The mixer scale's gradient. -/
theorem r75 (k : Fin 1024) : val_main_v75 (F := Ideal) x0 x1 x2 x3 x4 x5 x6 x7 x8 (ix1 k) = (∑ a, nE (fun q => x1 (ix3 0 a q)) k * val_main_v68 (F := Ideal) x0 x1 x2 x3 x4 x5 x6 x7 x8 (ix3 0 a k) : EReal) := by
  unfold val_main_v75 val_main_v72 val_main_v71 val_main_v70 val_main_v69
  pointwise
  have h0 : (val_main_cst_13 (F := Ideal) (Shape.Idx.first Gen.h_S_) : EReal) = 0 := by
    unfold val_main_cst_13
    pointwise
  rw [h0, reduce_two]
  unfold val_main_cst_12
  pointwise
  simp only [r14]

theorem r95 (j : Fin 4) (a : Fin 4096) (f : Fin 704) : val_main_v95 (F := Ideal) x0 x1 x2 x3 x4 x5 x6 x8 (ix3 j a f) = (val_main_v43 (F := Ideal) x0 x1 x2 x3 x4 x5 x6 x8 (ix3 0 a (fcol j f)) : EReal) := by
  unfold val_main_v95 val_main_v94 val_main_v93
  pointwise
  rfl

theorem r98 (j : Fin 4) (a : Fin 4096) (f : Fin 704) : val_main_v98 (F := Ideal) x0 x1 x2 x3 x4 x6 x8 (ix3 j a f) = (val_main_v41 (F := Ideal) x0 x1 x2 x3 x4 x6 x8 (ix3 0 a (fcol j f)) : EReal) := by
  unfold val_main_v98 val_main_v97 val_main_v96
  pointwise
  rfl

theorem r99 (a : Fin 4096) (k : Fin 1024) : val_main_v99 (F := Ideal) x0 x1 x2 x3 x4 x5 x6 x7 x8 (ix2 a k) = (val_main_v68 (F := Ideal) x0 x1 x2 x3 x4 x5 x6 x7 x8 (ix3 0 a k) : EReal) := by
  unfold val_main_v99
  pointwise

theorem r101 (a : Fin 4096) (k : Fin 1024) : val_main_v101 (F := Ideal) x0 x1 x2 x3 x4 x5 x6 x7 x8 (ix2 a k) = (val_main_v90 (F := Ideal) x0 x1 x2 x3 x4 x5 x6 x7 x8 (ix3 0 a k) : EReal) := by
  unfold val_main_v101 val_main_v100
  pointwise

theorem r91 (k : Fin 1024) : val_main_v91 (F := Ideal) x0 x1 x2 x3 x4 x5 x6 x8 (ix2 0 k) = (val_main_v52 (F := Ideal) x0 x1 x2 x3 x4 x5 x6 x8 (ix1 k) : EReal) := by
  unfold val_main_v91
  pointwise

theorem r92 (k : Fin 1024) : val_main_v92 (F := Ideal) x0 x1 x2 x3 x4 x5 x6 x7 x8 (ix2 0 k) = (val_main_v75 (F := Ideal) x0 x1 x2 x3 x4 x5 x6 x7 x8 (ix1 k) : EReal) := by
  unfold val_main_v92
  pointwise

end Cert.FfnBody

end
-- ==== Proof.FfnMeet.lean ====
module

public import proofs.«01_k».proof.Proof.FfnRefRead
public import proofs.«01_k».proof.Proof.FfnFinal

/- The feed-forward pipeline's six arrays are the reference's. -/

set_option maxRecDepth 16384

@[expose] public section

noncomputable section

namespace Cert.FfnBody

open Idealize.ShloMosaic Idealize.ShloMosaic.TcCoe Idealize.SL.Sem
open Cert.FfnRefIdeal Cert.FfnRefIdeal.Read

/-- A sum over all columns by shard. -/
theorem sum_shards (F : Fin 2816 → EReal) : ∑ f, F f = (∑ f, F (fcol 0 f)) + (∑ f, F (fcol 1 f)) + (∑ f, F (fcol 2 f)) + ∑ f, F (fcol 3 f) := by
  have h : ∑ s : Fin 4, ∑ k : Fin 704, F (fcol s k) = ∑ f, F f := Fin.sum_mul_add_congr (f := F) (fun s k _ => rfl) (by decide)
  rw [← h, Fin.sum_univ_four]

variable {x0 x1 x7 x8 : S1x4096x1024.Idx → EReal} {x2 x3 : S1x1024.Idx → EReal} {x4 x5 : S1024x2816.Idx → EReal} {x6 : S2816x1024.Idx → EReal}
variable (h3 : ∀ i, Rl (x3 i)) (h5 : ∀ i, Rl (x5 i)) (h6 : ∀ i, Rl (x6 i)) (h8 : ∀ i, Rl (x8 i))

include h3 h5 in
theorem l36 (a : Fin 4096) (f : Fin 2816) : Rl ((val_main_v36 (F := Ideal) x0 x1 x2 x3 x5) (ix3 0 a f)) := by
  rw [r36]
  exact Rl.sum _ fun q => ((rl_nE _ q).mul (h3 _)).mul (h5 _)

include h3 h5 h6 h8 in
/-- The gate factor's gradient. -/
theorem mDG (j : Fin 4) (a : Fin 4096) (f : Fin 704) : (argA x0 x1 x2 x3 x4 x5 x6 x7 x8).DG j a f = (val_main_v43 (F := Ideal) x0 x1 x2 x3 x4 x5 x6 x8) (ix3 0 a (fcol j f)) := by
  rw [r43]
  exact dg_eq _ (fun q => h8 _) (fun q => h6 _) (l36 h3 h5 a (fcol j f))

/-- The up factor's gradient. -/
theorem mDU (j : Fin 4) (a : Fin 4096) (f : Fin 704) : (argA x0 x1 x2 x3 x4 x5 x6 x7 x8).DU j a f = (val_main_v41 (F := Ideal) x0 x1 x2 x3 x4 x6 x8) (ix3 0 a (fcol j f)) := by
  rw [r41]
  exact du_eq _ _ _

include h3 h5 h6 h8 in
/-- The gradient at the normed rows. -/
theorem mDH (a : Fin 4096) (k : Fin 1024) : (argA x0 x1 x2 x3 x4 x5 x6 x7 x8).DH a k = (val_main_v46 (F := Ideal) x0 x1 x2 x3 x4 x5 x6 x8) (ix3 0 a k) := by
  have hc : ∀ j : Fin 4, (argA x0 x1 x2 x3 x4 x5 x6 x7 x8).CON j a k = (∑ f, (val_main_v43 (F := Ideal) x0 x1 x2 x3 x4 x5 x6 x8) (ix3 0 a (fcol j f)) * x4 (ix2 k (fcol j f))) + ∑ f, (val_main_v41 (F := Ideal) x0 x1 x2 x3 x4 x6 x8) (ix3 0 a (fcol j f)) * x5 (ix2 k (fcol j f)) := fun j => by
    refine congrArg₂ (· + ·) (Finset.sum_congr rfl fun f _ => ?_) (Finset.sum_congr rfl fun f _ => ?_)
    · exact congrArg (· * x4 (ix2 k (fcol j f))) (mDG h3 h5 h6 h8 j a f)
    · exact congrArg (· * x5 (ix2 k (fcol j f))) (mDU j a f)
  unfold Arrs.DH
  rw [hc, hc, hc, hc, r46, sum_shards (fun f => (val_main_v41 (F := Ideal) x0 x1 x2 x3 x4 x6 x8) (ix3 0 a f) * x5 (ix2 k f)), sum_shards (fun f => (val_main_v43 (F := Ideal) x0 x1 x2 x3 x4 x5 x6 x8) (ix3 0 a f) * x4 (ix2 k f))]
  abel

include h3 h5 h6 h8 in
/-- The gradient at the rows before the feed-forward norm. -/
theorem mDX (a : Fin 4096) (k : Fin 1024) : (argA x0 x1 x2 x3 x4 x5 x6 x7 x8).DX a k = (val_main_v68 (F := Ideal) x0 x1 x2 x3 x4 x5 x6 x7 x8) (ix3 0 a k) := by
  have hd : (argA x0 x1 x2 x3 x4 x5 x6 x7 x8).DH a = fun q => (val_main_v46 (F := Ideal) x0 x1 x2 x3 x4 x5 x6 x8) (ix3 0 a q) := funext fun q => mDH h3 h5 h6 h8 a q
  have hb := bwd_eq (fun q => (val_main_v46 (F := Ideal) x0 x1 x2 x3 x4 x5 x6 x8) (ix3 0 a q)) (fun q => x3 (ix2 0 q)) (fun q => (val_main_v18 (F := Ideal) x0 x1 x2) (ix3 0 a q)) k
  rw [r68, add_assoc, add_assoc]
  unfold Arrs.DX
  rw [hd]
  refine congrArg (x7 (ix3 0 a k) + ·) (hb.trans ?_)
  rw [add_assoc]

include h3 h5 h6 h8 in
/-- The gradient at the mixer's rows. -/
theorem mDM (a : Fin 4096) (k : Fin 1024) : (argA x0 x1 x2 x3 x4 x5 x6 x7 x8).DM a k = (val_main_v90 (F := Ideal) x0 x1 x2 x3 x4 x5 x6 x7 x8) (ix3 0 a k) := by
  have hd : (argA x0 x1 x2 x3 x4 x5 x6 x7 x8).DX a = fun q => (val_main_v68 (F := Ideal) x0 x1 x2 x3 x4 x5 x6 x7 x8) (ix3 0 a q) := funext fun q => mDX h3 h5 h6 h8 a q
  have hb := bwd_eq (fun q => (val_main_v68 (F := Ideal) x0 x1 x2 x3 x4 x5 x6 x7 x8) (ix3 0 a q)) (fun q => x2 (ix2 0 q)) (fun q => x1 (ix3 0 a q)) k
  rw [r90]
  unfold Arrs.DM
  rw [hd]
  exact hb

include h3 h5 h6 h8 in
/-- The array of the gate factor's gradients. -/
theorem allDG : fDG (argA x0 x1 x2 x3 x4 x5 x6 x7 x8) = (val_main_v95 (F := Ideal) x0 x1 x2 x3 x4 x5 x6 x8) := by
  funext i
  obtain ⟨j, a, f, rfl⟩ : ∃ (j : Fin 4) (a : Fin 4096) (f : Fin 704), i = ix3 j a f := ⟨i 0, i 1, i 2, eq_ix3 i⟩
  rw [r95]
  exact mDG h3 h5 h6 h8 j a f

/-- The array of the up factor's gradients. -/
theorem allDU : fDU (argA x0 x1 x2 x3 x4 x5 x6 x7 x8) = (val_main_v98 (F := Ideal) x0 x1 x2 x3 x4 x6 x8) := by
  funext i
  obtain ⟨j, a, f, rfl⟩ : ∃ (j : Fin 4) (a : Fin 4096) (f : Fin 704), i = ix3 j a f := ⟨i 0, i 1, i 2, eq_ix3 i⟩
  rw [r98]
  exact mDU j a f

include h3 h5 h6 h8 in
/-- The array of the rows' gradients. -/
theorem allDX : fDX (argA x0 x1 x2 x3 x4 x5 x6 x7 x8) = (val_main_v99 (F := Ideal) x0 x1 x2 x3 x4 x5 x6 x7 x8) := by
  funext i
  obtain ⟨a, k, rfl⟩ : ∃ (a : Fin 4096) (k : Fin 1024), i = ix2 a k := ⟨i 0, i 1, eq_ix2 i⟩
  rw [r99]
  exact mDX h3 h5 h6 h8 a k

include h3 h5 h6 h8 in
/-- The array of the mixer rows' gradients. -/
theorem allDM : fDM (argA x0 x1 x2 x3 x4 x5 x6 x7 x8) = (val_main_v101 (F := Ideal) x0 x1 x2 x3 x4 x5 x6 x7 x8) := by
  funext i
  obtain ⟨a, k, rfl⟩ : ∃ (a : Fin 4096) (k : Fin 1024), i = ix2 a k := ⟨i 0, i 1, eq_ix2 i⟩
  rw [r101]
  exact mDM h3 h5 h6 h8 a k

include h3 h5 h6 h8 in
/-- The feed-forward scale's gradient. -/
theorem allG3 : fG3 (argA x0 x1 x2 x3 x4 x5 x6 x7 x8) = (val_main_v91 (F := Ideal) x0 x1 x2 x3 x4 x5 x6 x8) := by
  funext i
  obtain ⟨k, rfl⟩ : ∃ k : Fin 1024, i = ix2 0 k := ⟨i 1, split1 i⟩
  rw [r91, r52]
  refine Finset.sum_congr rfl fun a _ => ?_
  refine (congrArg (· * _) (mDH h3 h5 h6 h8 a k)).trans (mul_comm _ _)

include h3 h5 h6 h8 in
/-- The mixer scale's gradient. -/
theorem allG2 : fG2 (argA x0 x1 x2 x3 x4 x5 x6 x7 x8) = (val_main_v92 (F := Ideal) x0 x1 x2 x3 x4 x5 x6 x7 x8) := by
  funext i
  obtain ⟨k, rfl⟩ : ∃ k : Fin 1024, i = ix2 0 k := ⟨i 1, split1 i⟩
  rw [r92, r75]
  refine Finset.sum_congr rfl fun a _ => ?_
  refine (congrArg (· * _) (mDX h3 h5 h6 h8 a k)).trans (mul_comm _ _)

end Cert.FfnBody

end
-- ==== Proof.FfnPre.lean ====
module

public import proofs.«01_k».proof.Pre_finite_ffn
public import proofs.«01_k».proof.Proof.PoolPre
public import proofs.«01_k».proof.Proof.FfnMath

/- What the feed-forward precondition says of the arguments: no entry of four of them is infinite. -/

set_option maxRecDepth 16384

@[expose] public section

noncomputable section

namespace Cert.FfnBody

open Idealize.ShloMosaic
open Cert.Pre_finite_ffn

/-- The shape relations the predicate takes. -/
theorem preFacts : Cert.Pre_finite_ffn.Facts where
  bcast_S_S1x4096x1024 := by decide
  reducesTo_S1x4096x1024_S_d0_1_2 := by decide
  h_S_ := by decide
  bcast_S_S1x1024 := by decide
  reducesTo_S1x1024_S_d0_1 := by decide
  bcast_S_S1024x2816 := by decide
  reducesTo_S1024x2816_S_d0_1 := by decide
  bcast_S_S2816x1024 := by decide
  reducesTo_S2816x1024_S_d0_1 := by decide

attribute [local instance] preFacts in
/-- Under the precondition the scale before the feed-forward layer, the up and down weights and the layer's cotangent are real. -/
theorem pre_real (x0 x1 : FVec Ideal S1x4096x1024 .f32) (x2 x3 : FVec Ideal S1x1024 .f32) (x4 x5 : FVec Ideal S1024x2816 .f32) (x6 : FVec Ideal S2816x1024 .f32)
    (x7 x8 : FVec Ideal S1x4096x1024 .f32) (h : fn (F := Ideal) x0 x1 x2 x3 x4 x5 x6 x7 x8 = fun _ => 1#1) :
    (∀ i, Rl (x3 i)) ∧ (∀ i, Rl (x5 i)) ∧ (∀ i, Rl (x6 i)) ∧ ∀ i, Rl (x8 i) := by
  have e : ∀ j : S_.Idx, IntOp.andi (IntOp.andi (IntOp.andi _ _) _) _ = 1#1 := fun j => congrFun h j
  obtain ⟨e, e8⟩ := IntOp.andi_eq_one.1 (e (Shape.Idx.first (by decide)))
  obtain ⟨e, e6⟩ := IntOp.andi_eq_one.1 e
  obtain ⟨e3, e5⟩ := IntOp.andi_eq_one.1 e
  haveI : Subsingleton S_.Idx := ⟨fun a b => funext fun i => i.elim0⟩
  exact ⟨fun i => Cert.PoolBody.real_of_abs x3 _ i (Host.reduce_andi_all _ _ _ _ _ e3 i),
    fun i => Cert.PoolBody.real_of_abs x5 _ i (Host.reduce_andi_all _ _ _ _ _ e5 i),
    fun i => Cert.PoolBody.real_of_abs x6 _ i (Host.reduce_andi_all _ _ _ _ _ e6 i),
    fun i => Cert.PoolBody.real_of_abs x8 _ i (Host.reduce_andi_all _ _ _ _ _ e8 i)⟩

end Cert.FfnBody

end
-- ==== Proof.WHypsBits.lean ====
module

public import proofs.«01_k».proof.Proof.Gen.FfnW.Frame

/- The printed pipeline of the feed-forward weights' gradients reads the word zero, of which its side conditions hold. -/

set_option maxRecDepth 16384

@[expose] public section

noncomputable section

namespace Cert.FfnWBits

open Idealize.ShloMosaic Idealize.ShloMosaic.TcCoe Idealize.SL.Sem
open Cert.FfnW Cert.FfnW.Gen

variable {F : FTy → Type} [FloatOps F]
variable (m : (ℓ : Loc nD τ sig) → Buf (Elt F) ℓ) (c : Dev nD)

/-- The array of the word that places the halves: zero. -/
theorem V38 : V m c main_v38 = fun _ => 0#32 := by
  entry_read
  rfl

/-- The word a grid point reads. -/
theorem word (t : Fin cfg0.N) : (ms0_0 t).view.readAt (Elt F) (Rect.unit (s := S1) ![0] S1.size inb_S1_S1_0).toLoadRect ((hs0_0 t).unread (iblk m c 0 t)) (Shape.Idx.first (numel1_S1.symm ▸ Nat.one_pos)) = 0#32 := by
  refine (congrFun ((hs0_0 t).read_unread _) _).trans ?_
  exact congrFun (V38 m c) _

theorem chk1 (i : grid0.Coords) : k0_chk1 i 0#32 := ⟨fun _ => by decide, fun _ => by decide, fun _ => by decide, fun _ => by decide⟩
theorem chk2 (i : grid0.Coords) : k0_chk2 i 0#32 := ⟨fun _ => by decide, fun _ => by decide, fun _ => by decide, fun _ => by decide⟩
theorem chk3 (i : grid0.Coords) : k0_chk3 i 0#32 := ⟨fun _ => by decide, fun _ => by decide, fun _ => by decide, fun _ => by decide⟩

/-- The side conditions the body computes with hold at every grid point. -/
theorem hyps : Hyps m := fun c t =>
  ⟨fun _ => (word m c t).symm ▸ chk1 _, fun _ => (word m c t).symm ▸ chk2 _, fun _ => (word m c t).symm ▸ chk3 _⟩

end Cert.FfnWBits

end
-- ==== Proof.WPoint.lean ====
/- What the body of the feed-forward weights' gradients leaves at a grid point, in closed form over the point's input blocks. -/
module

public import proofs.«01_k».proof.Proof.Gen.FfnWIdeal.Value
public import Idealize.ShloMosaic.Lib.WritesUnit
public import Idealize.ShloMosaic.Lib.VecWindow
public import Idealize.ShloMosaic.Lib.WholeRead

@[expose] public section

set_option maxRecDepth 16384

noncomputable section

namespace Cert.FfnWBody

open Cert.FfnWIdeal Cert.FfnWIdeal.Gen
open Idealize.ShloMosaic Idealize.ShloMosaic.TcCoe Idealize.ShloMosaic.Tactic
open Idealize.SL Idealize.SL.RA Idealize.SL.Sem

variable {F : FTy → Type} [FloatOps F]

/-- The 352 rows of a gradient's tile from row `o`. -/
def half (S : Vec F S704x1024 .f32) (o : ℕ) (ho : o + 352 ≤ 704) : Vec F S352x1024 .f32 :=
  View.ld (Val := Elt F) S (Rect.unit (s := S704x1024) ![o, 0] S352x1024.size (by
    intro a; match a with
    | ⟨0, _⟩ => exact ho
    | ⟨1, _⟩ => exact (by decide : 0 + 1024 ≤ 1024)))

/-! ## Loads and stores -/

variable {κ : Kind} {sp : Space} {e : EltTy}

/-- A load of rectangle `r` of contents that read `X`. -/
theorem load_ld {s : Shape} {m : Memref sig κ sp s e} (h : m.IsWhole) (X : s.Idx → Elt F e) (r : Rect s) :
    View.readAt (Elt F) m.view r.toLoadRect (h.unread X) = View.ld X r :=
  congrArg (fun Y => View.ld (Val := Elt F) Y r) (h.read_unread X)

/-- All of an array. -/
theorem ld_all {s : Shape} (off : Fin s.rank → ℕ) (h0 : ∀ a, off a = 0) (hin : ∀ a, off a + s.size a ≤ s.size a) (X : s.Idx → Elt F e) :
    View.ld (Val := Elt F) X (Rect.unit (s := s) off s.size hin) = X := by
  funext j; exact congrArg X (funext fun a => Fin.ext (by
    change off a + 1 * (j a).val = (j a).val
    rw [h0 a, Nat.zero_add, Nat.one_mul]))

/-- A load of the whole of a block. -/
theorem load_h {m : Memref sig κ sp S2048x1024 e} (h : m.IsWhole) (X : S2048x1024.Idx → Elt F e) :
    View.readAt (Elt F) m.view (Rect.unit (s := S2048x1024) ![0, 0] S2048x1024.size inb_S2048x1024_S2048x1024_0_0).toLoadRect (h.unread X) = X := by
  rw [load_ld]; exact ld_all ![0, 0] (fun a => by match a with | ⟨0, _⟩ => rfl | ⟨1, _⟩ => rfl) _ X

/-- A load of the whole of a block. -/
theorem load_a {m : Memref sig κ sp S1x2048x704 e} (h : m.IsWhole) (X : S1x2048x704.Idx → Elt F e) :
    View.readAt (Elt F) m.view (Rect.unit (s := S1x2048x704) ![0, 0, 0] S1x2048x704.size inb_S1x2048x704_S1x2048x704_0_0_0).toLoadRect (h.unread X) = X := by
  rw [load_ld]; exact ld_all ![0, 0, 0] (fun a => by match a with | ⟨0, _⟩ => rfl | ⟨1, _⟩ => rfl | ⟨2, _⟩ => rfl) _ X

/-- A load of the whole of a block. -/
theorem load_s {m : Memref sig κ sp S704x1024 e} (h : m.IsWhole) (X : S704x1024.Idx → Elt F e) :
    View.readAt (Elt F) m.view (Rect.unit (s := S704x1024) ![0, 0] S704x1024.size inb_S704x1024_S704x1024_0_0).toLoadRect (h.unread X) = X := by
  rw [load_ld]; exact ld_all ![0, 0] (fun a => by match a with | ⟨0, _⟩ => rfl | ⟨1, _⟩ => rfl) _ X

/-- What a store of the whole of a tile leaves. -/
theorem read_put {v : View sig κ sp S704x1024 e} (f : v.ty.Contents (Elt F)) (w : S704x1024.Idx → Elt F e) (L : List (View.Piece (Elt F) S704x1024 e)) :
    v.read (Elt F) (v.writes (Elt F) f (⟨Rect.unit (s := S704x1024) ![0, 0] S704x1024.size inb_S704x1024_S704x1024_0_0, w⟩ :: L)) = w := by
  funext j; exact View.read_writes_cons_unit_of_mem v f _ w L j j rfl fun a => by
    match a with
    | ⟨0, _⟩ => exact (Nat.zero_add _).symm
    | ⟨1, _⟩ => exact (Nat.zero_add _).symm

/-- What a store of the whole of a result's block leaves. -/
theorem read_put3 {v : View sig κ sp S1x352x1024 e} (f : v.ty.Contents (Elt F)) (w : S1x352x1024.Idx → Elt F e) (L : List (View.Piece (Elt F) S1x352x1024 e)) :
    v.read (Elt F) (v.writes (Elt F) f (⟨Rect.unit (s := S1x352x1024) ![0, 0, 0] S1x352x1024.size inb_S1x352x1024_S1x352x1024_0_0_0, w⟩ :: L)) = w := by
  funext j; exact View.read_writes_cons_unit_of_mem v f _ w L j j rfl fun a => by
    match a with
    | ⟨0, _⟩ => exact (Nat.zero_add _).symm
    | ⟨1, _⟩ => exact (Nat.zero_add _).symm
    | ⟨2, _⟩ => exact (Nat.zero_add _).symm

/-- A load of the whole of a tile just stored. -/
theorem load_put {v : View sig κ sp S704x1024 e} (f : v.ty.Contents (Elt F)) (w : S704x1024.Idx → Elt F e) (L : List (View.Piece (Elt F) S704x1024 e)) :
    View.readAt (Elt F) v (Rect.unit (s := S704x1024) ![0, 0] S704x1024.size inb_S704x1024_S704x1024_0_0).toLoadRect (v.writes (Elt F) f (⟨Rect.unit (s := S704x1024) ![0, 0] S704x1024.size inb_S704x1024_S704x1024_0_0, w⟩ :: L)) = w :=
  (congrArg (fun Y => View.ld (Val := Elt F) Y (Rect.unit (s := S704x1024) ![0, 0] S704x1024.size inb_S704x1024_S704x1024_0_0)) (read_put f w L)).trans
    (ld_all ![0, 0] (fun a => by match a with | ⟨0, _⟩ => rfl | ⟨1, _⟩ => rfl) _ w)

/-- A load of 352 rows of a tile just stored. -/
theorem load_half {v : View sig κ sp S704x1024 .f32} (f : v.ty.Contents (Elt F)) (w : Vec F S704x1024 .f32) (L : List (View.Piece (Elt F) S704x1024 .f32))
    (off : Fin 2 → ℕ) (hin : ∀ a, off a + S352x1024.size a ≤ S704x1024.size a) (o : ℕ) (ho : o + 352 ≤ 704) (h : off = ![o, 0]) :
    View.readAt (Elt F) v (Rect.unit (s := S704x1024) off S352x1024.size hin).toLoadRect (v.writes (Elt F) f (⟨Rect.unit (s := S704x1024) ![0, 0] S704x1024.size inb_S704x1024_S704x1024_0_0, w⟩ :: L)) = half w o ho := by
  subst h
  exact congrArg (fun Y => View.ld (Val := Elt F) Y (Rect.unit (s := S704x1024) ![o, 0] S352x1024.size hin)) (read_put f w L)

/-! ## The body's closed forms -/

/-- The gate gradient's tile after a shard's first point. -/
theorem tileA0 (c : Dev nD) (i : grid0.Coords) (arg2 : Memref sig .tc .smem S1 .i32) (harg2 : arg2.IsWhole)
  (arg3 : Memref sig .tc .vmem S2048x1024 .bf16) (harg3 : arg3.IsWhole)
  (arg4 : Memref sig .tc .vmem S1x2048x704 .bf16) (harg4 : arg4.IsWhole)
  (arg5 : Memref sig .tc .vmem S1x2048x704 .bf16) (harg5 : arg5.IsWhole)
  (arg6 : Memref sig .tc .vmem S1x2048x704 .bf16) (harg6 : arg6.IsWhole)
  (arg7 : Memref sig .tc .vmem S2048x1024 .bf16) (harg7 : arg7.IsWhole)
  (arg8 : Memref sig .tc .vmem S1x352x1024 .f32) (harg8 : arg8.IsWhole)
  (arg9 : Memref sig .tc .vmem S1x352x1024 .bf16) (harg9 : arg9.IsWhole)
  (arg10 : Memref sig .tc .vmem S1x352x1024 .f32) (harg10 : arg10.IsWhole)
  (arg11 : Memref sig .tc .vmem S1x352x1024 .bf16) (harg11 : arg11.IsWhole)
  (arg12 : Memref sig .tc .vmem S1x352x1024 .f32) (harg12 : arg12.IsWhole)
  (arg13 : Memref sig .tc .vmem S1x352x1024 .bf16) (harg13 : arg13.IsWhole)
  (arg14 : Memref sig .tc .vmem S704x1024 .f32) (harg14 : arg14.IsWhole)
  (arg15 : Memref sig .tc .vmem S704x1024 .f32) (harg15 : arg15.IsWhole)
  (arg16 : Memref sig .tc .vmem S704x1024 .f32) (harg16 : arg16.IsWhole)
    (hc0 : cond0_0 i) (hc1 : ¬cond0_1 i) (x0 : Vec F S1 .i32) (x1 : Vec F S2048x1024 .bf16) (x2 x3 x4 : Vec F S1x2048x704 .bf16) (x5 : Vec F S2048x1024 .bf16) :
    sout0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 = (k0_pay12 x1 k0_pay8 x3) := by
  unfold sout0_A_0 kernelRun0_A
  dsimp only
  refine (read_put _ _ _).trans ?_
  refine (show _ = (k0_pay12 (View.readAt (Elt F) arg3.view (Rect.unit (s := S2048x1024) ![0, 0] S2048x1024.size inb_S2048x1024_S2048x1024_0_0).toLoadRect (harg3.unread x1)) (View.readAt (Elt F) arg14.view (Rect.unit (s := S704x1024) ![0, 0] S704x1024.size inb_S704x1024_S704x1024_0_0).toLoadRect (arg14.view.writes (Elt F) arg14.view.junk [⟨(Rect.unit (s := S704x1024) ![0, 0] S704x1024.size inb_S704x1024_S704x1024_0_0), k0_pay8⟩])) (View.readAt (Elt F) arg5.view (Rect.unit (s := S1x2048x704) ![0, 0, 0] S1x2048x704.size inb_S1x2048x704_S1x2048x704_0_0_0).toLoadRect (harg5.unread x3))) from rfl).trans ?_
  rw [load_put, load_h, load_a]

/-- The up gradient's tile after a shard's first point. -/
theorem tileA1 (c : Dev nD) (i : grid0.Coords) (arg2 : Memref sig .tc .smem S1 .i32) (harg2 : arg2.IsWhole)
  (arg3 : Memref sig .tc .vmem S2048x1024 .bf16) (harg3 : arg3.IsWhole)
  (arg4 : Memref sig .tc .vmem S1x2048x704 .bf16) (harg4 : arg4.IsWhole)
  (arg5 : Memref sig .tc .vmem S1x2048x704 .bf16) (harg5 : arg5.IsWhole)
  (arg6 : Memref sig .tc .vmem S1x2048x704 .bf16) (harg6 : arg6.IsWhole)
  (arg7 : Memref sig .tc .vmem S2048x1024 .bf16) (harg7 : arg7.IsWhole)
  (arg8 : Memref sig .tc .vmem S1x352x1024 .f32) (harg8 : arg8.IsWhole)
  (arg9 : Memref sig .tc .vmem S1x352x1024 .bf16) (harg9 : arg9.IsWhole)
  (arg10 : Memref sig .tc .vmem S1x352x1024 .f32) (harg10 : arg10.IsWhole)
  (arg11 : Memref sig .tc .vmem S1x352x1024 .bf16) (harg11 : arg11.IsWhole)
  (arg12 : Memref sig .tc .vmem S1x352x1024 .f32) (harg12 : arg12.IsWhole)
  (arg13 : Memref sig .tc .vmem S1x352x1024 .bf16) (harg13 : arg13.IsWhole)
  (arg14 : Memref sig .tc .vmem S704x1024 .f32) (harg14 : arg14.IsWhole)
  (arg15 : Memref sig .tc .vmem S704x1024 .f32) (harg15 : arg15.IsWhole)
  (arg16 : Memref sig .tc .vmem S704x1024 .f32) (harg16 : arg16.IsWhole)
    (hc0 : cond0_0 i) (hc1 : ¬cond0_1 i) (x0 : Vec F S1 .i32) (x1 : Vec F S2048x1024 .bf16) (x2 x3 x4 : Vec F S1x2048x704 .bf16) (x5 : Vec F S2048x1024 .bf16) :
    sout0_A_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 = (k0_pay13 x1 k0_pay9 x4) := by
  unfold sout0_A_1 kernelRun0_A
  dsimp only
  refine (read_put _ _ _).trans ?_
  refine (show _ = (k0_pay13 (View.readAt (Elt F) arg3.view (Rect.unit (s := S2048x1024) ![0, 0] S2048x1024.size inb_S2048x1024_S2048x1024_0_0).toLoadRect (harg3.unread x1)) (View.readAt (Elt F) arg15.view (Rect.unit (s := S704x1024) ![0, 0] S704x1024.size inb_S704x1024_S704x1024_0_0).toLoadRect (arg15.view.writes (Elt F) arg15.view.junk [⟨(Rect.unit (s := S704x1024) ![0, 0] S704x1024.size inb_S704x1024_S704x1024_0_0), k0_pay9⟩])) (View.readAt (Elt F) arg6.view (Rect.unit (s := S1x2048x704) ![0, 0, 0] S1x2048x704.size inb_S1x2048x704_S1x2048x704_0_0_0).toLoadRect (harg6.unread x4))) from rfl).trans ?_
  rw [load_put, load_h, load_a]

/-- The down gradient's tile after a shard's first point. -/
theorem tileA2 (c : Dev nD) (i : grid0.Coords) (arg2 : Memref sig .tc .smem S1 .i32) (harg2 : arg2.IsWhole)
  (arg3 : Memref sig .tc .vmem S2048x1024 .bf16) (harg3 : arg3.IsWhole)
  (arg4 : Memref sig .tc .vmem S1x2048x704 .bf16) (harg4 : arg4.IsWhole)
  (arg5 : Memref sig .tc .vmem S1x2048x704 .bf16) (harg5 : arg5.IsWhole)
  (arg6 : Memref sig .tc .vmem S1x2048x704 .bf16) (harg6 : arg6.IsWhole)
  (arg7 : Memref sig .tc .vmem S2048x1024 .bf16) (harg7 : arg7.IsWhole)
  (arg8 : Memref sig .tc .vmem S1x352x1024 .f32) (harg8 : arg8.IsWhole)
  (arg9 : Memref sig .tc .vmem S1x352x1024 .bf16) (harg9 : arg9.IsWhole)
  (arg10 : Memref sig .tc .vmem S1x352x1024 .f32) (harg10 : arg10.IsWhole)
  (arg11 : Memref sig .tc .vmem S1x352x1024 .bf16) (harg11 : arg11.IsWhole)
  (arg12 : Memref sig .tc .vmem S1x352x1024 .f32) (harg12 : arg12.IsWhole)
  (arg13 : Memref sig .tc .vmem S1x352x1024 .bf16) (harg13 : arg13.IsWhole)
  (arg14 : Memref sig .tc .vmem S704x1024 .f32) (harg14 : arg14.IsWhole)
  (arg15 : Memref sig .tc .vmem S704x1024 .f32) (harg15 : arg15.IsWhole)
  (arg16 : Memref sig .tc .vmem S704x1024 .f32) (harg16 : arg16.IsWhole)
    (hc0 : cond0_0 i) (hc1 : ¬cond0_1 i) (x0 : Vec F S1 .i32) (x1 : Vec F S2048x1024 .bf16) (x2 x3 x4 : Vec F S1x2048x704 .bf16) (x5 : Vec F S2048x1024 .bf16) :
    sout0_A_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 = (k0_pay1 k0_pay10 (k0_pay14 x2 x5)) := by
  unfold sout0_A_2 kernelRun0_A
  dsimp only
  refine (read_put _ _ _).trans ?_
  refine (show _ = (k0_pay1 (View.readAt (Elt F) arg16.view (Rect.unit (s := S704x1024) ![0, 0] S704x1024.size inb_S704x1024_S704x1024_0_0).toLoadRect (arg16.view.writes (Elt F) arg16.view.junk [⟨(Rect.unit (s := S704x1024) ![0, 0] S704x1024.size inb_S704x1024_S704x1024_0_0), k0_pay10⟩])) (k0_pay14 (View.readAt (Elt F) arg4.view (Rect.unit (s := S1x2048x704) ![0, 0, 0] S1x2048x704.size inb_S1x2048x704_S1x2048x704_0_0_0).toLoadRect (harg4.unread x2)) (View.readAt (Elt F) arg7.view (Rect.unit (s := S2048x1024) ![0, 0] S2048x1024.size inb_S2048x1024_S2048x1024_0_0).toLoadRect (harg7.unread x5)))) from rfl).trans ?_
  rw [load_put, load_a, load_h]

/-- The gate gradient's lower half after a shard's last point. -/
theorem outB6 (c : Dev nD) (i : grid0.Coords) (arg2 : Memref sig .tc .smem S1 .i32) (harg2 : arg2.IsWhole)
  (arg3 : Memref sig .tc .vmem S2048x1024 .bf16) (harg3 : arg3.IsWhole)
  (arg4 : Memref sig .tc .vmem S1x2048x704 .bf16) (harg4 : arg4.IsWhole)
  (arg5 : Memref sig .tc .vmem S1x2048x704 .bf16) (harg5 : arg5.IsWhole)
  (arg6 : Memref sig .tc .vmem S1x2048x704 .bf16) (harg6 : arg6.IsWhole)
  (arg7 : Memref sig .tc .vmem S2048x1024 .bf16) (harg7 : arg7.IsWhole)
  (arg8 : Memref sig .tc .vmem S1x352x1024 .f32) (harg8 : arg8.IsWhole)
  (arg9 : Memref sig .tc .vmem S1x352x1024 .bf16) (harg9 : arg9.IsWhole)
  (arg10 : Memref sig .tc .vmem S1x352x1024 .f32) (harg10 : arg10.IsWhole)
  (arg11 : Memref sig .tc .vmem S1x352x1024 .bf16) (harg11 : arg11.IsWhole)
  (arg12 : Memref sig .tc .vmem S1x352x1024 .f32) (harg12 : arg12.IsWhole)
  (arg13 : Memref sig .tc .vmem S1x352x1024 .bf16) (harg13 : arg13.IsWhole)
  (arg14 : Memref sig .tc .vmem S704x1024 .f32) (harg14 : arg14.IsWhole)
  (arg15 : Memref sig .tc .vmem S704x1024 .f32) (harg15 : arg15.IsWhole)
  (arg16 : Memref sig .tc .vmem S704x1024 .f32) (harg16 : arg16.IsWhole)
    (hc0 : ¬cond0_0 i) (hc1 : cond0_1 i) (x0 : Vec F S1 .i32) (x1 : Vec F S2048x1024 .bf16) (x2 x3 x4 : Vec F S1x2048x704 .bf16) (x5 : Vec F S2048x1024 .bf16) (xs0 xs1 xs2 : Vec F S704x1024 .f32)
    (h1 : k0_chk1 i (View.readAt (Elt F) arg2.view (Rect.unit (s := S1) ![0] S1.size inb_S1_S1_0).toLoadRect (harg2.unread x0) (Shape.Idx.first (numel1_S1.symm ▸ Nat.one_pos))))
    (h2 : k0_chk2 i (View.readAt (Elt F) arg2.view (Rect.unit (s := S1) ![0] S1.size inb_S1_S1_0).toLoadRect (harg2.unread x0) (Shape.Idx.first (numel1_S1.symm ▸ Nat.one_pos))))
    (h3 : k0_chk3 i (View.readAt (Elt F) arg2.view (Rect.unit (s := S1) ![0] S1.size inb_S1_S1_0).toLoadRect (harg2.unread x0) (Shape.Idx.first (numel1_S1.symm ▸ Nat.one_pos))))
    (hw : View.readAt (Elt F) arg2.view (Rect.unit (s := S1) ![0] S1.size inb_S1_S1_0).toLoadRect (harg2.unread x0) (Shape.Idx.first (numel1_S1.symm ▸ Nat.one_pos)) = 0#32) :
    out0_B_6 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 xs0 xs1 xs2 h1 h2 h3 = k0_pay5 (half (k0_pay12 x1 xs0 x3) 0 (by decide)) := by
  unfold out0_B_6 kernelRun0_B
  dsimp only
  refine (read_put3 _ _ _).trans (congrArg k0_pay5 ?_)
  refine (load_half (v := arg14.view) _ (k0_pay12 (View.readAt (Elt F) arg3.view (Rect.unit (s := S2048x1024) ![0, 0] S2048x1024.size inb_S2048x1024_S2048x1024_0_0).toLoadRect (harg3.unread x1)) (View.readAt (Elt F) arg14.view (Rect.unit (s := S704x1024) ![0, 0] S704x1024.size inb_S704x1024_S704x1024_0_0).toLoadRect (harg14.unread xs0)) (View.readAt (Elt F) arg5.view (Rect.unit (s := S1x2048x704) ![0, 0, 0] S1x2048x704.size inb_S1x2048x704_S1x2048x704_0_0_0).toLoadRect (harg5.unread x3))) [] (k0_off1 (View.readAt (Elt F) arg2.view (Rect.unit (s := S1) ![0] S1.size inb_S1_S1_0).toLoadRect (harg2.unread x0) (Shape.Idx.first (numel1_S1.symm ▸ Nat.one_pos)))) _ 0 (by decide) (by rw [hw]; rfl)).trans ?_
  rw [load_s, load_h, load_a]

/-- The gate gradient's upper half after a shard's last point. -/
theorem outB7 (c : Dev nD) (i : grid0.Coords) (arg2 : Memref sig .tc .smem S1 .i32) (harg2 : arg2.IsWhole)
  (arg3 : Memref sig .tc .vmem S2048x1024 .bf16) (harg3 : arg3.IsWhole)
  (arg4 : Memref sig .tc .vmem S1x2048x704 .bf16) (harg4 : arg4.IsWhole)
  (arg5 : Memref sig .tc .vmem S1x2048x704 .bf16) (harg5 : arg5.IsWhole)
  (arg6 : Memref sig .tc .vmem S1x2048x704 .bf16) (harg6 : arg6.IsWhole)
  (arg7 : Memref sig .tc .vmem S2048x1024 .bf16) (harg7 : arg7.IsWhole)
  (arg8 : Memref sig .tc .vmem S1x352x1024 .f32) (harg8 : arg8.IsWhole)
  (arg9 : Memref sig .tc .vmem S1x352x1024 .bf16) (harg9 : arg9.IsWhole)
  (arg10 : Memref sig .tc .vmem S1x352x1024 .f32) (harg10 : arg10.IsWhole)
  (arg11 : Memref sig .tc .vmem S1x352x1024 .bf16) (harg11 : arg11.IsWhole)
  (arg12 : Memref sig .tc .vmem S1x352x1024 .f32) (harg12 : arg12.IsWhole)
  (arg13 : Memref sig .tc .vmem S1x352x1024 .bf16) (harg13 : arg13.IsWhole)
  (arg14 : Memref sig .tc .vmem S704x1024 .f32) (harg14 : arg14.IsWhole)
  (arg15 : Memref sig .tc .vmem S704x1024 .f32) (harg15 : arg15.IsWhole)
  (arg16 : Memref sig .tc .vmem S704x1024 .f32) (harg16 : arg16.IsWhole)
    (hc0 : ¬cond0_0 i) (hc1 : cond0_1 i) (x0 : Vec F S1 .i32) (x1 : Vec F S2048x1024 .bf16) (x2 x3 x4 : Vec F S1x2048x704 .bf16) (x5 : Vec F S2048x1024 .bf16) (xs0 xs1 xs2 : Vec F S704x1024 .f32)
    (h1 : k0_chk1 i (View.readAt (Elt F) arg2.view (Rect.unit (s := S1) ![0] S1.size inb_S1_S1_0).toLoadRect (harg2.unread x0) (Shape.Idx.first (numel1_S1.symm ▸ Nat.one_pos))))
    (h2 : k0_chk2 i (View.readAt (Elt F) arg2.view (Rect.unit (s := S1) ![0] S1.size inb_S1_S1_0).toLoadRect (harg2.unread x0) (Shape.Idx.first (numel1_S1.symm ▸ Nat.one_pos))))
    (h3 : k0_chk3 i (View.readAt (Elt F) arg2.view (Rect.unit (s := S1) ![0] S1.size inb_S1_S1_0).toLoadRect (harg2.unread x0) (Shape.Idx.first (numel1_S1.symm ▸ Nat.one_pos))))
    (hw : View.readAt (Elt F) arg2.view (Rect.unit (s := S1) ![0] S1.size inb_S1_S1_0).toLoadRect (harg2.unread x0) (Shape.Idx.first (numel1_S1.symm ▸ Nat.one_pos)) = 0#32) :
    out0_B_7 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 xs0 xs1 xs2 h1 h2 h3 = k0_pay6 (half (k0_pay12 x1 xs0 x3) 352 (by decide)) := by
  unfold out0_B_7 kernelRun0_B
  dsimp only
  refine (read_put3 _ _ _).trans (congrArg k0_pay6 ?_)
  refine (load_half (v := arg14.view) _ (k0_pay12 (View.readAt (Elt F) arg3.view (Rect.unit (s := S2048x1024) ![0, 0] S2048x1024.size inb_S2048x1024_S2048x1024_0_0).toLoadRect (harg3.unread x1)) (View.readAt (Elt F) arg14.view (Rect.unit (s := S704x1024) ![0, 0] S704x1024.size inb_S704x1024_S704x1024_0_0).toLoadRect (harg14.unread xs0)) (View.readAt (Elt F) arg5.view (Rect.unit (s := S1x2048x704) ![0, 0, 0] S1x2048x704.size inb_S1x2048x704_S1x2048x704_0_0_0).toLoadRect (harg5.unread x3))) [] (k0_off2 (View.readAt (Elt F) arg2.view (Rect.unit (s := S1) ![0] S1.size inb_S1_S1_0).toLoadRect (harg2.unread x0) (Shape.Idx.first (numel1_S1.symm ▸ Nat.one_pos)))) _ 352 (by decide) (by rw [hw]; rfl)).trans ?_
  rw [load_s, load_h, load_a]

/-- The up gradient's lower half after a shard's last point. -/
theorem outB8 (c : Dev nD) (i : grid0.Coords) (arg2 : Memref sig .tc .smem S1 .i32) (harg2 : arg2.IsWhole)
  (arg3 : Memref sig .tc .vmem S2048x1024 .bf16) (harg3 : arg3.IsWhole)
  (arg4 : Memref sig .tc .vmem S1x2048x704 .bf16) (harg4 : arg4.IsWhole)
  (arg5 : Memref sig .tc .vmem S1x2048x704 .bf16) (harg5 : arg5.IsWhole)
  (arg6 : Memref sig .tc .vmem S1x2048x704 .bf16) (harg6 : arg6.IsWhole)
  (arg7 : Memref sig .tc .vmem S2048x1024 .bf16) (harg7 : arg7.IsWhole)
  (arg8 : Memref sig .tc .vmem S1x352x1024 .f32) (harg8 : arg8.IsWhole)
  (arg9 : Memref sig .tc .vmem S1x352x1024 .bf16) (harg9 : arg9.IsWhole)
  (arg10 : Memref sig .tc .vmem S1x352x1024 .f32) (harg10 : arg10.IsWhole)
  (arg11 : Memref sig .tc .vmem S1x352x1024 .bf16) (harg11 : arg11.IsWhole)
  (arg12 : Memref sig .tc .vmem S1x352x1024 .f32) (harg12 : arg12.IsWhole)
  (arg13 : Memref sig .tc .vmem S1x352x1024 .bf16) (harg13 : arg13.IsWhole)
  (arg14 : Memref sig .tc .vmem S704x1024 .f32) (harg14 : arg14.IsWhole)
  (arg15 : Memref sig .tc .vmem S704x1024 .f32) (harg15 : arg15.IsWhole)
  (arg16 : Memref sig .tc .vmem S704x1024 .f32) (harg16 : arg16.IsWhole)
    (hc0 : ¬cond0_0 i) (hc1 : cond0_1 i) (x0 : Vec F S1 .i32) (x1 : Vec F S2048x1024 .bf16) (x2 x3 x4 : Vec F S1x2048x704 .bf16) (x5 : Vec F S2048x1024 .bf16) (xs0 xs1 xs2 : Vec F S704x1024 .f32)
    (h1 : k0_chk1 i (View.readAt (Elt F) arg2.view (Rect.unit (s := S1) ![0] S1.size inb_S1_S1_0).toLoadRect (harg2.unread x0) (Shape.Idx.first (numel1_S1.symm ▸ Nat.one_pos))))
    (h2 : k0_chk2 i (View.readAt (Elt F) arg2.view (Rect.unit (s := S1) ![0] S1.size inb_S1_S1_0).toLoadRect (harg2.unread x0) (Shape.Idx.first (numel1_S1.symm ▸ Nat.one_pos))))
    (h3 : k0_chk3 i (View.readAt (Elt F) arg2.view (Rect.unit (s := S1) ![0] S1.size inb_S1_S1_0).toLoadRect (harg2.unread x0) (Shape.Idx.first (numel1_S1.symm ▸ Nat.one_pos))))
    (hw : View.readAt (Elt F) arg2.view (Rect.unit (s := S1) ![0] S1.size inb_S1_S1_0).toLoadRect (harg2.unread x0) (Shape.Idx.first (numel1_S1.symm ▸ Nat.one_pos)) = 0#32) :
    out0_B_8 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 xs0 xs1 xs2 h1 h2 h3 = k0_pay7 (half (k0_pay13 x1 xs1 x4) 0 (by decide)) := by
  unfold out0_B_8 kernelRun0_B
  dsimp only
  refine (read_put3 _ _ _).trans (congrArg k0_pay7 ?_)
  refine (load_half (v := arg15.view) _ (k0_pay13 (View.readAt (Elt F) arg3.view (Rect.unit (s := S2048x1024) ![0, 0] S2048x1024.size inb_S2048x1024_S2048x1024_0_0).toLoadRect (harg3.unread x1)) (View.readAt (Elt F) arg15.view (Rect.unit (s := S704x1024) ![0, 0] S704x1024.size inb_S704x1024_S704x1024_0_0).toLoadRect (harg15.unread xs1)) (View.readAt (Elt F) arg6.view (Rect.unit (s := S1x2048x704) ![0, 0, 0] S1x2048x704.size inb_S1x2048x704_S1x2048x704_0_0_0).toLoadRect (harg6.unread x4))) [] (k0_off3 (View.readAt (Elt F) arg2.view (Rect.unit (s := S1) ![0] S1.size inb_S1_S1_0).toLoadRect (harg2.unread x0) (Shape.Idx.first (numel1_S1.symm ▸ Nat.one_pos)))) _ 0 (by decide) (by rw [hw]; rfl)).trans ?_
  rw [load_s, load_h, load_a]

/-- The up gradient's upper half after a shard's last point. -/
theorem outB9 (c : Dev nD) (i : grid0.Coords) (arg2 : Memref sig .tc .smem S1 .i32) (harg2 : arg2.IsWhole)
  (arg3 : Memref sig .tc .vmem S2048x1024 .bf16) (harg3 : arg3.IsWhole)
  (arg4 : Memref sig .tc .vmem S1x2048x704 .bf16) (harg4 : arg4.IsWhole)
  (arg5 : Memref sig .tc .vmem S1x2048x704 .bf16) (harg5 : arg5.IsWhole)
  (arg6 : Memref sig .tc .vmem S1x2048x704 .bf16) (harg6 : arg6.IsWhole)
  (arg7 : Memref sig .tc .vmem S2048x1024 .bf16) (harg7 : arg7.IsWhole)
  (arg8 : Memref sig .tc .vmem S1x352x1024 .f32) (harg8 : arg8.IsWhole)
  (arg9 : Memref sig .tc .vmem S1x352x1024 .bf16) (harg9 : arg9.IsWhole)
  (arg10 : Memref sig .tc .vmem S1x352x1024 .f32) (harg10 : arg10.IsWhole)
  (arg11 : Memref sig .tc .vmem S1x352x1024 .bf16) (harg11 : arg11.IsWhole)
  (arg12 : Memref sig .tc .vmem S1x352x1024 .f32) (harg12 : arg12.IsWhole)
  (arg13 : Memref sig .tc .vmem S1x352x1024 .bf16) (harg13 : arg13.IsWhole)
  (arg14 : Memref sig .tc .vmem S704x1024 .f32) (harg14 : arg14.IsWhole)
  (arg15 : Memref sig .tc .vmem S704x1024 .f32) (harg15 : arg15.IsWhole)
  (arg16 : Memref sig .tc .vmem S704x1024 .f32) (harg16 : arg16.IsWhole)
    (hc0 : ¬cond0_0 i) (hc1 : cond0_1 i) (x0 : Vec F S1 .i32) (x1 : Vec F S2048x1024 .bf16) (x2 x3 x4 : Vec F S1x2048x704 .bf16) (x5 : Vec F S2048x1024 .bf16) (xs0 xs1 xs2 : Vec F S704x1024 .f32)
    (h1 : k0_chk1 i (View.readAt (Elt F) arg2.view (Rect.unit (s := S1) ![0] S1.size inb_S1_S1_0).toLoadRect (harg2.unread x0) (Shape.Idx.first (numel1_S1.symm ▸ Nat.one_pos))))
    (h2 : k0_chk2 i (View.readAt (Elt F) arg2.view (Rect.unit (s := S1) ![0] S1.size inb_S1_S1_0).toLoadRect (harg2.unread x0) (Shape.Idx.first (numel1_S1.symm ▸ Nat.one_pos))))
    (h3 : k0_chk3 i (View.readAt (Elt F) arg2.view (Rect.unit (s := S1) ![0] S1.size inb_S1_S1_0).toLoadRect (harg2.unread x0) (Shape.Idx.first (numel1_S1.symm ▸ Nat.one_pos))))
    (hw : View.readAt (Elt F) arg2.view (Rect.unit (s := S1) ![0] S1.size inb_S1_S1_0).toLoadRect (harg2.unread x0) (Shape.Idx.first (numel1_S1.symm ▸ Nat.one_pos)) = 0#32) :
    out0_B_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 xs0 xs1 xs2 h1 h2 h3 = k0_pay2 (half (k0_pay13 x1 xs1 x4) 352 (by decide)) := by
  unfold out0_B_9 kernelRun0_B
  dsimp only
  refine (read_put3 _ _ _).trans (congrArg k0_pay2 ?_)
  refine (load_half (v := arg15.view) _ (k0_pay13 (View.readAt (Elt F) arg3.view (Rect.unit (s := S2048x1024) ![0, 0] S2048x1024.size inb_S2048x1024_S2048x1024_0_0).toLoadRect (harg3.unread x1)) (View.readAt (Elt F) arg15.view (Rect.unit (s := S704x1024) ![0, 0] S704x1024.size inb_S704x1024_S704x1024_0_0).toLoadRect (harg15.unread xs1)) (View.readAt (Elt F) arg6.view (Rect.unit (s := S1x2048x704) ![0, 0, 0] S1x2048x704.size inb_S1x2048x704_S1x2048x704_0_0_0).toLoadRect (harg6.unread x4))) [] (k0_off4 (View.readAt (Elt F) arg2.view (Rect.unit (s := S1) ![0] S1.size inb_S1_S1_0).toLoadRect (harg2.unread x0) (Shape.Idx.first (numel1_S1.symm ▸ Nat.one_pos)))) _ 352 (by decide) (by rw [hw]; rfl)).trans ?_
  rw [load_s, load_h, load_a]

/-- The down gradient's lower half after a shard's last point. -/
theorem outB10 (c : Dev nD) (i : grid0.Coords) (arg2 : Memref sig .tc .smem S1 .i32) (harg2 : arg2.IsWhole)
  (arg3 : Memref sig .tc .vmem S2048x1024 .bf16) (harg3 : arg3.IsWhole)
  (arg4 : Memref sig .tc .vmem S1x2048x704 .bf16) (harg4 : arg4.IsWhole)
  (arg5 : Memref sig .tc .vmem S1x2048x704 .bf16) (harg5 : arg5.IsWhole)
  (arg6 : Memref sig .tc .vmem S1x2048x704 .bf16) (harg6 : arg6.IsWhole)
  (arg7 : Memref sig .tc .vmem S2048x1024 .bf16) (harg7 : arg7.IsWhole)
  (arg8 : Memref sig .tc .vmem S1x352x1024 .f32) (harg8 : arg8.IsWhole)
  (arg9 : Memref sig .tc .vmem S1x352x1024 .bf16) (harg9 : arg9.IsWhole)
  (arg10 : Memref sig .tc .vmem S1x352x1024 .f32) (harg10 : arg10.IsWhole)
  (arg11 : Memref sig .tc .vmem S1x352x1024 .bf16) (harg11 : arg11.IsWhole)
  (arg12 : Memref sig .tc .vmem S1x352x1024 .f32) (harg12 : arg12.IsWhole)
  (arg13 : Memref sig .tc .vmem S1x352x1024 .bf16) (harg13 : arg13.IsWhole)
  (arg14 : Memref sig .tc .vmem S704x1024 .f32) (harg14 : arg14.IsWhole)
  (arg15 : Memref sig .tc .vmem S704x1024 .f32) (harg15 : arg15.IsWhole)
  (arg16 : Memref sig .tc .vmem S704x1024 .f32) (harg16 : arg16.IsWhole)
    (hc0 : ¬cond0_0 i) (hc1 : cond0_1 i) (x0 : Vec F S1 .i32) (x1 : Vec F S2048x1024 .bf16) (x2 x3 x4 : Vec F S1x2048x704 .bf16) (x5 : Vec F S2048x1024 .bf16) (xs0 xs1 xs2 : Vec F S704x1024 .f32)
    (h1 : k0_chk1 i (View.readAt (Elt F) arg2.view (Rect.unit (s := S1) ![0] S1.size inb_S1_S1_0).toLoadRect (harg2.unread x0) (Shape.Idx.first (numel1_S1.symm ▸ Nat.one_pos))))
    (h2 : k0_chk2 i (View.readAt (Elt F) arg2.view (Rect.unit (s := S1) ![0] S1.size inb_S1_S1_0).toLoadRect (harg2.unread x0) (Shape.Idx.first (numel1_S1.symm ▸ Nat.one_pos))))
    (h3 : k0_chk3 i (View.readAt (Elt F) arg2.view (Rect.unit (s := S1) ![0] S1.size inb_S1_S1_0).toLoadRect (harg2.unread x0) (Shape.Idx.first (numel1_S1.symm ▸ Nat.one_pos))))
    (hw : View.readAt (Elt F) arg2.view (Rect.unit (s := S1) ![0] S1.size inb_S1_S1_0).toLoadRect (harg2.unread x0) (Shape.Idx.first (numel1_S1.symm ▸ Nat.one_pos)) = 0#32) :
    out0_B_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 xs0 xs1 xs2 h1 h2 h3 = k0_pay3 (half (k0_pay1 xs2 (k0_pay14 x2 x5)) 0 (by decide)) := by
  unfold out0_B_10 kernelRun0_B
  dsimp only
  refine (read_put3 _ _ _).trans (congrArg k0_pay3 ?_)
  refine (load_half (v := arg16.view) _ (k0_pay1 (View.readAt (Elt F) arg16.view (Rect.unit (s := S704x1024) ![0, 0] S704x1024.size inb_S704x1024_S704x1024_0_0).toLoadRect (harg16.unread xs2)) (k0_pay14 (View.readAt (Elt F) arg4.view (Rect.unit (s := S1x2048x704) ![0, 0, 0] S1x2048x704.size inb_S1x2048x704_S1x2048x704_0_0_0).toLoadRect (harg4.unread x2)) (View.readAt (Elt F) arg7.view (Rect.unit (s := S2048x1024) ![0, 0] S2048x1024.size inb_S2048x1024_S2048x1024_0_0).toLoadRect (harg7.unread x5)))) [] (k0_off5 (View.readAt (Elt F) arg2.view (Rect.unit (s := S1) ![0] S1.size inb_S1_S1_0).toLoadRect (harg2.unread x0) (Shape.Idx.first (numel1_S1.symm ▸ Nat.one_pos)))) _ 0 (by decide) (by rw [hw]; rfl)).trans ?_
  rw [load_s, load_a, load_h]

/-- The down gradient's upper half after a shard's last point. -/
theorem outB11 (c : Dev nD) (i : grid0.Coords) (arg2 : Memref sig .tc .smem S1 .i32) (harg2 : arg2.IsWhole)
  (arg3 : Memref sig .tc .vmem S2048x1024 .bf16) (harg3 : arg3.IsWhole)
  (arg4 : Memref sig .tc .vmem S1x2048x704 .bf16) (harg4 : arg4.IsWhole)
  (arg5 : Memref sig .tc .vmem S1x2048x704 .bf16) (harg5 : arg5.IsWhole)
  (arg6 : Memref sig .tc .vmem S1x2048x704 .bf16) (harg6 : arg6.IsWhole)
  (arg7 : Memref sig .tc .vmem S2048x1024 .bf16) (harg7 : arg7.IsWhole)
  (arg8 : Memref sig .tc .vmem S1x352x1024 .f32) (harg8 : arg8.IsWhole)
  (arg9 : Memref sig .tc .vmem S1x352x1024 .bf16) (harg9 : arg9.IsWhole)
  (arg10 : Memref sig .tc .vmem S1x352x1024 .f32) (harg10 : arg10.IsWhole)
  (arg11 : Memref sig .tc .vmem S1x352x1024 .bf16) (harg11 : arg11.IsWhole)
  (arg12 : Memref sig .tc .vmem S1x352x1024 .f32) (harg12 : arg12.IsWhole)
  (arg13 : Memref sig .tc .vmem S1x352x1024 .bf16) (harg13 : arg13.IsWhole)
  (arg14 : Memref sig .tc .vmem S704x1024 .f32) (harg14 : arg14.IsWhole)
  (arg15 : Memref sig .tc .vmem S704x1024 .f32) (harg15 : arg15.IsWhole)
  (arg16 : Memref sig .tc .vmem S704x1024 .f32) (harg16 : arg16.IsWhole)
    (hc0 : ¬cond0_0 i) (hc1 : cond0_1 i) (x0 : Vec F S1 .i32) (x1 : Vec F S2048x1024 .bf16) (x2 x3 x4 : Vec F S1x2048x704 .bf16) (x5 : Vec F S2048x1024 .bf16) (xs0 xs1 xs2 : Vec F S704x1024 .f32)
    (h1 : k0_chk1 i (View.readAt (Elt F) arg2.view (Rect.unit (s := S1) ![0] S1.size inb_S1_S1_0).toLoadRect (harg2.unread x0) (Shape.Idx.first (numel1_S1.symm ▸ Nat.one_pos))))
    (h2 : k0_chk2 i (View.readAt (Elt F) arg2.view (Rect.unit (s := S1) ![0] S1.size inb_S1_S1_0).toLoadRect (harg2.unread x0) (Shape.Idx.first (numel1_S1.symm ▸ Nat.one_pos))))
    (h3 : k0_chk3 i (View.readAt (Elt F) arg2.view (Rect.unit (s := S1) ![0] S1.size inb_S1_S1_0).toLoadRect (harg2.unread x0) (Shape.Idx.first (numel1_S1.symm ▸ Nat.one_pos))))
    (hw : View.readAt (Elt F) arg2.view (Rect.unit (s := S1) ![0] S1.size inb_S1_S1_0).toLoadRect (harg2.unread x0) (Shape.Idx.first (numel1_S1.symm ▸ Nat.one_pos)) = 0#32) :
    out0_B_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 xs0 xs1 xs2 h1 h2 h3 = k0_pay4 (half (k0_pay1 xs2 (k0_pay14 x2 x5)) 352 (by decide)) := by
  unfold out0_B_11 kernelRun0_B
  dsimp only
  refine (read_put3 _ _ _).trans (congrArg k0_pay4 ?_)
  refine (load_half (v := arg16.view) _ (k0_pay1 (View.readAt (Elt F) arg16.view (Rect.unit (s := S704x1024) ![0, 0] S704x1024.size inb_S704x1024_S704x1024_0_0).toLoadRect (harg16.unread xs2)) (k0_pay14 (View.readAt (Elt F) arg4.view (Rect.unit (s := S1x2048x704) ![0, 0, 0] S1x2048x704.size inb_S1x2048x704_S1x2048x704_0_0_0).toLoadRect (harg4.unread x2)) (View.readAt (Elt F) arg7.view (Rect.unit (s := S2048x1024) ![0, 0] S2048x1024.size inb_S2048x1024_S2048x1024_0_0).toLoadRect (harg7.unread x5)))) [] (k0_off6 (View.readAt (Elt F) arg2.view (Rect.unit (s := S1) ![0] S1.size inb_S1_S1_0).toLoadRect (harg2.unread x0) (Shape.Idx.first (numel1_S1.symm ▸ Nat.one_pos)))) _ 352 (by decide) (by rw [hw]; rfl)).trans ?_
  rw [load_s, load_a, load_h]

end Cert.FfnWBody

end
-- ==== Proof.WHyps.lean ====
module

public import proofs.«01_k».proof.Proof.Gen.FfnWIdeal.Value

/- The pipeline of the feed-forward weights' gradients reads the word zero, of which its side conditions hold. -/

set_option maxRecDepth 16384

@[expose] public section

noncomputable section

namespace Cert.FfnWBody

open Idealize.ShloMosaic Idealize.ShloMosaic.TcCoe Idealize.SL.Sem
open Cert.FfnWIdeal Cert.FfnWIdeal.Gen

variable {F : FTy → Type} [FloatOps F]
variable (m : (ℓ : Loc nD τ sig) → Buf (Elt F) ℓ) (c : Dev nD)

/-- The array of the word that places the halves: zero. -/
theorem V38 : V m c main_v38 = fun _ => 0#32 := by
  entry_read
  rfl

/-- The word a grid point reads. -/
theorem word (t : Fin cfg0.N) : (ms0_0 t).view.readAt (Elt F) (Rect.unit (s := S1) ![0] S1.size inb_S1_S1_0).toLoadRect ((hs0_0 t).unread (iblk m c 0 t)) (Shape.Idx.first (numel1_S1.symm ▸ Nat.one_pos)) = 0#32 := by
  refine (congrFun ((hs0_0 t).read_unread _) _).trans ?_
  exact congrFun (V38 m c) _

theorem chk1 (i : grid0.Coords) : k0_chk1 i 0#32 := ⟨fun _ => by decide, fun _ => by decide, fun _ => by decide, fun _ => by decide⟩
theorem chk2 (i : grid0.Coords) : k0_chk2 i 0#32 := ⟨fun _ => by decide, fun _ => by decide, fun _ => by decide, fun _ => by decide⟩
theorem chk3 (i : grid0.Coords) : k0_chk3 i 0#32 := ⟨fun _ => by decide, fun _ => by decide, fun _ => by decide, fun _ => by decide⟩

/-- The side conditions the body computes with hold at every grid point. -/
theorem hyps : Hyps m := fun c t =>
  ⟨fun _ => (word m c t).symm ▸ chk1 _, fun _ => (word m c t).symm ▸ chk2 _, fun _ => (word m c t).symm ▸ chk3 _⟩

end Cert.FfnWBody

end
-- ==== Proof.WArray.lean ====
module

public import proofs.«01_k».proof.Proof.WPoint
public import proofs.«01_k».proof.Proof.WHyps
public import Idealize.ShloMosaic.Lib.Pipeline.ValueKit

/- The feed-forward weights' gradients over whole arrays, and what each grid point computes of them. -/

set_option maxRecDepth 16384

@[expose] public section

noncomputable section

namespace Cert.FfnWBody

open Idealize.ShloMosaic Idealize.ShloMosaic.TcCoe Idealize.SL.Sem
open Cert.FfnWIdeal Cert.FfnWIdeal.Gen

/-! ## The payloads at an index -/

section pays
variable (v3 : Vec Ideal S2048x1024 .bf16) (v6 : Vec Ideal S1x2048x704 .bf16) (v5 : Vec Ideal S704x1024 .f32) (f : Fin 704) (k : Fin 1024)

/-- The gate gradient's tile after a point. -/
theorem pay12_apply : k0_pay12 v3 v5 v6 (ix2 f k) = (v5 (ix2 f k) + ∑ s : Fin 2048, v6 (ix3 0 s f) * v3 (ix2 s k) : EReal) := by
  unfold k0_pay12 k0_pay11
  pointwise
/-- The up gradient's tile after a point. -/
theorem pay13_apply : k0_pay13 v3 v5 v6 (ix2 f k) = (v5 (ix2 f k) + ∑ s : Fin 2048, v6 (ix3 0 s f) * v3 (ix2 s k) : EReal) := by
  unfold k0_pay13 k0_pay11
  pointwise
/-- The down gradient's tile after a point. -/
theorem pay1_apply : k0_pay1 v5 (k0_pay14 v6 v3) (ix2 f k) = (v5 (ix2 f k) + ∑ s : Fin 2048, v6 (ix3 0 s f) * v3 (ix2 s k) : EReal) := by
  unfold k0_pay1 k0_pay14
  pointwise
/-- The tiles before a shard's first point. -/
theorem pay8_apply : k0_pay8 (F := Ideal) (ix2 f k) = (0 : EReal) := by
  unfold k0_pay8
  pointwise
theorem pay9_apply : k0_pay9 (F := Ideal) (ix2 f k) = (0 : EReal) := by
  unfold k0_pay9
  pointwise
theorem pay10_apply : k0_pay10 (F := Ideal) (ix2 f k) = (0 : EReal) := by
  unfold k0_pay10
  pointwise

variable (S : Vec Ideal S352x1024 .f32) (r : Fin 352)
/-- The results' blocks are the halves of the tiles. -/
theorem pay5_apply : k0_pay5 S (ix3 0 r k) = (S (ix2 r k) : EReal) := by
  unfold k0_pay5
  pointwise
theorem pay6_apply : k0_pay6 S (ix3 0 r k) = (S (ix2 r k) : EReal) := by
  unfold k0_pay6
  pointwise
theorem pay7_apply : k0_pay7 S (ix3 0 r k) = (S (ix2 r k) : EReal) := by
  unfold k0_pay7
  pointwise
theorem pay2_apply : k0_pay2 S (ix3 0 r k) = (S (ix2 r k) : EReal) := by
  unfold k0_pay2
  pointwise
theorem pay3_apply : k0_pay3 S (ix3 0 r k) = (S (ix2 r k) : EReal) := by
  unfold k0_pay3
  pointwise
theorem pay4_apply : k0_pay4 S (ix3 0 r k) = (S (ix2 r k) : EReal) := by
  unfold k0_pay4
  pointwise

end pays

theorem half_apply (S : Vec Ideal S704x1024 .f32) (o : ℕ) (ho : o + 352 ≤ 704) (r : Fin 352) (k : Fin 1024) :
    half S o ho (ix2 r k) = S (ix2 ⟨o + r.val, by omega⟩ k) :=
  congrArg S (funext fun a => Fin.ext (by
    match a with
    | ⟨0, _⟩ => exact congrArg (o + ·) (Nat.one_mul _)
    | ⟨1, _⟩ => exact (Nat.zero_add _).trans (Nat.one_mul _)))

/-! ## The blocks -/

theorem lt8 (t : Fin cfg0.N) : t.val < 8 := lt_of_lt_of_eq t.isLt (show cfg0.N = 8 from N_0)

theorem idx : ∀ t : Fin cfg0.N, win0_1.index t = ![t.val % 2, 0] ∧ win0_2.index t = ![t.val / 2, t.val % 2, 0]
    ∧ win0_3.index t = ![t.val / 2, t.val % 2, 0] ∧ win0_4.index t = ![t.val / 2, t.val % 2, 0] ∧ win0_5.index t = ![t.val % 2, 0]
    ∧ win0_6.index t = ![t.val / 2, 0, 0] ∧ win0_7.index t = ![t.val / 2, 0, 0] ∧ win0_8.index t = ![t.val / 2, 0, 0]
    ∧ win0_9.index t = ![t.val / 2, 0, 0] ∧ win0_10.index t = ![t.val / 2, 0, 0] ∧ win0_11.index t = ![t.val / 2, 0, 0] ∧ t.val < 8 :=
  (by decide +kernel : ∀ t : Fin grid0.N, _)

/-- Row `r` of point `t`'s tile. -/
def row (t : Fin cfg0.N) (r : Fin 2048) : Fin 4096 := ⟨2048 * (t.val % 2) + r.val, by omega⟩
/-- Point `t`'s shard. -/
def shard (t : Fin cfg0.N) : Fin 4 := ⟨t.val / 2, by have := lt8 t; omega⟩

variable (m : (ℓ : Loc nD τ sig) → Buf (Elt Ideal) ℓ) (c : Dev nD)

/-- The pipeline's input arrays as the region finds them: the normed rows, the rows' gradients, -/
def rH : S4096x1024.Idx → EReal := V m c main_v24
def rD : S4096x1024.Idx → EReal := V m c main_v37
/-- and by shard the products of the factors, the gate factor's gradients and the up factor's. -/
def sA : S4x4096x704.Idx → EReal := V m c main_v29
def sG : S4x4096x704.Idx → EReal := V m c main_v32
def sU : S4x4096x704.Idx → EReal := V m c main_v35

section blocks
variable (t : Fin cfg0.N)

theorem blk1 (r : Fin 2048) (q : Fin 1024) : iblk m c 1 t (ix2 r q : S2048x1024.Idx) = rH m c (ix2 (row t r) q) := by
  change _ = V m c main_v24 (ix2 (⟨2048 * (t.val % 2) + r.val, by omega⟩ : Fin 4096) q : S4096x1024.Idx)
  blk_ext [iblk, idx t]
theorem blk5 (r : Fin 2048) (q : Fin 1024) : iblk m c 5 t (ix2 r q : S2048x1024.Idx) = rD m c (ix2 (row t r) q) := by
  change _ = V m c main_v37 (ix2 (⟨2048 * (t.val % 2) + r.val, by omega⟩ : Fin 4096) q : S4096x1024.Idx)
  blk_ext [iblk, idx t]
theorem blk2 (r : Fin 2048) (f : Fin 704) : iblk m c 2 t (ix3 0 r f : S1x2048x704.Idx) = sA m c (ix3 (shard t) (row t r) f) := by
  have ht := lt8 t
  change _ = V m c main_v29 (ix3 (⟨t.val / 2, by omega⟩ : Fin 4) (⟨2048 * (t.val % 2) + r.val, by omega⟩ : Fin 4096) f : S4x4096x704.Idx)
  blk_ext [iblk, idx t]
theorem blk3 (r : Fin 2048) (f : Fin 704) : iblk m c 3 t (ix3 0 r f : S1x2048x704.Idx) = sG m c (ix3 (shard t) (row t r) f) := by
  have ht := lt8 t
  change _ = V m c main_v32 (ix3 (⟨t.val / 2, by omega⟩ : Fin 4) (⟨2048 * (t.val % 2) + r.val, by omega⟩ : Fin 4096) f : S4x4096x704.Idx)
  blk_ext [iblk, idx t]
theorem blk4 (r : Fin 2048) (f : Fin 704) : iblk m c 4 t (ix3 0 r f : S1x2048x704.Idx) = sU m c (ix3 (shard t) (row t r) f) := by
  have ht := lt8 t
  change _ = V m c main_v35 (ix3 (⟨t.val / 2, by omega⟩ : Fin 4) (⟨2048 * (t.val % 2) + r.val, by omega⟩ : Fin 4096) f : S4x4096x704.Idx)
  blk_ext [iblk, idx t]

end blocks

end Cert.FfnWBody

end
-- ==== Proof.WFinal.lean ====
module

public import proofs.«01_k».proof.Proof.WArray
public import Idealize.ShloMosaic.Lib.PlanTiles.Rows

/- What the feed-forward weights' gradients' pipeline leaves in its six arrays. -/

set_option maxRecDepth 16384

@[expose] public section

noncomputable section

namespace Cert.FfnWBody

open Idealize.ShloMosaic Idealize.ShloMosaic.TcCoe Idealize.SL.Sem
open Cert.FfnWIdeal Cert.FfnWIdeal.Gen

/-- Half of a weight's gradient by shard: the sum over the rows of the products of a factor `A` and the rows `H`. -/
def gW (A : S4x4096x704.Idx → EReal) (H : S4096x1024.Idx → EReal) (o : ℕ) (ho : o + 352 ≤ 704) : S4x352x1024.Idx → EReal := fun i =>
  ∑ s : Fin 4096, A (ix3 (i 0) s ⟨o + (i 1).val, by have : (i 1).val < 352 := (i 1).isLt; omega⟩) * H (ix2 s (i 2))

/-- A sum over all rows is the sums over the two tiles. -/
theorem sum_tiles (G : Fin 4096 → EReal) : (∑ s : Fin 2048, G ⟨s.val, by omega⟩) + ∑ s : Fin 2048, G ⟨2048 + s.val, by omega⟩ = ∑ s, G s :=
  (Fin.sum_univ_add (a := 2048) (b := 2048) G).symm

variable (m : (ℓ : Loc nD τ sig) → Buf (Elt Ideal) ℓ) (c : Dev nD)

/-- The point before. -/
def prev (t : Fin cfg0.N) : Fin cfg0.N := ⟨t.val - 1, Nat.lt_of_le_of_lt (Nat.sub_le _ _) t.isLt⟩

/-- A tile's sum at a shard's first point and its sum at the last are the sum over all rows. -/
theorem two_points (t : Fin cfg0.N) (h : t.val % 2 = 1) (A : S4x4096x704.Idx → EReal) (H : S4096x1024.Idx → EReal) (f : Fin 704) (k : Fin 1024) :
    (∑ s : Fin 2048, A (ix3 (shard (prev t)) (row (prev t) s) f) * H (ix2 (row (prev t) s) k)) + ∑ s : Fin 2048, A (ix3 (shard t) (row t s) f) * H (ix2 (row t s) k)
      = ∑ s : Fin 4096, A (ix3 (shard t) s f) * H (ix2 s k) := by
  rw [← sum_tiles]
  have e : shard (prev t) = shard t := Fin.ext (by change (t.val - 1) / 2 = t.val / 2; omega)
  have r0 : ∀ s, row (prev t) s = ⟨s.val, by omega⟩ := fun s => Fin.ext (by change 2048 * ((t.val - 1) % 2) + s.val = s.val; omega)
  have r1 : ∀ s, row t s = ⟨2048 + s.val, by omega⟩ := fun s => Fin.ext (by change 2048 * (t.val % 2) + s.val = 2048 + s.val; omega)
  simp only [e, r0, r1]

theorem split3 (y : S1x352x1024.Idx) : y = ix3 0 (y 1) (y 2) :=
  (eq_ix3 y).trans (congrArg (fun p : Fin 1 => ix3 p (y 1) (y 2)) (Subsingleton.elim (α := Fin 1) _ _))

theorem flush_6 : ∀ t : Fin cfg0.N, (cfg0.win 6).flush t = true → t.val % 2 = 1 := by decide +kernel
theorem flush_7 : ∀ t : Fin cfg0.N, (cfg0.win 7).flush t = true → t.val % 2 = 1 := by decide +kernel
theorem flush_8 : ∀ t : Fin cfg0.N, (cfg0.win 8).flush t = true → t.val % 2 = 1 := by decide +kernel
theorem flush_9 : ∀ t : Fin cfg0.N, (cfg0.win 9).flush t = true → t.val % 2 = 1 := by decide +kernel
theorem flush_10 : ∀ t : Fin cfg0.N, (cfg0.win 10).flush t = true → t.val % 2 = 1 := by decide +kernel
theorem flush_11 : ∀ t : Fin cfg0.N, (cfg0.win 11).flush t = true → t.val % 2 = 1 := by decide +kernel
/-- The gate gradient's tile after a shard's first point. -/
theorem tile0 (u : Fin cfg0.N) (h : u.val % 2 = 0) (f : Fin 704) (k : Fin 1024) :
    (outsAt0 m (hyps m) c u.val u.isLt).2.2.2.2.2.2.1 (ix2 f k)
      = (∑ s : Fin 2048, sG m c (ix3 (shard u) (row u s) f) * rH m c (ix2 (row u s) k) : EReal) := by
  rw [outsAt0_A m (hyps m) c u h (by omega)]
  dsimp only
  rw [tileA0, pay12_apply, pay8_apply, zero_add]
  simp only [blk3, blk1]

/-- The up gradient's tile after a shard's first point. -/
theorem tile1 (u : Fin cfg0.N) (h : u.val % 2 = 0) (f : Fin 704) (k : Fin 1024) :
    (outsAt0 m (hyps m) c u.val u.isLt).2.2.2.2.2.2.2.1 (ix2 f k)
      = (∑ s : Fin 2048, sU m c (ix3 (shard u) (row u s) f) * rH m c (ix2 (row u s) k) : EReal) := by
  rw [outsAt0_A m (hyps m) c u h (by omega)]
  dsimp only
  rw [tileA1, pay13_apply, pay9_apply, zero_add]
  simp only [blk4, blk1]

/-- The down gradient's tile after a shard's first point. -/
theorem tile2 (u : Fin cfg0.N) (h : u.val % 2 = 0) (f : Fin 704) (k : Fin 1024) :
    (outsAt0 m (hyps m) c u.val u.isLt).2.2.2.2.2.2.2.2 (ix2 f k)
      = (∑ s : Fin 2048, sA m c (ix3 (shard u) (row u s) f) * rD m c (ix2 (row u s) k) : EReal) := by
  rw [outsAt0_A m (hyps m) c u h (by omega)]
  dsimp only
  rw [tileA2, pay1_apply, pay10_apply, zero_add]
  simp only [blk2, blk5]

set_option maxHeartbeats 4000000 in
/-- The halves a shard's last point leaves. -/
theorem out6 (t : Fin cfg0.N) (h : t.val % 2 = 1) (r : Fin 352) (k : Fin 1024) :
    (outsAt0 m (hyps m) c t.val t.isLt).1 (ix3 0 r k) = gW (sG m c) (rH m c) 0 (by decide) (ix3 (shard t) r k) := by
  have hp : (prev t).val % 2 = 0 := by change (t.val - 1) % 2 = 0; omega
  rw [outsAt0_B m (hyps m) c t (by omega) h]
  dsimp only
  rw [outB6, pay5_apply, half_apply, pay12_apply]
  · have e := tile0 m c (prev t) hp ⟨0 + r.val, by omega⟩ k
    simp only [blk3, blk1]
    refine (congrArg (fun a : EReal => a + _) e).trans ?_
    exact two_points t h (sG m c) (rH m c) _ k
  · exact word m c t

/-- The lower halves of the gate weight's gradient. -/
theorem final6 : (dats m (hyps m) 0 c).arrAt 6 cfg0.N = gW (sG m c) (rH m c) 0 (by decide) := by
  refine (dats m (hyps m) 0 c).arrAt_eq_of_covers 6 _ (by decide +kernel) fun t hf y => ?_
  have h := flush_6 t hf
  have ht := lt8 t
  blk_simp [idx t]
  rw [after0_6]
  refine (congrArg _ (split3 y)).trans ((out6 m c t h (y 1) (y 2)).trans ?_)
  have hi : (win0_6.blk t).view.emb y = ix3 (⟨t.val / 2, by omega⟩ : Fin 4) (y 1) (y 2) := by
    blk_ext [idx t]
  exact (congrArg (gW (sG m c) (rH m c) 0 (by decide)) hi).symm

set_option maxHeartbeats 4000000 in
/-- The halves a shard's last point leaves. -/
theorem out7 (t : Fin cfg0.N) (h : t.val % 2 = 1) (r : Fin 352) (k : Fin 1024) :
    (outsAt0 m (hyps m) c t.val t.isLt).2.1 (ix3 0 r k) = gW (sG m c) (rH m c) 352 (by decide) (ix3 (shard t) r k) := by
  have hp : (prev t).val % 2 = 0 := by change (t.val - 1) % 2 = 0; omega
  rw [outsAt0_B m (hyps m) c t (by omega) h]
  dsimp only
  rw [outB7, pay6_apply, half_apply, pay12_apply]
  · have e := tile0 m c (prev t) hp ⟨352 + r.val, by omega⟩ k
    simp only [blk3, blk1]
    refine (congrArg (fun a : EReal => a + _) e).trans ?_
    exact two_points t h (sG m c) (rH m c) _ k
  · exact word m c t

/-- The upper halves of the gate weight's gradient. -/
theorem final7 : (dats m (hyps m) 0 c).arrAt 7 cfg0.N = gW (sG m c) (rH m c) 352 (by decide) := by
  refine (dats m (hyps m) 0 c).arrAt_eq_of_covers 7 _ (by decide +kernel) fun t hf y => ?_
  have h := flush_7 t hf
  have ht := lt8 t
  blk_simp [idx t]
  rw [after0_7]
  refine (congrArg _ (split3 y)).trans ((out7 m c t h (y 1) (y 2)).trans ?_)
  have hi : (win0_7.blk t).view.emb y = ix3 (⟨t.val / 2, by omega⟩ : Fin 4) (y 1) (y 2) := by
    blk_ext [idx t]
  exact (congrArg (gW (sG m c) (rH m c) 352 (by decide)) hi).symm

set_option maxHeartbeats 4000000 in
/-- The halves a shard's last point leaves. -/
theorem out8 (t : Fin cfg0.N) (h : t.val % 2 = 1) (r : Fin 352) (k : Fin 1024) :
    (outsAt0 m (hyps m) c t.val t.isLt).2.2.1 (ix3 0 r k) = gW (sU m c) (rH m c) 0 (by decide) (ix3 (shard t) r k) := by
  have hp : (prev t).val % 2 = 0 := by change (t.val - 1) % 2 = 0; omega
  rw [outsAt0_B m (hyps m) c t (by omega) h]
  dsimp only
  rw [outB8, pay7_apply, half_apply, pay13_apply]
  · have e := tile1 m c (prev t) hp ⟨0 + r.val, by omega⟩ k
    simp only [blk4, blk1]
    refine (congrArg (fun a : EReal => a + _) e).trans ?_
    exact two_points t h (sU m c) (rH m c) _ k
  · exact word m c t

/-- The lower halves of the up weight's gradient. -/
theorem final8 : (dats m (hyps m) 0 c).arrAt 8 cfg0.N = gW (sU m c) (rH m c) 0 (by decide) := by
  refine (dats m (hyps m) 0 c).arrAt_eq_of_covers 8 _ (by decide +kernel) fun t hf y => ?_
  have h := flush_8 t hf
  have ht := lt8 t
  blk_simp [idx t]
  rw [after0_8]
  refine (congrArg _ (split3 y)).trans ((out8 m c t h (y 1) (y 2)).trans ?_)
  have hi : (win0_8.blk t).view.emb y = ix3 (⟨t.val / 2, by omega⟩ : Fin 4) (y 1) (y 2) := by
    blk_ext [idx t]
  exact (congrArg (gW (sU m c) (rH m c) 0 (by decide)) hi).symm

set_option maxHeartbeats 4000000 in
/-- The halves a shard's last point leaves. -/
theorem out9 (t : Fin cfg0.N) (h : t.val % 2 = 1) (r : Fin 352) (k : Fin 1024) :
    (outsAt0 m (hyps m) c t.val t.isLt).2.2.2.1 (ix3 0 r k) = gW (sU m c) (rH m c) 352 (by decide) (ix3 (shard t) r k) := by
  have hp : (prev t).val % 2 = 0 := by change (t.val - 1) % 2 = 0; omega
  rw [outsAt0_B m (hyps m) c t (by omega) h]
  dsimp only
  rw [outB9, pay2_apply, half_apply, pay13_apply]
  · have e := tile1 m c (prev t) hp ⟨352 + r.val, by omega⟩ k
    simp only [blk4, blk1]
    refine (congrArg (fun a : EReal => a + _) e).trans ?_
    exact two_points t h (sU m c) (rH m c) _ k
  · exact word m c t

/-- The upper halves of the up weight's gradient. -/
theorem final9 : (dats m (hyps m) 0 c).arrAt 9 cfg0.N = gW (sU m c) (rH m c) 352 (by decide) := by
  refine (dats m (hyps m) 0 c).arrAt_eq_of_covers 9 _ (by decide +kernel) fun t hf y => ?_
  have h := flush_9 t hf
  have ht := lt8 t
  blk_simp [idx t]
  rw [after0_9]
  refine (congrArg _ (split3 y)).trans ((out9 m c t h (y 1) (y 2)).trans ?_)
  have hi : (win0_9.blk t).view.emb y = ix3 (⟨t.val / 2, by omega⟩ : Fin 4) (y 1) (y 2) := by
    blk_ext [idx t]
  exact (congrArg (gW (sU m c) (rH m c) 352 (by decide)) hi).symm

set_option maxHeartbeats 4000000 in
/-- The halves a shard's last point leaves. -/
theorem out10 (t : Fin cfg0.N) (h : t.val % 2 = 1) (r : Fin 352) (k : Fin 1024) :
    (outsAt0 m (hyps m) c t.val t.isLt).2.2.2.2.1 (ix3 0 r k) = gW (sA m c) (rD m c) 0 (by decide) (ix3 (shard t) r k) := by
  have hp : (prev t).val % 2 = 0 := by change (t.val - 1) % 2 = 0; omega
  rw [outsAt0_B m (hyps m) c t (by omega) h]
  dsimp only
  rw [outB10, pay3_apply, half_apply, pay1_apply]
  · have e := tile2 m c (prev t) hp ⟨0 + r.val, by omega⟩ k
    simp only [blk2, blk5]
    refine (congrArg (fun a : EReal => a + _) e).trans ?_
    exact two_points t h (sA m c) (rD m c) _ k
  · exact word m c t

/-- The lower halves of the down weight's gradient. -/
theorem final10 : (dats m (hyps m) 0 c).arrAt 10 cfg0.N = gW (sA m c) (rD m c) 0 (by decide) := by
  refine (dats m (hyps m) 0 c).arrAt_eq_of_covers 10 _ (by decide +kernel) fun t hf y => ?_
  have h := flush_10 t hf
  have ht := lt8 t
  blk_simp [idx t]
  rw [after0_10]
  refine (congrArg _ (split3 y)).trans ((out10 m c t h (y 1) (y 2)).trans ?_)
  have hi : (win0_10.blk t).view.emb y = ix3 (⟨t.val / 2, by omega⟩ : Fin 4) (y 1) (y 2) := by
    blk_ext [idx t]
  exact (congrArg (gW (sA m c) (rD m c) 0 (by decide)) hi).symm

set_option maxHeartbeats 4000000 in
/-- The halves a shard's last point leaves. -/
theorem out11 (t : Fin cfg0.N) (h : t.val % 2 = 1) (r : Fin 352) (k : Fin 1024) :
    (outsAt0 m (hyps m) c t.val t.isLt).2.2.2.2.2.1 (ix3 0 r k) = gW (sA m c) (rD m c) 352 (by decide) (ix3 (shard t) r k) := by
  have hp : (prev t).val % 2 = 0 := by change (t.val - 1) % 2 = 0; omega
  rw [outsAt0_B m (hyps m) c t (by omega) h]
  dsimp only
  rw [outB11, pay4_apply, half_apply, pay1_apply]
  · have e := tile2 m c (prev t) hp ⟨352 + r.val, by omega⟩ k
    simp only [blk2, blk5]
    refine (congrArg (fun a : EReal => a + _) e).trans ?_
    exact two_points t h (sA m c) (rD m c) _ k
  · exact word m c t

/-- The upper halves of the down weight's gradient. -/
theorem final11 : (dats m (hyps m) 0 c).arrAt 11 cfg0.N = gW (sA m c) (rD m c) 352 (by decide) := by
  refine (dats m (hyps m) 0 c).arrAt_eq_of_covers 11 _ (by decide +kernel) fun t hf y => ?_
  have h := flush_11 t hf
  have ht := lt8 t
  blk_simp [idx t]
  rw [after0_11]
  refine (congrArg _ (split3 y)).trans ((out11 m c t h (y 1) (y 2)).trans ?_)
  have hi : (win0_11.blk t).view.emb y = ix3 (⟨t.val / 2, by omega⟩ : Fin 4) (y 1) (y 2) := by
    blk_ext [idx t]
  exact (congrArg (gW (sA m c) (rD m c) 352 (by decide)) hi).symm

end Cert.FfnWBody

end
-- ==== Proof.WArgs.lean ====
module

public import proofs.«01_k».proof.Proof.WFinal
public import proofs.«01_k».proof.Proof.Gen.FfnWRefIdeal.Read

/- What the feed-forward weights' gradients' pipeline's input arrays hold at its entry, of the arguments. -/

set_option maxRecDepth 16384

@[expose] public section

noncomputable section

namespace Cert.FfnWBody

open Idealize.ShloMosaic Idealize.ShloMosaic.TcCoe Idealize.SL.Sem
open Cert.FfnWIdeal Cert.FfnWIdeal.Gen

/-- Column `f` of shard `j` among all columns. -/
def fcol (j : Fin 4) (f : Fin 704) : Fin 2816 := ⟨j.val * 704 + f.val, by omega⟩

/-- The factors by shard. -/
def shards (x : S1x4096x2816.Idx → EReal) : S4x4096x704.Idx → EReal := fun i => x (ix3 0 (i 1) (fcol (i 0) (i 2)))
/-- Rows without their leading axis. -/
def rowsOf (x : S1x4096x1024.Idx → EReal) : S4096x1024.Idx → EReal := fun i => x (ix3 0 (i 0) (i 1))

theorem shards_eq (x : Vec Ideal S1x4096x2816 .f32) (h h') :
    (truncf (F := Ideal) .bf16 (transpose S4x4096x704 [1, 0, 2] (shapeCast S4096x4x704 x h) h') bitsLt_bf16_f32 : Vec Ideal S4x4096x704 .bf16) = shards x := by
  funext j
  obtain ⟨a, b, d, rfl⟩ : ∃ (a : Fin 4) (b : Fin 4096) (d : Fin 704), j = ix3 a b d := ⟨j 0, j 1, j 2, eq_ix3 j⟩
  pointwise
  rfl
theorem rowsOf_eq (x : Vec Ideal S1x4096x1024 .f32) (h) :
    (truncf (F := Ideal) .bf16 (shapeCast S4096x1024 x h) bitsLt_bf16_f32 : Vec Ideal S4096x1024 .bf16) = rowsOf x := by
  funext j
  obtain ⟨a, b, rfl⟩ : ∃ (a : Fin 4096) (b : Fin 1024), j = ix2 a b := ⟨j 0, j 1, eq_ix2 j⟩
  pointwise
  rfl

variable (m : (ℓ : Loc nD τ sig) → Buf (Elt Ideal) ℓ) (c : Dev nD)

/-- The normed rows. -/
theorem rH_eq : rH m c = rowsOf (Cert.FfnWRefIdeal.Read.val_main_v13 (F := Ideal) (m ((c : Thread nD τ).loc main_arg0)) (m ((c : Thread nD τ).loc main_arg1))) := by
  have h : V m c main_v24 = truncf (F := Ideal) .bf16 (shapeCast S4096x1024 (Cert.FfnWRefIdeal.Read.val_main_v13 (F := Ideal) (m ((c : Thread nD τ).loc main_arg0)) (m ((c : Thread nD τ).loc main_arg1))) shapeCasts_S1x4096x1024_S4096x1024) bitsLt_bf16_f32 := by
    entry_read
    rfl
  exact h.trans (rowsOf_eq _ _)

/-- The rows' gradients. -/
theorem rD_eq : rD m c = rowsOf (m ((c : Thread nD τ).loc main_arg5)) := by
  have h : V m c main_v37 = truncf (F := Ideal) .bf16 (shapeCast S4096x1024 (m ((c : Thread nD τ).loc main_arg5)) shapeCasts_S1x4096x1024_S4096x1024) bitsLt_bf16_f32 := by
    entry_read
    rfl
  exact h.trans (rowsOf_eq _ _)

/-- The products of the factors by shard. -/
theorem sA_eq : sA m c = shards (Cert.FfnWRefIdeal.Read.val_main_v17 (F := Ideal) (m ((c : Thread nD τ).loc main_arg0)) (m ((c : Thread nD τ).loc main_arg1)) (m ((c : Thread nD τ).loc main_arg2)) (m ((c : Thread nD τ).loc main_arg3))) := by
  have h : V m c main_v29 = truncf (F := Ideal) .bf16 (transpose S4x4096x704 [1, 0, 2] (shapeCast S4096x4x704 (Cert.FfnWRefIdeal.Read.val_main_v17 (F := Ideal) (m ((c : Thread nD τ).loc main_arg0)) (m ((c : Thread nD τ).loc main_arg1)) (m ((c : Thread nD τ).loc main_arg2)) (m ((c : Thread nD τ).loc main_arg3))) shapeCasts_S1x4096x2816_S4096x4x704) transposes_S4096x4x704_S4x4096x704_1_0_2) bitsLt_bf16_f32 := by
    entry_read
    rfl
  exact h.trans (shards_eq _ _ _)

/-- The gate factor's gradients by shard. -/
theorem sG_eq : sG m c = shards (Cert.FfnWRefIdeal.Read.val_main_v24 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) := by
  have h : V m c main_v32 = truncf (F := Ideal) .bf16 (transpose S4x4096x704 [1, 0, 2] (shapeCast S4096x4x704 (Cert.FfnWRefIdeal.Read.val_main_v24 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) shapeCasts_S1x4096x2816_S4096x4x704) transposes_S4096x4x704_S4x4096x704_1_0_2) bitsLt_bf16_f32 := by
    entry_read
    rfl
  exact h.trans (shards_eq _ _ _)

/-- The up factor's gradients by shard. -/
theorem sU_eq : sU m c = shards (Cert.FfnWRefIdeal.Read.val_main_v22 (F := Ideal) (m ((c : Thread nD τ).loc main_arg0)) (m ((c : Thread nD τ).loc main_arg1)) (m ((c : Thread nD τ).loc main_arg2)) (m ((c : Thread nD τ).loc main_arg4)) (m ((c : Thread nD τ).loc main_arg5))) := by
  have h : V m c main_v35 = truncf (F := Ideal) .bf16 (transpose S4x4096x704 [1, 0, 2] (shapeCast S4096x4x704 (Cert.FfnWRefIdeal.Read.val_main_v22 (F := Ideal) (m ((c : Thread nD τ).loc main_arg0)) (m ((c : Thread nD τ).loc main_arg1)) (m ((c : Thread nD τ).loc main_arg2)) (m ((c : Thread nD τ).loc main_arg4)) (m ((c : Thread nD τ).loc main_arg5))) shapeCasts_S1x4096x2816_S4096x4x704) transposes_S4096x4x704_S4x4096x704_1_0_2) bitsLt_bf16_f32 := by
    entry_read
    rfl
  exact h.trans (shards_eq _ _ _)

end Cert.FfnWBody

end
-- ==== Proof.WRefRead.lean ====
module

public import proofs.«01_k».proof.Proof.WArgs

/- The feed-forward weights' gradients' reference read at an index, and its meeting with the pipeline's arrays. -/

set_option maxRecDepth 16384

@[expose] public section

noncomputable section

namespace Cert.FfnWBody

open Idealize.ShloMosaic Idealize.ShloMosaic.TcCoe Idealize.SL.Sem
open Cert.FfnWRefIdeal Cert.FfnWRefIdeal.Read

variable (x0 x5 : S1x4096x1024.Idx → EReal) (x1 : S1x1024.Idx → EReal) (x2 x3 : S1024x2816.Idx → EReal) (x4 : S2816x1024.Idx → EReal)

/-- The gate weight's gradient, transposed. -/
theorem r27 (f : Fin 2816) (k : Fin 1024) : val_main_v27 (F := Ideal) x0 x1 x2 x3 x4 x5 (ix2 f k)
    = (∑ s : Fin 4096, val_main_v24 (F := Ideal) x0 x1 x2 x3 x4 x5 (ix3 0 s f) * val_main_v13 (F := Ideal) x0 x1 (ix3 0 s k) : EReal) := by
  unfold val_main_v27
  pointwise
  exact Fin.sum_univ_one _

/-- The up weight's gradient, transposed. -/
theorem r25 (f : Fin 2816) (k : Fin 1024) : val_main_v25 (F := Ideal) x0 x1 x2 x4 x5 (ix2 f k)
    = (∑ s : Fin 4096, val_main_v22 (F := Ideal) x0 x1 x2 x4 x5 (ix3 0 s f) * val_main_v13 (F := Ideal) x0 x1 (ix3 0 s k) : EReal) := by
  unfold val_main_v25
  pointwise
  exact Fin.sum_univ_one _

/-- The down weight's gradient, transposed. -/
theorem r19 (f : Fin 2816) (k : Fin 1024) : val_main_v19 (F := Ideal) x0 x1 x2 x3 x5 (ix2 k f)
    = (∑ s : Fin 4096, val_main_v17 (F := Ideal) x0 x1 x2 x3 (ix3 0 s f) * x5 (ix3 0 s k) : EReal) := by
  unfold val_main_v19
  pointwise
  refine (Fin.sum_univ_one _).trans (Finset.sum_congr rfl fun s _ => mul_comm _ _)

/-- A half's sum over the columns of all shards. -/
theorem gW_shards (A : S1x4096x2816.Idx → EReal) (H : S1x4096x1024.Idx → EReal) (o : ℕ) (ho : o + 352 ≤ 704) (j : Fin 4) (r : Fin 352) (k : Fin 1024)
    (n : ℕ) (hn : n < 2816) (e : j.val * 704 + (o + r.val) = n) :
    gW (shards A) (rowsOf H) o ho (ix3 j r k) = ∑ s : Fin 4096, A (ix3 0 s ⟨n, hn⟩) * H (ix3 0 s k) := by
  subst e
  rfl

/-- The gate weight's gradient, lower halves. -/
theorem all33 : gW (shards (val_main_v24 (F := Ideal) x0 x1 x2 x3 x4 x5)) (rowsOf (val_main_v13 (F := Ideal) x0 x1)) 0 (by decide) = val_main_v33 (F := Ideal) x0 x1 x2 x3 x4 x5 := by
  funext i
  obtain ⟨j, r, k, rfl⟩ : ∃ (j : Fin 4) (r : Fin 352) (k : Fin 1024), i = ix3 j r k := ⟨i 0, i 1, i 2, eq_ix3 i⟩
  unfold val_main_v33 val_main_v32 val_main_v31 val_main_v29 val_main_v28
  pointwise
  rw [r27]
  exact gW_shards _ _ 0 _ j r k _ _ (by omega)

/-- The gate weight's gradient, upper halves. -/
theorem all37 : gW (shards (val_main_v24 (F := Ideal) x0 x1 x2 x3 x4 x5)) (rowsOf (val_main_v13 (F := Ideal) x0 x1)) 352 (by decide) = val_main_v37 (F := Ideal) x0 x1 x2 x3 x4 x5 := by
  funext i
  obtain ⟨j, r, k, rfl⟩ : ∃ (j : Fin 4) (r : Fin 352) (k : Fin 1024), i = ix3 j r k := ⟨i 0, i 1, i 2, eq_ix3 i⟩
  unfold val_main_v37 val_main_v36 val_main_v35 val_main_v34 val_main_v29 val_main_v28
  pointwise
  rw [r27]
  exact gW_shards _ _ 352 _ j r k _ _ (by omega)

/-- The up weight's gradient, lower halves. -/
theorem all40 : gW (shards (val_main_v22 (F := Ideal) x0 x1 x2 x4 x5)) (rowsOf (val_main_v13 (F := Ideal) x0 x1)) 0 (by decide) = val_main_v40 (F := Ideal) x0 x1 x2 x4 x5 := by
  funext i
  obtain ⟨j, r, k, rfl⟩ : ∃ (j : Fin 4) (r : Fin 352) (k : Fin 1024), i = ix3 j r k := ⟨i 0, i 1, i 2, eq_ix3 i⟩
  unfold val_main_v40 val_main_v39 val_main_v38 val_main_v30 val_main_v26
  pointwise
  rw [r25]
  exact gW_shards _ _ 0 _ j r k _ _ (by omega)

/-- The up weight's gradient, upper halves. -/
theorem all44 : gW (shards (val_main_v22 (F := Ideal) x0 x1 x2 x4 x5)) (rowsOf (val_main_v13 (F := Ideal) x0 x1)) 352 (by decide) = val_main_v44 (F := Ideal) x0 x1 x2 x4 x5 := by
  funext i
  obtain ⟨j, r, k, rfl⟩ : ∃ (j : Fin 4) (r : Fin 352) (k : Fin 1024), i = ix3 j r k := ⟨i 0, i 1, i 2, eq_ix3 i⟩
  unfold val_main_v44 val_main_v43 val_main_v42 val_main_v41 val_main_v30 val_main_v26
  pointwise
  rw [r25]
  exact gW_shards _ _ 352 _ j r k _ _ (by omega)

/-- The down weight's gradient, lower halves. -/
theorem all47 : gW (shards (val_main_v17 (F := Ideal) x0 x1 x2 x3)) (rowsOf x5) 0 (by decide) = val_main_v47 (F := Ideal) x0 x1 x2 x3 x5 := by
  funext i
  obtain ⟨j, r, k, rfl⟩ : ∃ (j : Fin 4) (r : Fin 352) (k : Fin 1024), i = ix3 j r k := ⟨i 0, i 1, i 2, eq_ix3 i⟩
  unfold val_main_v47 val_main_v46 val_main_v45 val_main_v20
  pointwise
  rw [r19]
  exact gW_shards _ _ 0 _ j r k _ _ (by omega)

/-- The down weight's gradient, upper halves. -/
theorem all51 : gW (shards (val_main_v17 (F := Ideal) x0 x1 x2 x3)) (rowsOf x5) 352 (by decide) = val_main_v51 (F := Ideal) x0 x1 x2 x3 x5 := by
  funext i
  obtain ⟨j, r, k, rfl⟩ : ∃ (j : Fin 4) (r : Fin 352) (k : Fin 1024), i = ix3 j r k := ⟨i 0, i 1, i 2, eq_ix3 i⟩
  unfold val_main_v51 val_main_v50 val_main_v49 val_main_v48 val_main_v20
  pointwise
  rw [r19]
  exact gW_shards _ _ 352 _ j r k _ _ (by omega)

end Cert.FfnWBody

end
-- ==== Proof.InBody.lean ====
module

public import proofs.«01_k».proof.Proof.Gen.InProjIdeal.Value
public import proofs.«01_k».proof.Proof.Gen.InProjRefIdeal.Read
public import Idealize.ShloMosaic.Lib.Pointwise
public import Idealize.ShloMosaic.PureOps.Ideal
public import Idealize.ShloMosaic.Lib.Pipeline.ValueKit
public import Idealize.ShloMosaic.Lib.PlanTiles.Rows

/- What the input projection's pipeline leaves in its four arrays, and its meeting with the reference. -/

set_option maxRecDepth 16384

@[expose] public section

noncomputable section

namespace Cert.InBody

open Idealize.ShloMosaic Idealize.ShloMosaic.TcCoe Idealize.SL.Sem
open Cert.InProjIdeal Cert.InProjIdeal.Gen

/-! ## The body's results at an index -/

theorem zeros2 : (![0, 0] : Fin 2 → ℕ) = fun _ => 0 := by
  funext a
  match a with
  | ⟨0, _⟩ => rfl
  | ⟨1, _⟩ => rfl

theorem pay1_apply (x : Vec Ideal S1024x1024 .bf16) (w : Vec Ideal S1280x1024 .bf16) (r : Fin 1024) (j : Fin 1280) :
    k0_pay1 x w (ix2 r j) = (∑ q : Fin 1024, x (ix2 r q) * w (ix2 j q) : EReal) := by
  unfold k0_pay1
  pointwise

theorem ld0 (x : Vec Ideal S1024x1024 .bf16) : View.ld x r0_0 = x := View.ld_unit_zero zeros2 _ x
theorem ld1 (w : Vec Ideal S1280x1024 .bf16) : View.ld w r0_1 = w := View.ld_unit_zero zeros2 _ w

theorem out2_apply (x : Vec Ideal S1024x1024 .bf16) (w : Vec Ideal S1280x1024 .bf16) (r : Fin 1024) (j : Fin 512) :
    out0_2 x w (ix2 r j) = (∑ q : Fin 1024, x (ix2 r q) * w (ix2 ⟨0 + j.val, by omega⟩ q) : EReal) := by
  unfold out0_2
  rw [View.canon_unit_zero zeros2, ld0, ld1]
  unfold k0_pay2
  pointwise
  rw [pay1_apply]
theorem out3_apply (x : Vec Ideal S1024x1024 .bf16) (w : Vec Ideal S1280x1024 .bf16) (r : Fin 1024) (j : Fin 512) :
    out0_3 x w (ix2 r j) = (∑ q : Fin 1024, x (ix2 r q) * w (ix2 ⟨512 + j.val, by omega⟩ q) : EReal) := by
  unfold out0_3
  rw [View.canon_unit_zero zeros2, ld0, ld1]
  unfold k0_pay3
  pointwise
  rw [pay1_apply]
theorem out4_apply (x : Vec Ideal S1024x1024 .bf16) (w : Vec Ideal S1280x1024 .bf16) (r : Fin 1024) (j : Fin 128) :
    out0_4 x w (ix2 r j) = (∑ q : Fin 1024, x (ix2 r q) * w (ix2 ⟨1024 + j.val, by omega⟩ q) : EReal) := by
  unfold out0_4
  rw [View.canon_unit_zero zeros2, ld0, ld1]
  unfold k0_pay4
  pointwise
  rw [pay1_apply]
theorem out5_apply (x : Vec Ideal S1024x1024 .bf16) (w : Vec Ideal S1280x1024 .bf16) (r : Fin 1024) (j : Fin 128) :
    out0_5 x w (ix2 r j) = (∑ q : Fin 1024, x (ix2 r q) * w (ix2 ⟨1152 + j.val, by omega⟩ q) : EReal) := by
  unfold out0_5
  rw [View.canon_unit_zero zeros2, ld0, ld1]
  unfold k0_pay5
  pointwise
  rw [pay1_apply]

/-! ## The blocks -/

variable (m : (ℓ : Loc nD τ sig) → Buf (Elt Ideal) ℓ) (c : Dev nD)

theorem idx : ∀ t : Fin cfg0.N, win0_0.index t = ![t.val, 0] ∧ win0_1.index t = ![0, 0] ∧ win0_2.index t = ![t.val, 0]
    ∧ win0_3.index t = ![t.val, 0] ∧ win0_4.index t = ![t.val, 0] ∧ win0_5.index t = ![t.val, 0] ∧ t.val < 4 :=
  (by decide +kernel : ∀ t : Fin grid0.N, _)

theorem lt4 (t : Fin cfg0.N) : t.val < 4 := (idx t).2.2.2.2.2.2

/-- Row `r` of point `t`'s tile. -/
def row (t : Fin cfg0.N) (r : Fin 1024) : Fin 4096 := ⟨1024 * t.val + r.val, by have := lt4 t; omega⟩

/-- The normed rows the pipeline reads. -/
def rH : S4096x1024.Idx → EReal := V m c main_v15
/-- The transposed weight it reads. -/
def rW : S1280x1024.Idx → EReal := V m c main_v17

theorem blk0 (t : Fin cfg0.N) (r : Fin 1024) (q : Fin 1024) : iblk m c 0 t (ix2 r q : S1024x1024.Idx) = rH m c (ix2 (row t r) q) := by
  have := lt4 t
  change _ = V m c main_v15 (ix2 (⟨1024 * t.val + r.val, by omega⟩ : Fin 4096) q : S4096x1024.Idx)
  blk_ext [iblk, idx t]
theorem blk1 (t : Fin cfg0.N) (j : Fin 1280) (q : Fin 1024) : iblk m c 1 t (ix2 j q : S1280x1024.Idx) = rW m c (ix2 j q) := by
  change _ = V m c main_v17 (ix2 j q : S1280x1024.Idx)
  blk_ext [iblk, idx t]

/-! ## The final arrays -/

/-- The rows times 512 of the transposed weight's rows, from row `o` onward. -/
def pU (H : S4096x1024.Idx → EReal) (W : S1280x1024.Idx → EReal) (o : ℕ) (ho : o + 512 ≤ 1280) : S4096x512.Idx → EReal := fun i =>
  ∑ q : Fin 1024, H (ix2 (i 0) q) * W (ix2 ⟨o + (i 1).val, by have : (i 1).val < 512 := (i 1).isLt; omega⟩ q)
/-- The rows times 128 of them. -/
def pK (H : S4096x1024.Idx → EReal) (W : S1280x1024.Idx → EReal) (o : ℕ) (ho : o + 128 ≤ 1280) : S4096x128.Idx → EReal := fun i =>
  ∑ q : Fin 1024, H (ix2 (i 0) q) * W (ix2 ⟨o + (i 1).val, by have : (i 1).val < 128 := (i 1).isLt; omega⟩ q)

theorem outs2 (t : Fin cfg0.N) (r : Fin 1024) (j : Fin 512) :
    out0_2 (iblk m c 0 t) (iblk m c 1 t) (ix2 r j) = pU (rH m c) (rW m c) 0 (by decide) (ix2 (row t r) j) := by
  refine (out2_apply _ _ r j).trans (Finset.sum_congr rfl fun q _ => ?_)
  rw [blk0, blk1]
  rfl
theorem outs3 (t : Fin cfg0.N) (r : Fin 1024) (j : Fin 512) :
    out0_3 (iblk m c 0 t) (iblk m c 1 t) (ix2 r j) = pU (rH m c) (rW m c) 512 (by decide) (ix2 (row t r) j) := by
  refine (out3_apply _ _ r j).trans (Finset.sum_congr rfl fun q _ => ?_)
  rw [blk0, blk1]
  rfl
theorem outs4 (t : Fin cfg0.N) (r : Fin 1024) (j : Fin 128) :
    out0_4 (iblk m c 0 t) (iblk m c 1 t) (ix2 r j) = pK (rH m c) (rW m c) 1024 (by decide) (ix2 (row t r) j) := by
  refine (out4_apply _ _ r j).trans (Finset.sum_congr rfl fun q _ => ?_)
  rw [blk0, blk1]
  rfl
theorem outs5 (t : Fin cfg0.N) (r : Fin 1024) (j : Fin 128) :
    out0_5 (iblk m c 0 t) (iblk m c 1 t) (ix2 r j) = pK (rH m c) (rW m c) 1152 (by decide) (ix2 (row t r) j) := by
  refine (out5_apply _ _ r j).trans (Finset.sum_congr rfl fun q _ => ?_)
  rw [blk0, blk1]
  rfl

/-- The array of `u`. -/
theorem final2 : (dats m 0 c).arrAt 2 cfg0.N = pU (rH m c) (rW m c) 0 (by decide) := by
  refine (dats m 0 c).arrAt_eq_of_covers 2 _ (by decide +kernel) fun t hf y => ?_
  blk_simp [idx t]
  rw [after0_2]
  refine (congrArg _ (eq_ix2 y)).trans ((outs2 m c t (y 0) (y 1)).trans ?_)
  have hi : (win0_2.blk t).view.emb y = ix2 (⟨1024 * t.val + (y 0).val, by have := lt4 t; have : (y 0).val < 1024 := (y 0).isLt; omega⟩ : Fin 4096) (y 1) := by
    blk_ext [idx t]
  exact (congrArg (pU (rH m c) (rW m c) 0 (by decide)) hi).symm

/-- The array of `q`. -/
theorem final3 : (dats m 0 c).arrAt 3 cfg0.N = pU (rH m c) (rW m c) 512 (by decide) := by
  refine (dats m 0 c).arrAt_eq_of_covers 3 _ (by decide +kernel) fun t hf y => ?_
  blk_simp [idx t]
  rw [after0_3]
  refine (congrArg _ (eq_ix2 y)).trans ((outs3 m c t (y 0) (y 1)).trans ?_)
  have hi : (win0_3.blk t).view.emb y = ix2 (⟨1024 * t.val + (y 0).val, by have := lt4 t; have : (y 0).val < 1024 := (y 0).isLt; omega⟩ : Fin 4096) (y 1) := by
    blk_ext [idx t]
  exact (congrArg (pU (rH m c) (rW m c) 512 (by decide)) hi).symm

/-- The array of `k`. -/
theorem final4 : (dats m 0 c).arrAt 4 cfg0.N = pK (rH m c) (rW m c) 1024 (by decide) := by
  refine (dats m 0 c).arrAt_eq_of_covers 4 _ (by decide +kernel) fun t hf y => ?_
  blk_simp [idx t]
  rw [after0_4]
  refine (congrArg _ (eq_ix2 y)).trans ((outs4 m c t (y 0) (y 1)).trans ?_)
  have hi : (win0_4.blk t).view.emb y = ix2 (⟨1024 * t.val + (y 0).val, by have := lt4 t; have : (y 0).val < 1024 := (y 0).isLt; omega⟩ : Fin 4096) (y 1) := by
    blk_ext [idx t]
  exact (congrArg (pK (rH m c) (rW m c) 1024 (by decide)) hi).symm

/-- The array of `v`. -/
theorem final5 : (dats m 0 c).arrAt 5 cfg0.N = pK (rH m c) (rW m c) 1152 (by decide) := by
  refine (dats m 0 c).arrAt_eq_of_covers 5 _ (by decide +kernel) fun t hf y => ?_
  blk_simp [idx t]
  rw [after0_5]
  refine (congrArg _ (eq_ix2 y)).trans ((outs5 m c t (y 0) (y 1)).trans ?_)
  have hi : (win0_5.blk t).view.emb y = ix2 (⟨1024 * t.val + (y 0).val, by have := lt4 t; have : (y 0).val < 1024 := (y 0).isLt; omega⟩ : Fin 4096) (y 1) := by
    blk_ext [idx t]
  exact (congrArg (pK (rH m c) (rW m c) 1152 (by decide)) hi).symm

/-! ## The arrays of the arguments -/

/-- Rows without their leading axis. -/
def rowsOf (x : S1x4096x1024.Idx → EReal) : S4096x1024.Idx → EReal := fun i => x (ix3 0 (i 0) (i 1))
/-- A weight transposed. -/
def wT (w : S1024x1280.Idx → EReal) : S1280x1024.Idx → EReal := fun i => w (ix2 (i 1) (i 0))

theorem rowsOf_eq (x : Vec Ideal S1x4096x1024 .f32) (h) :
    (truncf (F := Ideal) .bf16 (shapeCast S4096x1024 x h) bitsLt_bf16_f32 : Vec Ideal S4096x1024 .bf16) = rowsOf x := by
  funext j
  obtain ⟨a, b, rfl⟩ : ∃ (a : Fin 4096) (b : Fin 1024), j = ix2 a b := ⟨j 0, j 1, eq_ix2 j⟩
  pointwise
  rfl
theorem wT_eq (w : Vec Ideal S1024x1280 .f32) (h) :
    (truncf (F := Ideal) .bf16 (transpose S1280x1024 [1, 0] w h) bitsLt_bf16_f32 : Vec Ideal S1280x1024 .bf16) = wT w := by
  funext j
  obtain ⟨a, b, rfl⟩ : ∃ (a : Fin 1280) (b : Fin 1024), j = ix2 a b := ⟨j 0, j 1, eq_ix2 j⟩
  pointwise
  rfl

/-- The normed rows. -/
theorem rH_eq : rH m c = rowsOf (Cert.InProjRefIdeal.Read.val_main_v13 (F := Ideal) (m ((c : Thread nD τ).loc main_arg0)) (m ((c : Thread nD τ).loc main_arg1))) := by
  have h : V m c main_v15 = truncf (F := Ideal) .bf16 (shapeCast S4096x1024 (Cert.InProjRefIdeal.Read.val_main_v13 (F := Ideal) (m ((c : Thread nD τ).loc main_arg0)) (m ((c : Thread nD τ).loc main_arg1))) shapeCasts_S1x4096x1024_S4096x1024) bitsLt_bf16_f32 := by
    entry_read
    rfl
  exact h.trans (rowsOf_eq _ _)

/-- The weight, transposed. -/
theorem rW_eq : rW m c = wT (m ((c : Thread nD τ).loc main_arg2)) := by
  have h : V m c main_v17 = truncf (F := Ideal) .bf16 (transpose S1280x1024 [1, 0] (m ((c : Thread nD τ).loc main_arg2)) transposes_S1024x1280_S1280x1024_1_0) bitsLt_bf16_f32 := by
    entry_read
    rfl
  exact h.trans (wT_eq _ _)

/-! ## The reference -/

section
open Cert.InProjRefIdeal.Read

variable (x0 : S1x4096x1024.Idx → EReal) (x1 : S1x1024.Idx → EReal) (x2 : S1024x1280.Idx → EReal)

/-- The reference's product at an index. -/
theorem r14 (a : Fin 4096) (j : Fin 1280) : val_main_v14 (F := Ideal) x0 x1 x2 (ix3 0 a j)
    = (∑ q : Fin 1024, val_main_v13 (F := Ideal) x0 x1 (ix3 0 a q) * x2 (ix2 q j) : EReal) := by
  unfold val_main_v14
  pointwise

theorem all19 : pU (rowsOf (val_main_v13 (F := Ideal) x0 x1)) (wT x2) 0 (by decide) = val_main_v19 (F := Ideal) x0 x1 x2 := by
  funext i
  obtain ⟨a, j, rfl⟩ : ∃ (a : Fin 4096) (j : Fin 512), i = ix2 a j := ⟨i 0, i 1, eq_ix2 i⟩
  unfold val_main_v19 val_main_v15
  pointwise
  rw [r14]
  unfold pU
  simp only [Nat.zero_add]
  rfl
theorem all21 : pU (rowsOf (val_main_v13 (F := Ideal) x0 x1)) (wT x2) 512 (by decide) = val_main_v21 (F := Ideal) x0 x1 x2 := by
  funext i
  obtain ⟨a, j, rfl⟩ : ∃ (a : Fin 4096) (j : Fin 512), i = ix2 a j := ⟨i 0, i 1, eq_ix2 i⟩
  unfold val_main_v21 val_main_v20 val_main_v16
  pointwise
  rw [r14]
  rfl
theorem all23 : pK (rowsOf (val_main_v13 (F := Ideal) x0 x1)) (wT x2) 1024 (by decide) = val_main_v23 (F := Ideal) x0 x1 x2 := by
  funext i
  obtain ⟨a, j, rfl⟩ : ∃ (a : Fin 4096) (j : Fin 128), i = ix2 a j := ⟨i 0, i 1, eq_ix2 i⟩
  unfold val_main_v23 val_main_v22 val_main_v17
  pointwise
  rw [r14]
  rfl
theorem all25 : pK (rowsOf (val_main_v13 (F := Ideal) x0 x1)) (wT x2) 1152 (by decide) = val_main_v25 (F := Ideal) x0 x1 x2 := by
  funext i
  obtain ⟨a, j, rfl⟩ : ∃ (a : Fin 4096) (j : Fin 128), i = ix2 a j := ⟨i 0, i 1, eq_ix2 i⟩
  unfold val_main_v25 val_main_v24 val_main_v18
  pointwise
  rw [r14]
  rfl
end

end Cert.InBody

end
-- ==== Proof.OutBody.lean ====
module

public import proofs.«01_k».proof.Proof.Gen.OutProjIdeal.Value
public import proofs.«01_k».proof.Proof.Gen.OutProjRefIdeal.Read
public import Idealize.ShloMosaic.Lib.Pointwise
public import Idealize.ShloMosaic.PureOps.Ideal
public import Idealize.ShloMosaic.Lib.Pipeline.ValueKit
public import Idealize.ShloMosaic.Lib.PlanTiles.Rows

/- What the output projection's pipeline leaves in its three arrays, and its meeting with the reference. -/

set_option maxRecDepth 16384

@[expose] public section

noncomputable section

namespace Cert.OutBody

open Idealize.ShloMosaic Idealize.ShloMosaic.TcCoe Idealize.SL.Sem
open Cert.OutProjIdeal Cert.OutProjIdeal.Gen

/-! ## One row's formulas -/

/-- The constant a row's sum of squares is divided by. -/
def cD : EReal := Ideal.ofBits FTy.f32 1149239296#32
/-- The constant added under the root. -/
def cE : EReal := Ideal.ofBits FTy.f32 897988541#32
/-- A row's root of the mean square, inverted. -/
def rE (x : Fin 1024 → EReal) : EReal := Ideal.rsqrt (Ideal.div (∑ q, x q * x q) cD + cE)
/-- A row normed. -/
def nE (x : Fin 1024 → EReal) (k : Fin 1024) : EReal := x k * rE x
/-- The mixed row's entry: the pool's row times the weight's upper half plus the attention's times its lower half. -/
def mE (a b : Fin 512 → EReal) (w v : Fin 512 → EReal) : EReal := ∑ q, a q * w q + ∑ q, b q * v q
theorem mE_congr {a b w v a' b' w' v' : Fin 512 → EReal} (ha : ∀ q, a q = a' q) (hb : ∀ q, b q = b' q) (hw : ∀ q, w q = w' q) (hv : ∀ q, v q = v' q) :
    mE a b w v = mE a' b' w' v' := by
  rw [funext ha, funext hb, funext hw, funext hv]

/-! ## The body's results at an index -/

/-- The zero offsets of a whole block. -/
theorem zeros2 : (![0, 0] : Fin 2 → ℕ) = fun _ => 0 := by
  funext a
  match a with
  | ⟨0, _⟩ => rfl
  | ⟨1, _⟩ => rfl

/-- Reading a whole block of rows. -/
theorem ld0 (x : Vec Ideal S512x512 .bf16) : View.ld x r0_0 = x := View.ld_unit_zero zeros2 _ x
theorem ld3 (x : Vec Ideal S512x1024 .f32) : View.ld x r0_3 = x := View.ld_unit_zero zeros2 _ x
theorem ld4 (x : Vec Ideal S1x1024 .f32) : View.ld x r0_4 = x := View.ld_unit_zero zeros2 _ x
/-- Reading the weight's upper half. -/
theorem ld1 (w : Vec Ideal S1024x1024 .bf16) (q : Fin 512) (k : Fin 1024) : View.ld w r0_1 (ix2 q k) = w (ix2 ⟨q.val, by omega⟩ k) :=
  congrArg w (funext fun a => Fin.ext (by
    match a with
    | ⟨0, _⟩ => exact (Nat.zero_add _).trans (Nat.one_mul _)
    | ⟨1, _⟩ => exact (Nat.zero_add _).trans (Nat.one_mul _)))
/-- Reading its lower half. -/
theorem ld2 (w : Vec Ideal S1024x1024 .bf16) (q : Fin 512) (k : Fin 1024) : View.ld w r0_2 (ix2 q k) = w (ix2 ⟨512 + q.val, by omega⟩ k) :=
  congrArg w (funext fun a => Fin.ext (by
    match a with
    | ⟨0, _⟩ => exact congrArg (512 + ·) (Nat.one_mul _)
    | ⟨1, _⟩ => exact (Nat.zero_add _).trans (Nat.one_mul _)))

/-- The mixed rows at an index. -/
theorem pay2_apply (a : Vec Ideal S512x512 .bf16) (w : Vec Ideal S512x1024 .bf16) (b : Vec Ideal S512x512 .bf16) (v : Vec Ideal S512x1024 .bf16) (r : Fin 512) (k : Fin 1024) :
    k0_pay2 a w b v (ix2 r k) = mE (fun q => a (ix2 r q)) (fun q => b (ix2 r q)) (fun q => w (ix2 q k)) (fun q => v (ix2 q k)) := by
  unfold k0_pay2 mE
  pointwise

/-- The rows after the layer at an index. -/
theorem pay3_apply (a : Vec Ideal S512x512 .bf16) (w : Vec Ideal S512x1024 .bf16) (b : Vec Ideal S512x512 .bf16) (v : Vec Ideal S512x1024 .bf16)
    (x : Vec Ideal S512x1024 .f32) (g : Vec Ideal S1x1024 .f32) (r : Fin 512) (k : Fin 1024) :
    k0_pay3 a w b v x g (ix2 r k) = (x (ix2 r k) + nE (fun q => k0_pay2 a w b v (ix2 r q)) k * g (ix2 0 k) : EReal) := by
  unfold k0_pay3 nE rE cD cE
  pointwise

/-- The mean square of a row after the layer. -/
theorem pay4_apply (a : Vec Ideal S512x512 .bf16) (w : Vec Ideal S512x1024 .bf16) (b : Vec Ideal S512x512 .bf16) (v : Vec Ideal S512x1024 .bf16)
    (x : Vec Ideal S512x1024 .f32) (g : Vec Ideal S1x1024 .f32) (r : Fin 512) :
    k0_pay4 a w b v x g (ix2 r 0) = (Ideal.div (∑ q, k0_pay3 a w b v x g (ix2 r q) * k0_pay3 a w b v x g (ix2 r q)) cD : EReal) := by
  unfold k0_pay4 cD
  pointwise

/-- The rows normed and scaled for the next layer, of the rows and their mean squares. -/
theorem pay1_apply (y : FVec Ideal S512x1024 .f32) (s : FVec Ideal S512x1 .f32) (g : Vec Ideal S1x1024 .f32) (r : Fin 512) (k : Fin 1024) :
    k0_pay1 y s g (ix2 r k) = (y (ix2 r k) * Ideal.rsqrt (s (ix2 r 0) + cE) * g (ix2 0 k) : EReal) := by
  unfold k0_pay1 cE
  pointwise

/-- The rows normed and scaled, of a row's entries and their mean square. -/
theorem pay1_normed (y : FVec Ideal S512x1024 .f32) (s : FVec Ideal S512x1 .f32) (g : Vec Ideal S1x1024 .f32) (r : Fin 512) (Y : Fin 1024 → EReal)
    (hy : ∀ q, y (ix2 r q) = Y q) (hs : s (ix2 r 0) = Ideal.div (∑ q, y (ix2 r q) * y (ix2 r q)) cD) (k : Fin 1024) :
    k0_pay1 y s g (ix2 r k) = (nE Y k * g (ix2 0 k) : EReal) := by
  rw [pay1_apply, hs]
  simp only [hy]
  rfl

/-! ## The whole arrays' formulas -/

/-- The mixed rows. -/
def gM (A B : S4096x512.Idx → EReal) (W : S1024x1024.Idx → EReal) : S4096x1024.Idx → EReal := fun i =>
  mE (fun q => A (ix2 (i 0) q)) (fun q => B (ix2 (i 0) q)) (fun q => W (ix2 ⟨q.val, by omega⟩ (i 1))) (fun q => W (ix2 ⟨512 + q.val, by omega⟩ (i 1)))
/-- The rows after the layer, of the mixed rows. -/
def gX (M X : S4096x1024.Idx → EReal) (g : S1x1024.Idx → EReal) : S4096x1024.Idx → EReal := fun i =>
  X (ix2 (i 0) (i 1)) + nE (fun q => M (ix2 (i 0) q)) (i 1) * g (ix2 0 (i 1))
/-- The rows normed and scaled for the next layer, of the rows after this one. -/
def gH (Y : S4096x1024.Idx → EReal) (g : S1x1024.Idx → EReal) : S4096x1024.Idx → EReal := fun i =>
  nE (fun q => Y (ix2 (i 0) q)) (i 1) * g (ix2 0 (i 1))

/-! ## The blocks -/

variable (m : (ℓ : Loc nD τ sig) → Buf (Elt Ideal) ℓ) (c : Dev nD)

/-- Where each window's block lies at a point. -/
theorem idx : ∀ t : Fin cfg0.N, win0_0.index t = ![t.val, 0] ∧ win0_1.index t = ![t.val, 0] ∧ win0_2.index t = ![0, 0]
    ∧ win0_3.index t = ![t.val, 0] ∧ win0_4.index t = ![0, 0] ∧ win0_5.index t = ![0, 0] ∧ win0_6.index t = ![t.val, 0]
    ∧ win0_7.index t = ![t.val, 0] ∧ win0_8.index t = ![t.val, 0] ∧ t.val < 8 :=
  (by decide +kernel : ∀ t : Fin grid0.N, _)

/-- The grid has eight points. -/
theorem lt8 (t : Fin cfg0.N) : t.val < 8 := (idx t).2.2.2.2.2.2.2.2.2

/-- Row `r` of point `t`'s tile. -/
def row (t : Fin cfg0.N) (r : Fin 512) : Fin 4096 := ⟨512 * t.val + r.val, by have := lt8 t; omega⟩

/-- The pool's rows. -/
def aP : S4096x512.Idx → EReal := V m c main_v1
/-- The attention's rows. -/
def aA : S4096x512.Idx → EReal := V m c main_v3
/-- The weight. -/
def aW : S1024x1024.Idx → EReal := V m c main_v4
/-- The rows before the layer. -/
def aX : S4096x1024.Idx → EReal := V m c main_v5
/-- The mixed rows' scale. -/
def aG : S1x1024.Idx → EReal := V m c main_arg4
/-- The next layer's scale. -/
def aF : S1x1024.Idx → EReal := V m c main_arg5

theorem blk0 (t : Fin cfg0.N) (r : Fin 512) (q : Fin 512) : iblk m c 0 t (ix2 r q : S512x512.Idx) = aP m c (ix2 (row t r) q) := by
  have := lt8 t
  change _ = V m c main_v1 (ix2 (⟨512 * t.val + r.val, by omega⟩ : Fin 4096) q : S4096x512.Idx)
  blk_ext [iblk, idx t]
theorem blk1 (t : Fin cfg0.N) (r : Fin 512) (q : Fin 512) : iblk m c 1 t (ix2 r q : S512x512.Idx) = aA m c (ix2 (row t r) q) := by
  have := lt8 t
  change _ = V m c main_v3 (ix2 (⟨512 * t.val + r.val, by omega⟩ : Fin 4096) q : S4096x512.Idx)
  blk_ext [iblk, idx t]
theorem blk2 (t : Fin cfg0.N) (j : Fin 1024) (q : Fin 1024) : iblk m c 2 t (ix2 j q : S1024x1024.Idx) = aW m c (ix2 j q) := by
  change _ = V m c main_v4 (ix2 j q : S1024x1024.Idx)
  blk_ext [iblk, idx t]
theorem blk3 (t : Fin cfg0.N) (r : Fin 512) (q : Fin 1024) : iblk m c 3 t (ix2 r q : S512x1024.Idx) = aX m c (ix2 (row t r) q) := by
  have := lt8 t
  change _ = V m c main_v5 (ix2 (⟨512 * t.val + r.val, by omega⟩ : Fin 4096) q : S4096x1024.Idx)
  blk_ext [iblk, idx t]
theorem blk4 (t : Fin cfg0.N) (q : Fin 1024) : iblk m c 4 t (ix2 0 q : S1x1024.Idx) = aG m c (ix2 0 q) := by
  change _ = V m c main_arg4 (ix2 0 q : S1x1024.Idx)
  blk_ext [iblk, idx t]
theorem blk5 (t : Fin cfg0.N) (q : Fin 1024) : iblk m c 5 t (ix2 0 q : S1x1024.Idx) = aF m c (ix2 0 q) := by
  change _ = V m c main_arg5 (ix2 0 q : S1x1024.Idx)
  blk_ext [iblk, idx t]

/-! ## What a point writes -/

/-- The three arrays the pipeline leaves. -/
def oM : S4096x1024.Idx → EReal := gM (aP m c) (aA m c) (aW m c)
def oX : S4096x1024.Idx → EReal := gX (oM m c) (aX m c) (aG m c)
def oH : S4096x1024.Idx → EReal := gH (oX m c) (aF m c)

/-- The mixed rows of a point's blocks. -/
theorem mix_at (t : Fin cfg0.N) (r : Fin 512) (k : Fin 1024) :
    k0_pay2 (iblk m c 0 t) (View.ld (iblk m c 2 t) r0_1) (iblk m c 1 t) (View.ld (iblk m c 2 t) r0_2) (ix2 r k) = oM m c (ix2 (row t r) k) := by
  refine (pay2_apply _ _ _ _ r k).trans ?_
  exact mE_congr (fun q => blk0 m c t r q) (fun q => blk1 m c t r q) (fun q => (ld1 _ q k).trans (blk2 m c t _ k)) (fun q => (ld2 _ q k).trans (blk2 m c t _ k))
/-- The rows after the layer of a point's blocks. -/
theorem x1_at (t : Fin cfg0.N) (r : Fin 512) (k : Fin 1024) :
    k0_pay3 (iblk m c 0 t) (View.ld (iblk m c 2 t) r0_1) (iblk m c 1 t) (View.ld (iblk m c 2 t) r0_2) (iblk m c 3 t) (iblk m c 4 t) (ix2 r k) = oX m c (ix2 (row t r) k) := by
  rw [pay3_apply]
  simp only [mix_at, blk3, blk4]
  rfl

theorem outs6 (t : Fin cfg0.N) (r : Fin 512) (k : Fin 1024) :
    out0_6 (iblk m c 0 t) (iblk m c 1 t) (iblk m c 2 t) (iblk m c 3 t) (iblk m c 4 t) (iblk m c 5 t) (ix2 r k) = oM m c (ix2 (row t r) k) := by
  unfold out0_6
  rw [View.canon_unit_zero zeros2, ld0, ld0]
  exact mix_at m c t r k
theorem outs7 (t : Fin cfg0.N) (r : Fin 512) (k : Fin 1024) :
    out0_7 (iblk m c 0 t) (iblk m c 1 t) (iblk m c 2 t) (iblk m c 3 t) (iblk m c 4 t) (iblk m c 5 t) (ix2 r k) = oX m c (ix2 (row t r) k) := by
  unfold out0_7
  rw [View.canon_unit_zero zeros2, ld0, ld0, ld3, ld4]
  exact x1_at m c t r k
theorem outs8 (t : Fin cfg0.N) (r : Fin 512) (k : Fin 1024) :
    out0_8 (iblk m c 0 t) (iblk m c 1 t) (iblk m c 2 t) (iblk m c 3 t) (iblk m c 4 t) (iblk m c 5 t) (ix2 r k) = oH m c (ix2 (row t r) k) := by
  unfold out0_8
  rw [View.canon_unit_zero zeros2, ld0, ld0, ld3, ld4, ld4]
  exact (pay1_normed _ _ _ r (fun q => oX m c (ix2 (row t r) q)) (fun q => x1_at m c t r q) (pay4_apply _ _ _ _ _ _ r) k).trans
    (congrArg (nE (fun q => oX m c (ix2 (row t r) q)) k * ·) (blk5 m c t k))

/-! ## The final arrays -/

/-- The mixed rows' array. -/
theorem final6 : (dats m 0 c).arrAt 6 cfg0.N = oM m c := by
  refine (dats m 0 c).arrAt_eq_of_covers 6 _ (by decide +kernel) fun t hf y => ?_
  blk_simp [idx t]
  rw [after0_6]
  refine (congrArg _ (eq_ix2 y)).trans ((outs6 m c t (y 0) (y 1)).trans ?_)
  have hi : (win0_6.blk t).view.emb y = ix2 (⟨512 * t.val + (y 0).val, by have := lt8 t; have : (y 0).val < 512 := (y 0).isLt; omega⟩ : Fin 4096) (y 1) := by
    blk_ext [idx t]
  exact (congrArg (oM m c) hi).symm
/-- The array of the rows after the layer. -/
theorem final7 : (dats m 0 c).arrAt 7 cfg0.N = oX m c := by
  refine (dats m 0 c).arrAt_eq_of_covers 7 _ (by decide +kernel) fun t hf y => ?_
  blk_simp [idx t]
  rw [after0_7]
  refine (congrArg _ (eq_ix2 y)).trans ((outs7 m c t (y 0) (y 1)).trans ?_)
  have hi : (win0_7.blk t).view.emb y = ix2 (⟨512 * t.val + (y 0).val, by have := lt8 t; have : (y 0).val < 512 := (y 0).isLt; omega⟩ : Fin 4096) (y 1) := by
    blk_ext [idx t]
  exact (congrArg (oX m c) hi).symm
/-- The array of those rows normed and scaled. -/
theorem final8 : (dats m 0 c).arrAt 8 cfg0.N = oH m c := by
  refine (dats m 0 c).arrAt_eq_of_covers 8 _ (by decide +kernel) fun t hf y => ?_
  blk_simp [idx t]
  rw [after0_8]
  refine (congrArg _ (eq_ix2 y)).trans ((outs8 m c t (y 0) (y 1)).trans ?_)
  have hi : (win0_8.blk t).view.emb y = ix2 (⟨512 * t.val + (y 0).val, by have := lt8 t; have : (y 0).val < 512 := (y 0).isLt; omega⟩ : Fin 4096) (y 1) := by
    blk_ext [idx t]
  exact (congrArg (oH m c) hi).symm

/-! ## The arrays of the arguments -/

/-- Rows without their leading axis. -/
def half (x : S1x4096x512.Idx → EReal) : S4096x512.Idx → EReal := fun i => x (ix3 0 (i 0) (i 1))
def full (x : S1x4096x1024.Idx → EReal) : S4096x1024.Idx → EReal := fun i => x (ix3 0 (i 0) (i 1))

theorem half_eq (x : Vec Ideal S1x4096x512 .f32) (h) :
    (truncf (F := Ideal) .bf16 (shapeCast S4096x512 x h) bitsLt_bf16_f32 : Vec Ideal S4096x512 .bf16) = half x := by
  funext j
  obtain ⟨a, b, rfl⟩ : ∃ (a : Fin 4096) (b : Fin 512), j = ix2 a b := ⟨j 0, j 1, eq_ix2 j⟩
  pointwise
  rfl
theorem full_eq (x : Vec Ideal S1x4096x1024 .f32) (h) : (shapeCast S4096x1024 x h : Vec Ideal S4096x1024 .f32) = full x := by
  funext j
  obtain ⟨a, b, rfl⟩ : ∃ (a : Fin 4096) (b : Fin 1024), j = ix2 a b := ⟨j 0, j 1, eq_ix2 j⟩
  pointwise
  rfl

theorem aP_eq : aP m c = half (m ((c : Thread nD τ).loc main_arg0)) := by
  have h : V m c main_v1 = truncf (F := Ideal) .bf16 (shapeCast S4096x512 (m ((c : Thread nD τ).loc main_arg0)) shapeCasts_S1x4096x512_S4096x512) bitsLt_bf16_f32 := by
    entry_read
    rfl
  exact h.trans (half_eq _ _)
theorem aA_eq : aA m c = half (m ((c : Thread nD τ).loc main_arg1)) := by
  have h : V m c main_v3 = truncf (F := Ideal) .bf16 (shapeCast S4096x512 (m ((c : Thread nD τ).loc main_arg1)) shapeCasts_S1x4096x512_S4096x512) bitsLt_bf16_f32 := by
    entry_read
    rfl
  exact h.trans (half_eq _ _)
theorem aW_eq : aW m c = m ((c : Thread nD τ).loc main_arg2) := by
  have h : V m c main_v4 = truncf (F := Ideal) .bf16 (m ((c : Thread nD τ).loc main_arg2)) bitsLt_bf16_f32 := by
    entry_read
    rfl
  exact h.trans rfl
theorem aX_eq : aX m c = full (m ((c : Thread nD τ).loc main_arg3)) := by
  have h : V m c main_v5 = shapeCast S4096x1024 (m ((c : Thread nD τ).loc main_arg3)) shapeCasts_S1x4096x1024_S4096x1024 := by
    entry_read
    rfl
  exact h.trans (full_eq _ _)
theorem aG_eq : aG m c = m ((c : Thread nD τ).loc main_arg4) := by
  have h : V m c main_arg4 = m ((c : Thread nD τ).loc main_arg4) := by
    entry_read
    rfl
  exact h
theorem aF_eq : aF m c = m ((c : Thread nD τ).loc main_arg5) := by
  have h : V m c main_arg5 = m ((c : Thread nD τ).loc main_arg5) := by
    entry_read
    rfl
  exact h

/-! ## The reference -/

section
open Cert.OutProjRefIdeal.Read

variable (x0 x1 : S1x4096x512.Idx → EReal) (x2 : S1024x1024.Idx → EReal) (x3 : S1x4096x1024.Idx → EReal) (x4 x5 : S1x1024.Idx → EReal)

/-- The concatenated rows' first half is the pool's. -/
theorem r0l (a : Fin 4096) (q : Fin 512) : val_main_v0 (F := Ideal) x0 x1 (ix3 0 a ⟨q.val, by omega⟩) = (x0 (ix3 0 a q) : EReal) := by
  unfold val_main_v0
  exact concatenate_pair_apply_left (s₁ := S1x4096x512) (s₂ := S1x4096x512) (t := S1x4096x1024) 2 x0 x1 _ _ rfl (ix3 0 a q) (fun b => by match b with | ⟨0, _⟩ => rfl | ⟨1, _⟩ => rfl | ⟨2, _⟩ => rfl)
/-- Their second half is the attention's. -/
theorem r0r (a : Fin 4096) (q : Fin 512) : val_main_v0 (F := Ideal) x0 x1 (ix3 0 a ⟨512 + q.val, by omega⟩) = (x1 (ix3 0 a q) : EReal) := by
  unfold val_main_v0
  exact concatenate_pair_apply_right (s₁ := S1x4096x512) (s₂ := S1x4096x512) (t := S1x4096x1024) 2 x0 x1 _ _ rfl rfl (ix3 0 a q) (fun b => by match b with | ⟨0, _⟩ => intro _; rfl | ⟨1, _⟩ => intro _; rfl | ⟨2, _⟩ => intro h; exact absurd rfl h) (Nat.add_comm _ _)

/-- The reference's mixed rows. -/
theorem r1 (a : Fin 4096) (k : Fin 1024) : val_main_v1 (F := Ideal) x0 x1 x2 (ix3 0 a k) = (gM (half x0) (half x1) x2 (ix2 a k) : EReal) := by
  have h : val_main_v1 (F := Ideal) x0 x1 x2 (ix3 0 a k) = (∑ q : Fin 1024, val_main_v0 (F := Ideal) x0 x1 (ix3 0 a q) * x2 (ix2 q k) : EReal) := by
    unfold val_main_v1
    pointwise
  refine h.trans ((Fin.sum_univ_add (a := 512) (b := 512) _).trans ?_)
  refine congrArg₂ (· + ·) (Finset.sum_congr rfl fun q _ => ?_) (Finset.sum_congr rfl fun q _ => ?_)
  · exact congrArg (· * _) (r0l x0 x1 a q)
  · exact congrArg (· * _) (r0r x0 x1 a q)

/-- Their inverted root. -/
theorem r10 (a : Fin 4096) : val_main_v10 (F := Ideal) x0 x1 x2 (ix3 0 a 0) = (rE (fun q => val_main_v1 (F := Ideal) x0 x1 x2 (ix3 0 a q)) : EReal) := by
  unfold val_main_v10 val_main_v9 val_main_v8 val_main_cst_1 val_main_v7 val_main_v6 val_main_cst_0 val_main_v5 val_main_v4 val_main_cst val_main_v3 rE cD cE
  pointwise

/-- The reference's rows after the layer. -/
theorem r16 (a : Fin 4096) (k : Fin 1024) : val_main_v16 (F := Ideal) x0 x1 x2 x3 x4 (ix3 0 a k) = (gX (gM (half x0) (half x1) x2) (full x3) x4 (ix2 a k) : EReal) := by
  unfold val_main_v16 val_main_v15 val_main_v14 val_main_v13 val_main_v2 val_main_v12 val_main_v11
  pointwise
  rw [r10]
  simp only [r1]
  rfl

/-- Their inverted root. -/
theorem r25 (a : Fin 4096) : val_main_v25 (F := Ideal) x0 x1 x2 x3 x4 (ix3 0 a 0) = (rE (fun q => val_main_v16 (F := Ideal) x0 x1 x2 x3 x4 (ix3 0 a q)) : EReal) := by
  unfold val_main_v25 val_main_v24 val_main_v23 val_main_cst_4 val_main_v22 val_main_v21 val_main_cst_3 val_main_v20 val_main_v19 val_main_cst_2 val_main_v18 rE cD cE
  pointwise

/-- The mixed rows. -/
theorem all31 : gM (half x0) (half x1) x2 = val_main_v31 (F := Ideal) x0 x1 x2 := by
  funext i
  obtain ⟨a, k, rfl⟩ : ∃ (a : Fin 4096) (k : Fin 1024), i = ix2 a k := ⟨i 0, i 1, eq_ix2 i⟩
  unfold val_main_v31
  pointwise
  rw [r1]
/-- The rows after the layer. -/
theorem all32 : gX (gM (half x0) (half x1) x2) (full x3) x4 = val_main_v32 (F := Ideal) x0 x1 x2 x3 x4 := by
  funext i
  obtain ⟨a, k, rfl⟩ : ∃ (a : Fin 4096) (k : Fin 1024), i = ix2 a k := ⟨i 0, i 1, eq_ix2 i⟩
  unfold val_main_v32
  pointwise
  rw [r16]
/-- The rows normed and scaled for the next layer. -/
theorem all34 : gH (gX (gM (half x0) (half x1) x2) (full x3) x4) x5 = val_main_v34 (F := Ideal) x0 x1 x2 x3 x4 x5 := by
  funext i
  obtain ⟨a, k, rfl⟩ : ∃ (a : Fin 4096) (k : Fin 1024), i = ix2 a k := ⟨i 0, i 1, eq_ix2 i⟩
  unfold val_main_v34 val_main_v33 val_main_v30 val_main_v29 val_main_v28 val_main_v17 val_main_v27 val_main_v26
  pointwise
  rw [r25]
  simp only [r16]
  rfl
end

/-- The pipeline's mixed rows are the formula's of the arguments. -/
theorem oM_eq : oM m c = gM (half (m ((c : Thread nD τ).loc main_arg0))) (half (m ((c : Thread nD τ).loc main_arg1))) (m ((c : Thread nD τ).loc main_arg2)) := by
  unfold oM
  rw [aP_eq, aA_eq, aW_eq]
/-- So are its rows after the layer. -/
theorem oX_eq : oX m c = gX (gM (half (m ((c : Thread nD τ).loc main_arg0))) (half (m ((c : Thread nD τ).loc main_arg1))) (m ((c : Thread nD τ).loc main_arg2)))
    (full (m ((c : Thread nD τ).loc main_arg3))) (m ((c : Thread nD τ).loc main_arg4)) := by
  unfold oX
  rw [oM_eq, aX_eq, aG_eq]
/-- And those rows normed and scaled. -/
theorem oH_eq : oH m c = gH (gX (gM (half (m ((c : Thread nD τ).loc main_arg0))) (half (m ((c : Thread nD τ).loc main_arg1))) (m ((c : Thread nD τ).loc main_arg2)))
    (full (m ((c : Thread nD τ).loc main_arg3))) (m ((c : Thread nD τ).loc main_arg4))) (m ((c : Thread nD τ).loc main_arg5)) := by
  unfold oH
  rw [oX_eq, aF_eq]

end Cert.OutBody

end
-- ==== Proof.ObPoint.lean ====
/- What the body of the output projection's gradients leaves at a grid point, over the point's input blocks. -/
module

public import proofs.«01_k».proof.Proof.Gen.OutProjBIdeal.Value
public import Idealize.ShloMosaic.Lib.WritesUnit
public import Idealize.ShloMosaic.Lib.VecWindow
public import Idealize.ShloMosaic.Lib.WholeRead
public import Idealize.ShloMosaic.Lib.Pointwise

@[expose] public section

set_option maxRecDepth 16384

noncomputable section

namespace Cert.ObBody

open Cert.OutProjBIdeal Cert.OutProjBIdeal.Gen
open Idealize.ShloMosaic Idealize.ShloMosaic.TcCoe Idealize.ShloMosaic.Tactic
open Idealize.SL Idealize.SL.RA Idealize.SL.Sem

variable {F : FTy → Type} [FloatOps F]
variable {κ : Kind} {sp : Space} {e : EltTy}

/-! ## Loads and stores -/

/-- The upper half of the rows. -/
abbrev rU : Rect S1024x1024 := Rect.unit (s := S1024x1024) ![0, 0] S512x1024.size inb_S1024x1024_S512x1024_0_0
/-- The lower half. -/
abbrev rL : Rect S1024x1024 := Rect.unit (s := S1024x1024) ![512, 0] S512x1024.size inb_S1024x1024_S512x1024_512_0
/-- The upper half of an array's rows. -/
def up (X : S1024x1024.Idx → Elt F e) : S512x1024.Idx → Elt F e := View.ld (Val := Elt F) X rU
/-- The lower half. -/
def lo (X : S1024x1024.Idx → Elt F e) : S512x1024.Idx → Elt F e := View.ld (Val := Elt F) X rL
/-- The array of two halves. -/
def two (a b : S512x1024.Idx → Elt F e) : S1024x1024.Idx → Elt F e := fun j =>
  if h : (j 0).val < 512 then a (ix2 ⟨(j 0).val, h⟩ (j 1)) else b (ix2 ⟨(j 0).val - 512, by have : (j 0).val < 1024 := (j 0).isLt; omega⟩ (j 1))

/-- A load of rectangle `r` of contents that read `X`. -/
theorem load_ld {s : Shape} {m : Memref sig κ sp s e} (h : m.IsWhole) (X : s.Idx → Elt F e) (r : Rect s) :
    View.readAt (Elt F) m.view r.toLoadRect (h.unread X) = View.ld X r :=
  congrArg (fun Y => View.ld (Val := Elt F) Y r) (h.read_unread X)

/-- All of an array. -/
theorem ld_all {s : Shape} (off : Fin s.rank → ℕ) (h0 : ∀ a, off a = 0) (hin : ∀ a, off a + s.size a ≤ s.size a) (X : s.Idx → Elt F e) :
    View.ld (Val := Elt F) X (Rect.unit (s := s) off s.size hin) = X := by
  funext j; exact congrArg X (funext fun a => Fin.ext (by
    change off a + 1 * (j a).val = (j a).val
    rw [h0 a, Nat.zero_add, Nat.one_mul]))

/-- A load of the whole of a block of full rows. -/
theorem load_d {m : Memref sig κ sp S512x1024 e} (h : m.IsWhole) (X : S512x1024.Idx → Elt F e) :
    View.readAt (Elt F) m.view (Rect.unit (s := S512x1024) ![0, 0] S512x1024.size inb_S512x1024_S512x1024_0_0).toLoadRect (h.unread X) = X := by
  rw [load_ld]; exact ld_all ![0, 0] (fun a => by match a with | ⟨0, _⟩ => rfl | ⟨1, _⟩ => rfl) _ X
/-- A load of the whole of a block of half rows. -/
theorem load_p {m : Memref sig κ sp S512x512 e} (h : m.IsWhole) (X : S512x512.Idx → Elt F e) :
    View.readAt (Elt F) m.view (Rect.unit (s := S512x512) ![0, 0] S512x512.size inb_S512x512_S512x512_0_0).toLoadRect (h.unread X) = X := by
  rw [load_ld]; exact ld_all ![0, 0] (fun a => by match a with | ⟨0, _⟩ => rfl | ⟨1, _⟩ => rfl) _ X
/-- A load of the upper half of the rows. -/
theorem load_u {m : Memref sig κ sp S1024x1024 e} (h : m.IsWhole) (X : S1024x1024.Idx → Elt F e) :
    View.readAt (Elt F) m.view rU.toLoadRect (h.unread X) = up X := load_ld h X _
/-- A load of the lower half. -/
theorem load_l {m : Memref sig κ sp S1024x1024 e} (h : m.IsWhole) (X : S1024x1024.Idx → Elt F e) :
    View.readAt (Elt F) m.view rL.toLoadRect (h.unread X) = lo X := load_ld h X _

/-- What a store of the whole of a block of half rows leaves. -/
theorem read_put {v : View sig κ sp S512x512 e} (f : v.ty.Contents (Elt F)) (w : S512x512.Idx → Elt F e) (L : List (View.Piece (Elt F) S512x512 e)) :
    v.read (Elt F) (v.writes (Elt F) f (⟨Rect.unit (s := S512x512) ![0, 0] S512x512.size inb_S512x512_S512x512_0_0, w⟩ :: L)) = w := by
  funext j; exact View.read_writes_cons_unit_of_mem v f _ w L j j rfl fun a => by
    match a with
    | ⟨0, _⟩ => exact (Nat.zero_add _).symm
    | ⟨1, _⟩ => exact (Nat.zero_add _).symm

/-- What a store of the whole of the accumulator leaves. -/
theorem read_all {v : View sig κ sp S1024x1024 e} (f : v.ty.Contents (Elt F)) (w : S1024x1024.Idx → Elt F e) (L : List (View.Piece (Elt F) S1024x1024 e)) :
    v.read (Elt F) (v.writes (Elt F) f (⟨Rect.unit (s := S1024x1024) ![0, 0] S1024x1024.size inb_S1024x1024_S1024x1024_0_0, w⟩ :: L)) = w := by
  funext j; exact View.read_writes_cons_unit_of_mem v f _ w L j j rfl fun a => by
    match a with
    | ⟨0, _⟩ => exact (Nat.zero_add _).symm
    | ⟨1, _⟩ => exact (Nat.zero_add _).symm

/-- What stores of the two halves of the accumulator leave. -/
theorem read_two {v : View sig κ sp S1024x1024 e} (f : v.ty.Contents (Elt F)) (a b : S512x1024.Idx → Elt F e) (L : List (View.Piece (Elt F) S1024x1024 e)) :
    v.read (Elt F) (v.writes (Elt F) f (⟨rL, b⟩ :: ⟨rU, a⟩ :: L)) = two a b := by
  funext j
  unfold two
  split_ifs with h
  · refine (View.read_writes_cons_unit_of_not_mem v f _ b _ j rfl 0 (.inl h)).trans ?_
    exact View.read_writes_cons_unit_of_mem v f _ a L j (ix2 ⟨(j 0).val, h⟩ (j 1)) rfl fun a => by
      match a with
      | ⟨0, _⟩ => exact (Nat.zero_add _).symm
      | ⟨1, _⟩ => exact (Nat.zero_add _).symm
  · exact View.read_writes_cons_unit_of_mem v f _ b _ j (ix2 ⟨(j 0).val - 512, by have : (j 0).val < 1024 := (j 0).isLt; omega⟩ (j 1)) rfl fun a => by
      match a with
      | ⟨0, _⟩ => change (j 0).val = 512 + ((j 0).val - 512); omega
      | ⟨1, _⟩ => exact (Nat.zero_add _).symm

/-- A load of the upper half of an accumulator just stored. -/
theorem load_all_u {v : View sig κ sp S1024x1024 e} (f : v.ty.Contents (Elt F)) (w : S1024x1024.Idx → Elt F e) (L : List (View.Piece (Elt F) S1024x1024 e)) :
    View.readAt (Elt F) v rU.toLoadRect (v.writes (Elt F) f (⟨Rect.unit (s := S1024x1024) ![0, 0] S1024x1024.size inb_S1024x1024_S1024x1024_0_0, w⟩ :: L)) = up w :=
  congrArg (fun Y => View.ld (Val := Elt F) Y rU) (read_all f w L)

/-- A load of the lower half after the upper was stored: as before the store. -/
theorem load_skip {v : View sig κ sp S1024x1024 e} (f : v.ty.Contents (Elt F)) (a : S512x1024.Idx → Elt F e) (L : List (View.Piece (Elt F) S1024x1024 e))
    (X : S1024x1024.Idx → Elt F e) (hX : v.read (Elt F) (v.writes (Elt F) f L) = X) :
    View.readAt (Elt F) v rL.toLoadRect (v.writes (Elt F) f (⟨rU, a⟩ :: L)) = lo X := by
  subst hX
  funext j
  exact View.read_writes_cons_unit_of_not_mem v f _ a L (rL.emb j) rfl 0 (.inr (by
    change 0 + 512 ≤ 512 + 1 * (j 0).val
    omega))

/-- A load of 128 rows of an accumulator whose halves were just stored. -/
theorem load_quarter {v : View sig κ sp S1024x1024 e} (f : v.ty.Contents (Elt F)) (a b : S512x1024.Idx → Elt F e) (L : List (View.Piece (Elt F) S1024x1024 e))
    (off : Fin 2 → ℕ) (hin : ∀ a, off a + S128x1024.size a ≤ S1024x1024.size a) (o : ℕ) (ho : o + 128 ≤ 1024) (h : off = ![o, 0]) (r : Fin 128) (k : Fin 1024) :
    View.readAt (Elt F) v (Rect.unit (s := S1024x1024) off S128x1024.size hin).toLoadRect (v.writes (Elt F) f (⟨rL, b⟩ :: ⟨rU, a⟩ :: L)) (ix2 r k)
      = two a b (ix2 ⟨o + r.val, by omega⟩ k) := by
  subst h
  refine (congrFun (congrArg (fun Y => View.ld (Val := Elt F) Y (Rect.unit (s := S1024x1024) ![o, 0] S128x1024.size hin)) (read_two f a b L)) (ix2 r k)).trans ?_
  exact congrArg (two a b) (funext fun x => Fin.ext (by
    match x with
    | ⟨0, _⟩ => exact congrArg (o + ·) (Nat.one_mul _)
    | ⟨1, _⟩ => exact (Nat.zero_add _).trans (Nat.one_mul _)))

/-! ## The accumulator after a point -/

/-- The accumulator after a point's two products are added. -/
def acc (x1 : Vec F S512x1024 .bf16) (x3 x4 : Vec F S512x512 .bf16) (X : Vec F S1024x1024 .f32) : Vec F S1024x1024 .f32 :=
  two (e := .f32) (k0_pay14 x1 (up (e := .f32) X) x3) (k0_pay1 (k0_pay15 x1 (lo (e := .f32) X) x4))

/-- The accumulator after the first point. -/
theorem accA (c : Dev nD) (i : grid0.Coords) (arg1 : Memref sig .tc .smem S1 .i32) (harg1 : arg1.IsWhole)
    (arg2 : Memref sig .tc .vmem S512x1024 .bf16) (harg2 : arg2.IsWhole) (arg3 : Memref sig .tc .vmem S1024x1024 .bf16) (harg3 : arg3.IsWhole)
    (arg4 : Memref sig .tc .vmem S512x512 .bf16) (harg4 : arg4.IsWhole) (arg5 : Memref sig .tc .vmem S512x512 .bf16) (harg5 : arg5.IsWhole)
    (arg6 : Memref sig .tc .vmem S512x512 .f32) (harg6 : arg6.IsWhole) (arg7 : Memref sig .tc .vmem S512x512 .bf16) (harg7 : arg7.IsWhole)
    (arg8 : Memref sig .tc .vmem S4x128x1024 .f32) (harg8 : arg8.IsWhole) (arg9 : Memref sig .tc .vmem S4x128x1024 .bf16) (harg9 : arg9.IsWhole)
    (arg10 : Memref sig .tc .vmem S1024x1024 .f32) (harg10 : arg10.IsWhole)
    (hc0 : cond0_0 i) (hc1 : ¬cond0_1 i) (x0 : Vec F S1 .i32) (x1 : Vec F S512x1024 .bf16) (x2 : Vec F S1024x1024 .bf16) (x3 x4 : Vec F S512x512 .bf16) :
    sout0_A_0 c i arg1 harg1 arg2 harg2 arg3 harg3 arg4 harg4 arg5 harg5 arg6 harg6 arg7 harg7 arg8 harg8 arg9 harg9 arg10 harg10 hc0 hc1 x0 x1 x2 x3 x4 = acc x1 x3 x4 k0_pay10 := by
  unfold sout0_A_0 kernelRun0_A
  dsimp only
  refine (read_two _ _ _ _).trans ?_
  unfold acc
  congr 1
  · have hu : (View.readAt (Elt F) arg10.view rU.toLoadRect (arg10.view.writes (Elt F) arg10.view.junk [⟨Rect.unit (s := S1024x1024) ![0, 0] S1024x1024.size inb_S1024x1024_S1024x1024_0_0, k0_pay10⟩])) = up k0_pay10 := load_all_u _ _ _
    refine (show _ = (k0_pay14 (View.readAt (Elt F) arg2.view (Rect.unit (s := S512x1024) ![0, 0] S512x1024.size inb_S512x1024_S512x1024_0_0).toLoadRect (harg2.unread x1)) (View.readAt (Elt F) arg10.view rU.toLoadRect (arg10.view.writes (Elt F) arg10.view.junk [⟨Rect.unit (s := S1024x1024) ![0, 0] S1024x1024.size inb_S1024x1024_S1024x1024_0_0, k0_pay10⟩])) (View.readAt (Elt F) arg4.view (Rect.unit (s := S512x512) ![0, 0] S512x512.size inb_S512x512_S512x512_0_0).toLoadRect (harg4.unread x3))) from rfl).trans ?_
    rw [load_d, load_p, hu]
  · have hl : (View.readAt (Elt F) arg10.view rL.toLoadRect (arg10.view.writes (Elt F) arg10.view.junk (⟨rU, (k0_pay14 (View.readAt (Elt F) arg2.view (Rect.unit (s := S512x1024) ![0, 0] S512x1024.size inb_S512x1024_S512x1024_0_0).toLoadRect (harg2.unread x1)) (View.readAt (Elt F) arg10.view rU.toLoadRect (arg10.view.writes (Elt F) arg10.view.junk [⟨Rect.unit (s := S1024x1024) ![0, 0] S1024x1024.size inb_S1024x1024_S1024x1024_0_0, k0_pay10⟩])) (View.readAt (Elt F) arg4.view (Rect.unit (s := S512x512) ![0, 0] S512x512.size inb_S512x512_S512x512_0_0).toLoadRect (harg4.unread x3)))⟩ :: [⟨Rect.unit (s := S1024x1024) ![0, 0] S1024x1024.size inb_S1024x1024_S1024x1024_0_0, k0_pay10⟩]))) = lo k0_pay10 := load_skip _ _ _ _ (read_all _ _ _)
    refine (show _ = k0_pay1 (k0_pay15 (View.readAt (Elt F) arg2.view (Rect.unit (s := S512x1024) ![0, 0] S512x1024.size inb_S512x1024_S512x1024_0_0).toLoadRect (harg2.unread x1)) (View.readAt (Elt F) arg10.view rL.toLoadRect (arg10.view.writes (Elt F) arg10.view.junk (⟨rU, (k0_pay14 (View.readAt (Elt F) arg2.view (Rect.unit (s := S512x1024) ![0, 0] S512x1024.size inb_S512x1024_S512x1024_0_0).toLoadRect (harg2.unread x1)) (View.readAt (Elt F) arg10.view rU.toLoadRect (arg10.view.writes (Elt F) arg10.view.junk [⟨Rect.unit (s := S1024x1024) ![0, 0] S1024x1024.size inb_S1024x1024_S1024x1024_0_0, k0_pay10⟩])) (View.readAt (Elt F) arg4.view (Rect.unit (s := S512x512) ![0, 0] S512x512.size inb_S512x512_S512x512_0_0).toLoadRect (harg4.unread x3)))⟩ :: [⟨Rect.unit (s := S1024x1024) ![0, 0] S1024x1024.size inb_S1024x1024_S1024x1024_0_0, k0_pay10⟩]))) (View.readAt (Elt F) arg5.view (Rect.unit (s := S512x512) ![0, 0] S512x512.size inb_S512x512_S512x512_0_0).toLoadRect (harg5.unread x4))) from rfl).trans ?_
    rw [hl, load_d, load_p]

/-- The accumulator after a point in between. -/
theorem accB (c : Dev nD) (i : grid0.Coords) (arg1 : Memref sig .tc .smem S1 .i32) (harg1 : arg1.IsWhole)
    (arg2 : Memref sig .tc .vmem S512x1024 .bf16) (harg2 : arg2.IsWhole) (arg3 : Memref sig .tc .vmem S1024x1024 .bf16) (harg3 : arg3.IsWhole)
    (arg4 : Memref sig .tc .vmem S512x512 .bf16) (harg4 : arg4.IsWhole) (arg5 : Memref sig .tc .vmem S512x512 .bf16) (harg5 : arg5.IsWhole)
    (arg6 : Memref sig .tc .vmem S512x512 .f32) (harg6 : arg6.IsWhole) (arg7 : Memref sig .tc .vmem S512x512 .bf16) (harg7 : arg7.IsWhole)
    (arg8 : Memref sig .tc .vmem S4x128x1024 .f32) (harg8 : arg8.IsWhole) (arg9 : Memref sig .tc .vmem S4x128x1024 .bf16) (harg9 : arg9.IsWhole)
    (arg10 : Memref sig .tc .vmem S1024x1024 .f32) (harg10 : arg10.IsWhole)
    (hc0 : ¬cond0_0 i) (hc1 : ¬cond0_1 i) (x0 : Vec F S1 .i32) (x1 : Vec F S512x1024 .bf16) (x2 : Vec F S1024x1024 .bf16) (x3 x4 : Vec F S512x512 .bf16) (xs0 : Vec F S1024x1024 .f32) :
    sout0_B_0 c i arg1 harg1 arg2 harg2 arg3 harg3 arg4 harg4 arg5 harg5 arg6 harg6 arg7 harg7 arg8 harg8 arg9 harg9 arg10 harg10 hc0 hc1 x0 x1 x2 x3 x4 xs0 = acc x1 x3 x4 xs0 := by
  unfold sout0_B_0 kernelRun0_B
  dsimp only
  refine (read_two _ _ _ _).trans ?_
  unfold acc
  congr 1
  · have hu : (View.readAt (Elt F) arg10.view rU.toLoadRect (harg10.unread xs0)) = up xs0 := load_u harg10 xs0
    refine (show _ = (k0_pay14 (View.readAt (Elt F) arg2.view (Rect.unit (s := S512x1024) ![0, 0] S512x1024.size inb_S512x1024_S512x1024_0_0).toLoadRect (harg2.unread x1)) (View.readAt (Elt F) arg10.view rU.toLoadRect (harg10.unread xs0)) (View.readAt (Elt F) arg4.view (Rect.unit (s := S512x512) ![0, 0] S512x512.size inb_S512x512_S512x512_0_0).toLoadRect (harg4.unread x3))) from rfl).trans ?_
    rw [load_d, load_p, hu]
  · have hl : (View.readAt (Elt F) arg10.view rL.toLoadRect (harg10.unread xs0)) = lo xs0 := load_l harg10 xs0
    refine (show _ = k0_pay1 (k0_pay15 (View.readAt (Elt F) arg2.view (Rect.unit (s := S512x1024) ![0, 0] S512x1024.size inb_S512x1024_S512x1024_0_0).toLoadRect (harg2.unread x1)) (View.readAt (Elt F) arg10.view rL.toLoadRect (harg10.unread xs0)) (View.readAt (Elt F) arg5.view (Rect.unit (s := S512x512) ![0, 0] S512x512.size inb_S512x512_S512x512_0_0).toLoadRect (harg5.unread x4))) from rfl).trans ?_
    rw [hl, load_d, load_p]

/-- The accumulator after the last point. -/
theorem accC (c : Dev nD) (i : grid0.Coords) (arg1 : Memref sig .tc .smem S1 .i32) (harg1 : arg1.IsWhole)
    (arg2 : Memref sig .tc .vmem S512x1024 .bf16) (harg2 : arg2.IsWhole) (arg3 : Memref sig .tc .vmem S1024x1024 .bf16) (harg3 : arg3.IsWhole)
    (arg4 : Memref sig .tc .vmem S512x512 .bf16) (harg4 : arg4.IsWhole) (arg5 : Memref sig .tc .vmem S512x512 .bf16) (harg5 : arg5.IsWhole)
    (arg6 : Memref sig .tc .vmem S512x512 .f32) (harg6 : arg6.IsWhole) (arg7 : Memref sig .tc .vmem S512x512 .bf16) (harg7 : arg7.IsWhole)
    (arg8 : Memref sig .tc .vmem S4x128x1024 .f32) (harg8 : arg8.IsWhole) (arg9 : Memref sig .tc .vmem S4x128x1024 .bf16) (harg9 : arg9.IsWhole)
    (arg10 : Memref sig .tc .vmem S1024x1024 .f32) (harg10 : arg10.IsWhole)
    (hc0 : ¬cond0_0 i) (hc1 : cond0_1 i) (x0 : Vec F S1 .i32) (x1 : Vec F S512x1024 .bf16) (x2 : Vec F S1024x1024 .bf16) (x3 x4 : Vec F S512x512 .bf16) (xs0 : Vec F S1024x1024 .f32)
    (h1 : k0_chk1 i (View.readAt (Elt F) arg1.view (Rect.unit (s := S1) ![0] S1.size inb_S1_S1_0).toLoadRect (harg1.unread x0) (Shape.Idx.first (numel1_S1.symm ▸ Nat.one_pos))))
    (h2 : k0_chk2 i (View.readAt (Elt F) arg1.view (Rect.unit (s := S1) ![0] S1.size inb_S1_S1_0).toLoadRect (harg1.unread x0) (Shape.Idx.first (numel1_S1.symm ▸ Nat.one_pos))))
    (h3 : k0_chk3 i (View.readAt (Elt F) arg1.view (Rect.unit (s := S1) ![0] S1.size inb_S1_S1_0).toLoadRect (harg1.unread x0) (Shape.Idx.first (numel1_S1.symm ▸ Nat.one_pos))))
    (h4 : k0_chk4 i (View.readAt (Elt F) arg1.view (Rect.unit (s := S1) ![0] S1.size inb_S1_S1_0).toLoadRect (harg1.unread x0) (Shape.Idx.first (numel1_S1.symm ▸ Nat.one_pos)))) :
    sout0_C_0 c i arg1 harg1 arg2 harg2 arg3 harg3 arg4 harg4 arg5 harg5 arg6 harg6 arg7 harg7 arg8 harg8 arg9 harg9 arg10 harg10 hc0 hc1 x0 x1 x2 x3 x4 xs0 h1 h2 h3 h4 = acc x1 x3 x4 xs0 := by
  unfold sout0_C_0 kernelRun0_C
  dsimp only
  refine (read_two _ _ _ _).trans ?_
  unfold acc
  congr 1
  · have hu : (View.readAt (Elt F) arg10.view rU.toLoadRect (harg10.unread xs0)) = up xs0 := load_u harg10 xs0
    refine (show _ = (k0_pay14 (View.readAt (Elt F) arg2.view (Rect.unit (s := S512x1024) ![0, 0] S512x1024.size inb_S512x1024_S512x1024_0_0).toLoadRect (harg2.unread x1)) (View.readAt (Elt F) arg10.view rU.toLoadRect (harg10.unread xs0)) (View.readAt (Elt F) arg4.view (Rect.unit (s := S512x512) ![0, 0] S512x512.size inb_S512x512_S512x512_0_0).toLoadRect (harg4.unread x3))) from rfl).trans ?_
    rw [load_d, load_p, hu]
  · have hl : (View.readAt (Elt F) arg10.view rL.toLoadRect (harg10.unread xs0)) = lo xs0 := load_l harg10 xs0
    refine (show _ = k0_pay1 (k0_pay15 (View.readAt (Elt F) arg2.view (Rect.unit (s := S512x1024) ![0, 0] S512x1024.size inb_S512x1024_S512x1024_0_0).toLoadRect (harg2.unread x1)) (View.readAt (Elt F) arg10.view rL.toLoadRect (harg10.unread xs0)) (View.readAt (Elt F) arg5.view (Rect.unit (s := S512x512) ![0, 0] S512x512.size inb_S512x512_S512x512_0_0).toLoadRect (harg5.unread x4))) from rfl).trans ?_
    rw [hl, load_d, load_p]

/-- The pool rows' gradient a point leaves, case A. -/
theorem outA5 (c : Dev nD) (i : grid0.Coords) (arg1 : Memref sig .tc .smem S1 .i32) (harg1 : arg1.IsWhole)
    (arg2 : Memref sig .tc .vmem S512x1024 .bf16) (harg2 : arg2.IsWhole) (arg3 : Memref sig .tc .vmem S1024x1024 .bf16) (harg3 : arg3.IsWhole)
    (arg4 : Memref sig .tc .vmem S512x512 .bf16) (harg4 : arg4.IsWhole) (arg5 : Memref sig .tc .vmem S512x512 .bf16) (harg5 : arg5.IsWhole)
    (arg6 : Memref sig .tc .vmem S512x512 .f32) (harg6 : arg6.IsWhole) (arg7 : Memref sig .tc .vmem S512x512 .bf16) (harg7 : arg7.IsWhole)
    (arg8 : Memref sig .tc .vmem S4x128x1024 .f32) (harg8 : arg8.IsWhole) (arg9 : Memref sig .tc .vmem S4x128x1024 .bf16) (harg9 : arg9.IsWhole)
    (arg10 : Memref sig .tc .vmem S1024x1024 .f32) (harg10 : arg10.IsWhole)
    (hc0 : cond0_0 i) (hc1 : ¬cond0_1 i) (x0 : Vec F S1 .i32) (x1 : Vec F S512x1024 .bf16) (x2 : Vec F S1024x1024 .bf16) (x3 x4 : Vec F S512x512 .bf16) :
    out0_A_5 c i arg1 harg1 arg2 harg2 arg3 harg3 arg4 harg4 arg5 harg5 arg6 harg6 arg7 harg7 arg8 harg8 arg9 harg9 arg10 harg10 hc0 hc1 x0 x1 x2 x3 x4 = k0_pay12 x1 (up (e := .bf16) x2) := by
  unfold out0_A_5 kernelRun0_A
  dsimp only
  refine (read_put _ _ _).trans ?_
  rw [load_d]
  exact congrArg _ (load_u harg3 x2)

/-- The attention rows' gradient a point leaves, case A. -/
theorem outA6 (c : Dev nD) (i : grid0.Coords) (arg1 : Memref sig .tc .smem S1 .i32) (harg1 : arg1.IsWhole)
    (arg2 : Memref sig .tc .vmem S512x1024 .bf16) (harg2 : arg2.IsWhole) (arg3 : Memref sig .tc .vmem S1024x1024 .bf16) (harg3 : arg3.IsWhole)
    (arg4 : Memref sig .tc .vmem S512x512 .bf16) (harg4 : arg4.IsWhole) (arg5 : Memref sig .tc .vmem S512x512 .bf16) (harg5 : arg5.IsWhole)
    (arg6 : Memref sig .tc .vmem S512x512 .f32) (harg6 : arg6.IsWhole) (arg7 : Memref sig .tc .vmem S512x512 .bf16) (harg7 : arg7.IsWhole)
    (arg8 : Memref sig .tc .vmem S4x128x1024 .f32) (harg8 : arg8.IsWhole) (arg9 : Memref sig .tc .vmem S4x128x1024 .bf16) (harg9 : arg9.IsWhole)
    (arg10 : Memref sig .tc .vmem S1024x1024 .f32) (harg10 : arg10.IsWhole)
    (hc0 : cond0_0 i) (hc1 : ¬cond0_1 i) (x0 : Vec F S1 .i32) (x1 : Vec F S512x1024 .bf16) (x2 : Vec F S1024x1024 .bf16) (x3 x4 : Vec F S512x512 .bf16) :
    out0_A_6 c i arg1 harg1 arg2 harg2 arg3 harg3 arg4 harg4 arg5 harg5 arg6 harg6 arg7 harg7 arg8 harg8 arg9 harg9 arg10 harg10 hc0 hc1 x0 x1 x2 x3 x4 = k0_pay13 x1 (lo (e := .bf16) x2) := by
  unfold out0_A_6 kernelRun0_A
  dsimp only
  refine (read_put _ _ _).trans ?_
  rw [load_d]
  exact congrArg _ (load_l harg3 x2)

/-- The pool rows' gradient a point leaves, case B. -/
theorem outB5 (c : Dev nD) (i : grid0.Coords) (arg1 : Memref sig .tc .smem S1 .i32) (harg1 : arg1.IsWhole)
    (arg2 : Memref sig .tc .vmem S512x1024 .bf16) (harg2 : arg2.IsWhole) (arg3 : Memref sig .tc .vmem S1024x1024 .bf16) (harg3 : arg3.IsWhole)
    (arg4 : Memref sig .tc .vmem S512x512 .bf16) (harg4 : arg4.IsWhole) (arg5 : Memref sig .tc .vmem S512x512 .bf16) (harg5 : arg5.IsWhole)
    (arg6 : Memref sig .tc .vmem S512x512 .f32) (harg6 : arg6.IsWhole) (arg7 : Memref sig .tc .vmem S512x512 .bf16) (harg7 : arg7.IsWhole)
    (arg8 : Memref sig .tc .vmem S4x128x1024 .f32) (harg8 : arg8.IsWhole) (arg9 : Memref sig .tc .vmem S4x128x1024 .bf16) (harg9 : arg9.IsWhole)
    (arg10 : Memref sig .tc .vmem S1024x1024 .f32) (harg10 : arg10.IsWhole)
    (hc0 : ¬cond0_0 i) (hc1 : ¬cond0_1 i) (x0 : Vec F S1 .i32) (x1 : Vec F S512x1024 .bf16) (x2 : Vec F S1024x1024 .bf16) (x3 x4 : Vec F S512x512 .bf16) (xs0 : Vec F S1024x1024 .f32) :
    out0_B_5 c i arg1 harg1 arg2 harg2 arg3 harg3 arg4 harg4 arg5 harg5 arg6 harg6 arg7 harg7 arg8 harg8 arg9 harg9 arg10 harg10 hc0 hc1 x0 x1 x2 x3 x4 xs0 = k0_pay12 x1 (up (e := .bf16) x2) := by
  unfold out0_B_5 kernelRun0_B
  dsimp only
  refine (read_put _ _ _).trans ?_
  rw [load_d]
  exact congrArg _ (load_u harg3 x2)

/-- The attention rows' gradient a point leaves, case B. -/
theorem outB6 (c : Dev nD) (i : grid0.Coords) (arg1 : Memref sig .tc .smem S1 .i32) (harg1 : arg1.IsWhole)
    (arg2 : Memref sig .tc .vmem S512x1024 .bf16) (harg2 : arg2.IsWhole) (arg3 : Memref sig .tc .vmem S1024x1024 .bf16) (harg3 : arg3.IsWhole)
    (arg4 : Memref sig .tc .vmem S512x512 .bf16) (harg4 : arg4.IsWhole) (arg5 : Memref sig .tc .vmem S512x512 .bf16) (harg5 : arg5.IsWhole)
    (arg6 : Memref sig .tc .vmem S512x512 .f32) (harg6 : arg6.IsWhole) (arg7 : Memref sig .tc .vmem S512x512 .bf16) (harg7 : arg7.IsWhole)
    (arg8 : Memref sig .tc .vmem S4x128x1024 .f32) (harg8 : arg8.IsWhole) (arg9 : Memref sig .tc .vmem S4x128x1024 .bf16) (harg9 : arg9.IsWhole)
    (arg10 : Memref sig .tc .vmem S1024x1024 .f32) (harg10 : arg10.IsWhole)
    (hc0 : ¬cond0_0 i) (hc1 : ¬cond0_1 i) (x0 : Vec F S1 .i32) (x1 : Vec F S512x1024 .bf16) (x2 : Vec F S1024x1024 .bf16) (x3 x4 : Vec F S512x512 .bf16) (xs0 : Vec F S1024x1024 .f32) :
    out0_B_6 c i arg1 harg1 arg2 harg2 arg3 harg3 arg4 harg4 arg5 harg5 arg6 harg6 arg7 harg7 arg8 harg8 arg9 harg9 arg10 harg10 hc0 hc1 x0 x1 x2 x3 x4 xs0 = k0_pay13 x1 (lo (e := .bf16) x2) := by
  unfold out0_B_6 kernelRun0_B
  dsimp only
  refine (read_put _ _ _).trans ?_
  rw [load_d]
  exact congrArg _ (load_l harg3 x2)

/-- The pool rows' gradient a point leaves, case C. -/
theorem outC5 (c : Dev nD) (i : grid0.Coords) (arg1 : Memref sig .tc .smem S1 .i32) (harg1 : arg1.IsWhole)
    (arg2 : Memref sig .tc .vmem S512x1024 .bf16) (harg2 : arg2.IsWhole) (arg3 : Memref sig .tc .vmem S1024x1024 .bf16) (harg3 : arg3.IsWhole)
    (arg4 : Memref sig .tc .vmem S512x512 .bf16) (harg4 : arg4.IsWhole) (arg5 : Memref sig .tc .vmem S512x512 .bf16) (harg5 : arg5.IsWhole)
    (arg6 : Memref sig .tc .vmem S512x512 .f32) (harg6 : arg6.IsWhole) (arg7 : Memref sig .tc .vmem S512x512 .bf16) (harg7 : arg7.IsWhole)
    (arg8 : Memref sig .tc .vmem S4x128x1024 .f32) (harg8 : arg8.IsWhole) (arg9 : Memref sig .tc .vmem S4x128x1024 .bf16) (harg9 : arg9.IsWhole)
    (arg10 : Memref sig .tc .vmem S1024x1024 .f32) (harg10 : arg10.IsWhole)
    (hc0 : ¬cond0_0 i) (hc1 : cond0_1 i) (x0 : Vec F S1 .i32) (x1 : Vec F S512x1024 .bf16) (x2 : Vec F S1024x1024 .bf16) (x3 x4 : Vec F S512x512 .bf16) (xs0 : Vec F S1024x1024 .f32)
    (h1 : k0_chk1 i (View.readAt (Elt F) arg1.view (Rect.unit (s := S1) ![0] S1.size inb_S1_S1_0).toLoadRect (harg1.unread x0) (Shape.Idx.first (numel1_S1.symm ▸ Nat.one_pos))))
    (h2 : k0_chk2 i (View.readAt (Elt F) arg1.view (Rect.unit (s := S1) ![0] S1.size inb_S1_S1_0).toLoadRect (harg1.unread x0) (Shape.Idx.first (numel1_S1.symm ▸ Nat.one_pos))))
    (h3 : k0_chk3 i (View.readAt (Elt F) arg1.view (Rect.unit (s := S1) ![0] S1.size inb_S1_S1_0).toLoadRect (harg1.unread x0) (Shape.Idx.first (numel1_S1.symm ▸ Nat.one_pos))))
    (h4 : k0_chk4 i (View.readAt (Elt F) arg1.view (Rect.unit (s := S1) ![0] S1.size inb_S1_S1_0).toLoadRect (harg1.unread x0) (Shape.Idx.first (numel1_S1.symm ▸ Nat.one_pos)))) :
    out0_C_5 c i arg1 harg1 arg2 harg2 arg3 harg3 arg4 harg4 arg5 harg5 arg6 harg6 arg7 harg7 arg8 harg8 arg9 harg9 arg10 harg10 hc0 hc1 x0 x1 x2 x3 x4 xs0 h1 h2 h3 h4 = k0_pay12 x1 (up (e := .bf16) x2) := by
  unfold out0_C_5 kernelRun0_C
  dsimp only
  refine (read_put _ _ _).trans ?_
  rw [load_d]
  exact congrArg _ (load_u harg3 x2)

/-- The attention rows' gradient a point leaves, case C. -/
theorem outC6 (c : Dev nD) (i : grid0.Coords) (arg1 : Memref sig .tc .smem S1 .i32) (harg1 : arg1.IsWhole)
    (arg2 : Memref sig .tc .vmem S512x1024 .bf16) (harg2 : arg2.IsWhole) (arg3 : Memref sig .tc .vmem S1024x1024 .bf16) (harg3 : arg3.IsWhole)
    (arg4 : Memref sig .tc .vmem S512x512 .bf16) (harg4 : arg4.IsWhole) (arg5 : Memref sig .tc .vmem S512x512 .bf16) (harg5 : arg5.IsWhole)
    (arg6 : Memref sig .tc .vmem S512x512 .f32) (harg6 : arg6.IsWhole) (arg7 : Memref sig .tc .vmem S512x512 .bf16) (harg7 : arg7.IsWhole)
    (arg8 : Memref sig .tc .vmem S4x128x1024 .f32) (harg8 : arg8.IsWhole) (arg9 : Memref sig .tc .vmem S4x128x1024 .bf16) (harg9 : arg9.IsWhole)
    (arg10 : Memref sig .tc .vmem S1024x1024 .f32) (harg10 : arg10.IsWhole)
    (hc0 : ¬cond0_0 i) (hc1 : cond0_1 i) (x0 : Vec F S1 .i32) (x1 : Vec F S512x1024 .bf16) (x2 : Vec F S1024x1024 .bf16) (x3 x4 : Vec F S512x512 .bf16) (xs0 : Vec F S1024x1024 .f32)
    (h1 : k0_chk1 i (View.readAt (Elt F) arg1.view (Rect.unit (s := S1) ![0] S1.size inb_S1_S1_0).toLoadRect (harg1.unread x0) (Shape.Idx.first (numel1_S1.symm ▸ Nat.one_pos))))
    (h2 : k0_chk2 i (View.readAt (Elt F) arg1.view (Rect.unit (s := S1) ![0] S1.size inb_S1_S1_0).toLoadRect (harg1.unread x0) (Shape.Idx.first (numel1_S1.symm ▸ Nat.one_pos))))
    (h3 : k0_chk3 i (View.readAt (Elt F) arg1.view (Rect.unit (s := S1) ![0] S1.size inb_S1_S1_0).toLoadRect (harg1.unread x0) (Shape.Idx.first (numel1_S1.symm ▸ Nat.one_pos))))
    (h4 : k0_chk4 i (View.readAt (Elt F) arg1.view (Rect.unit (s := S1) ![0] S1.size inb_S1_S1_0).toLoadRect (harg1.unread x0) (Shape.Idx.first (numel1_S1.symm ▸ Nat.one_pos)))) :
    out0_C_6 c i arg1 harg1 arg2 harg2 arg3 harg3 arg4 harg4 arg5 harg5 arg6 harg6 arg7 harg7 arg8 harg8 arg9 harg9 arg10 harg10 hc0 hc1 x0 x1 x2 x3 x4 xs0 h1 h2 h3 h4 = k0_pay13 x1 (lo (e := .bf16) x2) := by
  unfold out0_C_6 kernelRun0_C
  dsimp only
  refine (read_put _ _ _).trans ?_
  rw [load_d]
  exact congrArg _ (load_l harg3 x2)

/-! ## What the last point writes -/

/-- The blocks written are the rows loaded. -/
theorem pay2_apply (S : Vec Ideal S128x1024 .f32) (r : Fin 128) (k : Fin 1024) : k0_pay2 S (ix3 0 r k) = (S (ix2 r k) : EReal) := by
  unfold k0_pay2
  pointwise
theorem pay3_apply (S : Vec Ideal S128x1024 .f32) (r : Fin 128) (k : Fin 1024) : k0_pay3 S (ix3 0 r k) = (S (ix2 r k) : EReal) := by
  unfold k0_pay3
  pointwise
theorem pay4_apply (S : Vec Ideal S128x1024 .f32) (r : Fin 128) (k : Fin 1024) : k0_pay4 S (ix3 0 r k) = (S (ix2 r k) : EReal) := by
  unfold k0_pay4
  pointwise
theorem pay5_apply (S : Vec Ideal S128x1024 .f32) (r : Fin 128) (k : Fin 1024) : k0_pay5 S (ix3 0 r k) = (S (ix2 r k) : EReal) := by
  unfold k0_pay5
  pointwise
theorem pay6_apply (S : Vec Ideal S128x1024 .f32) (r : Fin 128) (k : Fin 1024) : k0_pay6 S (ix3 0 r k) = (S (ix2 r k) : EReal) := by
  unfold k0_pay6
  pointwise
theorem pay7_apply (S : Vec Ideal S128x1024 .f32) (r : Fin 128) (k : Fin 1024) : k0_pay7 S (ix3 0 r k) = (S (ix2 r k) : EReal) := by
  unfold k0_pay7
  pointwise
theorem pay8_apply (S : Vec Ideal S128x1024 .f32) (r : Fin 128) (k : Fin 1024) : k0_pay8 S (ix3 0 r k) = (S (ix2 r k) : EReal) := by
  unfold k0_pay8
  pointwise
theorem pay9_apply (S : Vec Ideal S128x1024 .f32) (r : Fin 128) (k : Fin 1024) : k0_pay9 S (ix3 0 r k) = (S (ix2 r k) : EReal) := by
  unfold k0_pay9
  pointwise

set_option maxHeartbeats 2000000 in
/-- The weight gradient's lower halves by shard after the last point. -/
theorem outC7 (c : Dev nD) (i : grid0.Coords) (arg1 : Memref sig .tc .smem S1 .i32) (harg1 : arg1.IsWhole)
    (arg2 : Memref sig .tc .vmem S512x1024 .bf16) (harg2 : arg2.IsWhole) (arg3 : Memref sig .tc .vmem S1024x1024 .bf16) (harg3 : arg3.IsWhole)
    (arg4 : Memref sig .tc .vmem S512x512 .bf16) (harg4 : arg4.IsWhole) (arg5 : Memref sig .tc .vmem S512x512 .bf16) (harg5 : arg5.IsWhole)
    (arg6 : Memref sig .tc .vmem S512x512 .f32) (harg6 : arg6.IsWhole) (arg7 : Memref sig .tc .vmem S512x512 .bf16) (harg7 : arg7.IsWhole)
    (arg8 : Memref sig .tc .vmem S4x128x1024 .f32) (harg8 : arg8.IsWhole) (arg9 : Memref sig .tc .vmem S4x128x1024 .bf16) (harg9 : arg9.IsWhole)
    (arg10 : Memref sig .tc .vmem S1024x1024 .f32) (harg10 : arg10.IsWhole)
    (hc0 : ¬cond0_0 i) (hc1 : cond0_1 i) (x0 : Vec Ideal S1 .i32) (x1 : Vec Ideal S512x1024 .bf16) (x2 : Vec Ideal S1024x1024 .bf16) (x3 x4 : Vec Ideal S512x512 .bf16) (xs0 : Vec Ideal S1024x1024 .f32)
    (h1 : k0_chk1 i (View.readAt (Elt Ideal) arg1.view (Rect.unit (s := S1) ![0] S1.size inb_S1_S1_0).toLoadRect (harg1.unread x0) (Shape.Idx.first (numel1_S1.symm ▸ Nat.one_pos))))
    (h2 : k0_chk2 i (View.readAt (Elt Ideal) arg1.view (Rect.unit (s := S1) ![0] S1.size inb_S1_S1_0).toLoadRect (harg1.unread x0) (Shape.Idx.first (numel1_S1.symm ▸ Nat.one_pos))))
    (h3 : k0_chk3 i (View.readAt (Elt Ideal) arg1.view (Rect.unit (s := S1) ![0] S1.size inb_S1_S1_0).toLoadRect (harg1.unread x0) (Shape.Idx.first (numel1_S1.symm ▸ Nat.one_pos))))
    (h4 : k0_chk4 i (View.readAt (Elt Ideal) arg1.view (Rect.unit (s := S1) ![0] S1.size inb_S1_S1_0).toLoadRect (harg1.unread x0) (Shape.Idx.first (numel1_S1.symm ▸ Nat.one_pos))))
    (hw : (View.readAt (Elt Ideal) arg1.view (Rect.unit (s := S1) ![0] S1.size inb_S1_S1_0).toLoadRect (harg1.unread x0) (Shape.Idx.first (numel1_S1.symm ▸ Nat.one_pos))) = 0#32) (s : Fin 4) (r : Fin 128) (k : Fin 1024) :
    out0_C_7 c i arg1 harg1 arg2 harg2 arg3 harg3 arg4 harg4 arg5 harg5 arg6 harg6 arg7 harg7 arg8 harg8 arg9 harg9 arg10 harg10 hc0 hc1 x0 x1 x2 x3 x4 xs0 h1 h2 h3 h4 (ix3 s r k) = (acc x1 x3 x4 xs0 (ix2 ⟨256 * s.val + 0 + r.val, by omega⟩ k) : EReal) := by
  unfold out0_C_7 kernelRun0_C
  dsimp only
  have hr := r.isLt
  have hacc : sout0_C_0 c i arg1 harg1 arg2 harg2 arg3 harg3 arg4 harg4 arg5 harg5 arg6 harg6 arg7 harg7 arg8 harg8 arg9 harg9 arg10 harg10 hc0 hc1 x0 x1 x2 x3 x4 xs0 h1 h2 h3 h4 = acc x1 x3 x4 xs0 := accC c i arg1 harg1 arg2 harg2 arg3 harg3 arg4 harg4 arg5 harg5 arg6 harg6 arg7 harg7 arg8 harg8 arg9 harg9 arg10 harg10 hc0 hc1 x0 x1 x2 x3 x4 xs0 h1 h2 h3 h4
  unfold sout0_C_0 kernelRun0_C at hacc
  dsimp only at hacc
  have hacc' := (read_two _ _ _ _).symm.trans hacc
  fin_cases s
  · refine (View.read_writes_cons_unit_of_not_mem (s := S4x128x1024) _ _ _ _ _ _ rfl 0 (.inl (by change 0 < 3; decide))).trans ?_
    refine (View.read_writes_cons_unit_of_not_mem (s := S4x128x1024) _ _ _ _ _ _ rfl 0 (.inl (by change 0 < 2; decide))).trans ?_
    refine (View.read_writes_cons_unit_of_not_mem (s := S4x128x1024) _ _ _ _ _ _ rfl 0 (.inl (by change 0 < 1; decide))).trans ?_
    refine (View.read_writes_cons_unit_of_mem (s := S4x128x1024) _ _ _ _ _ _ (ix3 0 r k) rfl (fun a => by match a with | ⟨0, _⟩ => rfl | ⟨1, _⟩ => exact (Nat.zero_add _).symm | ⟨2, _⟩ => exact (Nat.zero_add _).symm)).trans ?_
    refine (pay4_apply _ r k).trans ?_
    refine (load_quarter _ _ _ _ (k0_off1 (View.readAt (Elt Ideal) arg1.view (Rect.unit (s := S1) ![0] S1.size inb_S1_S1_0).toLoadRect (harg1.unread x0) (Shape.Idx.first (numel1_S1.symm ▸ Nat.one_pos)))) _ 0 (by decide) (by rw [hw]; rfl) r k).trans ?_
    exact congrFun hacc' _
  · refine (View.read_writes_cons_unit_of_not_mem (s := S4x128x1024) _ _ _ _ _ _ rfl 0 (.inl (by change 1 < 3; decide))).trans ?_
    refine (View.read_writes_cons_unit_of_not_mem (s := S4x128x1024) _ _ _ _ _ _ rfl 0 (.inl (by change 1 < 2; decide))).trans ?_
    refine (View.read_writes_cons_unit_of_mem (s := S4x128x1024) _ _ _ _ _ _ (ix3 0 r k) rfl (fun a => by match a with | ⟨0, _⟩ => rfl | ⟨1, _⟩ => exact (Nat.zero_add _).symm | ⟨2, _⟩ => exact (Nat.zero_add _).symm)).trans ?_
    refine (pay6_apply _ r k).trans ?_
    refine (load_quarter _ _ _ _ (k0_off3 (View.readAt (Elt Ideal) arg1.view (Rect.unit (s := S1) ![0] S1.size inb_S1_S1_0).toLoadRect (harg1.unread x0) (Shape.Idx.first (numel1_S1.symm ▸ Nat.one_pos)))) _ 256 (by decide) (by rw [hw]; rfl) r k).trans ?_
    exact congrFun hacc' _
  · refine (View.read_writes_cons_unit_of_not_mem (s := S4x128x1024) _ _ _ _ _ _ rfl 0 (.inl (by change 2 < 3; decide))).trans ?_
    refine (View.read_writes_cons_unit_of_mem (s := S4x128x1024) _ _ _ _ _ _ (ix3 0 r k) rfl (fun a => by match a with | ⟨0, _⟩ => rfl | ⟨1, _⟩ => exact (Nat.zero_add _).symm | ⟨2, _⟩ => exact (Nat.zero_add _).symm)).trans ?_
    refine (pay8_apply _ r k).trans ?_
    refine (load_quarter _ _ _ _ (k0_off5 (View.readAt (Elt Ideal) arg1.view (Rect.unit (s := S1) ![0] S1.size inb_S1_S1_0).toLoadRect (harg1.unread x0) (Shape.Idx.first (numel1_S1.symm ▸ Nat.one_pos)))) _ 512 (by decide) (by rw [hw]; rfl) r k).trans ?_
    exact congrFun hacc' _
  · refine (View.read_writes_cons_unit_of_mem (s := S4x128x1024) _ _ _ _ _ _ (ix3 0 r k) rfl (fun a => by match a with | ⟨0, _⟩ => rfl | ⟨1, _⟩ => exact (Nat.zero_add _).symm | ⟨2, _⟩ => exact (Nat.zero_add _).symm)).trans ?_
    refine (pay2_apply _ r k).trans ?_
    refine (load_quarter _ _ _ _ (k0_off7 (View.readAt (Elt Ideal) arg1.view (Rect.unit (s := S1) ![0] S1.size inb_S1_S1_0).toLoadRect (harg1.unread x0) (Shape.Idx.first (numel1_S1.symm ▸ Nat.one_pos)))) _ 768 (by decide) (by rw [hw]; rfl) r k).trans ?_
    exact congrFun hacc' _

set_option maxHeartbeats 2000000 in
/-- The weight gradient's upper halves by shard after the last point. -/
theorem outC8 (c : Dev nD) (i : grid0.Coords) (arg1 : Memref sig .tc .smem S1 .i32) (harg1 : arg1.IsWhole)
    (arg2 : Memref sig .tc .vmem S512x1024 .bf16) (harg2 : arg2.IsWhole) (arg3 : Memref sig .tc .vmem S1024x1024 .bf16) (harg3 : arg3.IsWhole)
    (arg4 : Memref sig .tc .vmem S512x512 .bf16) (harg4 : arg4.IsWhole) (arg5 : Memref sig .tc .vmem S512x512 .bf16) (harg5 : arg5.IsWhole)
    (arg6 : Memref sig .tc .vmem S512x512 .f32) (harg6 : arg6.IsWhole) (arg7 : Memref sig .tc .vmem S512x512 .bf16) (harg7 : arg7.IsWhole)
    (arg8 : Memref sig .tc .vmem S4x128x1024 .f32) (harg8 : arg8.IsWhole) (arg9 : Memref sig .tc .vmem S4x128x1024 .bf16) (harg9 : arg9.IsWhole)
    (arg10 : Memref sig .tc .vmem S1024x1024 .f32) (harg10 : arg10.IsWhole)
    (hc0 : ¬cond0_0 i) (hc1 : cond0_1 i) (x0 : Vec Ideal S1 .i32) (x1 : Vec Ideal S512x1024 .bf16) (x2 : Vec Ideal S1024x1024 .bf16) (x3 x4 : Vec Ideal S512x512 .bf16) (xs0 : Vec Ideal S1024x1024 .f32)
    (h1 : k0_chk1 i (View.readAt (Elt Ideal) arg1.view (Rect.unit (s := S1) ![0] S1.size inb_S1_S1_0).toLoadRect (harg1.unread x0) (Shape.Idx.first (numel1_S1.symm ▸ Nat.one_pos))))
    (h2 : k0_chk2 i (View.readAt (Elt Ideal) arg1.view (Rect.unit (s := S1) ![0] S1.size inb_S1_S1_0).toLoadRect (harg1.unread x0) (Shape.Idx.first (numel1_S1.symm ▸ Nat.one_pos))))
    (h3 : k0_chk3 i (View.readAt (Elt Ideal) arg1.view (Rect.unit (s := S1) ![0] S1.size inb_S1_S1_0).toLoadRect (harg1.unread x0) (Shape.Idx.first (numel1_S1.symm ▸ Nat.one_pos))))
    (h4 : k0_chk4 i (View.readAt (Elt Ideal) arg1.view (Rect.unit (s := S1) ![0] S1.size inb_S1_S1_0).toLoadRect (harg1.unread x0) (Shape.Idx.first (numel1_S1.symm ▸ Nat.one_pos))))
    (hw : (View.readAt (Elt Ideal) arg1.view (Rect.unit (s := S1) ![0] S1.size inb_S1_S1_0).toLoadRect (harg1.unread x0) (Shape.Idx.first (numel1_S1.symm ▸ Nat.one_pos))) = 0#32) (s : Fin 4) (r : Fin 128) (k : Fin 1024) :
    out0_C_8 c i arg1 harg1 arg2 harg2 arg3 harg3 arg4 harg4 arg5 harg5 arg6 harg6 arg7 harg7 arg8 harg8 arg9 harg9 arg10 harg10 hc0 hc1 x0 x1 x2 x3 x4 xs0 h1 h2 h3 h4 (ix3 s r k) = (acc x1 x3 x4 xs0 (ix2 ⟨256 * s.val + 128 + r.val, by omega⟩ k) : EReal) := by
  unfold out0_C_8 kernelRun0_C
  dsimp only
  have hr := r.isLt
  have hacc : sout0_C_0 c i arg1 harg1 arg2 harg2 arg3 harg3 arg4 harg4 arg5 harg5 arg6 harg6 arg7 harg7 arg8 harg8 arg9 harg9 arg10 harg10 hc0 hc1 x0 x1 x2 x3 x4 xs0 h1 h2 h3 h4 = acc x1 x3 x4 xs0 := accC c i arg1 harg1 arg2 harg2 arg3 harg3 arg4 harg4 arg5 harg5 arg6 harg6 arg7 harg7 arg8 harg8 arg9 harg9 arg10 harg10 hc0 hc1 x0 x1 x2 x3 x4 xs0 h1 h2 h3 h4
  unfold sout0_C_0 kernelRun0_C at hacc
  dsimp only at hacc
  have hacc' := (read_two _ _ _ _).symm.trans hacc
  fin_cases s
  · refine (View.read_writes_cons_unit_of_not_mem (s := S4x128x1024) _ _ _ _ _ _ rfl 0 (.inl (by change 0 < 3; decide))).trans ?_
    refine (View.read_writes_cons_unit_of_not_mem (s := S4x128x1024) _ _ _ _ _ _ rfl 0 (.inl (by change 0 < 2; decide))).trans ?_
    refine (View.read_writes_cons_unit_of_not_mem (s := S4x128x1024) _ _ _ _ _ _ rfl 0 (.inl (by change 0 < 1; decide))).trans ?_
    refine (View.read_writes_cons_unit_of_mem (s := S4x128x1024) _ _ _ _ _ _ (ix3 0 r k) rfl (fun a => by match a with | ⟨0, _⟩ => rfl | ⟨1, _⟩ => exact (Nat.zero_add _).symm | ⟨2, _⟩ => exact (Nat.zero_add _).symm)).trans ?_
    refine (pay5_apply _ r k).trans ?_
    refine (load_quarter _ _ _ _ (k0_off2 (View.readAt (Elt Ideal) arg1.view (Rect.unit (s := S1) ![0] S1.size inb_S1_S1_0).toLoadRect (harg1.unread x0) (Shape.Idx.first (numel1_S1.symm ▸ Nat.one_pos)))) _ 128 (by decide) (by rw [hw]; rfl) r k).trans ?_
    exact congrFun hacc' _
  · refine (View.read_writes_cons_unit_of_not_mem (s := S4x128x1024) _ _ _ _ _ _ rfl 0 (.inl (by change 1 < 3; decide))).trans ?_
    refine (View.read_writes_cons_unit_of_not_mem (s := S4x128x1024) _ _ _ _ _ _ rfl 0 (.inl (by change 1 < 2; decide))).trans ?_
    refine (View.read_writes_cons_unit_of_mem (s := S4x128x1024) _ _ _ _ _ _ (ix3 0 r k) rfl (fun a => by match a with | ⟨0, _⟩ => rfl | ⟨1, _⟩ => exact (Nat.zero_add _).symm | ⟨2, _⟩ => exact (Nat.zero_add _).symm)).trans ?_
    refine (pay7_apply _ r k).trans ?_
    refine (load_quarter _ _ _ _ (k0_off4 (View.readAt (Elt Ideal) arg1.view (Rect.unit (s := S1) ![0] S1.size inb_S1_S1_0).toLoadRect (harg1.unread x0) (Shape.Idx.first (numel1_S1.symm ▸ Nat.one_pos)))) _ 384 (by decide) (by rw [hw]; rfl) r k).trans ?_
    exact congrFun hacc' _
  · refine (View.read_writes_cons_unit_of_not_mem (s := S4x128x1024) _ _ _ _ _ _ rfl 0 (.inl (by change 2 < 3; decide))).trans ?_
    refine (View.read_writes_cons_unit_of_mem (s := S4x128x1024) _ _ _ _ _ _ (ix3 0 r k) rfl (fun a => by match a with | ⟨0, _⟩ => rfl | ⟨1, _⟩ => exact (Nat.zero_add _).symm | ⟨2, _⟩ => exact (Nat.zero_add _).symm)).trans ?_
    refine (pay9_apply _ r k).trans ?_
    refine (load_quarter _ _ _ _ (k0_off6 (View.readAt (Elt Ideal) arg1.view (Rect.unit (s := S1) ![0] S1.size inb_S1_S1_0).toLoadRect (harg1.unread x0) (Shape.Idx.first (numel1_S1.symm ▸ Nat.one_pos)))) _ 640 (by decide) (by rw [hw]; rfl) r k).trans ?_
    exact congrFun hacc' _
  · refine (View.read_writes_cons_unit_of_mem (s := S4x128x1024) _ _ _ _ _ _ (ix3 0 r k) rfl (fun a => by match a with | ⟨0, _⟩ => rfl | ⟨1, _⟩ => exact (Nat.zero_add _).symm | ⟨2, _⟩ => exact (Nat.zero_add _).symm)).trans ?_
    refine (pay3_apply _ r k).trans ?_
    refine (load_quarter _ _ _ _ (k0_off8 (View.readAt (Elt Ideal) arg1.view (Rect.unit (s := S1) ![0] S1.size inb_S1_S1_0).toLoadRect (harg1.unread x0) (Shape.Idx.first (numel1_S1.symm ▸ Nat.one_pos)))) _ 896 (by decide) (by rw [hw]; rfl) r k).trans ?_
    exact congrFun hacc' _

end Cert.ObBody

end
-- ==== Proof.ObHyps.lean ====
module

public import proofs.«01_k».proof.Proof.Gen.OutProjBIdeal.Value

/- The pipeline of the output projection's gradients reads the word zero, of which its side conditions hold. -/

set_option maxRecDepth 16384

@[expose] public section

noncomputable section

namespace Cert.ObBody

open Idealize.ShloMosaic Idealize.ShloMosaic.TcCoe Idealize.SL.Sem
open Cert.OutProjBIdeal Cert.OutProjBIdeal.Gen

variable {F : FTy → Type} [FloatOps F]
variable (m : (ℓ : Loc nD τ sig) → Buf (Elt F) ℓ) (c : Dev nD)

/-- The array of the word that places the halves: zero. -/
theorem V7 : V m c main_v7 = fun _ => 0#32 := by
  entry_read
  rfl

/-- The word a grid point reads. -/
theorem word (t : Fin cfg0.N) : (ms0_0 t).view.readAt (Elt F) (Rect.unit (s := S1) ![0] S1.size inb_S1_S1_0).toLoadRect ((hs0_0 t).unread (iblk m c 0 t)) (Shape.Idx.first (numel1_S1.symm ▸ Nat.one_pos)) = 0#32 := by
  refine (congrFun ((hs0_0 t).read_unread _) _).trans ?_
  exact congrFun (V7 m c) _

theorem chk1 (i : grid0.Coords) : k0_chk1 i 0#32 := ⟨fun _ => by decide, fun _ => by decide, fun _ => by decide, fun _ => by decide⟩
theorem chk2 (i : grid0.Coords) : k0_chk2 i 0#32 := ⟨fun _ => by decide, fun _ => by decide, fun _ => by decide, fun _ => by decide⟩
theorem chk3 (i : grid0.Coords) : k0_chk3 i 0#32 := ⟨fun _ => by decide, fun _ => by decide, fun _ => by decide, fun _ => by decide⟩
theorem chk4 (i : grid0.Coords) : k0_chk4 i 0#32 := ⟨fun _ => by decide, fun _ => by decide, fun _ => by decide, fun _ => by decide⟩

/-- The side conditions the body computes with hold at every grid point. -/
theorem hyps : Hyps m := fun c t =>
  ⟨fun _ => (word m c t).symm ▸ chk1 _, fun _ => (word m c t).symm ▸ chk2 _, fun _ => (word m c t).symm ▸ chk3 _, fun _ => (word m c t).symm ▸ chk4 _⟩

end Cert.ObBody

end
-- ==== Proof.ObFinal.lean ====
module

public import proofs.«01_k».proof.Proof.ObPoint
public import proofs.«01_k».proof.Proof.ObHyps
public import Idealize.ShloMosaic.PureOps.Ideal
public import Idealize.ShloMosaic.Lib.Pipeline.ValueKit
public import Idealize.ShloMosaic.Lib.PlanTiles.Rows

/- What the pipeline of the output projection's gradients leaves in its four arrays. -/

set_option maxRecDepth 16384

@[expose] public section

noncomputable section

namespace Cert.ObBody

open Idealize.ShloMosaic Idealize.ShloMosaic.TcCoe Idealize.SL.Sem
open Cert.OutProjBIdeal Cert.OutProjBIdeal.Gen

/-! ## The payloads at an index -/

section pays
variable (d : Vec Ideal S512x1024 .bf16) (p : Vec Ideal S512x512 .bf16) (y w : Vec Ideal S512x1024 .f32) (u : Vec Ideal S512x1024 .bf16)
  (r f : Fin 512) (k : Fin 1024)

/-- The upper half of the accumulator after a point. -/
theorem pay14_apply : k0_pay14 d y p (ix2 f k) = (y (ix2 f k) + ∑ s : Fin 512, p (ix2 s f) * d (ix2 s k) : EReal) := by
  unfold k0_pay14 k0_pay11
  pointwise
/-- The lower half. -/
theorem pay15_apply : k0_pay1 (k0_pay15 d y p) (ix2 f k) = (y (ix2 f k) + ∑ s : Fin 512, p (ix2 s f) * d (ix2 s k) : EReal) := by
  unfold k0_pay1 k0_pay15 k0_pay11
  pointwise
/-- The pool rows' gradient. -/
theorem pay12_apply : k0_pay12 d u (ix2 r f) = (∑ q : Fin 1024, d (ix2 r q) * u (ix2 f q) : EReal) := by
  unfold k0_pay12 k0_pay11
  pointwise
/-- The attention rows' gradient. -/
theorem pay13_apply : k0_pay13 d u (ix2 r f) = (∑ q : Fin 1024, d (ix2 r q) * u (ix2 f q) : EReal) := by
  unfold k0_pay13 k0_pay11
  pointwise
end pays

/-- The accumulator before the first point. -/
theorem pay10_apply (j k : Fin 1024) : k0_pay10 (F := Ideal) (ix2 j k) = (0 : EReal) := by
  unfold k0_pay10
  pointwise

theorem up_apply {e : EltTy} (X : S1024x1024.Idx → Elt Ideal e) (f : Fin 512) (k : Fin 1024) : up X (ix2 f k) = X (ix2 ⟨f.val, by omega⟩ k) :=
  congrArg X (funext fun a => Fin.ext (by
    match a with
    | ⟨0, _⟩ => exact (Nat.zero_add _).trans (Nat.one_mul _)
    | ⟨1, _⟩ => exact (Nat.zero_add _).trans (Nat.one_mul _)))
theorem lo_apply {e : EltTy} (X : S1024x1024.Idx → Elt Ideal e) (f : Fin 512) (k : Fin 1024) : lo X (ix2 f k) = X (ix2 ⟨512 + f.val, by omega⟩ k) :=
  congrArg X (funext fun a => Fin.ext (by
    match a with
    | ⟨0, _⟩ => exact congrArg (512 + ·) (Nat.one_mul _)
    | ⟨1, _⟩ => exact (Nat.zero_add _).trans (Nat.one_mul _)))

/-- An entry of two half rows set side by side. -/
def side (p a : Fin 512 → EReal) (j : Fin 1024) : EReal := if h : j.val < 512 then p ⟨j.val, h⟩ else a ⟨j.val - 512, by omega⟩

/-- The accumulator after a point at an index. -/
theorem acc_apply (d : Vec Ideal S512x1024 .bf16) (p a : Vec Ideal S512x512 .bf16) (X : Vec Ideal S1024x1024 .f32) (j k : Fin 1024) :
    acc d p a X (ix2 j k) = (X (ix2 j k) + ∑ s : Fin 512, side (fun q => p (ix2 s q)) (fun q => a (ix2 s q)) j * d (ix2 s k) : EReal) := by
  unfold acc two side
  by_cases h : j.val < 512
  · refine (dif_pos (show ((ix2 j k : S1024x1024.Idx) 0).val < 512 from h)).trans ?_
    refine (pay14_apply d p _ ⟨j.val, h⟩ k).trans ?_
    refine congrArg₂ (fun x y : EReal => x + y) (up_apply X ⟨j.val, h⟩ k) (Finset.sum_congr rfl fun s _ => ?_)
    rw [dif_pos h]
  · refine (dif_neg (show ¬((ix2 j k : S1024x1024.Idx) 0).val < 512 from h)).trans ?_
    refine (pay15_apply d a _ ⟨j.val - 512, by omega⟩ k).trans ?_
    refine congrArg₂ (fun x y : EReal => x + y) ((lo_apply X ⟨j.val - 512, by omega⟩ k).trans ?_) (Finset.sum_congr rfl fun s _ => ?_)
    · exact congrArg (fun q : Fin 1024 => X (ix2 q k)) (Fin.ext (by change 512 + (j.val - 512) = j.val; omega))
    · rw [dif_neg h]

/-! ## The whole arrays' formulas -/

/-- The pool rows' gradient. -/
def gP (D : S4096x1024.Idx → EReal) (W : S1024x1024.Idx → EReal) : S4096x512.Idx → EReal := fun i =>
  ∑ q : Fin 1024, D (ix2 (i 0) q) * W (ix2 ⟨(i 1).val, by have : (i 1).val < 512 := (i 1).isLt; omega⟩ q)
/-- The attention rows' gradient. -/
def gA (D : S4096x1024.Idx → EReal) (W : S1024x1024.Idx → EReal) : S4096x512.Idx → EReal := fun i =>
  ∑ q : Fin 1024, D (ix2 (i 0) q) * W (ix2 ⟨512 + (i 1).val, by have : (i 1).val < 512 := (i 1).isLt; omega⟩ q)
/-- The weight's gradient, of the pool's and the attention's rows and the gradient of the mixed rows. -/
def gW (P A : S4096x512.Idx → EReal) (D : S4096x1024.Idx → EReal) (j k : Fin 1024) : EReal :=
  ∑ s : Fin 4096, side (fun q => P (ix2 s q)) (fun q => A (ix2 s q)) j * D (ix2 s k)
/-- Its halves by shard: 128 rows of each 256, from row `o`. -/
def gH (P A : S4096x512.Idx → EReal) (D : S4096x1024.Idx → EReal) (o : ℕ) (ho : o + 128 ≤ 256) : S4x128x1024.Idx → EReal := fun i =>
  gW P A D ⟨256 * (i 0).val + o + (i 1).val, by have : (i 0).val < 4 := (i 0).isLt; have : (i 1).val < 128 := (i 1).isLt; omega⟩ (i 2)

/-! ## The blocks -/

variable (m : (ℓ : Loc nD τ sig) → Buf (Elt Ideal) ℓ) (c : Dev nD)

/-- Where each window's block lies at a point. -/
theorem idx : ∀ t : Fin cfg0.N, win0_1.index t = ![t.val, 0] ∧ win0_2.index t = ![0, 0]
    ∧ win0_3.index t = ![t.val, 0] ∧ win0_4.index t = ![t.val, 0] ∧ win0_5.index t = ![t.val, 0]
    ∧ win0_6.index t = ![t.val, 0] ∧ t.val < 8 :=
  (by decide +kernel : ∀ t : Fin grid0.N, _)

/-- The grid has eight points. -/
theorem lt8 (t : Fin cfg0.N) : t.val < 8 := (idx t).2.2.2.2.2.2

/-- Row `r` of point `t`'s tile. -/
def row (t : Fin cfg0.N) (r : Fin 512) : Fin 4096 := ⟨512 * t.val + r.val, by have := lt8 t; omega⟩

/-- The gradient of the mixed rows, the weight, the pool's rows and the attention's, as the pipeline finds them. -/
def aD : S4096x1024.Idx → EReal := V m c main_v1
def aW : S1024x1024.Idx → EReal := V m c main_v2
def aP : S4096x512.Idx → EReal := V m c main_v4
def aA : S4096x512.Idx → EReal := V m c main_v6

theorem blk1 (t : Fin cfg0.N) (r : Fin 512) (q : Fin 1024) : iblk m c 1 t (ix2 r q : S512x1024.Idx) = aD m c (ix2 (row t r) q) := by
  have := lt8 t
  change _ = V m c main_v1 (ix2 (⟨512 * t.val + r.val, by omega⟩ : Fin 4096) q : S4096x1024.Idx)
  blk_ext [iblk, idx t]
theorem blk2 (t : Fin cfg0.N) (j q : Fin 1024) : iblk m c 2 t (ix2 j q : S1024x1024.Idx) = aW m c (ix2 j q) := by
  change _ = V m c main_v2 (ix2 j q : S1024x1024.Idx)
  blk_ext [iblk, idx t]
theorem blk3 (t : Fin cfg0.N) (r q : Fin 512) : iblk m c 3 t (ix2 r q : S512x512.Idx) = aP m c (ix2 (row t r) q) := by
  have := lt8 t
  change _ = V m c main_v4 (ix2 (⟨512 * t.val + r.val, by omega⟩ : Fin 4096) q : S4096x512.Idx)
  blk_ext [iblk, idx t]
theorem blk4 (t : Fin cfg0.N) (r q : Fin 512) : iblk m c 4 t (ix2 r q : S512x512.Idx) = aA m c (ix2 (row t r) q) := by
  have := lt8 t
  change _ = V m c main_v6 (ix2 (⟨512 * t.val + r.val, by omega⟩ : Fin 4096) q : S4096x512.Idx)
  blk_ext [iblk, idx t]

/-! ## What a point writes -/

/-- The four arrays the pipeline leaves. -/
def oP : S4096x512.Idx → EReal := gP (aD m c) (aW m c)
def oA : S4096x512.Idx → EReal := gA (aD m c) (aW m c)
def oL : S4x128x1024.Idx → EReal := gH (aP m c) (aA m c) (aD m c) 0 (by decide)
def oU : S4x128x1024.Idx → EReal := gH (aP m c) (aA m c) (aD m c) 128 (by decide)

/-- The pool rows' gradient of a point's blocks. -/
theorem p_at (t : Fin cfg0.N) (r f : Fin 512) :
    k0_pay12 (iblk m c 1 t) (up (F := Ideal) (e := .bf16) (iblk m c 2 t)) (ix2 r f) = (oP m c (ix2 (row t r) f) : EReal) := by
  unfold oP gP
  refine (pay12_apply _ _ r f).trans (Finset.sum_congr rfl fun q _ => ?_)
  exact congrArg₂ (fun x y : EReal => x * y) (blk1 m c t r q) ((up_apply (e := .bf16) _ f q).trans (blk2 m c t _ q))
/-- The attention rows' gradient. -/
theorem a_at (t : Fin cfg0.N) (r f : Fin 512) :
    k0_pay13 (iblk m c 1 t) (lo (F := Ideal) (e := .bf16) (iblk m c 2 t)) (ix2 r f) = (oA m c (ix2 (row t r) f) : EReal) := by
  unfold oA gA
  refine (pay13_apply _ _ r f).trans (Finset.sum_congr rfl fun q _ => ?_)
  exact congrArg₂ (fun x y : EReal => x * y) (blk1 m c t r q) ((lo_apply (e := .bf16) _ f q).trans (blk2 m c t _ q))

theorem outs5 (t : Fin cfg0.N) (r f : Fin 512) : (outsAt0 m (hyps m) c t.val t.isLt).1 (ix2 r f) = (oP m c (ix2 (row t r) f) : EReal) := by
  by_cases h0 : t.val % 8 = 0
  · rw [outsAt0_A m (hyps m) c t h0 (by omega)]
    dsimp only
    rw [outA5]
    exact p_at m c t r f
  · by_cases h1 : t.val % 8 = 7
    · rw [outsAt0_C m (hyps m) c t h0 h1]
      dsimp only
      rw [outC5]
      exact p_at m c t r f
    · rw [outsAt0_B m (hyps m) c t h0 h1]
      dsimp only
      rw [outB5]
      exact p_at m c t r f
theorem outs6 (t : Fin cfg0.N) (r f : Fin 512) : (outsAt0 m (hyps m) c t.val t.isLt).2.1 (ix2 r f) = (oA m c (ix2 (row t r) f) : EReal) := by
  by_cases h0 : t.val % 8 = 0
  · rw [outsAt0_A m (hyps m) c t h0 (by omega)]
    dsimp only
    rw [outA6]
    exact a_at m c t r f
  · by_cases h1 : t.val % 8 = 7
    · rw [outsAt0_C m (hyps m) c t h0 h1]
      dsimp only
      rw [outC6]
      exact a_at m c t r f
    · rw [outsAt0_B m (hyps m) c t h0 h1]
      dsimp only
      rw [outB6]
      exact a_at m c t r f

/-! ## The accumulator over the grid -/

/-- What row `n` adds to the weight's gradient. -/
def term (j k : Fin 1024) (n : Fin 4096) : EReal := side (fun q => aP m c (ix2 n q)) (fun q => aA m c (ix2 n q)) j * aD m c (ix2 n k)

/-- A point's blocks add their rows' terms. -/
theorem acc_blk (t : Fin cfg0.N) (X : Vec Ideal S1024x1024 .f32) (j k : Fin 1024) :
    acc (F := Ideal) (iblk m c 1 t) (iblk m c 3 t) (iblk m c 4 t) X (ix2 j k) = (X (ix2 j k) + ∑ r : Fin 512, term m c j k (row t r) : EReal) := by
  refine (acc_apply _ _ _ X j k).trans (congrArg (fun y : EReal => X (ix2 j k) + y) (Finset.sum_congr rfl fun s _ => ?_))
  unfold term
  have e3 : (fun q => iblk m c 3 t (ix2 s q : S512x512.Idx)) = fun q => aP m c (ix2 (row t s) q) := funext fun q => blk3 m c t s q
  have e4 : (fun q => iblk m c 4 t (ix2 s q : S512x512.Idx)) = fun q => aA m c (ix2 (row t s) q) := funext fun q => blk4 m c t s q
  exact congrArg₂ (fun x y : EReal => x * y) (congrArg₂ (fun f g : Fin 512 → EReal => side f g j) e3 e4) (blk1 m c t s k)

theorem first (t : Fin cfg0.N) (h : t.val % 8 = 0) (j k : Fin 1024) :
    (outsAt0 m (hyps m) c t.val t.isLt).2.2.2.2 (ix2 j k) = (∑ r : Fin 512, term m c j k (row t r) : EReal) := by
  rw [outsAt0_A m (hyps m) c t h (by omega)]
  dsimp only
  rw [accA]
  refine (acc_blk m c t _ j k).trans ?_
  rw [pay10_apply, zero_add]

theorem step (t : Fin cfg0.N) (h : ¬t.val % 8 = 0) (j k : Fin 1024) :
    (outsAt0 m (hyps m) c t.val t.isLt).2.2.2.2 (ix2 j k)
      = ((outsAt0 m (hyps m) c (t.val - 1) (Nat.lt_of_le_of_lt (Nat.sub_le _ _) t.isLt)).2.2.2.2 (ix2 j k) + ∑ r : Fin 512, term m c j k (row t r) : EReal) := by
  by_cases h1 : t.val % 8 = 7
  · rw [outsAt0_C m (hyps m) c t h h1]
    dsimp only
    rw [accC]
    exact acc_blk m c t _ j k
  · rw [outsAt0_B m (hyps m) c t h h1]
    dsimp only
    rw [accB]
    exact acc_blk m c t _ j k

/-- A sum over the points and their rows is a sum over all rows. -/
theorem sum_rows (f : Fin 4096 → EReal) : ∑ p : Fin cfg0.N, ∑ r : Fin 512, f (row p r) = ∑ n : Fin 4096, f n := by
  refine Fin.sum_mul_add_congr (f := f) (fun s k _ => ?_) (by decide)
  exact congrArg f (Fin.ext (by change 512 * s.val + k.val = s.val * 512 + k.val; omega))

/-- The accumulator after the last point is the weight's gradient. -/
theorem last (j k : Fin 1024) : (outsAt0 m (hyps m) c t0_7.val t0_7.isLt).2.2.2.2 (ix2 j k) = (gW (aP m c) (aA m c) (aD m c) j k : EReal) := by
  have := Pipeline.eq_sum_fin_of_reset_step_apply_last (M := EReal) (N := cfg0.N)
    (fun n h (i : Fin 1024 × Fin 1024) => ((outsAt0 m (hyps m) c n h).2.2.2.2 (ix2 i.1 i.2) : EReal)) 8 (fun _ => 0)
    (fun p i => ∑ r : Fin 512, term m c i.1 i.2 (row p r))
    (fun t h i => (first m c t h _ _).trans (zero_add _).symm) (fun t h i => step m c t h _ _)
    (le_of_eq N_0) t0_7 rfl (j, k)
  rw [zero_add] at this
  exact this.trans (sum_rows (term m c j k))

theorem t7_0 : ¬t0_7.val % 8 = 0 := by decide
theorem t7_7 : t0_7.val % 8 = 7 := by decide

/-- The accumulator after the last point, as the point computes it. -/
theorem last_acc : acc (F := Ideal) (iblk m c 1 t0_7) (iblk m c 3 t0_7) (iblk m c 4 t0_7)
      (outsAt0 m (hyps m) c (t0_7.val - 1) (Nat.lt_of_le_of_lt (Nat.sub_le _ _) t0_7.isLt)).2.2.2.2
    = (outsAt0 m (hyps m) c t0_7.val t0_7.isLt).2.2.2.2 := by
  rw [outsAt0_C m (hyps m) c t0_7 t7_0 t7_7]
  dsimp only
  rw [accC]

theorem outs7 (s : Fin 4) (r : Fin 128) (k : Fin 1024) : (outsAt0 m (hyps m) c t0_7.val t0_7.isLt).2.2.1 (ix3 s r k) = (oL m c (ix3 s r k) : EReal) := by
  have e := congrFun (last_acc m c) (ix2 ⟨256 * s.val + 0 + r.val, by omega⟩ k)
  rw [outsAt0_C m (hyps m) c t0_7 t7_0 t7_7]
  dsimp only
  refine (outC7 (hw := word m c t0_7) (s := s) (r := r) (k := k) ..).trans ?_
  exact e.trans (last m c _ k)
theorem outs8 (s : Fin 4) (r : Fin 128) (k : Fin 1024) : (outsAt0 m (hyps m) c t0_7.val t0_7.isLt).2.2.2.1 (ix3 s r k) = (oU m c (ix3 s r k) : EReal) := by
  have e := congrFun (last_acc m c) (ix2 ⟨256 * s.val + 128 + r.val, by omega⟩ k)
  rw [outsAt0_C m (hyps m) c t0_7 t7_0 t7_7]
  dsimp only
  refine (outC8 (hw := word m c t0_7) (s := s) (r := r) (k := k) ..).trans ?_
  exact e.trans (last m c _ k)

/-! ## The final arrays -/

/-- The array of the pool rows' gradient. -/
theorem final5 : (dats m (hyps m) 0 c).arrAt 5 cfg0.N = oP m c := by
  refine (dats m (hyps m) 0 c).arrAt_eq_of_covers 5 _ (by decide +kernel) fun t hf y => ?_
  blk_simp [idx t]
  rw [after0_5]
  refine (congrArg _ (eq_ix2 y)).trans ((outs5 m c t (y 0) (y 1)).trans ?_)
  have hi : (win0_5.blk t).view.emb y = ix2 (⟨512 * t.val + (y 0).val, by have := lt8 t; have : (y 0).val < 512 := (y 0).isLt; omega⟩ : Fin 4096) (y 1) := by
    blk_ext [idx t]
  exact (congrArg (oP m c) hi).symm
/-- The array of the attention rows' gradient. -/
theorem final6 : (dats m (hyps m) 0 c).arrAt 6 cfg0.N = oA m c := by
  refine (dats m (hyps m) 0 c).arrAt_eq_of_covers 6 _ (by decide +kernel) fun t hf y => ?_
  blk_simp [idx t]
  rw [after0_6]
  refine (congrArg _ (eq_ix2 y)).trans ((outs6 m c t (y 0) (y 1)).trans ?_)
  have hi : (win0_6.blk t).view.emb y = ix2 (⟨512 * t.val + (y 0).val, by have := lt8 t; have : (y 0).val < 512 := (y 0).isLt; omega⟩ : Fin 4096) (y 1) := by
    blk_ext [idx t]
  exact (congrArg (oA m c) hi).symm
/-- The array of the weight gradient's lower halves. -/
theorem final7 : (dats m (hyps m) 0 c).arrAt 7 cfg0.N = oL m c := by
  refine (dats m (hyps m) 0 c).arrAt_eq_of_after_last 7 t0_7 (by decide +kernel) _ fun j => ?_
  blk_simp
  rw [after0_7]
  exact (congrArg _ (eq_ix3 j)).trans ((outs7 m c (j 0) (j 1) (j 2)).trans (congrArg (oL m c) (eq_ix3 j).symm))
/-- The array of its upper halves. -/
theorem final8 : (dats m (hyps m) 0 c).arrAt 8 cfg0.N = oU m c := by
  refine (dats m (hyps m) 0 c).arrAt_eq_of_after_last 8 t0_7 (by decide +kernel) _ fun j => ?_
  blk_simp
  rw [after0_8]
  exact (congrArg _ (eq_ix3 j)).trans ((outs8 m c (j 0) (j 1) (j 2)).trans (congrArg (oU m c) (eq_ix3 j).symm))

end Cert.ObBody

end
-- ==== Proof.ObRead.lean ====
module

public import proofs.«01_k».proof.Proof.ObFinal
public import proofs.«01_k».proof.Proof.Gen.OutProjBRefIdeal.Read

/- The output projection's gradients: the arrays of the arguments, and the reference read at an index. -/

set_option maxRecDepth 16384

@[expose] public section

noncomputable section

namespace Cert.ObBody

open Idealize.ShloMosaic Idealize.ShloMosaic.TcCoe Idealize.SL.Sem

/-- Rows without their leading axis. -/
def half (x : Cert.OutProjBIdeal.S1x4096x512.Idx → EReal) : Cert.OutProjBIdeal.S4096x512.Idx → EReal := fun i => x (ix3 0 (i 0) (i 1))
def full (x : Cert.OutProjBIdeal.S1x4096x1024.Idx → EReal) : Cert.OutProjBIdeal.S4096x1024.Idx → EReal := fun i => x (ix3 0 (i 0) (i 1))

/-! ## The arrays of the arguments -/

section
open Cert.OutProjBIdeal Cert.OutProjBIdeal.Gen
variable (m : (ℓ : Loc nD τ sig) → Buf (Elt Ideal) ℓ) (c : Dev nD)

theorem half_eq (x : Vec Ideal S1x4096x512 .f32) (h) :
    (truncf (F := Ideal) .bf16 (shapeCast S4096x512 x h) bitsLt_bf16_f32 : Vec Ideal S4096x512 .bf16) = half x := by
  funext j
  obtain ⟨a, b, rfl⟩ : ∃ (a : Fin 4096) (b : Fin 512), j = ix2 a b := ⟨j 0, j 1, eq_ix2 j⟩
  pointwise
  rfl
theorem full_eq (x : Vec Ideal S1x4096x1024 .f32) (h) :
    (truncf (F := Ideal) .bf16 (shapeCast S4096x1024 x h) bitsLt_bf16_f32 : Vec Ideal S4096x1024 .bf16) = full x := by
  funext j
  obtain ⟨a, b, rfl⟩ : ∃ (a : Fin 4096) (b : Fin 1024), j = ix2 a b := ⟨j 0, j 1, eq_ix2 j⟩
  pointwise
  rfl

theorem aD_eq : aD m c = full (m ((c : Thread nD τ).loc main_arg3)) := by
  have h : V m c main_v1 = truncf (F := Ideal) .bf16 (shapeCast S4096x1024 (m ((c : Thread nD τ).loc main_arg3)) shapeCasts_S1x4096x1024_S4096x1024) bitsLt_bf16_f32 := by
    entry_read
    rfl
  exact h.trans (full_eq _ _)
theorem aW_eq : aW m c = m ((c : Thread nD τ).loc main_arg2) := by
  have h : V m c main_v2 = truncf (F := Ideal) .bf16 (m ((c : Thread nD τ).loc main_arg2)) bitsLt_bf16_f32 := by
    entry_read
    rfl
  exact h.trans rfl
theorem aP_eq : aP m c = half (m ((c : Thread nD τ).loc main_arg0)) := by
  have h : V m c main_v4 = truncf (F := Ideal) .bf16 (shapeCast S4096x512 (m ((c : Thread nD τ).loc main_arg0)) shapeCasts_S1x4096x512_S4096x512) bitsLt_bf16_f32 := by
    entry_read
    rfl
  exact h.trans (half_eq _ _)
theorem aA_eq : aA m c = half (m ((c : Thread nD τ).loc main_arg1)) := by
  have h : V m c main_v6 = truncf (F := Ideal) .bf16 (shapeCast S4096x512 (m ((c : Thread nD τ).loc main_arg1)) shapeCasts_S1x4096x512_S4096x512) bitsLt_bf16_f32 := by
    entry_read
    rfl
  exact h.trans (half_eq _ _)

/-- The pipeline's arrays are the formulas' of the arguments. -/
theorem oP_eq : oP m c = gP (full (m ((c : Thread nD τ).loc main_arg3))) (m ((c : Thread nD τ).loc main_arg2)) := by
  unfold oP
  rw [aD_eq, aW_eq]
theorem oA_eq : oA m c = gA (full (m ((c : Thread nD τ).loc main_arg3))) (m ((c : Thread nD τ).loc main_arg2)) := by
  unfold oA
  rw [aD_eq, aW_eq]
theorem oL_eq : oL m c = gH (half (m ((c : Thread nD τ).loc main_arg0))) (half (m ((c : Thread nD τ).loc main_arg1))) (full (m ((c : Thread nD τ).loc main_arg3))) 0 (by decide) := by
  unfold oL
  rw [aP_eq, aA_eq, aD_eq]
theorem oU_eq : oU m c = gH (half (m ((c : Thread nD τ).loc main_arg0))) (half (m ((c : Thread nD τ).loc main_arg1))) (full (m ((c : Thread nD τ).loc main_arg3))) 128 (by decide) := by
  unfold oU
  rw [aP_eq, aA_eq, aD_eq]
end

/-! ## The reference -/

section
open Cert.OutProjBRefIdeal Cert.OutProjBRefIdeal.Read

variable (x0 x1 : S1x4096x512.Idx → EReal) (x2 : S1024x1024.Idx → EReal) (x3 : S1x4096x1024.Idx → EReal)

/-- The concatenated rows: the pool's and the attention's side by side. -/
theorem r0 (a : Fin 4096) (j : Fin 1024) : val_main_v0 (F := Ideal) x0 x1 (ix3 0 a j) = (side (fun q => half x0 (ix2 a q)) (fun q => half x1 (ix2 a q)) j : EReal) := by
  unfold val_main_v0 side
  split_ifs with h
  · exact concatenate_pair_apply_left (s₁ := S1x4096x512) (s₂ := S1x4096x512) (t := S1x4096x1024) 2 x0 x1 _ (ix3 0 a j) rfl (ix3 0 a ⟨j.val, h⟩) (fun b => by match b with | ⟨0, _⟩ => rfl | ⟨1, _⟩ => rfl | ⟨2, _⟩ => rfl)
  · exact concatenate_pair_apply_right (s₁ := S1x4096x512) (s₂ := S1x4096x512) (t := S1x4096x1024) 2 x0 x1 _ (ix3 0 a j) rfl rfl (ix3 0 a ⟨j.val - 512, by omega⟩) (fun b => by match b with | ⟨0, _⟩ => intro _; rfl | ⟨1, _⟩ => intro _; rfl | ⟨2, _⟩ => intro h; exact absurd rfl h) (by change (j.val - 512) + 512 = j.val; omega)

/-- The reference's gradient of the weight. -/
theorem r3 (j k : Fin 1024) : val_main_v3 (F := Ideal) x0 x1 x3 (ix2 j k) = (gW (half x0) (half x1) (full x3) j k : EReal) := by
  have h : val_main_v3 (F := Ideal) x0 x1 x3 (ix2 j k) = (∑ s : Fin 4096, x3 (ix3 0 s k) * val_main_v0 (F := Ideal) x0 x1 (ix3 0 s j) : EReal) := by
    unfold val_main_v3 val_main_v2
    pointwise
    exact Fin.sum_univ_one _
  refine h.trans (Finset.sum_congr rfl fun s _ => ?_)
  exact (congrArg (fun y : EReal => x3 (ix3 0 s k) * y) (r0 x0 x1 s j)).trans (mul_comm _ _)

/-- A half of the weight's gradient at a row of all. -/
theorem gH_at (P A : Cert.OutProjBIdeal.S4096x512.Idx → EReal) (D : Cert.OutProjBIdeal.S4096x1024.Idx → EReal) (o : ℕ) (ho : o + 128 ≤ 256) (s : Fin 4) (r : Fin 128) (k : Fin 1024)
    (n : ℕ) (hn : n < 1024) (e : 256 * s.val + o + r.val = n) : gH P A D o ho (ix3 s r k) = gW P A D ⟨n, hn⟩ k := by
  subst e
  rfl

/-- The pool rows' gradient. -/
theorem all8 : gP (full x3) x2 = val_main_v8 (F := Ideal) x2 x3 := by
  funext i
  obtain ⟨a, f, rfl⟩ : ∃ (a : Fin 4096) (f : Fin 512), i = ix2 a f := ⟨i 0, i 1, eq_ix2 i⟩
  unfold val_main_v8 val_main_v5 val_main_v4
  pointwise
  rfl
/-- The attention rows' gradient. -/
theorem all10 : gA (full x3) x2 = val_main_v10 (F := Ideal) x2 x3 := by
  funext i
  obtain ⟨a, f, rfl⟩ : ∃ (a : Fin 4096) (f : Fin 512), i = ix2 a f := ⟨i 0, i 1, eq_ix2 i⟩
  unfold val_main_v10 val_main_v9 val_main_v6 val_main_v4
  pointwise
  rfl
/-- The weight gradient's lower halves. -/
theorem all12 : gH (half x0) (half x1) (full x3) 0 (by decide) = val_main_v12 (F := Ideal) x0 x1 x3 := by
  funext i
  obtain ⟨s, r, k, rfl⟩ : ∃ (s : Fin 4) (r : Fin 128) (k : Fin 1024), i = ix3 s r k := ⟨i 0, i 1, i 2, eq_ix3 i⟩
  unfold val_main_v12 val_main_v11 val_main_v7
  pointwise
  rw [r3]
  refine gH_at _ _ _ 0 _ s r k _ _ ?_
  omega
/-- Its upper halves. -/
theorem all15 : gH (half x0) (half x1) (full x3) 128 (by decide) = val_main_v15 (F := Ideal) x0 x1 x3 := by
  funext i
  obtain ⟨s, r, k, rfl⟩ : ∃ (s : Fin 4) (r : Fin 128) (k : Fin 1024), i = ix3 s r k := ⟨i 0, i 1, i 2, eq_ix3 i⟩
  unfold val_main_v15 val_main_v14 val_main_v13 val_main_v7
  pointwise
  rw [r3]
  refine gH_at _ _ _ 128 _ s r k _ _ ?_
  omega
end

end Cert.ObBody

end
-- ==== Proof.ObHypsBits.lean ====
module

public import proofs.«01_k».proof.Proof.Gen.OutProjB.Frame

/- The printed pipeline of the output projection's gradients reads the word zero, of which its side conditions hold. -/

set_option maxRecDepth 16384

@[expose] public section

noncomputable section

namespace Cert.ObBits

open Idealize.ShloMosaic Idealize.ShloMosaic.TcCoe Idealize.SL.Sem
open Cert.OutProjB Cert.OutProjB.Gen

variable {F : FTy → Type} [FloatOps F]
variable (m : (ℓ : Loc nD τ sig) → Buf (Elt F) ℓ) (c : Dev nD)

/-- The array of the word that places the halves: zero. -/
theorem V7 : V m c main_v7 = fun _ => 0#32 := by
  entry_read
  rfl

/-- The word a grid point reads. -/
theorem word (t : Fin cfg0.N) : (ms0_0 t).view.readAt (Elt F) (Rect.unit (s := S1) ![0] S1.size inb_S1_S1_0).toLoadRect ((hs0_0 t).unread (iblk m c 0 t)) (Shape.Idx.first (numel1_S1.symm ▸ Nat.one_pos)) = 0#32 := by
  refine (congrFun ((hs0_0 t).read_unread _) _).trans ?_
  exact congrFun (V7 m c) _

theorem chk1 (i : grid0.Coords) : k0_chk1 i 0#32 := ⟨fun _ => by decide, fun _ => by decide, fun _ => by decide, fun _ => by decide⟩
theorem chk2 (i : grid0.Coords) : k0_chk2 i 0#32 := ⟨fun _ => by decide, fun _ => by decide, fun _ => by decide, fun _ => by decide⟩
theorem chk3 (i : grid0.Coords) : k0_chk3 i 0#32 := ⟨fun _ => by decide, fun _ => by decide, fun _ => by decide, fun _ => by decide⟩
theorem chk4 (i : grid0.Coords) : k0_chk4 i 0#32 := ⟨fun _ => by decide, fun _ => by decide, fun _ => by decide, fun _ => by decide⟩

/-- The side conditions the body computes with hold at every grid point. -/
theorem hyps : Hyps m := fun c t =>
  ⟨fun _ => (word m c t).symm ▸ chk1 _, fun _ => (word m c t).symm ▸ chk2 _, fun _ => (word m c t).symm ▸ chk3 _, fun _ => (word m c t).symm ▸ chk4 _⟩

end Cert.ObBits

end
-- ==== Proof.NormBody.lean ====
module

public import proofs.«01_k».proof.Proof.Gen.PrenormIdeal.Value
public import proofs.«01_k».proof.Proof.Gen.PrenormRefIdeal.Read
public import Idealize.ShloMosaic.Lib.Pointwise
public import Idealize.ShloMosaic.PureOps.Ideal
public import Idealize.ShloMosaic.Lib.Pipeline.ValueKit
public import Idealize.ShloMosaic.Lib.PlanTiles.Rows

/- What the first norm's pipeline leaves in its array, and its meeting with the reference. -/

set_option maxRecDepth 16384

@[expose] public section

noncomputable section

namespace Cert.NormBody

open Idealize.ShloMosaic Idealize.ShloMosaic.TcCoe Idealize.SL.Sem
open Cert.PrenormIdeal Cert.PrenormIdeal.Gen

/-! ## One row's formulas -/

/-- The constant a row's sum of squares is divided by. -/
def cD : EReal := Ideal.ofBits FTy.f32 1149239296#32
/-- The constant added under the root. -/
def cE : EReal := Ideal.ofBits FTy.f32 897988541#32
/-- A row's root of the mean square, inverted. -/
def rE (x : Fin 1024 → EReal) : EReal := Ideal.rsqrt (Ideal.div (∑ q, x q * x q) cD + cE)
/-- A row normed. -/
def nE (x : Fin 1024 → EReal) (k : Fin 1024) : EReal := x k * rE x
/-- All rows normed and scaled. -/
def gN (X : S4096x1024.Idx → EReal) (g : S1x1024.Idx → EReal) : S4096x1024.Idx → EReal := fun i =>
  nE (fun q => X (ix2 (i 0) q)) (i 1) * g (ix2 0 (i 1))

/-! ## The body's result at an index -/

/-- The zero offsets of a whole block. -/
theorem zeros2 : (![0, 0] : Fin 2 → ℕ) = fun _ => 0 := by
  funext a
  match a with
  | ⟨0, _⟩ => rfl
  | ⟨1, _⟩ => rfl

theorem ld0 (x : Vec Ideal S1024x1024 .f32) : View.ld x r0_0 = x := View.ld_unit_zero zeros2 _ x
theorem ld1 (g : Vec Ideal S1x1024 .f32) : View.ld g r0_1 = g := View.ld_unit_zero zeros2 _ g

theorem pay1_apply (x : Vec Ideal S1024x1024 .f32) (g : Vec Ideal S1x1024 .f32) (r k : Fin 1024) :
    k0_pay1 x g (ix2 r k) = (nE (fun q => x (ix2 r q)) k * g (ix2 0 k) : EReal) := by
  unfold k0_pay1 nE rE cD cE
  pointwise

theorem out2_apply (x : Vec Ideal S1024x1024 .f32) (g : Vec Ideal S1x1024 .f32) (r k : Fin 1024) :
    out0_2 x g (ix2 r k) = (nE (fun q => x (ix2 r q)) k * g (ix2 0 k) : EReal) := by
  unfold out0_2
  rw [View.canon_unit_zero zeros2, ld0, ld1]
  exact pay1_apply x g r k

/-! ## The blocks -/

variable (m : (ℓ : Loc nD τ sig) → Buf (Elt Ideal) ℓ) (c : Dev nD)

theorem idx : ∀ t : Fin cfg0.N, win0_0.index t = ![t.val, 0] ∧ win0_1.index t = ![0, 0] ∧ win0_2.index t = ![t.val, 0] ∧ t.val < 4 :=
  (by decide +kernel : ∀ t : Fin grid0.N, _)

theorem lt4 (t : Fin cfg0.N) : t.val < 4 := (idx t).2.2.2

/-- Row `r` of point `t`'s tile. -/
def row (t : Fin cfg0.N) (r : Fin 1024) : Fin 4096 := ⟨1024 * t.val + r.val, by have := lt4 t; omega⟩

/-- The rows the pipeline reads. -/
def rX : S4096x1024.Idx → EReal := V m c main_v0
/-- The scale it reads. -/
def rG : S1x1024.Idx → EReal := V m c main_arg1

theorem blk0 (t : Fin cfg0.N) (r q : Fin 1024) : iblk m c 0 t (ix2 r q : S1024x1024.Idx) = rX m c (ix2 (row t r) q) := by
  have := lt4 t
  change _ = V m c main_v0 (ix2 (⟨1024 * t.val + r.val, by omega⟩ : Fin 4096) q : S4096x1024.Idx)
  blk_ext [iblk, idx t]
theorem blk1 (t : Fin cfg0.N) (q : Fin 1024) : iblk m c 1 t (ix2 0 q : S1x1024.Idx) = rG m c (ix2 0 q) := by
  change _ = V m c main_arg1 (ix2 0 q : S1x1024.Idx)
  blk_ext [iblk, idx t]

theorem outs2 (t : Fin cfg0.N) (r k : Fin 1024) :
    out0_2 (iblk m c 0 t) (iblk m c 1 t) (ix2 r k) = (gN (rX m c) (rG m c) (ix2 (row t r) k) : EReal) := by
  refine (out2_apply _ _ r k).trans ?_
  exact congrArg₂ (fun x y : EReal => x * y) (congrArg (fun f : Fin 1024 → EReal => nE f k) (funext fun q => blk0 m c t r q)) (blk1 m c t k)

/-- The array of the normed rows. -/
theorem final2 : (dats m 0 c).arrAt 2 cfg0.N = gN (rX m c) (rG m c) := by
  refine (dats m 0 c).arrAt_eq_of_covers 2 _ (by decide +kernel) fun t hf y => ?_
  blk_simp [idx t]
  rw [after0_2]
  refine (congrArg _ (eq_ix2 y)).trans ((outs2 m c t (y 0) (y 1)).trans ?_)
  have hi : (win0_2.blk t).view.emb y = ix2 (⟨1024 * t.val + (y 0).val, by have := lt4 t; have : (y 0).val < 1024 := (y 0).isLt; omega⟩ : Fin 4096) (y 1) := by
    blk_ext [idx t]
  exact (congrArg (gN (rX m c) (rG m c)) hi).symm

/-! ## The arrays of the arguments -/

/-- Rows without their leading axis. -/
def rowsOf (x : S1x4096x1024.Idx → EReal) : S4096x1024.Idx → EReal := fun i => x (ix3 0 (i 0) (i 1))

theorem rowsOf_eq (x : Vec Ideal S1x4096x1024 .f32) (h) : (shapeCast S4096x1024 x h : Vec Ideal S4096x1024 .f32) = rowsOf x := by
  funext j
  obtain ⟨a, b, rfl⟩ : ∃ (a : Fin 4096) (b : Fin 1024), j = ix2 a b := ⟨j 0, j 1, eq_ix2 j⟩
  pointwise
  rfl

theorem rX_eq : rX m c = rowsOf (m ((c : Thread nD τ).loc main_arg0)) := by
  have h : V m c main_v0 = shapeCast S4096x1024 (m ((c : Thread nD τ).loc main_arg0)) shapeCasts_S1x4096x1024_S4096x1024 := by
    entry_read
    rfl
  exact h.trans (rowsOf_eq _ _)
theorem rG_eq : rG m c = m ((c : Thread nD τ).loc main_arg1) := by
  have h : V m c main_arg1 = m ((c : Thread nD τ).loc main_arg1) := by
    entry_read
    rfl
  exact h

/-! ## The reference -/

section
open Cert.PrenormRefIdeal.Read

variable (x0 : S1x4096x1024.Idx → EReal) (x1 : S1x1024.Idx → EReal)

/-- The reference's inverted root. -/
theorem r8 (a : Fin 4096) : val_main_v8 (F := Ideal) x0 (ix3 0 a 0) = (rE (fun q => x0 (ix3 0 a q)) : EReal) := by
  unfold val_main_v8 val_main_v7 val_main_v6 val_main_cst_1 val_main_v5 val_main_v4 val_main_cst_0 val_main_v3 val_main_v2 val_main_cst val_main_v1 rE cD cE
  pointwise

/-- The reference's normed rows are the formula's. -/
theorem all15 : gN (rowsOf x0) x1 = val_main_v15 (F := Ideal) x0 x1 := by
  funext i
  obtain ⟨a, k, rfl⟩ : ∃ (a : Fin 4096) (k : Fin 1024), i = ix2 a k := ⟨i 0, i 1, eq_ix2 i⟩
  unfold val_main_v15 val_main_v14 val_main_v13 val_main_v12 val_main_v11 val_main_v10 val_main_v9 val_main_v0
  pointwise
  rw [r8]
  rfl
end

end Cert.NormBody

end
-- ==== Proof.lean ====
module

public import proofs.«01_k».proof.Defs
public import proofs.«01_k».proof.Proof.Gen.PoolBwd
public import proofs.«01_k».proof.Proof.Gen.PoolBwd.Frame
public import proofs.«01_k».proof.Proof.Gen.PoolBwdIdeal
public import proofs.«01_k».proof.Proof.Gen.PoolBwdIdeal.Frame
public import proofs.«01_k».proof.Proof.Gen.PoolBwdIdeal.Value
public import proofs.«01_k».proof.Proof.Gen.PoolRefIdeal
public import proofs.«01_k».proof.Proof.Gen.PoolRefIdeal.Run
public import proofs.«01_k».proof.Proof.Gen.PoolRefIdeal.Read
public import proofs.«01_k».proof.Proof.Gen.FfnBwd
public import proofs.«01_k».proof.Proof.Gen.FfnBwdIdeal
public import proofs.«01_k».proof.Proof.Gen.FfnBwdIdeal.Frame
public import proofs.«01_k».proof.Proof.Gen.FfnBwdIdeal.Skeleton
public import proofs.«01_k».proof.Proof.Gen.FfnRefIdeal
public import proofs.«01_k».proof.Proof.Gen.FfnRefIdeal.Run
public import proofs.«01_k».proof.Proof.Gen.FfnRefIdeal.Read
public import proofs.«01_k».proof.Proof.PoolMeet
public import proofs.«01_k».proof.Proof.PoolPre
public import proofs.«01_k».proof.Proof.FfnRun
public import proofs.«01_k».proof.Proof.FfnSame
public import proofs.«01_k».proof.Proof.FfnMeet
public import proofs.«01_k».proof.Proof.FfnPre
public import Idealize.ShloMosaic.Lib.Claim
public import Idealize.ShloMosaic.Adequacy
public import Idealize.ShloMosaic.Init
public import proofs.«01_k».proof.Proof.Gen.FfnW
public import proofs.«01_k».proof.Proof.Gen.FfnW.Frame
public import proofs.«01_k».proof.Proof.Gen.FfnWIdeal
public import proofs.«01_k».proof.Proof.Gen.FfnWIdeal.Frame
public import proofs.«01_k».proof.Proof.Gen.FfnWIdeal.Value
public import proofs.«01_k».proof.Proof.Gen.FfnWRefIdeal
public import proofs.«01_k».proof.Proof.Gen.FfnWRefIdeal.Run
public import proofs.«01_k».proof.Proof.Gen.FfnWRefIdeal.Read
public import proofs.«01_k».proof.Proof.Gen.InProj
public import proofs.«01_k».proof.Proof.Gen.InProj.Frame
public import proofs.«01_k».proof.Proof.Gen.InProjIdeal
public import proofs.«01_k».proof.Proof.Gen.InProjIdeal.Frame
public import proofs.«01_k».proof.Proof.Gen.InProjIdeal.Value
public import proofs.«01_k».proof.Proof.Gen.InProjRefIdeal
public import proofs.«01_k».proof.Proof.Gen.InProjRefIdeal.Run
public import proofs.«01_k».proof.Proof.Gen.InProjRefIdeal.Read
public import proofs.«01_k».proof.Proof.Gen.OutProj
public import proofs.«01_k».proof.Proof.Gen.OutProj.Frame
public import proofs.«01_k».proof.Proof.Gen.OutProjIdeal
public import proofs.«01_k».proof.Proof.Gen.OutProjIdeal.Frame
public import proofs.«01_k».proof.Proof.Gen.OutProjIdeal.Value
public import proofs.«01_k».proof.Proof.Gen.OutProjRefIdeal
public import proofs.«01_k».proof.Proof.Gen.OutProjRefIdeal.Run
public import proofs.«01_k».proof.Proof.Gen.OutProjRefIdeal.Read
public import proofs.«01_k».proof.Proof.Gen.OutProjB
public import proofs.«01_k».proof.Proof.Gen.OutProjB.Frame
public import proofs.«01_k».proof.Proof.Gen.OutProjBIdeal
public import proofs.«01_k».proof.Proof.Gen.OutProjBIdeal.Frame
public import proofs.«01_k».proof.Proof.Gen.OutProjBIdeal.Value
public import proofs.«01_k».proof.Proof.Gen.OutProjBRefIdeal
public import proofs.«01_k».proof.Proof.Gen.OutProjBRefIdeal.Run
public import proofs.«01_k».proof.Proof.Gen.OutProjBRefIdeal.Read
public import proofs.«01_k».proof.Proof.Gen.Prenorm
public import proofs.«01_k».proof.Proof.Gen.Prenorm.Frame
public import proofs.«01_k».proof.Proof.Gen.PrenormIdeal
public import proofs.«01_k».proof.Proof.Gen.PrenormIdeal.Frame
public import proofs.«01_k».proof.Proof.Gen.PrenormIdeal.Value
public import proofs.«01_k».proof.Proof.Gen.PrenormRefIdeal
public import proofs.«01_k».proof.Proof.Gen.PrenormRefIdeal.Run
public import proofs.«01_k».proof.Proof.Gen.PrenormRefIdeal.Read
public import proofs.«01_k».proof.Proof.WHypsBits
public import proofs.«01_k».proof.Proof.WRefRead
public import proofs.«01_k».proof.Proof.InBody
public import proofs.«01_k».proof.Proof.OutBody
public import proofs.«01_k».proof.Proof.ObRead
public import proofs.«01_k».proof.Proof.ObHypsBits
public import proofs.«01_k».proof.Proof.NormBody

@[expose] public section

set_option maxRecDepth 16384

noncomputable section

namespace Cert.Proof

open Idealize.ShloMosaic Idealize.ShloMosaic.TcCoe Idealize.SL.Sem

attribute [local instance] Cert.PoolBwd.Gen.facts Cert.PoolBwdIdeal.Gen.facts Cert.PoolRefIdeal.Gen.facts Cert.PoolBody.preFacts
  Cert.FfnBwd.Gen.facts Cert.FfnBwdIdeal.Gen.facts Cert.FfnRefIdeal.Gen.facts Cert.FfnBody.preFacts
  Cert.FfnW.Gen.facts Cert.FfnWIdeal.Gen.facts Cert.FfnWRefIdeal.Gen.facts
  Cert.InProj.Gen.facts Cert.InProjIdeal.Gen.facts Cert.InProjRefIdeal.Gen.facts
  Cert.OutProj.Gen.facts Cert.OutProjIdeal.Gen.facts Cert.OutProjRefIdeal.Gen.facts
  Cert.OutProjB.Gen.facts Cert.OutProjBIdeal.Gen.facts Cert.OutProjBRefIdeal.Gen.facts
  Cert.Prenorm.Gen.facts Cert.PrenormIdeal.Gen.facts Cert.PrenormRefIdeal.Gen.facts

/-- The reference runs to the end with its arguments unchanged. -/
theorem frame_R : Cert.quiescent_PoolRefIdeal := by
  intro m g _
  exact (θ_run Cert.PoolRefIdeal.defs _ _).mono
    (fun r h => ⟨fun c => (h c).2.2.2, sem_eq_zero_of_no_sems (by decide) r.2⟩) (Cert.PoolRefIdeal.Value.run m g)

/-- The pipeline's gradients are the reference's. -/
theorem algebraic : Cert.algebraic_PoolBwdIdeal_PoolRefIdeal_pre_finite_inputs := by
  pair_intro
  · run_from Cert.PoolBwdIdeal.Value.run_blocks m g
  · run_from Cert.PoolRefIdeal.Value.run m' g'
    · rw [Cert.PoolRefIdeal.Read.val_main_v135_eq, Cert.PoolBody.arr5, (hagree c).2.1, (hagree c).2.2.1, (hagree c).2.2.2]
      obtain ⟨h1, h2, h3⟩ := Cert.PoolBody.pre_real _ _ _ _ (hpre c)
      exact Cert.PoolBody.du_all _ _ _ h1 h2 h3
    · rw [Cert.PoolRefIdeal.Read.val_main_v81_eq, Cert.PoolBody.arr6, (hagree c).1, (hagree c).2.2.1, (hagree c).2.2.2]
      exact Cert.PoolBody.gwp_all _ _ _
    · rw [Cert.PoolRefIdeal.Read.val_main_v133_eq, Cert.PoolBody.arr7, (hagree c).1, (hagree c).2.1, (hagree c).2.2.2]
      exact Cert.PoolBody.gsc_all _ _ _

/-- The feed-forward reference runs to the end with its arguments unchanged. -/
theorem frame_FR : Cert.quiescent_FfnRefIdeal := by
  intro m g _
  exact (θ_run Cert.FfnRefIdeal.defs _ _).mono
    (fun r h => ⟨fun c => (h c).2.2.2.2.2.2, sem_eq_zero_of_no_sems (by decide) r.2⟩) (Cert.FfnRefIdeal.Value.run m g)

set_option maxHeartbeats 20000000 in
/-- The feed-forward pipeline over machine numbers runs to the end with its arguments unchanged. -/
theorem frame_FP : Cert.quiescent_FfnBwd := by
  intro m ρ _
  rw [Cert.FfnBody.same_defs, Cert.FfnBody.same_main]
  exact Cert.FfnBody.frame (F := Bits) m ρ

set_option maxHeartbeats 20000000 in
/-- The feed-forward pipeline's gradients are the reference's. -/
theorem algebraic_F : Cert.algebraic_FfnBwdIdeal_FfnRefIdeal_pre_finite_ffn := by
  pair_intro
  · run_from Cert.FfnBody.run_values m g
  · run_from Cert.FfnRefIdeal.Value.run m' g'
    all_goals
      have e0 : StableHlo.launchContents m' c (Proc.devRef .tc Cert.FfnRefIdeal.main_arg0) = _ := (hagree c).1
      have e1 : StableHlo.launchContents m' c (Proc.devRef .tc Cert.FfnRefIdeal.main_arg1) = _ := (hagree c).2.1
      have e2 : StableHlo.launchContents m' c (Proc.devRef .tc Cert.FfnRefIdeal.main_arg2) = _ := (hagree c).2.2.1
      have e3 : StableHlo.launchContents m' c (Proc.devRef .tc Cert.FfnRefIdeal.main_arg3) = _ := (hagree c).2.2.2.1
      have e4 : StableHlo.launchContents m' c (Proc.devRef .tc Cert.FfnRefIdeal.main_arg4) = _ := (hagree c).2.2.2.2.1
      have e5 : StableHlo.launchContents m' c (Proc.devRef .tc Cert.FfnRefIdeal.main_arg5) = _ := (hagree c).2.2.2.2.2.1
      have e6 : StableHlo.launchContents m' c (Proc.devRef .tc Cert.FfnRefIdeal.main_arg6) = _ := (hagree c).2.2.2.2.2.2.1
      have e7 : StableHlo.launchContents m' c (Proc.devRef .tc Cert.FfnRefIdeal.main_arg7) = _ := (hagree c).2.2.2.2.2.2.2.1
      have e8 : StableHlo.launchContents m' c (Proc.devRef .tc Cert.FfnRefIdeal.main_arg8) = _ := (hagree c).2.2.2.2.2.2.2.2
      obtain ⟨h3, h5, h6, h8⟩ := Cert.FfnBody.pre_real _ _ _ _ _ _ _ _ _ (hpre c)
    · refine (Cert.FfnRefIdeal.Read.val_main_v95_eq (StableHlo.launchContents m' c)).trans ?_
      rw [Cert.FfnBody.arrs_eq, e0, e1, e2, e3, e4, e5, e6, e8]
      exact (Cert.FfnBody.allDG h3 h5 h6 h8).symm
    · refine (Cert.FfnRefIdeal.Read.val_main_v98_eq (StableHlo.launchContents m' c)).trans ?_
      rw [Cert.FfnBody.arrs_eq, e0, e1, e2, e3, e4, e6, e8]
      exact (Cert.FfnBody.allDU).symm
    · refine (Cert.FfnRefIdeal.Read.val_main_v99_eq (StableHlo.launchContents m' c)).trans ?_
      rw [Cert.FfnBody.arrs_eq, e0, e1, e2, e3, e4, e5, e6, e7, e8]
      exact (Cert.FfnBody.allDX h3 h5 h6 h8).symm
    · rw [← e1]
      refine (Cert.FfnRefIdeal.Read.val_main_v101_eq (StableHlo.launchContents m' c)).trans ?_
      rw [Cert.FfnBody.arrs_eq, e0, e1, e2, e3, e4, e5, e6, e7, e8]
      exact (Cert.FfnBody.allDM h3 h5 h6 h8).symm
    · refine (Cert.FfnRefIdeal.Read.val_main_v91_eq (StableHlo.launchContents m' c)).trans ?_
      rw [Cert.FfnBody.arrs_eq, e0, e1, e2, e3, e4, e5, e6, e8]
      exact (Cert.FfnBody.allG3 h3 h5 h6 h8).symm
    · refine (Cert.FfnRefIdeal.Read.val_main_v92_eq (StableHlo.launchContents m' c)).trans ?_
      rw [Cert.FfnBody.arrs_eq, e0, e1, e2, e3, e4, e5, e6, e7, e8]
      exact (Cert.FfnBody.allG2 h3 h5 h6 h8).symm

/-- The weights' gradients' reference runs to the end with its arguments unchanged. -/
theorem frame_WR : Cert.quiescent_FfnWRefIdeal := by
  intro m g _
  exact (θ_run Cert.FfnWRefIdeal.defs _ _).mono
    (fun r h => ⟨fun c => (h c).2.2.2.2.2.2, sem_eq_zero_of_no_sems (by decide) r.2⟩) (Cert.FfnWRefIdeal.Value.run m g)

set_option maxHeartbeats 20000000 in
/-- The feed-forward weights' gradients are the reference's. -/
theorem algebraic_W : Cert.algebraic_FfnWIdeal_FfnWRefIdeal := by
  pair_intro
  · run_from Cert.FfnWIdeal.Value.run_blocks m g (Cert.FfnWBody.hyps m)
  · run_from Cert.FfnWRefIdeal.Value.run m' g'
    · refine (Cert.FfnWRefIdeal.Read.val_main_v33_eq m' c).trans ?_
      rw [(hagree c).1, (hagree c).2.1, (hagree c).2.2.1, (hagree c).2.2.2.1, (hagree c).2.2.2.2.1, (hagree c).2.2.2.2.2, Cert.FfnWBody.final6, Cert.FfnWBody.sG_eq, Cert.FfnWBody.rH_eq]
      exact (Cert.FfnWBody.all33 ..).symm
    · refine (Cert.FfnWRefIdeal.Read.val_main_v37_eq m' c).trans ?_
      rw [(hagree c).1, (hagree c).2.1, (hagree c).2.2.1, (hagree c).2.2.2.1, (hagree c).2.2.2.2.1, (hagree c).2.2.2.2.2, Cert.FfnWBody.final7, Cert.FfnWBody.sG_eq, Cert.FfnWBody.rH_eq]
      exact (Cert.FfnWBody.all37 ..).symm
    · refine (Cert.FfnWRefIdeal.Read.val_main_v40_eq _ _ _ _ _).trans ?_
      rw [Cert.FfnWBody.final8, Cert.FfnWBody.sU_eq, Cert.FfnWBody.rH_eq]
      exact (Cert.FfnWBody.all40 ..).symm
    · refine (Cert.FfnWRefIdeal.Read.val_main_v44_eq _ _ _ _ _).trans ?_
      rw [Cert.FfnWBody.final9, Cert.FfnWBody.sU_eq, Cert.FfnWBody.rH_eq]
      exact (Cert.FfnWBody.all44 ..).symm
    · refine (Cert.FfnWRefIdeal.Read.val_main_v47_eq _ _ _ _ _).trans ?_
      rw [Cert.FfnWBody.final10, Cert.FfnWBody.sA_eq, Cert.FfnWBody.rD_eq]
      exact (Cert.FfnWBody.all47 ..).symm
    · refine (Cert.FfnWRefIdeal.Read.val_main_v51_eq _ _ _ _ _).trans ?_
      rw [Cert.FfnWBody.final11, Cert.FfnWBody.sA_eq, Cert.FfnWBody.rD_eq]
      exact (Cert.FfnWBody.all51 ..).symm

/-- The input projection's reference runs to the end with its arguments unchanged. -/
theorem frame_InR : Cert.quiescent_InProjRefIdeal := by
  intro m g _
  exact (θ_run Cert.InProjRefIdeal.defs _ _).mono
    (fun r h => ⟨fun c => (h c).2.2.2.2, sem_eq_zero_of_no_sems (by decide) r.2⟩) (Cert.InProjRefIdeal.Value.run m g)

set_option maxHeartbeats 20000000 in
/-- The input projection's results are the reference's. -/
theorem algebraic_In : Cert.algebraic_InProjIdeal_InProjRefIdeal := by
  pair_intro
  · run_from Cert.InProjIdeal.Value.run_blocks m g
  · run_from Cert.InProjRefIdeal.Value.run m' g'
    · refine (Cert.InProjRefIdeal.Read.val_main_v19_eq _ _ _).trans ?_
      rw [Cert.InBody.final2, Cert.InBody.rH_eq, Cert.InBody.rW_eq]
      exact (Cert.InBody.all19 ..).symm
    · refine (Cert.InProjRefIdeal.Read.val_main_v21_eq _ _ _).trans ?_
      rw [Cert.InBody.final3, Cert.InBody.rH_eq, Cert.InBody.rW_eq]
      exact (Cert.InBody.all21 ..).symm
    · refine (Cert.InProjRefIdeal.Read.val_main_v23_eq _ _ _).trans ?_
      rw [Cert.InBody.final4, Cert.InBody.rH_eq, Cert.InBody.rW_eq]
      exact (Cert.InBody.all23 ..).symm
    · refine (Cert.InProjRefIdeal.Read.val_main_v25_eq _ _ _).trans ?_
      rw [Cert.InBody.final5, Cert.InBody.rH_eq, Cert.InBody.rW_eq]
      exact (Cert.InBody.all25 ..).symm

/-- The output projection's reference runs to the end with its arguments unchanged. -/
theorem frame_OutR : Cert.quiescent_OutProjRefIdeal := by
  intro m g _
  exact (θ_run Cert.OutProjRefIdeal.defs _ _).mono
    (fun r h => ⟨fun c => (h c).2.2.2, sem_eq_zero_of_no_sems (by decide) r.2⟩) (Cert.OutProjRefIdeal.Value.run m g)

set_option maxHeartbeats 20000000 in
/-- The output projection's results are the reference's. -/
theorem algebraic_Out : Cert.algebraic_OutProjIdeal_OutProjRefIdeal := by
  pair_intro
  · run_from Cert.OutProjIdeal.Value.run_blocks m g
  · run_from Cert.OutProjRefIdeal.Value.run m' g'
    · refine (Cert.OutProjRefIdeal.Read.val_main_v31_eq _ _ _).trans ?_
      rw [Cert.OutBody.final6, Cert.OutBody.oM_eq]
      exact (Cert.OutBody.all31 ..).symm
    · refine (Cert.OutProjRefIdeal.Read.val_main_v32_eq _ _ _ _ _).trans ?_
      rw [Cert.OutBody.final7, Cert.OutBody.oX_eq]
      exact (Cert.OutBody.all32 ..).symm
    · refine (Cert.OutProjRefIdeal.Read.val_main_v34_eq m' c).trans ?_
      rw [(hagree c).1, (hagree c).2.1, (hagree c).2.2.1, (hagree c).2.2.2.1, (hagree c).2.2.2.2.1, (hagree c).2.2.2.2.2, Cert.OutBody.final8, Cert.OutBody.oH_eq]
      exact (Cert.OutBody.all34 ..).symm

/-- The output projection's backward reference runs to the end with its arguments unchanged. -/
theorem frame_ObR : Cert.quiescent_OutProjBRefIdeal := by
  intro m g _
  exact (θ_run Cert.OutProjBRefIdeal.defs _ _).mono
    (fun r h => ⟨fun c => (h c).2.2.2.2, sem_eq_zero_of_no_sems (by decide) r.2⟩) (Cert.OutProjBRefIdeal.Value.run m g)

set_option maxHeartbeats 20000000 in
/-- The output projection's gradients are the reference's. -/
theorem algebraic_Ob : Cert.algebraic_OutProjBIdeal_OutProjBRefIdeal := by
  pair_intro
  · run_from Cert.OutProjBIdeal.Value.run_blocks m g (Cert.ObBody.hyps m)
  · run_from Cert.OutProjBRefIdeal.Value.run m' g'
    · refine (Cert.OutProjBRefIdeal.Read.val_main_v8_eq _ _).trans ?_
      rw [Cert.ObBody.final5, Cert.ObBody.oP_eq]
      exact (Cert.ObBody.all8 ..).symm
    · refine (Cert.OutProjBRefIdeal.Read.val_main_v10_eq _ _).trans ?_
      rw [Cert.ObBody.final6, Cert.ObBody.oA_eq]
      exact (Cert.ObBody.all10 ..).symm
    · refine (Cert.OutProjBRefIdeal.Read.val_main_v12_eq _ _ _).trans ?_
      rw [Cert.ObBody.final7, Cert.ObBody.oL_eq]
      exact (Cert.ObBody.all12 ..).symm
    · refine (Cert.OutProjBRefIdeal.Read.val_main_v15_eq _ _ _).trans ?_
      rw [Cert.ObBody.final8, Cert.ObBody.oU_eq]
      exact (Cert.ObBody.all15 ..).symm

/-- The first norm's reference runs to the end with its arguments unchanged. -/
theorem frame_NormR : Cert.quiescent_PrenormRefIdeal := by
  intro m g _
  exact (θ_run Cert.PrenormRefIdeal.defs _ _).mono
    (fun r h => ⟨fun c => (h c).2, sem_eq_zero_of_no_sems (by decide) r.2⟩) (Cert.PrenormRefIdeal.Value.run m g)

set_option maxHeartbeats 20000000 in
/-- The first norm's result is the reference's. -/
theorem algebraic_Norm : Cert.algebraic_PrenormIdeal_PrenormRefIdeal := by
  pair_intro
  · run_from Cert.PrenormIdeal.Value.run_blocks m g
  · run_from Cert.PrenormRefIdeal.Value.run m' g'
    · refine (Cert.PrenormRefIdeal.Read.val_main_v15_eq _ _).trans ?_
      rw [Cert.NormBody.final2, Cert.NormBody.rX_eq, Cert.NormBody.rG_eq]
      exact (Cert.NormBody.all15 ..).symm

theorem claim : Cert.Claim := ⟨Cert.PoolBwd.Gen.facts, Cert.PoolBwdIdeal.Gen.facts, Cert.PoolRefIdeal.Gen.facts,
  Cert.FfnBwd.Gen.facts, Cert.FfnBwdIdeal.Gen.facts, Cert.FfnRefIdeal.Gen.facts,
  Cert.FfnW.Gen.facts, Cert.FfnWIdeal.Gen.facts, Cert.FfnWRefIdeal.Gen.facts,
  Cert.InProj.Gen.facts, Cert.InProjIdeal.Gen.facts, Cert.InProjRefIdeal.Gen.facts,
  Cert.OutProj.Gen.facts, Cert.OutProjIdeal.Gen.facts, Cert.OutProjRefIdeal.Gen.facts,
  Cert.OutProjB.Gen.facts, Cert.OutProjBIdeal.Gen.facts, Cert.OutProjBRefIdeal.Gen.facts,
  Cert.Prenorm.Gen.facts, Cert.PrenormIdeal.Gen.facts, Cert.PrenormRefIdeal.Gen.facts, Cert.PoolBody.preFacts, Cert.FfnBody.preFacts,
  fun m g _ => Cert.PoolBwd.Gen.frame m g, fun m g _ => Cert.PoolBwdIdeal.Gen.frame m g, fun m g _ => Cert.PoolBwdIdeal.Gen.frame m g,
  frame_R, fun m g _ => frame_R m g trivial,
  frame_FP, fun m g _ => Cert.FfnBody.frame m g, fun m g _ => Cert.FfnBody.frame m g,
  frame_FR, fun m g _ => frame_FR m g trivial,
  fun m g _ => Cert.FfnW.Gen.frame m g (Cert.FfnWBits.hyps m), fun m g _ => Cert.FfnWIdeal.Gen.frame m g (Cert.FfnWBody.hyps m), frame_WR,
  fun m g _ => Cert.InProj.Gen.frame m g, fun m g _ => Cert.InProjIdeal.Gen.frame m g, frame_InR,
  fun m g _ => Cert.OutProj.Gen.frame m g, fun m g _ => Cert.OutProjIdeal.Gen.frame m g, frame_OutR,
  fun m g _ => Cert.OutProjB.Gen.frame m g (Cert.ObBits.hyps m), fun m g _ => Cert.OutProjBIdeal.Gen.frame m g (Cert.ObBody.hyps m), frame_ObR,
  fun m g _ => Cert.Prenorm.Gen.frame m g, fun m g _ => Cert.PrenormIdeal.Gen.frame m g, frame_NormR,
  trivial, algebraic, trivial, algebraic_F, trivial, algebraic_W, trivial, algebraic_In, trivial, algebraic_Out, trivial, algebraic_Ob, trivial, algebraic_Norm⟩

end Cert.Proof

end
